-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.BufferStatement Cert.KernelIdeal.S2x2560x2x128 Cert.KernelIdeal.S2x2560x1x128
  ∧ IdealRules.bf16_pair.Statement Cert.KernelIdeal.S2x2560x2x128 Cert.KernelIdeal.S2x2560x1x128
  ∧ IdealRules.bf16_pair.SelectZeroStatement Cert.KernelIdeal.S2x2560x128
  ∧ IdealRules.bf16_pair.PackStatement Cert.KernelIdeal.S128x128
  ∧ IdealRules.bf16_pair.Statement Cert.KernelIdeal.S1x8x2x128 Cert.KernelIdeal.S1x8x1x128
  ∧ IdealRules.bf16_pair.Statement Cert.KernelIdeal.S1x16x2x128 Cert.KernelIdeal.S1x16x1x128
  ∧ IdealRules.bf16_pair.Statement Cert.KernelIdeal.S128x128 Cert.KernelIdeal.S64x128
  ∧ IdealRules.bf16_pair.PackStatement Cert.KernelIdeal.S8x128
  ∧ IdealRules.bf16_pair.Statement Cert.KernelIdeal.S1x1x8x1x2x128 Cert.KernelIdeal.S1x1x8x1x1x128
  ∧ IdealRules.bf16_pair.Statement Cert.KernelIdeal.S1x1x3x1x2x128 Cert.KernelIdeal.S1x1x3x1x1x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x16384x351 : Shape := ⟨3, ![2, 16384, 351]⟩
abbrev S2x16384x26 : Shape := ⟨3, ![2, 16384, 26]⟩
abbrev S2x16384x27x128 : Shape := ⟨4, ![2, 16384, 27, 128]⟩
abbrev S2x16384x27 : Shape := ⟨3, ![2, 16384, 27]⟩
abbrev S2x16384x128 : Shape := ⟨3, ![2, 16384, 128]⟩
abbrev S2x351x16384 : Shape := ⟨3, ![2, 351, 16384]⟩
abbrev S26x2x16384 : Shape := ⟨3, ![26, 2, 16384]⟩
abbrev S27x2x16384 : Shape := ⟨3, ![27, 2, 16384]⟩
abbrev S2x27x16384x128 : Shape := ⟨4, ![2, 27, 16384, 128]⟩
abbrev S2x27x2048x8x128 : Shape := ⟨5, ![2, 27, 2048, 8, 128]⟩
abbrev S2x351x256 : Shape := ⟨3, ![2, 351, 256]⟩
abbrev S26x2x256 : Shape := ⟨3, ![26, 2, 256]⟩
abbrev S27x2x256 : Shape := ⟨3, ![27, 2, 256]⟩
abbrev S2x256x128 : Shape := ⟨3, ![2, 256, 128]⟩
abbrev S3x2x32x288x128 : Shape := ⟨5, ![3, 2, 32, 288, 128]⟩
abbrev S3x2x27x33x8x128 : Shape := ⟨6, ![3, 2, 27, 33, 8, 128]⟩
abbrev S2x352x128 : Shape := ⟨3, ![2, 352, 128]⟩
abbrev S2x2x32x128 : Shape := ⟨4, ![2, 2, 32, 128]⟩
abbrev S2x1008x128 : Shape := ⟨3, ![2, 1008, 128]⟩
abbrev S2x2560x128 : Shape := ⟨3, ![2, 2560, 128]⟩
abbrev S2x1152x128 : Shape := ⟨3, ![2, 1152, 128]⟩
abbrev S3 : Shape := ⟨1, ![3]⟩
abbrev S1 : Shape := ⟨1, ![1]⟩
abbrev S_ : Shape := ⟨0, ![]⟩
abbrev S1x2x27x256x128 : Shape := ⟨5, ![1, 2, 27, 256, 128]⟩
abbrev S2x27x256x128 : Shape := ⟨4, ![2, 27, 256, 128]⟩
abbrev S1x288x128 : Shape := ⟨3, ![1, 288, 128]⟩
abbrev S1x1x1x288x128 : Shape := ⟨5, ![1, 1, 1, 288, 128]⟩
abbrev S2x27x32x8x128 : Shape := ⟨5, ![2, 27, 32, 8, 128]⟩
abbrev S1x2x27x32x8x128 : Shape := ⟨6, ![1, 2, 27, 32, 8, 128]⟩
abbrev S8x128 : Shape := ⟨2, ![8, 128]⟩
abbrev S1x351x128 : Shape := ⟨3, ![1, 351, 128]⟩
abbrev S351x128 : Shape := ⟨2, ![351, 128]⟩
abbrev S26x1x128 : Shape := ⟨3, ![26, 1, 128]⟩
abbrev S26x128 : Shape := ⟨2, ![26, 128]⟩
abbrev S1x1x26x128 : Shape := ⟨4, ![1, 1, 26, 128]⟩
abbrev S27x1x128 : Shape := ⟨3, ![27, 1, 128]⟩
abbrev S27x128 : Shape := ⟨2, ![27, 128]⟩
abbrev S1x1x27x128 : Shape := ⟨4, ![1, 1, 27, 128]⟩
abbrev S1x1x1x128 : Shape := ⟨4, ![1, 1, 1, 128]⟩
abbrev S1x128 : Shape := ⟨2, ![1, 128]⟩
abbrev S1x1x128 : Shape := ⟨3, ![1, 1, 128]⟩
abbrev S1x2x128 : Shape := ⟨3, ![1, 2, 128]⟩
abbrev S2x128 : Shape := ⟨2, ![2, 128]⟩
abbrev S1x1x2x128 : Shape := ⟨4, ![1, 1, 2, 128]⟩
abbrev S1x3x128 : Shape := ⟨3, ![1, 3, 128]⟩
abbrev S3x128 : Shape := ⟨2, ![3, 128]⟩
abbrev S1x1x3x128 : Shape := ⟨4, ![1, 1, 3, 128]⟩
abbrev S1x4x128 : Shape := ⟨3, ![1, 4, 128]⟩
abbrev S4x128 : Shape := ⟨2, ![4, 128]⟩
abbrev S1x1x4x128 : Shape := ⟨4, ![1, 1, 4, 128]⟩
abbrev S1x5x128 : Shape := ⟨3, ![1, 5, 128]⟩
abbrev S5x128 : Shape := ⟨2, ![5, 128]⟩
abbrev S1x1x5x128 : Shape := ⟨4, ![1, 1, 5, 128]⟩
abbrev S1x6x128 : Shape := ⟨3, ![1, 6, 128]⟩
abbrev S6x128 : Shape := ⟨2, ![6, 128]⟩
abbrev S1x1x6x128 : Shape := ⟨4, ![1, 1, 6, 128]⟩
abbrev S1x7x128 : Shape := ⟨3, ![1, 7, 128]⟩
abbrev S7x128 : Shape := ⟨2, ![7, 128]⟩
abbrev S1x1x7x128 : Shape := ⟨4, ![1, 1, 7, 128]⟩
abbrev S1x8x128 : Shape := ⟨3, ![1, 8, 128]⟩
abbrev S1x1x8x128 : Shape := ⟨4, ![1, 1, 8, 128]⟩
abbrev S8x128x1 : Shape := ⟨3, ![8, 128, 1]⟩
abbrev S128x128 : Shape := ⟨2, ![128, 128]⟩
abbrev S1x128x128 : Shape := ⟨3, ![1, 128, 128]⟩
abbrev S1x1x32x288x128 : Shape := ⟨5, ![1, 1, 32, 288, 128]⟩
abbrev S32x288x128 : Shape := ⟨3, ![32, 288, 128]⟩
abbrev S8x4x128 : Shape := ⟨3, ![8, 4, 128]⟩
abbrev S32x128 : Shape := ⟨2, ![32, 128]⟩
abbrev S1x16x128 : Shape := ⟨3, ![1, 16, 128]⟩
abbrev S16x128 : Shape := ⟨2, ![16, 128]⟩
abbrev S64x128 : Shape := ⟨2, ![64, 128]⟩
abbrev S1x1x27x33x8x128 : Shape := ⟨6, ![1, 1, 27, 33, 8, 128]⟩
abbrev S27x33x8x128 : Shape := ⟨4, ![27, 33, 8, 128]⟩
abbrev S27x33x4x128 : Shape := ⟨4, ![27, 33, 4, 128]⟩
abbrev S8x1x1x128 : Shape := ⟨4, ![8, 1, 1, 128]⟩
abbrev S1x1x8x1x2x128 : Shape := ⟨6, ![1, 1, 8, 1, 2, 128]⟩
abbrev S1x1x8x1x1x128 : Shape := ⟨6, ![1, 1, 8, 1, 1, 128]⟩
abbrev S3x1x1x128 : Shape := ⟨4, ![3, 1, 1, 128]⟩
abbrev S1x1x3x1x2x128 : Shape := ⟨6, ![1, 1, 3, 1, 2, 128]⟩
abbrev S1x1x3x1x1x128 : Shape := ⟨6, ![1, 1, 3, 1, 1, 128]⟩

abbrev nBuf : Space → Nat
  | .hbm => 12
  | .vmem => 15
  | .smem => 0
  | _ => 0

abbrev bufTy : (tb : Table) → Fin (tcTables nBuf tb) → BufTy
  | .hbm, ⟨0, _⟩ => ⟨S2x16384x351, .fp8e5m2⟩
  | .hbm, ⟨1, _⟩ => ⟨S2x16384x26, .f32⟩
  | .hbm, ⟨2, _⟩ => ⟨S2x16384x27x128, .fp8e4m3⟩
  | .hbm, ⟨3, _⟩ => ⟨S2x16384x27, .f32⟩
  | .hbm, ⟨4, _⟩ => ⟨S2x16384x128, .bf16⟩
  | .hbm, ⟨5, _⟩ => ⟨S2x351x16384, .fp8e5m2⟩
  | .hbm, ⟨6, _⟩ => ⟨S26x2x16384, .f32⟩
  | .hbm, ⟨7, _⟩ => ⟨S27x2x16384, .f32⟩
  | .hbm, ⟨8, _⟩ => ⟨S2x27x16384x128, .fp8e4m3⟩
  | .hbm, ⟨9, _⟩ => ⟨S2x27x2048x8x128, .bf16⟩
  | .hbm, ⟨10, _⟩ => ⟨S2x27x16384x128, .bf16⟩
  | .hbm, ⟨11, _⟩ => ⟨S2x16384x27x128, .bf16⟩
  | .local _ .vmem, ⟨0, _⟩ => ⟨S2x351x256, .fp8e5m2⟩
  | .local _ .vmem, ⟨1, _⟩ => ⟨S2x351x256, .fp8e5m2⟩
  | .local _ .vmem, ⟨2, _⟩ => ⟨S26x2x256, .f32⟩
  | .local _ .vmem, ⟨3, _⟩ => ⟨S26x2x256, .f32⟩
  | .local _ .vmem, ⟨4, _⟩ => ⟨S27x2x256, .f32⟩
  | .local _ .vmem, ⟨5, _⟩ => ⟨S27x2x256, .f32⟩
  | .local _ .vmem, ⟨6, _⟩ => ⟨S2x256x128, .bf16⟩
  | .local _ .vmem, ⟨7, _⟩ => ⟨S2x256x128, .bf16⟩
  | .local _ .vmem, ⟨8, _⟩ => ⟨S3x2x32x288x128, .fp8e4m3⟩
  | .local _ .vmem, ⟨9, _⟩ => ⟨S3x2x27x33x8x128, .bf16⟩
  | .local _ .vmem, ⟨10, _⟩ => ⟨S2x352x128, .f32⟩
  | .local _ .vmem, ⟨11, _⟩ => ⟨S2x2x32x128, .f32⟩
  | .local _ .vmem, ⟨12, _⟩ => ⟨S2x1008x128, .f32⟩
  | .local _ .vmem, ⟨13, _⟩ => ⟨S2x2560x128, .i32⟩
  | .local _ .vmem, ⟨14, _⟩ => ⟨S2x1152x128, .f32⟩
  | _, _ => ⟨S2x16384x351, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [BitOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (c0_i32_24 : BitVec 32) : Fin 1 → Nat :=
  let c3_i32_25 : BitVec 32 := 3#32
  let v55 : BitVec 32 := Scalar.remsi c0_i32_24 c3_i32_25
  ![v55.toNat]
def k0_off2 (c0_i32_24 : BitVec 32) : Fin 5 → Nat :=
  let c3_i32_25 : BitVec 32 := 3#32
  let v55 : BitVec 32 := Scalar.remsi c0_i32_24 c3_i32_25
  let c0_i32_26 : BitVec 32 := 0#32
  let c0_i32_27 : BitVec 32 := 0#32
  let c0_i32_28 : BitVec 32 := 0#32
  let c0_i32_29 : BitVec 32 := 0#32
  ![v55.toNat, 0, 0, 0, 0]
def k0_cond2 (i : grid0.Coords) : BitVec 1 :=
  let arg0 : BitVec 32 := BitVec.ofNat 32 (i 0).val
  let c1_i32 : BitVec 32 := 1#32
  let v3 : BitVec 1 := Scalar.cmpi .sge arg0 c1_i32
  let v4 : BitVec 32 := Scalar.extui v3
  let c0_i32_1 : BitVec 32 := 0#32
  let v5 : BitVec 1 := Scalar.cmpi .ne v4 c0_i32_1
  v5

def k0_off3 (i : grid0.Coords) : Fin 1 → Nat :=
  let arg0 : BitVec 32 := BitVec.ofNat 32 (i 0).val
  let c1_i32_24 : BitVec 32 := 1#32
  let v55 : BitVec 32 := Scalar.subi arg0 c1_i32_24
  let c3_i32_25 : BitVec 32 := 3#32
  let v56 : BitVec 32 := Scalar.remsi v55 c3_i32_25
  ![v56.toNat]
def k0_off4 (i : grid0.Coords) : Fin 5 → Nat :=
  let c0_i32_26 : BitVec 32 := 0#32
  let c0_i32_27 : BitVec 32 := 0#32
  let arg0 : BitVec 32 := BitVec.ofNat 32 (i 0).val
  let c1_i32_24 : BitVec 32 := 1#32
  let v55 : BitVec 32 := Scalar.subi arg0 c1_i32_24
  let c32_i32 : BitVec 32 := 32#32
  let v57 : BitVec 32 := Scalar.muli v55 c32_i32
  let c0_i32_28 : BitVec 32 := 0#32
  let c0_i32_29 : BitVec 32 := 0#32
  ![0, 0, v57.toNat, 0, 0]
def k0_off5 (i : grid0.Coords) : Fin 6 → Nat :=
  let arg0 : BitVec 32 := BitVec.ofNat 32 (i 0).val
  let c1_i32_24 : BitVec 32 := 1#32
  let v55 : BitVec 32 := Scalar.subi arg0 c1_i32_24
  let c3_i32_25 : BitVec 32 := 3#32
  let v56 : BitVec 32 := Scalar.remsi v55 c3_i32_25
  let c0_i32_30 : BitVec 32 := 0#32
  let c0_i32_31 : BitVec 32 := 0#32
  let c0_i32_32 : BitVec 32 := 0#32
  let c0_i32_33 : BitVec 32 := 0#32
  let c0_i32_34 : BitVec 32 := 0#32
  ![v56.toNat, 0, 0, 0, 0, 0]
def k0_cond3 (i : grid0.Coords) : BitVec 1 :=
  let arg0 : BitVec 32 := BitVec.ofNat 32 (i 0).val
  let c2_i32 : BitVec 32 := 2#32
  let v6 : BitVec 32 := Scalar.addi arg0 c2_i32
  let c64_i32 : BitVec 32 := 64#32
  let v7 : BitVec 1 := Scalar.cmpi .slt v6 c64_i32
  let v8 : BitVec 32 := Scalar.extui v7
  let c0_i32_2 : BitVec 32 := 0#32
  let v9 : BitVec 1 := Scalar.cmpi .ne v8 c0_i32_2
  v9

def k0_off6 (i : grid0.Coords) : Fin 1 → Nat :=
  let arg0 : BitVec 32 := BitVec.ofNat 32 (i 0).val
  let c2_i32_24 : BitVec 32 := 2#32
  let v55 : BitVec 32 := Scalar.addi arg0 c2_i32_24
  let c3_i32_25 : BitVec 32 := 3#32
  let v56 : BitVec 32 := Scalar.remsi v55 c3_i32_25
  ![v56.toNat]
def k0_off7 (i : grid0.Coords) : Fin 5 → Nat :=
  let arg0 : BitVec 32 := BitVec.ofNat 32 (i 0).val
  let c2_i32_24 : BitVec 32 := 2#32
  let v55 : BitVec 32 := Scalar.addi arg0 c2_i32_24
  let c3_i32_25 : BitVec 32 := 3#32
  let v56 : BitVec 32 := Scalar.remsi v55 c3_i32_25
  let c0_i32_27 : BitVec 32 := 0#32
  let c0_i32_28 : BitVec 32 := 0#32
  let c0_i32_29 : BitVec 32 := 0#32
  let c0_i32_30 : BitVec 32 := 0#32
  ![v56.toNat, 0, 0, 0, 0]
def k0_off8 (i : grid0.Coords) : Fin 4 → Nat :=
  let c0_i32_31 : BitVec 32 := 0#32
  let c0_i32_32 : BitVec 32 := 0#32
  let arg0 : BitVec 32 := BitVec.ofNat 32 (i 0).val
  let c2_i32_24 : BitVec 32 := 2#32
  let v55 : BitVec 32 := Scalar.addi arg0 c2_i32_24
  let c256_i32_26 : BitVec 32 := 256#32
  let v57 : BitVec 32 := Scalar.muli v55 c256_i32_26
  let c0_i32_33 : BitVec 32 := 0#32
  ![0, 0, v57.toNat, 0]
def k0_off9 (i : grid0.Coords) : Fin 1 → Nat :=
  let arg0 : BitVec 32 := BitVec.ofNat 32 (i 0).val
  let c3_i32_10 : BitVec 32 := 3#32
  let v41 : BitVec 32 := Scalar.remsi arg0 c3_i32_10
  ![v41.toNat]
def k0_off10 (i : grid0.Coords) : Fin 5 → Nat :=
  let arg0 : BitVec 32 := BitVec.ofNat 32 (i 0).val
  let c3_i32_10 : BitVec 32 := 3#32
  let v41 : BitVec 32 := Scalar.remsi arg0 c3_i32_10
  let c0_i32_11 : BitVec 32 := 0#32
  let c0_i32_12 : BitVec 32 := 0#32
  let c0_i32_13 : BitVec 32 := 0#32
  let c0_i32_14 : BitVec 32 := 0#32
  ![v41.toNat, 0, 0, 0, 0]
def k0_off11 (i : grid0.Coords) : Fin 4 → Nat :=
  let c0_i32_15 : BitVec 32 := 0#32
  let c0_i32_16 : BitVec 32 := 0#32
  let arg0 : BitVec 32 := BitVec.ofNat 32 (i 0).val
  let c256_i32 : BitVec 32 := 256#32
  let v42 : BitVec 32 := Scalar.muli arg0 c256_i32
  let c0_i32_17 : BitVec 32 := 0#32
  ![0, 0, v42.toNat, 0]
def k0_cond4 (i : grid0.Coords) : BitVec 1 :=
  let arg0 : BitVec 32 := BitVec.ofNat 32 (i 0).val
  let c3_i32_18 : BitVec 32 := 3#32
  let v48 : BitVec 1 := Scalar.cmpi .sge arg0 c3_i32_18
  let v49 : BitVec 32 := Scalar.extui v48
  let c0_i32_19 : BitVec 32 := 0#32
  let v50 : BitVec 1 := Scalar.cmpi .ne v49 c0_i32_19
  v50

def k0_off12 (i : grid0.Coords) : Fin 1 → Nat :=
  let arg0 : BitVec 32 := BitVec.ofNat 32 (i 0).val
  let c3_i32_24 : BitVec 32 := 3#32
  let v55 : BitVec 32 := Scalar.subi arg0 c3_i32_24
  let c3_i32_25 : BitVec 32 := 3#32
  let v56 : BitVec 32 := Scalar.remsi v55 c3_i32_25
  ![v56.toNat]
def k0_off13 (i : grid0.Coords) : Fin 5 → Nat :=
  let c0_i32_26 : BitVec 32 := 0#32
  let c0_i32_27 : BitVec 32 := 0#32
  let arg0 : BitVec 32 := BitVec.ofNat 32 (i 0).val
  let c3_i32_24 : BitVec 32 := 3#32
  let v55 : BitVec 32 := Scalar.subi arg0 c3_i32_24
  let c32_i32 : BitVec 32 := 32#32
  let v57 : BitVec 32 := Scalar.muli v55 c32_i32
  let c0_i32_28 : BitVec 32 := 0#32
  let c0_i32_29 : BitVec 32 := 0#32
  ![0, 0, v57.toNat, 0, 0]
def k0_off14 (i : grid0.Coords) : Fin 6 → Nat :=
  let arg0 : BitVec 32 := BitVec.ofNat 32 (i 0).val
  let c3_i32_24 : BitVec 32 := 3#32
  let v55 : BitVec 32 := Scalar.subi arg0 c3_i32_24
  let c3_i32_25 : BitVec 32 := 3#32
  let v56 : BitVec 32 := Scalar.remsi v55 c3_i32_25
  let c0_i32_30 : BitVec 32 := 0#32
  let c0_i32_31 : BitVec 32 := 0#32
  let c0_i32_32 : BitVec 32 := 0#32
  let c0_i32_33 : BitVec 32 := 0#32
  let c0_i32_34 : BitVec 32 := 0#32
  ![v56.toNat, 0, 0, 0, 0, 0]
@[reducible] def k0_t1_loop : Scf.Loop 32 :=
  let c0_i32_20 : BitVec 32 := 0#32
  let c5_i32 : BitVec 32 := 5#32
  let v51 : BitVec 32 := Scalar.addi c0_i32_20 c5_i32
  let c1_i32_21 : BitVec 32 := 1#32
  ⟨c0_i32_20, v51, c1_i32_21⟩
def k0_cond5 (k0_t1 : Fin k0_t1_loop.trips) : BitVec 1 :=
  let c0_i32_20 : BitVec 32 := 0#32
  let c1_i32_21 : BitVec 32 := 1#32
  let arg16 : BitVec 32 := Scf.iv c0_i32_20 c1_i32_21 k0_t1
  let c4_i32_24 : BitVec 32 := 4#32
  let v55 : BitVec 1 := Scalar.cmpi .slt arg16 c4_i32_24
  let v56 : BitVec 32 := Scalar.extui v55
  let c0_i32_25 : BitVec 32 := 0#32
  let v57 : BitVec 1 := Scalar.cmpi .ne v56 c0_i32_25
  v57

def k0_mult1 (k0_t1 : Fin k0_t1_loop.trips) : BitVec 32 :=
  let c0_i32_20 : BitVec 32 := 0#32
  let c1_i32_21 : BitVec 32 := 1#32
  let arg16 : BitVec 32 := Scf.iv c0_i32_20 c1_i32_21 k0_t1
  let c2_i32_29 : BitVec 32 := 2#32
  let v62 : BitVec 32 := Scalar.remsi arg16 c2_i32_29
  let c128_i32 : BitVec 32 := 128#32
  let v64 : BitVec 32 := Scalar.muli v62 c128_i32
  v64
def k0_off15 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_28 : BitVec 32 := 2#32
  let v61 : BitVec 32 := Scalar.divsi arg16 c2_i32_28
  let v66 : Index := Scalar.indexCast v61
  let c0 : Index := 0#32
  let c2_i32_29 : BitVec 32 := 2#32
  let v62 : BitVec 32 := Scalar.remsi arg16 c2_i32_29
  let c128_i32 : BitVec 32 := 128#32
  let v64 : BitVec 32 := Scalar.muli v62 c128_i32
  let v65 : BitVec 32 := v64
  let v67 : Index := Scalar.indexCast v65
  ![v66.toNat, 0, v67.toNat]
def k0_off16 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v71 : Index := Scalar.indexCast v63
  let c0_31 : Index := 0#32
  let c0_32 : Index := 0#32
  ![v71.toNat, 0, 0]
def k0_off17 (k0_t1 : Fin k0_t1_loop.trips) : Fin 3 → Nat :=
  let c0_33 : Index := 0#32
  let c0_i32_20 : BitVec 32 := 0#32
  let c1_i32_21 : BitVec 32 := 1#32
  let arg16 : BitVec 32 := Scf.iv c0_i32_20 c1_i32_21 k0_t1
  let c2_i32_28 : BitVec 32 := 2#32
  let v61 : BitVec 32 := Scalar.divsi arg16 c2_i32_28
  let v75 : Index := Scalar.indexCast v61
  let c2_i32_29 : BitVec 32 := 2#32
  let v62 : BitVec 32 := Scalar.remsi arg16 c2_i32_29
  let c128_i32 : BitVec 32 := 128#32
  let v64 : BitVec 32 := Scalar.muli v62 c128_i32
  let v65 : BitVec 32 := v64
  let v76 : Index := Scalar.indexCast v65
  ![0, v75.toNat, v76.toNat]
def k0_off18 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v81 : Index := Scalar.indexCast v63
  let c0_34 : Index := 0#32
  let c0_35 : Index := 0#32
  let c0_36 : Index := 0#32
  ![v81.toNat, 0, 0, 0]
def k0_off19 (k0_t1 : Fin k0_t1_loop.trips) : Fin 3 → Nat :=
  let c0_37 : Index := 0#32
  let c0_i32_20 : BitVec 32 := 0#32
  let c1_i32_21 : BitVec 32 := 1#32
  let arg16 : BitVec 32 := Scf.iv c0_i32_20 c1_i32_21 k0_t1
  let c2_i32_28 : BitVec 32 := 2#32
  let v61 : BitVec 32 := Scalar.divsi arg16 c2_i32_28
  let v85 : Index := Scalar.indexCast v61
  let c2_i32_29 : BitVec 32 := 2#32
  let v62 : BitVec 32 := Scalar.remsi arg16 c2_i32_29
  let c128_i32 : BitVec 32 := 128#32
  let v64 : BitVec 32 := Scalar.muli v62 c128_i32
  let v65 : BitVec 32 := v64
  let v86 : Index := Scalar.indexCast v65
  ![0, v85.toNat, v86.toNat]
def k0_off20 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v91 : Index := Scalar.indexCast v63
  let c1 : Index := 1#32
  let c0_38 : Index := 0#32
  let c0_39 : Index := 0#32
  ![v91.toNat, 1, 0, 0]
def k0_off21 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v95 : Index := Scalar.indexCast v63
  let c0_40 : Index := 0#32
  let c0_41 : Index := 0#32
  let c0_42 : Index := 0#32
  ![v95.toNat, 0, 0, 0]
def k0_off22 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v100 : Index := Scalar.indexCast v63
  let c1_43 : Index := 1#32
  let c1_44 : Index := 1#32
  let c0_45 : Index := 0#32
  ![v100.toNat, 1, 1, 0]
def k0_off23 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v105 : Index := Scalar.indexCast v63
  let c0_46 : Index := 0#32
  let c0_47 : Index := 0#32
  ![v105.toNat, 0, 0]
def k0_off24 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v112 : Index := Scalar.indexCast v63
  let c1_48 : Index := 1#32
  let c0_49 : Index := 0#32
  let c0_50 : Index := 0#32
  ![v112.toNat, 1, 0, 0]
def k0_off25 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v116 : Index := Scalar.indexCast v63
  let c36 : Index := 36#32
  let c0_51 : Index := 0#32
  ![v116.toNat, 36, 0]
def k0_off26 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v122 : Index := Scalar.indexCast v63
  let c1_52 : Index := 1#32
  let c0_53 : Index := 0#32
  ![v122.toNat, 1, 0]
def k0_off27 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v126 : Index := Scalar.indexCast v63
  let c0_54 : Index := 0#32
  let c1_55 : Index := 1#32
  let c0_56 : Index := 0#32
  ![v126.toNat, 0, 1, 0]
def k0_off28 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v131 : Index := Scalar.indexCast v63
  let c1_57 : Index := 1#32
  let c2 : Index := 2#32
  let c0_58 : Index := 0#32
  ![v131.toNat, 1, 2, 0]
def k0_off29 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v136 : Index := Scalar.indexCast v63
  let c1_59 : Index := 1#32
  let c0_60 : Index := 0#32
  ![v136.toNat, 1, 0]
def k0_off30 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v143 : Index := Scalar.indexCast v63
  let c1_61 : Index := 1#32
  let c0_62 : Index := 0#32
  let c0_63 : Index := 0#32
  ![v143.toNat, 1, 0, 0]
def k0_off31 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v147 : Index := Scalar.indexCast v63
  let c72 : Index := 72#32
  let c0_64 : Index := 0#32
  ![v147.toNat, 72, 0]
def k0_off32 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v153 : Index := Scalar.indexCast v63
  let c2_65 : Index := 2#32
  let c0_66 : Index := 0#32
  ![v153.toNat, 2, 0]
def k0_off33 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v157 : Index := Scalar.indexCast v63
  let c0_67 : Index := 0#32
  let c2_68 : Index := 2#32
  let c0_69 : Index := 0#32
  ![v157.toNat, 0, 2, 0]
def k0_off34 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v162 : Index := Scalar.indexCast v63
  let c1_70 : Index := 1#32
  let c3 : Index := 3#32
  let c0_71 : Index := 0#32
  ![v162.toNat, 1, 3, 0]
def k0_off35 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v167 : Index := Scalar.indexCast v63
  let c3_72 : Index := 3#32
  let c0_73 : Index := 0#32
  ![v167.toNat, 3, 0]
def k0_off36 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v174 : Index := Scalar.indexCast v63
  let c1_74 : Index := 1#32
  let c0_75 : Index := 0#32
  let c0_76 : Index := 0#32
  ![v174.toNat, 1, 0, 0]
def k0_off37 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v178 : Index := Scalar.indexCast v63
  let c108 : Index := 108#32
  let c0_77 : Index := 0#32
  ![v178.toNat, 108, 0]
def k0_off38 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v184 : Index := Scalar.indexCast v63
  let c3_78 : Index := 3#32
  let c0_79 : Index := 0#32
  ![v184.toNat, 3, 0]
def k0_off39 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v188 : Index := Scalar.indexCast v63
  let c0_80 : Index := 0#32
  let c3_81 : Index := 3#32
  let c0_82 : Index := 0#32
  ![v188.toNat, 0, 3, 0]
def k0_off40 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v193 : Index := Scalar.indexCast v63
  let c1_83 : Index := 1#32
  let c4 : Index := 4#32
  let c0_84 : Index := 0#32
  ![v193.toNat, 1, 4, 0]
def k0_off41 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v198 : Index := Scalar.indexCast v63
  let c6 : Index := 6#32
  let c0_85 : Index := 0#32
  ![v198.toNat, 6, 0]
def k0_off42 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v205 : Index := Scalar.indexCast v63
  let c1_86 : Index := 1#32
  let c0_87 : Index := 0#32
  let c0_88 : Index := 0#32
  ![v205.toNat, 1, 0, 0]
def k0_off43 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v209 : Index := Scalar.indexCast v63
  let c144 : Index := 144#32
  let c0_89 : Index := 0#32
  ![v209.toNat, 144, 0]
def k0_off44 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v215 : Index := Scalar.indexCast v63
  let c4_90 : Index := 4#32
  let c0_91 : Index := 0#32
  ![v215.toNat, 4, 0]
def k0_off45 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v219 : Index := Scalar.indexCast v63
  let c0_92 : Index := 0#32
  let c4_93 : Index := 4#32
  let c0_94 : Index := 0#32
  ![v219.toNat, 0, 4, 0]
def k0_off46 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v224 : Index := Scalar.indexCast v63
  let c1_95 : Index := 1#32
  let c5 : Index := 5#32
  let c0_96 : Index := 0#32
  ![v224.toNat, 1, 5, 0]
def k0_off47 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v229 : Index := Scalar.indexCast v63
  let c10 : Index := 10#32
  let c0_97 : Index := 0#32
  ![v229.toNat, 10, 0]
def k0_off48 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v236 : Index := Scalar.indexCast v63
  let c1_98 : Index := 1#32
  let c0_99 : Index := 0#32
  let c0_100 : Index := 0#32
  ![v236.toNat, 1, 0, 0]
def k0_off49 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v240 : Index := Scalar.indexCast v63
  let c180 : Index := 180#32
  let c0_101 : Index := 0#32
  ![v240.toNat, 180, 0]
def k0_off50 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v246 : Index := Scalar.indexCast v63
  let c5_102 : Index := 5#32
  let c0_103 : Index := 0#32
  ![v246.toNat, 5, 0]
def k0_off51 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v250 : Index := Scalar.indexCast v63
  let c0_104 : Index := 0#32
  let c5_105 : Index := 5#32
  let c0_106 : Index := 0#32
  ![v250.toNat, 0, 5, 0]
def k0_off52 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v255 : Index := Scalar.indexCast v63
  let c1_107 : Index := 1#32
  let c6_108 : Index := 6#32
  let c0_109 : Index := 0#32
  ![v255.toNat, 1, 6, 0]
def k0_off53 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v260 : Index := Scalar.indexCast v63
  let c15 : Index := 15#32
  let c0_110 : Index := 0#32
  ![v260.toNat, 15, 0]
def k0_off54 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v267 : Index := Scalar.indexCast v63
  let c1_111 : Index := 1#32
  let c0_112 : Index := 0#32
  let c0_113 : Index := 0#32
  ![v267.toNat, 1, 0, 0]
def k0_off55 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v271 : Index := Scalar.indexCast v63
  let c216 : Index := 216#32
  let c0_114 : Index := 0#32
  ![v271.toNat, 216, 0]
def k0_off56 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v277 : Index := Scalar.indexCast v63
  let c6_115 : Index := 6#32
  let c0_116 : Index := 0#32
  ![v277.toNat, 6, 0]
def k0_off57 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v281 : Index := Scalar.indexCast v63
  let c0_117 : Index := 0#32
  let c6_118 : Index := 6#32
  let c0_119 : Index := 0#32
  ![v281.toNat, 0, 6, 0]
def k0_off58 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v286 : Index := Scalar.indexCast v63
  let c1_120 : Index := 1#32
  let c7 : Index := 7#32
  let c0_121 : Index := 0#32
  ![v286.toNat, 1, 7, 0]
def k0_off59 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v291 : Index := Scalar.indexCast v63
  let c21 : Index := 21#32
  let c0_122 : Index := 0#32
  ![v291.toNat, 21, 0]
def k0_off60 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v298 : Index := Scalar.indexCast v63
  let c1_123 : Index := 1#32
  let c0_124 : Index := 0#32
  let c0_125 : Index := 0#32
  ![v298.toNat, 1, 0, 0]
def k0_off61 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v302 : Index := Scalar.indexCast v63
  let c252 : Index := 252#32
  let c0_126 : Index := 0#32
  ![v302.toNat, 252, 0]
def k0_off62 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v308 : Index := Scalar.indexCast v63
  let c7_127 : Index := 7#32
  let c0_128 : Index := 0#32
  ![v308.toNat, 7, 0]
def k0_off63 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v312 : Index := Scalar.indexCast v63
  let c0_129 : Index := 0#32
  let c7_130 : Index := 7#32
  let c0_131 : Index := 0#32
  ![v312.toNat, 0, 7, 0]
def k0_off64 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v317 : Index := Scalar.indexCast v63
  let c1_132 : Index := 1#32
  let c8 : Index := 8#32
  let c0_133 : Index := 0#32
  ![v317.toNat, 1, 8, 0]
def k0_off65 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v322 : Index := Scalar.indexCast v63
  let c28 : Index := 28#32
  let c0_134 : Index := 0#32
  ![v322.toNat, 28, 0]
def k0_off66 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v328 : Index := Scalar.indexCast v63
  let c1_135 : Index := 1#32
  let c0_136 : Index := 0#32
  let c0_137 : Index := 0#32
  ![v328.toNat, 1, 0, 0]
def k0_off67 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v332 : Index := Scalar.indexCast v63
  let c288 : Index := 288#32
  let c0_138 : Index := 0#32
  ![v332.toNat, 288, 0]
def k0_off68 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v337 : Index := Scalar.indexCast v63
  let c8_139 : Index := 8#32
  let c0_140 : Index := 0#32
  ![v337.toNat, 8, 0]
def k0_off69 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v341 : Index := Scalar.indexCast v63
  let c0_141 : Index := 0#32
  let c8_142 : Index := 8#32
  let c0_143 : Index := 0#32
  ![v341.toNat, 0, 8, 0]
def k0_off70 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v346 : Index := Scalar.indexCast v63
  let c1_144 : Index := 1#32
  let c9 : Index := 9#32
  let c0_145 : Index := 0#32
  ![v346.toNat, 1, 9, 0]
def k0_off71 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v351 : Index := Scalar.indexCast v63
  let c36_146 : Index := 36#32
  let c0_147 : Index := 0#32
  ![v351.toNat, 36, 0]
def k0_off72 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v361 : Index := Scalar.indexCast v63
  let c324 : Index := 324#32
  let c0_151 : Index := 0#32
  ![v361.toNat, 324, 0]
def k0_off73 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v366 : Index := Scalar.indexCast v63
  let c9_152 : Index := 9#32
  let c0_153 : Index := 0#32
  ![v366.toNat, 9, 0]
def k0_off74 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v370 : Index := Scalar.indexCast v63
  let c44 : Index := 44#32
  let c0_154 : Index := 0#32
  ![v370.toNat, 44, 0]
def k0_off75 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v381 : Index := Scalar.indexCast v63
  let c332 : Index := 332#32
  let c0_158 : Index := 0#32
  ![v381.toNat, 332, 0]
def k0_off76 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v387 : Index := Scalar.indexCast v63
  let c297 : Index := 297#32
  let c0_159 : Index := 0#32
  ![v387.toNat, 297, 0]
def k0_off77 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v391 : Index := Scalar.indexCast v63
  let c0_160 : Index := 0#32
  let c9_161 : Index := 9#32
  let c0_162 : Index := 0#32
  ![v391.toNat, 0, 9, 0]
def k0_off78 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v396 : Index := Scalar.indexCast v63
  let c1_163 : Index := 1#32
  let c10_164 : Index := 10#32
  let c0_165 : Index := 0#32
  ![v396.toNat, 1, 10, 0]
def k0_off79 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v401 : Index := Scalar.indexCast v63
  let c45 : Index := 45#32
  let c0_166 : Index := 0#32
  ![v401.toNat, 45, 0]
def k0_off80 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v411 : Index := Scalar.indexCast v63
  let c360 : Index := 360#32
  let c0_170 : Index := 0#32
  ![v411.toNat, 360, 0]
def k0_off81 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v416 : Index := Scalar.indexCast v63
  let c10_171 : Index := 10#32
  let c0_172 : Index := 0#32
  ![v416.toNat, 10, 0]
def k0_off82 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v420 : Index := Scalar.indexCast v63
  let c53 : Index := 53#32
  let c0_173 : Index := 0#32
  ![v420.toNat, 53, 0]
def k0_off83 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v427 : Index := Scalar.indexCast v63
  let c1_174 : Index := 1#32
  let c8_175 : Index := 8#32
  let c0_176 : Index := 0#32
  ![v427.toNat, 1, 8, 0]
def k0_off84 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v431 : Index := Scalar.indexCast v63
  let c368 : Index := 368#32
  let c0_177 : Index := 0#32
  ![v431.toNat, 368, 0]
def k0_off85 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v437 : Index := Scalar.indexCast v63
  let c298 : Index := 298#32
  let c0_178 : Index := 0#32
  ![v437.toNat, 298, 0]
def k0_off86 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v441 : Index := Scalar.indexCast v63
  let c0_179 : Index := 0#32
  let c10_180 : Index := 10#32
  let c0_181 : Index := 0#32
  ![v441.toNat, 0, 10, 0]
def k0_off87 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v446 : Index := Scalar.indexCast v63
  let c1_182 : Index := 1#32
  let c11 : Index := 11#32
  let c0_183 : Index := 0#32
  ![v446.toNat, 1, 11, 0]
def k0_off88 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v451 : Index := Scalar.indexCast v63
  let c55 : Index := 55#32
  let c0_184 : Index := 0#32
  ![v451.toNat, 55, 0]
def k0_off89 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v461 : Index := Scalar.indexCast v63
  let c396 : Index := 396#32
  let c0_188 : Index := 0#32
  ![v461.toNat, 396, 0]
def k0_off90 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v466 : Index := Scalar.indexCast v63
  let c11_189 : Index := 11#32
  let c0_190 : Index := 0#32
  ![v466.toNat, 11, 0]
def k0_off91 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v470 : Index := Scalar.indexCast v63
  let c63 : Index := 63#32
  let c0_191 : Index := 0#32
  ![v470.toNat, 63, 0]
def k0_off92 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v477 : Index := Scalar.indexCast v63
  let c1_192 : Index := 1#32
  let c8_193 : Index := 8#32
  let c0_194 : Index := 0#32
  ![v477.toNat, 1, 8, 0]
def k0_off93 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v481 : Index := Scalar.indexCast v63
  let c404 : Index := 404#32
  let c0_195 : Index := 0#32
  ![v481.toNat, 404, 0]
def k0_off94 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v487 : Index := Scalar.indexCast v63
  let c299 : Index := 299#32
  let c0_196 : Index := 0#32
  ![v487.toNat, 299, 0]
def k0_off95 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v491 : Index := Scalar.indexCast v63
  let c0_197 : Index := 0#32
  let c11_198 : Index := 11#32
  let c0_199 : Index := 0#32
  ![v491.toNat, 0, 11, 0]
def k0_off96 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v496 : Index := Scalar.indexCast v63
  let c1_200 : Index := 1#32
  let c12 : Index := 12#32
  let c0_201 : Index := 0#32
  ![v496.toNat, 1, 12, 0]
def k0_off97 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v501 : Index := Scalar.indexCast v63
  let c66 : Index := 66#32
  let c0_202 : Index := 0#32
  ![v501.toNat, 66, 0]
def k0_off98 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v511 : Index := Scalar.indexCast v63
  let c432 : Index := 432#32
  let c0_206 : Index := 0#32
  ![v511.toNat, 432, 0]
def k0_off99 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v516 : Index := Scalar.indexCast v63
  let c12_207 : Index := 12#32
  let c0_208 : Index := 0#32
  ![v516.toNat, 12, 0]
def k0_off100 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v520 : Index := Scalar.indexCast v63
  let c74 : Index := 74#32
  let c0_209 : Index := 0#32
  ![v520.toNat, 74, 0]
def k0_off101 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v527 : Index := Scalar.indexCast v63
  let c1_210 : Index := 1#32
  let c8_211 : Index := 8#32
  let c0_212 : Index := 0#32
  ![v527.toNat, 1, 8, 0]
def k0_off102 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v531 : Index := Scalar.indexCast v63
  let c440 : Index := 440#32
  let c0_213 : Index := 0#32
  ![v531.toNat, 440, 0]
def k0_off103 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v537 : Index := Scalar.indexCast v63
  let c300 : Index := 300#32
  let c0_214 : Index := 0#32
  ![v537.toNat, 300, 0]
def k0_off104 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v541 : Index := Scalar.indexCast v63
  let c0_215 : Index := 0#32
  let c12_216 : Index := 12#32
  let c0_217 : Index := 0#32
  ![v541.toNat, 0, 12, 0]
def k0_off105 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v546 : Index := Scalar.indexCast v63
  let c1_218 : Index := 1#32
  let c13 : Index := 13#32
  let c0_219 : Index := 0#32
  ![v546.toNat, 1, 13, 0]
def k0_off106 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v551 : Index := Scalar.indexCast v63
  let c78 : Index := 78#32
  let c0_220 : Index := 0#32
  ![v551.toNat, 78, 0]
def k0_off107 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v561 : Index := Scalar.indexCast v63
  let c468 : Index := 468#32
  let c0_224 : Index := 0#32
  ![v561.toNat, 468, 0]
def k0_off108 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v566 : Index := Scalar.indexCast v63
  let c13_225 : Index := 13#32
  let c0_226 : Index := 0#32
  ![v566.toNat, 13, 0]
def k0_off109 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v570 : Index := Scalar.indexCast v63
  let c86 : Index := 86#32
  let c0_227 : Index := 0#32
  ![v570.toNat, 86, 0]
def k0_off110 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v577 : Index := Scalar.indexCast v63
  let c1_228 : Index := 1#32
  let c8_229 : Index := 8#32
  let c0_230 : Index := 0#32
  ![v577.toNat, 1, 8, 0]
def k0_off111 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v581 : Index := Scalar.indexCast v63
  let c476 : Index := 476#32
  let c0_231 : Index := 0#32
  ![v581.toNat, 476, 0]
def k0_off112 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v587 : Index := Scalar.indexCast v63
  let c301 : Index := 301#32
  let c0_232 : Index := 0#32
  ![v587.toNat, 301, 0]
def k0_off113 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v591 : Index := Scalar.indexCast v63
  let c0_233 : Index := 0#32
  let c13_234 : Index := 13#32
  let c0_235 : Index := 0#32
  ![v591.toNat, 0, 13, 0]
def k0_off114 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v596 : Index := Scalar.indexCast v63
  let c1_236 : Index := 1#32
  let c14 : Index := 14#32
  let c0_237 : Index := 0#32
  ![v596.toNat, 1, 14, 0]
def k0_off115 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v601 : Index := Scalar.indexCast v63
  let c91 : Index := 91#32
  let c0_238 : Index := 0#32
  ![v601.toNat, 91, 0]
def k0_off116 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v611 : Index := Scalar.indexCast v63
  let c504 : Index := 504#32
  let c0_242 : Index := 0#32
  ![v611.toNat, 504, 0]
def k0_off117 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v616 : Index := Scalar.indexCast v63
  let c14_243 : Index := 14#32
  let c0_244 : Index := 0#32
  ![v616.toNat, 14, 0]
def k0_off118 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v620 : Index := Scalar.indexCast v63
  let c99 : Index := 99#32
  let c0_245 : Index := 0#32
  ![v620.toNat, 99, 0]
def k0_off119 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v627 : Index := Scalar.indexCast v63
  let c1_246 : Index := 1#32
  let c8_247 : Index := 8#32
  let c0_248 : Index := 0#32
  ![v627.toNat, 1, 8, 0]
def k0_off120 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v631 : Index := Scalar.indexCast v63
  let c512 : Index := 512#32
  let c0_249 : Index := 0#32
  ![v631.toNat, 512, 0]
def k0_off121 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v637 : Index := Scalar.indexCast v63
  let c302 : Index := 302#32
  let c0_250 : Index := 0#32
  ![v637.toNat, 302, 0]
def k0_off122 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v641 : Index := Scalar.indexCast v63
  let c0_251 : Index := 0#32
  let c14_252 : Index := 14#32
  let c0_253 : Index := 0#32
  ![v641.toNat, 0, 14, 0]
def k0_off123 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v646 : Index := Scalar.indexCast v63
  let c1_254 : Index := 1#32
  let c15_255 : Index := 15#32
  let c0_256 : Index := 0#32
  ![v646.toNat, 1, 15, 0]
def k0_off124 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v651 : Index := Scalar.indexCast v63
  let c105 : Index := 105#32
  let c0_257 : Index := 0#32
  ![v651.toNat, 105, 0]
def k0_off125 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v661 : Index := Scalar.indexCast v63
  let c540 : Index := 540#32
  let c0_261 : Index := 0#32
  ![v661.toNat, 540, 0]
def k0_off126 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v666 : Index := Scalar.indexCast v63
  let c15_262 : Index := 15#32
  let c0_263 : Index := 0#32
  ![v666.toNat, 15, 0]
def k0_off127 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v670 : Index := Scalar.indexCast v63
  let c113 : Index := 113#32
  let c0_264 : Index := 0#32
  ![v670.toNat, 113, 0]
def k0_off128 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v677 : Index := Scalar.indexCast v63
  let c1_265 : Index := 1#32
  let c8_266 : Index := 8#32
  let c0_267 : Index := 0#32
  ![v677.toNat, 1, 8, 0]
def k0_off129 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v681 : Index := Scalar.indexCast v63
  let c548 : Index := 548#32
  let c0_268 : Index := 0#32
  ![v681.toNat, 548, 0]
def k0_off130 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v687 : Index := Scalar.indexCast v63
  let c303 : Index := 303#32
  let c0_269 : Index := 0#32
  ![v687.toNat, 303, 0]
def k0_off131 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v691 : Index := Scalar.indexCast v63
  let c0_270 : Index := 0#32
  let c15_271 : Index := 15#32
  let c0_272 : Index := 0#32
  ![v691.toNat, 0, 15, 0]
def k0_off132 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v696 : Index := Scalar.indexCast v63
  let c1_273 : Index := 1#32
  let c16 : Index := 16#32
  let c0_274 : Index := 0#32
  ![v696.toNat, 1, 16, 0]
def k0_off133 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v701 : Index := Scalar.indexCast v63
  let c120 : Index := 120#32
  let c0_275 : Index := 0#32
  ![v701.toNat, 120, 0]
def k0_off134 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v711 : Index := Scalar.indexCast v63
  let c576 : Index := 576#32
  let c0_279 : Index := 0#32
  ![v711.toNat, 576, 0]
def k0_off135 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v716 : Index := Scalar.indexCast v63
  let c16_280 : Index := 16#32
  let c0_281 : Index := 0#32
  ![v716.toNat, 16, 0]
def k0_off136 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v720 : Index := Scalar.indexCast v63
  let c128 : Index := 128#32
  let c0_282 : Index := 0#32
  ![v720.toNat, 128, 0]
def k0_off137 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v726 : Index := Scalar.indexCast v63
  let c1_283 : Index := 1#32
  let c8_284 : Index := 8#32
  let c0_285 : Index := 0#32
  ![v726.toNat, 1, 8, 0]
def k0_off138 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v730 : Index := Scalar.indexCast v63
  let c584 : Index := 584#32
  let c0_286 : Index := 0#32
  ![v730.toNat, 584, 0]
def k0_off139 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v735 : Index := Scalar.indexCast v63
  let c304 : Index := 304#32
  let c0_287 : Index := 0#32
  ![v735.toNat, 304, 0]
def k0_off140 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v739 : Index := Scalar.indexCast v63
  let c0_288 : Index := 0#32
  let c16_289 : Index := 16#32
  let c0_290 : Index := 0#32
  ![v739.toNat, 0, 16, 0]
def k0_off141 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v744 : Index := Scalar.indexCast v63
  let c1_291 : Index := 1#32
  let c17 : Index := 17#32
  let c0_292 : Index := 0#32
  ![v744.toNat, 1, 17, 0]
def k0_off142 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v749 : Index := Scalar.indexCast v63
  let c136 : Index := 136#32
  let c0_293 : Index := 0#32
  ![v749.toNat, 136, 0]
def k0_off143 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v759 : Index := Scalar.indexCast v63
  let c612 : Index := 612#32
  let c0_297 : Index := 0#32
  ![v759.toNat, 612, 0]
def k0_off144 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v764 : Index := Scalar.indexCast v63
  let c17_298 : Index := 17#32
  let c0_299 : Index := 0#32
  ![v764.toNat, 17, 0]
def k0_off145 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v768 : Index := Scalar.indexCast v63
  let c144_300 : Index := 144#32
  let c0_301 : Index := 0#32
  ![v768.toNat, 144, 0]
def k0_off146 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v778 : Index := Scalar.indexCast v63
  let c620 : Index := 620#32
  let c0_305 : Index := 0#32
  ![v778.toNat, 620, 0]
def k0_off147 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v783 : Index := Scalar.indexCast v63
  let c305 : Index := 305#32
  let c0_306 : Index := 0#32
  ![v783.toNat, 305, 0]
def k0_off148 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v787 : Index := Scalar.indexCast v63
  let c152 : Index := 152#32
  let c0_307 : Index := 0#32
  ![v787.toNat, 152, 0]
def k0_off149 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v798 : Index := Scalar.indexCast v63
  let c628 : Index := 628#32
  let c0_311 : Index := 0#32
  ![v798.toNat, 628, 0]
def k0_off150 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v804 : Index := Scalar.indexCast v63
  let c593 : Index := 593#32
  let c0_312 : Index := 0#32
  ![v804.toNat, 593, 0]
def k0_off151 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v808 : Index := Scalar.indexCast v63
  let c0_313 : Index := 0#32
  let c17_314 : Index := 17#32
  let c0_315 : Index := 0#32
  ![v808.toNat, 0, 17, 0]
def k0_off152 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v813 : Index := Scalar.indexCast v63
  let c1_316 : Index := 1#32
  let c18 : Index := 18#32
  let c0_317 : Index := 0#32
  ![v813.toNat, 1, 18, 0]
def k0_off153 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v818 : Index := Scalar.indexCast v63
  let c153 : Index := 153#32
  let c0_318 : Index := 0#32
  ![v818.toNat, 153, 0]
def k0_off154 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v828 : Index := Scalar.indexCast v63
  let c648 : Index := 648#32
  let c0_322 : Index := 0#32
  ![v828.toNat, 648, 0]
def k0_off155 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v833 : Index := Scalar.indexCast v63
  let c18_323 : Index := 18#32
  let c0_324 : Index := 0#32
  ![v833.toNat, 18, 0]
def k0_off156 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v837 : Index := Scalar.indexCast v63
  let c161 : Index := 161#32
  let c0_325 : Index := 0#32
  ![v837.toNat, 161, 0]
def k0_off157 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v847 : Index := Scalar.indexCast v63
  let c656 : Index := 656#32
  let c0_329 : Index := 0#32
  ![v847.toNat, 656, 0]
def k0_off158 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v852 : Index := Scalar.indexCast v63
  let c306 : Index := 306#32
  let c0_330 : Index := 0#32
  ![v852.toNat, 306, 0]
def k0_off159 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v856 : Index := Scalar.indexCast v63
  let c169 : Index := 169#32
  let c0_331 : Index := 0#32
  ![v856.toNat, 169, 0]
def k0_off160 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v863 : Index := Scalar.indexCast v63
  let c1_332 : Index := 1#32
  let c16_333 : Index := 16#32
  let c0_334 : Index := 0#32
  ![v863.toNat, 1, 16, 0]
def k0_off161 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v867 : Index := Scalar.indexCast v63
  let c664 : Index := 664#32
  let c0_335 : Index := 0#32
  ![v867.toNat, 664, 0]
def k0_off162 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v873 : Index := Scalar.indexCast v63
  let c594 : Index := 594#32
  let c0_336 : Index := 0#32
  ![v873.toNat, 594, 0]
def k0_off163 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v877 : Index := Scalar.indexCast v63
  let c0_337 : Index := 0#32
  let c18_338 : Index := 18#32
  let c0_339 : Index := 0#32
  ![v877.toNat, 0, 18, 0]
def k0_off164 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v882 : Index := Scalar.indexCast v63
  let c1_340 : Index := 1#32
  let c19 : Index := 19#32
  let c0_341 : Index := 0#32
  ![v882.toNat, 1, 19, 0]
def k0_off165 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v887 : Index := Scalar.indexCast v63
  let c171 : Index := 171#32
  let c0_342 : Index := 0#32
  ![v887.toNat, 171, 0]
def k0_off166 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v897 : Index := Scalar.indexCast v63
  let c684 : Index := 684#32
  let c0_346 : Index := 0#32
  ![v897.toNat, 684, 0]
def k0_off167 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v902 : Index := Scalar.indexCast v63
  let c19_347 : Index := 19#32
  let c0_348 : Index := 0#32
  ![v902.toNat, 19, 0]
def k0_off168 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v906 : Index := Scalar.indexCast v63
  let c179 : Index := 179#32
  let c0_349 : Index := 0#32
  ![v906.toNat, 179, 0]
def k0_off169 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v916 : Index := Scalar.indexCast v63
  let c692 : Index := 692#32
  let c0_353 : Index := 0#32
  ![v916.toNat, 692, 0]
def k0_off170 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v921 : Index := Scalar.indexCast v63
  let c307 : Index := 307#32
  let c0_354 : Index := 0#32
  ![v921.toNat, 307, 0]
def k0_off171 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v925 : Index := Scalar.indexCast v63
  let c187 : Index := 187#32
  let c0_355 : Index := 0#32
  ![v925.toNat, 187, 0]
def k0_off172 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v932 : Index := Scalar.indexCast v63
  let c1_356 : Index := 1#32
  let c16_357 : Index := 16#32
  let c0_358 : Index := 0#32
  ![v932.toNat, 1, 16, 0]
def k0_off173 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v936 : Index := Scalar.indexCast v63
  let c700 : Index := 700#32
  let c0_359 : Index := 0#32
  ![v936.toNat, 700, 0]
def k0_off174 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v942 : Index := Scalar.indexCast v63
  let c595 : Index := 595#32
  let c0_360 : Index := 0#32
  ![v942.toNat, 595, 0]
def k0_off175 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v946 : Index := Scalar.indexCast v63
  let c0_361 : Index := 0#32
  let c19_362 : Index := 19#32
  let c0_363 : Index := 0#32
  ![v946.toNat, 0, 19, 0]
def k0_off176 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v951 : Index := Scalar.indexCast v63
  let c1_364 : Index := 1#32
  let c20 : Index := 20#32
  let c0_365 : Index := 0#32
  ![v951.toNat, 1, 20, 0]
def k0_off177 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v956 : Index := Scalar.indexCast v63
  let c190 : Index := 190#32
  let c0_366 : Index := 0#32
  ![v956.toNat, 190, 0]
def k0_off178 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v966 : Index := Scalar.indexCast v63
  let c720 : Index := 720#32
  let c0_370 : Index := 0#32
  ![v966.toNat, 720, 0]
def k0_off179 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v971 : Index := Scalar.indexCast v63
  let c20_371 : Index := 20#32
  let c0_372 : Index := 0#32
  ![v971.toNat, 20, 0]
def k0_off180 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v975 : Index := Scalar.indexCast v63
  let c198 : Index := 198#32
  let c0_373 : Index := 0#32
  ![v975.toNat, 198, 0]
def k0_off181 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v985 : Index := Scalar.indexCast v63
  let c728 : Index := 728#32
  let c0_377 : Index := 0#32
  ![v985.toNat, 728, 0]
def k0_off182 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v990 : Index := Scalar.indexCast v63
  let c308 : Index := 308#32
  let c0_378 : Index := 0#32
  ![v990.toNat, 308, 0]
def k0_off183 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v994 : Index := Scalar.indexCast v63
  let c206 : Index := 206#32
  let c0_379 : Index := 0#32
  ![v994.toNat, 206, 0]
def k0_off184 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1001 : Index := Scalar.indexCast v63
  let c1_380 : Index := 1#32
  let c16_381 : Index := 16#32
  let c0_382 : Index := 0#32
  ![v1001.toNat, 1, 16, 0]
def k0_off185 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1005 : Index := Scalar.indexCast v63
  let c736 : Index := 736#32
  let c0_383 : Index := 0#32
  ![v1005.toNat, 736, 0]
def k0_off186 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1011 : Index := Scalar.indexCast v63
  let c596 : Index := 596#32
  let c0_384 : Index := 0#32
  ![v1011.toNat, 596, 0]
def k0_off187 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1015 : Index := Scalar.indexCast v63
  let c0_385 : Index := 0#32
  let c20_386 : Index := 20#32
  let c0_387 : Index := 0#32
  ![v1015.toNat, 0, 20, 0]
def k0_off188 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1020 : Index := Scalar.indexCast v63
  let c1_388 : Index := 1#32
  let c21_389 : Index := 21#32
  let c0_390 : Index := 0#32
  ![v1020.toNat, 1, 21, 0]
def k0_off189 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1025 : Index := Scalar.indexCast v63
  let c210 : Index := 210#32
  let c0_391 : Index := 0#32
  ![v1025.toNat, 210, 0]
def k0_off190 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1035 : Index := Scalar.indexCast v63
  let c756 : Index := 756#32
  let c0_395 : Index := 0#32
  ![v1035.toNat, 756, 0]
def k0_off191 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1040 : Index := Scalar.indexCast v63
  let c21_396 : Index := 21#32
  let c0_397 : Index := 0#32
  ![v1040.toNat, 21, 0]
def k0_off192 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1044 : Index := Scalar.indexCast v63
  let c218 : Index := 218#32
  let c0_398 : Index := 0#32
  ![v1044.toNat, 218, 0]
def k0_off193 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1054 : Index := Scalar.indexCast v63
  let c764 : Index := 764#32
  let c0_402 : Index := 0#32
  ![v1054.toNat, 764, 0]
def k0_off194 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1059 : Index := Scalar.indexCast v63
  let c309 : Index := 309#32
  let c0_403 : Index := 0#32
  ![v1059.toNat, 309, 0]
def k0_off195 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1063 : Index := Scalar.indexCast v63
  let c226 : Index := 226#32
  let c0_404 : Index := 0#32
  ![v1063.toNat, 226, 0]
def k0_off196 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1070 : Index := Scalar.indexCast v63
  let c1_405 : Index := 1#32
  let c16_406 : Index := 16#32
  let c0_407 : Index := 0#32
  ![v1070.toNat, 1, 16, 0]
def k0_off197 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1074 : Index := Scalar.indexCast v63
  let c772 : Index := 772#32
  let c0_408 : Index := 0#32
  ![v1074.toNat, 772, 0]
def k0_off198 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1080 : Index := Scalar.indexCast v63
  let c597 : Index := 597#32
  let c0_409 : Index := 0#32
  ![v1080.toNat, 597, 0]
def k0_off199 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1084 : Index := Scalar.indexCast v63
  let c0_410 : Index := 0#32
  let c21_411 : Index := 21#32
  let c0_412 : Index := 0#32
  ![v1084.toNat, 0, 21, 0]
def k0_off200 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1089 : Index := Scalar.indexCast v63
  let c1_413 : Index := 1#32
  let c22 : Index := 22#32
  let c0_414 : Index := 0#32
  ![v1089.toNat, 1, 22, 0]
def k0_off201 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1094 : Index := Scalar.indexCast v63
  let c231 : Index := 231#32
  let c0_415 : Index := 0#32
  ![v1094.toNat, 231, 0]
def k0_off202 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1104 : Index := Scalar.indexCast v63
  let c792 : Index := 792#32
  let c0_419 : Index := 0#32
  ![v1104.toNat, 792, 0]
def k0_off203 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1109 : Index := Scalar.indexCast v63
  let c22_420 : Index := 22#32
  let c0_421 : Index := 0#32
  ![v1109.toNat, 22, 0]
def k0_off204 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1113 : Index := Scalar.indexCast v63
  let c239 : Index := 239#32
  let c0_422 : Index := 0#32
  ![v1113.toNat, 239, 0]
def k0_off205 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1123 : Index := Scalar.indexCast v63
  let c800 : Index := 800#32
  let c0_426 : Index := 0#32
  ![v1123.toNat, 800, 0]
def k0_off206 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1128 : Index := Scalar.indexCast v63
  let c310 : Index := 310#32
  let c0_427 : Index := 0#32
  ![v1128.toNat, 310, 0]
def k0_off207 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1132 : Index := Scalar.indexCast v63
  let c247 : Index := 247#32
  let c0_428 : Index := 0#32
  ![v1132.toNat, 247, 0]
def k0_off208 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1139 : Index := Scalar.indexCast v63
  let c1_429 : Index := 1#32
  let c16_430 : Index := 16#32
  let c0_431 : Index := 0#32
  ![v1139.toNat, 1, 16, 0]
def k0_off209 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1143 : Index := Scalar.indexCast v63
  let c808 : Index := 808#32
  let c0_432 : Index := 0#32
  ![v1143.toNat, 808, 0]
def k0_off210 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1149 : Index := Scalar.indexCast v63
  let c598 : Index := 598#32
  let c0_433 : Index := 0#32
  ![v1149.toNat, 598, 0]
def k0_off211 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1153 : Index := Scalar.indexCast v63
  let c0_434 : Index := 0#32
  let c22_435 : Index := 22#32
  let c0_436 : Index := 0#32
  ![v1153.toNat, 0, 22, 0]
def k0_off212 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1158 : Index := Scalar.indexCast v63
  let c1_437 : Index := 1#32
  let c23 : Index := 23#32
  let c0_438 : Index := 0#32
  ![v1158.toNat, 1, 23, 0]
def k0_off213 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1163 : Index := Scalar.indexCast v63
  let c253 : Index := 253#32
  let c0_439 : Index := 0#32
  ![v1163.toNat, 253, 0]
def k0_off214 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1173 : Index := Scalar.indexCast v63
  let c828 : Index := 828#32
  let c0_443 : Index := 0#32
  ![v1173.toNat, 828, 0]
def k0_off215 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1178 : Index := Scalar.indexCast v63
  let c23_444 : Index := 23#32
  let c0_445 : Index := 0#32
  ![v1178.toNat, 23, 0]
def k0_off216 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1182 : Index := Scalar.indexCast v63
  let c261 : Index := 261#32
  let c0_446 : Index := 0#32
  ![v1182.toNat, 261, 0]
def k0_off217 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1192 : Index := Scalar.indexCast v63
  let c836 : Index := 836#32
  let c0_450 : Index := 0#32
  ![v1192.toNat, 836, 0]
def k0_off218 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1197 : Index := Scalar.indexCast v63
  let c311 : Index := 311#32
  let c0_451 : Index := 0#32
  ![v1197.toNat, 311, 0]
def k0_off219 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1201 : Index := Scalar.indexCast v63
  let c269 : Index := 269#32
  let c0_452 : Index := 0#32
  ![v1201.toNat, 269, 0]
def k0_off220 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1208 : Index := Scalar.indexCast v63
  let c1_453 : Index := 1#32
  let c16_454 : Index := 16#32
  let c0_455 : Index := 0#32
  ![v1208.toNat, 1, 16, 0]
def k0_off221 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1212 : Index := Scalar.indexCast v63
  let c844 : Index := 844#32
  let c0_456 : Index := 0#32
  ![v1212.toNat, 844, 0]
def k0_off222 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1218 : Index := Scalar.indexCast v63
  let c599 : Index := 599#32
  let c0_457 : Index := 0#32
  ![v1218.toNat, 599, 0]
def k0_off223 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1222 : Index := Scalar.indexCast v63
  let c0_458 : Index := 0#32
  let c23_459 : Index := 23#32
  let c0_460 : Index := 0#32
  ![v1222.toNat, 0, 23, 0]
def k0_off224 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1227 : Index := Scalar.indexCast v63
  let c1_461 : Index := 1#32
  let c24 : Index := 24#32
  let c0_462 : Index := 0#32
  ![v1227.toNat, 1, 24, 0]
def k0_off225 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1232 : Index := Scalar.indexCast v63
  let c276 : Index := 276#32
  let c0_463 : Index := 0#32
  ![v1232.toNat, 276, 0]
def k0_off226 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1242 : Index := Scalar.indexCast v63
  let c864 : Index := 864#32
  let c0_467 : Index := 0#32
  ![v1242.toNat, 864, 0]
def k0_off227 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1247 : Index := Scalar.indexCast v63
  let c24_468 : Index := 24#32
  let c0_469 : Index := 0#32
  ![v1247.toNat, 24, 0]
def k0_off228 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1251 : Index := Scalar.indexCast v63
  let c284 : Index := 284#32
  let c0_470 : Index := 0#32
  ![v1251.toNat, 284, 0]
def k0_off229 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1261 : Index := Scalar.indexCast v63
  let c872 : Index := 872#32
  let c0_474 : Index := 0#32
  ![v1261.toNat, 872, 0]
def k0_off230 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1266 : Index := Scalar.indexCast v63
  let c312 : Index := 312#32
  let c0_475 : Index := 0#32
  ![v1266.toNat, 312, 0]
def k0_off231 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1270 : Index := Scalar.indexCast v63
  let c292 : Index := 292#32
  let c0_476 : Index := 0#32
  ![v1270.toNat, 292, 0]
def k0_off232 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1276 : Index := Scalar.indexCast v63
  let c1_477 : Index := 1#32
  let c16_478 : Index := 16#32
  let c0_479 : Index := 0#32
  ![v1276.toNat, 1, 16, 0]
def k0_off233 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1280 : Index := Scalar.indexCast v63
  let c880 : Index := 880#32
  let c0_480 : Index := 0#32
  ![v1280.toNat, 880, 0]
def k0_off234 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1285 : Index := Scalar.indexCast v63
  let c600 : Index := 600#32
  let c0_481 : Index := 0#32
  ![v1285.toNat, 600, 0]
def k0_off235 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1289 : Index := Scalar.indexCast v63
  let c0_482 : Index := 0#32
  let c24_483 : Index := 24#32
  let c0_484 : Index := 0#32
  ![v1289.toNat, 0, 24, 0]
def k0_off236 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1294 : Index := Scalar.indexCast v63
  let c1_485 : Index := 1#32
  let c25 : Index := 25#32
  let c0_486 : Index := 0#32
  ![v1294.toNat, 1, 25, 0]
def k0_off237 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1299 : Index := Scalar.indexCast v63
  let c300_487 : Index := 300#32
  let c0_488 : Index := 0#32
  ![v1299.toNat, 300, 0]
def k0_off238 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1309 : Index := Scalar.indexCast v63
  let c900 : Index := 900#32
  let c0_492 : Index := 0#32
  ![v1309.toNat, 900, 0]
def k0_off239 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1314 : Index := Scalar.indexCast v63
  let c25_493 : Index := 25#32
  let c0_494 : Index := 0#32
  ![v1314.toNat, 25, 0]
def k0_off240 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1318 : Index := Scalar.indexCast v63
  let c308_495 : Index := 308#32
  let c0_496 : Index := 0#32
  ![v1318.toNat, 308, 0]
def k0_off241 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1328 : Index := Scalar.indexCast v63
  let c908 : Index := 908#32
  let c0_500 : Index := 0#32
  ![v1328.toNat, 908, 0]
def k0_off242 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1333 : Index := Scalar.indexCast v63
  let c313 : Index := 313#32
  let c0_501 : Index := 0#32
  ![v1333.toNat, 313, 0]
def k0_off243 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1337 : Index := Scalar.indexCast v63
  let c316 : Index := 316#32
  let c0_502 : Index := 0#32
  ![v1337.toNat, 316, 0]
def k0_off244 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1347 : Index := Scalar.indexCast v63
  let c916 : Index := 916#32
  let c0_506 : Index := 0#32
  ![v1347.toNat, 916, 0]
def k0_off245 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1352 : Index := Scalar.indexCast v63
  let c601 : Index := 601#32
  let c0_507 : Index := 0#32
  ![v1352.toNat, 601, 0]
def k0_off246 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1356 : Index := Scalar.indexCast v63
  let c324_508 : Index := 324#32
  let c0_509 : Index := 0#32
  ![v1356.toNat, 324, 0]
def k0_off247 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1367 : Index := Scalar.indexCast v63
  let c924 : Index := 924#32
  let c0_513 : Index := 0#32
  ![v1367.toNat, 924, 0]
def k0_off248 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1373 : Index := Scalar.indexCast v63
  let c889 : Index := 889#32
  let c0_514 : Index := 0#32
  ![v1373.toNat, 889, 0]
def k0_off249 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1377 : Index := Scalar.indexCast v63
  let c0_515 : Index := 0#32
  let c25_516 : Index := 25#32
  let c0_517 : Index := 0#32
  ![v1377.toNat, 0, 25, 0]
def k0_off250 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1382 : Index := Scalar.indexCast v63
  let c1_518 : Index := 1#32
  let c26 : Index := 26#32
  let c0_519 : Index := 0#32
  ![v1382.toNat, 1, 26, 0]
def k0_off251 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1387 : Index := Scalar.indexCast v63
  let c325 : Index := 325#32
  let c0_520 : Index := 0#32
  ![v1387.toNat, 325, 0]
def k0_off252 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1397 : Index := Scalar.indexCast v63
  let c936 : Index := 936#32
  let c0_524 : Index := 0#32
  ![v1397.toNat, 936, 0]
def k0_off253 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1402 : Index := Scalar.indexCast v63
  let c26_525 : Index := 26#32
  let c0_526 : Index := 0#32
  ![v1402.toNat, 26, 0]
def k0_off254 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1406 : Index := Scalar.indexCast v63
  let c333 : Index := 333#32
  let c0_527 : Index := 0#32
  ![v1406.toNat, 333, 0]
def k0_off255 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1416 : Index := Scalar.indexCast v63
  let c944 : Index := 944#32
  let c0_531 : Index := 0#32
  ![v1416.toNat, 944, 0]
def k0_off256 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1421 : Index := Scalar.indexCast v63
  let c314 : Index := 314#32
  let c0_532 : Index := 0#32
  ![v1421.toNat, 314, 0]
def k0_off257 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1425 : Index := Scalar.indexCast v63
  let c341 : Index := 341#32
  let c0_533 : Index := 0#32
  ![v1425.toNat, 341, 0]
def k0_off258 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1435 : Index := Scalar.indexCast v63
  let c952 : Index := 952#32
  let c0_537 : Index := 0#32
  ![v1435.toNat, 952, 0]
def k0_off259 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1440 : Index := Scalar.indexCast v63
  let c602 : Index := 602#32
  let c0_538 : Index := 0#32
  ![v1440.toNat, 602, 0]
def k0_off260 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1444 : Index := Scalar.indexCast v63
  let c349 : Index := 349#32
  let c0_539 : Index := 0#32
  ![v1444.toNat, 349, 0]
def k0_off261 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1451 : Index := Scalar.indexCast v63
  let c1_540 : Index := 1#32
  let c24_541 : Index := 24#32
  let c0_542 : Index := 0#32
  ![v1451.toNat, 1, 24, 0]
def k0_off262 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1455 : Index := Scalar.indexCast v63
  let c960 : Index := 960#32
  let c0_543 : Index := 0#32
  ![v1455.toNat, 960, 0]
def k0_off263 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1461 : Index := Scalar.indexCast v63
  let c890 : Index := 890#32
  let c0_544 : Index := 0#32
  ![v1461.toNat, 890, 0]
@[reducible] def k0_t2_loop : Scf.Loop 32 :=
  let c0_i32_545 : BitVec 32 := 0#32
  let c14_i32 : BitVec 32 := 14#32
  let v1465 : BitVec 32 := Scalar.addi c0_i32_545 c14_i32
  let c1_i32_546 : BitVec 32 := 1#32
  ⟨c0_i32_545, v1465, c1_i32_546⟩
def k0_off264 (k0_t1 : Fin k0_t1_loop.trips) (k0_t2 : Fin k0_t2_loop.trips) (c0_i32_580 : BitVec 32) (c0_i32_581 : BitVec 32) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1555 : Index := Scalar.indexCast v63
  let c36_i32 : BitVec 32 := 36#32
  let c2_i32_579 : BitVec 32 := 2#32
  let c0_i32_545 : BitVec 32 := 0#32
  let c1_i32_546 : BitVec 32 := 1#32
  let arg17 : BitVec 32 := Scf.iv c0_i32_545 c1_i32_546 k0_t2
  let v1551 : BitVec 32 := Scalar.muli c2_i32_579 arg17
  let v1552 : BitVec 32 := Scalar.addi v1551 c0_i32_580
  let v1553 : BitVec 32 := Scalar.muli c36_i32 v1552
  let v1554 : BitVec 32 := Scalar.addi v1553 c0_i32_581
  let v1556 : Index := Scalar.indexCast v1554
  let c0_582 : Index := 0#32
  ![v1555.toNat, v1556.toNat, 0]
def k0_off265 (k0_t1 : Fin k0_t1_loop.trips) (k0_t2 : Fin k0_t2_loop.trips) (c0_i32_742 : BitVec 32) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v2038 : Index := Scalar.indexCast v63
  let c0_i32_545 : BitVec 32 := 0#32
  let c1_i32_546 : BitVec 32 := 1#32
  let arg17 : BitVec 32 := Scf.iv c0_i32_545 c1_i32_546 k0_t2
  let v2037 : BitVec 32 := Scalar.addi c0_i32_742 arg17
  let v2039 : Index := Scalar.indexCast v2037
  let c0_743 : Index := 0#32
  ![v2038.toNat, v2039.toNat, 0]
def k0_off266 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_28 : BitVec 32 := 2#32
  let v61 : BitVec 32 := Scalar.divsi arg16 c2_i32_28
  let v1466 : Index := Scalar.indexCast v61
  let c2_i32_29 : BitVec 32 := 2#32
  let v62 : BitVec 32 := Scalar.remsi arg16 c2_i32_29
  let c128_i32 : BitVec 32 := 128#32
  let v64 : BitVec 32 := Scalar.muli v62 c128_i32
  let v65 : BitVec 32 := v64
  let v1467 : Index := Scalar.indexCast v65
  let c0_548 : Index := 0#32
  ![v1466.toNat, v1467.toNat, 0]
def k0_off267 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1472 : Index := Scalar.indexCast v63
  let c0_549 : Index := 0#32
  let c0_550 : Index := 0#32
  ![v1472.toNat, 0, 0]
def k0_off268 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1477 : Index := Scalar.indexCast v63
  let c72_551 : Index := 72#32
  let c0_552 : Index := 0#32
  ![v1477.toNat, 72, 0]
def k0_off269 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1482 : Index := Scalar.indexCast v63
  let c144_553 : Index := 144#32
  let c0_554 : Index := 0#32
  ![v1482.toNat, 144, 0]
def k0_off270 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1487 : Index := Scalar.indexCast v63
  let c216_555 : Index := 216#32
  let c0_556 : Index := 0#32
  ![v1487.toNat, 216, 0]
def k0_off271 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1492 : Index := Scalar.indexCast v63
  let c288_557 : Index := 288#32
  let c0_558 : Index := 0#32
  ![v1492.toNat, 288, 0]
def k0_off272 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1497 : Index := Scalar.indexCast v63
  let c360_559 : Index := 360#32
  let c0_560 : Index := 0#32
  ![v1497.toNat, 360, 0]
def k0_off273 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1502 : Index := Scalar.indexCast v63
  let c432_561 : Index := 432#32
  let c0_562 : Index := 0#32
  ![v1502.toNat, 432, 0]
def k0_off274 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1507 : Index := Scalar.indexCast v63
  let c504_563 : Index := 504#32
  let c0_564 : Index := 0#32
  ![v1507.toNat, 504, 0]
def k0_off275 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1512 : Index := Scalar.indexCast v63
  let c576_565 : Index := 576#32
  let c0_566 : Index := 0#32
  ![v1512.toNat, 576, 0]
def k0_off276 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1517 : Index := Scalar.indexCast v63
  let c648_567 : Index := 648#32
  let c0_568 : Index := 0#32
  ![v1517.toNat, 648, 0]
def k0_off277 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1522 : Index := Scalar.indexCast v63
  let c720_569 : Index := 720#32
  let c0_570 : Index := 0#32
  ![v1522.toNat, 720, 0]
def k0_off278 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1527 : Index := Scalar.indexCast v63
  let c792_571 : Index := 792#32
  let c0_572 : Index := 0#32
  ![v1527.toNat, 792, 0]
def k0_off279 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1532 : Index := Scalar.indexCast v63
  let c864_573 : Index := 864#32
  let c0_574 : Index := 0#32
  ![v1532.toNat, 864, 0]
def k0_off280 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1537 : Index := Scalar.indexCast v63
  let c936_575 : Index := 936#32
  let c0_576 : Index := 0#32
  ![v1537.toNat, 936, 0]
def k0_off281 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1542 : Index := Scalar.indexCast v63
  let c1008 : Index := 1008#32
  let c0_577 : Index := 0#32
  ![v1542.toNat, 1008, 0]
def k0_off282 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1547 : Index := Scalar.indexCast v63
  let c1080 : Index := 1080#32
  let c0_578 : Index := 0#32
  ![v1547.toNat, 1080, 0]
def k0_cond6 (k0_t1 : Fin k0_t1_loop.trips) : BitVec 1 :=
  let c0_i32_20 : BitVec 32 := 0#32
  let c1_i32_21 : BitVec 32 := 1#32
  let arg16 : BitVec 32 := Scf.iv c0_i32_20 c1_i32_21 k0_t1
  let c1_i32_26 : BitVec 32 := 1#32
  let v58 : BitVec 1 := Scalar.cmpi .sge arg16 c1_i32_26
  let v59 : BitVec 32 := Scalar.extui v58
  let c0_i32_27 : BitVec 32 := 0#32
  let v60 : BitVec 1 := Scalar.cmpi .ne v59 c0_i32_27
  v60

@[reducible] def k0_t3_loop : Scf.Loop 32 :=
  let c0_i32_34 : BitVec 32 := 0#32
  let c16_i32 : BitVec 32 := 16#32
  let v67 : BitVec 32 := Scalar.addi c0_i32_34 c16_i32
  let c1_i32_35 : BitVec 32 := 1#32
  ⟨c0_i32_34, v67, c1_i32_35⟩
def k0_off283 (i : grid0.Coords) (k0_t1 : Fin k0_t1_loop.trips) : Fin 5 → Nat :=
  let arg0 : BitVec 32 := BitVec.ofNat 32 (i 0).val
  let c3_i32_32 : BitVec 32 := 3#32
  let v65 : BitVec 32 := Scalar.remsi arg0 c3_i32_32
  let c0_i32_20 : BitVec 32 := 0#32
  let c1_i32_21 : BitVec 32 := 1#32
  let arg16 : BitVec 32 := Scf.iv c0_i32_20 c1_i32_21 k0_t1
  let c1_i32_28 : BitVec 32 := 1#32
  let v61 : BitVec 32 := Scalar.subi arg16 c1_i32_28
  let c2_i32_29 : BitVec 32 := 2#32
  let v62 : BitVec 32 := Scalar.divsi v61 c2_i32_29
  let c0_i32_40 : BitVec 32 := 0#32
  let c0_i32_41 : BitVec 32 := 0#32
  let c0_i32_42 : BitVec 32 := 0#32
  ![v65.toNat, v62.toNat, 0, 0, 0]
def k0_off284 (k0_t1 : Fin k0_t1_loop.trips) (k0_t3 : Fin k0_t3_loop.trips) (c0_i32_38 : BitVec 32) : Fin 3 → Nat :=
  let c0 : Index := 0#32
  let c4_i32_39 : BitVec 32 := 4#32
  let c0_i32_20 : BitVec 32 := 0#32
  let c1_i32_21 : BitVec 32 := 1#32
  let arg16 : BitVec 32 := Scf.iv c0_i32_20 c1_i32_21 k0_t1
  let c1_i32_28 : BitVec 32 := 1#32
  let v61 : BitVec 32 := Scalar.subi arg16 c1_i32_28
  let c2_i32_30 : BitVec 32 := 2#32
  let v63 : BitVec 32 := Scalar.remsi v61 c2_i32_30
  let c32_i32 : BitVec 32 := 32#32
  let v68 : BitVec 32 := Scalar.muli v63 c32_i32
  let c2_i32_37 : BitVec 32 := 2#32
  let c0_i32_34 : BitVec 32 := 0#32
  let c1_i32_35 : BitVec 32 := 1#32
  let arg17 : BitVec 32 := Scf.iv c0_i32_34 c1_i32_35 k0_t3
  let v69 : BitVec 32 := Scalar.muli c2_i32_37 arg17
  let v70 : BitVec 32 := Scalar.addi v68 v69
  let v71 : BitVec 32 := Scalar.addi v70 c0_i32_38
  let v72 : BitVec 32 := Scalar.muli c4_i32_39 v71
  let v75 : Index := Scalar.indexCast v72
  let c0_43 : Index := 0#32
  ![0, v75.toNat, 0]
def k0_off285 (k0_t1 : Fin k0_t1_loop.trips) (k0_t3 : Fin k0_t3_loop.trips) (c0_i32_38 : BitVec 32) : Fin 3 → Nat :=
  let c8 : Index := 8#32
  let c4_i32_44 : BitVec 32 := 4#32
  let c0_i32_20 : BitVec 32 := 0#32
  let c1_i32_21 : BitVec 32 := 1#32
  let arg16 : BitVec 32 := Scf.iv c0_i32_20 c1_i32_21 k0_t1
  let c1_i32_28 : BitVec 32 := 1#32
  let v61 : BitVec 32 := Scalar.subi arg16 c1_i32_28
  let c2_i32_30 : BitVec 32 := 2#32
  let v63 : BitVec 32 := Scalar.remsi v61 c2_i32_30
  let c32_i32 : BitVec 32 := 32#32
  let v68 : BitVec 32 := Scalar.muli v63 c32_i32
  let c2_i32_37 : BitVec 32 := 2#32
  let c0_i32_34 : BitVec 32 := 0#32
  let c1_i32_35 : BitVec 32 := 1#32
  let arg17 : BitVec 32 := Scf.iv c0_i32_34 c1_i32_35 k0_t3
  let v69 : BitVec 32 := Scalar.muli c2_i32_37 arg17
  let v70 : BitVec 32 := Scalar.addi v68 v69
  let v71 : BitVec 32 := Scalar.addi v70 c0_i32_38
  let v78 : BitVec 32 := Scalar.muli c4_i32_44 v71
  let v81 : Index := Scalar.indexCast v78
  let c0_48 : Index := 0#32
  ![8, v81.toNat, 0]
def k0_off286 (k0_t1 : Fin k0_t1_loop.trips) (k0_t3 : Fin k0_t3_loop.trips) (c0_i32_38 : BitVec 32) : Fin 3 → Nat :=
  let c16 : Index := 16#32
  let c4_i32_49 : BitVec 32 := 4#32
  let c0_i32_20 : BitVec 32 := 0#32
  let c1_i32_21 : BitVec 32 := 1#32
  let arg16 : BitVec 32 := Scf.iv c0_i32_20 c1_i32_21 k0_t1
  let c1_i32_28 : BitVec 32 := 1#32
  let v61 : BitVec 32 := Scalar.subi arg16 c1_i32_28
  let c2_i32_30 : BitVec 32 := 2#32
  let v63 : BitVec 32 := Scalar.remsi v61 c2_i32_30
  let c32_i32 : BitVec 32 := 32#32
  let v68 : BitVec 32 := Scalar.muli v63 c32_i32
  let c2_i32_37 : BitVec 32 := 2#32
  let c0_i32_34 : BitVec 32 := 0#32
  let c1_i32_35 : BitVec 32 := 1#32
  let arg17 : BitVec 32 := Scf.iv c0_i32_34 c1_i32_35 k0_t3
  let v69 : BitVec 32 := Scalar.muli c2_i32_37 arg17
  let v70 : BitVec 32 := Scalar.addi v68 v69
  let v71 : BitVec 32 := Scalar.addi v70 c0_i32_38
  let v84 : BitVec 32 := Scalar.muli c4_i32_49 v71
  let v87 : Index := Scalar.indexCast v84
  let c0_53 : Index := 0#32
  ![16, v87.toNat, 0]
def k0_off287 (k0_t1 : Fin k0_t1_loop.trips) (k0_t3 : Fin k0_t3_loop.trips) (c0_i32_38 : BitVec 32) : Fin 3 → Nat :=
  let c24 : Index := 24#32
  let c4_i32_54 : BitVec 32 := 4#32
  let c0_i32_20 : BitVec 32 := 0#32
  let c1_i32_21 : BitVec 32 := 1#32
  let arg16 : BitVec 32 := Scf.iv c0_i32_20 c1_i32_21 k0_t1
  let c1_i32_28 : BitVec 32 := 1#32
  let v61 : BitVec 32 := Scalar.subi arg16 c1_i32_28
  let c2_i32_30 : BitVec 32 := 2#32
  let v63 : BitVec 32 := Scalar.remsi v61 c2_i32_30
  let c32_i32 : BitVec 32 := 32#32
  let v68 : BitVec 32 := Scalar.muli v63 c32_i32
  let c2_i32_37 : BitVec 32 := 2#32
  let c0_i32_34 : BitVec 32 := 0#32
  let c1_i32_35 : BitVec 32 := 1#32
  let arg17 : BitVec 32 := Scf.iv c0_i32_34 c1_i32_35 k0_t3
  let v69 : BitVec 32 := Scalar.muli c2_i32_37 arg17
  let v70 : BitVec 32 := Scalar.addi v68 v69
  let v71 : BitVec 32 := Scalar.addi v70 c0_i32_38
  let v90 : BitVec 32 := Scalar.muli c4_i32_54 v71
  let v93 : Index := Scalar.indexCast v90
  let c0_58 : Index := 0#32
  ![24, v93.toNat, 0]
def k0_off288 (k0_t1 : Fin k0_t1_loop.trips) (k0_t3 : Fin k0_t3_loop.trips) (c0_i32_59 : BitVec 32) (c0_i32_60 : BitVec 32) : Fin 3 → Nat :=
  let c0_i32_20 : BitVec 32 := 0#32
  let c1_i32_21 : BitVec 32 := 1#32
  let arg16 : BitVec 32 := Scf.iv c0_i32_20 c1_i32_21 k0_t1
  let c1_i32_28 : BitVec 32 := 1#32
  let v61 : BitVec 32 := Scalar.subi arg16 c1_i32_28
  let c2_i32_31 : BitVec 32 := 2#32
  let v64 : BitVec 32 := Scalar.remsi v61 c2_i32_31
  let v101 : Index := Scalar.indexCast v64
  let c8_i32 : BitVec 32 := 8#32
  let c0_i32_34 : BitVec 32 := 0#32
  let c1_i32_35 : BitVec 32 := 1#32
  let arg17 : BitVec 32 := Scf.iv c0_i32_34 c1_i32_35 k0_t3
  let v97 : BitVec 32 := Scalar.muli c8_i32 arg17
  let v98 : BitVec 32 := Scalar.addi v97 c0_i32_59
  let v99 : BitVec 32 := Scalar.addi v98 c0_i32_60
  let c20_i32 : BitVec 32 := 20#32
  let v100 : BitVec 32 := Scalar.muli v99 c20_i32
  let v102 : Index := Scalar.indexCast v100
  let c0_61 : Index := 0#32
  ![v101.toNat, v102.toNat, 0]
def k0_off289 (k0_t1 : Fin k0_t1_loop.trips) (k0_t3 : Fin k0_t3_loop.trips) (c0_i32_59 : BitVec 32) (c0_i32_71 : BitVec 32) : Fin 3 → Nat :=
  let c0_i32_20 : BitVec 32 := 0#32
  let c1_i32_21 : BitVec 32 := 1#32
  let arg16 : BitVec 32 := Scf.iv c0_i32_20 c1_i32_21 k0_t1
  let c1_i32_28 : BitVec 32 := 1#32
  let v61 : BitVec 32 := Scalar.subi arg16 c1_i32_28
  let c2_i32_31 : BitVec 32 := 2#32
  let v64 : BitVec 32 := Scalar.remsi v61 c2_i32_31
  let v129 : Index := Scalar.indexCast v64
  let c8_i32 : BitVec 32 := 8#32
  let c0_i32_34 : BitVec 32 := 0#32
  let c1_i32_35 : BitVec 32 := 1#32
  let arg17 : BitVec 32 := Scf.iv c0_i32_34 c1_i32_35 k0_t3
  let v97 : BitVec 32 := Scalar.muli c8_i32 arg17
  let v98 : BitVec 32 := Scalar.addi v97 c0_i32_59
  let v127 : BitVec 32 := Scalar.addi v98 c0_i32_71
  let c9_i32 : BitVec 32 := 9#32
  let v128 : BitVec 32 := Scalar.muli v127 c9_i32
  let v130 : Index := Scalar.indexCast v128
  let c0_72 : Index := 0#32
  ![v129.toNat, v130.toNat, 0]
def k0_off290 (i : grid0.Coords) (k0_t1 : Fin k0_t1_loop.trips) : Fin 6 → Nat :=
  let arg0 : BitVec 32 := BitVec.ofNat 32 (i 0).val
  let c3_i32_33 : BitVec 32 := 3#32
  let v66 : BitVec 32 := Scalar.remsi arg0 c3_i32_33
  let c0_i32_20 : BitVec 32 := 0#32
  let c1_i32_21 : BitVec 32 := 1#32
  let arg16 : BitVec 32 := Scf.iv c0_i32_20 c1_i32_21 k0_t1
  let c1_i32_28 : BitVec 32 := 1#32
  let v61 : BitVec 32 := Scalar.subi arg16 c1_i32_28
  let c2_i32_29 : BitVec 32 := 2#32
  let v62 : BitVec 32 := Scalar.divsi v61 c2_i32_29
  let c0_i32_77 : BitVec 32 := 0#32
  let c0_i32_78 : BitVec 32 := 0#32
  let c0_i32_79 : BitVec 32 := 0#32
  let c0_i32_80 : BitVec 32 := 0#32
  ![v66.toNat, v62.toNat, 0, 0, 0, 0]
def k0_off291 (i : grid0.Coords) (k0_t1 : Fin k0_t1_loop.trips) (k0_t3 : Fin k0_t3_loop.trips) : Fin 6 → Nat :=
  let arg0 : BitVec 32 := BitVec.ofNat 32 (i 0).val
  let c3_i32_33 : BitVec 32 := 3#32
  let v66 : BitVec 32 := Scalar.remsi arg0 c3_i32_33
  let c0_i32_20 : BitVec 32 := 0#32
  let c1_i32_21 : BitVec 32 := 1#32
  let arg16 : BitVec 32 := Scf.iv c0_i32_20 c1_i32_21 k0_t1
  let c1_i32_28 : BitVec 32 := 1#32
  let v61 : BitVec 32 := Scalar.subi arg16 c1_i32_28
  let c2_i32_29 : BitVec 32 := 2#32
  let v62 : BitVec 32 := Scalar.divsi v61 c2_i32_29
  let c0_i32_77 : BitVec 32 := 0#32
  let c2_i32_30 : BitVec 32 := 2#32
  let v63 : BitVec 32 := Scalar.remsi v61 c2_i32_30
  let c16_i32_76 : BitVec 32 := 16#32
  let v143 : BitVec 32 := Scalar.muli v63 c16_i32_76
  let c0_i32_34 : BitVec 32 := 0#32
  let c1_i32_35 : BitVec 32 := 1#32
  let arg17 : BitVec 32 := Scf.iv c0_i32_34 c1_i32_35 k0_t3
  let v144 : BitVec 32 := Scalar.addi v143 arg17
  let v148 : Index := Scalar.indexCast v144
  let c0_i32_79 : BitVec 32 := 0#32
  let c0_i32_80 : BitVec 32 := 0#32
  ![v66.toNat, v62.toNat, 0, v148.toNat, 0, 0]
def k0_off292 (i : grid0.Coords) (k0_t1 : Fin k0_t1_loop.trips) (k0_t3 : Fin k0_t3_loop.trips) : Fin 6 → Nat :=
  let arg0 : BitVec 32 := BitVec.ofNat 32 (i 0).val
  let c3_i32_33 : BitVec 32 := 3#32
  let v66 : BitVec 32 := Scalar.remsi arg0 c3_i32_33
  let c0_i32_20 : BitVec 32 := 0#32
  let c1_i32_21 : BitVec 32 := 1#32
  let arg16 : BitVec 32 := Scf.iv c0_i32_20 c1_i32_21 k0_t1
  let c1_i32_28 : BitVec 32 := 1#32
  let v61 : BitVec 32 := Scalar.subi arg16 c1_i32_28
  let c2_i32_29 : BitVec 32 := 2#32
  let v62 : BitVec 32 := Scalar.divsi v61 c2_i32_29
  let c2_i32_30 : BitVec 32 := 2#32
  let v63 : BitVec 32 := Scalar.remsi v61 c2_i32_30
  let c16_i32_84 : BitVec 32 := 16#32
  let v155 : BitVec 32 := Scalar.muli v63 c16_i32_84
  let c0_i32_34 : BitVec 32 := 0#32
  let c1_i32_35 : BitVec 32 := 1#32
  let arg17 : BitVec 32 := Scf.iv c0_i32_34 c1_i32_35 k0_t3
  let v156 : BitVec 32 := Scalar.addi v155 arg17
  let v160 : Index := Scalar.indexCast v156
  let c0_i32_87 : BitVec 32 := 0#32
  let c0_i32_88 : BitVec 32 := 0#32
  ![v66.toNat, v62.toNat, 8, v160.toNat, 0, 0]
def k0_off293 (i : grid0.Coords) (k0_t1 : Fin k0_t1_loop.trips) (k0_t3 : Fin k0_t3_loop.trips) : Fin 6 → Nat :=
  let arg0 : BitVec 32 := BitVec.ofNat 32 (i 0).val
  let c3_i32_33 : BitVec 32 := 3#32
  let v66 : BitVec 32 := Scalar.remsi arg0 c3_i32_33
  let c0_i32_20 : BitVec 32 := 0#32
  let c1_i32_21 : BitVec 32 := 1#32
  let arg16 : BitVec 32 := Scf.iv c0_i32_20 c1_i32_21 k0_t1
  let c1_i32_28 : BitVec 32 := 1#32
  let v61 : BitVec 32 := Scalar.subi arg16 c1_i32_28
  let c2_i32_29 : BitVec 32 := 2#32
  let v62 : BitVec 32 := Scalar.divsi v61 c2_i32_29
  let c2_i32_30 : BitVec 32 := 2#32
  let v63 : BitVec 32 := Scalar.remsi v61 c2_i32_30
  let c16_i32_92 : BitVec 32 := 16#32
  let v167 : BitVec 32 := Scalar.muli v63 c16_i32_92
  let c0_i32_34 : BitVec 32 := 0#32
  let c1_i32_35 : BitVec 32 := 1#32
  let arg17 : BitVec 32 := Scf.iv c0_i32_34 c1_i32_35 k0_t3
  let v168 : BitVec 32 := Scalar.addi v167 arg17
  let v172 : Index := Scalar.indexCast v168
  let c0_i32_95 : BitVec 32 := 0#32
  let c0_i32_96 : BitVec 32 := 0#32
  ![v66.toNat, v62.toNat, 16, v172.toNat, 0, 0]
def k0_off294 (i : grid0.Coords) (k0_t1 : Fin k0_t1_loop.trips) (k0_t3 : Fin k0_t3_loop.trips) : Fin 6 → Nat :=
  let arg0 : BitVec 32 := BitVec.ofNat 32 (i 0).val
  let c3_i32_33 : BitVec 32 := 3#32
  let v66 : BitVec 32 := Scalar.remsi arg0 c3_i32_33
  let c0_i32_20 : BitVec 32 := 0#32
  let c1_i32_21 : BitVec 32 := 1#32
  let arg16 : BitVec 32 := Scf.iv c0_i32_20 c1_i32_21 k0_t1
  let c1_i32_28 : BitVec 32 := 1#32
  let v61 : BitVec 32 := Scalar.subi arg16 c1_i32_28
  let c2_i32_29 : BitVec 32 := 2#32
  let v62 : BitVec 32 := Scalar.divsi v61 c2_i32_29
  let c2_i32_30 : BitVec 32 := 2#32
  let v63 : BitVec 32 := Scalar.remsi v61 c2_i32_30
  let c16_i32_100 : BitVec 32 := 16#32
  let v180 : BitVec 32 := Scalar.muli v63 c16_i32_100
  let c0_i32_34 : BitVec 32 := 0#32
  let c1_i32_35 : BitVec 32 := 1#32
  let arg17 : BitVec 32 := Scf.iv c0_i32_34 c1_i32_35 k0_t3
  let v181 : BitVec 32 := Scalar.addi v180 arg17
  let v185 : Index := Scalar.indexCast v181
  let c0_i32_103 : BitVec 32 := 0#32
  let c0_i32_104 : BitVec 32 := 0#32
  ![v66.toNat, v62.toNat, 24, v185.toNat, 0, 0]
def k0_off295 (i : grid0.Coords) (k0_t1 : Fin k0_t1_loop.trips) (k0_t3 : Fin k0_t3_loop.trips) : Fin 6 → Nat :=
  let arg0 : BitVec 32 := BitVec.ofNat 32 (i 0).val
  let c3_i32_33 : BitVec 32 := 3#32
  let v66 : BitVec 32 := Scalar.remsi arg0 c3_i32_33
  let c0_i32_20 : BitVec 32 := 0#32
  let c1_i32_21 : BitVec 32 := 1#32
  let arg16 : BitVec 32 := Scf.iv c0_i32_20 c1_i32_21 k0_t1
  let c1_i32_28 : BitVec 32 := 1#32
  let v61 : BitVec 32 := Scalar.subi arg16 c1_i32_28
  let c2_i32_29 : BitVec 32 := 2#32
  let v62 : BitVec 32 := Scalar.divsi v61 c2_i32_29
  let c0_i32_115 : BitVec 32 := 0#32
  let c2_i32_30 : BitVec 32 := 2#32
  let v63 : BitVec 32 := Scalar.remsi v61 c2_i32_30
  let c16_i32_114 : BitVec 32 := 16#32
  let v206 : BitVec 32 := Scalar.muli v63 c16_i32_114
  let c0_i32_34 : BitVec 32 := 0#32
  let c1_i32_35 : BitVec 32 := 1#32
  let arg17 : BitVec 32 := Scf.iv c0_i32_34 c1_i32_35 k0_t3
  let v207 : BitVec 32 := Scalar.addi v206 arg17
  let v211 : Index := Scalar.indexCast v207
  let c0_i32_118 : BitVec 32 := 0#32
  ![v66.toNat, v62.toNat, 0, v211.toNat, 2, 0]
def k0_off296 (i : grid0.Coords) (k0_t1 : Fin k0_t1_loop.trips) (k0_t3 : Fin k0_t3_loop.trips) : Fin 6 → Nat :=
  let arg0 : BitVec 32 := BitVec.ofNat 32 (i 0).val
  let c3_i32_33 : BitVec 32 := 3#32
  let v66 : BitVec 32 := Scalar.remsi arg0 c3_i32_33
  let c0_i32_20 : BitVec 32 := 0#32
  let c1_i32_21 : BitVec 32 := 1#32
  let arg16 : BitVec 32 := Scf.iv c0_i32_20 c1_i32_21 k0_t1
  let c1_i32_28 : BitVec 32 := 1#32
  let v61 : BitVec 32 := Scalar.subi arg16 c1_i32_28
  let c2_i32_29 : BitVec 32 := 2#32
  let v62 : BitVec 32 := Scalar.divsi v61 c2_i32_29
  let c2_i32_30 : BitVec 32 := 2#32
  let v63 : BitVec 32 := Scalar.remsi v61 c2_i32_30
  let c16_i32_121 : BitVec 32 := 16#32
  let v218 : BitVec 32 := Scalar.muli v63 c16_i32_121
  let c0_i32_34 : BitVec 32 := 0#32
  let c1_i32_35 : BitVec 32 := 1#32
  let arg17 : BitVec 32 := Scf.iv c0_i32_34 c1_i32_35 k0_t3
  let v219 : BitVec 32 := Scalar.addi v218 arg17
  let v223 : Index := Scalar.indexCast v219
  let c0_i32_125 : BitVec 32 := 0#32
  ![v66.toNat, v62.toNat, 8, v223.toNat, 2, 0]
def k0_off297 (i : grid0.Coords) (k0_t1 : Fin k0_t1_loop.trips) (k0_t3 : Fin k0_t3_loop.trips) : Fin 6 → Nat :=
  let arg0 : BitVec 32 := BitVec.ofNat 32 (i 0).val
  let c3_i32_33 : BitVec 32 := 3#32
  let v66 : BitVec 32 := Scalar.remsi arg0 c3_i32_33
  let c0_i32_20 : BitVec 32 := 0#32
  let c1_i32_21 : BitVec 32 := 1#32
  let arg16 : BitVec 32 := Scf.iv c0_i32_20 c1_i32_21 k0_t1
  let c1_i32_28 : BitVec 32 := 1#32
  let v61 : BitVec 32 := Scalar.subi arg16 c1_i32_28
  let c2_i32_29 : BitVec 32 := 2#32
  let v62 : BitVec 32 := Scalar.divsi v61 c2_i32_29
  let c2_i32_30 : BitVec 32 := 2#32
  let v63 : BitVec 32 := Scalar.remsi v61 c2_i32_30
  let c16_i32_129 : BitVec 32 := 16#32
  let v230 : BitVec 32 := Scalar.muli v63 c16_i32_129
  let c0_i32_34 : BitVec 32 := 0#32
  let c1_i32_35 : BitVec 32 := 1#32
  let arg17 : BitVec 32 := Scf.iv c0_i32_34 c1_i32_35 k0_t3
  let v231 : BitVec 32 := Scalar.addi v230 arg17
  let v235 : Index := Scalar.indexCast v231
  let c0_i32_133 : BitVec 32 := 0#32
  ![v66.toNat, v62.toNat, 16, v235.toNat, 2, 0]
def k0_off298 (i : grid0.Coords) (k0_t1 : Fin k0_t1_loop.trips) (k0_t3 : Fin k0_t3_loop.trips) : Fin 6 → Nat :=
  let arg0 : BitVec 32 := BitVec.ofNat 32 (i 0).val
  let c3_i32_33 : BitVec 32 := 3#32
  let v66 : BitVec 32 := Scalar.remsi arg0 c3_i32_33
  let c0_i32_20 : BitVec 32 := 0#32
  let c1_i32_21 : BitVec 32 := 1#32
  let arg16 : BitVec 32 := Scf.iv c0_i32_20 c1_i32_21 k0_t1
  let c1_i32_28 : BitVec 32 := 1#32
  let v61 : BitVec 32 := Scalar.subi arg16 c1_i32_28
  let c2_i32_29 : BitVec 32 := 2#32
  let v62 : BitVec 32 := Scalar.divsi v61 c2_i32_29
  let c2_i32_30 : BitVec 32 := 2#32
  let v63 : BitVec 32 := Scalar.remsi v61 c2_i32_30
  let c16_i32_137 : BitVec 32 := 16#32
  let v243 : BitVec 32 := Scalar.muli v63 c16_i32_137
  let c0_i32_34 : BitVec 32 := 0#32
  let c1_i32_35 : BitVec 32 := 1#32
  let arg17 : BitVec 32 := Scf.iv c0_i32_34 c1_i32_35 k0_t3
  let v244 : BitVec 32 := Scalar.addi v243 arg17
  let v248 : Index := Scalar.indexCast v244
  let c0_i32_141 : BitVec 32 := 0#32
  ![v66.toNat, v62.toNat, 24, v248.toNat, 2, 0]
def k0_off299 (i : grid0.Coords) (k0_t1 : Fin k0_t1_loop.trips) (k0_t3 : Fin k0_t3_loop.trips) : Fin 6 → Nat :=
  let arg0 : BitVec 32 := BitVec.ofNat 32 (i 0).val
  let c3_i32_33 : BitVec 32 := 3#32
  let v66 : BitVec 32 := Scalar.remsi arg0 c3_i32_33
  let c0_i32_20 : BitVec 32 := 0#32
  let c1_i32_21 : BitVec 32 := 1#32
  let arg16 : BitVec 32 := Scf.iv c0_i32_20 c1_i32_21 k0_t1
  let c1_i32_28 : BitVec 32 := 1#32
  let v61 : BitVec 32 := Scalar.subi arg16 c1_i32_28
  let c2_i32_29 : BitVec 32 := 2#32
  let v62 : BitVec 32 := Scalar.divsi v61 c2_i32_29
  let c0_i32_194 : BitVec 32 := 0#32
  let c2_i32_30 : BitVec 32 := 2#32
  let v63 : BitVec 32 := Scalar.remsi v61 c2_i32_30
  let c16_i32_193 : BitVec 32 := 16#32
  let v327 : BitVec 32 := Scalar.muli v63 c16_i32_193
  let c0_i32_34 : BitVec 32 := 0#32
  let c1_i32_35 : BitVec 32 := 1#32
  let arg17 : BitVec 32 := Scf.iv c0_i32_34 c1_i32_35 k0_t3
  let v328 : BitVec 32 := Scalar.addi v327 arg17
  let v332 : Index := Scalar.indexCast v328
  let c0_i32_197 : BitVec 32 := 0#32
  ![v66.toNat, v62.toNat, 0, v332.toNat, 4, 0]
def k0_off300 (i : grid0.Coords) (k0_t1 : Fin k0_t1_loop.trips) (k0_t3 : Fin k0_t3_loop.trips) : Fin 6 → Nat :=
  let arg0 : BitVec 32 := BitVec.ofNat 32 (i 0).val
  let c3_i32_33 : BitVec 32 := 3#32
  let v66 : BitVec 32 := Scalar.remsi arg0 c3_i32_33
  let c0_i32_20 : BitVec 32 := 0#32
  let c1_i32_21 : BitVec 32 := 1#32
  let arg16 : BitVec 32 := Scf.iv c0_i32_20 c1_i32_21 k0_t1
  let c1_i32_28 : BitVec 32 := 1#32
  let v61 : BitVec 32 := Scalar.subi arg16 c1_i32_28
  let c2_i32_29 : BitVec 32 := 2#32
  let v62 : BitVec 32 := Scalar.divsi v61 c2_i32_29
  let c2_i32_30 : BitVec 32 := 2#32
  let v63 : BitVec 32 := Scalar.remsi v61 c2_i32_30
  let c16_i32_200 : BitVec 32 := 16#32
  let v339 : BitVec 32 := Scalar.muli v63 c16_i32_200
  let c0_i32_34 : BitVec 32 := 0#32
  let c1_i32_35 : BitVec 32 := 1#32
  let arg17 : BitVec 32 := Scf.iv c0_i32_34 c1_i32_35 k0_t3
  let v340 : BitVec 32 := Scalar.addi v339 arg17
  let v344 : Index := Scalar.indexCast v340
  let c0_i32_204 : BitVec 32 := 0#32
  ![v66.toNat, v62.toNat, 8, v344.toNat, 4, 0]
def k0_off301 (i : grid0.Coords) (k0_t1 : Fin k0_t1_loop.trips) (k0_t3 : Fin k0_t3_loop.trips) : Fin 6 → Nat :=
  let arg0 : BitVec 32 := BitVec.ofNat 32 (i 0).val
  let c3_i32_33 : BitVec 32 := 3#32
  let v66 : BitVec 32 := Scalar.remsi arg0 c3_i32_33
  let c0_i32_20 : BitVec 32 := 0#32
  let c1_i32_21 : BitVec 32 := 1#32
  let arg16 : BitVec 32 := Scf.iv c0_i32_20 c1_i32_21 k0_t1
  let c1_i32_28 : BitVec 32 := 1#32
  let v61 : BitVec 32 := Scalar.subi arg16 c1_i32_28
  let c2_i32_29 : BitVec 32 := 2#32
  let v62 : BitVec 32 := Scalar.divsi v61 c2_i32_29
  let c2_i32_30 : BitVec 32 := 2#32
  let v63 : BitVec 32 := Scalar.remsi v61 c2_i32_30
  let c16_i32_208 : BitVec 32 := 16#32
  let v351 : BitVec 32 := Scalar.muli v63 c16_i32_208
  let c0_i32_34 : BitVec 32 := 0#32
  let c1_i32_35 : BitVec 32 := 1#32
  let arg17 : BitVec 32 := Scf.iv c0_i32_34 c1_i32_35 k0_t3
  let v352 : BitVec 32 := Scalar.addi v351 arg17
  let v356 : Index := Scalar.indexCast v352
  let c0_i32_212 : BitVec 32 := 0#32
  ![v66.toNat, v62.toNat, 16, v356.toNat, 4, 0]
def k0_off302 (i : grid0.Coords) (k0_t1 : Fin k0_t1_loop.trips) (k0_t3 : Fin k0_t3_loop.trips) : Fin 6 → Nat :=
  let arg0 : BitVec 32 := BitVec.ofNat 32 (i 0).val
  let c3_i32_33 : BitVec 32 := 3#32
  let v66 : BitVec 32 := Scalar.remsi arg0 c3_i32_33
  let c0_i32_20 : BitVec 32 := 0#32
  let c1_i32_21 : BitVec 32 := 1#32
  let arg16 : BitVec 32 := Scf.iv c0_i32_20 c1_i32_21 k0_t1
  let c1_i32_28 : BitVec 32 := 1#32
  let v61 : BitVec 32 := Scalar.subi arg16 c1_i32_28
  let c2_i32_29 : BitVec 32 := 2#32
  let v62 : BitVec 32 := Scalar.divsi v61 c2_i32_29
  let c2_i32_30 : BitVec 32 := 2#32
  let v63 : BitVec 32 := Scalar.remsi v61 c2_i32_30
  let c16_i32_216 : BitVec 32 := 16#32
  let v364 : BitVec 32 := Scalar.muli v63 c16_i32_216
  let c0_i32_34 : BitVec 32 := 0#32
  let c1_i32_35 : BitVec 32 := 1#32
  let arg17 : BitVec 32 := Scf.iv c0_i32_34 c1_i32_35 k0_t3
  let v365 : BitVec 32 := Scalar.addi v364 arg17
  let v369 : Index := Scalar.indexCast v365
  let c0_i32_220 : BitVec 32 := 0#32
  ![v66.toNat, v62.toNat, 24, v369.toNat, 4, 0]
def k0_off303 (i : grid0.Coords) (k0_t1 : Fin k0_t1_loop.trips) (k0_t3 : Fin k0_t3_loop.trips) : Fin 6 → Nat :=
  let arg0 : BitVec 32 := BitVec.ofNat 32 (i 0).val
  let c3_i32_33 : BitVec 32 := 3#32
  let v66 : BitVec 32 := Scalar.remsi arg0 c3_i32_33
  let c0_i32_20 : BitVec 32 := 0#32
  let c1_i32_21 : BitVec 32 := 1#32
  let arg16 : BitVec 32 := Scf.iv c0_i32_20 c1_i32_21 k0_t1
  let c1_i32_28 : BitVec 32 := 1#32
  let v61 : BitVec 32 := Scalar.subi arg16 c1_i32_28
  let c2_i32_29 : BitVec 32 := 2#32
  let v62 : BitVec 32 := Scalar.divsi v61 c2_i32_29
  let c0_i32_231 : BitVec 32 := 0#32
  let c2_i32_30 : BitVec 32 := 2#32
  let v63 : BitVec 32 := Scalar.remsi v61 c2_i32_30
  let c16_i32_230 : BitVec 32 := 16#32
  let v390 : BitVec 32 := Scalar.muli v63 c16_i32_230
  let c0_i32_34 : BitVec 32 := 0#32
  let c1_i32_35 : BitVec 32 := 1#32
  let arg17 : BitVec 32 := Scf.iv c0_i32_34 c1_i32_35 k0_t3
  let v391 : BitVec 32 := Scalar.addi v390 arg17
  let v395 : Index := Scalar.indexCast v391
  let c0_i32_234 : BitVec 32 := 0#32
  ![v66.toNat, v62.toNat, 0, v395.toNat, 6, 0]
def k0_off304 (i : grid0.Coords) (k0_t1 : Fin k0_t1_loop.trips) (k0_t3 : Fin k0_t3_loop.trips) : Fin 6 → Nat :=
  let arg0 : BitVec 32 := BitVec.ofNat 32 (i 0).val
  let c3_i32_33 : BitVec 32 := 3#32
  let v66 : BitVec 32 := Scalar.remsi arg0 c3_i32_33
  let c0_i32_20 : BitVec 32 := 0#32
  let c1_i32_21 : BitVec 32 := 1#32
  let arg16 : BitVec 32 := Scf.iv c0_i32_20 c1_i32_21 k0_t1
  let c1_i32_28 : BitVec 32 := 1#32
  let v61 : BitVec 32 := Scalar.subi arg16 c1_i32_28
  let c2_i32_29 : BitVec 32 := 2#32
  let v62 : BitVec 32 := Scalar.divsi v61 c2_i32_29
  let c2_i32_30 : BitVec 32 := 2#32
  let v63 : BitVec 32 := Scalar.remsi v61 c2_i32_30
  let c16_i32_237 : BitVec 32 := 16#32
  let v402 : BitVec 32 := Scalar.muli v63 c16_i32_237
  let c0_i32_34 : BitVec 32 := 0#32
  let c1_i32_35 : BitVec 32 := 1#32
  let arg17 : BitVec 32 := Scf.iv c0_i32_34 c1_i32_35 k0_t3
  let v403 : BitVec 32 := Scalar.addi v402 arg17
  let v407 : Index := Scalar.indexCast v403
  let c0_i32_241 : BitVec 32 := 0#32
  ![v66.toNat, v62.toNat, 8, v407.toNat, 6, 0]
def k0_off305 (i : grid0.Coords) (k0_t1 : Fin k0_t1_loop.trips) (k0_t3 : Fin k0_t3_loop.trips) : Fin 6 → Nat :=
  let arg0 : BitVec 32 := BitVec.ofNat 32 (i 0).val
  let c3_i32_33 : BitVec 32 := 3#32
  let v66 : BitVec 32 := Scalar.remsi arg0 c3_i32_33
  let c0_i32_20 : BitVec 32 := 0#32
  let c1_i32_21 : BitVec 32 := 1#32
  let arg16 : BitVec 32 := Scf.iv c0_i32_20 c1_i32_21 k0_t1
  let c1_i32_28 : BitVec 32 := 1#32
  let v61 : BitVec 32 := Scalar.subi arg16 c1_i32_28
  let c2_i32_29 : BitVec 32 := 2#32
  let v62 : BitVec 32 := Scalar.divsi v61 c2_i32_29
  let c2_i32_30 : BitVec 32 := 2#32
  let v63 : BitVec 32 := Scalar.remsi v61 c2_i32_30
  let c16_i32_245 : BitVec 32 := 16#32
  let v414 : BitVec 32 := Scalar.muli v63 c16_i32_245
  let c0_i32_34 : BitVec 32 := 0#32
  let c1_i32_35 : BitVec 32 := 1#32
  let arg17 : BitVec 32 := Scf.iv c0_i32_34 c1_i32_35 k0_t3
  let v415 : BitVec 32 := Scalar.addi v414 arg17
  let v419 : Index := Scalar.indexCast v415
  let c0_i32_249 : BitVec 32 := 0#32
  ![v66.toNat, v62.toNat, 16, v419.toNat, 6, 0]
def k0_off306 (i : grid0.Coords) (k0_t1 : Fin k0_t1_loop.trips) (k0_t3 : Fin k0_t3_loop.trips) : Fin 6 → Nat :=
  let arg0 : BitVec 32 := BitVec.ofNat 32 (i 0).val
  let c3_i32_33 : BitVec 32 := 3#32
  let v66 : BitVec 32 := Scalar.remsi arg0 c3_i32_33
  let c0_i32_20 : BitVec 32 := 0#32
  let c1_i32_21 : BitVec 32 := 1#32
  let arg16 : BitVec 32 := Scf.iv c0_i32_20 c1_i32_21 k0_t1
  let c1_i32_28 : BitVec 32 := 1#32
  let v61 : BitVec 32 := Scalar.subi arg16 c1_i32_28
  let c2_i32_29 : BitVec 32 := 2#32
  let v62 : BitVec 32 := Scalar.divsi v61 c2_i32_29
  let c2_i32_30 : BitVec 32 := 2#32
  let v63 : BitVec 32 := Scalar.remsi v61 c2_i32_30
  let c16_i32_253 : BitVec 32 := 16#32
  let v427 : BitVec 32 := Scalar.muli v63 c16_i32_253
  let c0_i32_34 : BitVec 32 := 0#32
  let c1_i32_35 : BitVec 32 := 1#32
  let arg17 : BitVec 32 := Scf.iv c0_i32_34 c1_i32_35 k0_t3
  let v428 : BitVec 32 := Scalar.addi v427 arg17
  let v432 : Index := Scalar.indexCast v428
  let c0_i32_257 : BitVec 32 := 0#32
  ![v66.toNat, v62.toNat, 24, v432.toNat, 6, 0]
def k0_cond7 (i : grid0.Coords) : BitVec 1 :=
  let arg0 : BitVec 32 := BitVec.ofNat 32 (i 0).val
  let c63_i32 : BitVec 32 := 63#32
  let v52 : BitVec 1 := Scalar.cmpi .eq arg0 c63_i32
  let v53 : BitVec 32 := Scalar.extui v52
  let c0_i32_23 : BitVec 32 := 0#32
  let v54 : BitVec 1 := Scalar.cmpi .ne v53 c0_i32_23
  v54

def k0_off307 (i : grid0.Coords) : Fin 1 → Nat :=
  let arg0 : BitVec 32 := BitVec.ofNat 32 (i 0).val
  let c3_i32_24 : BitVec 32 := 3#32
  let v55 : BitVec 32 := Scalar.remsi arg0 c3_i32_24
  ![v55.toNat]
def k0_off308 (i : grid0.Coords) : Fin 5 → Nat :=
  let c0_i32_25 : BitVec 32 := 0#32
  let c0_i32_26 : BitVec 32 := 0#32
  let arg0 : BitVec 32 := BitVec.ofNat 32 (i 0).val
  let c32_i32 : BitVec 32 := 32#32
  let v56 : BitVec 32 := Scalar.muli arg0 c32_i32
  let c0_i32_27 : BitVec 32 := 0#32
  let c0_i32_28 : BitVec 32 := 0#32
  ![0, 0, v56.toNat, 0, 0]
def k0_off309 (i : grid0.Coords) : Fin 6 → Nat :=
  let arg0 : BitVec 32 := BitVec.ofNat 32 (i 0).val
  let c3_i32_24 : BitVec 32 := 3#32
  let v55 : BitVec 32 := Scalar.remsi arg0 c3_i32_24
  let c0_i32_29 : BitVec 32 := 0#32
  let c0_i32_30 : BitVec 32 := 0#32
  let c0_i32_31 : BitVec 32 := 0#32
  let c0_i32_32 : BitVec 32 := 0#32
  let c0_i32_33 : BitVec 32 := 0#32
  ![v55.toNat, 0, 0, 0, 0, 0]
def k0_off310 (i : grid0.Coords) (c2_i32_34 : BitVec 32) : Fin 1 → Nat :=
  let arg0 : BitVec 32 := BitVec.ofNat 32 (i 0).val
  let v62 : BitVec 32 := Scalar.subi arg0 c2_i32_34
  let c3_i32_35 : BitVec 32 := 3#32
  let v63 : BitVec 32 := Scalar.remsi v62 c3_i32_35
  ![v63.toNat]
def k0_off311 (i : grid0.Coords) (c2_i32_34 : BitVec 32) : Fin 5 → Nat :=
  let c0_i32_37 : BitVec 32 := 0#32
  let c0_i32_38 : BitVec 32 := 0#32
  let arg0 : BitVec 32 := BitVec.ofNat 32 (i 0).val
  let v62 : BitVec 32 := Scalar.subi arg0 c2_i32_34
  let c32_i32_36 : BitVec 32 := 32#32
  let v64 : BitVec 32 := Scalar.muli v62 c32_i32_36
  let c0_i32_39 : BitVec 32 := 0#32
  let c0_i32_40 : BitVec 32 := 0#32
  ![0, 0, v64.toNat, 0, 0]
def k0_off312 (i : grid0.Coords) (c2_i32_34 : BitVec 32) : Fin 6 → Nat :=
  let arg0 : BitVec 32 := BitVec.ofNat 32 (i 0).val
  let v62 : BitVec 32 := Scalar.subi arg0 c2_i32_34
  let c3_i32_35 : BitVec 32 := 3#32
  let v63 : BitVec 32 := Scalar.remsi v62 c3_i32_35
  let c0_i32_41 : BitVec 32 := 0#32
  let c0_i32_42 : BitVec 32 := 0#32
  let c0_i32_43 : BitVec 32 := 0#32
  let c0_i32_44 : BitVec 32 := 0#32
  let c0_i32_45 : BitVec 32 := 0#32
  ![v63.toNat, 0, 0, 0, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2x351x256 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S26x2x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S27x2x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
abbrev S2x16384x351 : Shape := ⟨3, ![2, 16384, 351]⟩
abbrev S2x16384x26 : Shape := ⟨3, ![2, 16384, 26]⟩
abbrev S2x16384x27x128 : Shape := ⟨4, ![2, 16384, 27, 128]⟩
abbrev S2x16384x27 : Shape := ⟨3, ![2, 16384, 27]⟩
abbrev S2x16384x128 : Shape := ⟨3, ![2, 16384, 128]⟩
abbrev S2x351x16384 : Shape := ⟨3, ![2, 351, 16384]⟩
abbrev S26x2x16384 : Shape := ⟨3, ![26, 2, 16384]⟩
abbrev S27x2x16384 : Shape := ⟨3, ![27, 2, 16384]⟩
abbrev S2x27x16384x128 : Shape := ⟨4, ![2, 27, 16384, 128]⟩
abbrev S2x27x2048x8x128 : Shape := ⟨5, ![2, 27, 2048, 8, 128]⟩
abbrev S2x351x256 : Shape := ⟨3, ![2, 351, 256]⟩
abbrev S26x2x256 : Shape := ⟨3, ![26, 2, 256]⟩
abbrev S27x2x256 : Shape := ⟨3, ![27, 2, 256]⟩
abbrev S2x256x128 : Shape := ⟨3, ![2, 256, 128]⟩
abbrev S3x2x32x288x128 : Shape := ⟨5, ![3, 2, 32, 288, 128]⟩
abbrev S3x2x27x33x8x128 : Shape := ⟨6, ![3, 2, 27, 33, 8, 128]⟩
abbrev S2x352x128 : Shape := ⟨3, ![2, 352, 128]⟩
abbrev S2x2x32x128 : Shape := ⟨4, ![2, 2, 32, 128]⟩
abbrev S2x1008x128 : Shape := ⟨3, ![2, 1008, 128]⟩
abbrev S2x2560x128 : Shape := ⟨3, ![2, 2560, 128]⟩
abbrev S2x2560x2x128 : Shape := ⟨4, ![2, 2560, 2, 128]⟩
abbrev S2x2560x1x128 : Shape := ⟨4, ![2, 2560, 1, 128]⟩
abbrev S2x1152x128 : Shape := ⟨3, ![2, 1152, 128]⟩
abbrev S3 : Shape := ⟨1, ![3]⟩
abbrev S1 : Shape := ⟨1, ![1]⟩
abbrev S_ : Shape := ⟨0, ![]⟩
abbrev S1x2x27x256x128 : Shape := ⟨5, ![1, 2, 27, 256, 128]⟩
abbrev S2x27x256x128 : Shape := ⟨4, ![2, 27, 256, 128]⟩
abbrev S1x288x128 : Shape := ⟨3, ![1, 288, 128]⟩
abbrev S1x1x1x288x128 : Shape := ⟨5, ![1, 1, 1, 288, 128]⟩
abbrev S2x27x32x8x128 : Shape := ⟨5, ![2, 27, 32, 8, 128]⟩
abbrev S1x2x27x32x8x128 : Shape := ⟨6, ![1, 2, 27, 32, 8, 128]⟩
abbrev S8x128 : Shape := ⟨2, ![8, 128]⟩
abbrev S1x351x128 : Shape := ⟨3, ![1, 351, 128]⟩
abbrev S351x128 : Shape := ⟨2, ![351, 128]⟩
abbrev S26x1x128 : Shape := ⟨3, ![26, 1, 128]⟩
abbrev S26x128 : Shape := ⟨2, ![26, 128]⟩
abbrev S1x1x26x128 : Shape := ⟨4, ![1, 1, 26, 128]⟩
abbrev S27x1x128 : Shape := ⟨3, ![27, 1, 128]⟩
abbrev S27x128 : Shape := ⟨2, ![27, 128]⟩
abbrev S1x1x27x128 : Shape := ⟨4, ![1, 1, 27, 128]⟩
abbrev S1x1x1x128 : Shape := ⟨4, ![1, 1, 1, 128]⟩
abbrev S1x128 : Shape := ⟨2, ![1, 128]⟩
abbrev S1x1x128 : Shape := ⟨3, ![1, 1, 128]⟩
abbrev S1x2x128 : Shape := ⟨3, ![1, 2, 128]⟩
abbrev S2x128 : Shape := ⟨2, ![2, 128]⟩
abbrev S1x1x2x128 : Shape := ⟨4, ![1, 1, 2, 128]⟩
abbrev S1x3x128 : Shape := ⟨3, ![1, 3, 128]⟩
abbrev S3x128 : Shape := ⟨2, ![3, 128]⟩
abbrev S1x1x3x128 : Shape := ⟨4, ![1, 1, 3, 128]⟩
abbrev S1x4x128 : Shape := ⟨3, ![1, 4, 128]⟩
abbrev S4x128 : Shape := ⟨2, ![4, 128]⟩
abbrev S1x1x4x128 : Shape := ⟨4, ![1, 1, 4, 128]⟩
abbrev S1x5x128 : Shape := ⟨3, ![1, 5, 128]⟩
abbrev S5x128 : Shape := ⟨2, ![5, 128]⟩
abbrev S1x1x5x128 : Shape := ⟨4, ![1, 1, 5, 128]⟩
abbrev S1x6x128 : Shape := ⟨3, ![1, 6, 128]⟩
abbrev S6x128 : Shape := ⟨2, ![6, 128]⟩
abbrev S1x1x6x128 : Shape := ⟨4, ![1, 1, 6, 128]⟩
abbrev S1x7x128 : Shape := ⟨3, ![1, 7, 128]⟩
abbrev S7x128 : Shape := ⟨2, ![7, 128]⟩
abbrev S1x1x7x128 : Shape := ⟨4, ![1, 1, 7, 128]⟩
abbrev S1x8x128 : Shape := ⟨3, ![1, 8, 128]⟩
abbrev S1x1x8x128 : Shape := ⟨4, ![1, 1, 8, 128]⟩
abbrev S8x128x1 : Shape := ⟨3, ![8, 128, 1]⟩
abbrev S128x128 : Shape := ⟨2, ![128, 128]⟩
abbrev S1x8x2x128 : Shape := ⟨4, ![1, 8, 2, 128]⟩
abbrev S1x8x1x128 : Shape := ⟨4, ![1, 8, 1, 128]⟩
abbrev S1x128x128 : Shape := ⟨3, ![1, 128, 128]⟩
abbrev S1x1x32x288x128 : Shape := ⟨5, ![1, 1, 32, 288, 128]⟩
abbrev S32x288x128 : Shape := ⟨3, ![32, 288, 128]⟩
abbrev S8x4x128 : Shape := ⟨3, ![8, 4, 128]⟩
abbrev S32x128 : Shape := ⟨2, ![32, 128]⟩
abbrev S1x16x128 : Shape := ⟨3, ![1, 16, 128]⟩
abbrev S1x16x2x128 : Shape := ⟨4, ![1, 16, 2, 128]⟩
abbrev S1x16x1x128 : Shape := ⟨4, ![1, 16, 1, 128]⟩
abbrev S16x128 : Shape := ⟨2, ![16, 128]⟩
abbrev S64x128 : Shape := ⟨2, ![64, 128]⟩
abbrev S1x1x27x33x8x128 : Shape := ⟨6, ![1, 1, 27, 33, 8, 128]⟩
abbrev S27x33x8x128 : Shape := ⟨4, ![27, 33, 8, 128]⟩
abbrev S27x33x4x128 : Shape := ⟨4, ![27, 33, 4, 128]⟩
abbrev S8x1x1x128 : Shape := ⟨4, ![8, 1, 1, 128]⟩
abbrev S1x1x8x1x2x128 : Shape := ⟨6, ![1, 1, 8, 1, 2, 128]⟩
abbrev S1x1x8x1x1x128 : Shape := ⟨6, ![1, 1, 8, 1, 1, 128]⟩
abbrev S3x1x1x128 : Shape := ⟨4, ![3, 1, 1, 128]⟩
abbrev S1x1x3x1x2x128 : Shape := ⟨6, ![1, 1, 3, 1, 2, 128]⟩
abbrev S1x1x3x1x1x128 : Shape := ⟨6, ![1, 1, 3, 1, 1, 128]⟩

abbrev nBuf : Space → Nat
  | .hbm => 12
  | .vmem => 15
  | .smem => 0
  | _ => 0

abbrev bufTy : (tb : Table) → Fin (tcTables nBuf tb) → BufTy
  | .hbm, ⟨0, _⟩ => ⟨S2x16384x351, .fp8e5m2⟩
  | .hbm, ⟨1, _⟩ => ⟨S2x16384x26, .f32⟩
  | .hbm, ⟨2, _⟩ => ⟨S2x16384x27x128, .fp8e4m3⟩
  | .hbm, ⟨3, _⟩ => ⟨S2x16384x27, .f32⟩
  | .hbm, ⟨4, _⟩ => ⟨S2x16384x128, .bf16⟩
  | .hbm, ⟨5, _⟩ => ⟨S2x351x16384, .fp8e5m2⟩
  | .hbm, ⟨6, _⟩ => ⟨S26x2x16384, .f32⟩
  | .hbm, ⟨7, _⟩ => ⟨S27x2x16384, .f32⟩
  | .hbm, ⟨8, _⟩ => ⟨S2x27x16384x128, .fp8e4m3⟩
  | .hbm, ⟨9, _⟩ => ⟨S2x27x2048x8x128, .bf16⟩
  | .hbm, ⟨10, _⟩ => ⟨S2x27x16384x128, .bf16⟩
  | .hbm, ⟨11, _⟩ => ⟨S2x16384x27x128, .bf16⟩
  | .local _ .vmem, ⟨0, _⟩ => ⟨S2x351x256, .fp8e5m2⟩
  | .local _ .vmem, ⟨1, _⟩ => ⟨S2x351x256, .fp8e5m2⟩
  | .local _ .vmem, ⟨2, _⟩ => ⟨S26x2x256, .f32⟩
  | .local _ .vmem, ⟨3, _⟩ => ⟨S26x2x256, .f32⟩
  | .local _ .vmem, ⟨4, _⟩ => ⟨S27x2x256, .f32⟩
  | .local _ .vmem, ⟨5, _⟩ => ⟨S27x2x256, .f32⟩
  | .local _ .vmem, ⟨6, _⟩ => ⟨S2x256x128, .bf16⟩
  | .local _ .vmem, ⟨7, _⟩ => ⟨S2x256x128, .bf16⟩
  | .local _ .vmem, ⟨8, _⟩ => ⟨S3x2x32x288x128, .fp8e4m3⟩
  | .local _ .vmem, ⟨9, _⟩ => ⟨S3x2x27x33x8x128, .bf16⟩
  | .local _ .vmem, ⟨10, _⟩ => ⟨S2x352x128, .f32⟩
  | .local _ .vmem, ⟨11, _⟩ => ⟨S2x2x32x128, .f32⟩
  | .local _ .vmem, ⟨12, _⟩ => ⟨S2x1008x128, .f32⟩
  | .local _ .vmem, ⟨13, _⟩ => ⟨S2x2560x2x128, .bf16⟩
  | .local _ .vmem, ⟨14, _⟩ => ⟨S2x1152x128, .f32⟩
  | _, _ => ⟨S2x16384x351, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (c0_i32_24 : BitVec 32) : Fin 1 → Nat :=
  let c3_i32_25 : BitVec 32 := 3#32
  let v55 : BitVec 32 := Scalar.remsi c0_i32_24 c3_i32_25
  ![v55.toNat]
def k0_off2 (c0_i32_24 : BitVec 32) : Fin 5 → Nat :=
  let c3_i32_25 : BitVec 32 := 3#32
  let v55 : BitVec 32 := Scalar.remsi c0_i32_24 c3_i32_25
  let c0_i32_26 : BitVec 32 := 0#32
  let c0_i32_27 : BitVec 32 := 0#32
  let c0_i32_28 : BitVec 32 := 0#32
  let c0_i32_29 : BitVec 32 := 0#32
  ![v55.toNat, 0, 0, 0, 0]
def k0_cond2 (i : grid0.Coords) : BitVec 1 :=
  let arg0 : BitVec 32 := BitVec.ofNat 32 (i 0).val
  let c1_i32 : BitVec 32 := 1#32
  let v3 : BitVec 1 := Scalar.cmpi .sge arg0 c1_i32
  let v4 : BitVec 32 := Scalar.extui v3
  let c0_i32_1 : BitVec 32 := 0#32
  let v5 : BitVec 1 := Scalar.cmpi .ne v4 c0_i32_1
  v5

def k0_off3 (i : grid0.Coords) : Fin 1 → Nat :=
  let arg0 : BitVec 32 := BitVec.ofNat 32 (i 0).val
  let c1_i32_24 : BitVec 32 := 1#32
  let v55 : BitVec 32 := Scalar.subi arg0 c1_i32_24
  let c3_i32_25 : BitVec 32 := 3#32
  let v56 : BitVec 32 := Scalar.remsi v55 c3_i32_25
  ![v56.toNat]
def k0_off4 (i : grid0.Coords) : Fin 5 → Nat :=
  let c0_i32_26 : BitVec 32 := 0#32
  let c0_i32_27 : BitVec 32 := 0#32
  let arg0 : BitVec 32 := BitVec.ofNat 32 (i 0).val
  let c1_i32_24 : BitVec 32 := 1#32
  let v55 : BitVec 32 := Scalar.subi arg0 c1_i32_24
  let c32_i32 : BitVec 32 := 32#32
  let v57 : BitVec 32 := Scalar.muli v55 c32_i32
  let c0_i32_28 : BitVec 32 := 0#32
  let c0_i32_29 : BitVec 32 := 0#32
  ![0, 0, v57.toNat, 0, 0]
def k0_off5 (i : grid0.Coords) : Fin 6 → Nat :=
  let arg0 : BitVec 32 := BitVec.ofNat 32 (i 0).val
  let c1_i32_24 : BitVec 32 := 1#32
  let v55 : BitVec 32 := Scalar.subi arg0 c1_i32_24
  let c3_i32_25 : BitVec 32 := 3#32
  let v56 : BitVec 32 := Scalar.remsi v55 c3_i32_25
  let c0_i32_30 : BitVec 32 := 0#32
  let c0_i32_31 : BitVec 32 := 0#32
  let c0_i32_32 : BitVec 32 := 0#32
  let c0_i32_33 : BitVec 32 := 0#32
  let c0_i32_34 : BitVec 32 := 0#32
  ![v56.toNat, 0, 0, 0, 0, 0]
def k0_cond3 (i : grid0.Coords) : BitVec 1 :=
  let arg0 : BitVec 32 := BitVec.ofNat 32 (i 0).val
  let c2_i32 : BitVec 32 := 2#32
  let v6 : BitVec 32 := Scalar.addi arg0 c2_i32
  let c64_i32 : BitVec 32 := 64#32
  let v7 : BitVec 1 := Scalar.cmpi .slt v6 c64_i32
  let v8 : BitVec 32 := Scalar.extui v7
  let c0_i32_2 : BitVec 32 := 0#32
  let v9 : BitVec 1 := Scalar.cmpi .ne v8 c0_i32_2
  v9

def k0_off6 (i : grid0.Coords) : Fin 1 → Nat :=
  let arg0 : BitVec 32 := BitVec.ofNat 32 (i 0).val
  let c2_i32_24 : BitVec 32 := 2#32
  let v55 : BitVec 32 := Scalar.addi arg0 c2_i32_24
  let c3_i32_25 : BitVec 32 := 3#32
  let v56 : BitVec 32 := Scalar.remsi v55 c3_i32_25
  ![v56.toNat]
def k0_off7 (i : grid0.Coords) : Fin 5 → Nat :=
  let arg0 : BitVec 32 := BitVec.ofNat 32 (i 0).val
  let c2_i32_24 : BitVec 32 := 2#32
  let v55 : BitVec 32 := Scalar.addi arg0 c2_i32_24
  let c3_i32_25 : BitVec 32 := 3#32
  let v56 : BitVec 32 := Scalar.remsi v55 c3_i32_25
  let c0_i32_27 : BitVec 32 := 0#32
  let c0_i32_28 : BitVec 32 := 0#32
  let c0_i32_29 : BitVec 32 := 0#32
  let c0_i32_30 : BitVec 32 := 0#32
  ![v56.toNat, 0, 0, 0, 0]
def k0_off8 (i : grid0.Coords) : Fin 4 → Nat :=
  let c0_i32_31 : BitVec 32 := 0#32
  let c0_i32_32 : BitVec 32 := 0#32
  let arg0 : BitVec 32 := BitVec.ofNat 32 (i 0).val
  let c2_i32_24 : BitVec 32 := 2#32
  let v55 : BitVec 32 := Scalar.addi arg0 c2_i32_24
  let c256_i32_26 : BitVec 32 := 256#32
  let v57 : BitVec 32 := Scalar.muli v55 c256_i32_26
  let c0_i32_33 : BitVec 32 := 0#32
  ![0, 0, v57.toNat, 0]
def k0_off9 (i : grid0.Coords) : Fin 1 → Nat :=
  let arg0 : BitVec 32 := BitVec.ofNat 32 (i 0).val
  let c3_i32_10 : BitVec 32 := 3#32
  let v41 : BitVec 32 := Scalar.remsi arg0 c3_i32_10
  ![v41.toNat]
def k0_off10 (i : grid0.Coords) : Fin 5 → Nat :=
  let arg0 : BitVec 32 := BitVec.ofNat 32 (i 0).val
  let c3_i32_10 : BitVec 32 := 3#32
  let v41 : BitVec 32 := Scalar.remsi arg0 c3_i32_10
  let c0_i32_11 : BitVec 32 := 0#32
  let c0_i32_12 : BitVec 32 := 0#32
  let c0_i32_13 : BitVec 32 := 0#32
  let c0_i32_14 : BitVec 32 := 0#32
  ![v41.toNat, 0, 0, 0, 0]
def k0_off11 (i : grid0.Coords) : Fin 4 → Nat :=
  let c0_i32_15 : BitVec 32 := 0#32
  let c0_i32_16 : BitVec 32 := 0#32
  let arg0 : BitVec 32 := BitVec.ofNat 32 (i 0).val
  let c256_i32 : BitVec 32 := 256#32
  let v42 : BitVec 32 := Scalar.muli arg0 c256_i32
  let c0_i32_17 : BitVec 32 := 0#32
  ![0, 0, v42.toNat, 0]
def k0_cond4 (i : grid0.Coords) : BitVec 1 :=
  let arg0 : BitVec 32 := BitVec.ofNat 32 (i 0).val
  let c3_i32_18 : BitVec 32 := 3#32
  let v48 : BitVec 1 := Scalar.cmpi .sge arg0 c3_i32_18
  let v49 : BitVec 32 := Scalar.extui v48
  let c0_i32_19 : BitVec 32 := 0#32
  let v50 : BitVec 1 := Scalar.cmpi .ne v49 c0_i32_19
  v50

def k0_off12 (i : grid0.Coords) : Fin 1 → Nat :=
  let arg0 : BitVec 32 := BitVec.ofNat 32 (i 0).val
  let c3_i32_24 : BitVec 32 := 3#32
  let v55 : BitVec 32 := Scalar.subi arg0 c3_i32_24
  let c3_i32_25 : BitVec 32 := 3#32
  let v56 : BitVec 32 := Scalar.remsi v55 c3_i32_25
  ![v56.toNat]
def k0_off13 (i : grid0.Coords) : Fin 5 → Nat :=
  let c0_i32_26 : BitVec 32 := 0#32
  let c0_i32_27 : BitVec 32 := 0#32
  let arg0 : BitVec 32 := BitVec.ofNat 32 (i 0).val
  let c3_i32_24 : BitVec 32 := 3#32
  let v55 : BitVec 32 := Scalar.subi arg0 c3_i32_24
  let c32_i32 : BitVec 32 := 32#32
  let v57 : BitVec 32 := Scalar.muli v55 c32_i32
  let c0_i32_28 : BitVec 32 := 0#32
  let c0_i32_29 : BitVec 32 := 0#32
  ![0, 0, v57.toNat, 0, 0]
def k0_off14 (i : grid0.Coords) : Fin 6 → Nat :=
  let arg0 : BitVec 32 := BitVec.ofNat 32 (i 0).val
  let c3_i32_24 : BitVec 32 := 3#32
  let v55 : BitVec 32 := Scalar.subi arg0 c3_i32_24
  let c3_i32_25 : BitVec 32 := 3#32
  let v56 : BitVec 32 := Scalar.remsi v55 c3_i32_25
  let c0_i32_30 : BitVec 32 := 0#32
  let c0_i32_31 : BitVec 32 := 0#32
  let c0_i32_32 : BitVec 32 := 0#32
  let c0_i32_33 : BitVec 32 := 0#32
  let c0_i32_34 : BitVec 32 := 0#32
  ![v56.toNat, 0, 0, 0, 0, 0]
@[reducible] def k0_t1_loop : Scf.Loop 32 :=
  let c0_i32_20 : BitVec 32 := 0#32
  let c5_i32 : BitVec 32 := 5#32
  let v51 : BitVec 32 := Scalar.addi c0_i32_20 c5_i32
  let c1_i32_21 : BitVec 32 := 1#32
  ⟨c0_i32_20, v51, c1_i32_21⟩
def k0_cond5 (k0_t1 : Fin k0_t1_loop.trips) : BitVec 1 :=
  let c0_i32_20 : BitVec 32 := 0#32
  let c1_i32_21 : BitVec 32 := 1#32
  let arg16 : BitVec 32 := Scf.iv c0_i32_20 c1_i32_21 k0_t1
  let c4_i32_24 : BitVec 32 := 4#32
  let v55 : BitVec 1 := Scalar.cmpi .slt arg16 c4_i32_24
  let v56 : BitVec 32 := Scalar.extui v55
  let c0_i32_25 : BitVec 32 := 0#32
  let v57 : BitVec 1 := Scalar.cmpi .ne v56 c0_i32_25
  v57

def k0_mult1 (k0_t1 : Fin k0_t1_loop.trips) : BitVec 32 :=
  let c0_i32_20 : BitVec 32 := 0#32
  let c1_i32_21 : BitVec 32 := 1#32
  let arg16 : BitVec 32 := Scf.iv c0_i32_20 c1_i32_21 k0_t1
  let c2_i32_29 : BitVec 32 := 2#32
  let v62 : BitVec 32 := Scalar.remsi arg16 c2_i32_29
  let c128_i32 : BitVec 32 := 128#32
  let v64 : BitVec 32 := Scalar.muli v62 c128_i32
  v64
def k0_off15 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_28 : BitVec 32 := 2#32
  let v61 : BitVec 32 := Scalar.divsi arg16 c2_i32_28
  let v66 : Index := Scalar.indexCast v61
  let c0 : Index := 0#32
  let c2_i32_29 : BitVec 32 := 2#32
  let v62 : BitVec 32 := Scalar.remsi arg16 c2_i32_29
  let c128_i32 : BitVec 32 := 128#32
  let v64 : BitVec 32 := Scalar.muli v62 c128_i32
  let v65 : BitVec 32 := v64
  let v67 : Index := Scalar.indexCast v65
  ![v66.toNat, 0, v67.toNat]
def k0_off16 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v71 : Index := Scalar.indexCast v63
  let c0_31 : Index := 0#32
  let c0_32 : Index := 0#32
  ![v71.toNat, 0, 0]
def k0_off17 (k0_t1 : Fin k0_t1_loop.trips) : Fin 3 → Nat :=
  let c0_33 : Index := 0#32
  let c0_i32_20 : BitVec 32 := 0#32
  let c1_i32_21 : BitVec 32 := 1#32
  let arg16 : BitVec 32 := Scf.iv c0_i32_20 c1_i32_21 k0_t1
  let c2_i32_28 : BitVec 32 := 2#32
  let v61 : BitVec 32 := Scalar.divsi arg16 c2_i32_28
  let v75 : Index := Scalar.indexCast v61
  let c2_i32_29 : BitVec 32 := 2#32
  let v62 : BitVec 32 := Scalar.remsi arg16 c2_i32_29
  let c128_i32 : BitVec 32 := 128#32
  let v64 : BitVec 32 := Scalar.muli v62 c128_i32
  let v65 : BitVec 32 := v64
  let v76 : Index := Scalar.indexCast v65
  ![0, v75.toNat, v76.toNat]
def k0_off18 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v81 : Index := Scalar.indexCast v63
  let c0_34 : Index := 0#32
  let c0_35 : Index := 0#32
  let c0_36 : Index := 0#32
  ![v81.toNat, 0, 0, 0]
def k0_off19 (k0_t1 : Fin k0_t1_loop.trips) : Fin 3 → Nat :=
  let c0_37 : Index := 0#32
  let c0_i32_20 : BitVec 32 := 0#32
  let c1_i32_21 : BitVec 32 := 1#32
  let arg16 : BitVec 32 := Scf.iv c0_i32_20 c1_i32_21 k0_t1
  let c2_i32_28 : BitVec 32 := 2#32
  let v61 : BitVec 32 := Scalar.divsi arg16 c2_i32_28
  let v85 : Index := Scalar.indexCast v61
  let c2_i32_29 : BitVec 32 := 2#32
  let v62 : BitVec 32 := Scalar.remsi arg16 c2_i32_29
  let c128_i32 : BitVec 32 := 128#32
  let v64 : BitVec 32 := Scalar.muli v62 c128_i32
  let v65 : BitVec 32 := v64
  let v86 : Index := Scalar.indexCast v65
  ![0, v85.toNat, v86.toNat]
def k0_off20 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v91 : Index := Scalar.indexCast v63
  let c1 : Index := 1#32
  let c0_38 : Index := 0#32
  let c0_39 : Index := 0#32
  ![v91.toNat, 1, 0, 0]
def k0_off21 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v95 : Index := Scalar.indexCast v63
  let c0_40 : Index := 0#32
  let c0_41 : Index := 0#32
  let c0_42 : Index := 0#32
  ![v95.toNat, 0, 0, 0]
def k0_off22 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v100 : Index := Scalar.indexCast v63
  let c1_43 : Index := 1#32
  let c1_44 : Index := 1#32
  let c0_45 : Index := 0#32
  ![v100.toNat, 1, 1, 0]
def k0_off23 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v105 : Index := Scalar.indexCast v63
  let c0_46 : Index := 0#32
  let c0_47 : Index := 0#32
  ![v105.toNat, 0, 0]
def k0_off24 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v112 : Index := Scalar.indexCast v63
  let c1_48 : Index := 1#32
  let c0_49 : Index := 0#32
  let c0_50 : Index := 0#32
  ![v112.toNat, 1, 0, 0]
def k0_off25 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v116 : Index := Scalar.indexCast v63
  let c36 : Index := 36#32
  let c0_51 : Index := 0#32
  ![v116.toNat, 36, 0]
def k0_off26 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v122 : Index := Scalar.indexCast v63
  let c1_52 : Index := 1#32
  let c0_53 : Index := 0#32
  ![v122.toNat, 1, 0]
def k0_off27 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v126 : Index := Scalar.indexCast v63
  let c0_54 : Index := 0#32
  let c1_55 : Index := 1#32
  let c0_56 : Index := 0#32
  ![v126.toNat, 0, 1, 0]
def k0_off28 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v131 : Index := Scalar.indexCast v63
  let c1_57 : Index := 1#32
  let c2 : Index := 2#32
  let c0_58 : Index := 0#32
  ![v131.toNat, 1, 2, 0]
def k0_off29 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v136 : Index := Scalar.indexCast v63
  let c1_59 : Index := 1#32
  let c0_60 : Index := 0#32
  ![v136.toNat, 1, 0]
def k0_off30 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v143 : Index := Scalar.indexCast v63
  let c1_61 : Index := 1#32
  let c0_62 : Index := 0#32
  let c0_63 : Index := 0#32
  ![v143.toNat, 1, 0, 0]
def k0_off31 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v147 : Index := Scalar.indexCast v63
  let c72 : Index := 72#32
  let c0_64 : Index := 0#32
  ![v147.toNat, 72, 0]
def k0_off32 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v153 : Index := Scalar.indexCast v63
  let c2_65 : Index := 2#32
  let c0_66 : Index := 0#32
  ![v153.toNat, 2, 0]
def k0_off33 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v157 : Index := Scalar.indexCast v63
  let c0_67 : Index := 0#32
  let c2_68 : Index := 2#32
  let c0_69 : Index := 0#32
  ![v157.toNat, 0, 2, 0]
def k0_off34 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v162 : Index := Scalar.indexCast v63
  let c1_70 : Index := 1#32
  let c3 : Index := 3#32
  let c0_71 : Index := 0#32
  ![v162.toNat, 1, 3, 0]
def k0_off35 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v167 : Index := Scalar.indexCast v63
  let c3_72 : Index := 3#32
  let c0_73 : Index := 0#32
  ![v167.toNat, 3, 0]
def k0_off36 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v174 : Index := Scalar.indexCast v63
  let c1_74 : Index := 1#32
  let c0_75 : Index := 0#32
  let c0_76 : Index := 0#32
  ![v174.toNat, 1, 0, 0]
def k0_off37 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v178 : Index := Scalar.indexCast v63
  let c108 : Index := 108#32
  let c0_77 : Index := 0#32
  ![v178.toNat, 108, 0]
def k0_off38 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v184 : Index := Scalar.indexCast v63
  let c3_78 : Index := 3#32
  let c0_79 : Index := 0#32
  ![v184.toNat, 3, 0]
def k0_off39 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v188 : Index := Scalar.indexCast v63
  let c0_80 : Index := 0#32
  let c3_81 : Index := 3#32
  let c0_82 : Index := 0#32
  ![v188.toNat, 0, 3, 0]
def k0_off40 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v193 : Index := Scalar.indexCast v63
  let c1_83 : Index := 1#32
  let c4 : Index := 4#32
  let c0_84 : Index := 0#32
  ![v193.toNat, 1, 4, 0]
def k0_off41 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v198 : Index := Scalar.indexCast v63
  let c6 : Index := 6#32
  let c0_85 : Index := 0#32
  ![v198.toNat, 6, 0]
def k0_off42 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v205 : Index := Scalar.indexCast v63
  let c1_86 : Index := 1#32
  let c0_87 : Index := 0#32
  let c0_88 : Index := 0#32
  ![v205.toNat, 1, 0, 0]
def k0_off43 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v209 : Index := Scalar.indexCast v63
  let c144 : Index := 144#32
  let c0_89 : Index := 0#32
  ![v209.toNat, 144, 0]
def k0_off44 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v215 : Index := Scalar.indexCast v63
  let c4_90 : Index := 4#32
  let c0_91 : Index := 0#32
  ![v215.toNat, 4, 0]
def k0_off45 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v219 : Index := Scalar.indexCast v63
  let c0_92 : Index := 0#32
  let c4_93 : Index := 4#32
  let c0_94 : Index := 0#32
  ![v219.toNat, 0, 4, 0]
def k0_off46 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v224 : Index := Scalar.indexCast v63
  let c1_95 : Index := 1#32
  let c5 : Index := 5#32
  let c0_96 : Index := 0#32
  ![v224.toNat, 1, 5, 0]
def k0_off47 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v229 : Index := Scalar.indexCast v63
  let c10 : Index := 10#32
  let c0_97 : Index := 0#32
  ![v229.toNat, 10, 0]
def k0_off48 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v236 : Index := Scalar.indexCast v63
  let c1_98 : Index := 1#32
  let c0_99 : Index := 0#32
  let c0_100 : Index := 0#32
  ![v236.toNat, 1, 0, 0]
def k0_off49 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v240 : Index := Scalar.indexCast v63
  let c180 : Index := 180#32
  let c0_101 : Index := 0#32
  ![v240.toNat, 180, 0]
def k0_off50 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v246 : Index := Scalar.indexCast v63
  let c5_102 : Index := 5#32
  let c0_103 : Index := 0#32
  ![v246.toNat, 5, 0]
def k0_off51 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v250 : Index := Scalar.indexCast v63
  let c0_104 : Index := 0#32
  let c5_105 : Index := 5#32
  let c0_106 : Index := 0#32
  ![v250.toNat, 0, 5, 0]
def k0_off52 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v255 : Index := Scalar.indexCast v63
  let c1_107 : Index := 1#32
  let c6_108 : Index := 6#32
  let c0_109 : Index := 0#32
  ![v255.toNat, 1, 6, 0]
def k0_off53 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v260 : Index := Scalar.indexCast v63
  let c15 : Index := 15#32
  let c0_110 : Index := 0#32
  ![v260.toNat, 15, 0]
def k0_off54 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v267 : Index := Scalar.indexCast v63
  let c1_111 : Index := 1#32
  let c0_112 : Index := 0#32
  let c0_113 : Index := 0#32
  ![v267.toNat, 1, 0, 0]
def k0_off55 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v271 : Index := Scalar.indexCast v63
  let c216 : Index := 216#32
  let c0_114 : Index := 0#32
  ![v271.toNat, 216, 0]
def k0_off56 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v277 : Index := Scalar.indexCast v63
  let c6_115 : Index := 6#32
  let c0_116 : Index := 0#32
  ![v277.toNat, 6, 0]
def k0_off57 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v281 : Index := Scalar.indexCast v63
  let c0_117 : Index := 0#32
  let c6_118 : Index := 6#32
  let c0_119 : Index := 0#32
  ![v281.toNat, 0, 6, 0]
def k0_off58 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v286 : Index := Scalar.indexCast v63
  let c1_120 : Index := 1#32
  let c7 : Index := 7#32
  let c0_121 : Index := 0#32
  ![v286.toNat, 1, 7, 0]
def k0_off59 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v291 : Index := Scalar.indexCast v63
  let c21 : Index := 21#32
  let c0_122 : Index := 0#32
  ![v291.toNat, 21, 0]
def k0_off60 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v298 : Index := Scalar.indexCast v63
  let c1_123 : Index := 1#32
  let c0_124 : Index := 0#32
  let c0_125 : Index := 0#32
  ![v298.toNat, 1, 0, 0]
def k0_off61 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v302 : Index := Scalar.indexCast v63
  let c252 : Index := 252#32
  let c0_126 : Index := 0#32
  ![v302.toNat, 252, 0]
def k0_off62 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v308 : Index := Scalar.indexCast v63
  let c7_127 : Index := 7#32
  let c0_128 : Index := 0#32
  ![v308.toNat, 7, 0]
def k0_off63 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v312 : Index := Scalar.indexCast v63
  let c0_129 : Index := 0#32
  let c7_130 : Index := 7#32
  let c0_131 : Index := 0#32
  ![v312.toNat, 0, 7, 0]
def k0_off64 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v317 : Index := Scalar.indexCast v63
  let c1_132 : Index := 1#32
  let c8 : Index := 8#32
  let c0_133 : Index := 0#32
  ![v317.toNat, 1, 8, 0]
def k0_off65 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v322 : Index := Scalar.indexCast v63
  let c28 : Index := 28#32
  let c0_134 : Index := 0#32
  ![v322.toNat, 28, 0]
def k0_off66 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v328 : Index := Scalar.indexCast v63
  let c1_135 : Index := 1#32
  let c0_136 : Index := 0#32
  let c0_137 : Index := 0#32
  ![v328.toNat, 1, 0, 0]
def k0_off67 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v332 : Index := Scalar.indexCast v63
  let c288 : Index := 288#32
  let c0_138 : Index := 0#32
  ![v332.toNat, 288, 0]
def k0_off68 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v337 : Index := Scalar.indexCast v63
  let c8_139 : Index := 8#32
  let c0_140 : Index := 0#32
  ![v337.toNat, 8, 0]
def k0_off69 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v341 : Index := Scalar.indexCast v63
  let c0_141 : Index := 0#32
  let c8_142 : Index := 8#32
  let c0_143 : Index := 0#32
  ![v341.toNat, 0, 8, 0]
def k0_off70 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v346 : Index := Scalar.indexCast v63
  let c1_144 : Index := 1#32
  let c9 : Index := 9#32
  let c0_145 : Index := 0#32
  ![v346.toNat, 1, 9, 0]
def k0_off71 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v351 : Index := Scalar.indexCast v63
  let c36_146 : Index := 36#32
  let c0_147 : Index := 0#32
  ![v351.toNat, 36, 0]
def k0_off72 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v361 : Index := Scalar.indexCast v63
  let c324 : Index := 324#32
  let c0_151 : Index := 0#32
  ![v361.toNat, 324, 0]
def k0_off73 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v366 : Index := Scalar.indexCast v63
  let c9_152 : Index := 9#32
  let c0_153 : Index := 0#32
  ![v366.toNat, 9, 0]
def k0_off74 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v370 : Index := Scalar.indexCast v63
  let c44 : Index := 44#32
  let c0_154 : Index := 0#32
  ![v370.toNat, 44, 0]
def k0_off75 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v381 : Index := Scalar.indexCast v63
  let c332 : Index := 332#32
  let c0_158 : Index := 0#32
  ![v381.toNat, 332, 0]
def k0_off76 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v387 : Index := Scalar.indexCast v63
  let c297 : Index := 297#32
  let c0_159 : Index := 0#32
  ![v387.toNat, 297, 0]
def k0_off77 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v391 : Index := Scalar.indexCast v63
  let c0_160 : Index := 0#32
  let c9_161 : Index := 9#32
  let c0_162 : Index := 0#32
  ![v391.toNat, 0, 9, 0]
def k0_off78 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v396 : Index := Scalar.indexCast v63
  let c1_163 : Index := 1#32
  let c10_164 : Index := 10#32
  let c0_165 : Index := 0#32
  ![v396.toNat, 1, 10, 0]
def k0_off79 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v401 : Index := Scalar.indexCast v63
  let c45 : Index := 45#32
  let c0_166 : Index := 0#32
  ![v401.toNat, 45, 0]
def k0_off80 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v411 : Index := Scalar.indexCast v63
  let c360 : Index := 360#32
  let c0_170 : Index := 0#32
  ![v411.toNat, 360, 0]
def k0_off81 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v416 : Index := Scalar.indexCast v63
  let c10_171 : Index := 10#32
  let c0_172 : Index := 0#32
  ![v416.toNat, 10, 0]
def k0_off82 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v420 : Index := Scalar.indexCast v63
  let c53 : Index := 53#32
  let c0_173 : Index := 0#32
  ![v420.toNat, 53, 0]
def k0_off83 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v427 : Index := Scalar.indexCast v63
  let c1_174 : Index := 1#32
  let c8_175 : Index := 8#32
  let c0_176 : Index := 0#32
  ![v427.toNat, 1, 8, 0]
def k0_off84 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v431 : Index := Scalar.indexCast v63
  let c368 : Index := 368#32
  let c0_177 : Index := 0#32
  ![v431.toNat, 368, 0]
def k0_off85 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v437 : Index := Scalar.indexCast v63
  let c298 : Index := 298#32
  let c0_178 : Index := 0#32
  ![v437.toNat, 298, 0]
def k0_off86 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v441 : Index := Scalar.indexCast v63
  let c0_179 : Index := 0#32
  let c10_180 : Index := 10#32
  let c0_181 : Index := 0#32
  ![v441.toNat, 0, 10, 0]
def k0_off87 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v446 : Index := Scalar.indexCast v63
  let c1_182 : Index := 1#32
  let c11 : Index := 11#32
  let c0_183 : Index := 0#32
  ![v446.toNat, 1, 11, 0]
def k0_off88 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v451 : Index := Scalar.indexCast v63
  let c55 : Index := 55#32
  let c0_184 : Index := 0#32
  ![v451.toNat, 55, 0]
def k0_off89 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v461 : Index := Scalar.indexCast v63
  let c396 : Index := 396#32
  let c0_188 : Index := 0#32
  ![v461.toNat, 396, 0]
def k0_off90 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v466 : Index := Scalar.indexCast v63
  let c11_189 : Index := 11#32
  let c0_190 : Index := 0#32
  ![v466.toNat, 11, 0]
def k0_off91 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v470 : Index := Scalar.indexCast v63
  let c63 : Index := 63#32
  let c0_191 : Index := 0#32
  ![v470.toNat, 63, 0]
def k0_off92 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v477 : Index := Scalar.indexCast v63
  let c1_192 : Index := 1#32
  let c8_193 : Index := 8#32
  let c0_194 : Index := 0#32
  ![v477.toNat, 1, 8, 0]
def k0_off93 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v481 : Index := Scalar.indexCast v63
  let c404 : Index := 404#32
  let c0_195 : Index := 0#32
  ![v481.toNat, 404, 0]
def k0_off94 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v487 : Index := Scalar.indexCast v63
  let c299 : Index := 299#32
  let c0_196 : Index := 0#32
  ![v487.toNat, 299, 0]
def k0_off95 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v491 : Index := Scalar.indexCast v63
  let c0_197 : Index := 0#32
  let c11_198 : Index := 11#32
  let c0_199 : Index := 0#32
  ![v491.toNat, 0, 11, 0]
def k0_off96 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v496 : Index := Scalar.indexCast v63
  let c1_200 : Index := 1#32
  let c12 : Index := 12#32
  let c0_201 : Index := 0#32
  ![v496.toNat, 1, 12, 0]
def k0_off97 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v501 : Index := Scalar.indexCast v63
  let c66 : Index := 66#32
  let c0_202 : Index := 0#32
  ![v501.toNat, 66, 0]
def k0_off98 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v511 : Index := Scalar.indexCast v63
  let c432 : Index := 432#32
  let c0_206 : Index := 0#32
  ![v511.toNat, 432, 0]
def k0_off99 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v516 : Index := Scalar.indexCast v63
  let c12_207 : Index := 12#32
  let c0_208 : Index := 0#32
  ![v516.toNat, 12, 0]
def k0_off100 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v520 : Index := Scalar.indexCast v63
  let c74 : Index := 74#32
  let c0_209 : Index := 0#32
  ![v520.toNat, 74, 0]
def k0_off101 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v527 : Index := Scalar.indexCast v63
  let c1_210 : Index := 1#32
  let c8_211 : Index := 8#32
  let c0_212 : Index := 0#32
  ![v527.toNat, 1, 8, 0]
def k0_off102 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v531 : Index := Scalar.indexCast v63
  let c440 : Index := 440#32
  let c0_213 : Index := 0#32
  ![v531.toNat, 440, 0]
def k0_off103 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v537 : Index := Scalar.indexCast v63
  let c300 : Index := 300#32
  let c0_214 : Index := 0#32
  ![v537.toNat, 300, 0]
def k0_off104 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v541 : Index := Scalar.indexCast v63
  let c0_215 : Index := 0#32
  let c12_216 : Index := 12#32
  let c0_217 : Index := 0#32
  ![v541.toNat, 0, 12, 0]
def k0_off105 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v546 : Index := Scalar.indexCast v63
  let c1_218 : Index := 1#32
  let c13 : Index := 13#32
  let c0_219 : Index := 0#32
  ![v546.toNat, 1, 13, 0]
def k0_off106 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v551 : Index := Scalar.indexCast v63
  let c78 : Index := 78#32
  let c0_220 : Index := 0#32
  ![v551.toNat, 78, 0]
def k0_off107 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v561 : Index := Scalar.indexCast v63
  let c468 : Index := 468#32
  let c0_224 : Index := 0#32
  ![v561.toNat, 468, 0]
def k0_off108 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v566 : Index := Scalar.indexCast v63
  let c13_225 : Index := 13#32
  let c0_226 : Index := 0#32
  ![v566.toNat, 13, 0]
def k0_off109 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v570 : Index := Scalar.indexCast v63
  let c86 : Index := 86#32
  let c0_227 : Index := 0#32
  ![v570.toNat, 86, 0]
def k0_off110 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v577 : Index := Scalar.indexCast v63
  let c1_228 : Index := 1#32
  let c8_229 : Index := 8#32
  let c0_230 : Index := 0#32
  ![v577.toNat, 1, 8, 0]
def k0_off111 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v581 : Index := Scalar.indexCast v63
  let c476 : Index := 476#32
  let c0_231 : Index := 0#32
  ![v581.toNat, 476, 0]
def k0_off112 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v587 : Index := Scalar.indexCast v63
  let c301 : Index := 301#32
  let c0_232 : Index := 0#32
  ![v587.toNat, 301, 0]
def k0_off113 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v591 : Index := Scalar.indexCast v63
  let c0_233 : Index := 0#32
  let c13_234 : Index := 13#32
  let c0_235 : Index := 0#32
  ![v591.toNat, 0, 13, 0]
def k0_off114 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v596 : Index := Scalar.indexCast v63
  let c1_236 : Index := 1#32
  let c14 : Index := 14#32
  let c0_237 : Index := 0#32
  ![v596.toNat, 1, 14, 0]
def k0_off115 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v601 : Index := Scalar.indexCast v63
  let c91 : Index := 91#32
  let c0_238 : Index := 0#32
  ![v601.toNat, 91, 0]
def k0_off116 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v611 : Index := Scalar.indexCast v63
  let c504 : Index := 504#32
  let c0_242 : Index := 0#32
  ![v611.toNat, 504, 0]
def k0_off117 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v616 : Index := Scalar.indexCast v63
  let c14_243 : Index := 14#32
  let c0_244 : Index := 0#32
  ![v616.toNat, 14, 0]
def k0_off118 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v620 : Index := Scalar.indexCast v63
  let c99 : Index := 99#32
  let c0_245 : Index := 0#32
  ![v620.toNat, 99, 0]
def k0_off119 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v627 : Index := Scalar.indexCast v63
  let c1_246 : Index := 1#32
  let c8_247 : Index := 8#32
  let c0_248 : Index := 0#32
  ![v627.toNat, 1, 8, 0]
def k0_off120 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v631 : Index := Scalar.indexCast v63
  let c512 : Index := 512#32
  let c0_249 : Index := 0#32
  ![v631.toNat, 512, 0]
def k0_off121 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v637 : Index := Scalar.indexCast v63
  let c302 : Index := 302#32
  let c0_250 : Index := 0#32
  ![v637.toNat, 302, 0]
def k0_off122 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v641 : Index := Scalar.indexCast v63
  let c0_251 : Index := 0#32
  let c14_252 : Index := 14#32
  let c0_253 : Index := 0#32
  ![v641.toNat, 0, 14, 0]
def k0_off123 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v646 : Index := Scalar.indexCast v63
  let c1_254 : Index := 1#32
  let c15_255 : Index := 15#32
  let c0_256 : Index := 0#32
  ![v646.toNat, 1, 15, 0]
def k0_off124 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v651 : Index := Scalar.indexCast v63
  let c105 : Index := 105#32
  let c0_257 : Index := 0#32
  ![v651.toNat, 105, 0]
def k0_off125 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v661 : Index := Scalar.indexCast v63
  let c540 : Index := 540#32
  let c0_261 : Index := 0#32
  ![v661.toNat, 540, 0]
def k0_off126 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v666 : Index := Scalar.indexCast v63
  let c15_262 : Index := 15#32
  let c0_263 : Index := 0#32
  ![v666.toNat, 15, 0]
def k0_off127 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v670 : Index := Scalar.indexCast v63
  let c113 : Index := 113#32
  let c0_264 : Index := 0#32
  ![v670.toNat, 113, 0]
def k0_off128 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v677 : Index := Scalar.indexCast v63
  let c1_265 : Index := 1#32
  let c8_266 : Index := 8#32
  let c0_267 : Index := 0#32
  ![v677.toNat, 1, 8, 0]
def k0_off129 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v681 : Index := Scalar.indexCast v63
  let c548 : Index := 548#32
  let c0_268 : Index := 0#32
  ![v681.toNat, 548, 0]
def k0_off130 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v687 : Index := Scalar.indexCast v63
  let c303 : Index := 303#32
  let c0_269 : Index := 0#32
  ![v687.toNat, 303, 0]
def k0_off131 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v691 : Index := Scalar.indexCast v63
  let c0_270 : Index := 0#32
  let c15_271 : Index := 15#32
  let c0_272 : Index := 0#32
  ![v691.toNat, 0, 15, 0]
def k0_off132 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v696 : Index := Scalar.indexCast v63
  let c1_273 : Index := 1#32
  let c16 : Index := 16#32
  let c0_274 : Index := 0#32
  ![v696.toNat, 1, 16, 0]
def k0_off133 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v701 : Index := Scalar.indexCast v63
  let c120 : Index := 120#32
  let c0_275 : Index := 0#32
  ![v701.toNat, 120, 0]
def k0_off134 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v711 : Index := Scalar.indexCast v63
  let c576 : Index := 576#32
  let c0_279 : Index := 0#32
  ![v711.toNat, 576, 0]
def k0_off135 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v716 : Index := Scalar.indexCast v63
  let c16_280 : Index := 16#32
  let c0_281 : Index := 0#32
  ![v716.toNat, 16, 0]
def k0_off136 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v720 : Index := Scalar.indexCast v63
  let c128 : Index := 128#32
  let c0_282 : Index := 0#32
  ![v720.toNat, 128, 0]
def k0_off137 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v726 : Index := Scalar.indexCast v63
  let c1_283 : Index := 1#32
  let c8_284 : Index := 8#32
  let c0_285 : Index := 0#32
  ![v726.toNat, 1, 8, 0]
def k0_off138 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v730 : Index := Scalar.indexCast v63
  let c584 : Index := 584#32
  let c0_286 : Index := 0#32
  ![v730.toNat, 584, 0]
def k0_off139 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v735 : Index := Scalar.indexCast v63
  let c304 : Index := 304#32
  let c0_287 : Index := 0#32
  ![v735.toNat, 304, 0]
def k0_off140 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v739 : Index := Scalar.indexCast v63
  let c0_288 : Index := 0#32
  let c16_289 : Index := 16#32
  let c0_290 : Index := 0#32
  ![v739.toNat, 0, 16, 0]
def k0_off141 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v744 : Index := Scalar.indexCast v63
  let c1_291 : Index := 1#32
  let c17 : Index := 17#32
  let c0_292 : Index := 0#32
  ![v744.toNat, 1, 17, 0]
def k0_off142 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v749 : Index := Scalar.indexCast v63
  let c136 : Index := 136#32
  let c0_293 : Index := 0#32
  ![v749.toNat, 136, 0]
def k0_off143 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v759 : Index := Scalar.indexCast v63
  let c612 : Index := 612#32
  let c0_297 : Index := 0#32
  ![v759.toNat, 612, 0]
def k0_off144 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v764 : Index := Scalar.indexCast v63
  let c17_298 : Index := 17#32
  let c0_299 : Index := 0#32
  ![v764.toNat, 17, 0]
def k0_off145 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v768 : Index := Scalar.indexCast v63
  let c144_300 : Index := 144#32
  let c0_301 : Index := 0#32
  ![v768.toNat, 144, 0]
def k0_off146 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v778 : Index := Scalar.indexCast v63
  let c620 : Index := 620#32
  let c0_305 : Index := 0#32
  ![v778.toNat, 620, 0]
def k0_off147 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v783 : Index := Scalar.indexCast v63
  let c305 : Index := 305#32
  let c0_306 : Index := 0#32
  ![v783.toNat, 305, 0]
def k0_off148 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v787 : Index := Scalar.indexCast v63
  let c152 : Index := 152#32
  let c0_307 : Index := 0#32
  ![v787.toNat, 152, 0]
def k0_off149 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v798 : Index := Scalar.indexCast v63
  let c628 : Index := 628#32
  let c0_311 : Index := 0#32
  ![v798.toNat, 628, 0]
def k0_off150 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v804 : Index := Scalar.indexCast v63
  let c593 : Index := 593#32
  let c0_312 : Index := 0#32
  ![v804.toNat, 593, 0]
def k0_off151 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v808 : Index := Scalar.indexCast v63
  let c0_313 : Index := 0#32
  let c17_314 : Index := 17#32
  let c0_315 : Index := 0#32
  ![v808.toNat, 0, 17, 0]
def k0_off152 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v813 : Index := Scalar.indexCast v63
  let c1_316 : Index := 1#32
  let c18 : Index := 18#32
  let c0_317 : Index := 0#32
  ![v813.toNat, 1, 18, 0]
def k0_off153 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v818 : Index := Scalar.indexCast v63
  let c153 : Index := 153#32
  let c0_318 : Index := 0#32
  ![v818.toNat, 153, 0]
def k0_off154 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v828 : Index := Scalar.indexCast v63
  let c648 : Index := 648#32
  let c0_322 : Index := 0#32
  ![v828.toNat, 648, 0]
def k0_off155 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v833 : Index := Scalar.indexCast v63
  let c18_323 : Index := 18#32
  let c0_324 : Index := 0#32
  ![v833.toNat, 18, 0]
def k0_off156 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v837 : Index := Scalar.indexCast v63
  let c161 : Index := 161#32
  let c0_325 : Index := 0#32
  ![v837.toNat, 161, 0]
def k0_off157 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v847 : Index := Scalar.indexCast v63
  let c656 : Index := 656#32
  let c0_329 : Index := 0#32
  ![v847.toNat, 656, 0]
def k0_off158 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v852 : Index := Scalar.indexCast v63
  let c306 : Index := 306#32
  let c0_330 : Index := 0#32
  ![v852.toNat, 306, 0]
def k0_off159 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v856 : Index := Scalar.indexCast v63
  let c169 : Index := 169#32
  let c0_331 : Index := 0#32
  ![v856.toNat, 169, 0]
def k0_off160 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v863 : Index := Scalar.indexCast v63
  let c1_332 : Index := 1#32
  let c16_333 : Index := 16#32
  let c0_334 : Index := 0#32
  ![v863.toNat, 1, 16, 0]
def k0_off161 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v867 : Index := Scalar.indexCast v63
  let c664 : Index := 664#32
  let c0_335 : Index := 0#32
  ![v867.toNat, 664, 0]
def k0_off162 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v873 : Index := Scalar.indexCast v63
  let c594 : Index := 594#32
  let c0_336 : Index := 0#32
  ![v873.toNat, 594, 0]
def k0_off163 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v877 : Index := Scalar.indexCast v63
  let c0_337 : Index := 0#32
  let c18_338 : Index := 18#32
  let c0_339 : Index := 0#32
  ![v877.toNat, 0, 18, 0]
def k0_off164 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v882 : Index := Scalar.indexCast v63
  let c1_340 : Index := 1#32
  let c19 : Index := 19#32
  let c0_341 : Index := 0#32
  ![v882.toNat, 1, 19, 0]
def k0_off165 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v887 : Index := Scalar.indexCast v63
  let c171 : Index := 171#32
  let c0_342 : Index := 0#32
  ![v887.toNat, 171, 0]
def k0_off166 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v897 : Index := Scalar.indexCast v63
  let c684 : Index := 684#32
  let c0_346 : Index := 0#32
  ![v897.toNat, 684, 0]
def k0_off167 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v902 : Index := Scalar.indexCast v63
  let c19_347 : Index := 19#32
  let c0_348 : Index := 0#32
  ![v902.toNat, 19, 0]
def k0_off168 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v906 : Index := Scalar.indexCast v63
  let c179 : Index := 179#32
  let c0_349 : Index := 0#32
  ![v906.toNat, 179, 0]
def k0_off169 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v916 : Index := Scalar.indexCast v63
  let c692 : Index := 692#32
  let c0_353 : Index := 0#32
  ![v916.toNat, 692, 0]
def k0_off170 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v921 : Index := Scalar.indexCast v63
  let c307 : Index := 307#32
  let c0_354 : Index := 0#32
  ![v921.toNat, 307, 0]
def k0_off171 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v925 : Index := Scalar.indexCast v63
  let c187 : Index := 187#32
  let c0_355 : Index := 0#32
  ![v925.toNat, 187, 0]
def k0_off172 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v932 : Index := Scalar.indexCast v63
  let c1_356 : Index := 1#32
  let c16_357 : Index := 16#32
  let c0_358 : Index := 0#32
  ![v932.toNat, 1, 16, 0]
def k0_off173 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v936 : Index := Scalar.indexCast v63
  let c700 : Index := 700#32
  let c0_359 : Index := 0#32
  ![v936.toNat, 700, 0]
def k0_off174 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v942 : Index := Scalar.indexCast v63
  let c595 : Index := 595#32
  let c0_360 : Index := 0#32
  ![v942.toNat, 595, 0]
def k0_off175 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v946 : Index := Scalar.indexCast v63
  let c0_361 : Index := 0#32
  let c19_362 : Index := 19#32
  let c0_363 : Index := 0#32
  ![v946.toNat, 0, 19, 0]
def k0_off176 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v951 : Index := Scalar.indexCast v63
  let c1_364 : Index := 1#32
  let c20 : Index := 20#32
  let c0_365 : Index := 0#32
  ![v951.toNat, 1, 20, 0]
def k0_off177 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v956 : Index := Scalar.indexCast v63
  let c190 : Index := 190#32
  let c0_366 : Index := 0#32
  ![v956.toNat, 190, 0]
def k0_off178 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v966 : Index := Scalar.indexCast v63
  let c720 : Index := 720#32
  let c0_370 : Index := 0#32
  ![v966.toNat, 720, 0]
def k0_off179 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v971 : Index := Scalar.indexCast v63
  let c20_371 : Index := 20#32
  let c0_372 : Index := 0#32
  ![v971.toNat, 20, 0]
def k0_off180 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v975 : Index := Scalar.indexCast v63
  let c198 : Index := 198#32
  let c0_373 : Index := 0#32
  ![v975.toNat, 198, 0]
def k0_off181 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v985 : Index := Scalar.indexCast v63
  let c728 : Index := 728#32
  let c0_377 : Index := 0#32
  ![v985.toNat, 728, 0]
def k0_off182 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v990 : Index := Scalar.indexCast v63
  let c308 : Index := 308#32
  let c0_378 : Index := 0#32
  ![v990.toNat, 308, 0]
def k0_off183 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v994 : Index := Scalar.indexCast v63
  let c206 : Index := 206#32
  let c0_379 : Index := 0#32
  ![v994.toNat, 206, 0]
def k0_off184 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1001 : Index := Scalar.indexCast v63
  let c1_380 : Index := 1#32
  let c16_381 : Index := 16#32
  let c0_382 : Index := 0#32
  ![v1001.toNat, 1, 16, 0]
def k0_off185 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1005 : Index := Scalar.indexCast v63
  let c736 : Index := 736#32
  let c0_383 : Index := 0#32
  ![v1005.toNat, 736, 0]
def k0_off186 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1011 : Index := Scalar.indexCast v63
  let c596 : Index := 596#32
  let c0_384 : Index := 0#32
  ![v1011.toNat, 596, 0]
def k0_off187 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1015 : Index := Scalar.indexCast v63
  let c0_385 : Index := 0#32
  let c20_386 : Index := 20#32
  let c0_387 : Index := 0#32
  ![v1015.toNat, 0, 20, 0]
def k0_off188 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1020 : Index := Scalar.indexCast v63
  let c1_388 : Index := 1#32
  let c21_389 : Index := 21#32
  let c0_390 : Index := 0#32
  ![v1020.toNat, 1, 21, 0]
def k0_off189 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1025 : Index := Scalar.indexCast v63
  let c210 : Index := 210#32
  let c0_391 : Index := 0#32
  ![v1025.toNat, 210, 0]
def k0_off190 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1035 : Index := Scalar.indexCast v63
  let c756 : Index := 756#32
  let c0_395 : Index := 0#32
  ![v1035.toNat, 756, 0]
def k0_off191 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1040 : Index := Scalar.indexCast v63
  let c21_396 : Index := 21#32
  let c0_397 : Index := 0#32
  ![v1040.toNat, 21, 0]
def k0_off192 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1044 : Index := Scalar.indexCast v63
  let c218 : Index := 218#32
  let c0_398 : Index := 0#32
  ![v1044.toNat, 218, 0]
def k0_off193 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1054 : Index := Scalar.indexCast v63
  let c764 : Index := 764#32
  let c0_402 : Index := 0#32
  ![v1054.toNat, 764, 0]
def k0_off194 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1059 : Index := Scalar.indexCast v63
  let c309 : Index := 309#32
  let c0_403 : Index := 0#32
  ![v1059.toNat, 309, 0]
def k0_off195 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1063 : Index := Scalar.indexCast v63
  let c226 : Index := 226#32
  let c0_404 : Index := 0#32
  ![v1063.toNat, 226, 0]
def k0_off196 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1070 : Index := Scalar.indexCast v63
  let c1_405 : Index := 1#32
  let c16_406 : Index := 16#32
  let c0_407 : Index := 0#32
  ![v1070.toNat, 1, 16, 0]
def k0_off197 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1074 : Index := Scalar.indexCast v63
  let c772 : Index := 772#32
  let c0_408 : Index := 0#32
  ![v1074.toNat, 772, 0]
def k0_off198 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1080 : Index := Scalar.indexCast v63
  let c597 : Index := 597#32
  let c0_409 : Index := 0#32
  ![v1080.toNat, 597, 0]
def k0_off199 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1084 : Index := Scalar.indexCast v63
  let c0_410 : Index := 0#32
  let c21_411 : Index := 21#32
  let c0_412 : Index := 0#32
  ![v1084.toNat, 0, 21, 0]
def k0_off200 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1089 : Index := Scalar.indexCast v63
  let c1_413 : Index := 1#32
  let c22 : Index := 22#32
  let c0_414 : Index := 0#32
  ![v1089.toNat, 1, 22, 0]
def k0_off201 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1094 : Index := Scalar.indexCast v63
  let c231 : Index := 231#32
  let c0_415 : Index := 0#32
  ![v1094.toNat, 231, 0]
def k0_off202 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1104 : Index := Scalar.indexCast v63
  let c792 : Index := 792#32
  let c0_419 : Index := 0#32
  ![v1104.toNat, 792, 0]
def k0_off203 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1109 : Index := Scalar.indexCast v63
  let c22_420 : Index := 22#32
  let c0_421 : Index := 0#32
  ![v1109.toNat, 22, 0]
def k0_off204 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1113 : Index := Scalar.indexCast v63
  let c239 : Index := 239#32
  let c0_422 : Index := 0#32
  ![v1113.toNat, 239, 0]
def k0_off205 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1123 : Index := Scalar.indexCast v63
  let c800 : Index := 800#32
  let c0_426 : Index := 0#32
  ![v1123.toNat, 800, 0]
def k0_off206 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1128 : Index := Scalar.indexCast v63
  let c310 : Index := 310#32
  let c0_427 : Index := 0#32
  ![v1128.toNat, 310, 0]
def k0_off207 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1132 : Index := Scalar.indexCast v63
  let c247 : Index := 247#32
  let c0_428 : Index := 0#32
  ![v1132.toNat, 247, 0]
def k0_off208 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1139 : Index := Scalar.indexCast v63
  let c1_429 : Index := 1#32
  let c16_430 : Index := 16#32
  let c0_431 : Index := 0#32
  ![v1139.toNat, 1, 16, 0]
def k0_off209 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1143 : Index := Scalar.indexCast v63
  let c808 : Index := 808#32
  let c0_432 : Index := 0#32
  ![v1143.toNat, 808, 0]
def k0_off210 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1149 : Index := Scalar.indexCast v63
  let c598 : Index := 598#32
  let c0_433 : Index := 0#32
  ![v1149.toNat, 598, 0]
def k0_off211 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1153 : Index := Scalar.indexCast v63
  let c0_434 : Index := 0#32
  let c22_435 : Index := 22#32
  let c0_436 : Index := 0#32
  ![v1153.toNat, 0, 22, 0]
def k0_off212 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1158 : Index := Scalar.indexCast v63
  let c1_437 : Index := 1#32
  let c23 : Index := 23#32
  let c0_438 : Index := 0#32
  ![v1158.toNat, 1, 23, 0]
def k0_off213 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1163 : Index := Scalar.indexCast v63
  let c253 : Index := 253#32
  let c0_439 : Index := 0#32
  ![v1163.toNat, 253, 0]
def k0_off214 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1173 : Index := Scalar.indexCast v63
  let c828 : Index := 828#32
  let c0_443 : Index := 0#32
  ![v1173.toNat, 828, 0]
def k0_off215 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1178 : Index := Scalar.indexCast v63
  let c23_444 : Index := 23#32
  let c0_445 : Index := 0#32
  ![v1178.toNat, 23, 0]
def k0_off216 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1182 : Index := Scalar.indexCast v63
  let c261 : Index := 261#32
  let c0_446 : Index := 0#32
  ![v1182.toNat, 261, 0]
def k0_off217 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1192 : Index := Scalar.indexCast v63
  let c836 : Index := 836#32
  let c0_450 : Index := 0#32
  ![v1192.toNat, 836, 0]
def k0_off218 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1197 : Index := Scalar.indexCast v63
  let c311 : Index := 311#32
  let c0_451 : Index := 0#32
  ![v1197.toNat, 311, 0]
def k0_off219 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1201 : Index := Scalar.indexCast v63
  let c269 : Index := 269#32
  let c0_452 : Index := 0#32
  ![v1201.toNat, 269, 0]
def k0_off220 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1208 : Index := Scalar.indexCast v63
  let c1_453 : Index := 1#32
  let c16_454 : Index := 16#32
  let c0_455 : Index := 0#32
  ![v1208.toNat, 1, 16, 0]
def k0_off221 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1212 : Index := Scalar.indexCast v63
  let c844 : Index := 844#32
  let c0_456 : Index := 0#32
  ![v1212.toNat, 844, 0]
def k0_off222 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1218 : Index := Scalar.indexCast v63
  let c599 : Index := 599#32
  let c0_457 : Index := 0#32
  ![v1218.toNat, 599, 0]
def k0_off223 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1222 : Index := Scalar.indexCast v63
  let c0_458 : Index := 0#32
  let c23_459 : Index := 23#32
  let c0_460 : Index := 0#32
  ![v1222.toNat, 0, 23, 0]
def k0_off224 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1227 : Index := Scalar.indexCast v63
  let c1_461 : Index := 1#32
  let c24 : Index := 24#32
  let c0_462 : Index := 0#32
  ![v1227.toNat, 1, 24, 0]
def k0_off225 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1232 : Index := Scalar.indexCast v63
  let c276 : Index := 276#32
  let c0_463 : Index := 0#32
  ![v1232.toNat, 276, 0]
def k0_off226 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1242 : Index := Scalar.indexCast v63
  let c864 : Index := 864#32
  let c0_467 : Index := 0#32
  ![v1242.toNat, 864, 0]
def k0_off227 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1247 : Index := Scalar.indexCast v63
  let c24_468 : Index := 24#32
  let c0_469 : Index := 0#32
  ![v1247.toNat, 24, 0]
def k0_off228 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1251 : Index := Scalar.indexCast v63
  let c284 : Index := 284#32
  let c0_470 : Index := 0#32
  ![v1251.toNat, 284, 0]
def k0_off229 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1261 : Index := Scalar.indexCast v63
  let c872 : Index := 872#32
  let c0_474 : Index := 0#32
  ![v1261.toNat, 872, 0]
def k0_off230 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1266 : Index := Scalar.indexCast v63
  let c312 : Index := 312#32
  let c0_475 : Index := 0#32
  ![v1266.toNat, 312, 0]
def k0_off231 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1270 : Index := Scalar.indexCast v63
  let c292 : Index := 292#32
  let c0_476 : Index := 0#32
  ![v1270.toNat, 292, 0]
def k0_off232 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1276 : Index := Scalar.indexCast v63
  let c1_477 : Index := 1#32
  let c16_478 : Index := 16#32
  let c0_479 : Index := 0#32
  ![v1276.toNat, 1, 16, 0]
def k0_off233 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1280 : Index := Scalar.indexCast v63
  let c880 : Index := 880#32
  let c0_480 : Index := 0#32
  ![v1280.toNat, 880, 0]
def k0_off234 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1285 : Index := Scalar.indexCast v63
  let c600 : Index := 600#32
  let c0_481 : Index := 0#32
  ![v1285.toNat, 600, 0]
def k0_off235 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1289 : Index := Scalar.indexCast v63
  let c0_482 : Index := 0#32
  let c24_483 : Index := 24#32
  let c0_484 : Index := 0#32
  ![v1289.toNat, 0, 24, 0]
def k0_off236 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1294 : Index := Scalar.indexCast v63
  let c1_485 : Index := 1#32
  let c25 : Index := 25#32
  let c0_486 : Index := 0#32
  ![v1294.toNat, 1, 25, 0]
def k0_off237 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1299 : Index := Scalar.indexCast v63
  let c300_487 : Index := 300#32
  let c0_488 : Index := 0#32
  ![v1299.toNat, 300, 0]
def k0_off238 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1309 : Index := Scalar.indexCast v63
  let c900 : Index := 900#32
  let c0_492 : Index := 0#32
  ![v1309.toNat, 900, 0]
def k0_off239 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1314 : Index := Scalar.indexCast v63
  let c25_493 : Index := 25#32
  let c0_494 : Index := 0#32
  ![v1314.toNat, 25, 0]
def k0_off240 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1318 : Index := Scalar.indexCast v63
  let c308_495 : Index := 308#32
  let c0_496 : Index := 0#32
  ![v1318.toNat, 308, 0]
def k0_off241 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1328 : Index := Scalar.indexCast v63
  let c908 : Index := 908#32
  let c0_500 : Index := 0#32
  ![v1328.toNat, 908, 0]
def k0_off242 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1333 : Index := Scalar.indexCast v63
  let c313 : Index := 313#32
  let c0_501 : Index := 0#32
  ![v1333.toNat, 313, 0]
def k0_off243 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1337 : Index := Scalar.indexCast v63
  let c316 : Index := 316#32
  let c0_502 : Index := 0#32
  ![v1337.toNat, 316, 0]
def k0_off244 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1347 : Index := Scalar.indexCast v63
  let c916 : Index := 916#32
  let c0_506 : Index := 0#32
  ![v1347.toNat, 916, 0]
def k0_off245 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1352 : Index := Scalar.indexCast v63
  let c601 : Index := 601#32
  let c0_507 : Index := 0#32
  ![v1352.toNat, 601, 0]
def k0_off246 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1356 : Index := Scalar.indexCast v63
  let c324_508 : Index := 324#32
  let c0_509 : Index := 0#32
  ![v1356.toNat, 324, 0]
def k0_off247 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1367 : Index := Scalar.indexCast v63
  let c924 : Index := 924#32
  let c0_513 : Index := 0#32
  ![v1367.toNat, 924, 0]
def k0_off248 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1373 : Index := Scalar.indexCast v63
  let c889 : Index := 889#32
  let c0_514 : Index := 0#32
  ![v1373.toNat, 889, 0]
def k0_off249 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1377 : Index := Scalar.indexCast v63
  let c0_515 : Index := 0#32
  let c25_516 : Index := 25#32
  let c0_517 : Index := 0#32
  ![v1377.toNat, 0, 25, 0]
def k0_off250 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1382 : Index := Scalar.indexCast v63
  let c1_518 : Index := 1#32
  let c26 : Index := 26#32
  let c0_519 : Index := 0#32
  ![v1382.toNat, 1, 26, 0]
def k0_off251 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1387 : Index := Scalar.indexCast v63
  let c325 : Index := 325#32
  let c0_520 : Index := 0#32
  ![v1387.toNat, 325, 0]
def k0_off252 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1397 : Index := Scalar.indexCast v63
  let c936 : Index := 936#32
  let c0_524 : Index := 0#32
  ![v1397.toNat, 936, 0]
def k0_off253 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1402 : Index := Scalar.indexCast v63
  let c26_525 : Index := 26#32
  let c0_526 : Index := 0#32
  ![v1402.toNat, 26, 0]
def k0_off254 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1406 : Index := Scalar.indexCast v63
  let c333 : Index := 333#32
  let c0_527 : Index := 0#32
  ![v1406.toNat, 333, 0]
def k0_off255 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1416 : Index := Scalar.indexCast v63
  let c944 : Index := 944#32
  let c0_531 : Index := 0#32
  ![v1416.toNat, 944, 0]
def k0_off256 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1421 : Index := Scalar.indexCast v63
  let c314 : Index := 314#32
  let c0_532 : Index := 0#32
  ![v1421.toNat, 314, 0]
def k0_off257 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1425 : Index := Scalar.indexCast v63
  let c341 : Index := 341#32
  let c0_533 : Index := 0#32
  ![v1425.toNat, 341, 0]
def k0_off258 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1435 : Index := Scalar.indexCast v63
  let c952 : Index := 952#32
  let c0_537 : Index := 0#32
  ![v1435.toNat, 952, 0]
def k0_off259 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1440 : Index := Scalar.indexCast v63
  let c602 : Index := 602#32
  let c0_538 : Index := 0#32
  ![v1440.toNat, 602, 0]
def k0_off260 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1444 : Index := Scalar.indexCast v63
  let c349 : Index := 349#32
  let c0_539 : Index := 0#32
  ![v1444.toNat, 349, 0]
def k0_off261 (k0_t1 : Fin k0_t1_loop.trips) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1451 : Index := Scalar.indexCast v63
  let c1_540 : Index := 1#32
  let c24_541 : Index := 24#32
  let c0_542 : Index := 0#32
  ![v1451.toNat, 1, 24, 0]
def k0_off262 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1455 : Index := Scalar.indexCast v63
  let c960 : Index := 960#32
  let c0_543 : Index := 0#32
  ![v1455.toNat, 960, 0]
def k0_off263 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1461 : Index := Scalar.indexCast v63
  let c890 : Index := 890#32
  let c0_544 : Index := 0#32
  ![v1461.toNat, 890, 0]
@[reducible] def k0_t2_loop : Scf.Loop 32 :=
  let c0_i32_545 : BitVec 32 := 0#32
  let c14_i32 : BitVec 32 := 14#32
  let v1465 : BitVec 32 := Scalar.addi c0_i32_545 c14_i32
  let c1_i32_546 : BitVec 32 := 1#32
  ⟨c0_i32_545, v1465, c1_i32_546⟩
def k0_off264 (k0_t1 : Fin k0_t1_loop.trips) (k0_t2 : Fin k0_t2_loop.trips) (c0_i32_580 : BitVec 32) (c0_i32_581 : BitVec 32) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1555 : Index := Scalar.indexCast v63
  let c36_i32 : BitVec 32 := 36#32
  let c2_i32_579 : BitVec 32 := 2#32
  let c0_i32_545 : BitVec 32 := 0#32
  let c1_i32_546 : BitVec 32 := 1#32
  let arg17 : BitVec 32 := Scf.iv c0_i32_545 c1_i32_546 k0_t2
  let v1551 : BitVec 32 := Scalar.muli c2_i32_579 arg17
  let v1552 : BitVec 32 := Scalar.addi v1551 c0_i32_580
  let v1553 : BitVec 32 := Scalar.muli c36_i32 v1552
  let v1554 : BitVec 32 := Scalar.addi v1553 c0_i32_581
  let v1556 : Index := Scalar.indexCast v1554
  let c0_582 : Index := 0#32
  ![v1555.toNat, v1556.toNat, 0]
def k0_off265 (k0_t1 : Fin k0_t1_loop.trips) (k0_t2 : Fin k0_t2_loop.trips) (c0_i32_742 : BitVec 32) : Fin 4 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v2038 : Index := Scalar.indexCast v63
  let c0_i32_545 : BitVec 32 := 0#32
  let c1_i32_546 : BitVec 32 := 1#32
  let arg17 : BitVec 32 := Scf.iv c0_i32_545 c1_i32_546 k0_t2
  let v2037 : BitVec 32 := Scalar.addi c0_i32_742 arg17
  let v2039 : Index := Scalar.indexCast v2037
  let c0_743 : Index := 0#32
  ![v2038.toNat, v2039.toNat, 0, 0]
def k0_off266 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_28 : BitVec 32 := 2#32
  let v61 : BitVec 32 := Scalar.divsi arg16 c2_i32_28
  let v1466 : Index := Scalar.indexCast v61
  let c2_i32_29 : BitVec 32 := 2#32
  let v62 : BitVec 32 := Scalar.remsi arg16 c2_i32_29
  let c128_i32 : BitVec 32 := 128#32
  let v64 : BitVec 32 := Scalar.muli v62 c128_i32
  let v65 : BitVec 32 := v64
  let v1467 : Index := Scalar.indexCast v65
  let c0_548 : Index := 0#32
  ![v1466.toNat, v1467.toNat, 0]
def k0_off267 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1472 : Index := Scalar.indexCast v63
  let c0_549 : Index := 0#32
  let c0_550 : Index := 0#32
  ![v1472.toNat, 0, 0]
def k0_off268 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1477 : Index := Scalar.indexCast v63
  let c72_551 : Index := 72#32
  let c0_552 : Index := 0#32
  ![v1477.toNat, 72, 0]
def k0_off269 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1482 : Index := Scalar.indexCast v63
  let c144_553 : Index := 144#32
  let c0_554 : Index := 0#32
  ![v1482.toNat, 144, 0]
def k0_off270 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1487 : Index := Scalar.indexCast v63
  let c216_555 : Index := 216#32
  let c0_556 : Index := 0#32
  ![v1487.toNat, 216, 0]
def k0_off271 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1492 : Index := Scalar.indexCast v63
  let c288_557 : Index := 288#32
  let c0_558 : Index := 0#32
  ![v1492.toNat, 288, 0]
def k0_off272 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1497 : Index := Scalar.indexCast v63
  let c360_559 : Index := 360#32
  let c0_560 : Index := 0#32
  ![v1497.toNat, 360, 0]
def k0_off273 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1502 : Index := Scalar.indexCast v63
  let c432_561 : Index := 432#32
  let c0_562 : Index := 0#32
  ![v1502.toNat, 432, 0]
def k0_off274 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1507 : Index := Scalar.indexCast v63
  let c504_563 : Index := 504#32
  let c0_564 : Index := 0#32
  ![v1507.toNat, 504, 0]
def k0_off275 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1512 : Index := Scalar.indexCast v63
  let c576_565 : Index := 576#32
  let c0_566 : Index := 0#32
  ![v1512.toNat, 576, 0]
def k0_off276 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1517 : Index := Scalar.indexCast v63
  let c648_567 : Index := 648#32
  let c0_568 : Index := 0#32
  ![v1517.toNat, 648, 0]
def k0_off277 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1522 : Index := Scalar.indexCast v63
  let c720_569 : Index := 720#32
  let c0_570 : Index := 0#32
  ![v1522.toNat, 720, 0]
def k0_off278 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1527 : Index := Scalar.indexCast v63
  let c792_571 : Index := 792#32
  let c0_572 : Index := 0#32
  ![v1527.toNat, 792, 0]
def k0_off279 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1532 : Index := Scalar.indexCast v63
  let c864_573 : Index := 864#32
  let c0_574 : Index := 0#32
  ![v1532.toNat, 864, 0]
def k0_off280 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1537 : Index := Scalar.indexCast v63
  let c936_575 : Index := 936#32
  let c0_576 : Index := 0#32
  ![v1537.toNat, 936, 0]
def k0_off281 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1542 : Index := Scalar.indexCast v63
  let c1008 : Index := 1008#32
  let c0_577 : Index := 0#32
  ![v1542.toNat, 1008, 0]
def k0_off282 (k0_t1 : Fin k0_t1_loop.trips) : Fin 3 → Nat :=
  let c0_i32_20 : BitVec 32 := 0#32
  let c1_i32_21 : BitVec 32 := 1#32
  let arg16 : BitVec 32 := Scf.iv c0_i32_20 c1_i32_21 k0_t1
  let c2_i32_30 : BitVec 32 := 2#32
  let v63 : BitVec 32 := Scalar.remsi arg16 c2_i32_30
  let v1547 : Index := Scalar.indexCast v63
  let c1080 : Index := 1080#32
  let c0_578 : Index := 0#32
  ![v1547.toNat, 1080, 0]
def k0_cond6 (k0_t1 : Fin k0_t1_loop.trips) : BitVec 1 :=
  let c0_i32_20 : BitVec 32 := 0#32
  let c1_i32_21 : BitVec 32 := 1#32
  let arg16 : BitVec 32 := Scf.iv c0_i32_20 c1_i32_21 k0_t1
  let c1_i32_26 : BitVec 32 := 1#32
  let v58 : BitVec 1 := Scalar.cmpi .sge arg16 c1_i32_26
  let v59 : BitVec 32 := Scalar.extui v58
  let c0_i32_27 : BitVec 32 := 0#32
  let v60 : BitVec 1 := Scalar.cmpi .ne v59 c0_i32_27
  v60

@[reducible] def k0_t3_loop : Scf.Loop 32 :=
  let c0_i32_34 : BitVec 32 := 0#32
  let c16_i32 : BitVec 32 := 16#32
  let v67 : BitVec 32 := Scalar.addi c0_i32_34 c16_i32
  let c1_i32_35 : BitVec 32 := 1#32
  ⟨c0_i32_34, v67, c1_i32_35⟩
def k0_off283 (i : grid0.Coords) (k0_t1 : Fin k0_t1_loop.trips) : Fin 5 → Nat :=
  let arg0 : BitVec 32 := BitVec.ofNat 32 (i 0).val
  let c3_i32_32 : BitVec 32 := 3#32
  let v65 : BitVec 32 := Scalar.remsi arg0 c3_i32_32
  let c0_i32_20 : BitVec 32 := 0#32
  let c1_i32_21 : BitVec 32 := 1#32
  let arg16 : BitVec 32 := Scf.iv c0_i32_20 c1_i32_21 k0_t1
  let c1_i32_28 : BitVec 32 := 1#32
  let v61 : BitVec 32 := Scalar.subi arg16 c1_i32_28
  let c2_i32_29 : BitVec 32 := 2#32
  let v62 : BitVec 32 := Scalar.divsi v61 c2_i32_29
  let c0_i32_40 : BitVec 32 := 0#32
  let c0_i32_41 : BitVec 32 := 0#32
  let c0_i32_42 : BitVec 32 := 0#32
  ![v65.toNat, v62.toNat, 0, 0, 0]
def k0_off284 (k0_t1 : Fin k0_t1_loop.trips) (k0_t3 : Fin k0_t3_loop.trips) (c0_i32_38 : BitVec 32) : Fin 3 → Nat :=
  let c0 : Index := 0#32
  let c4_i32_39 : BitVec 32 := 4#32
  let c0_i32_20 : BitVec 32 := 0#32
  let c1_i32_21 : BitVec 32 := 1#32
  let arg16 : BitVec 32 := Scf.iv c0_i32_20 c1_i32_21 k0_t1
  let c1_i32_28 : BitVec 32 := 1#32
  let v61 : BitVec 32 := Scalar.subi arg16 c1_i32_28
  let c2_i32_30 : BitVec 32 := 2#32
  let v63 : BitVec 32 := Scalar.remsi v61 c2_i32_30
  let c32_i32 : BitVec 32 := 32#32
  let v68 : BitVec 32 := Scalar.muli v63 c32_i32
  let c2_i32_37 : BitVec 32 := 2#32
  let c0_i32_34 : BitVec 32 := 0#32
  let c1_i32_35 : BitVec 32 := 1#32
  let arg17 : BitVec 32 := Scf.iv c0_i32_34 c1_i32_35 k0_t3
  let v69 : BitVec 32 := Scalar.muli c2_i32_37 arg17
  let v70 : BitVec 32 := Scalar.addi v68 v69
  let v71 : BitVec 32 := Scalar.addi v70 c0_i32_38
  let v72 : BitVec 32 := Scalar.muli c4_i32_39 v71
  let v75 : Index := Scalar.indexCast v72
  let c0_43 : Index := 0#32
  ![0, v75.toNat, 0]
def k0_off285 (k0_t1 : Fin k0_t1_loop.trips) (k0_t3 : Fin k0_t3_loop.trips) (c0_i32_38 : BitVec 32) : Fin 3 → Nat :=
  let c8 : Index := 8#32
  let c4_i32_44 : BitVec 32 := 4#32
  let c0_i32_20 : BitVec 32 := 0#32
  let c1_i32_21 : BitVec 32 := 1#32
  let arg16 : BitVec 32 := Scf.iv c0_i32_20 c1_i32_21 k0_t1
  let c1_i32_28 : BitVec 32 := 1#32
  let v61 : BitVec 32 := Scalar.subi arg16 c1_i32_28
  let c2_i32_30 : BitVec 32 := 2#32
  let v63 : BitVec 32 := Scalar.remsi v61 c2_i32_30
  let c32_i32 : BitVec 32 := 32#32
  let v68 : BitVec 32 := Scalar.muli v63 c32_i32
  let c2_i32_37 : BitVec 32 := 2#32
  let c0_i32_34 : BitVec 32 := 0#32
  let c1_i32_35 : BitVec 32 := 1#32
  let arg17 : BitVec 32 := Scf.iv c0_i32_34 c1_i32_35 k0_t3
  let v69 : BitVec 32 := Scalar.muli c2_i32_37 arg17
  let v70 : BitVec 32 := Scalar.addi v68 v69
  let v71 : BitVec 32 := Scalar.addi v70 c0_i32_38
  let v78 : BitVec 32 := Scalar.muli c4_i32_44 v71
  let v81 : Index := Scalar.indexCast v78
  let c0_48 : Index := 0#32
  ![8, v81.toNat, 0]
def k0_off286 (k0_t1 : Fin k0_t1_loop.trips) (k0_t3 : Fin k0_t3_loop.trips) (c0_i32_38 : BitVec 32) : Fin 3 → Nat :=
  let c16 : Index := 16#32
  let c4_i32_49 : BitVec 32 := 4#32
  let c0_i32_20 : BitVec 32 := 0#32
  let c1_i32_21 : BitVec 32 := 1#32
  let arg16 : BitVec 32 := Scf.iv c0_i32_20 c1_i32_21 k0_t1
  let c1_i32_28 : BitVec 32 := 1#32
  let v61 : BitVec 32 := Scalar.subi arg16 c1_i32_28
  let c2_i32_30 : BitVec 32 := 2#32
  let v63 : BitVec 32 := Scalar.remsi v61 c2_i32_30
  let c32_i32 : BitVec 32 := 32#32
  let v68 : BitVec 32 := Scalar.muli v63 c32_i32
  let c2_i32_37 : BitVec 32 := 2#32
  let c0_i32_34 : BitVec 32 := 0#32
  let c1_i32_35 : BitVec 32 := 1#32
  let arg17 : BitVec 32 := Scf.iv c0_i32_34 c1_i32_35 k0_t3
  let v69 : BitVec 32 := Scalar.muli c2_i32_37 arg17
  let v70 : BitVec 32 := Scalar.addi v68 v69
  let v71 : BitVec 32 := Scalar.addi v70 c0_i32_38
  let v84 : BitVec 32 := Scalar.muli c4_i32_49 v71
  let v87 : Index := Scalar.indexCast v84
  let c0_53 : Index := 0#32
  ![16, v87.toNat, 0]
def k0_off287 (k0_t1 : Fin k0_t1_loop.trips) (k0_t3 : Fin k0_t3_loop.trips) (c0_i32_38 : BitVec 32) : Fin 3 → Nat :=
  let c24 : Index := 24#32
  let c4_i32_54 : BitVec 32 := 4#32
  let c0_i32_20 : BitVec 32 := 0#32
  let c1_i32_21 : BitVec 32 := 1#32
  let arg16 : BitVec 32 := Scf.iv c0_i32_20 c1_i32_21 k0_t1
  let c1_i32_28 : BitVec 32 := 1#32
  let v61 : BitVec 32 := Scalar.subi arg16 c1_i32_28
  let c2_i32_30 : BitVec 32 := 2#32
  let v63 : BitVec 32 := Scalar.remsi v61 c2_i32_30
  let c32_i32 : BitVec 32 := 32#32
  let v68 : BitVec 32 := Scalar.muli v63 c32_i32
  let c2_i32_37 : BitVec 32 := 2#32
  let c0_i32_34 : BitVec 32 := 0#32
  let c1_i32_35 : BitVec 32 := 1#32
  let arg17 : BitVec 32 := Scf.iv c0_i32_34 c1_i32_35 k0_t3
  let v69 : BitVec 32 := Scalar.muli c2_i32_37 arg17
  let v70 : BitVec 32 := Scalar.addi v68 v69
  let v71 : BitVec 32 := Scalar.addi v70 c0_i32_38
  let v90 : BitVec 32 := Scalar.muli c4_i32_54 v71
  let v93 : Index := Scalar.indexCast v90
  let c0_58 : Index := 0#32
  ![24, v93.toNat, 0]
def k0_off288 (k0_t1 : Fin k0_t1_loop.trips) (k0_t3 : Fin k0_t3_loop.trips) (c0_i32_59 : BitVec 32) (c0_i32_60 : BitVec 32) : Fin 4 → Nat :=
  let c0_i32_20 : BitVec 32 := 0#32
  let c1_i32_21 : BitVec 32 := 1#32
  let arg16 : BitVec 32 := Scf.iv c0_i32_20 c1_i32_21 k0_t1
  let c1_i32_28 : BitVec 32 := 1#32
  let v61 : BitVec 32 := Scalar.subi arg16 c1_i32_28
  let c2_i32_31 : BitVec 32 := 2#32
  let v64 : BitVec 32 := Scalar.remsi v61 c2_i32_31
  let v101 : Index := Scalar.indexCast v64
  let c8_i32 : BitVec 32 := 8#32
  let c0_i32_34 : BitVec 32 := 0#32
  let c1_i32_35 : BitVec 32 := 1#32
  let arg17 : BitVec 32 := Scf.iv c0_i32_34 c1_i32_35 k0_t3
  let v97 : BitVec 32 := Scalar.muli c8_i32 arg17
  let v98 : BitVec 32 := Scalar.addi v97 c0_i32_59
  let v99 : BitVec 32 := Scalar.addi v98 c0_i32_60
  let c20_i32 : BitVec 32 := 20#32
  let v100 : BitVec 32 := Scalar.muli v99 c20_i32
  let v102 : Index := Scalar.indexCast v100
  let c0_61 : Index := 0#32
  ![v101.toNat, v102.toNat, 0, 0]
def k0_off289 (k0_t1 : Fin k0_t1_loop.trips) (k0_t3 : Fin k0_t3_loop.trips) (c0_i32_59 : BitVec 32) (c0_i32_71 : BitVec 32) : Fin 3 → Nat :=
  let c0_i32_20 : BitVec 32 := 0#32
  let c1_i32_21 : BitVec 32 := 1#32
  let arg16 : BitVec 32 := Scf.iv c0_i32_20 c1_i32_21 k0_t1
  let c1_i32_28 : BitVec 32 := 1#32
  let v61 : BitVec 32 := Scalar.subi arg16 c1_i32_28
  let c2_i32_31 : BitVec 32 := 2#32
  let v64 : BitVec 32 := Scalar.remsi v61 c2_i32_31
  let v129 : Index := Scalar.indexCast v64
  let c8_i32 : BitVec 32 := 8#32
  let c0_i32_34 : BitVec 32 := 0#32
  let c1_i32_35 : BitVec 32 := 1#32
  let arg17 : BitVec 32 := Scf.iv c0_i32_34 c1_i32_35 k0_t3
  let v97 : BitVec 32 := Scalar.muli c8_i32 arg17
  let v98 : BitVec 32 := Scalar.addi v97 c0_i32_59
  let v127 : BitVec 32 := Scalar.addi v98 c0_i32_71
  let c9_i32 : BitVec 32 := 9#32
  let v128 : BitVec 32 := Scalar.muli v127 c9_i32
  let v130 : Index := Scalar.indexCast v128
  let c0_72 : Index := 0#32
  ![v129.toNat, v130.toNat, 0]
def k0_off290 (i : grid0.Coords) (k0_t1 : Fin k0_t1_loop.trips) : Fin 6 → Nat :=
  let arg0 : BitVec 32 := BitVec.ofNat 32 (i 0).val
  let c3_i32_33 : BitVec 32 := 3#32
  let v66 : BitVec 32 := Scalar.remsi arg0 c3_i32_33
  let c0_i32_20 : BitVec 32 := 0#32
  let c1_i32_21 : BitVec 32 := 1#32
  let arg16 : BitVec 32 := Scf.iv c0_i32_20 c1_i32_21 k0_t1
  let c1_i32_28 : BitVec 32 := 1#32
  let v61 : BitVec 32 := Scalar.subi arg16 c1_i32_28
  let c2_i32_29 : BitVec 32 := 2#32
  let v62 : BitVec 32 := Scalar.divsi v61 c2_i32_29
  let c0_i32_77 : BitVec 32 := 0#32
  let c0_i32_78 : BitVec 32 := 0#32
  let c0_i32_79 : BitVec 32 := 0#32
  let c0_i32_80 : BitVec 32 := 0#32
  ![v66.toNat, v62.toNat, 0, 0, 0, 0]
def k0_off291 (i : grid0.Coords) (k0_t1 : Fin k0_t1_loop.trips) (k0_t3 : Fin k0_t3_loop.trips) : Fin 6 → Nat :=
  let arg0 : BitVec 32 := BitVec.ofNat 32 (i 0).val
  let c3_i32_33 : BitVec 32 := 3#32
  let v66 : BitVec 32 := Scalar.remsi arg0 c3_i32_33
  let c0_i32_20 : BitVec 32 := 0#32
  let c1_i32_21 : BitVec 32 := 1#32
  let arg16 : BitVec 32 := Scf.iv c0_i32_20 c1_i32_21 k0_t1
  let c1_i32_28 : BitVec 32 := 1#32
  let v61 : BitVec 32 := Scalar.subi arg16 c1_i32_28
  let c2_i32_29 : BitVec 32 := 2#32
  let v62 : BitVec 32 := Scalar.divsi v61 c2_i32_29
  let c0_i32_77 : BitVec 32 := 0#32
  let c2_i32_30 : BitVec 32 := 2#32
  let v63 : BitVec 32 := Scalar.remsi v61 c2_i32_30
  let c16_i32_76 : BitVec 32 := 16#32
  let v143 : BitVec 32 := Scalar.muli v63 c16_i32_76
  let c0_i32_34 : BitVec 32 := 0#32
  let c1_i32_35 : BitVec 32 := 1#32
  let arg17 : BitVec 32 := Scf.iv c0_i32_34 c1_i32_35 k0_t3
  let v144 : BitVec 32 := Scalar.addi v143 arg17
  let v148 : Index := Scalar.indexCast v144
  let c0_i32_79 : BitVec 32 := 0#32
  let c0_i32_80 : BitVec 32 := 0#32
  ![v66.toNat, v62.toNat, 0, v148.toNat, 0, 0]
def k0_off292 (i : grid0.Coords) (k0_t1 : Fin k0_t1_loop.trips) (k0_t3 : Fin k0_t3_loop.trips) : Fin 6 → Nat :=
  let arg0 : BitVec 32 := BitVec.ofNat 32 (i 0).val
  let c3_i32_33 : BitVec 32 := 3#32
  let v66 : BitVec 32 := Scalar.remsi arg0 c3_i32_33
  let c0_i32_20 : BitVec 32 := 0#32
  let c1_i32_21 : BitVec 32 := 1#32
  let arg16 : BitVec 32 := Scf.iv c0_i32_20 c1_i32_21 k0_t1
  let c1_i32_28 : BitVec 32 := 1#32
  let v61 : BitVec 32 := Scalar.subi arg16 c1_i32_28
  let c2_i32_29 : BitVec 32 := 2#32
  let v62 : BitVec 32 := Scalar.divsi v61 c2_i32_29
  let c2_i32_30 : BitVec 32 := 2#32
  let v63 : BitVec 32 := Scalar.remsi v61 c2_i32_30
  let c16_i32_84 : BitVec 32 := 16#32
  let v155 : BitVec 32 := Scalar.muli v63 c16_i32_84
  let c0_i32_34 : BitVec 32 := 0#32
  let c1_i32_35 : BitVec 32 := 1#32
  let arg17 : BitVec 32 := Scf.iv c0_i32_34 c1_i32_35 k0_t3
  let v156 : BitVec 32 := Scalar.addi v155 arg17
  let v160 : Index := Scalar.indexCast v156
  let c0_i32_87 : BitVec 32 := 0#32
  let c0_i32_88 : BitVec 32 := 0#32
  ![v66.toNat, v62.toNat, 8, v160.toNat, 0, 0]
def k0_off293 (i : grid0.Coords) (k0_t1 : Fin k0_t1_loop.trips) (k0_t3 : Fin k0_t3_loop.trips) : Fin 6 → Nat :=
  let arg0 : BitVec 32 := BitVec.ofNat 32 (i 0).val
  let c3_i32_33 : BitVec 32 := 3#32
  let v66 : BitVec 32 := Scalar.remsi arg0 c3_i32_33
  let c0_i32_20 : BitVec 32 := 0#32
  let c1_i32_21 : BitVec 32 := 1#32
  let arg16 : BitVec 32 := Scf.iv c0_i32_20 c1_i32_21 k0_t1
  let c1_i32_28 : BitVec 32 := 1#32
  let v61 : BitVec 32 := Scalar.subi arg16 c1_i32_28
  let c2_i32_29 : BitVec 32 := 2#32
  let v62 : BitVec 32 := Scalar.divsi v61 c2_i32_29
  let c2_i32_30 : BitVec 32 := 2#32
  let v63 : BitVec 32 := Scalar.remsi v61 c2_i32_30
  let c16_i32_92 : BitVec 32 := 16#32
  let v167 : BitVec 32 := Scalar.muli v63 c16_i32_92
  let c0_i32_34 : BitVec 32 := 0#32
  let c1_i32_35 : BitVec 32 := 1#32
  let arg17 : BitVec 32 := Scf.iv c0_i32_34 c1_i32_35 k0_t3
  let v168 : BitVec 32 := Scalar.addi v167 arg17
  let v172 : Index := Scalar.indexCast v168
  let c0_i32_95 : BitVec 32 := 0#32
  let c0_i32_96 : BitVec 32 := 0#32
  ![v66.toNat, v62.toNat, 16, v172.toNat, 0, 0]
def k0_off294 (i : grid0.Coords) (k0_t1 : Fin k0_t1_loop.trips) (k0_t3 : Fin k0_t3_loop.trips) : Fin 6 → Nat :=
  let arg0 : BitVec 32 := BitVec.ofNat 32 (i 0).val
  let c3_i32_33 : BitVec 32 := 3#32
  let v66 : BitVec 32 := Scalar.remsi arg0 c3_i32_33
  let c0_i32_20 : BitVec 32 := 0#32
  let c1_i32_21 : BitVec 32 := 1#32
  let arg16 : BitVec 32 := Scf.iv c0_i32_20 c1_i32_21 k0_t1
  let c1_i32_28 : BitVec 32 := 1#32
  let v61 : BitVec 32 := Scalar.subi arg16 c1_i32_28
  let c2_i32_29 : BitVec 32 := 2#32
  let v62 : BitVec 32 := Scalar.divsi v61 c2_i32_29
  let c2_i32_30 : BitVec 32 := 2#32
  let v63 : BitVec 32 := Scalar.remsi v61 c2_i32_30
  let c16_i32_100 : BitVec 32 := 16#32
  let v180 : BitVec 32 := Scalar.muli v63 c16_i32_100
  let c0_i32_34 : BitVec 32 := 0#32
  let c1_i32_35 : BitVec 32 := 1#32
  let arg17 : BitVec 32 := Scf.iv c0_i32_34 c1_i32_35 k0_t3
  let v181 : BitVec 32 := Scalar.addi v180 arg17
  let v185 : Index := Scalar.indexCast v181
  let c0_i32_103 : BitVec 32 := 0#32
  let c0_i32_104 : BitVec 32 := 0#32
  ![v66.toNat, v62.toNat, 24, v185.toNat, 0, 0]
def k0_off295 (i : grid0.Coords) (k0_t1 : Fin k0_t1_loop.trips) (k0_t3 : Fin k0_t3_loop.trips) : Fin 6 → Nat :=
  let arg0 : BitVec 32 := BitVec.ofNat 32 (i 0).val
  let c3_i32_33 : BitVec 32 := 3#32
  let v66 : BitVec 32 := Scalar.remsi arg0 c3_i32_33
  let c0_i32_20 : BitVec 32 := 0#32
  let c1_i32_21 : BitVec 32 := 1#32
  let arg16 : BitVec 32 := Scf.iv c0_i32_20 c1_i32_21 k0_t1
  let c1_i32_28 : BitVec 32 := 1#32
  let v61 : BitVec 32 := Scalar.subi arg16 c1_i32_28
  let c2_i32_29 : BitVec 32 := 2#32
  let v62 : BitVec 32 := Scalar.divsi v61 c2_i32_29
  let c0_i32_115 : BitVec 32 := 0#32
  let c2_i32_30 : BitVec 32 := 2#32
  let v63 : BitVec 32 := Scalar.remsi v61 c2_i32_30
  let c16_i32_114 : BitVec 32 := 16#32
  let v206 : BitVec 32 := Scalar.muli v63 c16_i32_114
  let c0_i32_34 : BitVec 32 := 0#32
  let c1_i32_35 : BitVec 32 := 1#32
  let arg17 : BitVec 32 := Scf.iv c0_i32_34 c1_i32_35 k0_t3
  let v207 : BitVec 32 := Scalar.addi v206 arg17
  let v211 : Index := Scalar.indexCast v207
  let c0_i32_118 : BitVec 32 := 0#32
  ![v66.toNat, v62.toNat, 0, v211.toNat, 2, 0]
def k0_off296 (i : grid0.Coords) (k0_t1 : Fin k0_t1_loop.trips) (k0_t3 : Fin k0_t3_loop.trips) : Fin 6 → Nat :=
  let arg0 : BitVec 32 := BitVec.ofNat 32 (i 0).val
  let c3_i32_33 : BitVec 32 := 3#32
  let v66 : BitVec 32 := Scalar.remsi arg0 c3_i32_33
  let c0_i32_20 : BitVec 32 := 0#32
  let c1_i32_21 : BitVec 32 := 1#32
  let arg16 : BitVec 32 := Scf.iv c0_i32_20 c1_i32_21 k0_t1
  let c1_i32_28 : BitVec 32 := 1#32
  let v61 : BitVec 32 := Scalar.subi arg16 c1_i32_28
  let c2_i32_29 : BitVec 32 := 2#32
  let v62 : BitVec 32 := Scalar.divsi v61 c2_i32_29
  let c2_i32_30 : BitVec 32 := 2#32
  let v63 : BitVec 32 := Scalar.remsi v61 c2_i32_30
  let c16_i32_121 : BitVec 32 := 16#32
  let v218 : BitVec 32 := Scalar.muli v63 c16_i32_121
  let c0_i32_34 : BitVec 32 := 0#32
  let c1_i32_35 : BitVec 32 := 1#32
  let arg17 : BitVec 32 := Scf.iv c0_i32_34 c1_i32_35 k0_t3
  let v219 : BitVec 32 := Scalar.addi v218 arg17
  let v223 : Index := Scalar.indexCast v219
  let c0_i32_125 : BitVec 32 := 0#32
  ![v66.toNat, v62.toNat, 8, v223.toNat, 2, 0]
def k0_off297 (i : grid0.Coords) (k0_t1 : Fin k0_t1_loop.trips) (k0_t3 : Fin k0_t3_loop.trips) : Fin 6 → Nat :=
  let arg0 : BitVec 32 := BitVec.ofNat 32 (i 0).val
  let c3_i32_33 : BitVec 32 := 3#32
  let v66 : BitVec 32 := Scalar.remsi arg0 c3_i32_33
  let c0_i32_20 : BitVec 32 := 0#32
  let c1_i32_21 : BitVec 32 := 1#32
  let arg16 : BitVec 32 := Scf.iv c0_i32_20 c1_i32_21 k0_t1
  let c1_i32_28 : BitVec 32 := 1#32
  let v61 : BitVec 32 := Scalar.subi arg16 c1_i32_28
  let c2_i32_29 : BitVec 32 := 2#32
  let v62 : BitVec 32 := Scalar.divsi v61 c2_i32_29
  let c2_i32_30 : BitVec 32 := 2#32
  let v63 : BitVec 32 := Scalar.remsi v61 c2_i32_30
  let c16_i32_129 : BitVec 32 := 16#32
  let v230 : BitVec 32 := Scalar.muli v63 c16_i32_129
  let c0_i32_34 : BitVec 32 := 0#32
  let c1_i32_35 : BitVec 32 := 1#32
  let arg17 : BitVec 32 := Scf.iv c0_i32_34 c1_i32_35 k0_t3
  let v231 : BitVec 32 := Scalar.addi v230 arg17
  let v235 : Index := Scalar.indexCast v231
  let c0_i32_133 : BitVec 32 := 0#32
  ![v66.toNat, v62.toNat, 16, v235.toNat, 2, 0]
def k0_off298 (i : grid0.Coords) (k0_t1 : Fin k0_t1_loop.trips) (k0_t3 : Fin k0_t3_loop.trips) : Fin 6 → Nat :=
  let arg0 : BitVec 32 := BitVec.ofNat 32 (i 0).val
  let c3_i32_33 : BitVec 32 := 3#32
  let v66 : BitVec 32 := Scalar.remsi arg0 c3_i32_33
  let c0_i32_20 : BitVec 32 := 0#32
  let c1_i32_21 : BitVec 32 := 1#32
  let arg16 : BitVec 32 := Scf.iv c0_i32_20 c1_i32_21 k0_t1
  let c1_i32_28 : BitVec 32 := 1#32
  let v61 : BitVec 32 := Scalar.subi arg16 c1_i32_28
  let c2_i32_29 : BitVec 32 := 2#32
  let v62 : BitVec 32 := Scalar.divsi v61 c2_i32_29
  let c2_i32_30 : BitVec 32 := 2#32
  let v63 : BitVec 32 := Scalar.remsi v61 c2_i32_30
  let c16_i32_137 : BitVec 32 := 16#32
  let v243 : BitVec 32 := Scalar.muli v63 c16_i32_137
  let c0_i32_34 : BitVec 32 := 0#32
  let c1_i32_35 : BitVec 32 := 1#32
  let arg17 : BitVec 32 := Scf.iv c0_i32_34 c1_i32_35 k0_t3
  let v244 : BitVec 32 := Scalar.addi v243 arg17
  let v248 : Index := Scalar.indexCast v244
  let c0_i32_141 : BitVec 32 := 0#32
  ![v66.toNat, v62.toNat, 24, v248.toNat, 2, 0]
def k0_off299 (i : grid0.Coords) (k0_t1 : Fin k0_t1_loop.trips) (k0_t3 : Fin k0_t3_loop.trips) : Fin 6 → Nat :=
  let arg0 : BitVec 32 := BitVec.ofNat 32 (i 0).val
  let c3_i32_33 : BitVec 32 := 3#32
  let v66 : BitVec 32 := Scalar.remsi arg0 c3_i32_33
  let c0_i32_20 : BitVec 32 := 0#32
  let c1_i32_21 : BitVec 32 := 1#32
  let arg16 : BitVec 32 := Scf.iv c0_i32_20 c1_i32_21 k0_t1
  let c1_i32_28 : BitVec 32 := 1#32
  let v61 : BitVec 32 := Scalar.subi arg16 c1_i32_28
  let c2_i32_29 : BitVec 32 := 2#32
  let v62 : BitVec 32 := Scalar.divsi v61 c2_i32_29
  let c0_i32_194 : BitVec 32 := 0#32
  let c2_i32_30 : BitVec 32 := 2#32
  let v63 : BitVec 32 := Scalar.remsi v61 c2_i32_30
  let c16_i32_193 : BitVec 32 := 16#32
  let v327 : BitVec 32 := Scalar.muli v63 c16_i32_193
  let c0_i32_34 : BitVec 32 := 0#32
  let c1_i32_35 : BitVec 32 := 1#32
  let arg17 : BitVec 32 := Scf.iv c0_i32_34 c1_i32_35 k0_t3
  let v328 : BitVec 32 := Scalar.addi v327 arg17
  let v332 : Index := Scalar.indexCast v328
  let c0_i32_197 : BitVec 32 := 0#32
  ![v66.toNat, v62.toNat, 0, v332.toNat, 4, 0]
def k0_off300 (i : grid0.Coords) (k0_t1 : Fin k0_t1_loop.trips) (k0_t3 : Fin k0_t3_loop.trips) : Fin 6 → Nat :=
  let arg0 : BitVec 32 := BitVec.ofNat 32 (i 0).val
  let c3_i32_33 : BitVec 32 := 3#32
  let v66 : BitVec 32 := Scalar.remsi arg0 c3_i32_33
  let c0_i32_20 : BitVec 32 := 0#32
  let c1_i32_21 : BitVec 32 := 1#32
  let arg16 : BitVec 32 := Scf.iv c0_i32_20 c1_i32_21 k0_t1
  let c1_i32_28 : BitVec 32 := 1#32
  let v61 : BitVec 32 := Scalar.subi arg16 c1_i32_28
  let c2_i32_29 : BitVec 32 := 2#32
  let v62 : BitVec 32 := Scalar.divsi v61 c2_i32_29
  let c2_i32_30 : BitVec 32 := 2#32
  let v63 : BitVec 32 := Scalar.remsi v61 c2_i32_30
  let c16_i32_200 : BitVec 32 := 16#32
  let v339 : BitVec 32 := Scalar.muli v63 c16_i32_200
  let c0_i32_34 : BitVec 32 := 0#32
  let c1_i32_35 : BitVec 32 := 1#32
  let arg17 : BitVec 32 := Scf.iv c0_i32_34 c1_i32_35 k0_t3
  let v340 : BitVec 32 := Scalar.addi v339 arg17
  let v344 : Index := Scalar.indexCast v340
  let c0_i32_204 : BitVec 32 := 0#32
  ![v66.toNat, v62.toNat, 8, v344.toNat, 4, 0]
def k0_off301 (i : grid0.Coords) (k0_t1 : Fin k0_t1_loop.trips) (k0_t3 : Fin k0_t3_loop.trips) : Fin 6 → Nat :=
  let arg0 : BitVec 32 := BitVec.ofNat 32 (i 0).val
  let c3_i32_33 : BitVec 32 := 3#32
  let v66 : BitVec 32 := Scalar.remsi arg0 c3_i32_33
  let c0_i32_20 : BitVec 32 := 0#32
  let c1_i32_21 : BitVec 32 := 1#32
  let arg16 : BitVec 32 := Scf.iv c0_i32_20 c1_i32_21 k0_t1
  let c1_i32_28 : BitVec 32 := 1#32
  let v61 : BitVec 32 := Scalar.subi arg16 c1_i32_28
  let c2_i32_29 : BitVec 32 := 2#32
  let v62 : BitVec 32 := Scalar.divsi v61 c2_i32_29
  let c2_i32_30 : BitVec 32 := 2#32
  let v63 : BitVec 32 := Scalar.remsi v61 c2_i32_30
  let c16_i32_208 : BitVec 32 := 16#32
  let v351 : BitVec 32 := Scalar.muli v63 c16_i32_208
  let c0_i32_34 : BitVec 32 := 0#32
  let c1_i32_35 : BitVec 32 := 1#32
  let arg17 : BitVec 32 := Scf.iv c0_i32_34 c1_i32_35 k0_t3
  let v352 : BitVec 32 := Scalar.addi v351 arg17
  let v356 : Index := Scalar.indexCast v352
  let c0_i32_212 : BitVec 32 := 0#32
  ![v66.toNat, v62.toNat, 16, v356.toNat, 4, 0]
def k0_off302 (i : grid0.Coords) (k0_t1 : Fin k0_t1_loop.trips) (k0_t3 : Fin k0_t3_loop.trips) : Fin 6 → Nat :=
  let arg0 : BitVec 32 := BitVec.ofNat 32 (i 0).val
  let c3_i32_33 : BitVec 32 := 3#32
  let v66 : BitVec 32 := Scalar.remsi arg0 c3_i32_33
  let c0_i32_20 : BitVec 32 := 0#32
  let c1_i32_21 : BitVec 32 := 1#32
  let arg16 : BitVec 32 := Scf.iv c0_i32_20 c1_i32_21 k0_t1
  let c1_i32_28 : BitVec 32 := 1#32
  let v61 : BitVec 32 := Scalar.subi arg16 c1_i32_28
  let c2_i32_29 : BitVec 32 := 2#32
  let v62 : BitVec 32 := Scalar.divsi v61 c2_i32_29
  let c2_i32_30 : BitVec 32 := 2#32
  let v63 : BitVec 32 := Scalar.remsi v61 c2_i32_30
  let c16_i32_216 : BitVec 32 := 16#32
  let v364 : BitVec 32 := Scalar.muli v63 c16_i32_216
  let c0_i32_34 : BitVec 32 := 0#32
  let c1_i32_35 : BitVec 32 := 1#32
  let arg17 : BitVec 32 := Scf.iv c0_i32_34 c1_i32_35 k0_t3
  let v365 : BitVec 32 := Scalar.addi v364 arg17
  let v369 : Index := Scalar.indexCast v365
  let c0_i32_220 : BitVec 32 := 0#32
  ![v66.toNat, v62.toNat, 24, v369.toNat, 4, 0]
def k0_off303 (i : grid0.Coords) (k0_t1 : Fin k0_t1_loop.trips) (k0_t3 : Fin k0_t3_loop.trips) : Fin 6 → Nat :=
  let arg0 : BitVec 32 := BitVec.ofNat 32 (i 0).val
  let c3_i32_33 : BitVec 32 := 3#32
  let v66 : BitVec 32 := Scalar.remsi arg0 c3_i32_33
  let c0_i32_20 : BitVec 32 := 0#32
  let c1_i32_21 : BitVec 32 := 1#32
  let arg16 : BitVec 32 := Scf.iv c0_i32_20 c1_i32_21 k0_t1
  let c1_i32_28 : BitVec 32 := 1#32
  let v61 : BitVec 32 := Scalar.subi arg16 c1_i32_28
  let c2_i32_29 : BitVec 32 := 2#32
  let v62 : BitVec 32 := Scalar.divsi v61 c2_i32_29
  let c0_i32_231 : BitVec 32 := 0#32
  let c2_i32_30 : BitVec 32 := 2#32
  let v63 : BitVec 32 := Scalar.remsi v61 c2_i32_30
  let c16_i32_230 : BitVec 32 := 16#32
  let v390 : BitVec 32 := Scalar.muli v63 c16_i32_230
  let c0_i32_34 : BitVec 32 := 0#32
  let c1_i32_35 : BitVec 32 := 1#32
  let arg17 : BitVec 32 := Scf.iv c0_i32_34 c1_i32_35 k0_t3
  let v391 : BitVec 32 := Scalar.addi v390 arg17
  let v395 : Index := Scalar.indexCast v391
  let c0_i32_234 : BitVec 32 := 0#32
  ![v66.toNat, v62.toNat, 0, v395.toNat, 6, 0]
def k0_off304 (i : grid0.Coords) (k0_t1 : Fin k0_t1_loop.trips) (k0_t3 : Fin k0_t3_loop.trips) : Fin 6 → Nat :=
  let arg0 : BitVec 32 := BitVec.ofNat 32 (i 0).val
  let c3_i32_33 : BitVec 32 := 3#32
  let v66 : BitVec 32 := Scalar.remsi arg0 c3_i32_33
  let c0_i32_20 : BitVec 32 := 0#32
  let c1_i32_21 : BitVec 32 := 1#32
  let arg16 : BitVec 32 := Scf.iv c0_i32_20 c1_i32_21 k0_t1
  let c1_i32_28 : BitVec 32 := 1#32
  let v61 : BitVec 32 := Scalar.subi arg16 c1_i32_28
  let c2_i32_29 : BitVec 32 := 2#32
  let v62 : BitVec 32 := Scalar.divsi v61 c2_i32_29
  let c2_i32_30 : BitVec 32 := 2#32
  let v63 : BitVec 32 := Scalar.remsi v61 c2_i32_30
  let c16_i32_237 : BitVec 32 := 16#32
  let v402 : BitVec 32 := Scalar.muli v63 c16_i32_237
  let c0_i32_34 : BitVec 32 := 0#32
  let c1_i32_35 : BitVec 32 := 1#32
  let arg17 : BitVec 32 := Scf.iv c0_i32_34 c1_i32_35 k0_t3
  let v403 : BitVec 32 := Scalar.addi v402 arg17
  let v407 : Index := Scalar.indexCast v403
  let c0_i32_241 : BitVec 32 := 0#32
  ![v66.toNat, v62.toNat, 8, v407.toNat, 6, 0]
def k0_off305 (i : grid0.Coords) (k0_t1 : Fin k0_t1_loop.trips) (k0_t3 : Fin k0_t3_loop.trips) : Fin 6 → Nat :=
  let arg0 : BitVec 32 := BitVec.ofNat 32 (i 0).val
  let c3_i32_33 : BitVec 32 := 3#32
  let v66 : BitVec 32 := Scalar.remsi arg0 c3_i32_33
  let c0_i32_20 : BitVec 32 := 0#32
  let c1_i32_21 : BitVec 32 := 1#32
  let arg16 : BitVec 32 := Scf.iv c0_i32_20 c1_i32_21 k0_t1
  let c1_i32_28 : BitVec 32 := 1#32
  let v61 : BitVec 32 := Scalar.subi arg16 c1_i32_28
  let c2_i32_29 : BitVec 32 := 2#32
  let v62 : BitVec 32 := Scalar.divsi v61 c2_i32_29
  let c2_i32_30 : BitVec 32 := 2#32
  let v63 : BitVec 32 := Scalar.remsi v61 c2_i32_30
  let c16_i32_245 : BitVec 32 := 16#32
  let v414 : BitVec 32 := Scalar.muli v63 c16_i32_245
  let c0_i32_34 : BitVec 32 := 0#32
  let c1_i32_35 : BitVec 32 := 1#32
  let arg17 : BitVec 32 := Scf.iv c0_i32_34 c1_i32_35 k0_t3
  let v415 : BitVec 32 := Scalar.addi v414 arg17
  let v419 : Index := Scalar.indexCast v415
  let c0_i32_249 : BitVec 32 := 0#32
  ![v66.toNat, v62.toNat, 16, v419.toNat, 6, 0]
def k0_off306 (i : grid0.Coords) (k0_t1 : Fin k0_t1_loop.trips) (k0_t3 : Fin k0_t3_loop.trips) : Fin 6 → Nat :=
  let arg0 : BitVec 32 := BitVec.ofNat 32 (i 0).val
  let c3_i32_33 : BitVec 32 := 3#32
  let v66 : BitVec 32 := Scalar.remsi arg0 c3_i32_33
  let c0_i32_20 : BitVec 32 := 0#32
  let c1_i32_21 : BitVec 32 := 1#32
  let arg16 : BitVec 32 := Scf.iv c0_i32_20 c1_i32_21 k0_t1
  let c1_i32_28 : BitVec 32 := 1#32
  let v61 : BitVec 32 := Scalar.subi arg16 c1_i32_28
  let c2_i32_29 : BitVec 32 := 2#32
  let v62 : BitVec 32 := Scalar.divsi v61 c2_i32_29
  let c2_i32_30 : BitVec 32 := 2#32
  let v63 : BitVec 32 := Scalar.remsi v61 c2_i32_30
  let c16_i32_253 : BitVec 32 := 16#32
  let v427 : BitVec 32 := Scalar.muli v63 c16_i32_253
  let c0_i32_34 : BitVec 32 := 0#32
  let c1_i32_35 : BitVec 32 := 1#32
  let arg17 : BitVec 32 := Scf.iv c0_i32_34 c1_i32_35 k0_t3
  let v428 : BitVec 32 := Scalar.addi v427 arg17
  let v432 : Index := Scalar.indexCast v428
  let c0_i32_257 : BitVec 32 := 0#32
  ![v66.toNat, v62.toNat, 24, v432.toNat, 6, 0]
def k0_cond7 (i : grid0.Coords) : BitVec 1 :=
  let arg0 : BitVec 32 := BitVec.ofNat 32 (i 0).val
  let c63_i32 : BitVec 32 := 63#32
  let v52 : BitVec 1 := Scalar.cmpi .eq arg0 c63_i32
  let v53 : BitVec 32 := Scalar.extui v52
  let c0_i32_23 : BitVec 32 := 0#32
  let v54 : BitVec 1 := Scalar.cmpi .ne v53 c0_i32_23
  v54

def k0_off307 (i : grid0.Coords) : Fin 1 → Nat :=
  let arg0 : BitVec 32 := BitVec.ofNat 32 (i 0).val
  let c3_i32_24 : BitVec 32 := 3#32
  let v55 : BitVec 32 := Scalar.remsi arg0 c3_i32_24
  ![v55.toNat]
def k0_off308 (i : grid0.Coords) : Fin 5 → Nat :=
  let c0_i32_25 : BitVec 32 := 0#32
  let c0_i32_26 : BitVec 32 := 0#32
  let arg0 : BitVec 32 := BitVec.ofNat 32 (i 0).val
  let c32_i32 : BitVec 32 := 32#32
  let v56 : BitVec 32 := Scalar.muli arg0 c32_i32
  let c0_i32_27 : BitVec 32 := 0#32
  let c0_i32_28 : BitVec 32 := 0#32
  ![0, 0, v56.toNat, 0, 0]
def k0_off309 (i : grid0.Coords) : Fin 6 → Nat :=
  let arg0 : BitVec 32 := BitVec.ofNat 32 (i 0).val
  let c3_i32_24 : BitVec 32 := 3#32
  let v55 : BitVec 32 := Scalar.remsi arg0 c3_i32_24
  let c0_i32_29 : BitVec 32 := 0#32
  let c0_i32_30 : BitVec 32 := 0#32
  let c0_i32_31 : BitVec 32 := 0#32
  let c0_i32_32 : BitVec 32 := 0#32
  let c0_i32_33 : BitVec 32 := 0#32
  ![v55.toNat, 0, 0, 0, 0, 0]
def k0_off310 (i : grid0.Coords) (c2_i32_34 : BitVec 32) : Fin 1 → Nat :=
  let arg0 : BitVec 32 := BitVec.ofNat 32 (i 0).val
  let v62 : BitVec 32 := Scalar.subi arg0 c2_i32_34
  let c3_i32_35 : BitVec 32 := 3#32
  let v63 : BitVec 32 := Scalar.remsi v62 c3_i32_35
  ![v63.toNat]
def k0_off311 (i : grid0.Coords) (c2_i32_34 : BitVec 32) : Fin 5 → Nat :=
  let c0_i32_37 : BitVec 32 := 0#32
  let c0_i32_38 : BitVec 32 := 0#32
  let arg0 : BitVec 32 := BitVec.ofNat 32 (i 0).val
  let v62 : BitVec 32 := Scalar.subi arg0 c2_i32_34
  let c32_i32_36 : BitVec 32 := 32#32
  let v64 : BitVec 32 := Scalar.muli v62 c32_i32_36
  let c0_i32_39 : BitVec 32 := 0#32
  let c0_i32_40 : BitVec 32 := 0#32
  ![0, 0, v64.toNat, 0, 0]
def k0_off312 (i : grid0.Coords) (c2_i32_34 : BitVec 32) : Fin 6 → Nat :=
  let arg0 : BitVec 32 := BitVec.ofNat 32 (i 0).val
  let v62 : BitVec 32 := Scalar.subi arg0 c2_i32_34
  let c3_i32_35 : BitVec 32 := 3#32
  let v63 : BitVec 32 := Scalar.remsi v62 c3_i32_35
  let c0_i32_41 : BitVec 32 := 0#32
  let c0_i32_42 : BitVec 32 := 0#32
  let c0_i32_43 : BitVec 32 := 0#32
  let c0_i32_44 : BitVec 32 := 0#32
  let c0_i32_45 : BitVec 32 := 0#32
  ![v63.toNat, 0, 0, 0, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2x351x256 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S26x2x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S27x2x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S2x16384x351 : Shape := ⟨3, ![2, 16384, 351]⟩
abbrev S2x16384x26 : Shape := ⟨3, ![2, 16384, 26]⟩
abbrev S2x16384x27x128 : Shape := ⟨4, ![2, 16384, 27, 128]⟩
abbrev S2x16384x27 : Shape := ⟨3, ![2, 16384, 27]⟩
abbrev S2x16384x128 : Shape := ⟨3, ![2, 16384, 128]⟩
abbrev S27x27 : Shape := ⟨2, ![27, 27]⟩
abbrev S_ : Shape := ⟨0, ![]⟩
abbrev S27x27x1 : Shape := ⟨3, ![27, 27, 1]⟩
abbrev S2x16384x27x27 : Shape := ⟨4, ![2, 16384, 27, 27]⟩
abbrev S2x16384x27x1 : Shape := ⟨4, ![2, 16384, 27, 1]⟩
abbrev S2x16384x27x27x1 : Shape := ⟨5, ![2, 16384, 27, 27, 1]⟩
abbrev S2x16384x1x27x128 : Shape := ⟨5, ![2, 16384, 1, 27, 128]⟩
abbrev S2x16384x27x27x128 : Shape := ⟨5, ![2, 16384, 27, 27, 128]⟩
abbrev S2x16384x1x128 : Shape := ⟨4, ![2, 16384, 1, 128]⟩

abbrev nBuf : Space → Nat
  | .hbm => 81
  | .vmem => 4
  | .smem => 0
  | _ => 0

abbrev bufTy : (tb : Table) → Fin (tcTables nBuf tb) → BufTy
  | .hbm, ⟨0, _⟩ => ⟨S2x16384x351, .fp8e5m2⟩
  | .hbm, ⟨1, _⟩ => ⟨S2x16384x26, .f32⟩
  | .hbm, ⟨2, _⟩ => ⟨S2x16384x27x128, .fp8e4m3⟩
  | .hbm, ⟨3, _⟩ => ⟨S2x16384x27, .f32⟩
  | .hbm, ⟨4, _⟩ => ⟨S2x16384x128, .bf16⟩
  | .hbm, ⟨5, _⟩ => ⟨S27x27, .i32⟩
  | .hbm, ⟨6, _⟩ => ⟨S27x27, .i32⟩
  | .hbm, ⟨7, _⟩ => ⟨S27x27, .i32⟩
  | .hbm, ⟨8, _⟩ => ⟨S27x27, .i32⟩
  | .hbm, ⟨9, _⟩ => ⟨S27x27, .i1⟩
  | .hbm, ⟨10, _⟩ => ⟨S_, .i32⟩
  | .hbm, ⟨11, _⟩ => ⟨S27x27, .i32⟩
  | .hbm, ⟨12, _⟩ => ⟨S27x27, .i32⟩
  | .hbm, ⟨13, _⟩ => ⟨S27x27, .i32⟩
  | .hbm, ⟨14, _⟩ => ⟨S_, .i32⟩
  | .hbm, ⟨15, _⟩ => ⟨S27x27, .i32⟩
  | .hbm, ⟨16, _⟩ => ⟨S27x27, .i32⟩
  | .hbm, ⟨17, _⟩ => ⟨S27x27, .i32⟩
  | .hbm, ⟨18, _⟩ => ⟨S_, .i32⟩
  | .hbm, ⟨19, _⟩ => ⟨S_, .i32⟩
  | .hbm, ⟨20, _⟩ => ⟨S27x27, .i32⟩
  | .hbm, ⟨21, _⟩ => ⟨S27x27, .i32⟩
  | .hbm, ⟨22, _⟩ => ⟨S_, .i32⟩
  | .hbm, ⟨23, _⟩ => ⟨S27x27, .i32⟩
  | .hbm, ⟨24, _⟩ => ⟨S27x27, .i32⟩
  | .hbm, ⟨25, _⟩ => ⟨S_, .i32⟩
  | .hbm, ⟨26, _⟩ => ⟨S_, .i32⟩
  | .hbm, ⟨27, _⟩ => ⟨S27x27, .i32⟩
  | .hbm, ⟨28, _⟩ => ⟨S27x27, .i32⟩
  | .hbm, ⟨29, _⟩ => ⟨S2x16384x351, .bf16⟩
  | .hbm, ⟨30, _⟩ => ⟨S2x16384x27x128, .bf16⟩
  | .hbm, ⟨31, _⟩ => ⟨S_, .i32⟩
  | .hbm, ⟨32, _⟩ => ⟨S27x27, .i32⟩
  | .hbm, ⟨33, _⟩ => ⟨S27x27, .i1⟩
  | .hbm, ⟨34, _⟩ => ⟨S_, .i32⟩
  | .hbm, ⟨35, _⟩ => ⟨S27x27, .i32⟩
  | .hbm, ⟨36, _⟩ => ⟨S27x27, .i32⟩
  | .hbm, ⟨37, _⟩ => ⟨S27x27, .i32⟩
  | .hbm, ⟨38, _⟩ => ⟨S27x27x1, .i32⟩
  | .hbm, ⟨39, _⟩ => ⟨S2x16384x27x27, .bf16⟩
  | .hbm, ⟨40, _⟩ => ⟨S_, .i32⟩
  | .hbm, ⟨41, _⟩ => ⟨S27x27, .i32⟩
  | .hbm, ⟨42, _⟩ => ⟨S27x27, .i1⟩
  | .hbm, ⟨43, _⟩ => ⟨S_, .i32⟩
  | .hbm, ⟨44, _⟩ => ⟨S27x27, .i32⟩
  | .hbm, ⟨45, _⟩ => ⟨S27x27, .i32⟩
  | .hbm, ⟨46, _⟩ => ⟨S27x27, .i32⟩
  | .hbm, ⟨47, _⟩ => ⟨S27x27x1, .i32⟩
  | .hbm, ⟨48, _⟩ => ⟨S2x16384x27x27, .f32⟩
  | .hbm, ⟨49, _⟩ => ⟨S2x16384x27x27, .bf16⟩
  | .hbm, ⟨50, _⟩ => ⟨S2x16384x27x27, .bf16⟩
  | .hbm, ⟨51, _⟩ => ⟨S_, .bf16⟩
  | .hbm, ⟨52, _⟩ => ⟨S2x16384x27x27, .i1⟩
  | .hbm, ⟨53, _⟩ => ⟨S2x16384x27x27, .bf16⟩
  | .hbm, ⟨54, _⟩ => ⟨S2x16384x27x27, .bf16⟩
  | .hbm, ⟨55, _⟩ => ⟨S2x16384x27x1, .f32⟩
  | .hbm, ⟨56, _⟩ => ⟨S2x16384x27x1, .bf16⟩
  | .hbm, ⟨57, _⟩ => ⟨S2x16384x27x128, .bf16⟩
  | .hbm, ⟨58, _⟩ => ⟨S2x16384x27x128, .bf16⟩
  | .hbm, ⟨59, _⟩ => ⟨S2x16384x27x27, .f32⟩
  | .hbm, ⟨60, _⟩ => ⟨S2x16384x27x27x1, .f32⟩
  | .hbm, ⟨61, _⟩ => ⟨S2x16384x27x128, .f32⟩
  | .hbm, ⟨62, _⟩ => ⟨S2x16384x1x27x128, .f32⟩
  | .hbm, ⟨63, _⟩ => ⟨S2x16384x27x27x128, .f32⟩
  | .hbm, ⟨64, _⟩ => ⟨S2x16384x27x27x128, .f32⟩
  | .hbm, ⟨65, _⟩ => ⟨S2x16384x27x27x128, .f32⟩
  | .hbm, ⟨66, _⟩ => ⟨S_, .f32⟩
  | .hbm, ⟨67, _⟩ => ⟨S2x16384x27x128, .f32⟩
  | .hbm, ⟨68, _⟩ => ⟨S2x16384x27x128, .i32⟩
  | .hbm, ⟨69, _⟩ => ⟨S_, .i32⟩
  | .hbm, ⟨70, _⟩ => ⟨S2x16384x27x128, .i32⟩
  | .hbm, ⟨71, _⟩ => ⟨S2x16384x27x128, .i1⟩
  | .hbm, ⟨72, _⟩ => ⟨S2x16384x128, .f32⟩
  | .hbm, ⟨73, _⟩ => ⟨S2x16384x1x128, .f32⟩
  | .hbm, ⟨74, _⟩ => ⟨S_, .f32⟩
  | .hbm, ⟨75, _⟩ => ⟨S_, .f32⟩
  | .hbm, ⟨76, _⟩ => ⟨S2x16384x27x128, .f32⟩
  | .hbm, ⟨77, _⟩ => ⟨S2x16384x27x128, .f32⟩
  | .hbm, ⟨78, _⟩ => ⟨S2x16384x27x128, .f32⟩
  | .hbm, ⟨79, _⟩ => ⟨S2x16384x27x128, .f32⟩
  | .hbm, ⟨80, _⟩ => ⟨S2x16384x27x128, .bf16⟩
  | .local _ .vmem, ⟨0, _⟩ => ⟨S2x16384x351, .fp8e5m2⟩
  | .local _ .vmem, ⟨1, _⟩ => ⟨S2x16384x27x128, .fp8e4m3⟩
  | .local _ .vmem, ⟨2, _⟩ => ⟨S2x16384x351, .bf16⟩
  | .local _ .vmem, ⟨3, _⟩ => ⟨S2x16384x27x128, .bf16⟩
  | _, _ => ⟨S2x16384x351, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_call0_v0 : Ref sig .tc := ⟨.hbm, 19, rfl⟩
abbrev main_call0_v1 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_c_3 : Ref sig .tc := ⟨.hbm, 25, rfl⟩
abbrev main_call1_v0 : Ref sig .tc := ⟨.hbm, 26, rfl⟩
abbrev main_call1_v1 : Ref sig .tc := ⟨.hbm, 27, rfl⟩
abbrev main_v14 : Ref sig .tc := ⟨.hbm, 28, rfl⟩
abbrev main_v15_0 : Ref sig .tc := ⟨.hbm, 29, rfl⟩
abbrev main_v15_1 : Ref sig .tc := ⟨.hbm, 30, rfl⟩
abbrev main_c_4 : Ref sig .tc := ⟨.hbm, 31, rfl⟩
abbrev main_v16 : Ref sig .tc := ⟨.hbm, 32, rfl⟩
abbrev main_v17 : Ref sig .tc := ⟨.hbm, 33, rfl⟩
abbrev main_c_5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_6 : Ref sig .tc := ⟨.hbm, 40, rfl⟩
abbrev main_v23 : Ref sig .tc := ⟨.hbm, 41, rfl⟩
abbrev main_v24 : Ref sig .tc := ⟨.hbm, 42, rfl⟩
abbrev main_c_7 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst : Ref sig .tc := ⟨.hbm, 51, rfl⟩
abbrev main_call2_v0 : Ref sig .tc := ⟨.hbm, 52, rfl⟩
abbrev main_call2_v1 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_8 : Ref sig .tc := ⟨.hbm, 66, rfl⟩
abbrev main_v44 : Ref sig .tc := ⟨.hbm, 67, rfl⟩
abbrev main_v45 : Ref sig .tc := ⟨.hbm, 68, rfl⟩
abbrev main_c_9 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_10 : Ref sig .tc := ⟨.hbm, 74, rfl⟩
abbrev main_call3_v0 : Ref sig .tc := ⟨.hbm, 75, rfl⟩
abbrev main_call3_v1 : Ref sig .tc := ⟨.hbm, 76, rfl⟩
abbrev main_call3_v2 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S2x16384x351 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x16384x27x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x16384x351 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x16384x27x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.KI.Geo.lean ====
module

public import proofs.«01_k».proof.Proof.Gen.KernelIdeal.Loops
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Ring.WriteBehind
public import Idealize.ShloMosaic.Lib.Tactic
public import Idealize.ShloMosaic.Lib.WordCmp

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem rem3 : ∀ i : grid0.Coords, (Scalar.remsi (BitVec.ofNat 32 (i 0).val) 3#32).toNat = (i 0).val % 3 := by decide +kernel
theorem kdiv : ∀ k : Fin k0_t1_loop.trips, (Scalar.divsi (Scalar.subi (Scf.iv 0#32 1#32 k) 1#32) 2#32).toNat = (k.val - 1) / 2 := by decide +kernel
theorem ktile : ∀ (k : Fin k0_t1_loop.trips) (l : Fin k0_t3_loop.trips), 1 ≤ k.val → (Scalar.indexCast (Scalar.addi (Scalar.muli (Scalar.remsi (Scalar.subi (Scf.iv 0#32 1#32 k) 1#32) 2#32) 16#32) (Scf.iv 0#32 1#32 l)) : Index).toNat = 16 * ((k.val - 1) % 2) + l.val := by decide +kernel
theorem cond6_pos : ∀ k : Fin k0_t1_loop.trips, k0_cond6 k = 1#1 → 1 ≤ k.val := by decide +kernel
theorem cond5_lt : ∀ k : Fin k0_t1_loop.trips, k0_cond5 k = 1#1 → k.val < 4 := by decide +kernel
theorem off283_eq (i : grid0.Coords) (k : Fin k0_t1_loop.trips) : k0_off283 i k = ![(i 0).val % 3, (k.val - 1) / 2, 0, 0, 0] := by
  show ![(Scalar.remsi (BitVec.ofNat 32 (i 0).val) 3#32).toNat, (Scalar.divsi (Scalar.subi (Scf.iv 0#32 1#32 k) 1#32) 2#32).toNat, 0, 0, 0] = _
  rw [rem3, kdiv]
instance (i : grid0.Coords) (k : Fin k0_t1_loop.trips) : ClosedOff (k0_off283 i k) := ⟨_, off283_eq i k⟩
theorem off291_eq (i : grid0.Coords) (k : Fin k0_t1_loop.trips) (l : Fin k0_t3_loop.trips) (h : 1 ≤ k.val) : k0_off291 i k l = ![(i 0).val % 3, (k.val - 1) / 2, 0, 16 * ((k.val - 1) % 2) + l.val, 0, 0] := by
  show ![(Scalar.remsi (BitVec.ofNat 32 (i 0).val) 3#32).toNat, (Scalar.divsi (Scalar.subi (Scf.iv 0#32 1#32 k) 1#32) 2#32).toNat, 0, (Scalar.indexCast (Scalar.addi (Scalar.muli (Scalar.remsi (Scalar.subi (Scf.iv 0#32 1#32 k) 1#32) 2#32) 16#32) (Scf.iv 0#32 1#32 l)) : Index).toNat, 0, 0] = _
  rw [rem3, kdiv, ktile _ _ h]
instance (i : grid0.Coords) (k : Fin k0_t1_loop.trips) (l : Fin k0_t3_loop.trips) [h : Fact (1 ≤ k.val)] : ClosedOff (k0_off291 i k l) := ⟨_, off291_eq i k l h.out⟩
theorem off292_eq (i : grid0.Coords) (k : Fin k0_t1_loop.trips) (l : Fin k0_t3_loop.trips) (h : 1 ≤ k.val) : k0_off292 i k l = ![(i 0).val % 3, (k.val - 1) / 2, 8, 16 * ((k.val - 1) % 2) + l.val, 0, 0] := by
  show ![(Scalar.remsi (BitVec.ofNat 32 (i 0).val) 3#32).toNat, (Scalar.divsi (Scalar.subi (Scf.iv 0#32 1#32 k) 1#32) 2#32).toNat, 8, (Scalar.indexCast (Scalar.addi (Scalar.muli (Scalar.remsi (Scalar.subi (Scf.iv 0#32 1#32 k) 1#32) 2#32) 16#32) (Scf.iv 0#32 1#32 l)) : Index).toNat, 0, 0] = _
  rw [rem3, kdiv, ktile _ _ h]
instance (i : grid0.Coords) (k : Fin k0_t1_loop.trips) (l : Fin k0_t3_loop.trips) [h : Fact (1 ≤ k.val)] : ClosedOff (k0_off292 i k l) := ⟨_, off292_eq i k l h.out⟩
theorem off293_eq (i : grid0.Coords) (k : Fin k0_t1_loop.trips) (l : Fin k0_t3_loop.trips) (h : 1 ≤ k.val) : k0_off293 i k l = ![(i 0).val % 3, (k.val - 1) / 2, 16, 16 * ((k.val - 1) % 2) + l.val, 0, 0] := by
  show ![(Scalar.remsi (BitVec.ofNat 32 (i 0).val) 3#32).toNat, (Scalar.divsi (Scalar.subi (Scf.iv 0#32 1#32 k) 1#32) 2#32).toNat, 16, (Scalar.indexCast (Scalar.addi (Scalar.muli (Scalar.remsi (Scalar.subi (Scf.iv 0#32 1#32 k) 1#32) 2#32) 16#32) (Scf.iv 0#32 1#32 l)) : Index).toNat, 0, 0] = _
  rw [rem3, kdiv, ktile _ _ h]
instance (i : grid0.Coords) (k : Fin k0_t1_loop.trips) (l : Fin k0_t3_loop.trips) [h : Fact (1 ≤ k.val)] : ClosedOff (k0_off293 i k l) := ⟨_, off293_eq i k l h.out⟩
theorem off294_eq (i : grid0.Coords) (k : Fin k0_t1_loop.trips) (l : Fin k0_t3_loop.trips) (h : 1 ≤ k.val) : k0_off294 i k l = ![(i 0).val % 3, (k.val - 1) / 2, 24, 16 * ((k.val - 1) % 2) + l.val, 0, 0] := by
  show ![(Scalar.remsi (BitVec.ofNat 32 (i 0).val) 3#32).toNat, (Scalar.divsi (Scalar.subi (Scf.iv 0#32 1#32 k) 1#32) 2#32).toNat, 24, (Scalar.indexCast (Scalar.addi (Scalar.muli (Scalar.remsi (Scalar.subi (Scf.iv 0#32 1#32 k) 1#32) 2#32) 16#32) (Scf.iv 0#32 1#32 l)) : Index).toNat, 0, 0] = _
  rw [rem3, kdiv, ktile _ _ h]
instance (i : grid0.Coords) (k : Fin k0_t1_loop.trips) (l : Fin k0_t3_loop.trips) [h : Fact (1 ≤ k.val)] : ClosedOff (k0_off294 i k l) := ⟨_, off294_eq i k l h.out⟩
theorem off295_eq (i : grid0.Coords) (k : Fin k0_t1_loop.trips) (l : Fin k0_t3_loop.trips) (h : 1 ≤ k.val) : k0_off295 i k l = ![(i 0).val % 3, (k.val - 1) / 2, 0, 16 * ((k.val - 1) % 2) + l.val, 2, 0] := by
  show ![(Scalar.remsi (BitVec.ofNat 32 (i 0).val) 3#32).toNat, (Scalar.divsi (Scalar.subi (Scf.iv 0#32 1#32 k) 1#32) 2#32).toNat, 0, (Scalar.indexCast (Scalar.addi (Scalar.muli (Scalar.remsi (Scalar.subi (Scf.iv 0#32 1#32 k) 1#32) 2#32) 16#32) (Scf.iv 0#32 1#32 l)) : Index).toNat, 2, 0] = _
  rw [rem3, kdiv, ktile _ _ h]
instance (i : grid0.Coords) (k : Fin k0_t1_loop.trips) (l : Fin k0_t3_loop.trips) [h : Fact (1 ≤ k.val)] : ClosedOff (k0_off295 i k l) := ⟨_, off295_eq i k l h.out⟩
theorem off296_eq (i : grid0.Coords) (k : Fin k0_t1_loop.trips) (l : Fin k0_t3_loop.trips) (h : 1 ≤ k.val) : k0_off296 i k l = ![(i 0).val % 3, (k.val - 1) / 2, 8, 16 * ((k.val - 1) % 2) + l.val, 2, 0] := by
  show ![(Scalar.remsi (BitVec.ofNat 32 (i 0).val) 3#32).toNat, (Scalar.divsi (Scalar.subi (Scf.iv 0#32 1#32 k) 1#32) 2#32).toNat, 8, (Scalar.indexCast (Scalar.addi (Scalar.muli (Scalar.remsi (Scalar.subi (Scf.iv 0#32 1#32 k) 1#32) 2#32) 16#32) (Scf.iv 0#32 1#32 l)) : Index).toNat, 2, 0] = _
  rw [rem3, kdiv, ktile _ _ h]
instance (i : grid0.Coords) (k : Fin k0_t1_loop.trips) (l : Fin k0_t3_loop.trips) [h : Fact (1 ≤ k.val)] : ClosedOff (k0_off296 i k l) := ⟨_, off296_eq i k l h.out⟩
theorem off297_eq (i : grid0.Coords) (k : Fin k0_t1_loop.trips) (l : Fin k0_t3_loop.trips) (h : 1 ≤ k.val) : k0_off297 i k l = ![(i 0).val % 3, (k.val - 1) / 2, 16, 16 * ((k.val - 1) % 2) + l.val, 2, 0] := by
  show ![(Scalar.remsi (BitVec.ofNat 32 (i 0).val) 3#32).toNat, (Scalar.divsi (Scalar.subi (Scf.iv 0#32 1#32 k) 1#32) 2#32).toNat, 16, (Scalar.indexCast (Scalar.addi (Scalar.muli (Scalar.remsi (Scalar.subi (Scf.iv 0#32 1#32 k) 1#32) 2#32) 16#32) (Scf.iv 0#32 1#32 l)) : Index).toNat, 2, 0] = _
  rw [rem3, kdiv, ktile _ _ h]
instance (i : grid0.Coords) (k : Fin k0_t1_loop.trips) (l : Fin k0_t3_loop.trips) [h : Fact (1 ≤ k.val)] : ClosedOff (k0_off297 i k l) := ⟨_, off297_eq i k l h.out⟩
theorem off298_eq (i : grid0.Coords) (k : Fin k0_t1_loop.trips) (l : Fin k0_t3_loop.trips) (h : 1 ≤ k.val) : k0_off298 i k l = ![(i 0).val % 3, (k.val - 1) / 2, 24, 16 * ((k.val - 1) % 2) + l.val, 2, 0] := by
  show ![(Scalar.remsi (BitVec.ofNat 32 (i 0).val) 3#32).toNat, (Scalar.divsi (Scalar.subi (Scf.iv 0#32 1#32 k) 1#32) 2#32).toNat, 24, (Scalar.indexCast (Scalar.addi (Scalar.muli (Scalar.remsi (Scalar.subi (Scf.iv 0#32 1#32 k) 1#32) 2#32) 16#32) (Scf.iv 0#32 1#32 l)) : Index).toNat, 2, 0] = _
  rw [rem3, kdiv, ktile _ _ h]
instance (i : grid0.Coords) (k : Fin k0_t1_loop.trips) (l : Fin k0_t3_loop.trips) [h : Fact (1 ≤ k.val)] : ClosedOff (k0_off298 i k l) := ⟨_, off298_eq i k l h.out⟩
theorem off299_eq (i : grid0.Coords) (k : Fin k0_t1_loop.trips) (l : Fin k0_t3_loop.trips) (h : 1 ≤ k.val) : k0_off299 i k l = ![(i 0).val % 3, (k.val - 1) / 2, 0, 16 * ((k.val - 1) % 2) + l.val, 4, 0] := by
  show ![(Scalar.remsi (BitVec.ofNat 32 (i 0).val) 3#32).toNat, (Scalar.divsi (Scalar.subi (Scf.iv 0#32 1#32 k) 1#32) 2#32).toNat, 0, (Scalar.indexCast (Scalar.addi (Scalar.muli (Scalar.remsi (Scalar.subi (Scf.iv 0#32 1#32 k) 1#32) 2#32) 16#32) (Scf.iv 0#32 1#32 l)) : Index).toNat, 4, 0] = _
  rw [rem3, kdiv, ktile _ _ h]
instance (i : grid0.Coords) (k : Fin k0_t1_loop.trips) (l : Fin k0_t3_loop.trips) [h : Fact (1 ≤ k.val)] : ClosedOff (k0_off299 i k l) := ⟨_, off299_eq i k l h.out⟩
theorem off300_eq (i : grid0.Coords) (k : Fin k0_t1_loop.trips) (l : Fin k0_t3_loop.trips) (h : 1 ≤ k.val) : k0_off300 i k l = ![(i 0).val % 3, (k.val - 1) / 2, 8, 16 * ((k.val - 1) % 2) + l.val, 4, 0] := by
  show ![(Scalar.remsi (BitVec.ofNat 32 (i 0).val) 3#32).toNat, (Scalar.divsi (Scalar.subi (Scf.iv 0#32 1#32 k) 1#32) 2#32).toNat, 8, (Scalar.indexCast (Scalar.addi (Scalar.muli (Scalar.remsi (Scalar.subi (Scf.iv 0#32 1#32 k) 1#32) 2#32) 16#32) (Scf.iv 0#32 1#32 l)) : Index).toNat, 4, 0] = _
  rw [rem3, kdiv, ktile _ _ h]
instance (i : grid0.Coords) (k : Fin k0_t1_loop.trips) (l : Fin k0_t3_loop.trips) [h : Fact (1 ≤ k.val)] : ClosedOff (k0_off300 i k l) := ⟨_, off300_eq i k l h.out⟩
theorem off301_eq (i : grid0.Coords) (k : Fin k0_t1_loop.trips) (l : Fin k0_t3_loop.trips) (h : 1 ≤ k.val) : k0_off301 i k l = ![(i 0).val % 3, (k.val - 1) / 2, 16, 16 * ((k.val - 1) % 2) + l.val, 4, 0] := by
  show ![(Scalar.remsi (BitVec.ofNat 32 (i 0).val) 3#32).toNat, (Scalar.divsi (Scalar.subi (Scf.iv 0#32 1#32 k) 1#32) 2#32).toNat, 16, (Scalar.indexCast (Scalar.addi (Scalar.muli (Scalar.remsi (Scalar.subi (Scf.iv 0#32 1#32 k) 1#32) 2#32) 16#32) (Scf.iv 0#32 1#32 l)) : Index).toNat, 4, 0] = _
  rw [rem3, kdiv, ktile _ _ h]
instance (i : grid0.Coords) (k : Fin k0_t1_loop.trips) (l : Fin k0_t3_loop.trips) [h : Fact (1 ≤ k.val)] : ClosedOff (k0_off301 i k l) := ⟨_, off301_eq i k l h.out⟩
theorem off302_eq (i : grid0.Coords) (k : Fin k0_t1_loop.trips) (l : Fin k0_t3_loop.trips) (h : 1 ≤ k.val) : k0_off302 i k l = ![(i 0).val % 3, (k.val - 1) / 2, 24, 16 * ((k.val - 1) % 2) + l.val, 4, 0] := by
  show ![(Scalar.remsi (BitVec.ofNat 32 (i 0).val) 3#32).toNat, (Scalar.divsi (Scalar.subi (Scf.iv 0#32 1#32 k) 1#32) 2#32).toNat, 24, (Scalar.indexCast (Scalar.addi (Scalar.muli (Scalar.remsi (Scalar.subi (Scf.iv 0#32 1#32 k) 1#32) 2#32) 16#32) (Scf.iv 0#32 1#32 l)) : Index).toNat, 4, 0] = _
  rw [rem3, kdiv, ktile _ _ h]
instance (i : grid0.Coords) (k : Fin k0_t1_loop.trips) (l : Fin k0_t3_loop.trips) [h : Fact (1 ≤ k.val)] : ClosedOff (k0_off302 i k l) := ⟨_, off302_eq i k l h.out⟩
theorem off303_eq (i : grid0.Coords) (k : Fin k0_t1_loop.trips) (l : Fin k0_t3_loop.trips) (h : 1 ≤ k.val) : k0_off303 i k l = ![(i 0).val % 3, (k.val - 1) / 2, 0, 16 * ((k.val - 1) % 2) + l.val, 6, 0] := by
  show ![(Scalar.remsi (BitVec.ofNat 32 (i 0).val) 3#32).toNat, (Scalar.divsi (Scalar.subi (Scf.iv 0#32 1#32 k) 1#32) 2#32).toNat, 0, (Scalar.indexCast (Scalar.addi (Scalar.muli (Scalar.remsi (Scalar.subi (Scf.iv 0#32 1#32 k) 1#32) 2#32) 16#32) (Scf.iv 0#32 1#32 l)) : Index).toNat, 6, 0] = _
  rw [rem3, kdiv, ktile _ _ h]
instance (i : grid0.Coords) (k : Fin k0_t1_loop.trips) (l : Fin k0_t3_loop.trips) [h : Fact (1 ≤ k.val)] : ClosedOff (k0_off303 i k l) := ⟨_, off303_eq i k l h.out⟩
theorem off304_eq (i : grid0.Coords) (k : Fin k0_t1_loop.trips) (l : Fin k0_t3_loop.trips) (h : 1 ≤ k.val) : k0_off304 i k l = ![(i 0).val % 3, (k.val - 1) / 2, 8, 16 * ((k.val - 1) % 2) + l.val, 6, 0] := by
  show ![(Scalar.remsi (BitVec.ofNat 32 (i 0).val) 3#32).toNat, (Scalar.divsi (Scalar.subi (Scf.iv 0#32 1#32 k) 1#32) 2#32).toNat, 8, (Scalar.indexCast (Scalar.addi (Scalar.muli (Scalar.remsi (Scalar.subi (Scf.iv 0#32 1#32 k) 1#32) 2#32) 16#32) (Scf.iv 0#32 1#32 l)) : Index).toNat, 6, 0] = _
  rw [rem3, kdiv, ktile _ _ h]
instance (i : grid0.Coords) (k : Fin k0_t1_loop.trips) (l : Fin k0_t3_loop.trips) [h : Fact (1 ≤ k.val)] : ClosedOff (k0_off304 i k l) := ⟨_, off304_eq i k l h.out⟩
theorem off305_eq (i : grid0.Coords) (k : Fin k0_t1_loop.trips) (l : Fin k0_t3_loop.trips) (h : 1 ≤ k.val) : k0_off305 i k l = ![(i 0).val % 3, (k.val - 1) / 2, 16, 16 * ((k.val - 1) % 2) + l.val, 6, 0] := by
  show ![(Scalar.remsi (BitVec.ofNat 32 (i 0).val) 3#32).toNat, (Scalar.divsi (Scalar.subi (Scf.iv 0#32 1#32 k) 1#32) 2#32).toNat, 16, (Scalar.indexCast (Scalar.addi (Scalar.muli (Scalar.remsi (Scalar.subi (Scf.iv 0#32 1#32 k) 1#32) 2#32) 16#32) (Scf.iv 0#32 1#32 l)) : Index).toNat, 6, 0] = _
  rw [rem3, kdiv, ktile _ _ h]
instance (i : grid0.Coords) (k : Fin k0_t1_loop.trips) (l : Fin k0_t3_loop.trips) [h : Fact (1 ≤ k.val)] : ClosedOff (k0_off305 i k l) := ⟨_, off305_eq i k l h.out⟩
theorem off306_eq (i : grid0.Coords) (k : Fin k0_t1_loop.trips) (l : Fin k0_t3_loop.trips) (h : 1 ≤ k.val) : k0_off306 i k l = ![(i 0).val % 3, (k.val - 1) / 2, 24, 16 * ((k.val - 1) % 2) + l.val, 6, 0] := by
  show ![(Scalar.remsi (BitVec.ofNat 32 (i 0).val) 3#32).toNat, (Scalar.divsi (Scalar.subi (Scf.iv 0#32 1#32 k) 1#32) 2#32).toNat, 24, (Scalar.indexCast (Scalar.addi (Scalar.muli (Scalar.remsi (Scalar.subi (Scf.iv 0#32 1#32 k) 1#32) 2#32) 16#32) (Scf.iv 0#32 1#32 l)) : Index).toNat, 6, 0] = _
  rw [rem3, kdiv, ktile _ _ h]
instance (i : grid0.Coords) (k : Fin k0_t1_loop.trips) (l : Fin k0_t3_loop.trips) [h : Fact (1 ≤ k.val)] : ClosedOff (k0_off306 i k l) := ⟨_, off306_eq i k l h.out⟩

/-- Slot `s` of the ring the embedding blocks are copied into, padding included. -/
abbrev eR (s : ℕ) : Rect S3x2x32x288x128 :=
  Rect.unit (s := S3x2x32x288x128) ![s % 3, 0, 0, 0, 0] ![1, 2, 32, 288, 128] (fun a => by have := Nat.mod_lt s (show 0 < 3 by decide); fin_cases a <;> simp <;> omega)
/-- Slot `s` of the ring the results are copied out of, padding included. -/
abbrev oR (s : ℕ) : Rect S3x2x27x33x8x128 :=
  Rect.unit (s := S3x2x27x33x8x128) ![s % 3, 0, 0, 0, 0, 0] ![1, 2, 27, 33, 8, 128] (fun a => by have := Nat.mod_lt s (show 0 < 3 by decide); fin_cases a <;> simp <;> omega)

/-- Every element of a batch's planes of a slot is the slot's. -/
theorem e_sub (arg7 : Memref sig .tc .vmem S3x2x32x288x128 .fp8e4m3) (i : grid0.Coords) (k : Fin k0_t1_loop.trips)
    (h : k0_cond6 k = 1#1) (M : Finset S32x288x128.Idx) :
    ((arg7.slice (Rect.unit (s := S3x2x32x288x128) (k0_off283 i k) S1x1x32x288x128.size (k0_off283_inb i k h)) (fun _ => rfl)).squeeze S32x288x128 squeezes_S1x1x32x288x128_S32x288x128).view.setOn M
      ⊆ arg7.view.setOn (eR (i 0).val).set := by
  have hk := k.isLt
  refine (View.setOn_subset_set _ M).trans ?_
  refine (View.set_reshape_subset (arg7.view.slice _) _ (Finset.Subset.refl _)).trans ?_
  rw [View.set_slice]
  refine Finset.map_subset_map.mpr (Rect.set_subset_of_span _ _ (fun _ => rfl) ?_)
  have hk5 : k.val < 5 := k.isLt
  generalize k0_off283_inb i k h = hb
  revert hb
  rw [off283_eq i k]
  intro hb a
  fin_cases a <;> simp [eR, Rect.unit] <;> omega

theorem o_sub (arg8 : Memref sig .tc .vmem S3x2x27x33x8x128 .bf16) (i : grid0.Coords) (off size : Fin 6 → ℕ) (inb) (b i0 tile q : ℕ)
    (e : off = ![(i 0).val % 3, b, i0, tile, q, 0]) (hs : size 0 = 1) (M : Finset _) :
    (arg8.access (Rect.unit (s := S3x2x27x33x8x128) off size inb)).setOn M ⊆ arg8.view.setOn (oR (i 0).val).set := by
  refine (View.setOn_subset_set _ M).trans ?_
  show (arg8.view.slice _).set ⊆ _
  rw [View.set_slice]
  refine Finset.map_subset_map.mpr (Rect.set_subset_of_span _ _ (fun _ => rfl) ?_)
  subst e
  intro a
  have := inb a
  fin_cases a <;> simp [oR, Rect.unit, hs] at this ⊢ <;> omega

end Cert.Proof.KernelIdeal

end
-- ==== Proof.KI.Mem.lean ====
module

public import proofs.«01_k».proof.Proof.KI.Geo
public import proofs.«01_k».proof.Proof.Gen.KernelIdeal.Loops
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Ring.WriteBehind
public import Idealize.ShloMosaic.Lib.Tactic
public import Idealize.ShloMosaic.Lib.WordCmp

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem inb_eBox (s : Fin 3) : ∀ a, (![s.val, 0, 0, 0, 0] : Fin 5 → Nat) a + S1x2x27x256x128.size a ≤ S3x2x32x288x128.size a := by
  have := s.isLt; intro a; fin_cases a <;> simp <;> omega
theorem inb_eSlot (s : Fin 3) : ∀ a, (![s.val, 0, 0, 0, 0] : Fin 5 → Nat) a + (![1, 2, 32, 288, 128] : Fin 5 → Nat) a ≤ S3x2x32x288x128.size a := by
  have := s.isLt; intro a; fin_cases a <;> simp <;> omega
theorem inb_ePad (s : Fin 3) : ∀ a, (![s.val, 0, 27, 0, 0] : Fin 5 → Nat) a + (![1, 2, 5, 288, 128] : Fin 5 → Nat) a ≤ S3x2x32x288x128.size a := by
  have := s.isLt; intro a; fin_cases a <;> simp <;> omega
theorem inb_oTile (s : Fin 3) : ∀ a, (![s.val, 0, 0, 0, 0, 0] : Fin 6 → Nat) a + S1x2x27x32x8x128.size a ≤ S3x2x27x33x8x128.size a := by
  have := s.isLt; intro a; fin_cases a <;> simp <;> omega
theorem inb_oSlot (s : Fin 3) : ∀ a, (![s.val, 0, 0, 0, 0, 0] : Fin 6 → Nat) a + (![1, 2, 27, 33, 8, 128] : Fin 6 → Nat) a ≤ S3x2x27x33x8x128.size a := by
  have := s.isLt; intro a; fin_cases a <;> simp <;> omega

/-- Slot `s` of the ring the embeddings are copied into, padding included. -/
abbrev eSlot (s : Fin 3) : Rect S3x2x32x288x128 := Rect.unit (s := S3x2x32x288x128) ![s.val, 0, 0, 0, 0] ![1, 2, 32, 288, 128] (inb_eSlot s)
/-- The padding planes of slot `s`, which no copy fills. -/
abbrev ePad (s : Fin 3) : Rect S3x2x32x288x128 := Rect.unit (s := S3x2x32x288x128) ![s.val, 0, 27, 0, 0] ![1, 2, 5, 288, 128] (inb_ePad s)
/-- Slot `s` of the ring the results are copied out of, padding included. -/
abbrev oSlot (s : Fin 3) : Rect S3x2x27x33x8x128 := Rect.unit (s := S3x2x27x33x8x128) ![s.val, 0, 0, 0, 0, 0] ![1, 2, 27, 33, 8, 128] (inb_oSlot s)

/-- The box of slot `s` that one copy of embeddings fills, spelt as the copies spell their destination. -/
def eBox (arg7 : Memref sig .tc .vmem S3x2x32x288x128 .fp8e4m3) (s : Fin 3) : Memref sig .tc .vmem S2x27x256x128 .fp8e4m3 :=
  (arg7.slice (Rect.unit (s := S3x2x32x288x128) ![s.val, 0, 0, 0, 0] S1x2x27x256x128.size (inb_eBox s)) (fun _ => rfl)).squeeze S2x27x256x128 squeezes_S1x2x27x256x128_S2x27x256x128
/-- The tile of slot `s` that one copy of results carries out, spelt as the copies spell their source. -/
def oTile (arg8 : Memref sig .tc .vmem S3x2x27x33x8x128 .bf16) (s : Fin 3) : Memref sig .tc .vmem S2x27x32x8x128 .bf16 :=
  (arg8.slice (Rect.unit (s := S3x2x27x33x8x128) ![s.val, 0, 0, 0, 0, 0] S1x2x27x32x8x128.size (inb_oTile s)) (fun _ => rfl)).squeeze S2x27x32x8x128 squeezes_S1x2x27x32x8x128_S2x27x32x8x128

section Split
variable (arg7 : Memref sig .tc .vmem S3x2x32x288x128 .fp8e4m3) (arg8 : Memref sig .tc .vmem S3x2x27x33x8x128 .bf16) (c : Dev nD) (s : Fin 3)

theorem eBox_set : (eBox arg7 s).view.set = arg7.view.setOn (Rect.unit (s := S3x2x32x288x128) ![s.val, 0, 0, 0, 0] S1x2x27x256x128.size (inb_eBox s)).set := by
  simp only [eBox, Memref.view_squeeze, View.set_reshape]; exact View.set_slice _ _
theorem oTile_set : (oTile arg8 s).view.set = arg8.view.setOn (Rect.unit (s := S3x2x27x33x8x128) ![s.val, 0, 0, 0, 0, 0] S1x2x27x32x8x128.size (inb_oTile s)).set := by
  simp only [oTile, Memref.view_squeeze, View.set_reshape]; exact View.set_slice _ _

theorem eBox_sub : (eBox arg7 s).view.set ⊆ arg7.view.setOn (eSlot s).set := by
  rw [eBox_set]
  refine Finset.map_subset_map.mpr fun x hx => ?_
  have h := Rect.mem_set_unit.mp hx
  refine Rect.mem_set_unit.mpr fun a => ?_
  have := h a
  fin_cases a <;> simp at this ⊢ <;> omega
theorem oTile_sub : (oTile arg8 s).view.set ⊆ arg8.view.setOn (oSlot s).set := by
  rw [oTile_set]
  refine Finset.map_subset_map.mpr fun x hx => ?_
  have h := Rect.mem_set_unit.mp hx
  refine Rect.mem_set_unit.mpr fun a => ?_
  have := h a
  fin_cases a <;> simp at this ⊢ <;> omega
theorem ePad_sub : arg7.view.setOn (ePad s).set ⊆ arg7.view.setOn (eSlot s).set \ (eBox arg7 s).view.set := by
  rw [eBox_set]
  unfold View.setOn
  rw [← Finset.map_sdiff]
  refine Finset.map_subset_map.mpr fun x hx => ?_
  have h := Rect.mem_set_unit.mp hx
  refine Finset.mem_sdiff.mpr ⟨Rect.mem_set_unit.mpr fun a => ?_, fun hn => ?_⟩
  · have := h a
    fin_cases a <;> simp at this ⊢ <;> omega
  · have h1 := h 2
    have h2 := Rect.mem_set_unit.mp hn 2
    simp at h1 h2
    omega

/-- What slot `s` holds beside the box a copy fills. -/
def eRestP (g : Buf (Elt F) (arg7.view.loc (c : Thread nD τ))) : sProp 𝕄 :=
  arg7.view.loc (c : Thread nD τ) ↦[arg7.view.setOn (eSlot s).set \ (eBox arg7 s).view.set]{fullShare} g
/-- What is left of that beside the padding planes. -/
def eRemP (g : Buf (Elt F) (arg7.view.loc (c : Thread nD τ))) : sProp 𝕄 :=
  arg7.view.loc (c : Thread nD τ) ↦[(arg7.view.setOn (eSlot s).set \ (eBox arg7 s).view.set) \ arg7.view.setOn (ePad s).set]{fullShare} g
/-- What a slot of the results holds beside the tile a copy carries out. -/
def oRestP (g : Buf (Elt F) (arg8.view.loc (c : Thread nD τ))) : sProp 𝕄 :=
  arg8.view.loc (c : Thread nD τ) ↦[arg8.view.setOn (oSlot s).set \ (oTile arg8 s).view.set]{fullShare} g

theorem e_join (f : Buf (Elt F) ((eBox arg7 s).view.loc (c : Thread nD τ))) (g : Buf (Elt F) (arg7.view.loc (c : Thread nD τ))) :
    iprop(((eBox arg7 s).view.loc (c : Thread nD τ) ↦[(eBox arg7 s).view.set]{fullShare} f) ∗ eRestP arg7 c s g)
      ⊢ (arg7.view.loc (c : Thread nD τ) ↦[arg7.view.setOn (eSlot s).set]{fullShare} ((eBox arg7 s).view.set.piecewise (f : Buf (Elt F) (arg7.view.loc (c : Thread nD τ))) g) : sProp 𝕄) :=
  pointsTo_join_subset (eBox_sub arg7 s)
theorem e_cut (f : Buf (Elt F) (arg7.view.loc (c : Thread nD τ))) :
    (arg7.view.loc (c : Thread nD τ) ↦[arg7.view.setOn (eSlot s).set]{fullShare} f : sProp 𝕄)
      ⊢ iprop(((eBox arg7 s).view.loc (c : Thread nD τ) ↦[(eBox arg7 s).view.set]{fullShare} f) ∗ eRestP arg7 c s f) :=
  (pointsTo_split_subset (eBox_sub arg7 s)).1
theorem e_pad (g : Buf (Elt F) (arg7.view.loc (c : Thread nD τ))) :
    eRestP arg7 c s g ⊢ (iprop((arg7.view.loc (c : Thread nD τ) ↦[arg7.view.setOn (ePad s).set]{fullShare} g) ∗ eRemP arg7 c s g) : sProp 𝕄) :=
  (pointsTo_split_subset (ePad_sub arg7 s)).1
theorem e_unpad (f g : Buf (Elt F) (arg7.view.loc (c : Thread nD τ))) :
    iprop((arg7.view.loc (c : Thread nD τ) ↦[arg7.view.setOn (ePad s).set]{fullShare} f) ∗ eRemP arg7 c s g) ⊢ (iprop(∃ h, eRestP arg7 c s h) : sProp 𝕄) := by
  refine (pointsTo_join_subset (ePad_sub arg7 s)).trans ?_
  iintro H
  iexists _
  unfold eRestP
  iexact H
theorem o_join (f : Buf (Elt F) ((oTile arg8 s).view.loc (c : Thread nD τ))) (g : Buf (Elt F) (arg8.view.loc (c : Thread nD τ))) :
    iprop(((oTile arg8 s).view.loc (c : Thread nD τ) ↦[(oTile arg8 s).view.set]{fullShare} f) ∗ oRestP arg8 c s g)
      ⊢ (arg8.view.loc (c : Thread nD τ) ↦[arg8.view.setOn (oSlot s).set]{fullShare} ((oTile arg8 s).view.set.piecewise (f : Buf (Elt F) (arg8.view.loc (c : Thread nD τ))) g) : sProp 𝕄) :=
  pointsTo_join_subset (oTile_sub arg8 s)
theorem o_cut (f : Buf (Elt F) (arg8.view.loc (c : Thread nD τ))) :
    (arg8.view.loc (c : Thread nD τ) ↦[arg8.view.setOn (oSlot s).set]{fullShare} f : sProp 𝕄)
      ⊢ iprop(((oTile arg8 s).view.loc (c : Thread nD τ) ↦[(oTile arg8 s).view.set]{fullShare} f) ∗ oRestP arg8 c s f) :=
  (pointsTo_split_subset (oTile_sub arg8 s)).1
end Split

theorem eR_sl (n : ℕ) : eSlot (Ring.sl 3 n) = eR n := rfl
theorem oR_sl (n : ℕ) : oSlot (Ring.sl 3 n) = oR n := rfl

section JoinAt
variable (arg7 : Memref sig .tc .vmem S3x2x32x288x128 .fp8e4m3) (arg8 : Memref sig .tc .vmem S3x2x27x33x8x128 .bf16) (c : Dev nD) (n : ℕ)
/-- A slot whole, at contents that are the box's on the box. -/
theorem e_joinAt (f : Buf (Elt F) ((eBox arg7 (Ring.sl 3 n)).view.loc (c : Thread nD τ))) (g : Buf (Elt F) (arg7.view.loc (c : Thread nD τ))) :
    iprop(((eBox arg7 (Ring.sl 3 n)).view.loc (c : Thread nD τ) ↦[(eBox arg7 (Ring.sl 3 n)).view.set]{fullShare} f) ∗ eRestP arg7 c (Ring.sl 3 n) g)
      ⊢ (iprop(∃ h : Buf (Elt F) (arg7.view.loc (c : Thread nD τ)), ⌜∀ x ∈ (eBox arg7 (Ring.sl 3 n)).view.set, h x = (f : Buf (Elt F) (arg7.view.loc (c : Thread nD τ))) x⌝
          ∗ arg7.view.loc (c : Thread nD τ) ↦[arg7.view.setOn (eR n).set]{fullShare} h) : sProp 𝕄) := by
  refine (e_join arg7 c (Ring.sl 3 n) f g).trans ?_
  iintro H
  iexists _
  isplitr; swap; · iexact H
  ipureintro
  intro x hx
  exact Finset.piecewise_eq_of_mem _ _ _ hx
theorem o_joinAt (f : Buf (Elt F) ((oTile arg8 (Ring.sl 3 n)).view.loc (c : Thread nD τ))) (g : Buf (Elt F) (arg8.view.loc (c : Thread nD τ))) :
    iprop(((oTile arg8 (Ring.sl 3 n)).view.loc (c : Thread nD τ) ↦[(oTile arg8 (Ring.sl 3 n)).view.set]{fullShare} f) ∗ oRestP arg8 c (Ring.sl 3 n) g)
      ⊢ (iprop(∃ h : Buf (Elt F) (arg8.view.loc (c : Thread nD τ)), ⌜∀ x ∈ (oTile arg8 (Ring.sl 3 n)).view.set, h x = (f : Buf (Elt F) (arg8.view.loc (c : Thread nD τ))) x⌝
          ∗ arg8.view.loc (c : Thread nD τ) ↦[arg8.view.setOn (oR n).set]{fullShare} h) : sProp 𝕄) := by
  refine (o_join arg8 c (Ring.sl 3 n) f g).trans ?_
  iintro H
  iexists _
  isplitr; swap; · iexact H
  ipureintro
  intro x hx
  exact Finset.piecewise_eq_of_mem _ _ _ hx
/-- and the slot cut again. -/
theorem e_cutAt (f : Buf (Elt F) (arg7.view.loc (c : Thread nD τ))) :
    (arg7.view.loc (c : Thread nD τ) ↦[arg7.view.setOn (eR n).set]{fullShare} f : sProp 𝕄)
      ⊢ iprop(((eBox arg7 (Ring.sl 3 n)).view.loc (c : Thread nD τ) ↦[(eBox arg7 (Ring.sl 3 n)).view.set]{fullShare} f) ∗ eRestP arg7 c (Ring.sl 3 n) f) :=
  e_cut arg7 c (Ring.sl 3 n) f
theorem o_cutAt (f : Buf (Elt F) (arg8.view.loc (c : Thread nD τ))) :
    (arg8.view.loc (c : Thread nD τ) ↦[arg8.view.setOn (oR n).set]{fullShare} f : sProp 𝕄)
      ⊢ iprop(((oTile arg8 (Ring.sl 3 n)).view.loc (c : Thread nD τ) ↦[(oTile arg8 (Ring.sl 3 n)).view.set]{fullShare} f) ∗ oRestP arg8 c (Ring.sl 3 n) f) :=
  o_cut arg8 c (Ring.sl 3 n) f
end JoinAt

end Cert.Proof.KernelIdeal

end
-- ==== Proof.KI.Kit.lean ====
module

public import proofs.«01_k».proof.Proof.KI.Mem

public import proofs.«01_k».proof.Proof.Gen.KernelIdeal.Loops
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Ring.WriteBehind
public import Idealize.ShloMosaic.Lib.Tactic
public import Idealize.ShloMosaic.Lib.WordCmp

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The buffers the lines after the region WRITE, as references: results computed from contents the run does not name
    (an operand the body wrote by its own DMA, or a forgotten output), so nothing is stated of them either. -/
def T0 : Finset (Ref sig .tc) := {main_v5, main_v6}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (Pipeline.UD sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (dats : (p : Fin _) → (c : Dev nD) → Dat τ (Elt F) Unit ℕ (Pipeline.UD sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (dats : (p : Fin _) → (c : Dev nD) → Dat τ (Elt F) Unit ℕ (Pipeline.UD sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`: it ends as launched. -/
theorem W_main_arg3 (dats : (p : Fin _) → (c : Dev nD) → Dat τ (Elt F) Unit ℕ (Pipeline.UD sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The operands left in HBM the body WRITES by its own transfers, as references (results accumulated in place; the
    run's post says nothing of them: Lib/Pipeline/Frame.lean `FramePostR`). -/
def R0 : Finset (Ref sig .tc) := {main_v4}

/-! ## The frame claim's post from the frame run's -/

/-- THE FRAME from a frame run: for any proof data whose arrays are the region-entry contents (`hA`), a run to
    Lib/Pipeline/Frame.lean's `FramePostR` read at the argument arrays — a staged input by the library's
    `Dat.arrAt_in`, an array no window stages (none is in `(R0 ∪ T0)`) by the post's second clause, each then by `V_…` — is the frame
    claim's post (`Cert.frame_Kernel`, Defs.lean, at any `F`). -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePostR cfgs dats 0 (R0 ∪ T0) (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      ((h c).1 3).trans (((dats 0 c).arrAt_in 3 rfl _).trans ((hA c 3).trans (V_main_arg4 m c)))⟩) h

/-- When the body's branch 1 is taken. -/
theorem hcond_1 : ∀ i : grid0.Coords, k0_cond1 i = 1#1 ↔ (i 0).val = 0 := by decide +kernel
/-- When the body's branch 2 is taken. -/
theorem hcond_2 : ∀ i : grid0.Coords, k0_cond2 i = 1#1 ↔ 1 ≤ (i 0).val := by decide +kernel
/-- When the body's branch 3 is taken. -/
theorem hcond_3 : ∀ i : grid0.Coords, k0_cond3 i = 1#1 ↔ (i 0).val < 62 := by decide +kernel
/-- When the body's branch 4 is taken. -/
theorem hcond_4 : ∀ i : grid0.Coords, k0_cond4 i = 1#1 ↔ 3 ≤ (i 0).val := by decide +kernel
/-- When the body's branch 7 is taken. -/
theorem hcond_7 : ∀ i : grid0.Coords, k0_cond7 i = 1#1 ↔ (i 0).val = 63 := by decide +kernel

theorem coord_val (t : Fin cfg0.N) : (grid0.coords t 0).val = t.val := by
  have ht : t.val < 64 := Nat.lt_of_lt_of_eq t.isLt N_0
  have e0 : (grid0.coords t 0).val = t.val / 1 % 64 := Pipeline.Grid.coords_val t 0 (by decide) rfl
  omega

/-- Each window's current staging memref at point `t`, spelled as the pipeline passes it (`bodyAt0`), and its wholeness. -/
abbrev ms0_0 (t : Fin cfg0.N) : Memref sig .tc .vmem S2x351x256 .fp8e5m2 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S26x2x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S27x2x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x256x128 .bf16 := win0_3.stage (cfg0.slots t 3)
abbrev hs0_3 (t : Fin cfg0.N) : (ms0_3 t).IsWhole := hstage0_3 ((cfg0.slots t 3).cast nbuf0_3)
/-- The scratch operands: whole scoped buffers of the kernel's own, passed beside the windows. -/
abbrev scM0_0 : Memref sig .tc .vmem S3x2x32x288x128 .fp8e4m3 := Memref.whole cc0_scratch0
abbrev scM0_1 : Memref sig .tc .vmem S3x2x27x33x8x128 .bf16 := Memref.whole cc0_scratch1
abbrev scM0_2 : Memref sig .tc .vmem S2x352x128 .f32 := Memref.whole cc0_scratch2
abbrev scM0_3 : Memref sig .tc .vmem S2x2x32x128 .f32 := Memref.whole cc0_scratch3
abbrev scM0_4 : Memref sig .tc .vmem S2x1008x128 .f32 := Memref.whole cc0_scratch4
abbrev scM0_5 : Memref sig .tc .vmem S2x2560x2x128 .bf16 := Memref.whole cc0_scratch5
abbrev scM0_6 : Memref sig .tc .vmem S2x1152x128 .f32 := Memref.whole cc0_scratch6
/-- The operands left in HBM that the body copies into scratch itself, whole. -/
abbrev hbM0_0 : Memref sig .tc .hbm S2x27x16384x128 .fp8e4m3 := Memref.whole main_v3
abbrev hbM0_1 : Memref sig .tc .hbm S2x27x2048x8x128 .bf16 := Memref.whole main_v4
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 6 → SemLoc sig := fun j => (![SemLoc.dma 8, SemLoc.dma 9, SemLoc.dma 10, SemLoc.dma 11, SemLoc.dma 12, SemLoc.dma 13] : Fin 6 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0) := by
  rw [Pipeline.ownSems0_eq_of_list c osem0 [0, 1, 2, 3, 4, 5] (by decide) (by decide)]; rfl
/-- The HBM operands the body copies from and leaves unchanged, as references: unscoped, no window's array (`Pipeline.restRefs`). -/
def H0 : Finset (Ref sig .tc) := {main_v3}
theorem H0_sub : H0 ⊆ Pipeline.restRefs sig spec0 := by decide
/-- The ones it writes (`R0`, stated with the kit) are unscoped, no window's array, and none of `H0`. -/
theorem R0_sub : R0 ⊆ Pipeline.restRefs sig spec0 \ H0 := by decide
/-- The read operands' points-tos at the launch contents, listed. -/
theorem hbmPts0_eq (c : Dev nD) :
    (bigSep H0 (fun b => ((c : Thread nD τ).loc b) ↦{fullShare} V m c b) : sProp 𝕄) = iprop(hbPt0 c hbM0_0 (V m c main_v3)) := by
  rw [BI.bigSep_eq_bigSepL_of_eq [main_v3] (by decide) (by decide)]; rfl
/-- The written operands' points-tos at some contents each (`Pipeline.owned`), listed. -/
theorem ownedPts0_eq (c : Dev nD) :
    (Pipeline.owned R0 c : sProp 𝕄) = iprop((∃ f, hbPt0 c hbM0_1 f)) := by
  unfold Pipeline.owned; rw [BI.bigSep_eq_bigSepL_of_eq [main_v4] (by decide) (by decide)]; rfl

/-- The invariant of a body with transfers of its own that write some HBM operands, `Pipeline.ΦDR`, conjunct by conjunct:
    the scratch operands owned at some contents, the generator register at some state, the own cells at zero, the HBM
    operands read at their launch contents, the HBM operands written at some contents — what the body obligation hands
    the run and takes back. -/
theorem PhiDR0_eq (c : Dev nD) :
    (Pipeline.ΦDR osem0 spec0 H0 R0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r) ∗ iprop(semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0) ∗ iprop(hbPt0 c hbM0_0 (V m c main_v3)) ∗ iprop((∃ f, hbPt0 c hbM0_1 f))) := by
  rw [Pipeline.ΦDR_eq, scopedRest0_eq, ownSems00_eq, hbmPts0_eq, ownedPts0_eq]; simp only [scM0_0, scM0_1, scM0_2, scM0_3, scM0_4, scM0_5, scM0_6, owns_whole]; try rfl

end Cert.Proof.KernelIdeal

end
-- ==== Proof.KI.Rings.lean ====
module

public import proofs.«01_k».proof.Proof.KI.Kit
public import proofs.«01_k».proof.Proof.Gen.KernelIdeal.Loops
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Ring.WriteBehind
public import Idealize.ShloMosaic.Lib.Tactic
public import Idealize.ShloMosaic.Lib.WordCmp

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

instance : NeZero grid0.N := ⟨by rw [N_0]; decide⟩
theorem inb_eSrc (b : Fin 64) : ∀ a, (![0, 0, 256 * b.val, 0] : Fin 4 → Nat) a + S2x27x256x128.size a ≤ S2x27x16384x128.size a := by
  have := b.isLt; intro a; fin_cases a <;> simp <;> omega
theorem inb_cell (s : Fin 3) : ∀ a, (![s.val] : Fin 1 → Nat) a + S1.size a ≤ S3.size a := by
  have := s.isLt; intro a; fin_cases a <;> simp <;> omega
theorem inb_oPiece (b : Fin 64) : ∀ a, (![0, 0, 32 * b.val, 0, 0] : Fin 5 → Nat) a + S2x27x32x8x128.size a ≤ S2x27x2048x8x128.size a := by
  have := b.isLt; intro a; fin_cases a <;> simp <;> omega
/-- Block `b` of the embeddings, spelt as the copies spell their source. -/
def eSrc (b : Fin 64) : Memref sig .tc .hbm S2x27x256x128 .fp8e4m3 :=
  hbM0_0.slice (Rect.unit (s := S2x27x16384x128) ![0, 0, 256 * b.val, 0] S2x27x256x128.size (inb_eSrc b)) (fun _ => rfl)
/-- Block `b` of the result, spelt as the copies spell their destination. -/
def oPiece (b : Fin 64) : Memref sig .tc .hbm S2x27x32x8x128 .bf16 :=
  hbM0_1.slice (Rect.unit (s := S2x27x2048x8x128) ![0, 0, 32 * b.val, 0, 0] S2x27x32x8x128.size (inb_oPiece b)) (fun _ => rfl)
/-- The cells the copies of the two rings are counted on. -/
def eCell (s : Fin 3) : DmaSems sig S_ := (cc0_scratch7.slice (Rect.unit (s := S3) ![s.val] S1.size (inb_cell s))).squeeze S_ squeezes_S1_S_
def oCell (s : Fin 3) : DmaSems sig S_ := (cc0_scratch8.slice (Rect.unit (s := S3) ![s.val] S1.size (inb_cell s))).squeeze S_ squeezes_S1_S_
abbrev eCellR (s : Fin 3) : SemLoc sig := SemLoc.dma (eCell s).sem
abbrev oCellR (s : Fin 3) : SemLoc sig := SemLoc.dma (oCell s).sem
theorem eCellR_0 : eCellR 0 = SemLoc.dma 8 := by decide
theorem eCellR_1 : eCellR 1 = SemLoc.dma 9 := by decide
theorem eCellR_2 : eCellR 2 = SemLoc.dma 10 := by decide
theorem oCellR_0 : oCellR 0 = SemLoc.dma 11 := by decide
theorem oCellR_1 : oCellR 1 = SemLoc.dma 12 := by decide
theorem oCellR_2 : oCellR 2 = SemLoc.dma 13 := by decide

/-! ## The families the two rings are stated over -/

section Families
variable (c : Dev nD) (W : HbBuf0 (F := F) c hbM0_0)
/-- The embeddings are lent by share, one share to each slot. -/
abbrev eShare (s : Fin 3) : PosShare TreeShare := if s.val = 0 then fullShare.left else if s.val = 1 then fullShare.right.left else fullShare.right.right
abbrev eSlotP (s : Fin 3) (f : HbBuf0 (F := F) c (eBox scM0_0 s)) : sProp 𝕄 := (eBox scM0_0 s).view.loc (c : Thread nD τ) ↦[(eBox scM0_0 s).view.set]{fullShare} f
abbrev eCellP (s : Fin 3) : sProp 𝕄 := semVal ((c : Thread nD τ), eCellR s) 0
abbrev eSrcP (s : Fin 3) (b : Fin 64) : sProp 𝕄 := (eSrc b).view.loc (c : Thread nD τ) ↦[(eSrc b).view.set]{eShare s} W
def eOtherP (s : Fin 3) (b : Fin 64) : sProp 𝕄 := ((c : Thread nD τ).loc main_v3) ↦[Finset.univ \ (eSrc b).view.set]{eShare s} W
abbrev eWholeP (s : Fin 3) : sProp 𝕄 := ((c : Thread nD τ).loc main_v3) ↦[Finset.univ]{eShare s} W
/-- A slot's contents once block `b` landed in it. -/
abbrev eLanded (s : Fin 3) (b : Fin 64) (f : HbBuf0 (F := F) c (eBox scM0_0 s)) : HbBuf0 (F := F) c (eBox scM0_0 s) :=
  (eBox scM0_0 s).view.writes (Elt F) f [⟨Rect.whole S2x27x256x128, ReadAs.same.apply ((eSrc b).view.read (Elt F) W)⟩]
abbrev eSlotW (s : Fin 3) (f : HbBuf0 (F := F) c (eBox scM0_0 s)) : sProp 𝕄 := iprop(eSlotP c s f ∗ eWholeP c W s)
/-- Block `b` on its way into slot `s`. -/
abbrev eFlight (s : Fin 3) (b : Fin 64) (f : HbBuf0 (F := F) c (eBox scM0_0 s)) : sProp 𝕄 :=
  iprop(Transfers.Flight countersEmb (c : Thread nD τ) (eCellR s) default ((eBox scM0_0 s).view.amount (eCellR s))
    iprop(eSlotP c s (eLanded c W s b f) ∗ eSrcP c W s b) ∗ eOtherP c W s b)
abbrev noHome (b : Fin 64) : sProp 𝕄 := iprop(emp)
/-- The ring of embeddings before grid point `k`. -/
def eRingAt (k : ℕ) : sProp 𝕄 :=
  if k = 0 then Ring.At₀ (eCellP c) (eSlotW c W) noHome else Ring.At 2 (eCellP c) (eSlotW c W) noHome (eFlight c W) k

abbrev oTileP (s : Fin 3) (f : HbBuf0 (F := F) c (oTile scM0_1 s)) : sProp 𝕄 := (oTile scM0_1 s).view.loc (c : Thread nD τ) ↦[(oTile scM0_1 s).view.set]{fullShare} f
abbrev oCellP (s : Fin 3) : sProp 𝕄 := semVal ((c : Thread nD τ), oCellR s) 0
abbrev oPieceP (b : Fin 64) (f : HbBuf0 (F := F) c (oPiece b)) : sProp 𝕄 := (oPiece b).view.loc (c : Thread nD τ) ↦[(oPiece b).view.set]{fullShare} f
/-- A slot of the results at anything, no copy out of it under way. -/
def oFree (s : Fin 3) : sProp 𝕄 := iprop(oCellP c s ∗ ∃ f, oTileP c s f)
/-- Slot `s` on its way to block `b` of the result. -/
def oFlight (s : Fin 3) (b : Fin 64) : sProp 𝕄 :=
  iprop(∃ f e, Transfers.Flight countersEmb (c : Thread nD τ) (oCellR s) default ((oPiece b).view.amount (oCellR s)) iprop(oPieceP c b f ∗ oTileP c s e))
/-- Block `b` of the result, no copy to it under way. -/
def oHome (b : Fin 64) : sProp 𝕄 := iprop(∃ f, oPieceP c b f)
end Families

/-! ## The body's operands are those of the rings -/

section Canon
theorem coff_1 : ∀ i : grid0.Coords, k0_cond1 i = 1#1 → k0_off1 0#32 = (![(Ring.sl 3 (i 0).val).val] : Fin 1 → Nat) := by decide +kernel
@[sl_canon] theorem canon_1 (i : grid0.Coords) (h : k0_cond1 i = 1#1) :
    (cc0_scratch7.slice (Rect.unit (s := S3) (k0_off1 0#32) S1.size (k0_off1_inb i h 0))).squeeze S_ squeezes_S1_S_ = eCell (Ring.sl 3 (i 0).val) :=
  congrArg (fun M : DmaSems sig S1 => M.squeeze S_ squeezes_S1_S_) (SemArray.slice_unit_congr _ (coff_1 i h) _ _)
@[sl_canon] theorem canon_1' (i : grid0.Coords) (h : k0_cond1 i = 1#1) :
    (cc0_scratch7.slice (Rect.unit (s := S3) (k0_off1 0#32) ![1] (k0_off1_inb i h 0))).squeeze S_ squeezes_S1_S_ = eCell (Ring.sl 3 (i 0).val) :=
  canon_1 i h
theorem coff_2 : ∀ i : grid0.Coords, k0_cond1 i = 1#1 → k0_off2 0#32 = ![(Ring.sl 3 (i 0).val).val, 0, 0, 0, 0] := by decide +kernel
@[sl_canon] theorem canon_2 (i : grid0.Coords) (h : k0_cond1 i = 1#1) :
    (scM0_0.slice (Rect.unit (s := S3x2x32x288x128) (k0_off2 0#32) S1x2x27x256x128.size (k0_off2_inb i h 0)) (fun _ => rfl)).squeeze S2x27x256x128 squeezes_S1x2x27x256x128_S2x27x256x128 = eBox scM0_0 (Ring.sl 3 (i 0).val) :=
  congrArg (fun M : Memref sig .tc .vmem S1x2x27x256x128 .fp8e4m3 => M.squeeze S2x27x256x128 squeezes_S1x2x27x256x128_S2x27x256x128) (Memref.slice_unit_congr _ (coff_2 i h) _ _ (fun _ => rfl) (fun _ => rfl))
@[sl_canon] theorem canon_2' (i : grid0.Coords) (h : k0_cond1 i = 1#1) :
    (scM0_0.slice (Rect.unit (s := S3x2x32x288x128) (k0_off2 0#32) ![1, 2, 27, 256, 128] (k0_off2_inb i h 0)) (fun _ => rfl)).squeeze S2x27x256x128 squeezes_S1x2x27x256x128_S2x27x256x128 = eBox scM0_0 (Ring.sl 3 (i 0).val) :=
  canon_2 i h
theorem coff_3 : ∀ i : grid0.Coords, k0_cond1 i = 1#1 → k0_off1 1#32 = (![(Ring.sl 3 ((i 0).val + 1)).val] : Fin 1 → Nat) := by decide +kernel
@[sl_canon] theorem canon_3 (i : grid0.Coords) (h : k0_cond1 i = 1#1) :
    (cc0_scratch7.slice (Rect.unit (s := S3) (k0_off1 1#32) S1.size (k0_off1_inb i h 1))).squeeze S_ squeezes_S1_S_ = eCell (Ring.sl 3 ((i 0).val + 1)) :=
  congrArg (fun M : DmaSems sig S1 => M.squeeze S_ squeezes_S1_S_) (SemArray.slice_unit_congr _ (coff_3 i h) _ _)
@[sl_canon] theorem canon_3' (i : grid0.Coords) (h : k0_cond1 i = 1#1) :
    (cc0_scratch7.slice (Rect.unit (s := S3) (k0_off1 1#32) ![1] (k0_off1_inb i h 1))).squeeze S_ squeezes_S1_S_ = eCell (Ring.sl 3 ((i 0).val + 1)) :=
  canon_3 i h
theorem coff_4 : ∀ i : grid0.Coords, k0_cond1 i = 1#1 → k0_off2 1#32 = ![(Ring.sl 3 ((i 0).val + 1)).val, 0, 0, 0, 0] := by decide +kernel
@[sl_canon] theorem canon_4 (i : grid0.Coords) (h : k0_cond1 i = 1#1) :
    (scM0_0.slice (Rect.unit (s := S3x2x32x288x128) (k0_off2 1#32) S1x2x27x256x128.size (k0_off2_inb i h 1)) (fun _ => rfl)).squeeze S2x27x256x128 squeezes_S1x2x27x256x128_S2x27x256x128 = eBox scM0_0 (Ring.sl 3 ((i 0).val + 1)) :=
  congrArg (fun M : Memref sig .tc .vmem S1x2x27x256x128 .fp8e4m3 => M.squeeze S2x27x256x128 squeezes_S1x2x27x256x128_S2x27x256x128) (Memref.slice_unit_congr _ (coff_4 i h) _ _ (fun _ => rfl) (fun _ => rfl))
@[sl_canon] theorem canon_4' (i : grid0.Coords) (h : k0_cond1 i = 1#1) :
    (scM0_0.slice (Rect.unit (s := S3x2x32x288x128) (k0_off2 1#32) ![1, 2, 27, 256, 128] (k0_off2_inb i h 1)) (fun _ => rfl)).squeeze S2x27x256x128 squeezes_S1x2x27x256x128_S2x27x256x128 = eBox scM0_0 (Ring.sl 3 ((i 0).val + 1)) :=
  canon_4 i h
theorem coff_5 : ∀ i : grid0.Coords, k0_cond1 i = 1#1 → (![0, 0, 0, 0] : Fin 4 → Nat) = ![0, 0, 256 * (Ring.bk 64 (i 0).val).val, 0] := by decide +kernel
@[sl_canon] theorem canon_5 (i : grid0.Coords) (h : k0_cond1 i = 1#1) :
    hbM0_0.slice (Rect.unit (s := S2x27x16384x128) (![0, 0, 0, 0]) S2x27x256x128.size (inb_S2x27x16384x128_S2x27x256x128_0_0_0_0)) (fun _ => rfl) = eSrc (Ring.bk 64 (i 0).val) :=
  congrArg (fun M : Memref sig .tc .hbm S2x27x256x128 .fp8e4m3 => M) (Memref.slice_unit_congr _ (coff_5 i h) _ _ (fun _ => rfl) (fun _ => rfl))
@[sl_canon] theorem canon_5' (i : grid0.Coords) (h : k0_cond1 i = 1#1) :
    hbM0_0.slice (Rect.unit (s := S2x27x16384x128) (![0, 0, 0, 0]) ![2, 27, 256, 128] (inb_S2x27x16384x128_S2x27x256x128_0_0_0_0)) (fun _ => rfl) = eSrc (Ring.bk 64 (i 0).val) :=
  canon_5 i h
theorem coff_6 : ∀ i : grid0.Coords, k0_cond1 i = 1#1 → (![0, 0, 256, 0] : Fin 4 → Nat) = ![0, 0, 256 * (Ring.bk 64 ((i 0).val + 1)).val, 0] := by decide +kernel
@[sl_canon] theorem canon_6 (i : grid0.Coords) (h : k0_cond1 i = 1#1) :
    hbM0_0.slice (Rect.unit (s := S2x27x16384x128) (![0, 0, 256, 0]) S2x27x256x128.size (inb_S2x27x16384x128_S2x27x256x128_0_0_256_0)) (fun _ => rfl) = eSrc (Ring.bk 64 ((i 0).val + 1)) :=
  congrArg (fun M : Memref sig .tc .hbm S2x27x256x128 .fp8e4m3 => M) (Memref.slice_unit_congr _ (coff_6 i h) _ _ (fun _ => rfl) (fun _ => rfl))
@[sl_canon] theorem canon_6' (i : grid0.Coords) (h : k0_cond1 i = 1#1) :
    hbM0_0.slice (Rect.unit (s := S2x27x16384x128) (![0, 0, 256, 0]) ![2, 27, 256, 128] (inb_S2x27x16384x128_S2x27x256x128_0_0_256_0)) (fun _ => rfl) = eSrc (Ring.bk 64 ((i 0).val + 1)) :=
  canon_6 i h
theorem coff_7 : ∀ i : grid0.Coords, k0_cond2 i = 1#1 → k0_off3 i = (![(Ring.sl 3 ((i 0).val + 2)).val] : Fin 1 → Nat) := by decide +kernel
@[sl_canon] theorem canon_7 (i : grid0.Coords) (h : k0_cond2 i = 1#1) :
    (cc0_scratch8.slice (Rect.unit (s := S3) (k0_off3 i) S1.size (k0_off3_inb i h))).squeeze S_ squeezes_S1_S_ = oCell (Ring.sl 3 ((i 0).val + 2)) :=
  congrArg (fun M : DmaSems sig S1 => M.squeeze S_ squeezes_S1_S_) (SemArray.slice_unit_congr _ (coff_7 i h) _ _)
@[sl_canon] theorem canon_7' (i : grid0.Coords) (h : k0_cond2 i = 1#1) :
    (cc0_scratch8.slice (Rect.unit (s := S3) (k0_off3 i) ![1] (k0_off3_inb i h))).squeeze S_ squeezes_S1_S_ = oCell (Ring.sl 3 ((i 0).val + 2)) :=
  canon_7 i h
theorem coff_8 : ∀ i : grid0.Coords, k0_cond2 i = 1#1 → k0_off4 i = ![0, 0, 32 * (Ring.bk 64 ((i 0).val - 1)).val, 0, 0] := by decide +kernel
@[sl_canon] theorem canon_8 (i : grid0.Coords) (h : k0_cond2 i = 1#1) :
    hbM0_1.slice (Rect.unit (s := S2x27x2048x8x128) (k0_off4 i) S2x27x32x8x128.size (k0_off4_inb i h)) (fun _ => rfl) = oPiece (Ring.bk 64 ((i 0).val - 1)) :=
  congrArg (fun M : Memref sig .tc .hbm S2x27x32x8x128 .bf16 => M) (Memref.slice_unit_congr _ (coff_8 i h) _ _ (fun _ => rfl) (fun _ => rfl))
@[sl_canon] theorem canon_8' (i : grid0.Coords) (h : k0_cond2 i = 1#1) :
    hbM0_1.slice (Rect.unit (s := S2x27x2048x8x128) (k0_off4 i) ![2, 27, 32, 8, 128] (k0_off4_inb i h)) (fun _ => rfl) = oPiece (Ring.bk 64 ((i 0).val - 1)) :=
  canon_8 i h
theorem coff_9 : ∀ i : grid0.Coords, k0_cond2 i = 1#1 → k0_off5 i = ![(Ring.sl 3 ((i 0).val + 2)).val, 0, 0, 0, 0, 0] := by decide +kernel
@[sl_canon] theorem canon_9 (i : grid0.Coords) (h : k0_cond2 i = 1#1) :
    (scM0_1.slice (Rect.unit (s := S3x2x27x33x8x128) (k0_off5 i) S1x2x27x32x8x128.size (k0_off5_inb i h)) (fun _ => rfl)).squeeze S2x27x32x8x128 squeezes_S1x2x27x32x8x128_S2x27x32x8x128 = oTile scM0_1 (Ring.sl 3 ((i 0).val + 2)) :=
  congrArg (fun M : Memref sig .tc .vmem S1x2x27x32x8x128 .bf16 => M.squeeze S2x27x32x8x128 squeezes_S1x2x27x32x8x128_S2x27x32x8x128) (Memref.slice_unit_congr _ (coff_9 i h) _ _ (fun _ => rfl) (fun _ => rfl))
@[sl_canon] theorem canon_9' (i : grid0.Coords) (h : k0_cond2 i = 1#1) :
    (scM0_1.slice (Rect.unit (s := S3x2x27x33x8x128) (k0_off5 i) ![1, 2, 27, 32, 8, 128] (k0_off5_inb i h)) (fun _ => rfl)).squeeze S2x27x32x8x128 squeezes_S1x2x27x32x8x128_S2x27x32x8x128 = oTile scM0_1 (Ring.sl 3 ((i 0).val + 2)) :=
  canon_9 i h
theorem coff_10 : ∀ i : grid0.Coords, k0_cond3 i = 1#1 → k0_off6 i = (![(Ring.sl 3 ((i 0).val + 2)).val] : Fin 1 → Nat) := by decide +kernel
@[sl_canon] theorem canon_10 (i : grid0.Coords) (h : k0_cond3 i = 1#1) :
    (cc0_scratch7.slice (Rect.unit (s := S3) (k0_off6 i) S1.size (k0_off6_inb i h))).squeeze S_ squeezes_S1_S_ = eCell (Ring.sl 3 ((i 0).val + 2)) :=
  congrArg (fun M : DmaSems sig S1 => M.squeeze S_ squeezes_S1_S_) (SemArray.slice_unit_congr _ (coff_10 i h) _ _)
@[sl_canon] theorem canon_10' (i : grid0.Coords) (h : k0_cond3 i = 1#1) :
    (cc0_scratch7.slice (Rect.unit (s := S3) (k0_off6 i) ![1] (k0_off6_inb i h))).squeeze S_ squeezes_S1_S_ = eCell (Ring.sl 3 ((i 0).val + 2)) :=
  canon_10 i h
theorem coff_11 : ∀ i : grid0.Coords, k0_cond3 i = 1#1 → k0_off7 i = ![(Ring.sl 3 ((i 0).val + 2)).val, 0, 0, 0, 0] := by decide +kernel
@[sl_canon] theorem canon_11 (i : grid0.Coords) (h : k0_cond3 i = 1#1) :
    (scM0_0.slice (Rect.unit (s := S3x2x32x288x128) (k0_off7 i) S1x2x27x256x128.size (k0_off7_inb i h)) (fun _ => rfl)).squeeze S2x27x256x128 squeezes_S1x2x27x256x128_S2x27x256x128 = eBox scM0_0 (Ring.sl 3 ((i 0).val + 2)) :=
  congrArg (fun M : Memref sig .tc .vmem S1x2x27x256x128 .fp8e4m3 => M.squeeze S2x27x256x128 squeezes_S1x2x27x256x128_S2x27x256x128) (Memref.slice_unit_congr _ (coff_11 i h) _ _ (fun _ => rfl) (fun _ => rfl))
@[sl_canon] theorem canon_11' (i : grid0.Coords) (h : k0_cond3 i = 1#1) :
    (scM0_0.slice (Rect.unit (s := S3x2x32x288x128) (k0_off7 i) ![1, 2, 27, 256, 128] (k0_off7_inb i h)) (fun _ => rfl)).squeeze S2x27x256x128 squeezes_S1x2x27x256x128_S2x27x256x128 = eBox scM0_0 (Ring.sl 3 ((i 0).val + 2)) :=
  canon_11 i h
theorem coff_12 : ∀ i : grid0.Coords, k0_cond3 i = 1#1 → k0_off8 i = ![0, 0, 256 * (Ring.bk 64 ((i 0).val + 2)).val, 0] := by decide +kernel
@[sl_canon] theorem canon_12 (i : grid0.Coords) (h : k0_cond3 i = 1#1) :
    hbM0_0.slice (Rect.unit (s := S2x27x16384x128) (k0_off8 i) S2x27x256x128.size (k0_off8_inb i h)) (fun _ => rfl) = eSrc (Ring.bk 64 ((i 0).val + 2)) :=
  congrArg (fun M : Memref sig .tc .hbm S2x27x256x128 .fp8e4m3 => M) (Memref.slice_unit_congr _ (coff_12 i h) _ _ (fun _ => rfl) (fun _ => rfl))
@[sl_canon] theorem canon_12' (i : grid0.Coords) (h : k0_cond3 i = 1#1) :
    hbM0_0.slice (Rect.unit (s := S2x27x16384x128) (k0_off8 i) ![2, 27, 256, 128] (k0_off8_inb i h)) (fun _ => rfl) = eSrc (Ring.bk 64 ((i 0).val + 2)) :=
  canon_12 i h
theorem coff_13 : ∀ i : grid0.Coords, k0_off9 i = (![(Ring.sl 3 (i 0).val).val] : Fin 1 → Nat) := by decide +kernel
@[sl_canon] theorem canon_13 (i : grid0.Coords)  :
    (cc0_scratch7.slice (Rect.unit (s := S3) (k0_off9 i) S1.size (k0_off9_inb i))).squeeze S_ squeezes_S1_S_ = eCell (Ring.sl 3 (i 0).val) :=
  congrArg (fun M : DmaSems sig S1 => M.squeeze S_ squeezes_S1_S_) (SemArray.slice_unit_congr _ (coff_13 i) _ _)
@[sl_canon] theorem canon_13' (i : grid0.Coords)  :
    (cc0_scratch7.slice (Rect.unit (s := S3) (k0_off9 i) ![1] (k0_off9_inb i))).squeeze S_ squeezes_S1_S_ = eCell (Ring.sl 3 (i 0).val) :=
  canon_13 i
theorem coff_14 : ∀ i : grid0.Coords, k0_off10 i = ![(Ring.sl 3 (i 0).val).val, 0, 0, 0, 0] := by decide +kernel
@[sl_canon] theorem canon_14 (i : grid0.Coords)  :
    (scM0_0.slice (Rect.unit (s := S3x2x32x288x128) (k0_off10 i) S1x2x27x256x128.size (k0_off10_inb i)) (fun _ => rfl)).squeeze S2x27x256x128 squeezes_S1x2x27x256x128_S2x27x256x128 = eBox scM0_0 (Ring.sl 3 (i 0).val) :=
  congrArg (fun M : Memref sig .tc .vmem S1x2x27x256x128 .fp8e4m3 => M.squeeze S2x27x256x128 squeezes_S1x2x27x256x128_S2x27x256x128) (Memref.slice_unit_congr _ (coff_14 i) _ _ (fun _ => rfl) (fun _ => rfl))
@[sl_canon] theorem canon_14' (i : grid0.Coords)  :
    (scM0_0.slice (Rect.unit (s := S3x2x32x288x128) (k0_off10 i) ![1, 2, 27, 256, 128] (k0_off10_inb i)) (fun _ => rfl)).squeeze S2x27x256x128 squeezes_S1x2x27x256x128_S2x27x256x128 = eBox scM0_0 (Ring.sl 3 (i 0).val) :=
  canon_14 i
theorem coff_15 : ∀ i : grid0.Coords, k0_off11 i = ![0, 0, 256 * (Ring.bk 64 (i 0).val).val, 0] := by decide +kernel
@[sl_canon] theorem canon_15 (i : grid0.Coords)  :
    hbM0_0.slice (Rect.unit (s := S2x27x16384x128) (k0_off11 i) S2x27x256x128.size (k0_off11_inb i)) (fun _ => rfl) = eSrc (Ring.bk 64 (i 0).val) :=
  congrArg (fun M : Memref sig .tc .hbm S2x27x256x128 .fp8e4m3 => M) (Memref.slice_unit_congr _ (coff_15 i) _ _ (fun _ => rfl) (fun _ => rfl))
@[sl_canon] theorem canon_15' (i : grid0.Coords)  :
    hbM0_0.slice (Rect.unit (s := S2x27x16384x128) (k0_off11 i) ![2, 27, 256, 128] (k0_off11_inb i)) (fun _ => rfl) = eSrc (Ring.bk 64 (i 0).val) :=
  canon_15 i
theorem coff_16 : ∀ i : grid0.Coords, k0_cond4 i = 1#1 → k0_off12 i = (![(Ring.sl 3 (i 0).val).val] : Fin 1 → Nat) := by decide +kernel
@[sl_canon] theorem canon_16 (i : grid0.Coords) (h : k0_cond4 i = 1#1) :
    (cc0_scratch8.slice (Rect.unit (s := S3) (k0_off12 i) S1.size (k0_off12_inb i h))).squeeze S_ squeezes_S1_S_ = oCell (Ring.sl 3 (i 0).val) :=
  congrArg (fun M : DmaSems sig S1 => M.squeeze S_ squeezes_S1_S_) (SemArray.slice_unit_congr _ (coff_16 i h) _ _)
@[sl_canon] theorem canon_16' (i : grid0.Coords) (h : k0_cond4 i = 1#1) :
    (cc0_scratch8.slice (Rect.unit (s := S3) (k0_off12 i) ![1] (k0_off12_inb i h))).squeeze S_ squeezes_S1_S_ = oCell (Ring.sl 3 (i 0).val) :=
  canon_16 i h
theorem coff_17 : ∀ i : grid0.Coords, k0_cond4 i = 1#1 → k0_off13 i = ![0, 0, 32 * (Ring.bk 64 ((i 0).val - 3)).val, 0, 0] := by decide +kernel
@[sl_canon] theorem canon_17 (i : grid0.Coords) (h : k0_cond4 i = 1#1) :
    hbM0_1.slice (Rect.unit (s := S2x27x2048x8x128) (k0_off13 i) S2x27x32x8x128.size (k0_off13_inb i h)) (fun _ => rfl) = oPiece (Ring.bk 64 ((i 0).val - 3)) :=
  congrArg (fun M : Memref sig .tc .hbm S2x27x32x8x128 .bf16 => M) (Memref.slice_unit_congr _ (coff_17 i h) _ _ (fun _ => rfl) (fun _ => rfl))
@[sl_canon] theorem canon_17' (i : grid0.Coords) (h : k0_cond4 i = 1#1) :
    hbM0_1.slice (Rect.unit (s := S2x27x2048x8x128) (k0_off13 i) ![2, 27, 32, 8, 128] (k0_off13_inb i h)) (fun _ => rfl) = oPiece (Ring.bk 64 ((i 0).val - 3)) :=
  canon_17 i h
theorem coff_18 : ∀ i : grid0.Coords, k0_cond4 i = 1#1 → k0_off14 i = ![(Ring.sl 3 (i 0).val).val, 0, 0, 0, 0, 0] := by decide +kernel
@[sl_canon] theorem canon_18 (i : grid0.Coords) (h : k0_cond4 i = 1#1) :
    (scM0_1.slice (Rect.unit (s := S3x2x27x33x8x128) (k0_off14 i) S1x2x27x32x8x128.size (k0_off14_inb i h)) (fun _ => rfl)).squeeze S2x27x32x8x128 squeezes_S1x2x27x32x8x128_S2x27x32x8x128 = oTile scM0_1 (Ring.sl 3 (i 0).val) :=
  congrArg (fun M : Memref sig .tc .vmem S1x2x27x32x8x128 .bf16 => M.squeeze S2x27x32x8x128 squeezes_S1x2x27x32x8x128_S2x27x32x8x128) (Memref.slice_unit_congr _ (coff_18 i h) _ _ (fun _ => rfl) (fun _ => rfl))
@[sl_canon] theorem canon_18' (i : grid0.Coords) (h : k0_cond4 i = 1#1) :
    (scM0_1.slice (Rect.unit (s := S3x2x27x33x8x128) (k0_off14 i) ![1, 2, 27, 32, 8, 128] (k0_off14_inb i h)) (fun _ => rfl)).squeeze S2x27x32x8x128 squeezes_S1x2x27x32x8x128_S2x27x32x8x128 = oTile scM0_1 (Ring.sl 3 (i 0).val) :=
  canon_18 i h
theorem coff_19 : ∀ i : grid0.Coords, k0_cond7 i = 1#1 → k0_off307 i = (![(Ring.sl 3 (i 0).val).val] : Fin 1 → Nat) := by decide +kernel
@[sl_canon] theorem canon_19 (i : grid0.Coords) (h : k0_cond7 i = 1#1) :
    (cc0_scratch8.slice (Rect.unit (s := S3) (k0_off307 i) S1.size (k0_off307_inb i h))).squeeze S_ squeezes_S1_S_ = oCell (Ring.sl 3 (i 0).val) :=
  congrArg (fun M : DmaSems sig S1 => M.squeeze S_ squeezes_S1_S_) (SemArray.slice_unit_congr _ (coff_19 i h) _ _)
@[sl_canon] theorem canon_19' (i : grid0.Coords) (h : k0_cond7 i = 1#1) :
    (cc0_scratch8.slice (Rect.unit (s := S3) (k0_off307 i) ![1] (k0_off307_inb i h))).squeeze S_ squeezes_S1_S_ = oCell (Ring.sl 3 (i 0).val) :=
  canon_19 i h
theorem coff_20 : ∀ i : grid0.Coords, k0_cond7 i = 1#1 → k0_off308 i = ![0, 0, 32 * (Ring.bk 64 (i 0).val).val, 0, 0] := by decide +kernel
@[sl_canon] theorem canon_20 (i : grid0.Coords) (h : k0_cond7 i = 1#1) :
    hbM0_1.slice (Rect.unit (s := S2x27x2048x8x128) (k0_off308 i) S2x27x32x8x128.size (k0_off308_inb i h)) (fun _ => rfl) = oPiece (Ring.bk 64 (i 0).val) :=
  congrArg (fun M : Memref sig .tc .hbm S2x27x32x8x128 .bf16 => M) (Memref.slice_unit_congr _ (coff_20 i h) _ _ (fun _ => rfl) (fun _ => rfl))
@[sl_canon] theorem canon_20' (i : grid0.Coords) (h : k0_cond7 i = 1#1) :
    hbM0_1.slice (Rect.unit (s := S2x27x2048x8x128) (k0_off308 i) ![2, 27, 32, 8, 128] (k0_off308_inb i h)) (fun _ => rfl) = oPiece (Ring.bk 64 (i 0).val) :=
  canon_20 i h
theorem coff_21 : ∀ i : grid0.Coords, k0_cond7 i = 1#1 → k0_off309 i = ![(Ring.sl 3 (i 0).val).val, 0, 0, 0, 0, 0] := by decide +kernel
@[sl_canon] theorem canon_21 (i : grid0.Coords) (h : k0_cond7 i = 1#1) :
    (scM0_1.slice (Rect.unit (s := S3x2x27x33x8x128) (k0_off309 i) S1x2x27x32x8x128.size (k0_off309_inb i h)) (fun _ => rfl)).squeeze S2x27x32x8x128 squeezes_S1x2x27x32x8x128_S2x27x32x8x128 = oTile scM0_1 (Ring.sl 3 (i 0).val) :=
  congrArg (fun M : Memref sig .tc .vmem S1x2x27x32x8x128 .bf16 => M.squeeze S2x27x32x8x128 squeezes_S1x2x27x32x8x128_S2x27x32x8x128) (Memref.slice_unit_congr _ (coff_21 i h) _ _ (fun _ => rfl) (fun _ => rfl))
@[sl_canon] theorem canon_21' (i : grid0.Coords) (h : k0_cond7 i = 1#1) :
    (scM0_1.slice (Rect.unit (s := S3x2x27x33x8x128) (k0_off309 i) ![1, 2, 27, 32, 8, 128] (k0_off309_inb i h)) (fun _ => rfl)).squeeze S2x27x32x8x128 squeezes_S1x2x27x32x8x128_S2x27x32x8x128 = oTile scM0_1 (Ring.sl 3 (i 0).val) :=
  canon_21 i h
theorem coff_22 : ∀ i : grid0.Coords, k0_cond7 i = 1#1 → k0_off310 i 2#32 = (![(Ring.sl 3 ((i 0).val + 1)).val] : Fin 1 → Nat) := by decide +kernel
@[sl_canon] theorem canon_22 (i : grid0.Coords) (h : k0_cond7 i = 1#1) :
    (cc0_scratch8.slice (Rect.unit (s := S3) (k0_off310 i 2#32) S1.size (k0_off310_inb i h 2))).squeeze S_ squeezes_S1_S_ = oCell (Ring.sl 3 ((i 0).val + 1)) :=
  congrArg (fun M : DmaSems sig S1 => M.squeeze S_ squeezes_S1_S_) (SemArray.slice_unit_congr _ (coff_22 i h) _ _)
@[sl_canon] theorem canon_22' (i : grid0.Coords) (h : k0_cond7 i = 1#1) :
    (cc0_scratch8.slice (Rect.unit (s := S3) (k0_off310 i 2#32) ![1] (k0_off310_inb i h 2))).squeeze S_ squeezes_S1_S_ = oCell (Ring.sl 3 ((i 0).val + 1)) :=
  canon_22 i h
theorem coff_23 : ∀ i : grid0.Coords, k0_cond7 i = 1#1 → k0_off311 i 2#32 = ![0, 0, 32 * (Ring.bk 64 ((i 0).val - 2)).val, 0, 0] := by decide +kernel
@[sl_canon] theorem canon_23 (i : grid0.Coords) (h : k0_cond7 i = 1#1) :
    hbM0_1.slice (Rect.unit (s := S2x27x2048x8x128) (k0_off311 i 2#32) S2x27x32x8x128.size (k0_off311_inb i h 2)) (fun _ => rfl) = oPiece (Ring.bk 64 ((i 0).val - 2)) :=
  congrArg (fun M : Memref sig .tc .hbm S2x27x32x8x128 .bf16 => M) (Memref.slice_unit_congr _ (coff_23 i h) _ _ (fun _ => rfl) (fun _ => rfl))
@[sl_canon] theorem canon_23' (i : grid0.Coords) (h : k0_cond7 i = 1#1) :
    hbM0_1.slice (Rect.unit (s := S2x27x2048x8x128) (k0_off311 i 2#32) ![2, 27, 32, 8, 128] (k0_off311_inb i h 2)) (fun _ => rfl) = oPiece (Ring.bk 64 ((i 0).val - 2)) :=
  canon_23 i h
theorem coff_24 : ∀ i : grid0.Coords, k0_cond7 i = 1#1 → k0_off312 i 2#32 = ![(Ring.sl 3 ((i 0).val + 1)).val, 0, 0, 0, 0, 0] := by decide +kernel
@[sl_canon] theorem canon_24 (i : grid0.Coords) (h : k0_cond7 i = 1#1) :
    (scM0_1.slice (Rect.unit (s := S3x2x27x33x8x128) (k0_off312 i 2#32) S1x2x27x32x8x128.size (k0_off312_inb i h 2)) (fun _ => rfl)).squeeze S2x27x32x8x128 squeezes_S1x2x27x32x8x128_S2x27x32x8x128 = oTile scM0_1 (Ring.sl 3 ((i 0).val + 1)) :=
  congrArg (fun M : Memref sig .tc .vmem S1x2x27x32x8x128 .bf16 => M.squeeze S2x27x32x8x128 squeezes_S1x2x27x32x8x128_S2x27x32x8x128) (Memref.slice_unit_congr _ (coff_24 i h) _ _ (fun _ => rfl) (fun _ => rfl))
@[sl_canon] theorem canon_24' (i : grid0.Coords) (h : k0_cond7 i = 1#1) :
    (scM0_1.slice (Rect.unit (s := S3x2x27x33x8x128) (k0_off312 i 2#32) ![1, 2, 27, 32, 8, 128] (k0_off312_inb i h 2)) (fun _ => rfl)).squeeze S2x27x32x8x128 squeezes_S1x2x27x32x8x128_S2x27x32x8x128 = oTile scM0_1 (Ring.sl 3 ((i 0).val + 1)) :=
  canon_24 i h
theorem coff_25 : ∀ i : grid0.Coords, k0_cond7 i = 1#1 → k0_off310 i 1#32 = (![(Ring.sl 3 ((i 0).val + 2)).val] : Fin 1 → Nat) := by decide +kernel
@[sl_canon] theorem canon_25 (i : grid0.Coords) (h : k0_cond7 i = 1#1) :
    (cc0_scratch8.slice (Rect.unit (s := S3) (k0_off310 i 1#32) S1.size (k0_off310_inb i h 1))).squeeze S_ squeezes_S1_S_ = oCell (Ring.sl 3 ((i 0).val + 2)) :=
  congrArg (fun M : DmaSems sig S1 => M.squeeze S_ squeezes_S1_S_) (SemArray.slice_unit_congr _ (coff_25 i h) _ _)
@[sl_canon] theorem canon_25' (i : grid0.Coords) (h : k0_cond7 i = 1#1) :
    (cc0_scratch8.slice (Rect.unit (s := S3) (k0_off310 i 1#32) ![1] (k0_off310_inb i h 1))).squeeze S_ squeezes_S1_S_ = oCell (Ring.sl 3 ((i 0).val + 2)) :=
  canon_25 i h
theorem coff_26 : ∀ i : grid0.Coords, k0_cond7 i = 1#1 → k0_off311 i 1#32 = ![0, 0, 32 * (Ring.bk 64 ((i 0).val - 1)).val, 0, 0] := by decide +kernel
@[sl_canon] theorem canon_26 (i : grid0.Coords) (h : k0_cond7 i = 1#1) :
    hbM0_1.slice (Rect.unit (s := S2x27x2048x8x128) (k0_off311 i 1#32) S2x27x32x8x128.size (k0_off311_inb i h 1)) (fun _ => rfl) = oPiece (Ring.bk 64 ((i 0).val - 1)) :=
  congrArg (fun M : Memref sig .tc .hbm S2x27x32x8x128 .bf16 => M) (Memref.slice_unit_congr _ (coff_26 i h) _ _ (fun _ => rfl) (fun _ => rfl))
@[sl_canon] theorem canon_26' (i : grid0.Coords) (h : k0_cond7 i = 1#1) :
    hbM0_1.slice (Rect.unit (s := S2x27x2048x8x128) (k0_off311 i 1#32) ![2, 27, 32, 8, 128] (k0_off311_inb i h 1)) (fun _ => rfl) = oPiece (Ring.bk 64 ((i 0).val - 1)) :=
  canon_26 i h
theorem coff_27 : ∀ i : grid0.Coords, k0_cond7 i = 1#1 → k0_off312 i 1#32 = ![(Ring.sl 3 ((i 0).val + 2)).val, 0, 0, 0, 0, 0] := by decide +kernel
@[sl_canon] theorem canon_27 (i : grid0.Coords) (h : k0_cond7 i = 1#1) :
    (scM0_1.slice (Rect.unit (s := S3x2x27x33x8x128) (k0_off312 i 1#32) S1x2x27x32x8x128.size (k0_off312_inb i h 1)) (fun _ => rfl)).squeeze S2x27x32x8x128 squeezes_S1x2x27x32x8x128_S2x27x32x8x128 = oTile scM0_1 (Ring.sl 3 ((i 0).val + 2)) :=
  congrArg (fun M : Memref sig .tc .vmem S1x2x27x32x8x128 .bf16 => M.squeeze S2x27x32x8x128 squeezes_S1x2x27x32x8x128_S2x27x32x8x128) (Memref.slice_unit_congr _ (coff_27 i h) _ _ (fun _ => rfl) (fun _ => rfl))
@[sl_canon] theorem canon_27' (i : grid0.Coords) (h : k0_cond7 i = 1#1) :
    (scM0_1.slice (Rect.unit (s := S3x2x27x33x8x128) (k0_off312 i 1#32) ![1, 2, 27, 32, 8, 128] (k0_off312_inb i h 1)) (fun _ => rfl)).squeeze S2x27x32x8x128 squeezes_S1x2x27x32x8x128_S2x27x32x8x128 = oTile scM0_1 (Ring.sl 3 ((i 0).val + 2)) :=
  canon_27 i h
theorem coff_28 : ∀ i : grid0.Coords, k0_cond7 i = 1#1 → k0_off310 i 0#32 = (![(Ring.sl 3 (i 0).val).val] : Fin 1 → Nat) := by decide +kernel
@[sl_canon] theorem canon_28 (i : grid0.Coords) (h : k0_cond7 i = 1#1) :
    (cc0_scratch8.slice (Rect.unit (s := S3) (k0_off310 i 0#32) S1.size (k0_off310_inb i h 0))).squeeze S_ squeezes_S1_S_ = oCell (Ring.sl 3 (i 0).val) :=
  congrArg (fun M : DmaSems sig S1 => M.squeeze S_ squeezes_S1_S_) (SemArray.slice_unit_congr _ (coff_28 i h) _ _)
@[sl_canon] theorem canon_28' (i : grid0.Coords) (h : k0_cond7 i = 1#1) :
    (cc0_scratch8.slice (Rect.unit (s := S3) (k0_off310 i 0#32) ![1] (k0_off310_inb i h 0))).squeeze S_ squeezes_S1_S_ = oCell (Ring.sl 3 (i 0).val) :=
  canon_28 i h
theorem coff_29 : ∀ i : grid0.Coords, k0_cond7 i = 1#1 → k0_off311 i 0#32 = ![0, 0, 32 * (Ring.bk 64 (i 0).val).val, 0, 0] := by decide +kernel
@[sl_canon] theorem canon_29 (i : grid0.Coords) (h : k0_cond7 i = 1#1) :
    hbM0_1.slice (Rect.unit (s := S2x27x2048x8x128) (k0_off311 i 0#32) S2x27x32x8x128.size (k0_off311_inb i h 0)) (fun _ => rfl) = oPiece (Ring.bk 64 (i 0).val) :=
  congrArg (fun M : Memref sig .tc .hbm S2x27x32x8x128 .bf16 => M) (Memref.slice_unit_congr _ (coff_29 i h) _ _ (fun _ => rfl) (fun _ => rfl))
@[sl_canon] theorem canon_29' (i : grid0.Coords) (h : k0_cond7 i = 1#1) :
    hbM0_1.slice (Rect.unit (s := S2x27x2048x8x128) (k0_off311 i 0#32) ![2, 27, 32, 8, 128] (k0_off311_inb i h 0)) (fun _ => rfl) = oPiece (Ring.bk 64 (i 0).val) :=
  canon_29 i h
theorem coff_30 : ∀ i : grid0.Coords, k0_cond7 i = 1#1 → k0_off312 i 0#32 = ![(Ring.sl 3 (i 0).val).val, 0, 0, 0, 0, 0] := by decide +kernel
@[sl_canon] theorem canon_30 (i : grid0.Coords) (h : k0_cond7 i = 1#1) :
    (scM0_1.slice (Rect.unit (s := S3x2x27x33x8x128) (k0_off312 i 0#32) S1x2x27x32x8x128.size (k0_off312_inb i h 0)) (fun _ => rfl)).squeeze S2x27x32x8x128 squeezes_S1x2x27x32x8x128_S2x27x32x8x128 = oTile scM0_1 (Ring.sl 3 (i 0).val) :=
  congrArg (fun M : Memref sig .tc .vmem S1x2x27x32x8x128 .bf16 => M.squeeze S2x27x32x8x128 squeezes_S1x2x27x32x8x128_S2x27x32x8x128) (Memref.slice_unit_congr _ (coff_30 i h) _ _ (fun _ => rfl) (fun _ => rfl))
@[sl_canon] theorem canon_30' (i : grid0.Coords) (h : k0_cond7 i = 1#1) :
    (scM0_1.slice (Rect.unit (s := S3x2x27x33x8x128) (k0_off312 i 0#32) ![1, 2, 27, 32, 8, 128] (k0_off312_inb i h 0)) (fun _ => rfl)).squeeze S2x27x32x8x128 squeezes_S1x2x27x32x8x128_S2x27x32x8x128 = oTile scM0_1 (Ring.sl 3 (i 0).val) :=
  canon_30 i h
end Canon

end Cert.Proof.KernelIdeal

end
-- ==== Proof.KI.Rings2.lean ====
module

public import proofs.«01_k».proof.Proof.KI.Rings
public import proofs.«01_k».proof.Proof.Gen.KernelIdeal.Loops
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Ring.WriteBehind
public import Idealize.ShloMosaic.Lib.Tactic
public import Idealize.ShloMosaic.Lib.WordCmp

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
section
variable (c : Dev nD) (W : HbBuf0 (F := F) c hbM0_0)
/-- A slot's share of the embeddings is block `b`'s elements and the others; -/
theorem e_src_split (s : Fin 3) (b : Fin 64) : eWholeP (F := F) c W s ⊣⊢ iprop(eSrcP c W s b ∗ eOtherP c W s b) := by
  unfold eOtherP; exact pointsTo_split_subset (Finset.subset_univ _)
/-- At the first grid point the slot in use is slot 0. -/
theorem e_rest0 {n : ℕ} (h : n = 0) (g : Buf (Elt F) (scM0_0.view.loc (c : Thread nD τ))) : eRestP scM0_0 c 0 g ⊣⊢ (eRestP scM0_0 c (Ring.sl 3 n) g : sProp 𝕄) := by
  subst h; exact .rfl
theorem e_rest0u {n : ℕ} (h : n = 0) (g : Buf (Elt F) (scM0_0.view.loc (c : Thread nD τ))) :
    (scM0_0.view.loc (c : Thread nD τ) ↦[scM0_0.view.setOn (eSlot (Ring.sl 3 n)).set \ (eBox scM0_0 (Ring.sl 3 n)).view.set]{fullShare} g : sProp 𝕄)
      ⊢ (scM0_0.view.loc (c : Thread nD τ) ↦[scM0_0.view.setOn (eSlot 0).set \ (eBox scM0_0 0).view.set]{fullShare} g : sProp 𝕄) := by
  subst h; exact .rfl
/-- the embeddings whole are the three shares. -/
theorem e_whole_split : (hbPt0 c hbM0_0 W : sProp 𝕄) ⊣⊢ iprop(eWholeP c W 0 ∗ eWholeP c W 1 ∗ eWholeP c W 2) := by
  refine ⟨?_, ?_⟩
  · iintro H
    ihave H' := (pointsTo_share (PosShare.mem_left_op_right fullShare)).1 $$ H
    icases H' with ⟨H0, H12⟩
    ihave H'' := (pointsTo_share (PosShare.mem_left_op_right fullShare.right)).1 $$ H12
    icases H'' with ⟨H1, H2⟩
    isplitl [H0]; · iexact H0
    isplitl [H1]; · iexact H1
    iexact H2
  · iintro ⟨H0, H1, H2⟩
    iapply (pointsTo_share (PosShare.mem_left_op_right fullShare)).2
    isplitl [H0]; · iexact H0
    iapply (pointsTo_share (PosShare.mem_left_op_right fullShare.right)).2
    isplitl [H1]; · iexact H1
    iexact H2
end

end Cert.Proof.KernelIdeal

end
-- ==== Proof.KI.InOut.lean ====
module

public import proofs.«01_k».proof.Proof.KI.Rings2
public import proofs.«01_k».proof.Proof.Gen.KernelIdeal.Loops
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Ring.WriteBehind
public import Idealize.ShloMosaic.Lib.Tactic
public import Idealize.ShloMosaic.Lib.WordCmp

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The slots of the two staging buffers, disjoint and covering them -/

omit [FloatOps F] in
theorem setOn_rect {b : Ref sig .tc} (r : Rect b.ty.shape) : (View.whole b : View sig .tc _ _ _).setOn r.set = r.set :=
  (View.set_slice _ r).symm.trans (View.set_slice_whole b r)
abbrev eSet (s : Fin 3) := scM0_0.view.setOn (eSlot s).set
abbrev oSet (s : Fin 3) := scM0_1.view.setOn (oSlot s).set
theorem eSet_eq (s : Fin 3) : eSet s = (eSlot s).set := setOn_rect (b := cc0_scratch0) _
theorem oSet_eq (s : Fin 3) : oSet s = (oSlot s).set := setOn_rect (b := cc0_scratch1) _
theorem eSet_disjoint (s s' : Fin 3) (h : s ≠ s') : Disjoint (eSet s) (eSet s') := by
  rw [eSet_eq, eSet_eq]
  exact Ring.lead_disjoint (s := S3x2x32x288x128) (0 : Fin 5) 1 (fun s : Fin 3 => (![s.val, 0, 0, 0, 0] : Fin 5 → Nat)) ![1, 2, 32, 288, 128] inb_eSlot (fun s => by simp) rfl s s' h
theorem oSet_disjoint (s s' : Fin 3) (h : s ≠ s') : Disjoint (oSet s) (oSet s') := by
  rw [oSet_eq, oSet_eq]
  exact Ring.lead_disjoint (s := S3x2x27x33x8x128) (0 : Fin 6) 1 (fun s : Fin 3 => (![s.val, 0, 0, 0, 0, 0] : Fin 6 → Nat)) ![1, 2, 27, 33, 8, 128] inb_oSlot (fun s => by simp) rfl s s' h
theorem eSet_cover : Finset.univ.biUnion eSet = Finset.univ := by
  rw [show eSet = fun s => (eSlot s).set from funext eSet_eq]
  exact Ring.lead_cover (s := S3x2x32x288x128) (0 : Fin 5) 1 (fun s : Fin 3 => (![s.val, 0, 0, 0, 0] : Fin 5 → Nat)) ![1, 2, 32, 288, 128] inb_eSlot (fun s => by simp)
    (fun s a ha => by fin_cases a <;> first | exact absurd rfl ha | rfl) rfl (fun a ha => by fin_cases a <;> first | exact absurd rfl ha | rfl) rfl
theorem oSet_cover : Finset.univ.biUnion oSet = Finset.univ := by
  rw [show oSet = fun s => (oSlot s).set from funext oSet_eq]
  exact Ring.lead_cover (s := S3x2x27x33x8x128) (0 : Fin 6) 1 (fun s : Fin 3 => (![s.val, 0, 0, 0, 0, 0] : Fin 6 → Nat)) ![1, 2, 27, 33, 8, 128] inb_oSlot (fun s => by simp)
    (fun s a ha => by fin_cases a <;> first | exact absurd rfl ha | rfl) rfl (fun a ha => by fin_cases a <;> first | exact absurd rfl ha | rfl) rfl

section
variable (c : Dev nD) (W : HbBuf0 (F := F) c hbM0_0)
abbrev eRestX (s : Fin 3) : sProp 𝕄 := iprop(∃ g, eRestP scM0_0 c s g)
abbrev oRestX (s : Fin 3) : sProp 𝕄 := iprop(∃ g, oRestP scM0_1 c s g)
abbrev eBoxX (s : Fin 3) : sProp 𝕄 := iprop(∃ f, eSlotP c s f)
abbrev oTileX (s : Fin 3) : sProp 𝕄 := iprop(∃ f, oTileP c s f)

theorem e_slot_cut (s : Fin 3) : iprop(∃ f, scM0_0.view.loc (c : Thread nD τ) ↦[eSet s]{fullShare} f) ⊢ (iprop(eBoxX c s ∗ eRestX c s) : sProp 𝕄) := by
  iintro ⟨%f, H⟩
  ihave H' := (e_cut scM0_0 c s f) $$ H
  icases H' with ⟨H1, H2⟩
  isplitl [H1]; · iexists f; iexact H1
  iexists f; iexact H2
theorem e_slot_join (s : Fin 3) : iprop(eBoxX c s ∗ eRestX c s) ⊢ (iprop(∃ f, scM0_0.view.loc (c : Thread nD τ) ↦[eSet s]{fullShare} f) : sProp 𝕄) := by
  iintro ⟨⟨%f, H1⟩, ⟨%g, H2⟩⟩
  ihave H := (e_join scM0_0 c s f g) $$ [H1 H2]
  · isplitl [H1]; · iexact H1
    iexact H2
  iexists _; iexact H
theorem o_slot_cut (s : Fin 3) : iprop(∃ f, scM0_1.view.loc (c : Thread nD τ) ↦[oSet s]{fullShare} f) ⊢ (iprop(oTileX c s ∗ oRestX c s) : sProp 𝕄) := by
  iintro ⟨%f, H⟩
  ihave H' := (o_cut scM0_1 c s f) $$ H
  icases H' with ⟨H1, H2⟩
  isplitl [H1]; · iexists f; iexact H1
  iexists f; iexact H2
theorem o_slot_join (s : Fin 3) : iprop(oTileX c s ∗ oRestX c s) ⊢ (iprop(∃ f, scM0_1.view.loc (c : Thread nD τ) ↦[oSet s]{fullShare} f) : sProp 𝕄) := by
  iintro ⟨⟨%f, H1⟩, ⟨%g, H2⟩⟩
  ihave H := (o_join scM0_1 c s f g) $$ [H1 H2]
  · isplitl [H1]; · iexact H1
    iexact H2
  iexists _; iexact H

/-- The embeddings' staging buffer at anything is its three boxes and what lies beside each; -/
theorem e_in : iprop(∃ d, owns (c : Thread nD τ) scM0_0 fullShare d) ⊢ (iprop((eBoxX c 0 ∗ eRestX c 0) ∗ (eBoxX c 1 ∗ eRestX c 1) ∗ eBoxX c 2 ∗ eRestX c 2) : sProp 𝕄) := by
  refine BI.Entails.trans ?_ (BI.sep_mono (e_slot_cut c 0) (BI.sep_mono (e_slot_cut c 1) (e_slot_cut c 2)))
  simp only [scM0_0, owns_whole]
  exact Ring.slots3_split (U := Pipeline.UD sig nD τ) (ℓ := (c : Thread nD τ).loc cc0_scratch0) (q := fullShare) eSet eSet_disjoint eSet_cover
    _ _ _ (fun _ => rfl) (fun _ => rfl) (fun _ => rfl)
theorem e_out : (iprop((eBoxX c 0 ∗ eRestX c 0) ∗ (eBoxX c 1 ∗ eRestX c 1) ∗ eBoxX c 2 ∗ eRestX c 2) : sProp 𝕄) ⊢ iprop(∃ d, owns (c : Thread nD τ) scM0_0 fullShare d) := by
  refine (BI.sep_mono (e_slot_join c 0) (BI.sep_mono (e_slot_join c 1) (e_slot_join c 2))).trans ?_
  simp only [scM0_0, owns_whole]
  exact Ring.slots3_join (U := Pipeline.UD sig nD τ) (ℓ := (c : Thread nD τ).loc cc0_scratch0) (q := fullShare) eSet eSet_disjoint eSet_cover
    _ _ _ (fun _ => rfl) (fun _ => rfl) (fun _ => rfl)
/-- and so is the results'. -/
theorem o_in : iprop(∃ d, owns (c : Thread nD τ) scM0_1 fullShare d) ⊢ (iprop((oTileX c 0 ∗ oRestX c 0) ∗ (oTileX c 1 ∗ oRestX c 1) ∗ oTileX c 2 ∗ oRestX c 2) : sProp 𝕄) := by
  refine BI.Entails.trans ?_ (BI.sep_mono (o_slot_cut c 0) (BI.sep_mono (o_slot_cut c 1) (o_slot_cut c 2)))
  simp only [scM0_1, owns_whole]
  exact Ring.slots3_split (U := Pipeline.UD sig nD τ) (ℓ := (c : Thread nD τ).loc cc0_scratch1) (q := fullShare) oSet oSet_disjoint oSet_cover
    _ _ _ (fun _ => rfl) (fun _ => rfl) (fun _ => rfl)
theorem o_out : (iprop((oTileX c 0 ∗ oRestX c 0) ∗ (oTileX c 1 ∗ oRestX c 1) ∗ oTileX c 2 ∗ oRestX c 2) : sProp 𝕄) ⊢ iprop(∃ d, owns (c : Thread nD τ) scM0_1 fullShare d) := by
  refine (BI.sep_mono (o_slot_join c 0) (BI.sep_mono (o_slot_join c 1) (o_slot_join c 2))).trans ?_
  simp only [scM0_1, owns_whole]
  exact Ring.slots3_join (U := Pipeline.UD sig nD τ) (ℓ := (c : Thread nD τ).loc cc0_scratch1) (q := fullShare) oSet oSet_disjoint oSet_cover
    _ _ _ (fun _ => rfl) (fun _ => rfl) (fun _ => rfl)
end

/-! ## The blocks of the result -/

abbrev oBlockSet (b : Fin 64) : Finset S2x27x2048x8x128.Idx := (Rect.unit (s := S2x27x2048x8x128) ![0, 0, 32 * b.val, 0, 0] S2x27x32x8x128.size (inb_oPiece b)).set
theorem oBlockSet_eq (b : Fin 64) : (oPiece b).view.set = oBlockSet b := by
  unfold oPiece; exact View.set_slice_whole _ _
theorem oBlockSet_disjoint (b b' : Fin 64) (h : b ≠ b') : Disjoint (oBlockSet b) (oBlockSet b') :=
  Ring.lead_disjoint (s := S2x27x2048x8x128) (2 : Fin 5) 32 (fun b : Fin 64 => (![0, 0, 32 * b.val, 0, 0] : Fin 5 → Nat)) S2x27x32x8x128.size inb_oPiece (fun s => by simp) rfl b b' h
section
variable (c : Dev nD)
theorem oPieceP_eq (b : Fin 64) (f) : oPieceP (F := F) c b f = (((c : Thread nD τ).loc main_v4) ↦[oBlockSet b]{fullShare} f : sProp 𝕄) := by
  unfold oPieceP; rw [oBlockSet_eq]; rfl
abbrev oSpare : sProp 𝕄 := iprop(∃ f : Buf (Elt F) ((c : Thread nD τ).loc main_v4), ((c : Thread nD τ).loc main_v4) ↦[Finset.univ \ Finset.univ.biUnion oBlockSet]{fullShare} f)
/-- The result whole is its blocks; -/
theorem p_in : iprop(∃ f, hbPt0 c hbM0_1 f) ⊢ (iprop(bigSep Finset.univ (oHome (F := F) c) ∗ oSpare c) : sProp 𝕄) := by
  unfold oHome
  exact Ring.pieces_split_spare (U := Pipeline.UD sig nD τ) (ℓ := (c : Thread nD τ).loc main_v4) (q := fullShare) oBlockSet oBlockSet_disjoint
    (fun b f => oPieceP c b f) (oPieceP_eq c)
theorem p_out : (iprop(bigSep Finset.univ (oHome (F := F) c) ∗ oSpare c) : sProp 𝕄) ⊢ iprop(∃ f, hbPt0 c hbM0_1 f) := by
  unfold oHome
  exact Ring.pieces_join_spare (U := Pipeline.UD sig nD τ) (ℓ := (c : Thread nD τ).loc main_v4) (q := fullShare) oBlockSet oBlockSet_disjoint
    (fun b f => oPieceP c b f) (oPieceP_eq c)
end

/-! ## The ring of results before a grid point -/

/-- The blocks no copy is under way to before grid point `k`: all but `k - 2` and `k - 3`. -/
def homeO (k : ℕ) : Finset (Fin 64) := Finset.univ.filter fun u => ¬(k < 64 ∧ (u.val + 2 = k ∨ u.val + 3 = k))
theorem homeO_0 : homeO 0 = Finset.univ := by decide +kernel
theorem homeO_1 : homeO 1 = Finset.univ := by decide +kernel
theorem homeO_64 : homeO 64 = insert (Ring.bk 64 60) (insert (Ring.bk 64 61) (insert (Ring.bk 64 62) (insert (Ring.bk 64 63) (((homeO 63).erase (Ring.bk 64 62)).erase (Ring.bk 64 63))))) := by decide +kernel
theorem homeO_64' : homeO 64 = Finset.univ := by decide +kernel
theorem homeO_mem : ∀ k : Fin 64, 1 ≤ k.val → Ring.bk 64 (k.val - 1) ∈ homeO k.val := by decide +kernel
theorem homeO_small : ∀ k : Fin 64, 1 ≤ k.val → k.val < 3 → homeO (k.val + 1) = (homeO k.val).erase (Ring.bk 64 (k.val - 1)) := by decide +kernel
theorem homeO_big : ∀ k : Fin 64, 3 ≤ k.val → k.val < 63 → homeO (k.val + 1) = insert (Ring.bk 64 (k.val - 3)) ((homeO k.val).erase (Ring.bk 64 (k.val - 1))) := by decide +kernel
theorem homeO_new : ∀ k : Fin 64, 3 ≤ k.val → k.val < 63 → Ring.bk 64 (k.val - 3) ∉ (homeO k.val).erase (Ring.bk 64 (k.val - 1)) := by decide +kernel

section
theorem homes_out (P : Fin 64 → sProp 𝕄) (k : ℕ) (hk : k < 64) (h : 1 ≤ k) :
    bigSep (homeO k) P = iprop(P (Ring.bk 64 (k - 1)) ∗ bigSep ((homeO k).erase (Ring.bk 64 (k - 1))) P) := by
  have hm := homeO_mem ⟨k, hk⟩ h
  conv_lhs => rw [← Finset.insert_erase hm]
  exact bigSep_insert (Finset.notMem_erase _ _)
theorem homes_small (P : Fin 64 → sProp 𝕄) (k : ℕ) (hk : k < 64) (h : 1 ≤ k) (h3 : k < 3) :
    bigSep (homeO (k + 1)) P = bigSep ((homeO k).erase (Ring.bk 64 (k - 1))) P := by
  rw [homeO_small ⟨k, hk⟩ h h3]
theorem homes_big (P : Fin 64 → sProp 𝕄) (k : ℕ) (hk : k < 63) (h : 3 ≤ k) :
    bigSep (homeO (k + 1)) P = iprop(P (Ring.bk 64 (k - 3)) ∗ bigSep ((homeO k).erase (Ring.bk 64 (k - 1))) P) := by
  rw [homeO_big ⟨k, by omega⟩ h hk]
  exact bigSep_insert (homeO_new ⟨k, by omega⟩ h hk)
theorem homes_63 (P : Fin 64 → sProp 𝕄) : bigSep (homeO 63) P = iprop(P (Ring.bk 64 (63 - 1)) ∗ P (Ring.bk 64 63) ∗ bigSep (((homeO 63).erase (Ring.bk 64 62)).erase (Ring.bk 64 63)) P) := by
  rw [homes_out P 63 (by decide) (by decide)]
  have hm : Ring.bk 64 63 ∈ (homeO 63).erase (Ring.bk 64 62) := by decide +kernel
  conv_lhs => rw [show (63 - 1 : ℕ) = 62 from rfl, ← Finset.insert_erase hm]
  rw [bigSep_insert (Finset.notMem_erase _ _)]
  rfl
theorem homes_64 (P : Fin 64 → sProp 𝕄) : bigSep (homeO 64) P = iprop(P (Ring.bk 64 (63 - 3)) ∗ P (Ring.bk 64 (63 - 2)) ∗ P (Ring.bk 64 (63 - 1)) ∗ P (Ring.bk 64 63) ∗ bigSep (((homeO 63).erase (Ring.bk 64 62)).erase (Ring.bk 64 63)) P) := by
  rw [homeO_64, bigSep_insert (by decide +kernel), bigSep_insert (by decide +kernel), bigSep_insert (by decide +kernel), bigSep_insert (by decide +kernel)]
  rfl
end

section
variable (c : Dev nD)
/-- Slot `k`: block `k - 3` on its way out of it, from the fourth grid point on. -/
def oX (k : ℕ) : sProp 𝕄 := if 3 ≤ k ∧ k < 64 then oFlight (F := F) c (Ring.sl 3 k) (Ring.bk 64 (k - 3)) else oFree c (Ring.sl 3 k)
/-- Slot `k + 1`: block `k - 2` on its way out of it, from the third grid point on. -/
def oY (k : ℕ) : sProp 𝕄 := if 2 ≤ k ∧ k < 64 then oFlight (F := F) c (Ring.sl 3 (k + 1)) (Ring.bk 64 (k - 2)) else oFree c (Ring.sl 3 (k + 1))
theorem oX_free (k : ℕ) (h : ¬(3 ≤ k ∧ k < 64)) : oX (F := F) c k = oFree c (Ring.sl 3 k) := if_neg h
theorem oX_flight (k : ℕ) (h : 3 ≤ k ∧ k < 64) : oX (F := F) c k = oFlight c (Ring.sl 3 k) (Ring.bk 64 (k - 3)) := if_pos h
theorem oY_free (k : ℕ) (h : ¬(2 ≤ k ∧ k < 64)) : oY (F := F) c k = oFree c (Ring.sl 3 (k + 1)) := if_neg h
theorem oY_flight (k : ℕ) (h : 2 ≤ k ∧ k < 64) : oY (F := F) c k = oFlight c (Ring.sl 3 (k + 1)) (Ring.bk 64 (k - 2)) := if_pos h
theorem oX_succ (k : ℕ) (h : k + 1 < 64) : oX (F := F) c (k + 1) = oY c k := by
  by_cases h2 : 2 ≤ k
  · rw [oX_flight c (k + 1) ⟨by omega, h⟩, oY_flight c k ⟨h2, by omega⟩, show k + 1 - 3 = k - 2 by omega]
  · rw [oX_free c (k + 1) (by omega), oY_free c k (by omega)]
theorem oY_succ (k : ℕ) (h : k + 1 < 64) (h1 : 1 ≤ k) : oY (F := F) c (k + 1) = oFlight c (Ring.sl 3 (k + 2)) (Ring.bk 64 (k - 1)) := by
  rw [oY_flight c (k + 1) ⟨by omega, h⟩, show k + 1 - 2 = k - 1 by omega]
/-- The ring of results before grid point `k`. -/
def oRing (k : ℕ) : sProp 𝕄 := iprop(oFree (F := F) c (Ring.sl 3 (k + 2)) ∗ oX c k ∗ oY c k ∗ bigSep (homeO k) (oHome c))
end
theorem sl3_3 (k : ℕ) : Ring.sl 3 (k + 1 + 2) = Ring.sl 3 k := by
  apply Fin.ext; simp [Ring.sl, Fin.ofNat]; omega

section
variable (c : Dev nD)
theorem eCellP_0 : eCellP (F := F) c 0 = semVal ((c : Thread nD τ), SemLoc.dma 8) 0 := congrArg (fun x => (semVal ((c : Thread nD τ), x) 0 : sProp 𝕄)) eCellR_0
theorem eCellP_1 : eCellP (F := F) c 1 = semVal ((c : Thread nD τ), SemLoc.dma 9) 0 := congrArg (fun x => (semVal ((c : Thread nD τ), x) 0 : sProp 𝕄)) eCellR_1
theorem eCellP_2 : eCellP (F := F) c 2 = semVal ((c : Thread nD τ), SemLoc.dma 10) 0 := congrArg (fun x => (semVal ((c : Thread nD τ), x) 0 : sProp 𝕄)) eCellR_2
theorem oCellP_0 : oCellP (F := F) c 0 = semVal ((c : Thread nD τ), SemLoc.dma 11) 0 := congrArg (fun x => (semVal ((c : Thread nD τ), x) 0 : sProp 𝕄)) oCellR_0
theorem oCellP_1 : oCellP (F := F) c 1 = semVal ((c : Thread nD τ), SemLoc.dma 12) 0 := congrArg (fun x => (semVal ((c : Thread nD τ), x) 0 : sProp 𝕄)) oCellR_1
theorem oCellP_2 : oCellP (F := F) c 2 = semVal ((c : Thread nD τ), SemLoc.dma 13) 0 := congrArg (fun x => (semVal ((c : Thread nD τ), x) 0 : sProp 𝕄)) oCellR_2

/-- Into the ring of embeddings, -/
theorem e_ring_in :
    iprop((eBoxX (F := F) c 0 ∗ eBoxX c 1 ∗ eBoxX c 2) ∗ (semVal ((c : Thread nD τ), SemLoc.dma 8) 0 ∗ semVal ((c : Thread nD τ), SemLoc.dma 9) 0 ∗ semVal ((c : Thread nD τ), SemLoc.dma 10) 0) ∗ hbPt0 c hbM0_0 (V m c main_v3))
      ⊢ eRingAt c (V m c main_v3) 0 := by
  unfold eRingAt; rw [if_pos rfl]; unfold Ring.At₀
  rw [Ring.bigSep_fin3]
  simp only [Ring.free, eCellP_0, eCellP_1, eCellP_2]
  iintro ⟨⟨⟨%d0, HS0⟩, ⟨%d1, HS1⟩, ⟨%d2, HS2⟩⟩, Hc, HW⟩
  iapply Ring.with_homes₀
  icases Hc with ⟨H0, H1, H2⟩
  ihave HW' := (e_whole_split (F := F) c (V m c main_v3)).1 $$ HW
  icases HW' with ⟨HW0, HW1, HW2⟩
  isplitl [H0 HS0 HW0]
  · isplitl [H0]; · iexact H0
    iexists d0; isplitl [HS0]; · iexact HS0
    iexact HW0
  isplitl [H1 HS1 HW1]
  · isplitl [H1]; · iexact H1
    iexists d1; isplitl [HS1]; · iexact HS1
    iexact HW1
  · isplitl [H2]; · iexact H2
    iexists d2; isplitl [HS2]; · iexact HS2
    iexact HW2
/-- and out of it after the last point. -/
theorem e_ring_out :
    eRingAt c (V m c main_v3) 64
      ⊢ iprop((eBoxX (F := F) c 0 ∗ eBoxX c 1 ∗ eBoxX c 2) ∗ (semVal ((c : Thread nD τ), SemLoc.dma 8) 0 ∗ semVal ((c : Thread nD τ), SemLoc.dma 9) 0 ∗ semVal ((c : Thread nD τ), SemLoc.dma 10) 0) ∗ hbPt0 c hbM0_0 (V m c main_v3)) := by
  unfold eRingAt; rw [if_neg (by decide)]
  iintro H
  ihave H' := (Ring.free3_of_At_last _ _ _ _) $$ H
  simp only [Ring.free, eCellP_0, eCellP_1, eCellP_2]
  icases H' with ⟨-, ⟨H0, ⟨%f0, HS0, HW0⟩⟩, ⟨H1, ⟨%f1, HS1, HW1⟩⟩, ⟨H2, ⟨%f2, HS2, HW2⟩⟩⟩
  isplitl [HS0 HS1 HS2]
  · isplitl [HS0]; · iexists f0; iexact HS0
    isplitl [HS1]; · iexists f1; iexact HS1
    iexists f2; iexact HS2
  isplitl [H0 H1 H2]
  · isplitl [H0]; · iexact H0
    isplitl [H1]; · iexact H1
    iexact H2
  · iapply (e_whole_split (F := F) c (V m c main_v3)).2; isplitl [HW0]; · iexact HW0
    isplitl [HW1]; · iexact HW1
    iexact HW2
/-- Into the ring of results, -/
theorem o_ring_in :
    iprop((oTileX (F := F) c 0 ∗ oTileX c 1 ∗ oTileX c 2) ∗ (semVal ((c : Thread nD τ), SemLoc.dma 11) 0 ∗ semVal ((c : Thread nD τ), SemLoc.dma 12) 0 ∗ semVal ((c : Thread nD τ), SemLoc.dma 13) 0) ∗ bigSep Finset.univ (oHome c))
      ⊢ oRing c 0 := by
  unfold oRing
  rw [oX_free c 0 (by decide), oY_free c 0 (by decide), homeO_0]
  rw [show Ring.sl 3 (0 + 2) = 2 from rfl, show Ring.sl 3 0 = 0 from rfl, show Ring.sl 3 (0 + 1) = 1 from rfl]
  simp only [oFree, oCellP_0, oCellP_1, oCellP_2]
  iintro ⟨⟨HS0, HS1, HS2⟩, ⟨H0, H1, H2⟩, HH⟩
  isplitl [H2 HS2]
  · isplitl [H2]; · iexact H2
    iexact HS2
  isplitl [H0 HS0]
  · isplitl [H0]; · iexact H0
    iexact HS0
  isplitl [H1 HS1]
  · isplitl [H1]; · iexact H1
    iexact HS1
  iexact HH
/-- and out of it. -/
theorem o_ring_out :
    oRing c 64 ⊢ iprop((oTileX (F := F) c 0 ∗ oTileX c 1 ∗ oTileX c 2) ∗ (semVal ((c : Thread nD τ), SemLoc.dma 11) 0 ∗ semVal ((c : Thread nD τ), SemLoc.dma 12) 0 ∗ semVal ((c : Thread nD τ), SemLoc.dma 13) 0) ∗ bigSep Finset.univ (oHome c)) := by
  unfold oRing
  rw [oX_free c 64 (by decide), oY_free c 64 (by decide), homeO_64']
  rw [show Ring.sl 3 (64 + 2) = 0 from rfl, show Ring.sl 3 64 = 1 from rfl, show Ring.sl 3 (64 + 1) = 2 from rfl]
  simp only [oFree, oCellP_0, oCellP_1, oCellP_2]
  iintro ⟨⟨H0, HS0⟩, ⟨H1, HS1⟩, ⟨H2, HS2⟩, HH⟩
  isplitl [HS0 HS1 HS2]
  · isplitl [HS0]; · iexact HS0
    isplitl [HS1]; · iexact HS1
    iexact HS2
  isplitl [H0 H1 H2]
  · isplitl [H0]; · iexact H0
    isplitl [H1]; · iexact H1
    iexact H2
  iexact HH
end

end Cert.Proof.KernelIdeal

end
-- ==== Proof.KV.Prep.lean ====
/- What the first phase of a chunk stores: the interaction products of one batch row's 128 samples, read off the stores. -/
module

public import proofs.«01_k».proof.Proof.KI.Geo
public import Idealize.ShloMosaic.Lib.Pointwise.Tactic
public import Idealize.ShloMosaic.Lib.Pointwise.Reshape
public import Idealize.ShloMosaic.Lib.Pointwise.Contract
public import Idealize.ShloMosaic.Lib.Pipeline.FrameBody

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic

/-- A statement about every index of rank three, from its coordinates. -/
theorem forall_ix3' {n0 n1 n2 : ℕ} {P : (⟨3, ![n0, n1, n2]⟩ : Shape).Idx → Prop} (h : ∀ a b d, P (ix3 a b d)) (x) : P x := by
  rw [eq_ix3 x]; exact h _ _ _

/-- The number of pairs before those of vector `i`. -/
def tri (i : ℕ) : ℕ := i * (i - 1) / 2

/-- The product that vectors `i` and `j` of a sample contribute: the pair's gradient, the scale of the larger, the scale of `j`. -/
def Uv (Z S E : ℕ → ℕ → EReal) (i j l : ℕ) : EReal :=
  if i = j then 0 else Z (tri (max i j) + min i j) l * S (max i j - 1) l * E j l

/-- The rows that hold a product of two different vectors. -/
def realRow (r : ℕ) : Bool := Nat.ble (r / 36) 26 && Nat.ble (r % 36) 26 && !Nat.beq (r / 36) (r % 36)

/-- The array of the products as the kernel lays it out: row `36 i + j`, zero outside the 27 vectors. -/
def Ug (Z S E : ℕ → ℕ → EReal) (r l : ℕ) : EReal := if realRow r then Uv Z S E (r / 36) (r % 36) l else 0
theorem Ug_real {Z S E : ℕ → ℕ → EReal} {r l : ℕ} (h1 : r / 36 ≤ 26) (h2 : r % 36 ≤ 26) (h3 : r / 36 ≠ r % 36) :
    Ug Z S E r l = Uv Z S E (r / 36) (r % 36) l := by
  rw [Ug, if_pos]
  simp only [realRow, Bool.and_eq_true, Nat.ble_eq, Bool.not_eq_true', ← Bool.not_eq_true, Nat.beq_eq]
  exact ⟨⟨h1, h2⟩, h3⟩

/-- The offsets of one row block agree with the layout. -/
def rowChk (o p s0 s1 n : ℕ) : Bool :=
  Nat.ble (o % 36 + n) (o / 36) && Nat.ble (o / 36) 26 && Nat.beq (s0 + 1) (o / 36) && Nat.beq s1 (o % 36) && Nat.beq p (tri (o / 36) + o % 36)
/-- The offsets of one column block agree with the layout. -/
def colChk (o p s0 s1 n : ℕ) : Bool :=
  Nat.ble (o / 36 + n) (o % 36) && Nat.ble (o % 36) 26 && Nat.beq (s0 + 1) (o % 36) && Nat.beq s1 (o % 36) && Nat.beq p (tri (o % 36) + o / 36)

theorem rowU (Z S E : ℕ → ℕ → EReal) {o p s0 s1 n : ℕ} (hc : rowChk o p s0 s1 n = true) (b : Fin n) (l : ℕ) :
    Z (p + b) l * S s0 l * E (s1 + b) l = Ug Z S E (o + 1 * b) l := by
  have hb := b.isLt
  simp only [rowChk, Bool.and_eq_true, Nat.ble_eq, Nat.beq_eq] at hc
  obtain ⟨⟨⟨⟨h1, h2⟩, h3⟩, h4⟩, h5⟩ := hc
  have e1 : (o + 1 * b.val) / 36 = o / 36 := by omega
  have e2 : (o + 1 * b.val) % 36 = o % 36 + b := by omega
  rw [Ug_real (by omega) (by omega) (by omega), e1, e2, Uv, if_neg (by omega), Nat.max_eq_left (by omega), Nat.min_eq_right (by omega), h5, h4, Nat.add_assoc,
    show o / 36 - 1 = s0 by omega]
theorem colU (Z S E : ℕ → ℕ → EReal) {o p s0 s1 n : ℕ} (hc : colChk o p s0 s1 n = true) (b : Fin n) (l : ℕ) :
    Z (p + b) l * S s0 l * E s1 l = Ug Z S E (o + 36 * b) l := by
  have hb := b.isLt
  simp only [colChk, Bool.and_eq_true, Nat.ble_eq, Nat.beq_eq] at hc
  obtain ⟨⟨⟨⟨h1, h2⟩, h3⟩, h4⟩, h5⟩ := hc
  have e1 : (o + 36 * b.val) / 36 = o / 36 + b := by omega
  have e2 : (o + 36 * b.val) % 36 = o % 36 := by omega
  rw [Ug_real (by omega) (by omega) (by omega), e1, e2, Uv, if_neg (by omega), Nat.max_eq_right (by omega), Nat.min_eq_left (by omega), h5, h4, Nat.add_assoc,
    show o % 36 - 1 = s0 by omega]

section Reads
variable {sig' : RefSig} {κ : Kind} {sp : Space}

/-- A list of stores leaves the rows of the pair gradients in buffer `buf`. -/
def ZOK (L : List (View.Piece (Elt Ideal) S2x352x128 .f32)) (buf : ℕ) (Z : ℕ → ℕ → EReal) : Prop :=
  ∀ y : S2x352x128.Idx, (y 0).val = buf → (y 1).val < 351 → View.canon L y = Z (y 1) (y 2)
/-- A list of stores leaves the two planes of scales in buffer `buf`. -/
def SOK (L : List (View.Piece (Elt Ideal) S2x2x32x128 .f32)) (buf : ℕ) (S E : ℕ → ℕ → EReal) : Prop :=
  (∀ y : S2x2x32x128.Idx, (y 0).val = buf → (y 1).val = 0 → (y 2).val < 26 → View.canon L y = S (y 2) (y 3))
  ∧ (∀ y : S2x2x32x128.Idx, (y 0).val = buf → (y 1).val = 1 → (y 2).val < 27 → View.canon L y = E (y 2) (y 3))

theorem readZ (v : View sig' κ sp S2x352x128 .f32) {L} {buf : ℕ} {Z} (h : ZOK L buf Z) {off : Fin 3 → ℕ} {n : ℕ} {inb}
    (h0 : off 0 = buf) (h1 : off 1 + n ≤ 351) (h2 : off 2 = 0) (a : Fin 1) (b : Fin n) (d : Fin 128) :
    v.readCov L (Rect.unit (s := S2x352x128) off ![1, n, 128] inb).toLoadRect (ix3 a b d) = Z (off 1 + b) d := by
  rw [View.readCov_eq_canon']
  have hb := b.isLt
  have e0 : (((Rect.unit (s := S2x352x128) off ![1, n, 128] inb).toLoadRect.idx (ix3 a b d)) 0).val = off 0 + 1 * a.val := rfl
  have e1 : (((Rect.unit (s := S2x352x128) off ![1, n, 128] inb).toLoadRect.idx (ix3 a b d)) 1).val = off 1 + 1 * b.val := rfl
  have e2 : (((Rect.unit (s := S2x352x128) off ![1, n, 128] inb).toLoadRect.idx (ix3 a b d)) 2).val = off 2 + 1 * d.val := rfl
  show View.canon L _ = _
  rw [h _ (by rw [e0, h0]; omega) (by rw [e1]; omega), e1, e2, h2, Nat.one_mul, Nat.one_mul, Nat.zero_add]
theorem readS (v : View sig' κ sp S2x2x32x128 .f32) {L} {buf : ℕ} {S E} (h : SOK L buf S E) {off : Fin 4 → ℕ} {n : ℕ} {inb}
    (h0 : off 0 = buf) (h1 : off 1 = 0) (h2 : off 2 + n ≤ 26) (h3 : off 3 = 0) (a a' : Fin 1) (b : Fin n) (d : Fin 128) :
    v.readCov L (Rect.unit (s := S2x2x32x128) off ![1, 1, n, 128] inb).toLoadRect (ix4 a a' b d) = S (off 2 + b) d := by
  rw [View.readCov_eq_canon']
  have hb := b.isLt
  have e0 : (((Rect.unit (s := S2x2x32x128) off ![1, 1, n, 128] inb).toLoadRect.idx (ix4 a a' b d)) 0).val = off 0 + 1 * a.val := rfl
  have e1 : (((Rect.unit (s := S2x2x32x128) off ![1, 1, n, 128] inb).toLoadRect.idx (ix4 a a' b d)) 1).val = off 1 + 1 * a'.val := rfl
  have e2 : (((Rect.unit (s := S2x2x32x128) off ![1, 1, n, 128] inb).toLoadRect.idx (ix4 a a' b d)) 2).val = off 2 + 1 * b.val := rfl
  have e3 : (((Rect.unit (s := S2x2x32x128) off ![1, 1, n, 128] inb).toLoadRect.idx (ix4 a a' b d)) 3).val = off 3 + 1 * d.val := rfl
  show View.canon L _ = _
  rw [h.1 _ (by rw [e0, h0]; omega) (by rw [e1, h1]; omega) (by rw [e2]; omega), e2, e3, h3, Nat.one_mul, Nat.one_mul, Nat.zero_add]
theorem readE (v : View sig' κ sp S2x2x32x128 .f32) {L} {buf : ℕ} {S E} (h : SOK L buf S E) {off : Fin 4 → ℕ} {n : ℕ} {inb}
    (h0 : off 0 = buf) (h1 : off 1 = 1) (h2 : off 2 + n ≤ 27) (h3 : off 3 = 0) (a a' : Fin 1) (b : Fin n) (d : Fin 128) :
    v.readCov L (Rect.unit (s := S2x2x32x128) off ![1, 1, n, 128] inb).toLoadRect (ix4 a a' b d) = E (off 2 + b) d := by
  rw [View.readCov_eq_canon']
  have hb := b.isLt
  have e0 : (((Rect.unit (s := S2x2x32x128) off ![1, 1, n, 128] inb).toLoadRect.idx (ix4 a a' b d)) 0).val = off 0 + 1 * a.val := rfl
  have e1 : (((Rect.unit (s := S2x2x32x128) off ![1, 1, n, 128] inb).toLoadRect.idx (ix4 a a' b d)) 1).val = off 1 + 1 * a'.val := rfl
  have e2 : (((Rect.unit (s := S2x2x32x128) off ![1, 1, n, 128] inb).toLoadRect.idx (ix4 a a' b d)) 2).val = off 2 + 1 * b.val := rfl
  have e3 : (((Rect.unit (s := S2x2x32x128) off ![1, 1, n, 128] inb).toLoadRect.idx (ix4 a a' b d)) 3).val = off 3 + 1 * d.val := rfl
  show View.canon L _ = _
  rw [h.2 _ (by rw [e0, h0]; omega) (by rw [e1, h1]; omega) (by rw [e2]; omega), e2, e3, h3, Nat.one_mul, Nat.one_mul, Nat.zero_add]
end Reads

/-- One store of the products: a block of rows of buffer `buf`, each element the layout's. -/
def PieceU (Z S E : ℕ → ℕ → EReal) (buf : ℕ) (p : View.Piece (Elt Ideal) S2x1008x128 .f32) : Prop :=
  p.1.off 0 = buf ∧ p.1.off 2 = 0 ∧ p.1.stride 2 = 1 ∧ p.1.size 0 = 1 ∧ p.1.size 2 = 128
    ∧ ∀ x : p.1.shape.Idx, p.2 x = Ug Z S E (p.1.off 1 + p.1.stride 1 * (x 1).val) (x 2).val

theorem pieceRow {Z S E : ℕ → ℕ → EReal} {buf : ℕ} {off : Fin 3 → ℕ} {n : ℕ} {inb} {w : (⟨3, ![1, n, 128]⟩ : Shape).Idx → Elt Ideal .f32} (p s0 s1 : ℕ)
    (h0 : off 0 = buf) (h2 : off 2 = 0) (hc : rowChk (off 1) p s0 s1 n = true)
    (hw : ∀ a b d, w (ix3 a b d) = Z (p + b) d * S s0 d * E (s1 + b) d) :
    PieceU Z S E buf ⟨Rect.unit (s := S2x1008x128) off ![1, n, 128] inb, w⟩ :=
  ⟨h0, h2, rfl, rfl, rfl, forall_ix3' fun a b d => (hw a b d).trans (rowU Z S E hc b d)⟩
theorem pieceCol {Z S E : ℕ → ℕ → EReal} {buf : ℕ} {off : Fin 3 → ℕ} {n : ℕ} {inb pos} {w : (⟨3, ![1, n, 128]⟩ : Shape).Idx → Elt Ideal .f32} (p s0 s1 : ℕ)
    (h0 : off 0 = buf) (h2 : off 2 = 0) (hc : colChk (off 1) p s0 s1 n = true)
    (hw : ∀ a b d, w (ix3 a b d) = Z (p + b) d * S s0 d * E s1 d) :
    PieceU Z S E buf ⟨{ off := off, size := ![1, n, 128], stride := ![1, 36, 1], inb := inb, stride_pos := pos }, w⟩ :=
  ⟨h0, h2, rfl, rfl, rfl, forall_ix3' fun a b d => (hw a b d).trans (colU Z S E hc b d)⟩

/-- Where one store goes: its first row, how many rows, and how far apart they are. -/
def pieceSpec (p : View.Piece (Elt Ideal) S2x1008x128 .f32) : ℕ × ℕ × ℕ := (p.1.off 1, p.1.size 1, p.1.stride 1)

/-- The stores of one chunk, the last first. -/
def prepSpecs : List (ℕ × ℕ × ℕ) :=
  (List.range 26).flatMap fun i' => (List.range ((26 - i' + 7) / 8)).reverse.flatMap fun q =>
    [(36 * (8 * q) + (26 - i'), min 8 (26 - i' - 8 * q), 36), (36 * (26 - i') + 8 * q, min 8 (26 - i' - 8 * q), 1)]

theorem prepSpecs_cover : ∀ r : Fin 1008, realRow r.val = true →
    (prepSpecs.any fun s => (List.range s.2.1).any fun b => Nat.beq (s.1 + s.2.2 * b) r.val) = true := by decide +kernel

/-- The array is zero on the rows of no product. -/
def UZ (g : S2x1008x128.Idx → Elt Ideal .f32) : Prop := ∀ y : S2x1008x128.Idx, realRow (y 1).val = false → g y = (0 : EReal)

section Stores
variable {sig' : RefSig} {κ : Kind} {sp : Space}

theorem prepU {v : View sig' κ sp S2x1008x128 .f32} {f fu : v.ty.Contents (Elt Ideal)} {L : List (View.Piece (Elt Ideal) S2x1008x128 .f32)}
    {Z S E : ℕ → ℕ → EReal} {buf : ℕ} (h : fu = v.writes (Elt Ideal) f L) (hp : ∀ p ∈ L, PieceU Z S E buf p)
    (hs : L.map pieceSpec = prepSpecs) (hz : UZ (v.read (Elt Ideal) f)) :
    UZ (v.read (Elt Ideal) fu) ∧ ∀ y : S2x1008x128.Idx, (y 0).val = buf → v.read (Elt Ideal) fu y = Ug Z S E (y 1).val (y 2).val := by
  subst h
  have hG : ∀ p ∈ L, ∀ x : p.1.shape.Idx, p.2 x = (fun y : S2x1008x128.Idx => Ug Z S E (y 1).val (y 2).val) (p.1.emb x) := by
    intro p hm x
    obtain ⟨h0, h2, h3, h4, h5, h6⟩ := hp p hm
    rw [h6 x]
    show _ = Ug Z S E (p.1.off 1 + p.1.stride 1 * (x 1).val) (p.1.off 2 + p.1.stride 2 * (x 2).val)
    rw [h2, h3, Nat.one_mul, Nat.zero_add]
  have hin : ∀ y : S2x1008x128.Idx, (∃ p ∈ L, y ∈ p.1.set) → v.read (Elt Ideal) (v.writes (Elt Ideal) f L) y = Ug Z S E (y 1).val (y 2).val :=
    fun y hy => View.read_writes_apply_of_pieces v f (fun y : S2x1008x128.Idx => Ug Z S E (y 1).val (y 2).val) L hG y hy
  have hz' : UZ (v.read (Elt Ideal) (v.writes (Elt Ideal) f L)) := by
    intro y hy
    by_cases hc : ∃ p ∈ L, y ∈ p.1.set
    · rw [hin y hc, Ug, hy]; rfl
    · rw [View.read_writes_apply_of_forall_not_mem v f y L fun p hm hy' => hc ⟨p, hm, hy'⟩]; exact hz y hy
  refine ⟨hz', fun y h0 => ?_⟩
  by_cases hr : realRow (y 1).val = true
  · refine hin y ?_
    have hc := prepSpecs_cover (y 1) hr
    rw [← hs, List.any_eq_true] at hc
    obtain ⟨sp, hm, hc⟩ := hc
    obtain ⟨p, hpm, rfl⟩ := List.mem_map.mp hm
    obtain ⟨b, hb, hc⟩ := List.any_eq_true.mp hc
    obtain ⟨g0, g2, g3, g4, g5, g6⟩ := hp p hpm
    have hb' : b < p.1.size 1 := List.mem_range.mp hb
    have hc' : p.1.off 1 + p.1.stride 1 * b = (y 1).val := Nat.eq_of_beq_eq_true hc
    refine ⟨p, hpm, p.1.mem_set.mpr fun a => ?_⟩
    fin_cases a
    · exact ⟨0, by show 0 < p.1.size 0; omega, by show (y 0).val = p.1.off 0 + p.1.stride 0 * 0; omega⟩
    · exact ⟨b, hb', hc'.symm⟩
    · exact ⟨(y 2).val, by show (y 2).val < p.1.size 2; rw [g5]; exact (y 2).isLt, by show (y 2).val = p.1.off 2 + p.1.stride 2 * (y 2).val; rw [g2, g3]; omega⟩
  · rw [Bool.not_eq_true] at hr
    rw [hz' y hr, Ug, hr]; rfl

end Stores

theorem kbuf : ∀ k : Fin k0_t1_loop.trips, (Scalar.remsi (Scf.iv 0#32 1#32 k) 2#32).toNat = k.val % 2 := by decide +kernel
theorem kdiv0 : ∀ k : Fin k0_t1_loop.trips, (Scalar.divsi (Scf.iv 0#32 1#32 k) 2#32).toNat = k.val / 2 := by decide +kernel

/-- An array of rank three at coordinates given as numbers. -/
def rd3 {n0 n1 n2 : ℕ} (g : (⟨3, ![n0, n1, n2]⟩ : Shape).Idx → EReal) (a b d : ℕ) : EReal :=
  if h : a < n0 ∧ b < n1 ∧ d < n2 then g (ix3 ⟨a, h.1⟩ ⟨b, h.2.1⟩ ⟨d, h.2.2⟩) else 0
theorem rd3_eq {n0 n1 n2 : ℕ} (g : (⟨3, ![n0, n1, n2]⟩ : Shape).Idx → EReal) (x : (⟨3, ![n0, n1, n2]⟩ : Shape).Idx) :
    g x = rd3 g (x 0).val (x 1).val (x 2).val := by
  rw [rd3, dif_pos ⟨(x 0).isLt, (x 1).isLt, (x 2).isLt⟩]
  exact congrArg g (eq_ix3 x)

local notation "𝕄" => MT nD τ sig Unit (Elt Ideal) ℕ (Pipeline.UD sig nD τ) ℕ
open Idealize.SL Idealize.SL.RA Idealize.SL.BI
open scoped Idealize.SL.BI
open Idealize.SL.BI.BIBase Idealize.SL.BI.Laws Idealize.SL.ProofMode Idealize.SL.Sem

/-- Contents get a name, to be spoken of apart from how they arose. -/
theorem pt_name {sp : Space} {s : Shape} {e : EltTy} (r : Memref sig .tc sp s e) (c : Dev nD) (S) (f : Buf (Elt Ideal) (r.view.loc (c : Thread nD τ))) : (r.view.loc (c : Thread nD τ) ↦[S]{fullShare} f : sProp 𝕄) ⊢ iprop(∃ g, ⌜g = f⌝ ∗ r.view.loc (c : Thread nD τ) ↦[S]{fullShare} g) := by
  iintro H
  iexists f
  isplitr; swap; · iexact H
  ipureintro; rfl

end Cert.Proof.KernelIdeal

end
-- ==== Proof.KV.Trans.lean ====
/- The transposed and masked rows of the products, read at an index. -/
module

public import proofs.«01_k».proof.Proof.KV.Prep
public import Idealize.ShloMosaic.Lib.Pipeline.Value

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic

/-- The rows that one block of eight gathers from, before the wrap of negative numbers. -/
def gIdx (v40 : IVec S8x128 32) (w : BitVec 32) : IVec S8x128 32 :=
  select (cmpi .slt (addi v40 (broadcast S8x128 w)) (broadcast S8x128 0#32))
    (addi (addi v40 (broadcast S8x128 w)) (broadcast S8x128 8#32)) (addi v40 (broadcast S8x128 w))
/-- One block of eight masked rows. -/
def blk (v16 : IVec S8x128 1) (v40 : IVec S8x128 32) (R : S1x8x128.Idx → EReal) (w : BitVec 32) : S8x128.Idx → EReal :=
  select v16 (dynamicGather 0 (shapeCast S8x128 R shapeCasts_S1x8x128_S8x128) (gIdx v40 w)) (broadcast S8x128 (((((0#32 : BitVec 32).toInt : ℤ) : ℝ) : EReal)))

/-- Four lanes in turn own the rows. -/
def MaskOK (v16 : IVec S8x128 1) : Prop := ∀ (a : Fin 8) (l : Fin 128), v16 (ix2 a l) = if a.val % 4 = l.val % 4 then 1#1 else 0#1
/-- The row number over four. -/
def QuadOK (v40 : IVec S8x128 32) : Prop := ∀ (a : Fin 8) (l : Fin 128), v40 (ix2 a l) = BitVec.ofNat 32 (a.val / 4)

theorem gIdx_apply {v40 : IVec S8x128 32} (h40 : QuadOK v40) (h : ℕ) (hh : h ≤ 6) (a : Fin 8) (l : Fin 128) :
    (gIdx v40 (BitVec.ofNat 32 h) (ix2 a l)).toNat % 8 = h + a.val / 4 := by
  show (Scalar.select (Scalar.cmpi .slt (v40 (ix2 a l) + BitVec.ofNat 32 h) 0#32) (v40 (ix2 a l) + BitVec.ofNat 32 h + 8#32) (v40 (ix2 a l) + BitVec.ofNat 32 h)).toNat % 8 = _
  rw [h40 a l]
  generalize a.val / 4 = q, (show a.val / 4 < 2 by omega) = hq
  have : ∀ q : Fin 2, ∀ h : Fin 7, (Scalar.select (Scalar.cmpi .slt (BitVec.ofNat 32 q.val + BitVec.ofNat 32 h.val) 0#32) (BitVec.ofNat 32 q.val + BitVec.ofNat 32 h.val + 8#32) (BitVec.ofNat 32 q.val + BitVec.ofNat 32 h.val)).toNat % 8 = h.val + q.val := by decide
  exact this ⟨q, hq⟩ ⟨h, by omega⟩

theorem blk_apply {v16 : IVec S8x128 1} {v40 : IVec S8x128 32} (h16 : MaskOK v16) (h40 : QuadOK v40) (R : S1x8x128.Idx → EReal)
    (h : ℕ) (hh : h ≤ 6) (a : Fin 8) (l : Fin 128) :
    blk v16 v40 R (BitVec.ofNat 32 h) (ix2 a l) = if a.val % 4 = l.val % 4 then R (ix3 0 ⟨h + a.val / 4, by omega⟩ l) else 0 := by
  show Scalar.select (v16 (ix2 a l)) (dynamicGather 0 (shapeCast S8x128 R shapeCasts_S1x8x128_S8x128) (gIdx v40 (BitVec.ofNat 32 h)) (ix2 a l)) _ = _
  rw [h16 a l]
  split
  · show dynamicGather 0 (shapeCast S8x128 R shapeCasts_S1x8x128_S8x128) (gIdx v40 (BitVec.ofNat 32 h)) (ix2 a l) = _
    have e : dynamicGather 0 (shapeCast S8x128 R shapeCasts_S1x8x128_S8x128) (gIdx v40 (BitVec.ofNat 32 h)) (ix2 a l)
        = shapeCast S8x128 R shapeCasts_S1x8x128_S8x128 (ix2 ⟨h + a.val / 4, by omega⟩ l) := by
      refine congrArg (shapeCast S8x128 R shapeCasts_S1x8x128_S8x128) (funext fun b => ?_)
      fin_cases b
      · exact Fin.ext (gIdx_apply h40 h hh a l)
      · rfl
    rw [e]
    pointwise
  · show (((((0#32 : BitVec 32).toInt : ℤ) : ℝ) : EReal)) = 0
    simp

theorem cat16 (f : Fin 16 → (S8x128.Idx → EReal)) (hc) (d s : Fin 128) :
    concatenate S128x128 0 (List.ofFn fun n => (⟨S8x128, f n⟩ : (s : Shape) × (s.Idx → EReal))) hc (ix2 d s)
      = f ⟨d.val / 8, by omega⟩ (ix2 ⟨d.val % 8, by omega⟩ s) := by
  refine concatenate_ofFn_apply (t := S128x128) (s₁ := S8x128) 0 f hc rfl 8 rfl (ix2 d s) ⟨d.val / 8, by omega⟩ rfl _ rfl fun b hb => ?_
  fin_cases b
  · exact absurd rfl hb
  · rfl

/-- The sixteen blocks, one over the other. -/
theorem transVal {v16 : IVec S8x128 1} {v40 : IVec S8x128 32} (h16 : MaskOK v16) (h40 : QuadOK v40) (R0 R1 R2 R3 : S1x8x128.Idx → EReal)
    (g : ℕ → ℕ → EReal) (h0 : ∀ (b : Fin 8) (l : Fin 128), R0 (ix3 0 b l) = g (0 + b) l) (h1 : ∀ (b : Fin 8) (l : Fin 128), R1 (ix3 0 b l) = g (8 + b) l)
    (h2 : ∀ (b : Fin 8) (l : Fin 128), R2 (ix3 0 b l) = g (16 + b) l) (h3 : ∀ (b : Fin 8) (l : Fin 128), R3 (ix3 0 b l) = g (24 + b) l) (hc) (d s : Fin 128) :
    concatenate S128x128 0 [(⟨S8x128, blk v16 v40 R0 0#32⟩ : (s : Shape) × (s.Idx → EReal)), ⟨S8x128, blk v16 v40 R0 2#32⟩, ⟨S8x128, blk v16 v40 R0 4#32⟩, ⟨S8x128, blk v16 v40 R0 6#32⟩,
      ⟨S8x128, blk v16 v40 R1 0#32⟩, ⟨S8x128, blk v16 v40 R1 2#32⟩, ⟨S8x128, blk v16 v40 R1 4#32⟩, ⟨S8x128, blk v16 v40 R1 6#32⟩,
      ⟨S8x128, blk v16 v40 R2 0#32⟩, ⟨S8x128, blk v16 v40 R2 2#32⟩, ⟨S8x128, blk v16 v40 R2 4#32⟩, ⟨S8x128, blk v16 v40 R2 6#32⟩,
      ⟨S8x128, blk v16 v40 R3 0#32⟩, ⟨S8x128, blk v16 v40 R3 2#32⟩, ⟨S8x128, blk v16 v40 R3 4#32⟩, ⟨S8x128, blk v16 v40 R3 6#32⟩] hc (ix2 d s)
      = if d.val % 4 = s.val % 4 then g (d.val / 4) s else 0 := by
  let R : Fin 4 → (S1x8x128.Idx → EReal) := fun q => if q = 0 then R0 else if q = 1 then R1 else if q = 2 then R2 else R3
  have hR : ∀ (q : Fin 4) (b : Fin 8) (l : Fin 128), R q (ix3 0 b l) = g (8 * q.val + b) l := by
    intro q b l
    fin_cases q
    · exact h0 b l
    · exact h1 b l
    · exact h2 b l
    · exact h3 b l
  refine (cat16 (fun n => blk v16 v40 (R ⟨n.val / 4, by omega⟩) (BitVec.ofNat 32 (2 * (n.val % 4)))) hc d s).trans ?_
  rw [blk_apply h16 h40 _ _ (by omega)]
  refine if_congr (by simp only; omega) ?_ rfl
  rw [hR]
  congr 1
  simp only
  omega

/-- The masked and transposed array: row `20 s + m`, plane `p`, lane `4 j + r`. -/
def Lg (P : ℕ → ℕ → EReal) (r p d : ℕ) : EReal := if d % 4 = (r / 20) % 4 then P (36 * (2 * (r % 20) + p) + d / 4) (r / 20) else 0

theorem forall_ix4' {n0 n1 n2 n3 : ℕ} {P : (⟨4, ![n0, n1, n2, n3]⟩ : Shape).Idx → Prop} (h : ∀ a b c d, P (ix4 a b c d)) (x) : P x := by
  rw [eq_ix4 x]; exact h _ _ _ _

theorem off265_at (k : Fin 5) (m : Fin 14) (w : BitVec 32) (h1 : w.toNat % 160 = 0) (h2 : w.toNat < 2560) :
    k0_off265 k m w = ![k.val % 2, w.toNat + m.val, 0, 0] := by
  have h : ∀ (k : Fin 5) (m : Fin 14) (t : Fin 16), k0_off265 k m (BitVec.ofNat 32 (160 * t.val)) = ![k.val % 2, 160 * t.val + m.val, 0, 0] := by decide +kernel
  have e : w = BitVec.ofNat 32 (160 * (w.toNat / 160)) := by
    apply BitVec.eq_of_toNat_eq
    rw [BitVec.toNat_ofNat]
    omega
  have h' := h k m ⟨w.toNat / 160, by omega⟩
  simp only at h'
  rw [← e] at h'
  rw [h', show 160 * (w.toNat / 160) = w.toNat by omega]

theorem off264_at (k : Fin 5) (m : Fin 14) (p q : BitVec 32) (h1 : p.toNat < 2) (h2 : q.toNat % 8 = 0) (h3 : q.toNat < 32) :
    k0_off264 k m p q = ![k.val % 2, 36 * (2 * m.val + p.toNat) + q.toNat, 0] := by
  have h : ∀ (k : Fin 5) (m : Fin 14) (p : Fin 2) (t : Fin 4), k0_off264 k m (BitVec.ofNat 32 p.val) (BitVec.ofNat 32 (8 * t.val)) = ![k.val % 2, 36 * (2 * m.val + p.val) + 8 * t.val, 0] := by decide +kernel
  have e : q = BitVec.ofNat 32 (8 * (q.toNat / 8)) := by
    apply BitVec.eq_of_toNat_eq
    rw [BitVec.toNat_ofNat]
    omega
  have e' : p = BitVec.ofNat 32 p.toNat := by
    apply BitVec.eq_of_toNat_eq
    rw [BitVec.toNat_ofNat]
    omega
  have h' := h k m ⟨p.toNat, h1⟩ ⟨q.toNat / 8, by omega⟩
  simp only at h'
  rw [← e, ← e'] at h'
  rw [h', show 8 * (q.toNat / 8) = q.toNat by omega]

section Reads
variable {sig' : RefSig} {κ : Kind} {sp : Space}

theorem readU (v : View sig' κ sp S2x1008x128 .f32) {f : v.ty.Contents (Elt Ideal)} {buf : ℕ} {P : ℕ → ℕ → EReal}
    (h : ∀ y : S2x1008x128.Idx, (y 0).val = buf → v.read (Elt Ideal) f y = P (y 1).val (y 2).val) {off : Fin 3 → ℕ} {r : ℕ} {inb}
    (ho : off = ![buf, r, 0]) (a : Fin 1) (b : Fin 8) (d : Fin 128) :
    v.readAt (Elt Ideal) (Rect.unit (s := S2x1008x128) off ![1, 8, 128] inb).toLoadRect f (ix3 a b d) = P (r + b) d := by
  subst ho
  refine (h ((Rect.unit (s := S2x1008x128) ![buf, r, 0] ![1, 8, 128] inb).toLoadRect.idx (ix3 a b d)) ?_).trans ?_
  · show buf + 1 * a.val = buf
    omega
  · show P (r + 1 * b.val) (0 + 1 * d.val) = _
    rw [Nat.one_mul, Nat.one_mul, Nat.zero_add]

/-- One store of the transposed rows. -/
def PieceL (P : ℕ → ℕ → EReal) (buf m : ℕ) (p : View.Piece (Elt Ideal) S2x2560x2x128 .bf16) : Prop :=
  p.1.off 0 = buf ∧ p.1.off 2 = 0 ∧ p.1.off 3 = 0 ∧ p.1.off 1 % 20 = m ∧ p.1.stride 1 = 20 ∧ p.1.stride 2 = 1 ∧ p.1.stride 3 = 1
    ∧ p.1.size 0 = 1 ∧ p.1.size 1 = 8 ∧ p.1.size 2 = 2 ∧ p.1.size 3 = 128
    ∧ ∀ x : p.1.shape.Idx, p.2 x = Lg P (p.1.off 1 + 20 * (x 1).val) (x 2).val (x 3).val

theorem pieceL {P : ℕ → ℕ → EReal} {k : Fin 5} {m : Fin 14} (w : BitVec 32) (h1 : w.toNat % 160 = 0) (h2 : w.toNat < 2560) {inb pos}
    {pay : (⟨4, ![1, 8, 2, 128]⟩ : Shape).Idx → Elt Ideal .bf16}
    (hp : ∀ a b p d, pay (ix4 a b p d) = if d.val % 4 = (8 * (w.toNat / 160) + b.val) % 4 then P (36 * (2 * m.val + p.val) + d.val / 4) (8 * (w.toNat / 160) + b.val) else 0) :
    PieceL P (k.val % 2) m.val ⟨{ off := k0_off265 k m w, size := ![1, 8, 2, 128], stride := ![1, 20, 1, 1], inb := inb, stride_pos := pos }, pay⟩ := by
  have e := off265_at k m w h1 h2
  have e1 : k0_off265 k m w 1 = w.toNat + m.val := by rw [e]; rfl
  refine ⟨by show k0_off265 k m w 0 = _; rw [e]; rfl, by show k0_off265 k m w 2 = _; rw [e]; rfl, by show k0_off265 k m w 3 = _; rw [e]; rfl, ?_,
    rfl, rfl, rfl, rfl, rfl, rfl, rfl, forall_ix4' fun a b p d => (hp a b p d).trans ?_⟩
  · show k0_off265 k m w 1 % 20 = _
    rw [e1]; omega
  · show _ = Lg P (k0_off265 k m w 1 + 20 * b.val) p.val d.val
    rw [e1, Lg, show (w.toNat + m.val + 20 * b.val) / 20 = 8 * (w.toNat / 160) + b.val by omega, show (w.toNat + m.val + 20 * b.val) % 20 = m.val by omega]

/-- What a round of the transposition leaves. -/
theorem transL {v : View sig' κ sp S2x2560x2x128 .bf16} {f fl : v.ty.Contents (Elt Ideal)} {L : List (View.Piece (Elt Ideal) S2x2560x2x128 .bf16)}
    {P : ℕ → ℕ → EReal} {buf m : ℕ} (h : fl = v.writes (Elt Ideal) f L) (hp : ∀ p ∈ L, PieceL P buf m p)
    (hs : L.map (fun p => p.1.off 1) = [15, 14, 13, 12, 11, 10, 9, 8, 7, 6, 5, 4, 3, 2, 1, 0].map fun t => 160 * t + m) (hm : m < 14)
    (hz : ∀ y : S2x2560x2x128.Idx, (y 0).val = buf → (y 1).val % 20 < m → v.read (Elt Ideal) f y = Lg P (y 1).val (y 2).val (y 3).val) :
    (∀ y : S2x2560x2x128.Idx, (y 0).val = buf → (y 1).val % 20 < m + 1 → v.read (Elt Ideal) fl y = Lg P (y 1).val (y 2).val (y 3).val)
    ∧ (∀ y : S2x2560x2x128.Idx, (y 0).val ≠ buf → v.read (Elt Ideal) fl y = v.read (Elt Ideal) f y) := by
  subst h
  have hG : ∀ p ∈ L, ∀ x : p.1.shape.Idx, p.2 x = (fun y : S2x2560x2x128.Idx => Lg P (y 1).val (y 2).val (y 3).val) (p.1.emb x) := by
    intro p hm x
    obtain ⟨h0, h2, h3, h1, s1, s2, s3, z0, z1, z2, z3, h6⟩ := hp p hm
    rw [h6 x]
    show _ = Lg P (p.1.off 1 + p.1.stride 1 * (x 1).val) (p.1.off 2 + p.1.stride 2 * (x 2).val) (p.1.off 3 + p.1.stride 3 * (x 3).val)
    rw [h2, h3, s1, s2, s3, Nat.one_mul, Nat.one_mul, Nat.zero_add, Nat.zero_add]
  have hin : ∀ y : S2x2560x2x128.Idx, (∃ p ∈ L, y ∈ p.1.set) → v.read (Elt Ideal) (v.writes (Elt Ideal) f L) y = Lg P (y 1).val (y 2).val (y 3).val :=
    fun y hy => View.read_writes_apply_of_pieces v f (fun y : S2x2560x2x128.Idx => Lg P (y 1).val (y 2).val (y 3).val) L hG y hy
  refine ⟨fun y h0 h1 => ?_, fun y h0 => ?_⟩
  · by_cases hc : ∃ p ∈ L, y ∈ p.1.set
    · exact hin y hc
    · by_cases hlt : (y 1).val % 20 < m
      · rw [View.read_writes_apply_of_forall_not_mem v f y L fun p hm hy' => hc ⟨p, hm, hy'⟩]; exact hz y h0 hlt
      · have hy1 : (y 1).val < 2560 := (y 1).isLt
        have ht : 160 * ((y 1).val / 160) + m ∈ L.map (fun p => p.1.off 1) := by
          rw [hs]
          refine List.mem_map.mpr ⟨(y 1).val / 160, ?_, rfl⟩
          have hlt16 : (y 1).val / 160 < 16 := by omega
          generalize (y 1).val / 160 = t at hlt16
          revert t
          decide
        obtain ⟨p, hpm, hpo⟩ := List.mem_map.mp ht
        obtain ⟨g0, g2, g3, g1, s1, s2, s3, z0, z1, z2, z3, g6⟩ := hp p hpm
        refine absurd ⟨p, hpm, p.1.mem_set.mpr fun a => ?_⟩ hc
        simp only at hpo
        fin_cases a
        · exact ⟨0, by show 0 < p.1.size 0; omega, by show (y 0).val = p.1.off 0 + p.1.stride 0 * 0; omega⟩
        · exact ⟨(y 1).val % 160 / 20, by show _ < p.1.size 1; omega, by show (y 1).val = p.1.off 1 + p.1.stride 1 * ((y 1).val % 160 / 20); rw [hpo, s1]; omega⟩
        · exact ⟨(y 2).val, by show (y 2).val < p.1.size 2; rw [z2]; exact (y 2).isLt, by show (y 2).val = p.1.off 2 + p.1.stride 2 * (y 2).val; rw [g2, s2]; omega⟩
        · exact ⟨(y 3).val, by show (y 3).val < p.1.size 3; rw [z3]; exact (y 3).isLt, by show (y 3).val = p.1.off 3 + p.1.stride 3 * (y 3).val; rw [g3, s3]; omega⟩
  · refine View.read_writes_apply_of_forall_not_mem v f y L fun p hm hy' => h0 ?_
    obtain ⟨g0, g2, g3, g1, s1, s2, s3, z0, z1, z2, z3, g6⟩ := hp p hm
    obtain ⟨j, hj, hy'⟩ := p.1.mem_set.mp hy' 0
    have hj' : j < p.1.size 0 := hj
    have hj0 : j = 0 := by omega
    subst hj0
    have : (y 0).val = p.1.off 0 + p.1.stride 0 * 0 := hy'
    omega

end Reads

end Cert.Proof.KernelIdeal

end
-- ==== Proof.KV.Tile.lean ====
/- One tile of the result: the product of the transposed rows and the embeddings, and where its rows are stored. -/
module

public import proofs.«01_k».proof.Proof.KV.Trans

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic

/-- The sum over the vectors of one sample. -/
def Xv (P : ℕ → ℕ → EReal) (Ef : ℕ → ℕ → ℕ → EReal) (i s d : ℕ) : EReal := ∑ j : Fin 32, P (36 * i + j.val) s * Ef j.val s d

/-- The result of one sample: the sum, and the dense part on the first vector. -/
def Ov (P : ℕ → ℕ → EReal) (Ef : ℕ → ℕ → ℕ → EReal) (D : ℕ → ℕ → EReal) (i s d : ℕ) : EReal := Xv P Ef i s d + if i = 0 then D s d else 0

theorem sumVal (P : ℕ → ℕ → EReal) (Ef : ℕ → ℕ → ℕ → EReal) (m p s s0 d : ℕ) (hs0 : s0 % 4 = 0) (h1 : s0 ≤ s) (h2 : s < s0 + 4) (hm : m < 20) :
    (∑ x : Fin 128, Lg P (20 * s + m) p x.val * Ef (x.val / 4) (s0 + x.val % 4) d) = Xv P Ef (2 * m + p) s d := by
  rw [Xv, ← Fintype.sum_equiv (finProdFinEquiv (m := 32) (n := 4)) (fun q => Lg P (20 * s + m) p (q.2.val + 4 * q.1.val) * Ef ((q.2.val + 4 * q.1.val) / 4) (s0 + (q.2.val + 4 * q.1.val) % 4) d)
    (fun x => Lg P (20 * s + m) p x.val * Ef (x.val / 4) (s0 + x.val % 4) d) (fun q => rfl), Fintype.sum_prod_type]
  refine Finset.sum_congr rfl fun j _ => ?_
  rw [Finset.sum_eq_single (⟨s % 4, by omega⟩ : Fin 4)]
  · simp only
    rw [Lg, if_pos (by omega), show (20 * s + m) % 20 = m by omega, show (20 * s + m) / 20 = s by omega, show (s % 4 + 4 * j.val) / 4 = j.val by omega,
      show s0 + (s % 4 + 4 * j.val) % 4 = s by omega]
  · intro b _ hb
    have hb' : b.val ≠ s % 4 := fun h => hb (Fin.ext h)
    have := b.isLt
    simp only
    rw [Lg, if_neg (by omega), zero_mul]
  · intro h; exact absurd (Finset.mem_univ _) h

theorem prodVal {A0 A1 : S64x128.Idx → EReal} {B : S128x128.Idx → EReal} {P : ℕ → ℕ → EReal} {Ef : ℕ → ℕ → ℕ → EReal} {s0 : ℕ} (hs0 : s0 % 4 = 0)
    (h0 : ∀ (q : Fin 64) (x : Fin 128), q.val % 16 < 14 → A0 (ix2 q x) = Lg P (20 * (s0 + q.val / 16) + q.val % 16) 0 x.val)
    (h1 : ∀ (q : Fin 64) (x : Fin 128), q.val % 16 < 14 → A1 (ix2 q x) = Lg P (20 * (s0 + q.val / 16) + q.val % 16) 1 x.val)
    (hB : ∀ x d : Fin 128, B (ix2 x d) = Ef (x.val / 4) (s0 + x.val % 4) d.val) (a d : Fin 128) (ha : a.val % 32 < 27) (hlt : a.val / 2 < 64) :
    (∑ x : Fin 128, (if a.val % 2 = 0 then A0 (ix2 ⟨a.val / 2, hlt⟩ x) else A1 (ix2 ⟨a.val / 2, hlt⟩ x)) * B (ix2 x d))
      = Xv P Ef (a.val % 32) (s0 + a.val / 32) d.val := by
  by_cases hp : a.val % 2 = 0
  · have e := sumVal P Ef (a.val / 2 % 16) 0 (s0 + a.val / 2 / 16) s0 d.val hs0 (by omega) (by omega) (by omega)
    rw [show 2 * (a.val / 2 % 16) + 0 = a.val % 32 by omega, show s0 + a.val / 2 / 16 = s0 + a.val / 32 by omega] at e
    rw [← e]
    refine Finset.sum_congr rfl fun x _ => ?_
    rw [if_pos hp, h0 _ _ (by simp only; omega), hB, show s0 + (⟨a.val / 2, hlt⟩ : Fin 64).val / 16 = s0 + a.val / 32 by simp only; omega]
  · have e := sumVal P Ef (a.val / 2 % 16) 1 (s0 + a.val / 2 / 16) s0 d.val hs0 (by omega) (by omega) (by omega)
    rw [show 2 * (a.val / 2 % 16) + 1 = a.val % 32 by omega, show s0 + a.val / 2 / 16 = s0 + a.val / 32 by omega] at e
    rw [← e]
    refine Finset.sum_congr rfl fun x _ => ?_
    rw [if_neg hp, h1 _ _ (by simp only; omega), hB, show s0 + (⟨a.val / 2, hlt⟩ : Fin 64).val / 16 = s0 + a.val / 32 by simp only; omega]

/-- Four blocks of sixteen rows, one over the other. -/
theorem cat4A (w0 w1 w2 w3 : S16x128.Idx → EReal) (g : ℕ → ℕ → EReal) (s0 : ℕ)
    (h0 : ∀ (m : Fin 16) (x : Fin 128), m.val < 14 → w0 (ix2 m x) = g (20 * (s0 + 0) + m.val) x.val)
    (h1 : ∀ (m : Fin 16) (x : Fin 128), m.val < 14 → w1 (ix2 m x) = g (20 * (s0 + 1) + m.val) x.val)
    (h2 : ∀ (m : Fin 16) (x : Fin 128), m.val < 14 → w2 (ix2 m x) = g (20 * (s0 + 2) + m.val) x.val)
    (h3 : ∀ (m : Fin 16) (x : Fin 128), m.val < 14 → w3 (ix2 m x) = g (20 * (s0 + 3) + m.val) x.val) (hc) (q : Fin 64) (x : Fin 128) (hq : q.val % 16 < 14) :
    concatenate S64x128 0 [(⟨S16x128, w0⟩ : (s : Shape) × (s.Idx → EReal)), ⟨S16x128, w1⟩, ⟨S16x128, w2⟩, ⟨S16x128, w3⟩] hc (ix2 q x)
      = g (20 * (s0 + q.val / 16) + q.val % 16) x.val := by
  let R : Fin 4 → (S16x128.Idx → EReal) := fun q => if q = 0 then w0 else if q = 1 then w1 else if q = 2 then w2 else w3
  have hR : ∀ (q : Fin 4) (m : Fin 16) (x : Fin 128), m.val < 14 → R q (ix2 m x) = g (20 * (s0 + q.val) + m.val) x.val := by
    intro q m x hm
    fin_cases q
    · exact h0 m x hm
    · exact h1 m x hm
    · exact h2 m x hm
    · exact h3 m x hm
  have e : concatenate S64x128 0 (List.ofFn fun n => (⟨S16x128, R n⟩ : (s : Shape) × (s.Idx → EReal))) hc (ix2 q x)
      = R ⟨q.val / 16, by omega⟩ (ix2 ⟨q.val % 16, by omega⟩ x) := by
    refine concatenate_ofFn_apply (t := S64x128) (s₁ := S16x128) 0 R hc rfl 16 rfl (ix2 q x) ⟨q.val / 16, by omega⟩ rfl _ rfl fun b hb => ?_
    fin_cases b
    · exact absurd rfl hb
    · rfl
  exact e.trans (hR _ _ _ hq)

/-- Four blocks of thirty-two rows, one over the other. -/
theorem cat4B (w0 w1 w2 w3 : S32x128.Idx → EReal) (g : ℕ → ℕ → ℕ → EReal)
    (h0 : ∀ (m : Fin 32) (d : Fin 128), w0 (ix2 m d) = g (0 + m.val / 4) (m.val % 4) d.val)
    (h1 : ∀ (m : Fin 32) (d : Fin 128), w1 (ix2 m d) = g (8 + m.val / 4) (m.val % 4) d.val)
    (h2 : ∀ (m : Fin 32) (d : Fin 128), w2 (ix2 m d) = g (16 + m.val / 4) (m.val % 4) d.val)
    (h3 : ∀ (m : Fin 32) (d : Fin 128), w3 (ix2 m d) = g (24 + m.val / 4) (m.val % 4) d.val) (hc) (x d : Fin 128) :
    concatenate S128x128 0 [(⟨S32x128, w0⟩ : (s : Shape) × (s.Idx → EReal)), ⟨S32x128, w1⟩, ⟨S32x128, w2⟩, ⟨S32x128, w3⟩] hc (ix2 x d)
      = g (x.val / 4) (x.val % 4) d.val := by
  let R : Fin 4 → (S32x128.Idx → EReal) := fun q => if q = 0 then w0 else if q = 1 then w1 else if q = 2 then w2 else w3
  have hR : ∀ (q : Fin 4) (m : Fin 32) (d : Fin 128), R q (ix2 m d) = g (8 * q.val + m.val / 4) (m.val % 4) d.val := by
    intro q m x
    fin_cases q
    · exact h0 m x
    · exact h1 m x
    · exact h2 m x
    · exact h3 m x
  have e : concatenate S128x128 0 (List.ofFn fun n => (⟨S32x128, R n⟩ : (s : Shape) × (s.Idx → EReal))) hc (ix2 x d)
      = R ⟨x.val / 32, by omega⟩ (ix2 ⟨x.val % 32, by omega⟩ d) := by
    refine concatenate_ofFn_apply (t := S128x128) (s₁ := S32x128) 0 R hc rfl 32 rfl (ix2 x d) ⟨x.val / 32, by omega⟩ rfl _ rfl fun b hb => ?_
    fin_cases b
    · exact absurd rfl hb
    · rfl
  refine e.trans ((hR _ _ _).trans ?_)
  simp only
  rw [show 8 * (x.val / 32) + x.val % 32 / 4 = x.val / 4 by omega, show x.val % 32 % 4 = x.val % 4 by omega]

/-- An array of rank five at coordinates given as numbers. -/
def rd5 {n0 n1 n2 n3 n4 : ℕ} (g : (⟨5, ![n0, n1, n2, n3, n4]⟩ : Shape).Idx → EReal) (a b c d e : ℕ) : EReal :=
  if h : a < n0 ∧ b < n1 ∧ c < n2 ∧ d < n3 ∧ e < n4 then g (ix5 ⟨a, h.1⟩ ⟨b, h.2.1⟩ ⟨c, h.2.2.1⟩ ⟨d, h.2.2.2.1⟩ ⟨e, h.2.2.2.2⟩) else 0
theorem rd5_eq {n0 n1 n2 n3 n4 : ℕ} (g : (⟨5, ![n0, n1, n2, n3, n4]⟩ : Shape).Idx → EReal) (x : (⟨5, ![n0, n1, n2, n3, n4]⟩ : Shape).Idx) :
    g x = rd5 g (x 0).val (x 1).val (x 2).val (x 3).val (x 4).val := by
  rw [rd5, dif_pos ⟨(x 0).isLt, (x 1).isLt, (x 2).isLt, (x 3).isLt, (x 4).isLt⟩]
  exact congrArg g (eq_ix5 x)

theorem off288_at : ∀ (k : Fin 5) (l : Fin 16) (h : Fin 2) (r : Fin 4), 1 ≤ k.val →
    k0_off288 k l (BitVec.ofNat 32 (4 * h.val)) (BitVec.ofNat 32 r.val) = ![(k.val - 1) % 2, 20 * (8 * l.val + 4 * h.val + r.val), 0, 0] := by decide +kernel
theorem off289_at : ∀ (k : Fin 5) (l : Fin 16) (h : Fin 2) (r : Fin 4), 1 ≤ k.val →
    k0_off289 k l (BitVec.ofNat 32 (4 * h.val)) (BitVec.ofNat 32 r.val) = ![(k.val - 1) % 2, 9 * (8 * l.val + 4 * h.val + r.val), 0] := by decide +kernel
theorem off284_at : ∀ (k : Fin 5) (l : Fin 16) (h : Fin 2), 1 ≤ k.val →
    k0_off284 k l (BitVec.ofNat 32 h.val) = ![0, 128 * ((k.val - 1) % 2) + (8 * l.val + 4 * h.val), 0] := by decide +kernel
theorem off285_at : ∀ (k : Fin 5) (l : Fin 16) (h : Fin 2), 1 ≤ k.val →
    k0_off285 k l (BitVec.ofNat 32 h.val) = ![8, 128 * ((k.val - 1) % 2) + (8 * l.val + 4 * h.val), 0] := by decide +kernel
theorem off286_at : ∀ (k : Fin 5) (l : Fin 16) (h : Fin 2), 1 ≤ k.val →
    k0_off286 k l (BitVec.ofNat 32 h.val) = ![16, 128 * ((k.val - 1) % 2) + (8 * l.val + 4 * h.val), 0] := by decide +kernel
theorem off287_at : ∀ (k : Fin 5) (l : Fin 16) (h : Fin 2), 1 ≤ k.val →
    k0_off287 k l (BitVec.ofNat 32 h.val) = ![24, 128 * ((k.val - 1) % 2) + (8 * l.val + 4 * h.val), 0] := by decide +kernel

theorem bv_at {w : BitVec 32} {n : ℕ} (h : w.toNat = n) : w = BitVec.ofNat 32 n := by
  subst h
  apply BitVec.eq_of_toNat_eq
  rw [BitVec.toNat_ofNat]
  omega
theorem off288_lit (k : Fin 5) (l : Fin 16) (w u : BitVec 32) (h r s : ℕ) (hk : 1 ≤ k.val) (hw : w.toNat = 4 * h) (hu : u.toNat = r) (hh : h < 2) (hr : r < 4) (hs : s = 8 * l.val + 4 * h + r) :
    k0_off288 k l w u = ![(k.val - 1) % 2, 20 * s, 0, 0] := by
  rw [bv_at hw, bv_at hu, hs]; exact off288_at k l ⟨h, hh⟩ ⟨r, hr⟩ hk
theorem off289_lit (k : Fin 5) (l : Fin 16) (w u : BitVec 32) (h r s : ℕ) (hk : 1 ≤ k.val) (hw : w.toNat = 4 * h) (hu : u.toNat = r) (hh : h < 2) (hr : r < 4) (hs : s = 8 * l.val + 4 * h + r) :
    k0_off289 k l w u = ![(k.val - 1) % 2, 9 * s, 0] := by
  rw [bv_at hw, bv_at hu, hs]; exact off289_at k l ⟨h, hh⟩ ⟨r, hr⟩ hk
theorem off284_lit (k : Fin 5) (l : Fin 16) (w : BitVec 32) (h : ℕ) (hk : 1 ≤ k.val) (hw : w.toNat = h) (hh : h < 2) :
    k0_off284 k l w = ![0, 128 * ((k.val - 1) % 2) + (8 * l.val + 4 * h), 0] := by
  rw [bv_at hw]; exact off284_at k l ⟨h, hh⟩ hk
theorem off285_lit (k : Fin 5) (l : Fin 16) (w : BitVec 32) (h : ℕ) (hk : 1 ≤ k.val) (hw : w.toNat = h) (hh : h < 2) :
    k0_off285 k l w = ![8, 128 * ((k.val - 1) % 2) + (8 * l.val + 4 * h), 0] := by
  rw [bv_at hw]; exact off285_at k l ⟨h, hh⟩ hk
theorem off286_lit (k : Fin 5) (l : Fin 16) (w : BitVec 32) (h : ℕ) (hk : 1 ≤ k.val) (hw : w.toNat = h) (hh : h < 2) :
    k0_off286 k l w = ![16, 128 * ((k.val - 1) % 2) + (8 * l.val + 4 * h), 0] := by
  rw [bv_at hw]; exact off286_at k l ⟨h, hh⟩ hk
theorem off287_lit (k : Fin 5) (l : Fin 16) (w : BitVec 32) (h : ℕ) (hk : 1 ≤ k.val) (hw : w.toNat = h) (hh : h < 2) :
    k0_off287 k l w = ![24, 128 * ((k.val - 1) % 2) + (8 * l.val + 4 * h), 0] := by
  rw [bv_at hw]; exact off287_at k l ⟨h, hh⟩ hk

section Reads
variable {sig' : RefSig} {κ : Kind} {sp : Space}

theorem readL (v : View sig' κ sp S2x2560x2x128 .bf16) {f : v.ty.Contents (Elt Ideal)} {buf : ℕ} {P : ℕ → ℕ → EReal}
    (h : ∀ y : S2x2560x2x128.Idx, (y 0).val = buf → (y 1).val % 20 < 14 → v.read (Elt Ideal) f y = Lg P (y 1).val (y 2).val (y 3).val)
    {off : Fin 4 → ℕ} {s : ℕ} {inb} (ho : off = ![buf, 20 * s, 0, 0]) (a : Fin 1) (b : Fin 16) (p : Fin 2) (d : Fin 128) (hb : b.val < 14) :
    v.readAt (Elt Ideal) (Rect.unit (s := S2x2560x2x128) off ![1, 16, 2, 128] inb).toLoadRect f (ix4 a b p d) = Lg P (20 * s + b.val) p.val d.val := by
  subst ho
  refine (h ((Rect.unit (s := S2x2560x2x128) ![buf, 20 * s, 0, 0] ![1, 16, 2, 128] inb).toLoadRect.idx (ix4 a b p d)) ?_ ?_).trans ?_
  · show buf + 1 * a.val = buf
    omega
  · show (20 * s + 1 * b.val) % 20 < 14
    omega
  · show Lg P (20 * s + 1 * b.val) (0 + 1 * p.val) (0 + 1 * d.val) = _
    rw [Nat.one_mul, Nat.one_mul, Nat.one_mul, Nat.zero_add, Nat.zero_add]

theorem readD (v : View sig' κ sp S2x1152x128 .f32) {f : v.ty.Contents (Elt Ideal)} {buf : ℕ} {D : ℕ → ℕ → EReal}
    (h : ∀ y : S2x1152x128.Idx, (y 0).val = buf → v.read (Elt Ideal) f y = if (y 1).val % 9 = 0 then D ((y 1).val / 9) (y 2).val else 0)
    {off : Fin 3 → ℕ} {s : ℕ} {inb} (ho : off = ![buf, 9 * s, 0]) (a : Fin 1) (b : Fin 8) (d : Fin 128) :
    v.readAt (Elt Ideal) (Rect.unit (s := S2x1152x128) off ![1, 8, 128] inb).toLoadRect f (ix3 a b d) = if b.val = 0 then D s d.val else 0 := by
  subst ho
  refine (h ((Rect.unit (s := S2x1152x128) ![buf, 9 * s, 0] ![1, 8, 128] inb).toLoadRect.idx (ix3 a b d)) ?_).trans ?_
  · show buf + 1 * a.val = buf
    omega
  · show (if (9 * s + 1 * b.val) % 9 = 0 then D ((9 * s + 1 * b.val) / 9) (0 + 1 * d.val) else 0) = _
    have := b.isLt
    refine if_congr (by omega) ?_ rfl
    rw [show (0 + 1 * d.val) = d.val by omega]
    by_cases hb : b.val = 0
    · rw [show (9 * s + 1 * b.val) / 9 = s by omega]
    · rw [show (9 * s + 1 * b.val) / 9 = s by omega]

theorem readEm (v : View sig' κ sp S3x2x32x288x128 .fp8e4m3) (f : v.ty.Contents (Elt Ideal)) {slot ba : ℕ} {oR : Fin 5 → ℕ} {inbR hn}
    (hR : oR = ![slot, ba, 0, 0, 0]) {off : Fin 3 → ℕ} {j0 s0 : ℕ} {inb} (ho : off = ![j0, s0, 0]) (a : Fin 8) (b : Fin 4) (d : Fin 128) :
    View.readAt (Elt Ideal) ((v.slice (Rect.unit (s := S3x2x32x288x128) oR ![1, 1, 32, 288, 128] inbR)).reshape S32x288x128 hn)
      (Rect.unit (s := S32x288x128) off ![8, 4, 128] inb).toLoadRect f (ix3 a b d)
      = rd5 (v.read (Elt Ideal) f) slot ba (j0 + a.val) (s0 + b.val) d.val := by
  subst hR; subst ho
  have e : (Rect.unit (s := S32x288x128) ![j0, s0, 0] ![8, 4, 128] inb).toLoadRect.idx (ix3 a b d)
      = ix3 ⟨j0 + 1 * a.val, by have := inb 0; have : j0 + 8 ≤ 32 := this; omega⟩ ⟨s0 + 1 * b.val, by have := inb 1; have : s0 + 4 ≤ 288 := this; omega⟩ ⟨0 + 1 * d.val, by omega⟩ := by
    funext q; fin_cases q <;> rfl
  show v.read (Elt Ideal) f ((Rect.unit (s := S3x2x32x288x128) ![slot, ba, 0, 0, 0] ![1, 1, 32, 288, 128] inbR).emb (Shape.reshapeEquiv hn ((Rect.unit (s := S32x288x128) ![j0, s0, 0] ![8, 4, 128] inb).toLoadRect.idx (ix3 a b d)))) = _
  rw [e]
  have e2 : ∀ (x : Fin 32) (y : Fin 288) (z : Fin 128), (Shape.reshapeEquiv hn (ix3 x y z) : (⟨5, ![1, 1, 32, 288, 128]⟩ : Shape).Idx) = ix5 0 0 x y z := by
    intro x y z
    simp only [pointwise]
  refine (congrArg (fun q => v.read (Elt Ideal) f ((Rect.unit (s := S3x2x32x288x128) ![slot, ba, 0, 0, 0] ![1, 1, 32, 288, 128] inbR).emb q)) (e2 _ _ _)).trans ?_
  refine (rd5_eq (v.read (Elt Ideal) f) _).trans ?_
  show rd5 (v.read (Elt Ideal) f) (slot + 1 * 0) (ba + 1 * 0) (0 + 1 * (j0 + 1 * a.val)) (0 + 1 * (s0 + 1 * b.val)) (0 + 1 * (0 + 1 * d.val)) = _
  simp only [Nat.one_mul, Nat.zero_add, Nat.mul_zero, Nat.add_zero]

/-- One store of a tile. -/
def PieceO (G : ℕ → ℕ → ℕ → EReal) (slot b t : ℕ) (p : View.Piece (Elt Ideal) S3x2x27x33x8x128 .bf16) : Prop :=
  p.1.off 0 = slot ∧ p.1.off 1 = b ∧ p.1.off 3 = t ∧ p.1.off 5 = 0 ∧ (∀ a, p.1.stride a = 1)
    ∧ p.1.size 0 = 1 ∧ p.1.size 1 = 1 ∧ p.1.size 3 = 1 ∧ p.1.size 4 = 2 ∧ p.1.size 5 = 128
    ∧ ∀ x : p.1.shape.Idx, p.2 x = G (p.1.off 2 + (x 2).val) (p.1.off 4 + (x 4).val) (x 5).val

theorem forall_ix6' {n0 n1 n2 n3 n4 n5 : ℕ} {P : (⟨6, ![n0, n1, n2, n3, n4, n5]⟩ : Shape).Idx → Prop} (h : ∀ a b c d e g, P (ix6 a b c d e g)) (x) : P x := by
  rw [eq_ix6 x]; exact h _ _ _ _ _ _

theorem pieceO {G : ℕ → ℕ → ℕ → EReal} {slot b t o2 o4 n : ℕ} {off : Fin 6 → ℕ} {inb} {w : (⟨6, ![1, 1, n, 1, 2, 128]⟩ : Shape).Idx → Elt Ideal .bf16}
    (ho : off = ![slot, b, o2, t, o4, 0]) (hw : ∀ a b (c : Fin n) d (e : Fin 2) (g : Fin 128), w (ix6 a b c d e g) = G (o2 + c.val) (o4 + e.val) g.val) :
    PieceO G slot b t ⟨Rect.unit (s := S3x2x27x33x8x128) off ![1, 1, n, 1, 2, 128] inb, w⟩ := by
  subst ho
  exact ⟨rfl, rfl, rfl, rfl, fun _ => rfl, rfl, rfl, rfl, rfl, rfl, forall_ix6' fun a b c d e g => hw a b c d e g⟩

/-- Where the sixteen stores of a tile go, the last first: the first vector, how many, the first sample. -/
def tileSpecs : List (ℕ × ℕ × ℕ) :=
  [6, 4, 2, 0].flatMap fun o => [(24, 3, o), (16, 8, o), (8, 8, o), (0, 8, o)]
theorem tileSpecs_cover : ∀ (i : Fin 27) (q : Fin 8), (tileSpecs.any fun s => Nat.ble s.1 i.val && Nat.blt i.val (s.1 + s.2.1) && Nat.ble s.2.2 q.val && Nat.blt q.val (s.2.2 + 2)) = true := by decide +kernel

/-- What the stores of one tile leave. -/
theorem tileO {v : View sig' κ sp S3x2x27x33x8x128 .bf16} {f fo : v.ty.Contents (Elt Ideal)} {L : List (View.Piece (Elt Ideal) S3x2x27x33x8x128 .bf16)}
    {G : ℕ → ℕ → ℕ → EReal} {slot b t : ℕ} (h : fo = v.writes (Elt Ideal) f L) (hp : ∀ p ∈ L, PieceO G slot b t p)
    (hs : L.map (fun p => (p.1.off 2, p.1.size 2, p.1.off 4)) = tileSpecs) :
    (∀ y : S3x2x27x33x8x128.Idx, (y 0).val = slot → (y 1).val = b → (y 3).val = t → v.read (Elt Ideal) fo y = G (y 2).val (y 4).val (y 5).val)
    ∧ (∀ y : S3x2x27x33x8x128.Idx, ¬ ((y 0).val = slot ∧ (y 1).val = b ∧ (y 3).val = t) → v.read (Elt Ideal) fo y = v.read (Elt Ideal) f y) := by
  subst h
  have hG : ∀ p ∈ L, ∀ x : p.1.shape.Idx, p.2 x = (fun y : S3x2x27x33x8x128.Idx => G (y 2).val (y 4).val (y 5).val) (p.1.emb x) := by
    intro p hm x
    obtain ⟨h0, h1, h3, h5, st, z0, z1, z3, z4, z5, h6⟩ := hp p hm
    rw [h6 x]
    show _ = G (p.1.off 2 + p.1.stride 2 * (x 2).val) (p.1.off 4 + p.1.stride 4 * (x 4).val) (p.1.off 5 + p.1.stride 5 * (x 5).val)
    rw [st, st, st, h5, Nat.one_mul, Nat.one_mul, Nat.one_mul, Nat.zero_add]
  refine ⟨fun y h0 h1 h3 => ?_, fun y hn => ?_⟩
  · refine View.read_writes_apply_of_pieces v f (fun y : S3x2x27x33x8x128.Idx => G (y 2).val (y 4).val (y 5).val) L hG y ?_
    have hc := tileSpecs_cover (y 2) (y 4)
    rw [← hs, List.any_eq_true] at hc
    obtain ⟨sp, hm, hc⟩ := hc
    obtain ⟨p, hpm, rfl⟩ := List.mem_map.mp hm
    obtain ⟨g0, g1, g3, g5, st, z0, z1, z3, z4, z5, g6⟩ := hp p hpm
    simp only [Bool.and_eq_true, Nat.ble_eq, Nat.blt_eq] at hc
    obtain ⟨⟨⟨c1, c2⟩, c3⟩, c4⟩ := hc
    refine ⟨p, hpm, p.1.mem_set.mpr fun a => ?_⟩
    rw [st a]
    fin_cases a
    · exact ⟨0, by show 0 < p.1.size 0; omega, by show (y 0).val = p.1.off 0 + 1 * 0; omega⟩
    · exact ⟨0, by show 0 < p.1.size 1; omega, by show (y 1).val = p.1.off 1 + 1 * 0; omega⟩
    · exact ⟨(y 2).val - p.1.off 2, by show _ < p.1.size 2; omega, by show (y 2).val = p.1.off 2 + 1 * ((y 2).val - p.1.off 2); omega⟩
    · exact ⟨0, by show 0 < p.1.size 3; omega, by show (y 3).val = p.1.off 3 + 1 * 0; omega⟩
    · exact ⟨(y 4).val - p.1.off 4, by show _ < p.1.size 4; omega, by show (y 4).val = p.1.off 4 + 1 * ((y 4).val - p.1.off 4); omega⟩
    · exact ⟨(y 5).val, by show (y 5).val < p.1.size 5; rw [z5]; exact (y 5).isLt, by show (y 5).val = p.1.off 5 + 1 * (y 5).val; omega⟩
  · refine View.read_writes_apply_of_forall_not_mem v f y L fun p hm hy' => hn ?_
    obtain ⟨g0, g1, g3, g5, st, z0, z1, z3, z4, z5, g6⟩ := hp p hm
    have hq : ∀ a : Fin 6, p.1.size a = 1 → (y a).val = p.1.off a := by
      intro a ha
      obtain ⟨j, hj, hy'⟩ := p.1.mem_set.mp hy' a
      have hj' : j < p.1.size a := hj
      have e : (y a).val = p.1.off a + p.1.stride a * j := hy'
      rw [show j = 0 by omega, Nat.mul_zero, Nat.add_zero] at e
      exact e
    exact ⟨(hq 0 z0).trans g0, (hq 1 z1).trans g1, (hq 3 z3).trans g3⟩

end Reads

theorem tileNo {P : ℕ → ℕ → EReal} {Ef : ℕ → ℕ → ℕ → EReal} {D : ℕ → ℕ → EReal} {A B i s d : ℕ} (h1 : A = i) (h2 : B = s) (h3 : i ≠ 0) :
    Xv P Ef A B d = Ov P Ef D i s d := by
  subst h1; subst h2; rw [Ov, if_neg h3, add_zero]
theorem tileD {P : ℕ → ℕ → EReal} {Ef : ℕ → ℕ → ℕ → EReal} {D : ℕ → ℕ → EReal} {A B i s d i' s' : ℕ} (h1 : A = i) (h2 : B = s) (h3 : i' = i) (h4 : s' = s) :
    Xv P Ef A B d + (if i' = 0 then D s' d else 0) = Ov P Ef D i s d := by
  subst h1; subst h2; subst h3; subst h4; rfl

end Cert.Proof.KernelIdeal

end
-- ==== Proof.KV.T3.lean ====
/- The rounds of one chunk store its tiles. -/
module

public import proofs.«01_k».proof.Proof.KV.Tile
public import proofs.«01_k».proof.Proof.Gen.KernelIdeal.Loops
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Ring.WriteBehind
public import Idealize.ShloMosaic.Lib.Tactic
public import Idealize.ShloMosaic.Lib.WordCmp

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (Pipeline.UD sig nD τ) ℕ

/-- What the slot of results holds after `n` rounds of chunk `q`, the other places as they were. -/
def TileOK {sig' : RefSig} {κ : Kind} {sp : Space} (v : View sig' κ sp S3x2x27x33x8x128 .bf16) (O : ℕ → ℕ → ℕ → EReal) (slot q n : ℕ) (f0 f : v.ty.Contents (Elt Ideal)) : Prop :=
  (∀ y : S3x2x27x33x8x128.Idx, (y 0).val = slot → (y 1).val = q / 2 → 16 * (q % 2) ≤ (y 3).val → (y 3).val < 16 * (q % 2) + n →
      v.read (Elt Ideal) f y = O (y 2).val (8 * ((y 3).val - 16 * (q % 2)) + (y 4).val) (y 5).val)
    ∧ (∀ y : S3x2x27x33x8x128.Idx, ¬ ((y 0).val = slot ∧ (y 1).val = q / 2 ∧ 16 * (q % 2) ≤ (y 3).val ∧ (y 3).val < 16 * (q % 2) + 16) → v.read (Elt Ideal) f y = v.read (Elt Ideal) f0 y)

theorem tileOK_succ {sig' : RefSig} {κ : Kind} {sp : Space} {v : View sig' κ sp S3x2x27x33x8x128 .bf16} {O : ℕ → ℕ → ℕ → EReal} {slot q l : ℕ} {f0 f fo : v.ty.Contents (Elt Ideal)}
    (h : TileOK v O slot q l f0 f) (hl : l < 16)
    (h1 : (∀ y : S3x2x27x33x8x128.Idx, (y 0).val = slot → (y 1).val = q / 2 → (y 3).val = 16 * (q % 2) + l → v.read (Elt Ideal) fo y = O (y 2).val (8 * l + (y 4).val) (y 5).val)
      ∧ (∀ y : S3x2x27x33x8x128.Idx, ¬ ((y 0).val = slot ∧ (y 1).val = q / 2 ∧ (y 3).val = 16 * (q % 2) + l) → v.read (Elt Ideal) fo y = v.read (Elt Ideal) f y)) :
    TileOK v O slot q (l + 1) f0 fo := by
  refine ⟨fun y y0 y1 y3 y3' => ?_, fun y hy => ?_⟩
  · by_cases e : (y 3).val = 16 * (q % 2) + l
    · rw [h1.1 y y0 y1 e, show (y 3).val - 16 * (q % 2) = l by omega]
    · rw [h1.2 y (fun hh => e hh.2.2), h.1 y y0 y1 y3 (by omega)]
  · rw [h1.2 y (fun hh => hy ⟨hh.1, hh.2.1, by omega, by omega⟩), h.2 y hy]

set_option maxHeartbeats 600000 in
set_option warn.classDefReducibility false in
set_option sl_exec.squeezeSlice true in
/-- The rounds store the tiles of one chunk. -/
noncomputable def tileInv (c : Dev nD) (i : grid0.Coords) (arg1 : Memref sig .tc .vmem S2x351x256 .fp8e5m2) (harg1 : arg1.IsWhole) (arg2 : Memref sig .tc .vmem S26x2x256 .f32) (harg2 : arg2.IsWhole) (arg3 : Memref sig .tc .vmem S27x2x256 .f32) (harg3 : arg3.IsWhole) (arg4 : Memref sig .tc .vmem S2x256x128 .bf16) (harg4 : arg4.IsWhole) (arg5 : Memref sig .tc .hbm S2x27x16384x128 .fp8e4m3) (harg5 : arg5.IsWhole) (arg6 : Memref sig .tc .hbm S2x27x2048x8x128 .bf16) (harg6 : arg6.IsWhole) (arg7 : Memref sig .tc .vmem S3x2x32x288x128 .fp8e4m3) (harg7 : arg7.IsWhole) (arg8 : Memref sig .tc .vmem S3x2x27x33x8x128 .bf16) (harg8 : arg8.IsWhole) (arg9 : Memref sig .tc .vmem S2x352x128 .f32) (harg9 : arg9.IsWhole) (arg10 : Memref sig .tc .vmem S2x2x32x128 .f32) (harg10 : arg10.IsWhole) (arg11 : Memref sig .tc .vmem S2x1008x128 .f32) (harg11 : arg11.IsWhole) (arg12 : Memref sig .tc .vmem S2x2560x2x128 .bf16) (harg12 : arg12.IsWhole) (arg13 : Memref sig .tc .vmem S2x1152x128 .f32) (harg13 : arg13.IsWhole) (arg14 : DmaSems sig S3) (arg15 : DmaSems sig S3) (k0_t1 : Fin k0_t1_loop.trips) (k0_h6 : k0_cond6 k0_t1 = 1#1) (v63 : BitVec 32) (v64 : BitVec 32)
    (P D : ℕ → ℕ → EReal) (fe : Buf (Elt Ideal) (arg7.view.loc (c : Thread nD τ))) (fl : Buf (Elt Ideal) (arg12.view.loc (c : Thread nD τ)))
    (hL : ∀ y : S2x2560x2x128.Idx, (y 0).val = (k0_t1.val - 1) % 2 → (y 1).val % 20 < 14 → arg12.view.read (Elt Ideal) fl y = Lg P (y 1).val (y 2).val (y 3).val)
    (fd : Buf (Elt Ideal) (arg13.view.loc (c : Thread nD τ)))
    (hD : ∀ y : S2x1152x128.Idx, (y 0).val = (k0_t1.val - 1) % 2 → arg13.view.read (Elt Ideal) fd y = if (y 1).val % 9 = 0 then D ((y 1).val / 9) (y 2).val else 0)
    (fo0 : Buf (Elt Ideal) (arg8.view.loc (c : Thread nD τ))) :
    LoopInvTy_k0_t3 (F := Ideal) Unit ℕ (Pipeline.UD sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 arg15 k0_t1 k0_h6 v63 v64 where
  inv := fun n _ => iprop((arg7.view.loc (c : Thread nD τ) ↦[arg7.view.setOn (eR (i 0).val).set]{fullShare} fe)
    ∗ (∃ f, ⌜TileOK arg8.view (Ov P (fun j s d => rd5 (arg7.view.read (Elt Ideal) fe) ((i 0).val % 3) ((k0_t1.val - 1) / 2) j (128 * ((k0_t1.val - 1) % 2) + s) d) D) ((i 0).val % 3) (k0_t1.val - 1) n fo0 f⌝ ∗ arg8.view.loc (c : Thread nD τ) ↦[arg8.view.setOn (oR (i 0).val).set]{fullShare} f)
    ∗ (arg12.view.loc (c : Thread nD τ) ↦[arg12.view.set]{fullShare} fl) ∗ (arg13.view.loc (c : Thread nD τ) ↦[arg13.view.set]{fullShare} fd))
  step := fun k0_t3 acc => by
    have hk1 : 1 ≤ k0_t1.val := cond6_pos k0_t1 k0_h6
    haveI : Fact (1 ≤ k0_t1.val) := ⟨hk1⟩
    have hk5 : k0_t1.val < 5 := k0_t1.isLt
    have hl16 : k0_t3.val < 16 := k0_t3.isLt
    have hE := e_sub arg7 i k0_t1 k0_h6
    unfold k0_t3_body
    iintro ⟨HE, ⟨%fo, %hfo0, HO⟩, HL, HD⟩
    sl_exec
    ihave HX := (pt_name arg8 c _ _) $$ HO
    icases HX with ⟨%fo', %hfo, HO⟩
    obtain ⟨Ef, hEf⟩ : ∃ Ef : ℕ → ℕ → ℕ → EReal, Ef = fun j s d => rd5 (arg7.view.read (Elt Ideal) fe) ((i 0).val % 3) ((k0_t1.val - 1) / 2) j (128 * ((k0_t1.val - 1) % 2) + s) d := ⟨_, rfl⟩
    have hX : ∀ (a d : Fin 128), a.val % 32 < 27 → (tileInv.sl.r c i arg7 arg12 k0_t1 k0_h6 fe fl k0_t3 (ix2 a d) : EReal) = Xv P Ef (a.val % 32) (8 * k0_t3.val + 0 + a.val / 32) d.val := by
      intro a d ha
      clear hfo
      sl_unfold_run_names
      unfold_payloads
      pointwise
      refine prodVal (s0 := 8 * k0_t3.val + 0) (P := P) (Ef := Ef) (by omega) ?_ ?_ ?_ a d ha _
      · intro q x hq
        refine cat4A _ _ _ _ (fun r x => Lg P r 0 x) _ ?_ ?_ ?_ ?_ _ q x hq
        · intro m x hm
          pointwise
          exact readL arg12.view hL (off288_lit k0_t1 k0_t3 _ _ 0 0 (8 * k0_t3.val + 0 + 0) hk1 rfl rfl (by omega) (by omega) rfl) _ _ _ _ hm
        · intro m x hm
          pointwise
          exact readL arg12.view hL (off288_lit k0_t1 k0_t3 _ _ 0 1 (8 * k0_t3.val + 0 + 1) hk1 rfl rfl (by omega) (by omega) rfl) _ _ _ _ hm
        · intro m x hm
          pointwise
          exact readL arg12.view hL (off288_lit k0_t1 k0_t3 _ _ 0 2 (8 * k0_t3.val + 0 + 2) hk1 rfl rfl (by omega) (by omega) rfl) _ _ _ _ hm
        · intro m x hm
          pointwise
          exact readL arg12.view hL (off288_lit k0_t1 k0_t3 _ _ 0 3 (8 * k0_t3.val + 0 + 3) hk1 rfl rfl (by omega) (by omega) rfl) _ _ _ _ hm
      · intro q x hq
        refine cat4A _ _ _ _ (fun r x => Lg P r 1 x) _ ?_ ?_ ?_ ?_ _ q x hq
        · intro m x hm
          pointwise
          exact readL arg12.view hL (off288_lit k0_t1 k0_t3 _ _ 0 0 (8 * k0_t3.val + 0 + 0) hk1 rfl rfl (by omega) (by omega) rfl) _ _ _ _ hm
        · intro m x hm
          pointwise
          exact readL arg12.view hL (off288_lit k0_t1 k0_t3 _ _ 0 1 (8 * k0_t3.val + 0 + 1) hk1 rfl rfl (by omega) (by omega) rfl) _ _ _ _ hm
        · intro m x hm
          pointwise
          exact readL arg12.view hL (off288_lit k0_t1 k0_t3 _ _ 0 2 (8 * k0_t3.val + 0 + 2) hk1 rfl rfl (by omega) (by omega) rfl) _ _ _ _ hm
        · intro m x hm
          pointwise
          exact readL arg12.view hL (off288_lit k0_t1 k0_t3 _ _ 0 3 (8 * k0_t3.val + 0 + 3) hk1 rfl rfl (by omega) (by omega) rfl) _ _ _ _ hm
      · intro x d
        refine cat4B _ _ _ _ (fun j r d => Ef j (8 * k0_t3.val + 0 + r) d) ?_ ?_ ?_ ?_ _ x d
        · intro m d
          pointwise
          refine (readEm arg7.view fe (off283_eq i k0_t1) (off284_lit k0_t1 k0_t3 _ 0 hk1 rfl (by omega)) _ _ _).trans ?_
          simp only [hEf]
          congr 1 <;> omega
        · intro m d
          pointwise
          refine (readEm arg7.view fe (off283_eq i k0_t1) (off285_lit k0_t1 k0_t3 _ 0 hk1 rfl (by omega)) _ _ _).trans ?_
          simp only [hEf]
          congr 1 <;> omega
        · intro m d
          pointwise
          refine (readEm arg7.view fe (off283_eq i k0_t1) (off286_lit k0_t1 k0_t3 _ 0 hk1 rfl (by omega)) _ _ _).trans ?_
          simp only [hEf]
          congr 1 <;> omega
        · intro m d
          pointwise
          refine (readEm arg7.view fe (off283_eq i k0_t1) (off287_lit k0_t1 k0_t3 _ 0 hk1 rfl (by omega)) _ _ _).trans ?_
          simp only [hEf]
          congr 1 <;> omega
    have hX' : ∀ (a d : Fin 128), a.val % 32 < 27 → (tileInv.sl.r_12 c i arg7 arg12 k0_t1 k0_h6 fe fl k0_t3 (ix2 a d) : EReal) = Xv P Ef (a.val % 32) (8 * k0_t3.val + 4 + a.val / 32) d.val := by
      intro a d ha
      clear hfo
      sl_unfold_run_names
      unfold_payloads
      pointwise
      refine prodVal (s0 := 8 * k0_t3.val + 4) (P := P) (Ef := Ef) (by omega) ?_ ?_ ?_ a d ha _
      · intro q x hq
        refine cat4A _ _ _ _ (fun r x => Lg P r 0 x) _ ?_ ?_ ?_ ?_ _ q x hq
        · intro m x hm
          pointwise
          exact readL arg12.view hL (off288_lit k0_t1 k0_t3 _ _ 1 0 (8 * k0_t3.val + 4 + 0) hk1 rfl rfl (by omega) (by omega) rfl) _ _ _ _ hm
        · intro m x hm
          pointwise
          exact readL arg12.view hL (off288_lit k0_t1 k0_t3 _ _ 1 1 (8 * k0_t3.val + 4 + 1) hk1 rfl rfl (by omega) (by omega) rfl) _ _ _ _ hm
        · intro m x hm
          pointwise
          exact readL arg12.view hL (off288_lit k0_t1 k0_t3 _ _ 1 2 (8 * k0_t3.val + 4 + 2) hk1 rfl rfl (by omega) (by omega) rfl) _ _ _ _ hm
        · intro m x hm
          pointwise
          exact readL arg12.view hL (off288_lit k0_t1 k0_t3 _ _ 1 3 (8 * k0_t3.val + 4 + 3) hk1 rfl rfl (by omega) (by omega) rfl) _ _ _ _ hm
      · intro q x hq
        refine cat4A _ _ _ _ (fun r x => Lg P r 1 x) _ ?_ ?_ ?_ ?_ _ q x hq
        · intro m x hm
          pointwise
          exact readL arg12.view hL (off288_lit k0_t1 k0_t3 _ _ 1 0 (8 * k0_t3.val + 4 + 0) hk1 rfl rfl (by omega) (by omega) rfl) _ _ _ _ hm
        · intro m x hm
          pointwise
          exact readL arg12.view hL (off288_lit k0_t1 k0_t3 _ _ 1 1 (8 * k0_t3.val + 4 + 1) hk1 rfl rfl (by omega) (by omega) rfl) _ _ _ _ hm
        · intro m x hm
          pointwise
          exact readL arg12.view hL (off288_lit k0_t1 k0_t3 _ _ 1 2 (8 * k0_t3.val + 4 + 2) hk1 rfl rfl (by omega) (by omega) rfl) _ _ _ _ hm
        · intro m x hm
          pointwise
          exact readL arg12.view hL (off288_lit k0_t1 k0_t3 _ _ 1 3 (8 * k0_t3.val + 4 + 3) hk1 rfl rfl (by omega) (by omega) rfl) _ _ _ _ hm
      · intro x d
        refine cat4B _ _ _ _ (fun j r d => Ef j (8 * k0_t3.val + 4 + r) d) ?_ ?_ ?_ ?_ _ x d
        · intro m d
          pointwise
          refine (readEm arg7.view fe (off283_eq i k0_t1) (off284_lit k0_t1 k0_t3 _ 1 hk1 rfl (by omega)) _ _ _).trans ?_
          simp only [hEf]
          congr 1 <;> omega
        · intro m d
          pointwise
          refine (readEm arg7.view fe (off283_eq i k0_t1) (off285_lit k0_t1 k0_t3 _ 1 hk1 rfl (by omega)) _ _ _).trans ?_
          simp only [hEf]
          congr 1 <;> omega
        · intro m d
          pointwise
          refine (readEm arg7.view fe (off283_eq i k0_t1) (off286_lit k0_t1 k0_t3 _ 1 hk1 rfl (by omega)) _ _ _).trans ?_
          simp only [hEf]
          congr 1 <;> omega
        · intro m d
          pointwise
          refine (readEm arg7.view fe (off283_eq i k0_t1) (off287_lit k0_t1 k0_t3 _ 1 hk1 rfl (by omega)) _ _ _).trans ?_
          simp only [hEf]
          congr 1 <;> omega
    have e1 : tileInv.sl.r_1 c i arg7 arg12 k0_t1 k0_h6 fe fl k0_t3 = extractStridedSlice S8x128 ![0, 0] (tileInv.sl.r c i arg7 arg12 k0_t1 k0_h6 fe fl k0_t3) slices_S128x128_o0_0_S8x128 := rfl
    have e13 : tileInv.sl.r_13 c i arg7 arg12 k0_t1 k0_h6 fe fl k0_t3 = extractStridedSlice S8x128 ![0, 0] (tileInv.sl.r_12 c i arg7 arg12 k0_t1 k0_h6 fe fl k0_t3) slices_S128x128_o0_0_S8x128 := rfl
    rw [e1, e13] at hfo
    dsimp only [tileInv.sl.r_2, tileInv.sl.r_3, tileInv.sl.r_4, tileInv.sl.r_5, tileInv.sl.r_6, tileInv.sl.r_7, tileInv.sl.r_8, tileInv.sl.r_9, tileInv.sl.r_10, tileInv.sl.r_11, tileInv.sl.r_14, tileInv.sl.r_15, tileInv.sl.r_16, tileInv.sl.r_17, tileInv.sl.r_18, tileInv.sl.r_19, tileInv.sl.r_20, tileInv.sl.r_21, tileInv.sl.r_22, tileInv.sl.k0_w25, tileInv.sl.v251_lo, tileInv.sl.v251_hi] at hfo
    clear e1 e13
    revert hX hX' hfo
    generalize tileInv.sl.r c i arg7 arg12 k0_t1 k0_h6 fe fl k0_t3 = X
    generalize tileInv.sl.r_12 c i arg7 arg12 k0_t1 k0_h6 fe fl k0_t3 = X'
    intro hfo hX hX'
    have hT := tileO (v := arg8.view) (f := fo) (fo := fo') (G := fun i q d => Ov P Ef D i (8 * k0_t3.val + q) d) (slot := (i 0).val % 3) (b := (k0_t1.val - 1) / 2)
      (t := 16 * ((k0_t1.val - 1) % 2) + k0_t3.val) hfo (by
      clear hfo
      repeat' (first | exact List.forall_mem_nil _ | refine List.forall_mem_cons.mpr ⟨?_, ?_⟩)
      · refine pieceO (off306_eq i k0_t1 k0_t3 hk1) fun a b c d e g => ?_
        have hc := c.isLt
        have he := e.isLt
        unfold_payloads
        pointwise
        split
        · exact (hX' _ _ (by first | omega | (simp only; omega) | rfl)).trans (tileNo (by first | omega | (simp only; omega) | rfl) (by first | omega | (simp only; omega) | rfl) (by first | omega | (simp only; omega) | rfl))
        · exact (hX' _ _ (by first | omega | (simp only; omega) | rfl)).trans (tileNo (by first | omega | (simp only; omega) | rfl) (by first | omega | (simp only; omega) | rfl) (by first | omega | (simp only; omega) | rfl))
      · refine pieceO (off305_eq i k0_t1 k0_t3 hk1) fun a b c d e g => ?_
        have hc := c.isLt
        have he := e.isLt
        unfold_payloads
        pointwise
        split
        · exact (hX' _ _ (by first | omega | (simp only; omega) | rfl)).trans (tileNo (by first | omega | (simp only; omega) | rfl) (by first | omega | (simp only; omega) | rfl) (by first | omega | (simp only; omega) | rfl))
        · exact (hX' _ _ (by first | omega | (simp only; omega) | rfl)).trans (tileNo (by first | omega | (simp only; omega) | rfl) (by first | omega | (simp only; omega) | rfl) (by first | omega | (simp only; omega) | rfl))
      · refine pieceO (off304_eq i k0_t1 k0_t3 hk1) fun a b c d e g => ?_
        have hc := c.isLt
        have he := e.isLt
        unfold_payloads
        pointwise
        split
        · exact (hX' _ _ (by first | omega | (simp only; omega) | rfl)).trans (tileNo (by first | omega | (simp only; omega) | rfl) (by first | omega | (simp only; omega) | rfl) (by first | omega | (simp only; omega) | rfl))
        · exact (hX' _ _ (by first | omega | (simp only; omega) | rfl)).trans (tileNo (by first | omega | (simp only; omega) | rfl) (by first | omega | (simp only; omega) | rfl) (by first | omega | (simp only; omega) | rfl))
      · refine pieceO (off303_eq i k0_t1 k0_t3 hk1) fun a b c d e g => ?_
        have hc := c.isLt
        have he := e.isLt
        unfold_payloads
        pointwise
        split
        · exact (congrArg₂ (· + ·) (hX' _ _ (by first | omega | (simp only; omega) | rfl)) (readD arg13.view hD (off289_lit k0_t1 k0_t3 _ _ 1 2 (8 * k0_t3.val + 4 + 2) hk1 rfl rfl (by omega) (by omega) rfl) _ _ _)).trans (tileD (by first | omega | (simp only; omega) | rfl) (by first | omega | (simp only; omega) | rfl) (by first | omega | (simp only; omega) | rfl) (by first | omega | (simp only; omega) | rfl))
        · exact (congrArg₂ (· + ·) (hX' _ _ (by first | omega | (simp only; omega) | rfl)) (readD arg13.view hD (off289_lit k0_t1 k0_t3 _ _ 1 3 (8 * k0_t3.val + 4 + 3) hk1 rfl rfl (by omega) (by omega) rfl) _ _ _)).trans (tileD (by first | omega | (simp only; omega) | rfl) (by first | omega | (simp only; omega) | rfl) (by first | omega | (simp only; omega) | rfl) (by first | omega | (simp only; omega) | rfl))
      · refine pieceO (off302_eq i k0_t1 k0_t3 hk1) fun a b c d e g => ?_
        have hc := c.isLt
        have he := e.isLt
        unfold_payloads
        pointwise
        split
        · exact (hX' _ _ (by first | omega | (simp only; omega) | rfl)).trans (tileNo (by first | omega | (simp only; omega) | rfl) (by first | omega | (simp only; omega) | rfl) (by first | omega | (simp only; omega) | rfl))
        · exact (hX' _ _ (by first | omega | (simp only; omega) | rfl)).trans (tileNo (by first | omega | (simp only; omega) | rfl) (by first | omega | (simp only; omega) | rfl) (by first | omega | (simp only; omega) | rfl))
      · refine pieceO (off301_eq i k0_t1 k0_t3 hk1) fun a b c d e g => ?_
        have hc := c.isLt
        have he := e.isLt
        unfold_payloads
        pointwise
        split
        · exact (hX' _ _ (by first | omega | (simp only; omega) | rfl)).trans (tileNo (by first | omega | (simp only; omega) | rfl) (by first | omega | (simp only; omega) | rfl) (by first | omega | (simp only; omega) | rfl))
        · exact (hX' _ _ (by first | omega | (simp only; omega) | rfl)).trans (tileNo (by first | omega | (simp only; omega) | rfl) (by first | omega | (simp only; omega) | rfl) (by first | omega | (simp only; omega) | rfl))
      · refine pieceO (off300_eq i k0_t1 k0_t3 hk1) fun a b c d e g => ?_
        have hc := c.isLt
        have he := e.isLt
        unfold_payloads
        pointwise
        split
        · exact (hX' _ _ (by first | omega | (simp only; omega) | rfl)).trans (tileNo (by first | omega | (simp only; omega) | rfl) (by first | omega | (simp only; omega) | rfl) (by first | omega | (simp only; omega) | rfl))
        · exact (hX' _ _ (by first | omega | (simp only; omega) | rfl)).trans (tileNo (by first | omega | (simp only; omega) | rfl) (by first | omega | (simp only; omega) | rfl) (by first | omega | (simp only; omega) | rfl))
      · refine pieceO (off299_eq i k0_t1 k0_t3 hk1) fun a b c d e g => ?_
        have hc := c.isLt
        have he := e.isLt
        unfold_payloads
        pointwise
        split
        · exact (congrArg₂ (· + ·) (hX' _ _ (by first | omega | (simp only; omega) | rfl)) (readD arg13.view hD (off289_lit k0_t1 k0_t3 _ _ 1 0 (8 * k0_t3.val + 4 + 0) hk1 rfl rfl (by omega) (by omega) rfl) _ _ _)).trans (tileD (by first | omega | (simp only; omega) | rfl) (by first | omega | (simp only; omega) | rfl) (by first | omega | (simp only; omega) | rfl) (by first | omega | (simp only; omega) | rfl))
        · exact (congrArg₂ (· + ·) (hX' _ _ (by first | omega | (simp only; omega) | rfl)) (readD arg13.view hD (off289_lit k0_t1 k0_t3 _ _ 1 1 (8 * k0_t3.val + 4 + 1) hk1 rfl rfl (by omega) (by omega) rfl) _ _ _)).trans (tileD (by first | omega | (simp only; omega) | rfl) (by first | omega | (simp only; omega) | rfl) (by first | omega | (simp only; omega) | rfl) (by first | omega | (simp only; omega) | rfl))
      · refine pieceO (off298_eq i k0_t1 k0_t3 hk1) fun a b c d e g => ?_
        have hc := c.isLt
        have he := e.isLt
        unfold_payloads
        pointwise
        split
        · exact (hX _ _ (by first | omega | (simp only; omega) | rfl)).trans (tileNo (by first | omega | (simp only; omega) | rfl) (by first | omega | (simp only; omega) | rfl) (by first | omega | (simp only; omega) | rfl))
        · exact (hX _ _ (by first | omega | (simp only; omega) | rfl)).trans (tileNo (by first | omega | (simp only; omega) | rfl) (by first | omega | (simp only; omega) | rfl) (by first | omega | (simp only; omega) | rfl))
      · refine pieceO (off297_eq i k0_t1 k0_t3 hk1) fun a b c d e g => ?_
        have hc := c.isLt
        have he := e.isLt
        unfold_payloads
        pointwise
        split
        · exact (hX _ _ (by first | omega | (simp only; omega) | rfl)).trans (tileNo (by first | omega | (simp only; omega) | rfl) (by first | omega | (simp only; omega) | rfl) (by first | omega | (simp only; omega) | rfl))
        · exact (hX _ _ (by first | omega | (simp only; omega) | rfl)).trans (tileNo (by first | omega | (simp only; omega) | rfl) (by first | omega | (simp only; omega) | rfl) (by first | omega | (simp only; omega) | rfl))
      · refine pieceO (off296_eq i k0_t1 k0_t3 hk1) fun a b c d e g => ?_
        have hc := c.isLt
        have he := e.isLt
        unfold_payloads
        pointwise
        split
        · exact (hX _ _ (by first | omega | (simp only; omega) | rfl)).trans (tileNo (by first | omega | (simp only; omega) | rfl) (by first | omega | (simp only; omega) | rfl) (by first | omega | (simp only; omega) | rfl))
        · exact (hX _ _ (by first | omega | (simp only; omega) | rfl)).trans (tileNo (by first | omega | (simp only; omega) | rfl) (by first | omega | (simp only; omega) | rfl) (by first | omega | (simp only; omega) | rfl))
      · refine pieceO (off295_eq i k0_t1 k0_t3 hk1) fun a b c d e g => ?_
        have hc := c.isLt
        have he := e.isLt
        unfold_payloads
        pointwise
        split
        · exact (congrArg₂ (· + ·) (hX _ _ (by first | omega | (simp only; omega) | rfl)) (readD arg13.view hD (off289_lit k0_t1 k0_t3 _ _ 0 2 (8 * k0_t3.val + 0 + 2) hk1 rfl rfl (by omega) (by omega) rfl) _ _ _)).trans (tileD (by first | omega | (simp only; omega) | rfl) (by first | omega | (simp only; omega) | rfl) (by first | omega | (simp only; omega) | rfl) (by first | omega | (simp only; omega) | rfl))
        · exact (congrArg₂ (· + ·) (hX _ _ (by first | omega | (simp only; omega) | rfl)) (readD arg13.view hD (off289_lit k0_t1 k0_t3 _ _ 0 3 (8 * k0_t3.val + 0 + 3) hk1 rfl rfl (by omega) (by omega) rfl) _ _ _)).trans (tileD (by first | omega | (simp only; omega) | rfl) (by first | omega | (simp only; omega) | rfl) (by first | omega | (simp only; omega) | rfl) (by first | omega | (simp only; omega) | rfl))
      · refine pieceO (off294_eq i k0_t1 k0_t3 hk1) fun a b c d e g => ?_
        have hc := c.isLt
        have he := e.isLt
        unfold_payloads
        pointwise
        split
        · exact (hX _ _ (by first | omega | (simp only; omega) | rfl)).trans (tileNo (by first | omega | (simp only; omega) | rfl) (by first | omega | (simp only; omega) | rfl) (by first | omega | (simp only; omega) | rfl))
        · exact (hX _ _ (by first | omega | (simp only; omega) | rfl)).trans (tileNo (by first | omega | (simp only; omega) | rfl) (by first | omega | (simp only; omega) | rfl) (by first | omega | (simp only; omega) | rfl))
      · refine pieceO (off293_eq i k0_t1 k0_t3 hk1) fun a b c d e g => ?_
        have hc := c.isLt
        have he := e.isLt
        unfold_payloads
        pointwise
        split
        · exact (hX _ _ (by first | omega | (simp only; omega) | rfl)).trans (tileNo (by first | omega | (simp only; omega) | rfl) (by first | omega | (simp only; omega) | rfl) (by first | omega | (simp only; omega) | rfl))
        · exact (hX _ _ (by first | omega | (simp only; omega) | rfl)).trans (tileNo (by first | omega | (simp only; omega) | rfl) (by first | omega | (simp only; omega) | rfl) (by first | omega | (simp only; omega) | rfl))
      · refine pieceO (off292_eq i k0_t1 k0_t3 hk1) fun a b c d e g => ?_
        have hc := c.isLt
        have he := e.isLt
        unfold_payloads
        pointwise
        split
        · exact (hX _ _ (by first | omega | (simp only; omega) | rfl)).trans (tileNo (by first | omega | (simp only; omega) | rfl) (by first | omega | (simp only; omega) | rfl) (by first | omega | (simp only; omega) | rfl))
        · exact (hX _ _ (by first | omega | (simp only; omega) | rfl)).trans (tileNo (by first | omega | (simp only; omega) | rfl) (by first | omega | (simp only; omega) | rfl) (by first | omega | (simp only; omega) | rfl))
      · refine pieceO (off291_eq i k0_t1 k0_t3 hk1) fun a b c d e g => ?_
        have hc := c.isLt
        have he := e.isLt
        unfold_payloads
        pointwise
        split
        · exact (congrArg₂ (· + ·) (hX _ _ (by first | omega | (simp only; omega) | rfl)) (readD arg13.view hD (off289_lit k0_t1 k0_t3 _ _ 0 0 (8 * k0_t3.val + 0 + 0) hk1 rfl rfl (by omega) (by omega) rfl) _ _ _)).trans (tileD (by first | omega | (simp only; omega) | rfl) (by first | omega | (simp only; omega) | rfl) (by first | omega | (simp only; omega) | rfl) (by first | omega | (simp only; omega) | rfl))
        · exact (congrArg₂ (· + ·) (hX _ _ (by first | omega | (simp only; omega) | rfl)) (readD arg13.view hD (off289_lit k0_t1 k0_t3 _ _ 0 1 (8 * k0_t3.val + 0 + 1) hk1 rfl rfl (by omega) (by omega) rfl) _ _ _)).trans (tileD (by first | omega | (simp only; omega) | rfl) (by first | omega | (simp only; omega) | rfl) (by first | omega | (simp only; omega) | rfl) (by first | omega | (simp only; omega) | rfl))) (by
      clear hfo
      simp only [List.map_cons, List.map_nil]
      show [(k0_off306 i k0_t1 k0_t3 2, 3, k0_off306 i k0_t1 k0_t3 4), (k0_off305 i k0_t1 k0_t3 2, 8, k0_off305 i k0_t1 k0_t3 4), (k0_off304 i k0_t1 k0_t3 2, 8, k0_off304 i k0_t1 k0_t3 4), (k0_off303 i k0_t1 k0_t3 2, 8, k0_off303 i k0_t1 k0_t3 4), (k0_off302 i k0_t1 k0_t3 2, 3, k0_off302 i k0_t1 k0_t3 4), (k0_off301 i k0_t1 k0_t3 2, 8, k0_off301 i k0_t1 k0_t3 4), (k0_off300 i k0_t1 k0_t3 2, 8, k0_off300 i k0_t1 k0_t3 4), (k0_off299 i k0_t1 k0_t3 2, 8, k0_off299 i k0_t1 k0_t3 4), (k0_off298 i k0_t1 k0_t3 2, 3, k0_off298 i k0_t1 k0_t3 4), (k0_off297 i k0_t1 k0_t3 2, 8, k0_off297 i k0_t1 k0_t3 4), (k0_off296 i k0_t1 k0_t3 2, 8, k0_off296 i k0_t1 k0_t3 4), (k0_off295 i k0_t1 k0_t3 2, 8, k0_off295 i k0_t1 k0_t3 4), (k0_off294 i k0_t1 k0_t3 2, 3, k0_off294 i k0_t1 k0_t3 4), (k0_off293 i k0_t1 k0_t3 2, 8, k0_off293 i k0_t1 k0_t3 4), (k0_off292 i k0_t1 k0_t3 2, 8, k0_off292 i k0_t1 k0_t3 4), (k0_off291 i k0_t1 k0_t3 2, 8, k0_off291 i k0_t1 k0_t3 4)] = _
      rw [off306_eq i k0_t1 k0_t3 hk1, off305_eq i k0_t1 k0_t3 hk1, off304_eq i k0_t1 k0_t3 hk1, off303_eq i k0_t1 k0_t3 hk1, off302_eq i k0_t1 k0_t3 hk1, off301_eq i k0_t1 k0_t3 hk1, off300_eq i k0_t1 k0_t3 hk1, off299_eq i k0_t1 k0_t3 hk1, off298_eq i k0_t1 k0_t3 hk1, off297_eq i k0_t1 k0_t3 hk1, off296_eq i k0_t1 k0_t3 hk1, off295_eq i k0_t1 k0_t3 hk1, off294_eq i k0_t1 k0_t3 hk1, off293_eq i k0_t1 k0_t3 hk1, off292_eq i k0_t1 k0_t3 hk1, off291_eq i k0_t1 k0_t3 hk1]
      rfl)
    clear hfo hX hX'
    subst hEf
    have hT' := tileOK_succ hfo0 hl16 hT
    clear hT
    sl_step
    isplitl [HE]; · iexact HE
    isplitl [HO]
    · iexists fo'
      isplitr; · ipureintro; exact hT'
      iexact HO
    isplitl [HL]; · iexact HL
    iexact HD

end Cert.Proof.KernelIdeal

end
-- ==== Proof.KV.T2.lean ====
module

public import proofs.«01_k».proof.Proof.KV.Trans
public import proofs.«01_k».proof.Proof.Gen.KernelIdeal.Loops
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Ring.WriteBehind
public import Idealize.ShloMosaic.Lib.Tactic
public import Idealize.ShloMosaic.Lib.WordCmp

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (Pipeline.UD sig nD τ) ℕ

/-- What the transposed array of buffer `buf` holds after `n` rounds, the other buffer as it was. -/
def TransOK {sig' : RefSig} {κ : Kind} {sp : Space} (v : View sig' κ sp S2x2560x2x128 .bf16) (P : ℕ → ℕ → EReal) (buf n : ℕ) (f0 f : v.ty.Contents (Elt Ideal)) : Prop :=
  (∀ y : S2x2560x2x128.Idx, (y 0).val = buf → (y 1).val % 20 < n → v.read (Elt Ideal) f y = Lg P (y 1).val (y 2).val (y 3).val)
    ∧ (∀ y : S2x2560x2x128.Idx, (y 0).val ≠ buf → v.read (Elt Ideal) f y = v.read (Elt Ideal) f0 y)

set_option maxHeartbeats 4000000 in
set_option warn.classDefReducibility false in
/-- The rounds transpose the products of one chunk. -/
noncomputable def transInv (c : Dev nD) (i : grid0.Coords) (arg1 : Memref sig .tc .vmem S2x351x256 .fp8e5m2) (harg1 : arg1.IsWhole) (arg2 : Memref sig .tc .vmem S26x2x256 .f32) (harg2 : arg2.IsWhole) (arg3 : Memref sig .tc .vmem S27x2x256 .f32) (harg3 : arg3.IsWhole) (arg4 : Memref sig .tc .vmem S2x256x128 .bf16) (harg4 : arg4.IsWhole) (arg5 : Memref sig .tc .hbm S2x27x16384x128 .fp8e4m3) (harg5 : arg5.IsWhole) (arg6 : Memref sig .tc .hbm S2x27x2048x8x128 .bf16) (harg6 : arg6.IsWhole) (arg7 : Memref sig .tc .vmem S3x2x32x288x128 .fp8e4m3) (harg7 : arg7.IsWhole) (arg8 : Memref sig .tc .vmem S3x2x27x33x8x128 .bf16) (harg8 : arg8.IsWhole) (arg9 : Memref sig .tc .vmem S2x352x128 .f32) (harg9 : arg9.IsWhole) (arg10 : Memref sig .tc .vmem S2x2x32x128 .f32) (harg10 : arg10.IsWhole) (arg11 : Memref sig .tc .vmem S2x1008x128 .f32) (harg11 : arg11.IsWhole) (arg12 : Memref sig .tc .vmem S2x2560x2x128 .bf16) (harg12 : arg12.IsWhole) (arg13 : Memref sig .tc .vmem S2x1152x128 .f32) (harg13 : arg13.IsWhole) (arg14 : DmaSems sig S3) (arg15 : DmaSems sig S3) (v16 : IVec S8x128 1) (v40 : IVec S8x128 32) (k0_t1 : Fin k0_t1_loop.trips) (k0_h5 : k0_cond5 k0_t1 = 1#1) (v61 : BitVec 32) (v63 : BitVec 32) (v65 : BitVec 32) (v1381 : FVec Ideal S8x128 .f32) (v1386 : FVec Ideal S8x128 .f32) (v1439 : FVec Ideal S8x128 .f32)
    (h16 : MaskOK v16) (h40 : QuadOK v40) (P : ℕ → ℕ → EReal) (fu : Buf (Elt Ideal) (arg11.view.loc (c : Thread nD τ)))
    (hu : ∀ y : S2x1008x128.Idx, (y 0).val = k0_t1.val % 2 → arg11.view.read (Elt Ideal) fu y = P (y 1).val (y 2).val) (fl0 : Buf (Elt Ideal) (arg12.view.loc (c : Thread nD τ))) :
    LoopInvTy_k0_t2 (F := Ideal) Unit ℕ (Pipeline.UD sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 arg15 v16 v40 k0_t1 k0_h5 v61 v63 v65 v1381 v1386 v1439 where
  inv := fun n _ => iprop((arg11.view.loc (c : Thread nD τ) ↦[arg11.view.set]{fullShare} fu)
    ∗ (∃ f, ⌜TransOK arg12.view P (k0_t1.val % 2) n fl0 f⌝ ∗ arg12.view.loc (c : Thread nD τ) ↦[arg12.view.set]{fullShare} f))
  step := fun k0_t2 acc => by
    unfold k0_t2_body
    iintro ⟨HU, ⟨%fl, %hfl0, HL⟩⟩
    sl_exec
    ihave HX := (pt_name arg12 c _ _) $$ HL
    icases HX with ⟨%fl', %hfl, HL⟩
    have hp := transL (v := arg12.view) (f := fl) (fl := fl') (P := P) (buf := k0_t1.val % 2) (m := k0_t2.val) hfl (by
      clear hfl
      sl_unfold_run_names
      repeat' (first | exact List.forall_mem_nil _ | refine List.forall_mem_cons.mpr ⟨?_, ?_⟩)
      all_goals
        refine pieceL _ rfl (by decide) fun a b p d => ?_
        unfold_payloads
        pointwise
        split
        · rename_i hpp
          have hp0 : p.val = 0 := by omega
          refine (transVal h16 h40 _ _ _ _ (fun j l => P (36 * (2 * k0_t2.val + 0) + j) l)
            (fun b l => (readU _ hu (off264_at _ _ _ _ (by decide) rfl (by decide)) _ _ _).trans (by simp [Nat.add_assoc]))
            (fun b l => (readU _ hu (off264_at _ _ _ _ (by decide) rfl (by decide)) _ _ _).trans (by simp [Nat.add_assoc]))
            (fun b l => (readU _ hu (off264_at _ _ _ _ (by decide) rfl (by decide)) _ _ _).trans (by simp [Nat.add_assoc]))
            (fun b l => (readU _ hu (off264_at _ _ _ _ (by decide) rfl (by decide)) _ _ _).trans (by simp [Nat.add_assoc])) _ _ _).trans ?_
          rw [hp0]
          first | done | simp
        · rename_i hpp
          have hp0 : p.val = 1 := by omega
          refine (transVal h16 h40 _ _ _ _ (fun j l => P (36 * (2 * k0_t2.val + 1) + j) l)
            (fun b l => (readU _ hu (off264_at _ _ _ _ (by decide) rfl (by decide)) _ _ _).trans (by simp [Nat.add_assoc]))
            (fun b l => (readU _ hu (off264_at _ _ _ _ (by decide) rfl (by decide)) _ _ _).trans (by simp [Nat.add_assoc]))
            (fun b l => (readU _ hu (off264_at _ _ _ _ (by decide) rfl (by decide)) _ _ _).trans (by simp [Nat.add_assoc]))
            (fun b l => (readU _ hu (off264_at _ _ _ _ (by decide) rfl (by decide)) _ _ _).trans (by simp [Nat.add_assoc])) _ _ _).trans ?_
          rw [hp0]
          first | done | simp) ?_ k0_t2.isLt hfl0.1
    · have hp' := And.intro hp.1 fun y hy => (hp.2 y hy).trans (hfl0.2 y hy)
      clear hp hfl
      sl_step
      isplitl [HU]; · iexact HU
      iexists fl'
      isplitr; · ipureintro; exact hp'
      iexact HL
    · clear hfl
      simp only [List.map_cons, List.map_nil]
      repeat' (first | refine congrArg₂ List.cons ((congrFun (off265_at _ _ _ (by decide) (by decide)) 1).trans ?_) ?_ | rfl)

end Cert.Proof.KernelIdeal

end
-- ==== Proof.KV.Chunk.lean ====
/- One chunk of a grid point as numbers: what its inputs are, what its dense stores leave, and what its tiles hold. -/
module

public import proofs.«01_k».proof.Proof.KV.T3
public import proofs.«01_k».proof.Proof.KV.T2
public import proofs.«01_k».proof.Proof.KI.Mem

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic

/-- An array of rank four at coordinates given as numbers. -/
def rd4 {n0 n1 n2 n3 : ℕ} (g : (⟨4, ![n0, n1, n2, n3]⟩ : Shape).Idx → EReal) (a b c d : ℕ) : EReal :=
  if h : a < n0 ∧ b < n1 ∧ c < n2 ∧ d < n3 then g (ix4 ⟨a, h.1⟩ ⟨b, h.2.1⟩ ⟨c, h.2.2.1⟩ ⟨d, h.2.2.2⟩) else 0
theorem rd4_eq {n0 n1 n2 n3 : ℕ} (g : (⟨4, ![n0, n1, n2, n3]⟩ : Shape).Idx → EReal) (x : (⟨4, ![n0, n1, n2, n3]⟩ : Shape).Idx) :
    g x = rd4 g (x 0).val (x 1).val (x 2).val (x 3).val := by
  rw [rd4, dif_pos ⟨(x 0).isLt, (x 1).isLt, (x 2).isLt, (x 3).isLt⟩]
  exact congrArg g (eq_ix4 x)

/-- The pair gradients of chunk `q`. -/
def Zq (g : S2x351x256.Idx → EReal) (q p l : ℕ) : EReal := rd3 g (q / 2) p (128 * (q % 2) + l)
/-- One plane of scales of chunk `q`. -/
def Sq {n : ℕ} (g : (⟨3, ![n, 2, 256]⟩ : Shape).Idx → EReal) (q p l : ℕ) : EReal := rd3 g p (q / 2) (128 * (q % 2) + l)
/-- The products of chunk `q`. -/
def Pq (g1 : S2x351x256.Idx → EReal) (g2 : S26x2x256.Idx → EReal) (g3 : S27x2x256.Idx → EReal) (q : ℕ) : ℕ → ℕ → EReal := Ug (Zq g1 q) (Sq g2 q) (Sq g3 q)
/-- The dense part of chunk `q`. -/
def Dq (g : S2x256x128.Idx → EReal) (q s d : ℕ) : EReal := rd3 g (q / 2) (128 * (q % 2) + s) d
/-- The embeddings of chunk `q`. -/
def Eq' (g : S2x27x256x128.Idx → EReal) (q j s d : ℕ) : EReal := rd4 g (q / 2) j (128 * (q % 2) + s) d
/-- The results of chunk `q`. -/
def Oq (g1 : S2x351x256.Idx → EReal) (g2 : S26x2x256.Idx → EReal) (g3 : S27x2x256.Idx → EReal) (g4 : S2x256x128.Idx → EReal) (gE : S2x27x256x128.Idx → EReal) (q : ℕ) : ℕ → ℕ → ℕ → EReal :=
  Ov (Pq g1 g2 g3 q) (Eq' gE q) (Dq g4 q)

theorem unit3 {n0 n1 n2 m0 m1 m2 : ℕ} (g : (⟨3, ![n0, n1, n2]⟩ : Shape).Idx → EReal) {off : Fin 3 → ℕ} {inb} (a : Fin m0) (b : Fin m1) (d : Fin m2) :
    g ((Rect.unit (s := ⟨3, ![n0, n1, n2]⟩) off ![m0, m1, m2] inb).toLoadRect.idx (ix3 a b d)) = rd3 g (off 0 + a.val) (off 1 + b.val) (off 2 + d.val) := by
  rw [rd3_eq g]
  show rd3 g (off 0 + 1 * a.val) (off 1 + 1 * b.val) (off 2 + 1 * d.val) = _
  simp only [Nat.one_mul]

section Loads
variable {sig' : RefSig} {κ : Kind} {sp : Space}

theorem zok {v : View sig' κ sp S2x351x256 .fp8e5m2} {f : v.ty.Contents (Elt Ideal)} {o0 o : Fin 3 → ℕ} {i0 i} {k : ℕ} (h0 : o0 = ![k % 2, 0, 0]) (h : o = ![k / 2, 0, 128 * (k % 2)]) :
    ZOK [⟨Rect.unit (s := S2x352x128) o0 S1x351x128.size i0, k0_pay114 (F := Ideal) (v.readAt (Elt Ideal) (Rect.unit (s := S2x351x256) o S1x351x128.size i).toLoadRect f)⟩] (k % 2) (Zq (v.read (Elt Ideal) f) k) := by
  subst h0; subst h
  intro y y0 y1
  have e : (Rect.unit (s := S2x352x128) ![k % 2, 0, 0] S1x351x128.size i0).emb (ix3 (0 : Fin 1) (⟨(y 1).val, y1⟩ : Fin 351) (⟨(y 2).val, (y 2).isLt⟩ : Fin 128)) = y := by
    funext a; refine Fin.ext ?_
    fin_cases a
    · show k % 2 + 1 * 0 = (y 0).val; omega
    · show 0 + 1 * (y 1).val = (y 1).val; omega
    · show 0 + 1 * (y 2).val = (y 2).val; omega
  refine (congrArg _ e.symm).trans ((View.canon_cons_emb _ _ _ _).trans ?_)
  unfold_payloads
  pointwise
  refine (unit3 (v.read (Elt Ideal) f) _ _ _).trans ?_
  show rd3 _ (k / 2 + 0) (0 + (y 1).val) (128 * (k % 2) + (y 2).val) = _
  rw [Nat.add_zero, Nat.zero_add]; rfl

theorem sokAux {oE oS : Fin 4 → ℕ} {iE iS} {k : ℕ} {S E : ℕ → ℕ → EReal} (hE : oE = ![k % 2, 1, 0, 0]) (hS : oS = ![k % 2, 0, 0, 0])
    (wE : (⟨4, ![1, 1, 27, 128]⟩ : Shape).Idx → Elt Ideal .f32) (wS : (⟨4, ![1, 1, 26, 128]⟩ : Shape).Idx → Elt Ideal .f32)
    (hwE : ∀ (a a' : Fin 1) (b : Fin 27) (d : Fin 128), wE (ix4 a a' b d) = E b.val d.val) (hwS : ∀ (a a' : Fin 1) (b : Fin 26) (d : Fin 128), wS (ix4 a a' b d) = S b.val d.val) :
    SOK [⟨Rect.unit (s := S2x2x32x128) oE ![1, 1, 27, 128] iE, wE⟩, ⟨Rect.unit (s := S2x2x32x128) oS ![1, 1, 26, 128] iS, wS⟩] (k % 2) S E := by
  subst hE; subst hS
  constructor
  · intro y y0 y1 y2
    have hne : y ∉ (⟨Rect.unit (s := S2x2x32x128) ![k % 2, 1, 0, 0] ![1, 1, 27, 128] iE, wE⟩ : View.Piece (Elt Ideal) S2x2x32x128 .f32).1.set := fun hm => by
      have := ((Rect.mem_set_unit (s := S2x2x32x128) (off := ![k % 2, 1, 0, 0]) (size := ![1, 1, 27, 128]) (inb := iE)).mp hm 1).1
      have : 1 ≤ (y 1).val := this
      omega
    have e : (Rect.unit (s := S2x2x32x128) ![k % 2, 0, 0, 0] ![1, 1, 26, 128] iS).emb (ix4 (0 : Fin 1) (0 : Fin 1) (⟨(y 2).val, y2⟩ : Fin 26) (⟨(y 3).val, (y 3).isLt⟩ : Fin 128)) = y := by
      funext a; refine Fin.ext ?_
      fin_cases a
      · show k % 2 + 1 * 0 = (y 0).val; omega
      · show 0 + 1 * 0 = (y 1).val; omega
      · show 0 + 1 * (y 2).val = (y 2).val; omega
      · show 0 + 1 * (y 3).val = (y 3).val; omega
    rw [View.canon_cons_of_not_mem _ _ hne]
    exact (congrArg _ e.symm).trans ((View.canon_cons_emb _ _ _ _).trans (hwS _ _ _ _))
  · intro y y0 y1 y2
    have e : (Rect.unit (s := S2x2x32x128) ![k % 2, 1, 0, 0] ![1, 1, 27, 128] iE).emb (ix4 (0 : Fin 1) (0 : Fin 1) (⟨(y 2).val, y2⟩ : Fin 27) (⟨(y 3).val, (y 3).isLt⟩ : Fin 128)) = y := by
      funext a; refine Fin.ext ?_
      fin_cases a
      · show k % 2 + 1 * 0 = (y 0).val; omega
      · show 1 + 1 * 0 = (y 1).val; omega
      · show 0 + 1 * (y 2).val = (y 2).val; omega
      · show 0 + 1 * (y 3).val = (y 3).val; omega
    exact (congrArg _ e.symm).trans ((View.canon_cons_emb _ _ _ _).trans (hwE _ _ _ _))

theorem sok {v2 : View sig' κ sp S26x2x256 .f32} {f2 : v2.ty.Contents (Elt Ideal)} {v3 : View sig' κ sp S27x2x256 .f32} {f3 : v3.ty.Contents (Elt Ideal)}
    {oE oS : Fin 4 → ℕ} {o2 o3 : Fin 3 → ℕ} {iE iS i2 i3} {k : ℕ} (hE : oE = ![k % 2, 1, 0, 0]) (hS : oS = ![k % 2, 0, 0, 0]) (h2 : o2 = ![0, k / 2, 128 * (k % 2)]) (h3 : o3 = ![0, k / 2, 128 * (k % 2)]) :
    SOK [⟨Rect.unit (s := S2x2x32x128) oE S1x1x27x128.size iE, k0_pay116 (F := Ideal) (v3.readAt (Elt Ideal) (Rect.unit (s := S27x2x256) o3 S27x1x128.size i3).toLoadRect f3)⟩,
      ⟨Rect.unit (s := S2x2x32x128) oS S1x1x26x128.size iS, k0_pay115 (F := Ideal) (v2.readAt (Elt Ideal) (Rect.unit (s := S26x2x256) o2 S26x1x128.size i2).toLoadRect f2)⟩]
      (k % 2) (Sq (v2.read (Elt Ideal) f2) k) (Sq (v3.read (Elt Ideal) f3) k) := by
  refine sokAux hE hS _ _ ?_ ?_
  · subst h3
    intro a a' b d
    unfold_payloads
    pointwise
    refine (unit3 (v3.read (Elt Ideal) f3) _ _ _).trans ?_
    show rd3 _ (0 + b.val) (k / 2 + 0) (128 * (k % 2) + d.val) = _
    rw [Nat.add_zero, Nat.zero_add]; rfl
  · subst h2
    intro a a' b d
    unfold_payloads
    pointwise
    refine (unit3 (v2.read (Elt Ideal) f2) _ _ _).trans ?_
    show rd3 _ (0 + b.val) (k / 2 + 0) (128 * (k % 2) + d.val) = _
    rw [Nat.add_zero, Nat.zero_add]; rfl

theorem readDd {v : View sig' κ sp S2x256x128 .bf16} {f : v.ty.Contents (Elt Ideal)} {o : Fin 3 → ℕ} {inb} {k : ℕ} (h : o = ![k / 2, 128 * (k % 2), 0]) (a : Fin 1) (b d : Fin 128) :
    v.readAt (Elt Ideal) (Rect.unit (s := S2x256x128) o S1x128x128.size inb).toLoadRect f (ix3 a b d) = Dq (v.read (Elt Ideal) f) k b.val d.val := by
  subst h
  refine (unit3 (v.read (Elt Ideal) f) _ _ _).trans ?_
  show rd3 _ (k / 2 + a.val) (128 * (k % 2) + b.val) (0 + d.val) = _
  rw [show a.val = 0 by omega, Nat.add_zero, Nat.zero_add]; rfl

/-- One store of the dense part: eight rows of buffer `buf`, nine apart. -/
def PieceD (D : ℕ → ℕ → EReal) (buf : ℕ) (p : View.Piece (Elt Ideal) S2x1152x128 .f32) : Prop :=
  p.1.off 0 = buf ∧ p.1.off 2 = 0 ∧ p.1.stride 2 = 1 ∧ p.1.stride 1 = 9 ∧ p.1.size 0 = 1 ∧ p.1.size 2 = 128 ∧ p.1.off 1 % 9 = 0
    ∧ ∀ x : p.1.shape.Idx, p.2 x = D (p.1.off 1 / 9 + (x 1).val) (x 2).val

theorem pieceD {D : ℕ → ℕ → EReal} {buf : ℕ} {off : Fin 3 → ℕ} {inb pos} {w : (⟨3, ![1, 8, 128]⟩ : Shape).Idx → Elt Ideal .f32} (m : ℕ) (ho : off = ![buf, 72 * m, 0])
    (hw : ∀ a b d, w (ix3 a b d) = D (8 * m + b.val) d.val) :
    PieceD D buf ⟨{ off := off, size := ![1, 8, 128], stride := ![1, 9, 1], inb := inb, stride_pos := pos }, w⟩ := by
  subst ho
  refine ⟨rfl, rfl, rfl, rfl, rfl, rfl, ?_, forall_ix3' fun a b d => (hw a b d).trans ?_⟩
  · show 72 * m % 9 = 0; omega
  · show _ = D (72 * m / 9 + b.val) d.val
    rw [show 72 * m / 9 = 8 * m by omega]

/-- The rows between the dense part's are zero. -/
def DZ (g : S2x1152x128.Idx → Elt Ideal .f32) : Prop := ∀ y : S2x1152x128.Idx, (y 1).val % 9 ≠ 0 → g y = (0 : EReal)

theorem prepD {v : View sig' κ sp S2x1152x128 .f32} {f fd : v.ty.Contents (Elt Ideal)} {L : List (View.Piece (Elt Ideal) S2x1152x128 .f32)}
    {D : ℕ → ℕ → EReal} {buf : ℕ} (h : fd = v.writes (Elt Ideal) f L) (hp : ∀ p ∈ L, PieceD D buf p)
    (hs : L.map (fun p => (p.1.off 1, p.1.size 1)) = (List.range 16).reverse.map fun m => (72 * m, 8)) (hz : DZ (v.read (Elt Ideal) f)) :
    DZ (v.read (Elt Ideal) fd) ∧ (∀ y : S2x1152x128.Idx, (y 0).val = buf → v.read (Elt Ideal) fd y = if (y 1).val % 9 = 0 then D ((y 1).val / 9) (y 2).val else 0)
      ∧ ∀ y : S2x1152x128.Idx, (y 0).val ≠ buf → v.read (Elt Ideal) fd y = v.read (Elt Ideal) f y := by
  subst h
  have hG : ∀ p ∈ L, ∀ x : p.1.shape.Idx, p.2 x = (fun y : S2x1152x128.Idx => if (y 1).val % 9 = 0 then D ((y 1).val / 9) (y 2).val else 0) (p.1.emb x) := by
    intro p hm x
    obtain ⟨h0, h2, h3, h4, h5, h6, h7, h8⟩ := hp p hm
    rw [h8 x]
    show _ = if (p.1.off 1 + p.1.stride 1 * (x 1).val) % 9 = 0 then D ((p.1.off 1 + p.1.stride 1 * (x 1).val) / 9) (p.1.off 2 + p.1.stride 2 * (x 2).val) else 0
    rw [h2, h3, h4, if_pos (by omega), Nat.one_mul, Nat.zero_add, show (p.1.off 1 + 9 * (x 1).val) / 9 = p.1.off 1 / 9 + (x 1).val by omega]
  have hin : ∀ y : S2x1152x128.Idx, (∃ p ∈ L, y ∈ p.1.set) → v.read (Elt Ideal) (v.writes (Elt Ideal) f L) y = if (y 1).val % 9 = 0 then D ((y 1).val / 9) (y 2).val else 0 :=
    fun y hy => View.read_writes_apply_of_pieces v f (fun y : S2x1152x128.Idx => if (y 1).val % 9 = 0 then D ((y 1).val / 9) (y 2).val else 0) L hG y hy
  have hz' : DZ (v.read (Elt Ideal) (v.writes (Elt Ideal) f L)) := by
    intro y hy
    by_cases hc : ∃ p ∈ L, y ∈ p.1.set
    · rw [hin y hc, if_neg hy]
    · rw [View.read_writes_apply_of_forall_not_mem v f y L fun p hm hy' => hc ⟨p, hm, hy'⟩]; exact hz y hy
  refine ⟨hz', fun y h0 => ?_, fun y h0 => ?_⟩
  · by_cases hr : (y 1).val % 9 = 0
    · refine hin y ?_
      have y1 : (y 1).val < 1152 := (y 1).isLt
      have hm : (72 * ((y 1).val / 72), 8) ∈ L.map (fun p => (p.1.off 1, p.1.size 1)) := by
        rw [hs]
        exact List.mem_map.mpr ⟨(y 1).val / 72, List.mem_reverse.mpr (List.mem_range.mpr (by omega)), rfl⟩
      obtain ⟨p, hpm, he⟩ := List.mem_map.mp hm
      have he1 : p.1.off 1 = 72 * ((y 1).val / 72) := congrArg Prod.fst he
      have he2 : p.1.size 1 = 8 := congrArg Prod.snd he
      obtain ⟨g0, g2, g3, g4, g5, g6, g7, g8⟩ := hp p hpm
      refine ⟨p, hpm, p.1.mem_set.mpr fun a => ?_⟩
      fin_cases a
      · exact ⟨0, by show 0 < p.1.size 0; omega, by show (y 0).val = p.1.off 0 + p.1.stride 0 * 0; omega⟩
      · exact ⟨(y 1).val % 72 / 9, by show _ < p.1.size 1; omega, by show (y 1).val = p.1.off 1 + p.1.stride 1 * _; rw [g4]; omega⟩
      · exact ⟨(y 2).val, by show (y 2).val < p.1.size 2; rw [g6]; exact (y 2).isLt, by show (y 2).val = p.1.off 2 + p.1.stride 2 * (y 2).val; rw [g2, g3]; omega⟩
    · rw [hz' y hr, if_neg hr]
  · refine View.read_writes_apply_of_forall_not_mem v f y L fun p hm hy => h0 ?_
    obtain ⟨g0, g2, g3, g4, g5, g6, g7, g8⟩ := hp p hm
    obtain ⟨j, hj, e⟩ := p.1.mem_set.mp hy 0
    have hj' : j < p.1.size 0 := hj
    rw [g5] at hj'
    have e' : (y 0).val = p.1.off 0 + p.1.stride 0 * j := e
    rw [e', g0, show j = 0 by omega, Nat.mul_zero, Nat.add_zero]
end Loads

section Tile
variable (arg7 : Memref sig .tc .vmem S3x2x32x288x128 .fp8e4m3) (arg8 : Memref sig .tc .vmem S3x2x27x33x8x128 .bf16)

/-- The box of a slot reads the slot. -/
theorem eBox_read (s : Fin 3) (f : arg7.view.ty.Contents (Elt Ideal)) (x : S2x27x256x128.Idx) :
    (eBox arg7 s).view.read (Elt Ideal) f x = rd5 (arg7.view.read (Elt Ideal) f) s.val (x 0).val (x 1).val (x 2).val (x 3).val := by
  have e2 : (Shape.reshapeEquiv squeezes_S1x2x27x256x128_S2x27x256x128.numel_eq x : (⟨5, ![1, 2, 27, 256, 128]⟩ : Shape).Idx) = ix5 0 (x 0) (x 1) (x 2) (x 3) := by
    rw [eq_ix4 x]
    simp only [pointwise]
  show arg7.view.read (Elt Ideal) f ((Rect.unit (s := S3x2x32x288x128) ![s.val, 0, 0, 0, 0] S1x2x27x256x128.size (inb_eBox s)).emb (Shape.reshapeEquiv squeezes_S1x2x27x256x128_S2x27x256x128.numel_eq x)) = _
  refine (congrArg (fun q => arg7.view.read (Elt Ideal) f ((Rect.unit (s := S3x2x32x288x128) ![s.val, 0, 0, 0, 0] S1x2x27x256x128.size (inb_eBox s)).emb q)) e2).trans ?_
  refine (rd5_eq (arg7.view.read (Elt Ideal) f) _).trans ?_
  show rd5 (arg7.view.read (Elt Ideal) f) (s.val + 1 * 0) (0 + 1 * (x 0).val) (0 + 1 * (x 1).val) (0 + 1 * (x 2).val) (0 + 1 * (x 3).val) = _
  simp only [Nat.one_mul, Nat.zero_add, Nat.mul_zero, Nat.add_zero]

/-- The index of a slot's tile in the ring. -/
def oIx (s : Fin 3) (x : S2x27x32x8x128.Idx) : S3x2x27x33x8x128.Idx :=
  (Rect.unit (s := S3x2x27x33x8x128) ![s.val, 0, 0, 0, 0, 0] S1x2x27x32x8x128.size (inb_oTile s)).emb (ix6 (n0 := 1) 0 (x 0) (x 1) (x 2) (x 3) (x 4))

theorem oTile_read (s : Fin 3) (f : arg8.view.ty.Contents (Elt Ideal)) (x : S2x27x32x8x128.Idx) :
    (oTile arg8 s).view.read (Elt Ideal) f x = arg8.view.read (Elt Ideal) f (oIx s x) := by
  have e2 : (Shape.reshapeEquiv squeezes_S1x2x27x32x8x128_S2x27x32x8x128.numel_eq x : (⟨6, ![1, 2, 27, 32, 8, 128]⟩ : Shape).Idx) = ix6 0 (x 0) (x 1) (x 2) (x 3) (x 4) := by
    rw [eq_ix5 x]
    simp only [pointwise]
  exact congrArg (fun q => arg8.view.read (Elt Ideal) f ((Rect.unit (s := S3x2x27x33x8x128) ![s.val, 0, 0, 0, 0, 0] S1x2x27x32x8x128.size (inb_oTile s)).emb q)) e2

/-- The first `m` chunks' tiles hold their results. -/
def TilesOK (g1 : S2x351x256.Idx → EReal) (g2 : S26x2x256.Idx → EReal) (g3 : S27x2x256.Idx → EReal) (g4 : S2x256x128.Idx → EReal) (gE : S2x27x256x128.Idx → EReal) (m : ℕ) (r : S2x27x32x8x128.Idx → Elt Ideal .bf16) : Prop :=
  ∀ y : S2x27x32x8x128.Idx, 2 * (y 0).val + (y 2).val / 16 < m → r y = Oq g1 g2 g3 g4 gE (2 * (y 0).val + (y 2).val / 16) (y 1).val (8 * ((y 2).val % 16) + (y 3).val) (y 4).val

theorem tilesOK_succ {g1 : S2x351x256.Idx → EReal} {g2 : S26x2x256.Idx → EReal} {g3 : S27x2x256.Idx → EReal} {g4 : S2x256x128.Idx → EReal} {gE : S2x27x256x128.Idx → EReal} {q : ℕ}
    {s : Fin 3} {f0 f : arg8.view.ty.Contents (Elt Ideal)} {O : ℕ → ℕ → ℕ → EReal} {slot : ℕ} (hs : s.val = slot)
    (h : TilesOK g1 g2 g3 g4 gE q ((oTile arg8 s).view.read (Elt Ideal) f0)) (ht : TileOK arg8.view O slot q 16 f0 f)
    (hO : ∀ i a d, i < 27 → a < 128 → O i a d = Oq g1 g2 g3 g4 gE q i a d) : TilesOK g1 g2 g3 g4 gE (q + 1) ((oTile arg8 s).view.read (Elt Ideal) f) := by
  subst hs
  intro y hy
  have x0 : (oIx s y 0).val = s.val + 1 * 0 := rfl
  have x1 : (oIx s y 1).val = 0 + 1 * (y 0).val := rfl
  have x2 : (oIx s y 2).val = 0 + 1 * (y 1).val := rfl
  have x3 : (oIx s y 3).val = 0 + 1 * (y 2).val := rfl
  have x4 : (oIx s y 4).val = 0 + 1 * (y 3).val := rfl
  have x5 : (oIx s y 5).val = 0 + 1 * (y 4).val := rfl
  have y1 : (y 1).val < 27 := (y 1).isLt
  have y2 : (y 2).val < 32 := (y 2).isLt
  have y3 : (y 3).val < 8 := (y 3).isLt
  rw [oTile_read]
  by_cases e : 2 * (y 0).val + (y 2).val / 16 = q
  · rw [ht.1 _ (by omega) (by omega) (by omega) (by omega), x2, x3, x4, x5, Nat.one_mul, Nat.one_mul, Nat.one_mul, Nat.one_mul, Nat.zero_add, Nat.zero_add, Nat.zero_add, Nat.zero_add,
      hO _ _ _ y1 (by omega), e, show (y 2).val - 16 * (q % 2) = (y 2).val % 16 by omega]
  · rw [ht.2 _ (fun hh => e (by omega)), ← oTile_read]
    exact h y (by omega)

/-- Only the first 27 vectors count. -/
theorem ovCongr {g1 : S2x351x256.Idx → EReal} {g2 : S26x2x256.Idx → EReal} {g3 : S27x2x256.Idx → EReal} {q : ℕ} {Ef Ef' : ℕ → ℕ → ℕ → EReal} {D : ℕ → ℕ → EReal} {i a d : ℕ}
    (h : ∀ j, j < 27 → Ef j a d = Ef' j a d) : Ov (Pq g1 g2 g3 q) Ef D i a d = Ov (Pq g1 g2 g3 q) Ef' D i a d := by
  unfold Ov Xv
  congr 1
  refine Finset.sum_congr rfl fun j _ => ?_
  by_cases hj : j.val < 27
  · rw [h _ hj]
  · have : Pq g1 g2 g3 q (36 * i + j.val) a = 0 := by
      rw [Pq, Ug, if_neg]
      have := j.isLt
      rw [realRow, show (36 * i + j.val) % 36 = j.val by omega]
      simp only [Bool.and_eq_true, Nat.ble_eq]
      omega
    rw [this, zero_mul, zero_mul]
end Tile

/-- What the scratch and the tiles hold before trip `n` of a grid point's chunks. -/
structure ChunkOK (g1 : S2x351x256.Idx → EReal) (g2 : S26x2x256.Idx → EReal) (g3 : S27x2x256.Idx → EReal) (g4 : S2x256x128.Idx → EReal) (gE : S2x27x256x128.Idx → EReal) (n : ℕ)
    (r11 : S2x1008x128.Idx → Elt Ideal .f32) (r12 : S2x2560x2x128.Idx → Elt Ideal .bf16) (r13 : S2x1152x128.Idx → Elt Ideal .f32) (rO : S2x27x32x8x128.Idx → Elt Ideal .bf16) : Prop where
  uz : UZ r11
  dz : DZ r13
  lg : 1 ≤ n → n ≤ 4 → ∀ y, (y 0).val = (n - 1) % 2 → (y 1).val % 20 < 14 → r12 y = Lg (Pq g1 g2 g3 (n - 1)) (y 1).val (y 2).val (y 3).val
  dd : 1 ≤ n → n ≤ 4 → ∀ y, (y 0).val = (n - 1) % 2 → r13 y = if (y 1).val % 9 = 0 then Dq g4 (n - 1) ((y 1).val / 9) (y 2).val else (0 : EReal)
  og : TilesOK g1 g2 g3 g4 gE (n - 1) rO

end Cert.Proof.KernelIdeal

end
-- ==== Proof.KV.T1Full.lean ====
/- One trip of a grid point's chunks: the products of chunk `k`, the tiles of chunk `k - 1`. -/
module

public import proofs.«01_k».proof.Proof.KV.Chunk
public import proofs.«01_k».proof.Proof.KI.Mem
public import proofs.«01_k».proof.Proof.Gen.KernelIdeal.Loops
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Ring.WriteBehind
public import Idealize.ShloMosaic.Lib.Tactic
public import Idealize.ShloMosaic.Lib.WordCmp

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (Pipeline.UD sig nD τ) ℕ

theorem cond6_zero : ∀ k : Fin k0_t1_loop.trips, ¬k0_cond6 k = 1#1 → k.val = 0 := by decide +kernel
theorem cond5_four : ∀ k : Fin k0_t1_loop.trips, ¬k0_cond5 k = 1#1 → k.val = 4 := by decide +kernel
theorem cond6_of_pos : ∀ k : Fin k0_t1_loop.trips, 1 ≤ k.val → k0_cond6 k = 1#1 := by decide +kernel

theorem eBox_rd (arg7 : Memref sig .tc .vmem S3x2x32x288x128 .fp8e4m3) (s : Fin 3) (f : arg7.view.ty.Contents (Elt Ideal)) {gE : S2x27x256x128.Idx → EReal}
    (h : (eBox arg7 s).view.read (Elt Ideal) f = gE) {a b e d : ℕ} (ha : a < 2) (hb : b < 27) (he : e < 256) :
    rd5 (arg7.view.read (Elt Ideal) f) s.val a b e d = rd4 gE a b e d := by
  subst h
  by_cases hd : d < 128
  · exact (eBox_read arg7 s f (ix4 ⟨a, ha⟩ ⟨b, hb⟩ ⟨e, he⟩ ⟨d, hd⟩)).symm.trans (rd4_eq _ _)
  · rw [rd5, rd4, dif_neg (fun hh => hd hh.2.2.2.2), dif_neg (fun hh => hd hh.2.2.2)]

set_option maxHeartbeats 8000000 in
set_option warn.classDefReducibility false in
/-- One grid point's chunks leave their results in the slot's tiles. -/
noncomputable def chunkInv (c : Dev nD) (i : grid0.Coords) (arg1 : Memref sig .tc .vmem S2x351x256 .fp8e5m2) (harg1 : arg1.IsWhole) (arg2 : Memref sig .tc .vmem S26x2x256 .f32) (harg2 : arg2.IsWhole) (arg3 : Memref sig .tc .vmem S27x2x256 .f32) (harg3 : arg3.IsWhole) (arg4 : Memref sig .tc .vmem S2x256x128 .bf16) (harg4 : arg4.IsWhole) (arg5 : Memref sig .tc .hbm S2x27x16384x128 .fp8e4m3) (harg5 : arg5.IsWhole) (arg6 : Memref sig .tc .hbm S2x27x2048x8x128 .bf16) (harg6 : arg6.IsWhole) (arg7 : Memref sig .tc .vmem S3x2x32x288x128 .fp8e4m3) (harg7 : arg7.IsWhole) (arg8 : Memref sig .tc .vmem S3x2x27x33x8x128 .bf16) (harg8 : arg8.IsWhole) (arg9 : Memref sig .tc .vmem S2x352x128 .f32) (harg9 : arg9.IsWhole) (arg10 : Memref sig .tc .vmem S2x2x32x128 .f32) (harg10 : arg10.IsWhole) (arg11 : Memref sig .tc .vmem S2x1008x128 .f32) (harg11 : arg11.IsWhole) (arg12 : Memref sig .tc .vmem S2x2560x2x128 .bf16) (harg12 : arg12.IsWhole) (arg13 : Memref sig .tc .vmem S2x1152x128 .f32) (harg13 : arg13.IsWhole) (arg14 : DmaSems sig S3) (arg15 : DmaSems sig S3)  (f1 : Buf (Elt Ideal) (arg1.view.loc (c : Thread nD τ))) (f2 : Buf (Elt Ideal) (arg2.view.loc (c : Thread nD τ))) (f3 : Buf (Elt Ideal) (arg3.view.loc (c : Thread nD τ))) (f4 : Buf (Elt Ideal) (arg4.view.loc (c : Thread nD τ))) (v16 : IVec S8x128 1) (v18 : IVec S8x128 32) (v37 : IVec S8x128 1) (v39 : IVec S8x128 32)
    (h16 : MaskOK v16) (h40 : QuadOK (k0_pay1 v18 v37 v39)) (gE : S2x27x256x128.Idx → EReal) :
    LoopInvTy_k0_t1 (F := Ideal) Unit ℕ (Pipeline.UD sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 arg15 v16 v18 v37 v39 where
  inv := fun n _ => iprop((∃ f, ⌜(eBox arg7 (Ring.sl 3 (i 0).val)).view.read (Elt Ideal) f = gE⌝ ∗ (eBox arg7 (Ring.sl 3 (i 0).val)).view.loc (c : Thread nD τ) ↦[(eBox arg7 (Ring.sl 3 (i 0).val)).view.set]{fullShare} f)
    ∗ (∃ g, eRestP arg7 c (Ring.sl 3 (i 0).val) g)
    ∗ (∃ g, oRestP arg8 c (Ring.sl 3 (i 0).val) g)
    ∗ (arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4)
    ∗ (∃ f, arg9.view.loc (c : Thread nD τ) ↦[arg9.view.set]{fullShare} f) ∗ (∃ f, arg10.view.loc (c : Thread nD τ) ↦[arg10.view.set]{fullShare} f)
    ∗ (∃ f11 f12 f13 fo, ⌜ChunkOK (arg1.view.read (Elt Ideal) f1) (arg2.view.read (Elt Ideal) f2) (arg3.view.read (Elt Ideal) f3) (arg4.view.read (Elt Ideal) f4) gE n (arg11.view.read (Elt Ideal) f11) (arg12.view.read (Elt Ideal) f12) (arg13.view.read (Elt Ideal) f13) ((oTile arg8 (Ring.sl 3 (i 0).val)).view.read (Elt Ideal) fo)⌝
      ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)
      ∗ (oTile arg8 (Ring.sl 3 (i 0).val)).view.loc (c : Thread nD τ) ↦[(oTile arg8 (Ring.sl 3 (i 0).val)).view.set]{fullShare} fo))
  step := fun k0_t1 acc => by
    have hk5 : k0_t1.val < 5 := k0_t1.isLt
    unfold k0_t1_body
    iintro ⟨⟨%fe, %hfe0, HEb⟩, ⟨%ge, HEr⟩, ⟨%go, HOr⟩, H1, H2, H3, H4, ⟨%f9, H9⟩, ⟨%f10, H10⟩, ⟨%f11, %f12, %f13, %fo, %hC, H11, H12, H13, HOb⟩⟩
    ihave HE0 := (e_joinAt arg7 c (i 0).val fe ge) $$ [HEb HEr]
    · isplitl [HEb]; · iexact HEb
      iexact HEr
    icases HE0 with ⟨%fe', %hfe, HE⟩
    ihave HO0 := (o_joinAt arg8 c (i 0).val fo go) $$ [HOb HOr]
    · isplitl [HOb]; · iexact HOb
      iexact HOr
    icases HO0 with ⟨%fo', %hfo, HO⟩
    have hgE : (eBox arg7 (Ring.sl 3 (i 0).val)).view.read (Elt Ideal) fe' = gE := (View.read_congr hfe).trans hfe0
    have hgO : (oTile arg8 (Ring.sl 3 (i 0).val)).view.read (Elt Ideal) fo' = (oTile arg8 (Ring.sl 3 (i 0).val)).view.read (Elt Ideal) fo := View.read_congr hfo
    rw [← hgO] at hC
    clear hfe hfe0 hfo hgO
    by_cases h5 : k0_cond5 k0_t1 = 1#1
    · have hk4 : k0_t1.val < 4 := cond5_lt k0_t1 h5
      sl_exec (disch := first | sl_exact h5)
      ihave HX := (pt_name arg11 c _ _) $$ H11
      icases HX with ⟨%fu, %hfu, H11⟩
      have hu0 : UZ (arg11.view.read (Elt Ideal) f11) := hC.uz
      have hZ : ZOK (chunkInv.sl.H9_1 c arg1 f1 k0_t1 h5) (k0_t1.val % 2) (Zq (arg1.view.read (Elt Ideal) f1) k0_t1.val) := zok (k0_off16_eq k0_t1) (k0_off15_eq k0_t1)
      have hS : SOK (chunkInv.sl.H10_2 c arg2 arg3 f2 f3 k0_t1 h5) (k0_t1.val % 2) (Sq (arg2.view.read (Elt Ideal) f2) k0_t1.val) (Sq (arg3.view.read (Elt Ideal) f3) k0_t1.val) := sok (k0_off20_eq k0_t1) (k0_off18_eq k0_t1) (k0_off17_eq k0_t1) (k0_off19_eq k0_t1)
      have hU : UZ (arg11.view.read (Elt Ideal) fu) ∧ ∀ y : S2x1008x128.Idx, (y 0).val = k0_t1.val % 2 → arg11.view.read (Elt Ideal) fu y = (Pq (arg1.view.read (Elt Ideal) f1) (arg2.view.read (Elt Ideal) f2) (arg3.view.read (Elt Ideal) f3) k0_t1.val) (y 1).val (y 2).val := prepU (buf := k0_t1.val % 2) hfu (by
        clear hfu hu0 hC
        revert hZ hS
        generalize Zq (arg1.view.read (Elt Ideal) f1) k0_t1.val = Z
        generalize Sq (arg2.view.read (Elt Ideal) f2) k0_t1.val = S
        generalize Sq (arg3.view.read (Elt Ideal) f3) k0_t1.val = E
        intro hZ hS
        dsimp only [chunkInv.sl.r, chunkInv.sl.r_1, chunkInv.sl.r_10, chunkInv.sl.r_11, chunkInv.sl.r_12, chunkInv.sl.r_13, chunkInv.sl.r_14, chunkInv.sl.r_15, chunkInv.sl.r_16, chunkInv.sl.r_17, chunkInv.sl.r_18, chunkInv.sl.r_19, chunkInv.sl.r_2, chunkInv.sl.r_20, chunkInv.sl.r_21, chunkInv.sl.r_22, chunkInv.sl.r_23, chunkInv.sl.r_24, chunkInv.sl.r_25, chunkInv.sl.r_26, chunkInv.sl.r_27, chunkInv.sl.r_28, chunkInv.sl.r_29, chunkInv.sl.r_3, chunkInv.sl.r_30, chunkInv.sl.r_31, chunkInv.sl.r_32, chunkInv.sl.r_33, chunkInv.sl.r_34, chunkInv.sl.r_35, chunkInv.sl.r_36, chunkInv.sl.r_37, chunkInv.sl.r_38, chunkInv.sl.r_39, chunkInv.sl.r_4, chunkInv.sl.r_40, chunkInv.sl.r_41, chunkInv.sl.r_42, chunkInv.sl.r_43, chunkInv.sl.r_44, chunkInv.sl.r_45, chunkInv.sl.r_46, chunkInv.sl.r_47, chunkInv.sl.r_48, chunkInv.sl.r_49, chunkInv.sl.r_5, chunkInv.sl.r_50, chunkInv.sl.r_51, chunkInv.sl.r_52, chunkInv.sl.r_53, chunkInv.sl.r_54, chunkInv.sl.r_55, chunkInv.sl.r_56, chunkInv.sl.r_57, chunkInv.sl.r_58, chunkInv.sl.r_59, chunkInv.sl.r_6, chunkInv.sl.r_60, chunkInv.sl.r_61, chunkInv.sl.r_62, chunkInv.sl.r_63, chunkInv.sl.r_64, chunkInv.sl.r_65, chunkInv.sl.r_66, chunkInv.sl.r_67, chunkInv.sl.r_68, chunkInv.sl.r_69, chunkInv.sl.r_7, chunkInv.sl.r_70, chunkInv.sl.r_71, chunkInv.sl.r_72, chunkInv.sl.r_73, chunkInv.sl.r_74, chunkInv.sl.r_75, chunkInv.sl.r_76, chunkInv.sl.r_8, chunkInv.sl.r_9, chunkInv.sl.v1002, chunkInv.sl.v101, chunkInv.sl.v1016, chunkInv.sl.v1021, chunkInv.sl.v1026, chunkInv.sl.v1045, chunkInv.sl.v106, chunkInv.sl.v1064, chunkInv.sl.v1071, chunkInv.sl.v1085, chunkInv.sl.v1090, chunkInv.sl.v1095, chunkInv.sl.v1114, chunkInv.sl.v113, chunkInv.sl.v1133, chunkInv.sl.v1140, chunkInv.sl.v1154, chunkInv.sl.v1159, chunkInv.sl.v1164, chunkInv.sl.v1183, chunkInv.sl.v1202, chunkInv.sl.v1209, chunkInv.sl.v1213, chunkInv.sl.v1223, chunkInv.sl.v1228, chunkInv.sl.v1233, chunkInv.sl.v1252, chunkInv.sl.v127, chunkInv.sl.v1271, chunkInv.sl.v1277, chunkInv.sl.v1290, chunkInv.sl.v1295, chunkInv.sl.v1300, chunkInv.sl.v1319, chunkInv.sl.v132, chunkInv.sl.v1338, chunkInv.sl.v1357, chunkInv.sl.v137, chunkInv.sl.v1378, chunkInv.sl.v1383, chunkInv.sl.v1388, chunkInv.sl.v1407, chunkInv.sl.v1426, chunkInv.sl.v144, chunkInv.sl.v1445, chunkInv.sl.v1452, chunkInv.sl.v158, chunkInv.sl.v163, chunkInv.sl.v168, chunkInv.sl.v175, chunkInv.sl.v189, chunkInv.sl.v194, chunkInv.sl.v199, chunkInv.sl.v206, chunkInv.sl.v220, chunkInv.sl.v225, chunkInv.sl.v230, chunkInv.sl.v237, chunkInv.sl.v251, chunkInv.sl.v256, chunkInv.sl.v261, chunkInv.sl.v268, chunkInv.sl.v282, chunkInv.sl.v287, chunkInv.sl.v292, chunkInv.sl.v299, chunkInv.sl.v313, chunkInv.sl.v318, chunkInv.sl.v323, chunkInv.sl.v329, chunkInv.sl.v342, chunkInv.sl.v347, chunkInv.sl.v352, chunkInv.sl.v371, chunkInv.sl.v392, chunkInv.sl.v397, chunkInv.sl.v402, chunkInv.sl.v421, chunkInv.sl.v428, chunkInv.sl.v442, chunkInv.sl.v447, chunkInv.sl.v452, chunkInv.sl.v471, chunkInv.sl.v478, chunkInv.sl.v492, chunkInv.sl.v497, chunkInv.sl.v502, chunkInv.sl.v521, chunkInv.sl.v528, chunkInv.sl.v542, chunkInv.sl.v547, chunkInv.sl.v552, chunkInv.sl.v571, chunkInv.sl.v578, chunkInv.sl.v592, chunkInv.sl.v597, chunkInv.sl.v602, chunkInv.sl.v621, chunkInv.sl.v628, chunkInv.sl.v642, chunkInv.sl.v647, chunkInv.sl.v652, chunkInv.sl.v671, chunkInv.sl.v678, chunkInv.sl.v692, chunkInv.sl.v697, chunkInv.sl.v702, chunkInv.sl.v721, chunkInv.sl.v727, chunkInv.sl.v740, chunkInv.sl.v745, chunkInv.sl.v750, chunkInv.sl.v769, chunkInv.sl.v788, chunkInv.sl.v809, chunkInv.sl.v814, chunkInv.sl.v819, chunkInv.sl.v838, chunkInv.sl.v857, chunkInv.sl.v864, chunkInv.sl.v868, chunkInv.sl.v878, chunkInv.sl.v883, chunkInv.sl.v888, chunkInv.sl.v907, chunkInv.sl.v926, chunkInv.sl.v933, chunkInv.sl.v947, chunkInv.sl.v952, chunkInv.sl.v957, chunkInv.sl.v96, chunkInv.sl.v976, chunkInv.sl.v995]
        revert hZ hS
        generalize chunkInv.sl.H9_1 c arg1 f1 k0_t1 h5 = LZ
        generalize chunkInv.sl.H10_2 c arg2 arg3 f2 f3 k0_t1 h5 = LS
        intro hZ hS
        repeat' (first | exact List.forall_mem_nil _ | refine List.forall_mem_cons.mpr ⟨?_, ?_⟩)
        all_goals first
          | (refine pieceRow ?_ ?_ ?_ (kbuf k0_t1) rfl ?_ fun a b d => ?_
             rotate_left 4
             · unfold_payloads
               pointwise
               rw [readZ _ hZ (kbuf k0_t1) (Nat.le_of_ble_eq_true rfl) rfl, readS _ hS (kbuf k0_t1) rfl (Nat.le_of_ble_eq_true rfl) rfl, readE _ hS (kbuf k0_t1) rfl (Nat.le_of_ble_eq_true rfl) rfl]
             · conv_lhs => {arg 1; whnf}
               conv_lhs => {arg 2; whnf}
               conv_lhs => {arg 3; whnf}
               conv_lhs => {arg 4; whnf}
               rfl)
          | (refine pieceCol ?_ ?_ ?_ (kbuf k0_t1) rfl ?_ fun a b d => ?_
             rotate_left 4
             · unfold_payloads
               pointwise
               rw [readZ _ hZ (kbuf k0_t1) (Nat.le_of_ble_eq_true rfl) rfl, readS _ hS (kbuf k0_t1) rfl (Nat.le_of_ble_eq_true rfl) rfl, readE _ hS (kbuf k0_t1) rfl (Nat.le_of_ble_eq_true rfl) rfl]
             · conv_lhs => {arg 1; whnf}
               conv_lhs => {arg 2; whnf}
               conv_lhs => {arg 3; whnf}
               conv_lhs => {arg 4; whnf}
               rfl)
          | skip
        ) rfl hu0
      clear hfu hZ hS
      sl_for (fun n _ => iprop((arg11.view.loc (c : Thread nD τ) ↦[arg11.view.set]{fullShare} fu)
        ∗ (∃ f, ⌜TransOK arg12.view (Pq (arg1.view.read (Elt Ideal) f1) (arg2.view.read (Elt Ideal) f2) (arg3.view.read (Elt Ideal) f3) k0_t1.val) (k0_t1.val % 2) n f12 f⌝ ∗ arg12.view.loc (c : Thread nD τ) ↦[arg12.view.set]{fullShare} f))) $$ [H11 H12]
      · intro k acc
        exact (transInv c i arg1 harg1 arg2 harg2 arg3 harg3 arg4 harg4 arg5 harg5 arg6 harg6 arg7 harg7 arg8 harg8 arg9 harg9 arg10 harg10 arg11 harg11 arg12 harg12 arg13 harg13 arg14 arg15 v16 (k0_pay1 v18 v37 v39) k0_t1 h5 _ _ _ _ _ _ h16 h40 (Pq (arg1.view.read (Elt Ideal) f1) (arg2.view.read (Elt Ideal) f2) (arg3.view.read (Elt Ideal) f3) k0_t1.val) fu hU.2 f12).step k acc
      · isplitl [H11]; · iexact H11
        iexists f12
        isplitr; · ipureintro; exact ⟨fun y _ h => absurd h (Nat.not_lt_zero _), fun y _ => rfl⟩
        iexact H12
      iintro %acc ⟨H11, ⟨%fl, %hfl, H12⟩⟩
      by_cases h6 : k0_cond6 k0_t1 = 1#1
      · have hk1 : 1 ≤ k0_t1.val := cond6_pos k0_t1 h6
        sl_exec (disch := first | sl_exact h5 | sl_exact h6)
        ihave HX := (pt_name arg13 c _ _) $$ H13
        icases HX with ⟨%fd, %hfd, H13⟩
        have hD := prepD (D := Dq (arg4.view.read (Elt Ideal) f4) k0_t1.val) (buf := k0_t1.val % 2) hfd (by
          clear hfd hfl hU hC
          sl_unfold_run_names
          refine List.forall_mem_cons.mpr ⟨pieceD 15 (k0_off282_eq k0_t1) (fun a b d => ?_), ?_⟩
          rotate_left 1
          refine List.forall_mem_cons.mpr ⟨pieceD 14 (k0_off281_eq k0_t1) (fun a b d => ?_), ?_⟩
          rotate_left 1
          refine List.forall_mem_cons.mpr ⟨pieceD 13 (k0_off280_eq k0_t1) (fun a b d => ?_), ?_⟩
          rotate_left 1
          refine List.forall_mem_cons.mpr ⟨pieceD 12 (k0_off279_eq k0_t1) (fun a b d => ?_), ?_⟩
          rotate_left 1
          refine List.forall_mem_cons.mpr ⟨pieceD 11 (k0_off278_eq k0_t1) (fun a b d => ?_), ?_⟩
          rotate_left 1
          refine List.forall_mem_cons.mpr ⟨pieceD 10 (k0_off277_eq k0_t1) (fun a b d => ?_), ?_⟩
          rotate_left 1
          refine List.forall_mem_cons.mpr ⟨pieceD 9 (k0_off276_eq k0_t1) (fun a b d => ?_), ?_⟩
          rotate_left 1
          refine List.forall_mem_cons.mpr ⟨pieceD 8 (k0_off275_eq k0_t1) (fun a b d => ?_), ?_⟩
          rotate_left 1
          refine List.forall_mem_cons.mpr ⟨pieceD 7 (k0_off274_eq k0_t1) (fun a b d => ?_), ?_⟩
          rotate_left 1
          refine List.forall_mem_cons.mpr ⟨pieceD 6 (k0_off273_eq k0_t1) (fun a b d => ?_), ?_⟩
          rotate_left 1
          refine List.forall_mem_cons.mpr ⟨pieceD 5 (k0_off272_eq k0_t1) (fun a b d => ?_), ?_⟩
          rotate_left 1
          refine List.forall_mem_cons.mpr ⟨pieceD 4 (k0_off271_eq k0_t1) (fun a b d => ?_), ?_⟩
          rotate_left 1
          refine List.forall_mem_cons.mpr ⟨pieceD 3 (k0_off270_eq k0_t1) (fun a b d => ?_), ?_⟩
          rotate_left 1
          refine List.forall_mem_cons.mpr ⟨pieceD 2 (k0_off269_eq k0_t1) (fun a b d => ?_), ?_⟩
          rotate_left 1
          refine List.forall_mem_cons.mpr ⟨pieceD 1 (k0_off268_eq k0_t1) (fun a b d => ?_), ?_⟩
          rotate_left 1
          refine List.forall_mem_cons.mpr ⟨pieceD 0 (k0_off267_eq k0_t1) (fun a b d => ?_), ?_⟩
          rotate_left 1
          · exact List.forall_mem_nil _
          all_goals
            unfold_payloads
            pointwise
            refine (readDd (k0_off266_eq k0_t1) _ _ _).trans (congrArg (fun s => Dq (arg4.view.read (Elt Ideal) f4) k0_t1.val s d.val) ?_)
            first | rfl | (simp only; omega)) rfl hC.dz
        clear hfd
        have hL : ∀ y : S2x2560x2x128.Idx, (y 0).val = (k0_t1.val - 1) % 2 → (y 1).val % 20 < 14 → arg12.view.read (Elt Ideal) fl y = Lg (Pq (arg1.view.read (Elt Ideal) f1) (arg2.view.read (Elt Ideal) f2) (arg3.view.read (Elt Ideal) f3) (k0_t1.val - 1)) (y 1).val (y 2).val (y 3).val :=
          fun y y0 y1 => (hfl.2 y (by omega)).trans (hC.lg hk1 (by omega) y y0 y1)
        have hDd : ∀ y : S2x1152x128.Idx, (y 0).val = (k0_t1.val - 1) % 2 → arg13.view.read (Elt Ideal) fd y = if (y 1).val % 9 = 0 then Dq (arg4.view.read (Elt Ideal) f4) (k0_t1.val - 1) ((y 1).val / 9) (y 2).val else 0 :=
          fun y y0 => (hD.2.2 y (by omega)).trans (hC.dd hk1 (by omega) y y0)
        sl_for (fun n _ => iprop((arg7.view.loc (c : Thread nD τ) ↦[arg7.view.setOn (eR (i 0).val).set]{fullShare} fe')
          ∗ (∃ f, ⌜TileOK arg8.view (Ov (Pq (arg1.view.read (Elt Ideal) f1) (arg2.view.read (Elt Ideal) f2) (arg3.view.read (Elt Ideal) f3) (k0_t1.val - 1)) (fun j s d => rd5 (arg7.view.read (Elt Ideal) fe') ((i 0).val % 3) ((k0_t1.val - 1) / 2) j (128 * ((k0_t1.val - 1) % 2) + s) d) (Dq (arg4.view.read (Elt Ideal) f4) (k0_t1.val - 1))) ((i 0).val % 3) (k0_t1.val - 1) n fo' f⌝ ∗ arg8.view.loc (c : Thread nD τ) ↦[arg8.view.setOn (oR (i 0).val).set]{fullShare} f)
          ∗ (arg12.view.loc (c : Thread nD τ) ↦[arg12.view.set]{fullShare} fl) ∗ (arg13.view.loc (c : Thread nD τ) ↦[arg13.view.set]{fullShare} fd))) $$ [HE HO H12 H13]
        · intro k acc
          exact (tileInv c i arg1 harg1 arg2 harg2 arg3 harg3 arg4 harg4 arg5 harg5 arg6 harg6 arg7 harg7 arg8 harg8 arg9 harg9 arg10 harg10 arg11 harg11 arg12 harg12 arg13 harg13 arg14 arg15 k0_t1 h6 _ _ (Pq (arg1.view.read (Elt Ideal) f1) (arg2.view.read (Elt Ideal) f2) (arg3.view.read (Elt Ideal) f3) (k0_t1.val - 1)) (Dq (arg4.view.read (Elt Ideal) f4) (k0_t1.val - 1)) fe' fl hL fd hDd fo').step k acc
        · isplitl [HE]; · iexact HE
          isplitl [HO]
          · iexists fo'
            isplitr; · ipureintro; exact ⟨fun y _ _ h1 h2 => absurd h2 (Nat.not_lt.mpr h1), fun y _ => rfl⟩
            iexact HO
          isplitl [H12]; · iexact H12
          iexact H13
        iintro %acc ⟨HE, ⟨%ft, %hft, HO⟩, H12, H13⟩
        sl_exec (disch := first | sl_exact h5 | sl_exact h6)
        sl_step
        have hT : TilesOK (arg1.view.read (Elt Ideal) f1) (arg2.view.read (Elt Ideal) f2) (arg3.view.read (Elt Ideal) f3) (arg4.view.read (Elt Ideal) f4) gE k0_t1.val ((oTile arg8 (Ring.sl 3 (i 0).val)).view.read (Elt Ideal) ft) := by
          have e := tilesOK_succ arg8 (s := Ring.sl 3 (i 0).val) (slot := (i 0).val % 3) rfl hC.og hft (fun j a d hj ha => ovCongr fun j' hj' => eBox_rd arg7 (Ring.sl 3 (i 0).val) fe' hgE (by omega) hj' (by omega))
          rwa [show k0_t1.val - 1 + 1 = k0_t1.val by omega] at e
        ihave HE1 := (e_cutAt arg7 c (i 0).val _) $$ HE
        icases HE1 with ⟨HEb, HEr⟩
        ihave HO1 := (o_cutAt arg8 c (i 0).val _) $$ HO
        icases HO1 with ⟨HOb, HOr⟩
        isplitl [HEb]
        · iexists _; isplitr; · ipureintro; exact hgE
          iexact HEb
        isplitl [HEr]; · iexists _; iexact HEr
        isplitl [HOr]; · iexists _; iexact HOr
        isplitl [H1]; · iexact H1
        isplitl [H2]; · iexact H2
        isplitl [H3]; · iexact H3
        isplitl [H4]; · iexact H4
        isplitl [H9]; · iexists _; iexact H9
        isplitl [H10]; · iexists _; iexact H10
        iexists fu, fl, fd, ft
        isplitr
        · ipureintro
          exact ⟨hU.1, hD.1, fun _ _ y y0 y1 => hfl.1 y y0 y1, fun _ _ y y0 => hD.2.1 y y0, hT⟩
        isplitl [H11]; · iexact H11
        isplitl [H12]; · iexact H12
        isplitl [H13]; · iexact H13
        iexact HOb
      · have hk0 : k0_t1.val = 0 := cond6_zero k0_t1 h6
        sl_exec (disch := first | sl_exact h5 | sl_exact h6)
        ihave HX := (pt_name arg13 c _ _) $$ H13
        icases HX with ⟨%fd, %hfd, H13⟩
        have hD := prepD (D := Dq (arg4.view.read (Elt Ideal) f4) k0_t1.val) (buf := k0_t1.val % 2) hfd (by
          clear hfd hfl hU hC
          sl_unfold_run_names
          refine List.forall_mem_cons.mpr ⟨pieceD 15 (k0_off282_eq k0_t1) (fun a b d => ?_), ?_⟩
          rotate_left 1
          refine List.forall_mem_cons.mpr ⟨pieceD 14 (k0_off281_eq k0_t1) (fun a b d => ?_), ?_⟩
          rotate_left 1
          refine List.forall_mem_cons.mpr ⟨pieceD 13 (k0_off280_eq k0_t1) (fun a b d => ?_), ?_⟩
          rotate_left 1
          refine List.forall_mem_cons.mpr ⟨pieceD 12 (k0_off279_eq k0_t1) (fun a b d => ?_), ?_⟩
          rotate_left 1
          refine List.forall_mem_cons.mpr ⟨pieceD 11 (k0_off278_eq k0_t1) (fun a b d => ?_), ?_⟩
          rotate_left 1
          refine List.forall_mem_cons.mpr ⟨pieceD 10 (k0_off277_eq k0_t1) (fun a b d => ?_), ?_⟩
          rotate_left 1
          refine List.forall_mem_cons.mpr ⟨pieceD 9 (k0_off276_eq k0_t1) (fun a b d => ?_), ?_⟩
          rotate_left 1
          refine List.forall_mem_cons.mpr ⟨pieceD 8 (k0_off275_eq k0_t1) (fun a b d => ?_), ?_⟩
          rotate_left 1
          refine List.forall_mem_cons.mpr ⟨pieceD 7 (k0_off274_eq k0_t1) (fun a b d => ?_), ?_⟩
          rotate_left 1
          refine List.forall_mem_cons.mpr ⟨pieceD 6 (k0_off273_eq k0_t1) (fun a b d => ?_), ?_⟩
          rotate_left 1
          refine List.forall_mem_cons.mpr ⟨pieceD 5 (k0_off272_eq k0_t1) (fun a b d => ?_), ?_⟩
          rotate_left 1
          refine List.forall_mem_cons.mpr ⟨pieceD 4 (k0_off271_eq k0_t1) (fun a b d => ?_), ?_⟩
          rotate_left 1
          refine List.forall_mem_cons.mpr ⟨pieceD 3 (k0_off270_eq k0_t1) (fun a b d => ?_), ?_⟩
          rotate_left 1
          refine List.forall_mem_cons.mpr ⟨pieceD 2 (k0_off269_eq k0_t1) (fun a b d => ?_), ?_⟩
          rotate_left 1
          refine List.forall_mem_cons.mpr ⟨pieceD 1 (k0_off268_eq k0_t1) (fun a b d => ?_), ?_⟩
          rotate_left 1
          refine List.forall_mem_cons.mpr ⟨pieceD 0 (k0_off267_eq k0_t1) (fun a b d => ?_), ?_⟩
          rotate_left 1
          · exact List.forall_mem_nil _
          all_goals
            unfold_payloads
            pointwise
            refine (readDd (k0_off266_eq k0_t1) _ _ _).trans (congrArg (fun s => Dq (arg4.view.read (Elt Ideal) f4) k0_t1.val s d.val) ?_)
            first | rfl | (simp only; omega)) rfl hC.dz
        clear hfd
        sl_step
        ihave HE1 := (e_cutAt arg7 c (i 0).val _) $$ HE
        icases HE1 with ⟨HEb, HEr⟩
        ihave HO1 := (o_cutAt arg8 c (i 0).val _) $$ HO
        icases HO1 with ⟨HOb, HOr⟩
        isplitl [HEb]
        · iexists _; isplitr; · ipureintro; exact hgE
          iexact HEb
        isplitl [HEr]; · iexists _; iexact HEr
        isplitl [HOr]; · iexists _; iexact HOr
        isplitl [H1]; · iexact H1
        isplitl [H2]; · iexact H2
        isplitl [H3]; · iexact H3
        isplitl [H4]; · iexact H4
        isplitl [H9]; · iexists _; iexact H9
        isplitl [H10]; · iexists _; iexact H10
        iexists fu, fl, fd, fo'
        isplitr
        · ipureintro
          exact ⟨hU.1, hD.1, fun _ _ y y0 y1 => hfl.1 y y0 y1, fun _ _ y y0 => hD.2.1 y y0, fun y hy => absurd hy (by omega)⟩
        isplitl [H11]; · iexact H11
        isplitl [H12]; · iexact H12
        isplitl [H13]; · iexact H13
        iexact HOb
    · have hk4 : k0_t1.val = 4 := cond5_four k0_t1 h5
      have h6 : k0_cond6 k0_t1 = 1#1 := cond6_of_pos k0_t1 (by omega)
      have hk1 : 1 ≤ k0_t1.val := cond6_pos k0_t1 h6
      · sl_exec (disch := first | sl_exact h5 | sl_exact h6)
        have hL : ∀ y : S2x2560x2x128.Idx, (y 0).val = (k0_t1.val - 1) % 2 → (y 1).val % 20 < 14 → arg12.view.read (Elt Ideal) f12 y = Lg (Pq (arg1.view.read (Elt Ideal) f1) (arg2.view.read (Elt Ideal) f2) (arg3.view.read (Elt Ideal) f3) (k0_t1.val - 1)) (y 1).val (y 2).val (y 3).val :=
          fun y y0 y1 => hC.lg hk1 (by omega) y y0 y1
        have hDd : ∀ y : S2x1152x128.Idx, (y 0).val = (k0_t1.val - 1) % 2 → arg13.view.read (Elt Ideal) f13 y = if (y 1).val % 9 = 0 then Dq (arg4.view.read (Elt Ideal) f4) (k0_t1.val - 1) ((y 1).val / 9) (y 2).val else 0 :=
          fun y y0 => hC.dd hk1 (by omega) y y0
        sl_for (fun n _ => iprop((arg7.view.loc (c : Thread nD τ) ↦[arg7.view.setOn (eR (i 0).val).set]{fullShare} fe')
          ∗ (∃ f, ⌜TileOK arg8.view (Ov (Pq (arg1.view.read (Elt Ideal) f1) (arg2.view.read (Elt Ideal) f2) (arg3.view.read (Elt Ideal) f3) (k0_t1.val - 1)) (fun j s d => rd5 (arg7.view.read (Elt Ideal) fe') ((i 0).val % 3) ((k0_t1.val - 1) / 2) j (128 * ((k0_t1.val - 1) % 2) + s) d) (Dq (arg4.view.read (Elt Ideal) f4) (k0_t1.val - 1))) ((i 0).val % 3) (k0_t1.val - 1) n fo' f⌝ ∗ arg8.view.loc (c : Thread nD τ) ↦[arg8.view.setOn (oR (i 0).val).set]{fullShare} f)
          ∗ (arg12.view.loc (c : Thread nD τ) ↦[arg12.view.set]{fullShare} f12) ∗ (arg13.view.loc (c : Thread nD τ) ↦[arg13.view.set]{fullShare} f13))) $$ [HE HO H12 H13]
        · intro k acc
          exact (tileInv c i arg1 harg1 arg2 harg2 arg3 harg3 arg4 harg4 arg5 harg5 arg6 harg6 arg7 harg7 arg8 harg8 arg9 harg9 arg10 harg10 arg11 harg11 arg12 harg12 arg13 harg13 arg14 arg15 k0_t1 h6 _ _ (Pq (arg1.view.read (Elt Ideal) f1) (arg2.view.read (Elt Ideal) f2) (arg3.view.read (Elt Ideal) f3) (k0_t1.val - 1)) (Dq (arg4.view.read (Elt Ideal) f4) (k0_t1.val - 1)) fe' f12 hL f13 hDd fo').step k acc
        · isplitl [HE]; · iexact HE
          isplitl [HO]
          · iexists fo'
            isplitr; · ipureintro; exact ⟨fun y _ _ h1 h2 => absurd h2 (Nat.not_lt.mpr h1), fun y _ => rfl⟩
            iexact HO
          isplitl [H12]; · iexact H12
          iexact H13
        iintro %acc ⟨HE, ⟨%ft, %hft, HO⟩, H12, H13⟩
        sl_exec (disch := first | sl_exact h5 | sl_exact h6)
        sl_step
        have hT : TilesOK (arg1.view.read (Elt Ideal) f1) (arg2.view.read (Elt Ideal) f2) (arg3.view.read (Elt Ideal) f3) (arg4.view.read (Elt Ideal) f4) gE k0_t1.val ((oTile arg8 (Ring.sl 3 (i 0).val)).view.read (Elt Ideal) ft) := by
          have e := tilesOK_succ arg8 (s := Ring.sl 3 (i 0).val) (slot := (i 0).val % 3) rfl hC.og hft (fun j a d hj ha => ovCongr fun j' hj' => eBox_rd arg7 (Ring.sl 3 (i 0).val) fe' hgE (by omega) hj' (by omega))
          rwa [show k0_t1.val - 1 + 1 = k0_t1.val by omega] at e
        ihave HE1 := (e_cutAt arg7 c (i 0).val _) $$ HE
        icases HE1 with ⟨HEb, HEr⟩
        ihave HO1 := (o_cutAt arg8 c (i 0).val _) $$ HO
        icases HO1 with ⟨HOb, HOr⟩
        isplitl [HEb]
        · iexists _; isplitr; · ipureintro; exact hgE
          iexact HEb
        isplitl [HEr]; · iexists _; iexact HEr
        isplitl [HOr]; · iexists _; iexact HOr
        isplitl [H1]; · iexact H1
        isplitl [H2]; · iexact H2
        isplitl [H3]; · iexact H3
        isplitl [H4]; · iexact H4
        isplitl [H9]; · iexists _; iexact H9
        isplitl [H10]; · iexists _; iexact H10
        iexists f11, f12, f13, ft
        isplitr
        · ipureintro
          exact ⟨hC.uz, hC.dz, fun _ h => absurd h (by omega), fun _ h => absurd h (by omega), hT⟩
        isplitl [H11]; · iexact H11
        isplitl [H12]; · iexact H12
        isplitl [H13]; · iexact H13
        iexact HOb

end Cert.Proof.KernelIdeal

end
-- ==== Proof.KV.Rings.lean ====
/- The two rings with what their slots hold. -/
module

public import proofs.«01_k».proof.Proof.KI.InOut
public import proofs.«01_k».proof.Proof.KV.T1Full
public import proofs.«01_k».proof.Proof.Gen.KernelIdeal.Loops
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Ring.WriteBehind
public import Idealize.ShloMosaic.Lib.Tactic
public import Idealize.ShloMosaic.Lib.WordCmp

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (Pipeline.UD sig nD τ) ℕ

/-- What one grid point's blocks make of a block of the result. -/
def OB (g1 : S2x351x256.Idx → EReal) (g2 : S26x2x256.Idx → EReal) (g3 : S27x2x256.Idx → EReal) (g4 : S2x256x128.Idx → EReal) (gE : S2x27x256x128.Idx → EReal) : S2x27x32x8x128.Idx → Elt Ideal .bf16 :=
  fun y => Oq g1 g2 g3 g4 gE (2 * (y 0).val + (y 2).val / 16) (y 1).val (8 * ((y 2).val % 16) + (y 3).val) (y 4).val
theorem tilesOK_all {g1 : S2x351x256.Idx → EReal} {g2 : S26x2x256.Idx → EReal} {g3 : S27x2x256.Idx → EReal} {g4 : S2x256x128.Idx → EReal} {gE : S2x27x256x128.Idx → EReal} {r : S2x27x32x8x128.Idx → Elt Ideal .bf16}
    (h : TilesOK g1 g2 g3 g4 gE 4 r) : r = OB g1 g2 g3 g4 gE := by
  funext y
  have h0 : (y 0).val < 2 := (y 0).isLt
  have h2 : (y 2).val < 32 := (y 2).isLt
  exact h y (by omega)

/-- The kernel's mask of a square of four, -/
theorem mask_ok : MaskOK k0_pay412 := by
  unfold MaskOK
  decide +kernel
/-- and its numbers of the squares. -/
theorem quad_ok : QuadOK (k0_pay1 k0_pay413 k0_pay414 k0_pay415) := by
  unfold QuadOK
  decide +kernel

/-- A view written whole reads what was written. -/
theorem read_whole {sig' : RefSig} {κ : Kind} {sp : Space} {s : Shape} {e : EltTy} (v : View sig' κ sp s e) (f : v.ty.Contents (Elt Ideal)) (x : s.Idx → Elt Ideal e) :
    v.read (Elt Ideal) (v.writes (Elt Ideal) f [⟨Rect.whole s, x⟩]) = x := by
  have e := View.write_univ_eq_writes_whole v f [] x
  rw [← e, View.read_write_univ]

section
variable (c : Dev nD)
/-- Slot `s` of results free, its tile holding `r`. -/
def oFreeV (s : Fin 3) (r : S2x27x32x8x128.Idx → Elt Ideal .bf16) : sProp 𝕄 := iprop(oCellP (F := Ideal) c s ∗ ∃ f, ⌜(oTile scM0_1 s).view.read (Elt Ideal) f = r⌝ ∗ oTileP c s f)
/-- Slot `s` on its way to block `b`, which will hold `r`. -/
def oFlightV (s : Fin 3) (b : Fin 64) (r : S2x27x32x8x128.Idx → Elt Ideal .bf16) : sProp 𝕄 :=
  iprop(∃ f e, ⌜(oPiece b).view.read (Elt Ideal) f = r⌝ ∗ Transfers.Flight countersEmb (c : Thread nD τ) (oCellR s) default ((oPiece b).view.amount (oCellR s)) iprop(oPieceP (F := Ideal) c b f ∗ oTileP c s e))
/-- Block `b` of the result holding `r`. -/
def oHomeV (b : Fin 64) (r : S2x27x32x8x128.Idx → Elt Ideal .bf16) : sProp 𝕄 := iprop(∃ f, ⌜(oPiece b).view.read (Elt Ideal) f = r⌝ ∗ oPieceP (F := Ideal) c b f)
theorem oFreeV_free (s r) : oFreeV c s r ⊢ oFree (F := Ideal) c s := by
  unfold oFreeV oFree
  iintro ⟨H, ⟨%f, -, HT⟩⟩
  isplitl [H]; · iexact H
  iexists f; iexact HT
end

end Cert.Proof.KernelIdeal

end
-- ==== Proof.KV.InOut.lean ====
module

public import proofs.«01_k».proof.Proof.KV.Rings
public import proofs.«01_k».proof.Proof.Gen.KernelIdeal.Loops
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Ring.WriteBehind
public import Idealize.ShloMosaic.Lib.Tactic
public import Idealize.ShloMosaic.Lib.WordCmp

public import proofs.«01_k».proof.Proof.KI.InOut

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (Pipeline.UD sig nD τ) ℕ

/-! ## The ring of results before a grid point, with what it holds -/

section
variable (c : Dev nD) (S : Fin 64 → S2x27x32x8x128.Idx → Elt Ideal .bf16)

/-- The scratch of the unscaled pairs: zero beside the pairs once the first point has run. -/
def scrU (k : ℕ) : sProp 𝕄 := if k = 0 then iprop(∃ d, owns (c : Thread nD τ) scM0_4 fullShare d) else iprop(∃ d, ⌜UZ d⌝ ∗ owns (c : Thread nD τ) scM0_4 fullShare d)
/-- The scratch of the dense gradient likewise. -/
def scrD (k : ℕ) : sProp 𝕄 := if k = 0 then iprop(∃ d, owns (c : Thread nD τ) scM0_6 fullShare d) else iprop(∃ d, ⌜DZ d⌝ ∗ owns (c : Thread nD τ) scM0_6 fullShare d)
theorem scrU_zero (k : ℕ) (h : k = 0) : scrU c k = iprop(∃ d, owns (c : Thread nD τ) scM0_4 fullShare d) := if_pos h
theorem scrU_pos (k : ℕ) (h : k ≠ 0) : scrU c k = iprop(∃ d, ⌜UZ d⌝ ∗ owns (c : Thread nD τ) scM0_4 fullShare d) := if_neg h
theorem scrD_zero (k : ℕ) (h : k = 0) : scrD c k = iprop(∃ d, owns (c : Thread nD τ) scM0_6 fullShare d) := if_pos h
theorem scrD_pos (k : ℕ) (h : k ≠ 0) : scrD c k = iprop(∃ d, ⌜DZ d⌝ ∗ owns (c : Thread nD τ) scM0_6 fullShare d) := if_neg h
theorem scrU_out (k : ℕ) : scrU c k ⊢ iprop(∃ d, owns (c : Thread nD τ) scM0_4 fullShare d) := by
  by_cases h : k = 0
  · rw [scrU_zero c k h]
  · rw [scrU_pos c k h]; iintro ⟨%d, -, H⟩; iexists d; iexact H
theorem scrD_out (k : ℕ) : scrD c k ⊢ iprop(∃ d, owns (c : Thread nD τ) scM0_6 fullShare d) := by
  by_cases h : k = 0
  · rw [scrD_zero c k h]
  · rw [scrD_pos c k h]; iintro ⟨%d, -, H⟩; iexists d; iexact H

/-- Slot `k + 2`: block `k - 1` complete in it, from the second grid point on. -/
def oFreeK (k : ℕ) : sProp 𝕄 := if 1 ≤ k ∧ k < 64 then oFreeV c (Ring.sl 3 (k + 2)) (S (Ring.bk 64 (k - 1))) else oFree (F := Ideal) c (Ring.sl 3 (k + 2))
/-- Slot `k`: block `k - 3` on its way out of it. -/
def oXV (k : ℕ) : sProp 𝕄 := if 3 ≤ k ∧ k < 64 then oFlightV c (Ring.sl 3 k) (Ring.bk 64 (k - 3)) (S (Ring.bk 64 (k - 3))) else oFree (F := Ideal) c (Ring.sl 3 k)
/-- Slot `k + 1`: block `k - 2` on its way out of it. -/
def oYV (k : ℕ) : sProp 𝕄 := if 2 ≤ k ∧ k < 64 then oFlightV c (Ring.sl 3 (k + 1)) (Ring.bk 64 (k - 2)) (S (Ring.bk 64 (k - 2))) else oFree (F := Ideal) c (Ring.sl 3 (k + 1))
/-- Block `b` of the result: final once its copy has been waited for. -/
def oHomeK (k : ℕ) (b : Fin 64) : sProp 𝕄 := if b.val + 3 < k ∨ k = 64 then oHomeV c b (S b) else oHome (F := Ideal) c b
theorem oFreeK_free (k : ℕ) (h : ¬(1 ≤ k ∧ k < 64)) : oFreeK c S k = oFree (F := Ideal) c (Ring.sl 3 (k + 2)) := if_neg h
theorem oFreeK_used (k : ℕ) (h : 1 ≤ k ∧ k < 64) : oFreeK c S k = oFreeV c (Ring.sl 3 (k + 2)) (S (Ring.bk 64 (k - 1))) := if_pos h
theorem oFreeK_succ (k : ℕ) (h : k + 1 < 64) : oFreeK c S (k + 1) = oFreeV c (Ring.sl 3 k) (S (Ring.bk 64 k)) := by
  rw [oFreeK_used c S (k + 1) ⟨by omega, h⟩, sl3_3, Nat.add_sub_cancel]
theorem oXV_free (k : ℕ) (h : ¬(3 ≤ k ∧ k < 64)) : oXV c S k = oFree (F := Ideal) c (Ring.sl 3 k) := if_neg h
theorem oXV_flight (k : ℕ) (h : 3 ≤ k ∧ k < 64) : oXV c S k = oFlightV c (Ring.sl 3 k) (Ring.bk 64 (k - 3)) (S (Ring.bk 64 (k - 3))) := if_pos h
theorem oYV_free (k : ℕ) (h : ¬(2 ≤ k ∧ k < 64)) : oYV c S k = oFree (F := Ideal) c (Ring.sl 3 (k + 1)) := if_neg h
theorem oYV_flight (k : ℕ) (h : 2 ≤ k ∧ k < 64) : oYV c S k = oFlightV c (Ring.sl 3 (k + 1)) (Ring.bk 64 (k - 2)) (S (Ring.bk 64 (k - 2))) := if_pos h
theorem oXV_succ (k : ℕ) (h : k + 1 < 64) : oXV c S (k + 1) = oYV c S k := by
  by_cases h2 : 2 ≤ k
  · rw [oXV_flight c S (k + 1) ⟨by omega, h⟩, oYV_flight c S k ⟨h2, by omega⟩, show k + 1 - 3 = k - 2 by omega]
  · rw [oXV_free c S (k + 1) (by omega), oYV_free c S k (by omega)]
theorem oYV_succ (k : ℕ) (h : k + 1 < 64) (h1 : 1 ≤ k) : oYV c S (k + 1) = oFlightV c (Ring.sl 3 (k + 2)) (Ring.bk 64 (k - 1)) (S (Ring.bk 64 (k - 1))) := by
  rw [oYV_flight c S (k + 1) ⟨by omega, h⟩, show k + 1 - 2 = k - 1 by omega]
theorem oHomeK_pos (k : ℕ) (b : Fin 64) (h : b.val + 3 < k ∨ k = 64) : oHomeK c S k b = oHomeV c b (S b) := if_pos h
theorem oHomeK_neg (k : ℕ) (b : Fin 64) (h : ¬(b.val + 3 < k ∨ k = 64)) : oHomeK c S k b = oHome (F := Ideal) c b := if_neg h
theorem bk_val {k : ℕ} (h : k < 64) : (Ring.bk 64 k).val = k := Nat.mod_eq_of_lt h

theorem homesV_0 (k : ℕ) (h : k = 0) : bigSep (homeO (k + 1)) (oHomeK c S (k + 1)) = bigSep (homeO k) (oHomeK c S k) := by
  subst h
  rw [homeO_0, homeO_1, show oHomeK c S (0 + 1) = oHomeK c S 0 from funext fun b => by
    rw [oHomeK_neg c S _ b (by omega), oHomeK_neg c S _ b (by omega)]]
theorem homesV_out (k : ℕ) (hk : k < 64) (h : 1 ≤ k) :
    bigSep (homeO k) (oHomeK c S k) = iprop(oHome (F := Ideal) c (Ring.bk 64 (k - 1)) ∗ bigSep ((homeO k).erase (Ring.bk 64 (k - 1))) (oHomeK c S k)) := by
  rw [homes_out _ k hk h, oHomeK_neg c S k _ (by rw [bk_val (by omega)]; omega)]
/-- Off the blocks on their way, the next point finds what this one does. -/
theorem homesV_rest (k : ℕ) (hk : k < 63) (s : Finset (Fin 64)) (hs : s ⊆ homeO k) : bigSep s (oHomeK c S (k + 1)) = bigSep s (oHomeK c S k) := by
  refine BI.bigSep_congr fun b hb => ?_
  have := (Finset.mem_filter.mp (hs hb)).2
  by_cases h : b.val + 3 < k
  · rw [oHomeK_pos c S _ b (by omega), oHomeK_pos c S _ b (by omega)]
  · rw [oHomeK_neg c S _ b (by omega), oHomeK_neg c S _ b (by omega)]
theorem homesV_small (k : ℕ) (hk : k < 64) (h : 1 ≤ k) (h3 : k < 3) :
    bigSep (homeO (k + 1)) (oHomeK c S (k + 1)) = bigSep ((homeO k).erase (Ring.bk 64 (k - 1))) (oHomeK c S k) := by
  rw [homes_small _ k hk h h3, homesV_rest c S k (by omega) _ (Finset.erase_subset _ _)]
theorem homesV_big (k : ℕ) (hk : k < 63) (h : 3 ≤ k) :
    bigSep (homeO (k + 1)) (oHomeK c S (k + 1)) = iprop(oHomeV c (Ring.bk 64 (k - 3)) (S (Ring.bk 64 (k - 3))) ∗ bigSep ((homeO k).erase (Ring.bk 64 (k - 1))) (oHomeK c S k)) := by
  rw [homes_big _ k hk h, homesV_rest c S k (by omega) _ (Finset.erase_subset _ _), oHomeK_pos c S _ _ (by rw [bk_val (by omega)]; omega)]
theorem homesV_63 (k : ℕ) (h : k = 63) : bigSep (homeO k) (oHomeK c S k) = iprop(oHome (F := Ideal) c (Ring.bk 64 (k - 1)) ∗ oHome (F := Ideal) c (Ring.bk 64 k) ∗ bigSep (((homeO 63).erase (Ring.bk 64 62)).erase (Ring.bk 64 63)) (fun b => oHomeV c b (S b))) := by
  subst h
  rw [homes_63, oHomeK_neg c S 63 _ (by decide), oHomeK_neg c S 63 _ (by decide)]
  rw [show bigSep (((homeO 63).erase (Ring.bk 64 62)).erase (Ring.bk 64 63)) (oHomeK c S 63) = bigSep (((homeO 63).erase (Ring.bk 64 62)).erase (Ring.bk 64 63)) (fun b => oHomeV c b (S b)) from
    BI.bigSep_congr fun b hb => oHomeK_pos c S 63 b ((by decide +kernel : ∀ b ∈ ((homeO 63).erase (Ring.bk 64 62)).erase (Ring.bk 64 63), b.val + 3 < 63 ∨ 63 = 64) b hb)]
theorem oHomeK_64 : oHomeK c S 64 = fun b => oHomeV c b (S b) := funext fun b => oHomeK_pos c S 64 b (Or.inr rfl)
theorem homesV_64 (k : ℕ) (h : k = 63) : bigSep (homeO (k + 1)) (oHomeK c S (k + 1)) = iprop(oHomeV c (Ring.bk 64 (k - 3)) (S (Ring.bk 64 (k - 3))) ∗ oHomeV c (Ring.bk 64 (k - 2)) (S (Ring.bk 64 (k - 2))) ∗ oHomeV c (Ring.bk 64 (k - 1)) (S (Ring.bk 64 (k - 1))) ∗ oHomeV c (Ring.bk 64 k) (S (Ring.bk 64 k)) ∗ bigSep (((homeO 63).erase (Ring.bk 64 62)).erase (Ring.bk 64 63)) (fun b => oHomeV c b (S b))) := by
  subst h
  rw [show 63 + 1 = 64 from rfl, oHomeK_64, homes_64]

/-- The ring of results before grid point `k`. -/
def oRingV (k : ℕ) : sProp 𝕄 := iprop(oFreeK c S k ∗ oXV c S k ∗ oYV c S k ∗ bigSep (homeO k) (oHomeK c S k))

/-- Into the ring of results, -/
theorem o_ringV_in :
    iprop((oTileX (F := Ideal) c 0 ∗ oTileX c 1 ∗ oTileX c 2) ∗ (semVal ((c : Thread nD τ), SemLoc.dma 11) 0 ∗ semVal ((c : Thread nD τ), SemLoc.dma 12) 0 ∗ semVal ((c : Thread nD τ), SemLoc.dma 13) 0) ∗ bigSep Finset.univ (oHome c))
      ⊢ oRingV c S 0 := by
  unfold oRingV
  rw [oFreeK_free c S 0 (by decide), oXV_free c S 0 (by decide), oYV_free c S 0 (by decide), homeO_0, show oHomeK c S 0 = oHome (F := Ideal) c from funext fun b => oHomeK_neg c S 0 b (by omega)]
  rw [show Ring.sl 3 (0 + 2) = 2 from rfl, show Ring.sl 3 0 = 0 from rfl, show Ring.sl 3 (0 + 1) = 1 from rfl]
  simp only [oFree, oCellP_0, oCellP_1, oCellP_2]
  iintro ⟨⟨HS0, HS1, HS2⟩, ⟨H0, H1, H2⟩, HH⟩
  isplitl [H2 HS2]
  · isplitl [H2]; · iexact H2
    iexact HS2
  isplitl [H0 HS0]
  · isplitl [H0]; · iexact H0
    iexact HS0
  isplitl [H1 HS1]
  · isplitl [H1]; · iexact H1
    iexact HS1
  iexact HH
/-- and out of it. -/
theorem o_ringV_out :
    oRingV c S 64 ⊢ iprop((oTileX (F := Ideal) c 0 ∗ oTileX c 1 ∗ oTileX c 2) ∗ (semVal ((c : Thread nD τ), SemLoc.dma 11) 0 ∗ semVal ((c : Thread nD τ), SemLoc.dma 12) 0 ∗ semVal ((c : Thread nD τ), SemLoc.dma 13) 0) ∗ bigSep Finset.univ (fun b => oHomeV c b (S b))) := by
  unfold oRingV
  rw [oFreeK_free c S 64 (by decide), oXV_free c S 64 (by decide), oYV_free c S 64 (by decide), homeO_64', oHomeK_64]
  rw [show Ring.sl 3 (64 + 2) = 0 from rfl, show Ring.sl 3 64 = 1 from rfl, show Ring.sl 3 (64 + 1) = 2 from rfl]
  simp only [oFree, oCellP_0, oCellP_1, oCellP_2]
  iintro ⟨⟨H0, HS0⟩, ⟨H1, HS1⟩, ⟨H2, HS2⟩, HH⟩
  isplitl [HS0 HS1 HS2]
  · isplitl [HS0]; · iexact HS0
    isplitl [HS1]; · iexact HS1
    iexact HS2
  isplitl [H0 H1 H2]
  · isplitl [H0]; · iexact H0
    isplitl [H1]; · iexact H1
    iexact H2
  iexact HH

/-! ## The blocks joined -/

/-- The result's array, block by block. -/
def GO : Buf (Elt Ideal) ((c : Thread nD τ).loc main_v4) := fun y : S2x27x2048x8x128.Idx =>
  S ⟨(y 2).val / 32, by have : (y 2).val < 2048 := (y 2).isLt; omega⟩ (ix5 (y 0) (y 1) ⟨(y 2).val % 32, Nat.mod_lt _ (by decide)⟩ (y 3) (y 4))
theorem oBlockSet_cover : Finset.univ.biUnion oBlockSet = Finset.univ :=
  Ring.lead_cover (s := S2x27x2048x8x128) (2 : Fin 5) 32 (fun b : Fin 64 => (![0, 0, 32 * b.val, 0, 0] : Fin 5 → Nat)) S2x27x32x8x128.size inb_oPiece (fun s => by simp)
    (fun s a ha => by fin_cases a <;> first | exact absurd rfl ha | rfl) rfl (fun a ha => by fin_cases a <;> first | exact absurd rfl ha | rfl) rfl
theorem piece_at (b : Fin 64) (f) (h : (oPiece b).view.read (Elt Ideal) f = S b) : oPieceP (F := Ideal) c b f = (((c : Thread nD τ).loc main_v4) ↦[oBlockSet b]{fullShare} GO c S : sProp 𝕄) := by
  rw [oPieceP_eq]
  refine pointsTo_congr fun i hi => ?_
  rw [oBlockSet, ← Rect.map_emb_univ] at hi
  obtain ⟨x, -, rfl⟩ := Finset.mem_map.mp hi
  refine (congrFun h x).trans ?_
  have hx : (x 2).val < 32 := (x 2).isLt
  have hb := b.isLt
  show S b x = S _ _
  congr 1
  · apply Fin.ext
    show b.val = (32 * b.val + 1 * (x 2).val) / 32
    omega
  · funext a; apply Fin.ext
    fin_cases a
    · show (x 0).val = 0 + 1 * (x 0).val; omega
    · show (x 1).val = 0 + 1 * (x 1).val; omega
    · show (x 2).val = (32 * b.val + 1 * (x 2).val) % 32; omega
    · show (x 3).val = 0 + 1 * (x 3).val; omega
    · show (x 4).val = 0 + 1 * (x 4).val; omega
theorem pV_in (f : Buf (Elt Ideal) ((c : Thread nD τ).loc main_v4)) : (hbPt0 c hbM0_1 f : sProp 𝕄) ⊢ bigSep Finset.univ (oHome (F := Ideal) c) := by
  iintro H
  ihave HP := (p_in (F := Ideal) c) $$ [H]
  · iexists f; iexact H
  icases HP with ⟨HP, -⟩
  iexact HP
theorem pV_out : bigSep Finset.univ (fun b => oHomeV c b (S b)) ⊢ (hbPt0 c hbM0_1 (GO c S) : sProp 𝕄) := by
  have h : ∀ b ∈ (Finset.univ : Finset (Fin 64)), oHomeV c b (S b) ⊢ (((c : Thread nD τ).loc main_v4) ↦[oBlockSet b]{fullShare} GO c S : sProp 𝕄) := by
    intro b _
    unfold oHomeV
    iintro ⟨%f, %hf, H⟩
    have e : oPieceP (F := Ideal) c b f ⊢ (((c : Thread nD τ).loc main_v4) ↦[oBlockSet b]{fullShare} GO c S : sProp 𝕄) := by rw [piece_at c S b f hf]
    iapply e
    iexact H
  refine (BI.bigSep_mono h).trans ?_
  show _ ⊢ (((c : Thread nD τ).loc main_v4) ↦{fullShare} GO c S : sProp 𝕄)
  rw [(Ring.pointsTo_blocks (ℓ := (c : Thread nD τ).loc main_v4) (q := fullShare) oBlockSet oBlockSet_disjoint oBlockSet_cover (GO c S))]
end

end Cert.Proof.KernelIdeal

end
-- ==== Proof.KV.RunA.lean ====
/- The body in case A as numbers. -/
module

public import proofs.«01_k».proof.Proof.KV.Rings
public import Idealize.ShloMosaic.Lib.VecWindow
public import proofs.«01_k».proof.Proof.Gen.KernelIdeal.Loops
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Ring.WriteBehind
public import Idealize.ShloMosaic.Lib.Tactic
public import Idealize.ShloMosaic.Lib.WordCmp

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (Pipeline.UD sig nD τ) ℕ

set_option maxHeartbeats 2000000 in
/-- The body in case A, with what the slots and blocks hold. -/
theorem runV_A (c : Dev nD) (i : grid0.Coords) (arg1 : Memref sig .tc .vmem S2x351x256 .fp8e5m2) (harg1 : arg1.IsWhole) (arg2 : Memref sig .tc .vmem S26x2x256 .f32) (harg2 : arg2.IsWhole) (arg3 : Memref sig .tc .vmem S27x2x256 .f32) (harg3 : arg3.IsWhole) (arg4 : Memref sig .tc .vmem S2x256x128 .bf16) (harg4 : arg4.IsWhole) (arg9 : Memref sig .tc .vmem S2x352x128 .f32) (harg9 : arg9.IsWhole) (arg10 : Memref sig .tc .vmem S2x2x32x128 .f32) (harg10 : arg10.IsWhole) (arg11 : Memref sig .tc .vmem S2x1008x128 .f32) (harg11 : arg11.IsWhole) (arg12 : Memref sig .tc .vmem S2x2560x2x128 .bf16) (harg12 : arg12.IsWhole) (arg13 : Memref sig .tc .vmem S2x1152x128 .f32) (harg13 : arg13.IsWhole) (hc1 : k0_cond1 i = 1#1) (hc2 : ¬k0_cond2 i = 1#1) (hc3 : k0_cond3 i = 1#1) (hc4 : ¬k0_cond4 i = 1#1) (hc7 : ¬k0_cond7 i = 1#1)
    (x0 : Vec Ideal S2x351x256 .fp8e5m2) (x1 : Vec Ideal S26x2x256 .f32) (x2 : Vec Ideal S27x2x256 .f32) (x3 : Vec Ideal S2x256x128 .bf16) (W : HbBuf0 (F := Ideal) c hbM0_0)
    (Wt : Waits sig Unit) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ Ring.free (eCellP c) (eSlotW c W) (Ring.sl 3 (i 0).val) ∗ Ring.free (eCellP c) (eSlotW c W) (Ring.sl 3 ((i 0).val + 1)) ∗ Ring.free (eCellP c) (eSlotW c W) (Ring.sl 3 ((i 0).val + 2)) ∗ oFree c (Ring.sl 3 (i 0).val) ∗ (∃ g, eRestP scM0_0 c 0 g) ∗ (∃ g, eRestP scM0_0 c 1 g) ∗ (∃ g, eRestP scM0_0 c 2 g) ∗ (∃ g, oRestP scM0_1 c (Ring.sl 3 (i 0).val) g) ∗ owes (c : Thread nD τ) 0 Wt
        ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg9 fullShare d) ∗ (∃ d, owns (c : Thread nD τ) arg10 fullShare d) ∗ (∃ d, ⌜UZ d⌝ ∗ owns (c : Thread nD τ) arg11 fullShare d) ∗ (∃ d, owns (c : Thread nD τ) arg12 fullShare d) ∗ (∃ d, ⌜DZ d⌝ ∗ owns (c : Thread nD τ) arg13 fullShare d) ∗ Ring.inflight (eFlight c W) (Ring.sl 3 ((i 0).val + 1)) (Ring.bk 64 ((i 0).val + 1)) ∗ Ring.inflight (eFlight c W) (Ring.sl 3 ((i 0).val + 2)) (Ring.bk 64 ((i 0).val + 2)) ∗ Ring.free (eCellP c) (eSlotW c W) (Ring.sl 3 (i 0).val) ∗ oFreeV c (Ring.sl 3 (i 0).val) (OB x0 x1 x2 x3 ((eSrc (Ring.bk 64 (i 0).val)).view.read (Elt Ideal) W)) ∗ (∃ g, eRestP scM0_0 c 0 g) ∗ (∃ g, eRestP scM0_0 c 1 g) ∗ (∃ g, eRestP scM0_0 c 2 g) ∗ (∃ g, oRestP scM0_1 c (Ring.sl 3 (i 0).val) g) ∗ (∃ W', owes (c : Thread nD τ) 0 W')) -∗ K ⟨⟩))
      ⊢ wp frame (wpE (defs₀ (F := Ideal)) Variants.none c none) Set.univ (cc0__body i arg1 harg1 arg2 harg2 arg3 harg3 arg4 harg4 (Memref.whole main_v3) (Memref.isWhole_whole _) (Memref.whole main_v4) (Memref.isWhole_whole _) scM0_0 (Memref.isWhole_whole _) scM0_1 (Memref.isWhole_whole _) arg9 harg9 arg10 harg10 arg11 harg11 arg12 harg12 arg13 harg13 cc0_scratch7 cc0_scratch8) K := by
  have hn : (i 0).val < 64 := (i 0).isLt
  simp only [cc0__body_eq_skeleton]; unfold cc0__body_skel
  simp only [k0_part73_eq_skeleton, k0_part72_eq_skeleton, k0_part1_eq_skeleton, k0_part2_eq_skeleton, k0_part3_eq_skeleton, k0_part4_eq_skeleton, k0_part5_eq_skeleton]
  unfold owns
  try unfold Ring.free
  try unfold Ring.inflight
  try unfold oFreeV
  try unfold oFlightV
  try unfold oHomeV
  try unfold oFree
  try unfold oHome
  unfold oTileP
  try unfold oPieceP
  unfold oRestP
  iintro ⟨⟨%f0, %hf0, H0⟩, ⟨%f1, %hf1, H1⟩, ⟨%f2, %hf2, H2⟩, ⟨%f3, %hf3, H3⟩, ⟨%ds2, %fs2, -, HS2⟩, ⟨%ds3, %fs3, -, HS3⟩, ⟨%ds4, %fs4, -, HS4⟩, ⟨%ds5, %fs5, -, HS5⟩, ⟨%ds6, %fs6, -, HS6⟩, ⟨HEc0, ⟨%fe0, HE0, HEw0⟩⟩, ⟨HEc1, ⟨%fe1, HE1, HEw1⟩⟩, ⟨HEc2, ⟨%fe2, HE2, HEw2⟩⟩, ⟨HOc0, ⟨%fo0, HO0⟩⟩, ⟨%ge0, HR0⟩, ⟨%ge1, HR1⟩, ⟨%ge2, HR2⟩, ⟨%go, HRo⟩, HW, Hk⟩
  subst hf0; subst hf1; subst hf2; subst hf3
  have h0 : (i 0).val = 0 := (hcond_1 i).1 hc1
  ihave Hsp0 := (e_src_split c W (Ring.sl 3 (i 0).val) (Ring.bk 64 (i 0).val)).1 $$ HEw0
  icases Hsp0 with ⟨HEh0, HEr0⟩
  ihave Hsp1 := (e_src_split c W (Ring.sl 3 ((i 0).val + 1)) (Ring.bk 64 ((i 0).val + 1))).1 $$ HEw1
  icases Hsp1 with ⟨HEh1, HEr1⟩
  ihave Hsp2 := (e_src_split c W (Ring.sl 3 ((i 0).val + 2)) (Ring.bk 64 ((i 0).val + 2))).1 $$ HEw2
  icases Hsp2 with ⟨HEh2, HEr2⟩
  ihave Hq0 := (e_pad scM0_0 c 0 ge0) $$ HR0
  icases Hq0 with ⟨HQ0, HM0⟩
  ihave Hq1 := (e_pad scM0_0 c 1 ge1) $$ HR1
  icases Hq1 with ⟨HQ1, HM1⟩
  ihave Hq2 := (e_pad scM0_0 c 2 ge2) $$ HR2
  icases Hq2 with ⟨HQ2, HM2⟩
  sl_exec (disch := first | sl_exact hc1 | sl_exact hc2 | sl_exact hc3 | sl_exact hc4 | sl_exact hc7)
  ihave Hq0 := (e_unpad scM0_0 c 0 _ ge0) $$ [HQ0 HM0]
  · isplitl [HQ0]; · iexact HQ0
    iexact HM0
  icases Hq0 with ⟨%gf0, HR0⟩
  ihave Hq1 := (e_unpad scM0_0 c 1 _ ge1) $$ [HQ1 HM1]
  · isplitl [HQ1]; · iexact HQ1
    iexact HM1
  icases Hq1 with ⟨%gf1, HR1⟩
  ihave Hq2 := (e_unpad scM0_0 c 2 _ ge2) $$ [HQ2 HM2]
  · isplitl [HQ2]; · iexact HQ2
    iexact HM2
  icases Hq2 with ⟨%gf2, HR2⟩
  ihave HR := (e_rest0 c h0 gf0).1 $$ HR0
  unfold eRestP
  sl_exec (disch := first | sl_exact hc1 | sl_exact hc2 | sl_exact hc3 | sl_exact hc4 | sl_exact hc7)
  ihave HX := (pt_name arg11 c _ _) $$ HS4
  icases HX with ⟨%fz4, %hfz4, HS4⟩
  ihave HX := (pt_name arg13 c _ _) $$ HS6
  icases HX with ⟨%fz6, %hfz6, HS6⟩
  have hz4 : UZ (arg11.view.read (Elt Ideal) fz4) := by
    rw [hfz4]
    sl_unfold_run_names
    rw [View.read_writes_full]
    intro y _
    unfold_payloads
    pointwise
  have hz6 : DZ (arg13.view.read (Elt Ideal) fz6) := by
    rw [hfz6]
    sl_unfold_run_names
    rw [View.read_writes_full]
    intro y _
    unfold_payloads
    pointwise
  sl_for (fun n _ => iprop((∃ f, ⌜(eBox scM0_0 (Ring.sl 3 (i 0).val)).view.read (Elt Ideal) f = ((eSrc (Ring.bk 64 (i 0).val)).view.read (Elt Ideal) W)⌝ ∗ (eBox scM0_0 (Ring.sl 3 (i 0).val)).view.loc (c : Thread nD τ) ↦[(eBox scM0_0 (Ring.sl 3 (i 0).val)).view.set]{fullShare} f)
    ∗ (∃ g, eRestP (F := Ideal) scM0_0 c (Ring.sl 3 (i 0).val) g)
    ∗ (∃ g, oRestP (F := Ideal) scM0_1 c (Ring.sl 3 (i 0).val) g)
    ∗ (arg1.view.loc (c : Thread nD τ) ↦[arg1.view.set]{fullShare} f0) ∗ (arg2.view.loc (c : Thread nD τ) ↦[arg2.view.set]{fullShare} f1) ∗ (arg3.view.loc (c : Thread nD τ) ↦[arg3.view.set]{fullShare} f2) ∗ (arg4.view.loc (c : Thread nD τ) ↦[arg4.view.set]{fullShare} f3)
    ∗ (∃ f, arg9.view.loc (c : Thread nD τ) ↦[arg9.view.set]{fullShare} f) ∗ (∃ f, arg10.view.loc (c : Thread nD τ) ↦[arg10.view.set]{fullShare} f)
    ∗ (∃ f11 f12 f13 fo, ⌜ChunkOK (arg1.view.read (Elt Ideal) f0) (arg2.view.read (Elt Ideal) f1) (arg3.view.read (Elt Ideal) f2) (arg4.view.read (Elt Ideal) f3) ((eSrc (Ring.bk 64 (i 0).val)).view.read (Elt Ideal) W) n (arg11.view.read (Elt Ideal) f11) (arg12.view.read (Elt Ideal) f12) (arg13.view.read (Elt Ideal) f13) ((oTile scM0_1 (Ring.sl 3 (i 0).val)).view.read (Elt Ideal) fo)⌝
      ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)
      ∗ (oTile scM0_1 (Ring.sl 3 (i 0).val)).view.loc (c : Thread nD τ) ↦[(oTile scM0_1 (Ring.sl 3 (i 0).val)).view.set]{fullShare} fo))) $$ [HE0 HR HRo H0 H1 H2 H3 HS2 HS3 HS4 HS5 HS6 HO0]
  · intro k acc
    exact (chunkInv c i arg1 harg1 arg2 harg2 arg3 harg3 arg4 harg4 _ _ _ _ scM0_0 (Memref.isWhole_whole _) scM0_1 (Memref.isWhole_whole _) arg9 harg9 arg10 harg10 arg11 harg11 arg12 harg12 arg13 harg13 cc0_scratch7 cc0_scratch8 f0 f1 f2 f3 _ _ _ _ mask_ok quad_ok ((eSrc (Ring.bk 64 (i 0).val)).view.read (Elt Ideal) W)).step k acc
  · isplitl [HE0]
    · iexists _; isplitr; swap; · iexact HE0
      ipureintro; exact read_whole _ _ _
    isplitl [HR]
    · unfold eRestP; iexists _; iexact HR
    isplitl [HRo]
    · unfold oRestP; iexists _; iexact HRo
    isplitl [H0]; · iexact H0
    isplitl [H1]; · iexact H1
    isplitl [H2]; · iexact H2
    isplitl [H3]; · iexact H3
    isplitl [HS2]; · iexists _; iexact HS2
    isplitl [HS3]; · iexists _; iexact HS3
    iexists _, _, _, _
    isplitr; swap
    · isplitl [HS4]; · iexact HS4
      isplitl [HS5]; · iexact HS5
      isplitl [HS6]; · iexact HS6
      iexact HO0
    ipureintro
    exact ⟨hz4, hz6, fun h => absurd h (by decide), fun h => absurd h (by decide), fun y h => absurd h (Nat.not_lt_zero _)⟩
  iintro %acc ⟨⟨%fE, %hfE, HE0⟩, ⟨%gE', HR⟩, ⟨%gO', HRo⟩, H0, H1, H2, H3, ⟨%f9, HS2⟩, ⟨%f10, HS3⟩, ⟨%f11, %f12, %f13, %fo, %hC, HS4, HS5, HS6, HO0⟩⟩
  unfold eRestP oRestP
  have hown := tilesOK_all hC.og
  sl_exec (disch := first | sl_exact hc1 | sl_exact hc2 | sl_exact hc3 | sl_exact hc4 | sl_exact hc7)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [HS2]
  · iexists _, _; isplitr; swap; · iexact HS2
    ipureintro; rfl
  isplitl [HS3]
  · iexists _, _; isplitr; swap; · iexact HS3
    ipureintro; rfl
  isplitl [HS4]
  · iexists _; isplitr; · ipureintro; exact hC.uz
    iexists _; isplitr; · ipureintro; rfl
    iexact HS4
  isplitl [HS5]
  · iexists _, _; isplitr; swap; · iexact HS5
    ipureintro; rfl
  isplitl [HS6]
  · iexists _; isplitr; · ipureintro; exact hC.dz
    iexists _; isplitr; · ipureintro; rfl
    iexact HS6
  isplitl [HEc1 HEr1]
  · iexists _; isplitl [HEc1]; · iexact HEc1
    iexact HEr1
  isplitl [HEc2 HEr2]
  · iexists _; isplitl [HEc2]; · iexact HEc2
    iexact HEr2
  isplitl [HEc0 HE0 HEh0 HEr0]
  · isplitl [HEc0]; · iexact HEc0
    iexists _; isplitl [HE0]; · iexact HE0
    iapply (e_src_split c W (Ring.sl 3 (i 0).val) (Ring.bk 64 (i 0).val)).2; isplitl [HEh0]; · iexact HEh0
    iexact HEr0
  isplitl [HOc0 HO0]
  · isplitl [HOc0]; · iexact HOc0
    iexists _; isplitr; swap; · iexact HO0
    ipureintro; exact hown
  isplitl [HR]
  · ihave HRb := (e_rest0u c h0 _) $$ HR
    iexists _; iexact HRb
  isplitl [HR1]; · iexists _; iexact HR1
  isplitl [HR2]; · iexists _; iexact HR2
  isplitl [HRo]; · iexists _; iexact HRo
  iexists _; iexact HW

end Cert.Proof.KernelIdeal

end
-- ==== Proof.KV.RunB.lean ====
/- The body in case B as numbers. -/
module

public import proofs.«01_k».proof.Proof.KV.Rings
public import proofs.«01_k».proof.Proof.Gen.KernelIdeal.Loops
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Ring.WriteBehind
public import Idealize.ShloMosaic.Lib.Tactic
public import Idealize.ShloMosaic.Lib.WordCmp

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (Pipeline.UD sig nD τ) ℕ

set_option maxHeartbeats 2000000 in
/-- The body in case B, with what the slots and blocks hold. -/
theorem runV_B (c : Dev nD) (i : grid0.Coords) (arg1 : Memref sig .tc .vmem S2x351x256 .fp8e5m2) (harg1 : arg1.IsWhole) (arg2 : Memref sig .tc .vmem S26x2x256 .f32) (harg2 : arg2.IsWhole) (arg3 : Memref sig .tc .vmem S27x2x256 .f32) (harg3 : arg3.IsWhole) (arg4 : Memref sig .tc .vmem S2x256x128 .bf16) (harg4 : arg4.IsWhole) (arg9 : Memref sig .tc .vmem S2x352x128 .f32) (harg9 : arg9.IsWhole) (arg10 : Memref sig .tc .vmem S2x2x32x128 .f32) (harg10 : arg10.IsWhole) (arg11 : Memref sig .tc .vmem S2x1008x128 .f32) (harg11 : arg11.IsWhole) (arg12 : Memref sig .tc .vmem S2x2560x2x128 .bf16) (harg12 : arg12.IsWhole) (arg13 : Memref sig .tc .vmem S2x1152x128 .f32) (harg13 : arg13.IsWhole) (hc1 : ¬k0_cond1 i = 1#1) (hc2 : k0_cond2 i = 1#1) (hc3 : k0_cond3 i = 1#1) (hc4 : ¬k0_cond4 i = 1#1) (hc7 : ¬k0_cond7 i = 1#1)
    (x0 : Vec Ideal S2x351x256 .fp8e5m2) (x1 : Vec Ideal S26x2x256 .f32) (x2 : Vec Ideal S27x2x256 .f32) (x3 : Vec Ideal S2x256x128 .bf16) (W : HbBuf0 (F := Ideal) c hbM0_0)
    (r1 r2 r3 : S2x27x32x8x128.Idx → Elt Ideal .bf16) (Wt : Waits sig Unit) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg9 fullShare d) ∗ (∃ d, owns (c : Thread nD τ) arg10 fullShare d) ∗ (∃ d, ⌜UZ d⌝ ∗ owns (c : Thread nD τ) arg11 fullShare d) ∗ (∃ d, owns (c : Thread nD τ) arg12 fullShare d) ∗ (∃ d, ⌜DZ d⌝ ∗ owns (c : Thread nD τ) arg13 fullShare d) ∗ Ring.inflight (eFlight c W) (Ring.sl 3 (i 0).val) (Ring.bk 64 (i 0).val) ∗ Ring.free (eCellP c) (eSlotW c W) (Ring.sl 3 ((i 0).val + 2)) ∗ oHome c (Ring.bk 64 ((i 0).val - 1)) ∗ oFreeV c (Ring.sl 3 ((i 0).val + 2)) r1 ∗ oFree c (Ring.sl 3 (i 0).val) ∗ (∃ g, eRestP scM0_0 c (Ring.sl 3 (i 0).val) g) ∗ (∃ g, oRestP scM0_1 c (Ring.sl 3 (i 0).val) g) ∗ owes (c : Thread nD τ) 0 Wt
        ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg9 fullShare d) ∗ (∃ d, owns (c : Thread nD τ) arg10 fullShare d) ∗ (∃ d, ⌜UZ d⌝ ∗ owns (c : Thread nD τ) arg11 fullShare d) ∗ (∃ d, owns (c : Thread nD τ) arg12 fullShare d) ∗ (∃ d, ⌜DZ d⌝ ∗ owns (c : Thread nD τ) arg13 fullShare d) ∗ Ring.inflight (eFlight c W) (Ring.sl 3 ((i 0).val + 2)) (Ring.bk 64 ((i 0).val + 2)) ∗ Ring.free (eCellP c) (eSlotW c W) (Ring.sl 3 (i 0).val) ∗ oFlightV c (Ring.sl 3 ((i 0).val + 2)) (Ring.bk 64 ((i 0).val - 1)) r1 ∗ oFreeV c (Ring.sl 3 (i 0).val) (OB x0 x1 x2 x3 ((eSrc (Ring.bk 64 (i 0).val)).view.read (Elt Ideal) W)) ∗ (∃ g, eRestP scM0_0 c (Ring.sl 3 (i 0).val) g) ∗ (∃ g, oRestP scM0_1 c (Ring.sl 3 (i 0).val) g) ∗ (∃ W', owes (c : Thread nD τ) 0 W')) -∗ K ⟨⟩))
      ⊢ wp frame (wpE (defs₀ (F := Ideal)) Variants.none c none) Set.univ (cc0__body i arg1 harg1 arg2 harg2 arg3 harg3 arg4 harg4 (Memref.whole main_v3) (Memref.isWhole_whole _) (Memref.whole main_v4) (Memref.isWhole_whole _) scM0_0 (Memref.isWhole_whole _) scM0_1 (Memref.isWhole_whole _) arg9 harg9 arg10 harg10 arg11 harg11 arg12 harg12 arg13 harg13 cc0_scratch7 cc0_scratch8) K := by
  have hn : (i 0).val < 64 := (i 0).isLt
  simp only [cc0__body_eq_skeleton]; unfold cc0__body_skel
  simp only [k0_part73_eq_skeleton, k0_part72_eq_skeleton, k0_part1_eq_skeleton, k0_part2_eq_skeleton, k0_part3_eq_skeleton, k0_part4_eq_skeleton, k0_part5_eq_skeleton]
  unfold owns
  try unfold Ring.free
  try unfold Ring.inflight
  try unfold oFreeV
  try unfold oFlightV
  try unfold oHomeV
  try unfold oFree
  try unfold oHome
  unfold oTileP
  try unfold oPieceP
  try unfold eRestP
  unfold oRestP
  iintro ⟨⟨%f0, %hf0, H0⟩, ⟨%f1, %hf1, H1⟩, ⟨%f2, %hf2, H2⟩, ⟨%f3, %hf3, H3⟩, ⟨%ds2, %fs2, -, HS2⟩, ⟨%ds3, %fs3, -, HS3⟩, ⟨%ds4, %hz4, %fs4, %hf4, HS4⟩, ⟨%ds5, %fs5, -, HS5⟩, ⟨%ds6, %hz6, %fs6, %hf6, HS6⟩, ⟨%fe0, HE0, HEr0⟩, ⟨HEc2, ⟨%fe2, HE2, HEw2⟩⟩, ⟨%fp1, HP1⟩, ⟨HOc2, ⟨%fo2, %ho2, HO2⟩⟩, ⟨HOc0, ⟨%fo0, HO0⟩⟩, ⟨%ge0, HR0⟩, ⟨%go, HRo⟩, HW, Hk⟩
  subst hf4; subst hf6
  subst hf0; subst hf1; subst hf2; subst hf3
  ihave Hsp2 := (e_src_split c W (Ring.sl 3 ((i 0).val + 2)) (Ring.bk 64 ((i 0).val + 2))).1 $$ HEw2
  icases Hsp2 with ⟨HEh2, HEr2⟩
  sl_exec (disch := first | sl_exact hc1 | sl_exact hc2 | sl_exact hc3 | sl_exact hc4 | sl_exact hc7)
  sl_for (fun n _ => iprop((∃ f, ⌜(eBox scM0_0 (Ring.sl 3 (i 0).val)).view.read (Elt Ideal) f = ((eSrc (Ring.bk 64 (i 0).val)).view.read (Elt Ideal) W)⌝ ∗ (eBox scM0_0 (Ring.sl 3 (i 0).val)).view.loc (c : Thread nD τ) ↦[(eBox scM0_0 (Ring.sl 3 (i 0).val)).view.set]{fullShare} f)
    ∗ (∃ g, eRestP (F := Ideal) scM0_0 c (Ring.sl 3 (i 0).val) g)
    ∗ (∃ g, oRestP (F := Ideal) scM0_1 c (Ring.sl 3 (i 0).val) g)
    ∗ (arg1.view.loc (c : Thread nD τ) ↦[arg1.view.set]{fullShare} f0) ∗ (arg2.view.loc (c : Thread nD τ) ↦[arg2.view.set]{fullShare} f1) ∗ (arg3.view.loc (c : Thread nD τ) ↦[arg3.view.set]{fullShare} f2) ∗ (arg4.view.loc (c : Thread nD τ) ↦[arg4.view.set]{fullShare} f3)
    ∗ (∃ f, arg9.view.loc (c : Thread nD τ) ↦[arg9.view.set]{fullShare} f) ∗ (∃ f, arg10.view.loc (c : Thread nD τ) ↦[arg10.view.set]{fullShare} f)
    ∗ (∃ f11 f12 f13 fo, ⌜ChunkOK (arg1.view.read (Elt Ideal) f0) (arg2.view.read (Elt Ideal) f1) (arg3.view.read (Elt Ideal) f2) (arg4.view.read (Elt Ideal) f3) ((eSrc (Ring.bk 64 (i 0).val)).view.read (Elt Ideal) W) n (arg11.view.read (Elt Ideal) f11) (arg12.view.read (Elt Ideal) f12) (arg13.view.read (Elt Ideal) f13) ((oTile scM0_1 (Ring.sl 3 (i 0).val)).view.read (Elt Ideal) fo)⌝
      ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)
      ∗ (oTile scM0_1 (Ring.sl 3 (i 0).val)).view.loc (c : Thread nD τ) ↦[(oTile scM0_1 (Ring.sl 3 (i 0).val)).view.set]{fullShare} fo))) $$ [HE0_dst HR0 HRo H0 H1 H2 H3 HS2 HS3 HS4 HS5 HS6 HO0]
  · intro k acc
    exact (chunkInv c i arg1 harg1 arg2 harg2 arg3 harg3 arg4 harg4 _ _ _ _ scM0_0 (Memref.isWhole_whole _) scM0_1 (Memref.isWhole_whole _) arg9 harg9 arg10 harg10 arg11 harg11 arg12 harg12 arg13 harg13 cc0_scratch7 cc0_scratch8 f0 f1 f2 f3 _ _ _ _ mask_ok quad_ok ((eSrc (Ring.bk 64 (i 0).val)).view.read (Elt Ideal) W)).step k acc
  · isplitl [HE0_dst]
    · iexists _; isplitr; swap; · iexact HE0_dst
      ipureintro; exact read_whole _ _ _
    isplitl [HR0]
    · unfold eRestP; iexists _; iexact HR0
    isplitl [HRo]
    · unfold oRestP; iexists _; iexact HRo
    isplitl [H0]; · iexact H0
    isplitl [H1]; · iexact H1
    isplitl [H2]; · iexact H2
    isplitl [H3]; · iexact H3
    isplitl [HS2]; · iexists _; iexact HS2
    isplitl [HS3]; · iexists _; iexact HS3
    iexists _, _, _, _
    isplitr; swap
    · isplitl [HS4]; · iexact HS4
      isplitl [HS5]; · iexact HS5
      isplitl [HS6]; · iexact HS6
      iexact HO0
    ipureintro
    exact ⟨hz4, hz6, fun h => absurd h (by decide), fun h => absurd h (by decide), fun y h => absurd h (Nat.not_lt_zero _)⟩
  iintro %acc ⟨⟨%fE, %hfE, HE0_dst⟩, ⟨%gE', HR0⟩, ⟨%gO', HRo⟩, H0, H1, H2, H3, ⟨%f9, HS2⟩, ⟨%f10, HS3⟩, ⟨%f11, %f12, %f13, %fo, %hC, HS4, HS5, HS6, HO0⟩⟩
  unfold eRestP oRestP
  have hown := tilesOK_all hC.og
  sl_exec (disch := first | sl_exact hc1 | sl_exact hc2 | sl_exact hc3 | sl_exact hc4 | sl_exact hc7)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [HS2]
  · iexists _, _; isplitr; swap; · iexact HS2
    ipureintro; rfl
  isplitl [HS3]
  · iexists _, _; isplitr; swap; · iexact HS3
    ipureintro; rfl
  isplitl [HS4]
  · iexists _; isplitr; · ipureintro; exact hC.uz
    iexists _; isplitr; · ipureintro; rfl
    iexact HS4
  isplitl [HS5]
  · iexists _, _; isplitr; swap; · iexact HS5
    ipureintro; rfl
  isplitl [HS6]
  · iexists _; isplitr; · ipureintro; exact hC.dz
    iexists _; isplitr; · ipureintro; rfl
    iexact HS6
  isplitl [HEc2 HEr2]
  · iexists _; isplitl [HEc2]; · iexact HEc2
    iexact HEr2
  isplitl [HE0 HE0_dst HE0_src HEr0]
  · isplitl [HE0]; · iexact HE0
    iexists _; isplitl [HE0_dst]; · iexact HE0_dst
    iapply (e_src_split c W (Ring.sl 3 (i 0).val) (Ring.bk 64 (i 0).val)).2; isplitl [HE0_src]; · iexact HE0_src
    iexact HEr0
  isplitl [HOc2]
  · iexists _, _; isplitr; swap; · iexact HOc2
    ipureintro; exact (read_whole _ _ _).trans ho2
  isplitl [HOc0 HO0]
  · isplitl [HOc0]; · iexact HOc0
    iexists _; isplitr; swap; · iexact HO0
    ipureintro; exact hown
  isplitl [HR0]; · iexists _; iexact HR0
  isplitl [HRo]; · iexists _; iexact HRo
  iexists _; iexact HW

end Cert.Proof.KernelIdeal

end
-- ==== Proof.KV.RunC.lean ====
/- The body in case C as numbers. -/
module

public import proofs.«01_k».proof.Proof.KV.Rings
public import proofs.«01_k».proof.Proof.Gen.KernelIdeal.Loops
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Ring.WriteBehind
public import Idealize.ShloMosaic.Lib.Tactic
public import Idealize.ShloMosaic.Lib.WordCmp

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (Pipeline.UD sig nD τ) ℕ

set_option maxHeartbeats 2000000 in
/-- The body in case C, with what the slots and blocks hold. -/
theorem runV_C (c : Dev nD) (i : grid0.Coords) (arg1 : Memref sig .tc .vmem S2x351x256 .fp8e5m2) (harg1 : arg1.IsWhole) (arg2 : Memref sig .tc .vmem S26x2x256 .f32) (harg2 : arg2.IsWhole) (arg3 : Memref sig .tc .vmem S27x2x256 .f32) (harg3 : arg3.IsWhole) (arg4 : Memref sig .tc .vmem S2x256x128 .bf16) (harg4 : arg4.IsWhole) (arg9 : Memref sig .tc .vmem S2x352x128 .f32) (harg9 : arg9.IsWhole) (arg10 : Memref sig .tc .vmem S2x2x32x128 .f32) (harg10 : arg10.IsWhole) (arg11 : Memref sig .tc .vmem S2x1008x128 .f32) (harg11 : arg11.IsWhole) (arg12 : Memref sig .tc .vmem S2x2560x2x128 .bf16) (harg12 : arg12.IsWhole) (arg13 : Memref sig .tc .vmem S2x1152x128 .f32) (harg13 : arg13.IsWhole) (hc1 : ¬k0_cond1 i = 1#1) (hc2 : k0_cond2 i = 1#1) (hc3 : k0_cond3 i = 1#1) (hc4 : k0_cond4 i = 1#1) (hc7 : ¬k0_cond7 i = 1#1)
    (x0 : Vec Ideal S2x351x256 .fp8e5m2) (x1 : Vec Ideal S26x2x256 .f32) (x2 : Vec Ideal S27x2x256 .f32) (x3 : Vec Ideal S2x256x128 .bf16) (W : HbBuf0 (F := Ideal) c hbM0_0)
    (r1 r2 r3 : S2x27x32x8x128.Idx → Elt Ideal .bf16) (Wt : Waits sig Unit) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg9 fullShare d) ∗ (∃ d, owns (c : Thread nD τ) arg10 fullShare d) ∗ (∃ d, ⌜UZ d⌝ ∗ owns (c : Thread nD τ) arg11 fullShare d) ∗ (∃ d, owns (c : Thread nD τ) arg12 fullShare d) ∗ (∃ d, ⌜DZ d⌝ ∗ owns (c : Thread nD τ) arg13 fullShare d) ∗ Ring.inflight (eFlight c W) (Ring.sl 3 (i 0).val) (Ring.bk 64 (i 0).val) ∗ Ring.free (eCellP c) (eSlotW c W) (Ring.sl 3 ((i 0).val + 2)) ∗ oHome c (Ring.bk 64 ((i 0).val - 1)) ∗ oFreeV c (Ring.sl 3 ((i 0).val + 2)) r1 ∗ oFlightV c (Ring.sl 3 (i 0).val) (Ring.bk 64 ((i 0).val - 3)) r3 ∗ (∃ g, eRestP scM0_0 c (Ring.sl 3 (i 0).val) g) ∗ (∃ g, oRestP scM0_1 c (Ring.sl 3 (i 0).val) g) ∗ owes (c : Thread nD τ) 0 Wt
        ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg9 fullShare d) ∗ (∃ d, owns (c : Thread nD τ) arg10 fullShare d) ∗ (∃ d, ⌜UZ d⌝ ∗ owns (c : Thread nD τ) arg11 fullShare d) ∗ (∃ d, owns (c : Thread nD τ) arg12 fullShare d) ∗ (∃ d, ⌜DZ d⌝ ∗ owns (c : Thread nD τ) arg13 fullShare d) ∗ Ring.inflight (eFlight c W) (Ring.sl 3 ((i 0).val + 2)) (Ring.bk 64 ((i 0).val + 2)) ∗ Ring.free (eCellP c) (eSlotW c W) (Ring.sl 3 (i 0).val) ∗ oHomeV c (Ring.bk 64 ((i 0).val - 3)) r3 ∗ oFlightV c (Ring.sl 3 ((i 0).val + 2)) (Ring.bk 64 ((i 0).val - 1)) r1 ∗ oFreeV c (Ring.sl 3 (i 0).val) (OB x0 x1 x2 x3 ((eSrc (Ring.bk 64 (i 0).val)).view.read (Elt Ideal) W)) ∗ (∃ g, eRestP scM0_0 c (Ring.sl 3 (i 0).val) g) ∗ (∃ g, oRestP scM0_1 c (Ring.sl 3 (i 0).val) g) ∗ (∃ W', owes (c : Thread nD τ) 0 W')) -∗ K ⟨⟩))
      ⊢ wp frame (wpE (defs₀ (F := Ideal)) Variants.none c none) Set.univ (cc0__body i arg1 harg1 arg2 harg2 arg3 harg3 arg4 harg4 (Memref.whole main_v3) (Memref.isWhole_whole _) (Memref.whole main_v4) (Memref.isWhole_whole _) scM0_0 (Memref.isWhole_whole _) scM0_1 (Memref.isWhole_whole _) arg9 harg9 arg10 harg10 arg11 harg11 arg12 harg12 arg13 harg13 cc0_scratch7 cc0_scratch8) K := by
  have hn : (i 0).val < 64 := (i 0).isLt
  simp only [cc0__body_eq_skeleton]; unfold cc0__body_skel
  simp only [k0_part73_eq_skeleton, k0_part72_eq_skeleton, k0_part1_eq_skeleton, k0_part2_eq_skeleton, k0_part3_eq_skeleton, k0_part4_eq_skeleton, k0_part5_eq_skeleton]
  unfold owns
  try unfold Ring.free
  try unfold Ring.inflight
  try unfold oFreeV
  try unfold oFlightV
  try unfold oHomeV
  try unfold oFree
  try unfold oHome
  unfold oTileP
  try unfold oPieceP
  try unfold eRestP
  unfold oRestP
  iintro ⟨⟨%f0, %hf0, H0⟩, ⟨%f1, %hf1, H1⟩, ⟨%f2, %hf2, H2⟩, ⟨%f3, %hf3, H3⟩, ⟨%ds2, %fs2, -, HS2⟩, ⟨%ds3, %fs3, -, HS3⟩, ⟨%ds4, %hz4, %fs4, %hf4, HS4⟩, ⟨%ds5, %fs5, -, HS5⟩, ⟨%ds6, %hz6, %fs6, %hf6, HS6⟩, ⟨%fe0, HE0, HEr0⟩, ⟨HEc2, ⟨%fe2, HE2, HEw2⟩⟩, ⟨%fp1, HP1⟩, ⟨HOc2, ⟨%fo2, %ho2, HO2⟩⟩, ⟨%ff0, %fg0, %hff0, HOf0⟩, ⟨%ge0, HR0⟩, ⟨%go, HRo⟩, HW, Hk⟩
  subst hf4; subst hf6
  subst hf0; subst hf1; subst hf2; subst hf3
  ihave Hsp2 := (e_src_split c W (Ring.sl 3 ((i 0).val + 2)) (Ring.bk 64 ((i 0).val + 2))).1 $$ HEw2
  icases Hsp2 with ⟨HEh2, HEr2⟩
  sl_exec (disch := first | sl_exact hc1 | sl_exact hc2 | sl_exact hc3 | sl_exact hc4 | sl_exact hc7)
  sl_for (fun n _ => iprop((∃ f, ⌜(eBox scM0_0 (Ring.sl 3 (i 0).val)).view.read (Elt Ideal) f = ((eSrc (Ring.bk 64 (i 0).val)).view.read (Elt Ideal) W)⌝ ∗ (eBox scM0_0 (Ring.sl 3 (i 0).val)).view.loc (c : Thread nD τ) ↦[(eBox scM0_0 (Ring.sl 3 (i 0).val)).view.set]{fullShare} f)
    ∗ (∃ g, eRestP (F := Ideal) scM0_0 c (Ring.sl 3 (i 0).val) g)
    ∗ (∃ g, oRestP (F := Ideal) scM0_1 c (Ring.sl 3 (i 0).val) g)
    ∗ (arg1.view.loc (c : Thread nD τ) ↦[arg1.view.set]{fullShare} f0) ∗ (arg2.view.loc (c : Thread nD τ) ↦[arg2.view.set]{fullShare} f1) ∗ (arg3.view.loc (c : Thread nD τ) ↦[arg3.view.set]{fullShare} f2) ∗ (arg4.view.loc (c : Thread nD τ) ↦[arg4.view.set]{fullShare} f3)
    ∗ (∃ f, arg9.view.loc (c : Thread nD τ) ↦[arg9.view.set]{fullShare} f) ∗ (∃ f, arg10.view.loc (c : Thread nD τ) ↦[arg10.view.set]{fullShare} f)
    ∗ (∃ f11 f12 f13 fo, ⌜ChunkOK (arg1.view.read (Elt Ideal) f0) (arg2.view.read (Elt Ideal) f1) (arg3.view.read (Elt Ideal) f2) (arg4.view.read (Elt Ideal) f3) ((eSrc (Ring.bk 64 (i 0).val)).view.read (Elt Ideal) W) n (arg11.view.read (Elt Ideal) f11) (arg12.view.read (Elt Ideal) f12) (arg13.view.read (Elt Ideal) f13) ((oTile scM0_1 (Ring.sl 3 (i 0).val)).view.read (Elt Ideal) fo)⌝
      ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)
      ∗ (oTile scM0_1 (Ring.sl 3 (i 0).val)).view.loc (c : Thread nD τ) ↦[(oTile scM0_1 (Ring.sl 3 (i 0).val)).view.set]{fullShare} fo))) $$ [HE0_dst HR0 HRo H0 H1 H2 H3 HS2 HS3 HS4 HS5 HS6 HOf0_src]
  · intro k acc
    exact (chunkInv c i arg1 harg1 arg2 harg2 arg3 harg3 arg4 harg4 _ _ _ _ scM0_0 (Memref.isWhole_whole _) scM0_1 (Memref.isWhole_whole _) arg9 harg9 arg10 harg10 arg11 harg11 arg12 harg12 arg13 harg13 cc0_scratch7 cc0_scratch8 f0 f1 f2 f3 _ _ _ _ mask_ok quad_ok ((eSrc (Ring.bk 64 (i 0).val)).view.read (Elt Ideal) W)).step k acc
  · isplitl [HE0_dst]
    · iexists _; isplitr; swap; · iexact HE0_dst
      ipureintro; exact read_whole _ _ _
    isplitl [HR0]
    · unfold eRestP; iexists _; iexact HR0
    isplitl [HRo]
    · unfold oRestP; iexists _; iexact HRo
    isplitl [H0]; · iexact H0
    isplitl [H1]; · iexact H1
    isplitl [H2]; · iexact H2
    isplitl [H3]; · iexact H3
    isplitl [HS2]; · iexists _; iexact HS2
    isplitl [HS3]; · iexists _; iexact HS3
    iexists _, _, _, _
    isplitr; swap
    · isplitl [HS4]; · iexact HS4
      isplitl [HS5]; · iexact HS5
      isplitl [HS6]; · iexact HS6
      iexact HOf0_src
    ipureintro
    exact ⟨hz4, hz6, fun h => absurd h (by decide), fun h => absurd h (by decide), fun y h => absurd h (Nat.not_lt_zero _)⟩
  iintro %acc ⟨⟨%fE, %hfE, HE0_dst⟩, ⟨%gE', HR0⟩, ⟨%gO', HRo⟩, H0, H1, H2, H3, ⟨%f9, HS2⟩, ⟨%f10, HS3⟩, ⟨%f11, %f12, %f13, %fo, %hC, HS4, HS5, HS6, HOf0_src⟩⟩
  unfold eRestP oRestP
  have hown := tilesOK_all hC.og
  sl_exec (disch := first | sl_exact hc1 | sl_exact hc2 | sl_exact hc3 | sl_exact hc4 | sl_exact hc7)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [HS2]
  · iexists _, _; isplitr; swap; · iexact HS2
    ipureintro; rfl
  isplitl [HS3]
  · iexists _, _; isplitr; swap; · iexact HS3
    ipureintro; rfl
  isplitl [HS4]
  · iexists _; isplitr; · ipureintro; exact hC.uz
    iexists _; isplitr; · ipureintro; rfl
    iexact HS4
  isplitl [HS5]
  · iexists _, _; isplitr; swap; · iexact HS5
    ipureintro; rfl
  isplitl [HS6]
  · iexists _; isplitr; · ipureintro; exact hC.dz
    iexists _; isplitr; · ipureintro; rfl
    iexact HS6
  isplitl [HEc2 HEr2]
  · iexists _; isplitl [HEc2]; · iexact HEc2
    iexact HEr2
  isplitl [HE0 HE0_dst HE0_src HEr0]
  · isplitl [HE0]; · iexact HE0
    iexists _; isplitl [HE0_dst]; · iexact HE0_dst
    iapply (e_src_split c W (Ring.sl 3 (i 0).val) (Ring.bk 64 (i 0).val)).2; isplitl [HE0_src]; · iexact HE0_src
    iexact HEr0
  isplitl [HOf0_dst]
  · iexists _; isplitr; swap; · iexact HOf0_dst
    ipureintro; exact hff0
  isplitl [HOc2]
  · iexists _, _; isplitr; swap; · iexact HOc2
    ipureintro; exact (read_whole _ _ _).trans ho2
  isplitl [HOf0 HOf0_src]
  · isplitl [HOf0]; · iexact HOf0
    iexists _; isplitr; swap; · iexact HOf0_src
    ipureintro; exact hown
  isplitl [HR0]; · iexists _; iexact HR0
  isplitl [HRo]; · iexists _; iexact HRo
  iexists _; iexact HW

end Cert.Proof.KernelIdeal

end
-- ==== Proof.KV.RunD.lean ====
/- The body in case D as numbers. -/
module

public import proofs.«01_k».proof.Proof.KV.Rings
public import proofs.«01_k».proof.Proof.Gen.KernelIdeal.Loops
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Ring.WriteBehind
public import Idealize.ShloMosaic.Lib.Tactic
public import Idealize.ShloMosaic.Lib.WordCmp

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (Pipeline.UD sig nD τ) ℕ

set_option maxHeartbeats 2000000 in
/-- The body in case D, with what the slots and blocks hold. -/
theorem runV_D (c : Dev nD) (i : grid0.Coords) (arg1 : Memref sig .tc .vmem S2x351x256 .fp8e5m2) (harg1 : arg1.IsWhole) (arg2 : Memref sig .tc .vmem S26x2x256 .f32) (harg2 : arg2.IsWhole) (arg3 : Memref sig .tc .vmem S27x2x256 .f32) (harg3 : arg3.IsWhole) (arg4 : Memref sig .tc .vmem S2x256x128 .bf16) (harg4 : arg4.IsWhole) (arg9 : Memref sig .tc .vmem S2x352x128 .f32) (harg9 : arg9.IsWhole) (arg10 : Memref sig .tc .vmem S2x2x32x128 .f32) (harg10 : arg10.IsWhole) (arg11 : Memref sig .tc .vmem S2x1008x128 .f32) (harg11 : arg11.IsWhole) (arg12 : Memref sig .tc .vmem S2x2560x2x128 .bf16) (harg12 : arg12.IsWhole) (arg13 : Memref sig .tc .vmem S2x1152x128 .f32) (harg13 : arg13.IsWhole) (hc1 : ¬k0_cond1 i = 1#1) (hc2 : k0_cond2 i = 1#1) (hc3 : ¬k0_cond3 i = 1#1) (hc4 : k0_cond4 i = 1#1) (hc7 : ¬k0_cond7 i = 1#1)
    (x0 : Vec Ideal S2x351x256 .fp8e5m2) (x1 : Vec Ideal S26x2x256 .f32) (x2 : Vec Ideal S27x2x256 .f32) (x3 : Vec Ideal S2x256x128 .bf16) (W : HbBuf0 (F := Ideal) c hbM0_0)
    (r1 r2 r3 : S2x27x32x8x128.Idx → Elt Ideal .bf16) (Wt : Waits sig Unit) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg9 fullShare d) ∗ (∃ d, owns (c : Thread nD τ) arg10 fullShare d) ∗ (∃ d, ⌜UZ d⌝ ∗ owns (c : Thread nD τ) arg11 fullShare d) ∗ (∃ d, owns (c : Thread nD τ) arg12 fullShare d) ∗ (∃ d, ⌜DZ d⌝ ∗ owns (c : Thread nD τ) arg13 fullShare d) ∗ Ring.inflight (eFlight c W) (Ring.sl 3 (i 0).val) (Ring.bk 64 (i 0).val) ∗ oHome c (Ring.bk 64 ((i 0).val - 1)) ∗ oFreeV c (Ring.sl 3 ((i 0).val + 2)) r1 ∗ oFlightV c (Ring.sl 3 (i 0).val) (Ring.bk 64 ((i 0).val - 3)) r3 ∗ (∃ g, eRestP scM0_0 c (Ring.sl 3 (i 0).val) g) ∗ (∃ g, oRestP scM0_1 c (Ring.sl 3 (i 0).val) g) ∗ owes (c : Thread nD τ) 0 Wt
        ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg9 fullShare d) ∗ (∃ d, owns (c : Thread nD τ) arg10 fullShare d) ∗ (∃ d, ⌜UZ d⌝ ∗ owns (c : Thread nD τ) arg11 fullShare d) ∗ (∃ d, owns (c : Thread nD τ) arg12 fullShare d) ∗ (∃ d, ⌜DZ d⌝ ∗ owns (c : Thread nD τ) arg13 fullShare d) ∗ Ring.free (eCellP c) (eSlotW c W) (Ring.sl 3 (i 0).val) ∗ oHomeV c (Ring.bk 64 ((i 0).val - 3)) r3 ∗ oFlightV c (Ring.sl 3 ((i 0).val + 2)) (Ring.bk 64 ((i 0).val - 1)) r1 ∗ oFreeV c (Ring.sl 3 (i 0).val) (OB x0 x1 x2 x3 ((eSrc (Ring.bk 64 (i 0).val)).view.read (Elt Ideal) W)) ∗ (∃ g, eRestP scM0_0 c (Ring.sl 3 (i 0).val) g) ∗ (∃ g, oRestP scM0_1 c (Ring.sl 3 (i 0).val) g) ∗ (∃ W', owes (c : Thread nD τ) 0 W')) -∗ K ⟨⟩))
      ⊢ wp frame (wpE (defs₀ (F := Ideal)) Variants.none c none) Set.univ (cc0__body i arg1 harg1 arg2 harg2 arg3 harg3 arg4 harg4 (Memref.whole main_v3) (Memref.isWhole_whole _) (Memref.whole main_v4) (Memref.isWhole_whole _) scM0_0 (Memref.isWhole_whole _) scM0_1 (Memref.isWhole_whole _) arg9 harg9 arg10 harg10 arg11 harg11 arg12 harg12 arg13 harg13 cc0_scratch7 cc0_scratch8) K := by
  have hn : (i 0).val < 64 := (i 0).isLt
  simp only [cc0__body_eq_skeleton]; unfold cc0__body_skel
  simp only [k0_part73_eq_skeleton, k0_part72_eq_skeleton, k0_part1_eq_skeleton, k0_part2_eq_skeleton, k0_part3_eq_skeleton, k0_part4_eq_skeleton, k0_part5_eq_skeleton]
  unfold owns
  try unfold Ring.free
  try unfold Ring.inflight
  try unfold oFreeV
  try unfold oFlightV
  try unfold oHomeV
  try unfold oFree
  try unfold oHome
  unfold oTileP
  try unfold oPieceP
  try unfold eRestP
  unfold oRestP
  iintro ⟨⟨%f0, %hf0, H0⟩, ⟨%f1, %hf1, H1⟩, ⟨%f2, %hf2, H2⟩, ⟨%f3, %hf3, H3⟩, ⟨%ds2, %fs2, -, HS2⟩, ⟨%ds3, %fs3, -, HS3⟩, ⟨%ds4, %hz4, %fs4, %hf4, HS4⟩, ⟨%ds5, %fs5, -, HS5⟩, ⟨%ds6, %hz6, %fs6, %hf6, HS6⟩, ⟨%fe0, HE0, HEr0⟩, ⟨%fp1, HP1⟩, ⟨HOc2, ⟨%fo2, %ho2, HO2⟩⟩, ⟨%ff0, %fg0, %hff0, HOf0⟩, ⟨%ge0, HR0⟩, ⟨%go, HRo⟩, HW, Hk⟩
  subst hf4; subst hf6
  subst hf0; subst hf1; subst hf2; subst hf3
  sl_exec (disch := first | sl_exact hc1 | sl_exact hc2 | sl_exact hc3 | sl_exact hc4 | sl_exact hc7)
  sl_for (fun n _ => iprop((∃ f, ⌜(eBox scM0_0 (Ring.sl 3 (i 0).val)).view.read (Elt Ideal) f = ((eSrc (Ring.bk 64 (i 0).val)).view.read (Elt Ideal) W)⌝ ∗ (eBox scM0_0 (Ring.sl 3 (i 0).val)).view.loc (c : Thread nD τ) ↦[(eBox scM0_0 (Ring.sl 3 (i 0).val)).view.set]{fullShare} f)
    ∗ (∃ g, eRestP (F := Ideal) scM0_0 c (Ring.sl 3 (i 0).val) g)
    ∗ (∃ g, oRestP (F := Ideal) scM0_1 c (Ring.sl 3 (i 0).val) g)
    ∗ (arg1.view.loc (c : Thread nD τ) ↦[arg1.view.set]{fullShare} f0) ∗ (arg2.view.loc (c : Thread nD τ) ↦[arg2.view.set]{fullShare} f1) ∗ (arg3.view.loc (c : Thread nD τ) ↦[arg3.view.set]{fullShare} f2) ∗ (arg4.view.loc (c : Thread nD τ) ↦[arg4.view.set]{fullShare} f3)
    ∗ (∃ f, arg9.view.loc (c : Thread nD τ) ↦[arg9.view.set]{fullShare} f) ∗ (∃ f, arg10.view.loc (c : Thread nD τ) ↦[arg10.view.set]{fullShare} f)
    ∗ (∃ f11 f12 f13 fo, ⌜ChunkOK (arg1.view.read (Elt Ideal) f0) (arg2.view.read (Elt Ideal) f1) (arg3.view.read (Elt Ideal) f2) (arg4.view.read (Elt Ideal) f3) ((eSrc (Ring.bk 64 (i 0).val)).view.read (Elt Ideal) W) n (arg11.view.read (Elt Ideal) f11) (arg12.view.read (Elt Ideal) f12) (arg13.view.read (Elt Ideal) f13) ((oTile scM0_1 (Ring.sl 3 (i 0).val)).view.read (Elt Ideal) fo)⌝
      ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)
      ∗ (oTile scM0_1 (Ring.sl 3 (i 0).val)).view.loc (c : Thread nD τ) ↦[(oTile scM0_1 (Ring.sl 3 (i 0).val)).view.set]{fullShare} fo))) $$ [HE0_dst HR0 HRo H0 H1 H2 H3 HS2 HS3 HS4 HS5 HS6 HOf0_src]
  · intro k acc
    exact (chunkInv c i arg1 harg1 arg2 harg2 arg3 harg3 arg4 harg4 _ _ _ _ scM0_0 (Memref.isWhole_whole _) scM0_1 (Memref.isWhole_whole _) arg9 harg9 arg10 harg10 arg11 harg11 arg12 harg12 arg13 harg13 cc0_scratch7 cc0_scratch8 f0 f1 f2 f3 _ _ _ _ mask_ok quad_ok ((eSrc (Ring.bk 64 (i 0).val)).view.read (Elt Ideal) W)).step k acc
  · isplitl [HE0_dst]
    · iexists _; isplitr; swap; · iexact HE0_dst
      ipureintro; exact read_whole _ _ _
    isplitl [HR0]
    · unfold eRestP; iexists _; iexact HR0
    isplitl [HRo]
    · unfold oRestP; iexists _; iexact HRo
    isplitl [H0]; · iexact H0
    isplitl [H1]; · iexact H1
    isplitl [H2]; · iexact H2
    isplitl [H3]; · iexact H3
    isplitl [HS2]; · iexists _; iexact HS2
    isplitl [HS3]; · iexists _; iexact HS3
    iexists _, _, _, _
    isplitr; swap
    · isplitl [HS4]; · iexact HS4
      isplitl [HS5]; · iexact HS5
      isplitl [HS6]; · iexact HS6
      iexact HOf0_src
    ipureintro
    exact ⟨hz4, hz6, fun h => absurd h (by decide), fun h => absurd h (by decide), fun y h => absurd h (Nat.not_lt_zero _)⟩
  iintro %acc ⟨⟨%fE, %hfE, HE0_dst⟩, ⟨%gE', HR0⟩, ⟨%gO', HRo⟩, H0, H1, H2, H3, ⟨%f9, HS2⟩, ⟨%f10, HS3⟩, ⟨%f11, %f12, %f13, %fo, %hC, HS4, HS5, HS6, HOf0_src⟩⟩
  unfold eRestP oRestP
  have hown := tilesOK_all hC.og
  sl_exec (disch := first | sl_exact hc1 | sl_exact hc2 | sl_exact hc3 | sl_exact hc4 | sl_exact hc7)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [HS2]
  · iexists _, _; isplitr; swap; · iexact HS2
    ipureintro; rfl
  isplitl [HS3]
  · iexists _, _; isplitr; swap; · iexact HS3
    ipureintro; rfl
  isplitl [HS4]
  · iexists _; isplitr; · ipureintro; exact hC.uz
    iexists _; isplitr; · ipureintro; rfl
    iexact HS4
  isplitl [HS5]
  · iexists _, _; isplitr; swap; · iexact HS5
    ipureintro; rfl
  isplitl [HS6]
  · iexists _; isplitr; · ipureintro; exact hC.dz
    iexists _; isplitr; · ipureintro; rfl
    iexact HS6
  isplitl [HE0 HE0_dst HE0_src HEr0]
  · isplitl [HE0]; · iexact HE0
    iexists _; isplitl [HE0_dst]; · iexact HE0_dst
    iapply (e_src_split c W (Ring.sl 3 (i 0).val) (Ring.bk 64 (i 0).val)).2; isplitl [HE0_src]; · iexact HE0_src
    iexact HEr0
  isplitl [HOf0_dst]
  · iexists _; isplitr; swap; · iexact HOf0_dst
    ipureintro; exact hff0
  isplitl [HOc2]
  · iexists _, _; isplitr; swap; · iexact HOc2
    ipureintro; exact (read_whole _ _ _).trans ho2
  isplitl [HOf0 HOf0_src]
  · isplitl [HOf0]; · iexact HOf0
    iexists _; isplitr; swap; · iexact HOf0_src
    ipureintro; exact hown
  isplitl [HR0]; · iexists _; iexact HR0
  isplitl [HRo]; · iexists _; iexact HRo
  iexists _; iexact HW

end Cert.Proof.KernelIdeal

end
-- ==== Proof.KV.RunE.lean ====
/- The body in case E as numbers. -/
module

public import proofs.«01_k».proof.Proof.KV.Rings
public import proofs.«01_k».proof.Proof.Gen.KernelIdeal.Loops
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Ring.WriteBehind
public import Idealize.ShloMosaic.Lib.Tactic
public import Idealize.ShloMosaic.Lib.WordCmp

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (Pipeline.UD sig nD τ) ℕ

set_option maxHeartbeats 2000000 in
/-- The body in case E, with what the slots and blocks hold. -/
theorem runV_E (c : Dev nD) (i : grid0.Coords) (arg1 : Memref sig .tc .vmem S2x351x256 .fp8e5m2) (harg1 : arg1.IsWhole) (arg2 : Memref sig .tc .vmem S26x2x256 .f32) (harg2 : arg2.IsWhole) (arg3 : Memref sig .tc .vmem S27x2x256 .f32) (harg3 : arg3.IsWhole) (arg4 : Memref sig .tc .vmem S2x256x128 .bf16) (harg4 : arg4.IsWhole) (arg9 : Memref sig .tc .vmem S2x352x128 .f32) (harg9 : arg9.IsWhole) (arg10 : Memref sig .tc .vmem S2x2x32x128 .f32) (harg10 : arg10.IsWhole) (arg11 : Memref sig .tc .vmem S2x1008x128 .f32) (harg11 : arg11.IsWhole) (arg12 : Memref sig .tc .vmem S2x2560x2x128 .bf16) (harg12 : arg12.IsWhole) (arg13 : Memref sig .tc .vmem S2x1152x128 .f32) (harg13 : arg13.IsWhole) (hc1 : ¬k0_cond1 i = 1#1) (hc2 : k0_cond2 i = 1#1) (hc3 : ¬k0_cond3 i = 1#1) (hc4 : k0_cond4 i = 1#1) (hc7 : k0_cond7 i = 1#1)
    (x0 : Vec Ideal S2x351x256 .fp8e5m2) (x1 : Vec Ideal S26x2x256 .f32) (x2 : Vec Ideal S27x2x256 .f32) (x3 : Vec Ideal S2x256x128 .bf16) (W : HbBuf0 (F := Ideal) c hbM0_0)
    (r1 r2 r3 : S2x27x32x8x128.Idx → Elt Ideal .bf16) (Wt : Waits sig Unit) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg9 fullShare d) ∗ (∃ d, owns (c : Thread nD τ) arg10 fullShare d) ∗ (∃ d, ⌜UZ d⌝ ∗ owns (c : Thread nD τ) arg11 fullShare d) ∗ (∃ d, owns (c : Thread nD τ) arg12 fullShare d) ∗ (∃ d, ⌜DZ d⌝ ∗ owns (c : Thread nD τ) arg13 fullShare d) ∗ Ring.inflight (eFlight c W) (Ring.sl 3 (i 0).val) (Ring.bk 64 (i 0).val) ∗ oHome c (Ring.bk 64 ((i 0).val - 1)) ∗ oFreeV c (Ring.sl 3 ((i 0).val + 2)) r1 ∗ oFlightV c (Ring.sl 3 (i 0).val) (Ring.bk 64 ((i 0).val - 3)) r3 ∗ oFlightV c (Ring.sl 3 ((i 0).val + 1)) (Ring.bk 64 ((i 0).val - 2)) r2 ∗ oHome c (Ring.bk 64 (i 0).val) ∗ (∃ g, eRestP scM0_0 c (Ring.sl 3 (i 0).val) g) ∗ (∃ g, oRestP scM0_1 c (Ring.sl 3 (i 0).val) g) ∗ owes (c : Thread nD τ) 0 Wt
        ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg9 fullShare d) ∗ (∃ d, owns (c : Thread nD τ) arg10 fullShare d) ∗ (∃ d, ⌜UZ d⌝ ∗ owns (c : Thread nD τ) arg11 fullShare d) ∗ (∃ d, owns (c : Thread nD τ) arg12 fullShare d) ∗ (∃ d, ⌜DZ d⌝ ∗ owns (c : Thread nD τ) arg13 fullShare d) ∗ Ring.free (eCellP c) (eSlotW c W) (Ring.sl 3 (i 0).val) ∗ oHomeV c (Ring.bk 64 ((i 0).val - 3)) r3 ∗ oHomeV c (Ring.bk 64 ((i 0).val - 2)) r2 ∗ oHomeV c (Ring.bk 64 ((i 0).val - 1)) r1 ∗ oHomeV c (Ring.bk 64 (i 0).val) (OB x0 x1 x2 x3 ((eSrc (Ring.bk 64 (i 0).val)).view.read (Elt Ideal) W)) ∗ oFree c (Ring.sl 3 (i 0).val) ∗ oFree c (Ring.sl 3 ((i 0).val + 1)) ∗ oFree c (Ring.sl 3 ((i 0).val + 2)) ∗ (∃ g, eRestP scM0_0 c (Ring.sl 3 (i 0).val) g) ∗ (∃ g, oRestP scM0_1 c (Ring.sl 3 (i 0).val) g) ∗ (∃ W', owes (c : Thread nD τ) 0 W')) -∗ K ⟨⟩))
      ⊢ wp frame (wpE (defs₀ (F := Ideal)) Variants.none c none) Set.univ (cc0__body i arg1 harg1 arg2 harg2 arg3 harg3 arg4 harg4 (Memref.whole main_v3) (Memref.isWhole_whole _) (Memref.whole main_v4) (Memref.isWhole_whole _) scM0_0 (Memref.isWhole_whole _) scM0_1 (Memref.isWhole_whole _) arg9 harg9 arg10 harg10 arg11 harg11 arg12 harg12 arg13 harg13 cc0_scratch7 cc0_scratch8) K := by
  have hn : (i 0).val < 64 := (i 0).isLt
  simp only [cc0__body_eq_skeleton]; unfold cc0__body_skel
  simp only [k0_part73_eq_skeleton, k0_part72_eq_skeleton, k0_part1_eq_skeleton, k0_part2_eq_skeleton, k0_part3_eq_skeleton, k0_part4_eq_skeleton, k0_part5_eq_skeleton]
  unfold owns
  try unfold Ring.free
  try unfold Ring.inflight
  try unfold oFreeV
  try unfold oFlightV
  try unfold oHomeV
  try unfold oFree
  try unfold oHome
  unfold oTileP
  try unfold oPieceP
  try unfold eRestP
  unfold oRestP
  iintro ⟨⟨%f0, %hf0, H0⟩, ⟨%f1, %hf1, H1⟩, ⟨%f2, %hf2, H2⟩, ⟨%f3, %hf3, H3⟩, ⟨%ds2, %fs2, -, HS2⟩, ⟨%ds3, %fs3, -, HS3⟩, ⟨%ds4, %hz4, %fs4, %hf4, HS4⟩, ⟨%ds5, %fs5, -, HS5⟩, ⟨%ds6, %hz6, %fs6, %hf6, HS6⟩, ⟨%fe0, HE0, HEr0⟩, ⟨%fp1, HP1⟩, ⟨HOc2, ⟨%fo2, %ho2, HO2⟩⟩, ⟨%ff0, %fg0, %hff0, HOf0⟩, ⟨%ff1, %fg1, %hff1, HOf1⟩, ⟨%fp0, HP0⟩, ⟨%ge0, HR0⟩, ⟨%go, HRo⟩, HW, Hk⟩
  subst hf4; subst hf6
  subst hf0; subst hf1; subst hf2; subst hf3
  sl_exec (disch := first | sl_exact hc1 | sl_exact hc2 | sl_exact hc3 | sl_exact hc4 | sl_exact hc7)
  sl_for (fun n _ => iprop((∃ f, ⌜(eBox scM0_0 (Ring.sl 3 (i 0).val)).view.read (Elt Ideal) f = ((eSrc (Ring.bk 64 (i 0).val)).view.read (Elt Ideal) W)⌝ ∗ (eBox scM0_0 (Ring.sl 3 (i 0).val)).view.loc (c : Thread nD τ) ↦[(eBox scM0_0 (Ring.sl 3 (i 0).val)).view.set]{fullShare} f)
    ∗ (∃ g, eRestP (F := Ideal) scM0_0 c (Ring.sl 3 (i 0).val) g)
    ∗ (∃ g, oRestP (F := Ideal) scM0_1 c (Ring.sl 3 (i 0).val) g)
    ∗ (arg1.view.loc (c : Thread nD τ) ↦[arg1.view.set]{fullShare} f0) ∗ (arg2.view.loc (c : Thread nD τ) ↦[arg2.view.set]{fullShare} f1) ∗ (arg3.view.loc (c : Thread nD τ) ↦[arg3.view.set]{fullShare} f2) ∗ (arg4.view.loc (c : Thread nD τ) ↦[arg4.view.set]{fullShare} f3)
    ∗ (∃ f, arg9.view.loc (c : Thread nD τ) ↦[arg9.view.set]{fullShare} f) ∗ (∃ f, arg10.view.loc (c : Thread nD τ) ↦[arg10.view.set]{fullShare} f)
    ∗ (∃ f11 f12 f13 fo, ⌜ChunkOK (arg1.view.read (Elt Ideal) f0) (arg2.view.read (Elt Ideal) f1) (arg3.view.read (Elt Ideal) f2) (arg4.view.read (Elt Ideal) f3) ((eSrc (Ring.bk 64 (i 0).val)).view.read (Elt Ideal) W) n (arg11.view.read (Elt Ideal) f11) (arg12.view.read (Elt Ideal) f12) (arg13.view.read (Elt Ideal) f13) ((oTile scM0_1 (Ring.sl 3 (i 0).val)).view.read (Elt Ideal) fo)⌝
      ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)
      ∗ (oTile scM0_1 (Ring.sl 3 (i 0).val)).view.loc (c : Thread nD τ) ↦[(oTile scM0_1 (Ring.sl 3 (i 0).val)).view.set]{fullShare} fo))) $$ [HE0_dst HR0 HRo H0 H1 H2 H3 HS2 HS3 HS4 HS5 HS6 HOf0_src]
  · intro k acc
    exact (chunkInv c i arg1 harg1 arg2 harg2 arg3 harg3 arg4 harg4 _ _ _ _ scM0_0 (Memref.isWhole_whole _) scM0_1 (Memref.isWhole_whole _) arg9 harg9 arg10 harg10 arg11 harg11 arg12 harg12 arg13 harg13 cc0_scratch7 cc0_scratch8 f0 f1 f2 f3 _ _ _ _ mask_ok quad_ok ((eSrc (Ring.bk 64 (i 0).val)).view.read (Elt Ideal) W)).step k acc
  · isplitl [HE0_dst]
    · iexists _; isplitr; swap; · iexact HE0_dst
      ipureintro; exact read_whole _ _ _
    isplitl [HR0]
    · unfold eRestP; iexists _; iexact HR0
    isplitl [HRo]
    · unfold oRestP; iexists _; iexact HRo
    isplitl [H0]; · iexact H0
    isplitl [H1]; · iexact H1
    isplitl [H2]; · iexact H2
    isplitl [H3]; · iexact H3
    isplitl [HS2]; · iexists _; iexact HS2
    isplitl [HS3]; · iexists _; iexact HS3
    iexists _, _, _, _
    isplitr; swap
    · isplitl [HS4]; · iexact HS4
      isplitl [HS5]; · iexact HS5
      isplitl [HS6]; · iexact HS6
      iexact HOf0_src
    ipureintro
    exact ⟨hz4, hz6, fun h => absurd h (by decide), fun h => absurd h (by decide), fun y h => absurd h (Nat.not_lt_zero _)⟩
  iintro %acc ⟨⟨%fE, %hfE, HE0_dst⟩, ⟨%gE', HR0⟩, ⟨%gO', HRo⟩, H0, H1, H2, H3, ⟨%f9, HS2⟩, ⟨%f10, HS3⟩, ⟨%f11, %f12, %f13, %fo, %hC, HS4, HS5, HS6, HOf0_src⟩⟩
  unfold eRestP oRestP
  have hown := tilesOK_all hC.og
  sl_exec (disch := first | sl_exact hc1 | sl_exact hc2 | sl_exact hc3 | sl_exact hc4 | sl_exact hc7)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [HS2]
  · iexists _, _; isplitr; swap; · iexact HS2
    ipureintro; rfl
  isplitl [HS3]
  · iexists _, _; isplitr; swap; · iexact HS3
    ipureintro; rfl
  isplitl [HS4]
  · iexists _; isplitr; · ipureintro; exact hC.uz
    iexists _; isplitr; · ipureintro; rfl
    iexact HS4
  isplitl [HS5]
  · iexists _, _; isplitr; swap; · iexact HS5
    ipureintro; rfl
  isplitl [HS6]
  · iexists _; isplitr; · ipureintro; exact hC.dz
    iexists _; isplitr; · ipureintro; rfl
    iexact HS6
  isplitl [HE0 HE0_dst HE0_src HEr0]
  · isplitl [HE0]; · iexact HE0
    iexists _; isplitl [HE0_dst]; · iexact HE0_dst
    iapply (e_src_split c W (Ring.sl 3 (i 0).val) (Ring.bk 64 (i 0).val)).2; isplitl [HE0_src]; · iexact HE0_src
    iexact HEr0
  isplitl [HOf0_dst]
  · iexists _; isplitr; swap; · iexact HOf0_dst
    ipureintro; exact hff0
  isplitl [HOf1_dst]
  · iexists _; isplitr; swap; · iexact HOf1_dst
    ipureintro; exact hff1
  isplitl [HP1]
  · iexists _; isplitr; swap; · iexact HP1
    ipureintro; exact (read_whole _ _ _).trans ho2
  isplitl [HP0]
  · iexists _; isplitr; swap; · iexact HP0
    ipureintro; exact (read_whole _ _ _).trans hown
  isplitl [HOf0 HOf0_src]
  · isplitl [HOf0]; · iexact HOf0
    iexists _; iexact HOf0_src
  isplitl [HOf1 HOf1_src]
  · isplitl [HOf1]; · iexact HOf1
    iexists _; iexact HOf1_src
  isplitl [HOc2 HO2]
  · isplitl [HOc2]; · iexact HOc2
    iexists _; iexact HO2
  isplitl [HR0]; · iexists _; iexact HR0
  isplitl [HRo]; · iexists _; iexact HRo
  iexists _; iexact HW

end Cert.Proof.KernelIdeal

end
-- ==== Proof.KV.Frame.lean ====
/- The launch of the kernel with what its result holds. -/
module

public import proofs.«01_k».proof.Proof.KV.InOut
public import Idealize.ShloMosaic.Lib.Pipeline.FrameSuffixV
public import proofs.«01_k».proof.Proof.KV.RunA
public import proofs.«01_k».proof.Proof.KV.RunB
public import proofs.«01_k».proof.Proof.KV.RunC
public import proofs.«01_k».proof.Proof.KV.RunD
public import proofs.«01_k».proof.Proof.KV.RunE
public import proofs.«01_k».proof.Proof.Gen.KernelIdeal.Loops
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Ring.WriteBehind
public import Idealize.ShloMosaic.Lib.Tactic
public import Idealize.ShloMosaic.Lib.WordCmp
public import Idealize.ShloMosaic.Lib.Claim

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (Pipeline.UD sig nD τ) ℕ

variable (m : (ℓ : Loc nD τ sig) → Buf (Elt Ideal) ℓ) (ρ : Dev nD → PrngReg)
/-! ## The pipeline's proof data -/

/-- What block `b` of the result holds at the end. -/
def SB (c : Dev nD) (b : Fin 64) : S2x27x32x8x128.Idx → Elt Ideal .bf16 :=
  OB (iblk m c 0 (⟨b.val, lt_of_lt_of_eq b.isLt (show 64 = cfg0.N from N_0.symm)⟩ : Fin cfg0.N)) (iblk m c 1 (⟨b.val, lt_of_lt_of_eq b.isLt (show 64 = cfg0.N from N_0.symm)⟩ : Fin cfg0.N)) (iblk m c 2 (⟨b.val, lt_of_lt_of_eq b.isLt (show 64 = cfg0.N from N_0.symm)⟩ : Fin cfg0.N)) (iblk m c 3 (⟨b.val, lt_of_lt_of_eq b.isLt (show 64 = cfg0.N from N_0.symm)⟩ : Fin cfg0.N)) ((eSrc b).view.read (Elt Ideal) (V m c main_v3))
theorem SB_at (c : Dev nD) (t : Fin cfg0.N) : SB m c (Ring.bk 64 t.val) = OB (iblk m c 0 t) (iblk m c 1 t) (iblk m c 2 t) (iblk m c 3 t) ((eSrc (Ring.bk 64 (grid0.coords t 0).val)).view.read (Elt Ideal) (V m c main_v3)) := by
  have hN : t.val < 64 := lt_of_lt_of_eq t.isLt (show cfg0.N = 64 from N_0)
  have hb : Ring.bk 64 t.val = Ring.bk 64 (grid0.coords t 0).val := congrArg (Ring.bk 64) (coord_val t).symm
  have ht : (⟨(Ring.bk 64 t.val).val, lt_of_lt_of_eq (Ring.bk 64 t.val).isLt (show 64 = cfg0.N from N_0.symm)⟩ : Fin cfg0.N) = t := Fin.ext (Nat.mod_eq_of_lt hN)
  unfold SB
  rw [ht]
  exact congrArg (fun b => OB (iblk m c 0 t) (iblk m c 1 t) (iblk m c 2 t) (iblk m c 3 t) ((eSrc b).view.read (Elt Ideal) (V m c main_v3))) hb
/-- The result's array at the end, on the references the region writes whole. -/
def GV (c : Dev nD) (b : Ref sig .tc) : Buf (Elt Ideal) ((c.tc : Thread nD τ).loc b) :=
  if h : b = main_v4 then h ▸ GO c (SB m c) else V m c b
theorem GV_v4 (c : Dev nD) : GV m c main_v4 = GO c (SB m c) := dif_pos rfl
/-- The invariant's ends, conjunct by conjunct. -/
theorem PhiDRV0_eq (G : (c : Dev nD) → (b : Ref sig .tc) → Buf (Elt Ideal) ((c.tc : Thread nD τ).loc b)) (c : Dev nD) :
    (Pipeline.ΦDRV osem0 spec0 H0 R0 (V m) G c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ iprop(semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0) ∗ iprop(hbPt0 c hbM0_0 (V m c main_v3)) ∗ hbPt0 c hbM0_1 (G c main_v4)) := by
  unfold Pipeline.ΦDRV
  rw [scopedRest0_eq, ownSems00_eq, hbmPts0_eq, show (bigSep R0 (fun b => ((c : Thread nD τ).loc b) ↦{fullShare} G c b) : sProp 𝕄) = iprop(hbPt0 c hbM0_1 (G c main_v4)) by rw [BI.bigSep_eq_bigSepL_of_eq [main_v4] (by decide) (by decide)]; rfl]; simp only [scM0_0, scM0_1, scM0_2, scM0_3, scM0_4, scM0_5, scM0_6, owns_whole]; try rfl

/-- What lies beside the boxes of the two staging buffers, slot by slot from slot `k` on. -/
def eBesideV (c : Dev nD) (k : ℕ) : sProp 𝕄 := iprop(eRestX (F := Ideal) c (Ring.sl 3 k) ∗ eRestX c (Ring.sl 3 (k + 1)) ∗ eRestX c (Ring.sl 3 (k + 2)))
def oBesideV (c : Dev nD) (k : ℕ) : sProp 𝕄 := iprop(oRestX (F := Ideal) c (Ring.sl 3 k) ∗ oRestX c (Ring.sl 3 (k + 1)) ∗ oRestX c (Ring.sl 3 (k + 2)))

/-- The region invariant before point `k`: the scratch the run takes whole at anything, the two rings
    before point `k`, and what lies beside them. -/
def PhiV (c : Dev nD) (k : ℕ) : sProp 𝕄 := iprop((∃ d, owns (c : Thread nD τ) scM0_2 fullShare d) ∗ (∃ d, owns (c : Thread nD τ) scM0_3 fullShare d) ∗ scrU c k ∗ (∃ d, owns (c : Thread nD τ) scM0_5 fullShare d) ∗ scrD c k
  ∗ eRingAt c (V m c main_v3) k ∗ oRingV c (SB m c) k ∗ eBesideV c k ∗ oBesideV c k)

/-- The proof data of the one pipeline on core `c`: each input window at its block, the invariant `PhiV`, nothing owed, full shares. -/
def datsV (_ : Fin 1) (c : Dev nD) : Dat τ (Elt Ideal) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
  Φ t := PhiV m c t.val
  q _ := fullShare
  owed _ := 0

/-- The proof data's arrays are the region-entry contents: the proof data's definition projected (`dsimp`), so that
    `V` — a fold over @main's host prefix, long for some programs — is never unfolded to check it. -/
theorem A_eqV (c : Dev nD) (w : Fin cfg0.W) : (datsV m 0 c).A w = V m c (Pipeline.arrRef spec0 w) := by
  dsimp only [datsV]

/-- The invariant at a point's start (the proof data at `t.castSucc`), restated at `t.val`. -/
theorem PhiV_castSucc (c : Dev nD) (t : Fin cfg0.N) : (datsV m 0 c).Φ t.castSucc = PhiV m c t.val := by
  dsimp only [datsV]; simp only [Fin.coe_castSucc]
/-- The invariant at a point's end (the proof data at `t.succ`), restated at `t.val + 1`. -/
theorem PhiV_succ (c : Dev nD) (t : Fin cfg0.N) : (datsV m 0 c).Φ t.succ = PhiV m c (t.val + 1) := by
  dsimp only [datsV]; simp only [Fin.val_succ]

/-- What the body leaves, window by window (the proof data's `match` reduced by `dsimp`). -/
theorem after0_0V (c : Dev nD) (t : Fin cfg0.N) : (datsV m 0 c).after 0 t = iblk m c 0 t := by dsimp only [datsV]
theorem after0_1V (c : Dev nD) (t : Fin cfg0.N) : (datsV m 0 c).after 1 t = iblk m c 1 t := by dsimp only [datsV]
theorem after0_2V (c : Dev nD) (t : Fin cfg0.N) : (datsV m 0 c).after 2 t = iblk m c 2 t := by dsimp only [datsV]
theorem after0_3V (c : Dev nD) (t : Fin cfg0.N) : (datsV m 0 c).after 3 t = iblk m c 3 t := by dsimp only [datsV]

/-- Each input's current staging buffer holds its block at every point, fetched there or not (`beforeK_W_of`). -/
theorem before0_0V (c : Dev nD) (t : Fin cfg0.N) (d) : (datsV m 0 c).before 0 t d = iblk m c 0 t :=
  before0_0_of m (datsV m 0 c) (A_eqV m c 0) (after0_0V m c) t d
theorem before0_1V (c : Dev nD) (t : Fin cfg0.N) (d) : (datsV m 0 c).before 1 t d = iblk m c 1 t :=
  before0_1_of m (datsV m 0 c) (A_eqV m c 1) (after0_1V m c) t d
theorem before0_2V (c : Dev nD) (t : Fin cfg0.N) (d) : (datsV m 0 c).before 2 t d = iblk m c 2 t :=
  before0_2_of m (datsV m 0 c) (A_eqV m c 2) (after0_2V m c) t d
theorem before0_3V (c : Dev nD) (t : Fin cfg0.N) (d) : (datsV m 0 c).before 3 t d = iblk m c 3 t :=
  before0_3_of m (datsV m 0 c) (A_eqV m c 3) (after0_3V m c) t d

/-! ## The body obligation, at a generic point -/

/-- What the body is called with at point `t`, -/
def bodyPreV (c : Dev nD) (t : Fin cfg0.N) : sProp 𝕄 :=
  iprop((datsV m 0 c).Φ t.castSucc ∗ (datsV m 0 c).owesAt () t.castSucc
    ∗ (∃ d, owns (c : Thread nD τ) (ms0_0 t) fullShare ((datsV m 0 c).before 0 t d))
    ∗ (∃ d, owns (c : Thread nD τ) (ms0_1 t) fullShare ((datsV m 0 c).before 1 t d))
    ∗ (∃ d, owns (c : Thread nD τ) (ms0_2 t) fullShare ((datsV m 0 c).before 2 t d))
    ∗ (∃ d, owns (c : Thread nD τ) (ms0_3 t) fullShare ((datsV m 0 c).before 3 t d)))

/-- and what it returns. -/
def bodyPostV (c : Dev nD) (t : Fin cfg0.N) : sProp 𝕄 :=
  iprop((datsV m 0 c).Φ t.succ ∗ (datsV m 0 c).owesAt () t.succ
    ∗ owns (c : Thread nD τ) (ms0_0 t) fullShare ((datsV m 0 c).after 0 t)
    ∗ owns (c : Thread nD τ) (ms0_1 t) fullShare ((datsV m 0 c).after 1 t)
    ∗ owns (c : Thread nD τ) (ms0_2 t) fullShare ((datsV m 0 c).after 2 t)
    ∗ owns (c : Thread nD τ) (ms0_3 t) fullShare ((datsV m 0 c).after 3 t))

set_option backward.isDefEq.respectTransparency.types false in
set_option maxHeartbeats 4000000 in
/-- The body at any point keeps the invariant: by the case the point is in. -/
theorem sound_bodyV (c : Dev nD) (t : Fin cfg0.N) :
    bodyPreV m c t ⊢ wp frame (wpE (defs₀ (F := Ideal)) Variants.none c none) Set.univ (bodyAt0 t) (fun _ => bodyPostV m c t) := by
  unfold bodyPreV bodyPostV bodyAt0
  simp only [before0_0V, before0_1V, before0_2V, before0_3V]
  rw [after0_0V, after0_1V, after0_2V, after0_3V]
  rw [PhiV_castSucc m c t, PhiV_succ m c t]
  unfold Dat.owesAt Pipeline.owesWithin
  rw [show (datsV m 0 c).owed t.castSucc = 0 from rfl, show (datsV m 0 c).owed t.succ = 0 from rfl]
  unfold PhiV eRingAt oRingV eBesideV oBesideV
  have hN : t.val < 64 := lt_of_lt_of_eq t.isLt (show cfg0.N = 64 from N_0)
  have hv := coord_val t
  try rw [show Ring.sl 3 (t.val + 1 + 2) = Ring.sl 3 t.val from sl3_3 _]
  by_cases hA : t.val = 0
  · have hK : t.val = 0 := by omega
    rw [if_pos hK, if_neg (show ¬t.val + 1 = 0 by omega)]
    rw [Ring.At₀_eq3' _ _ _ t.val hK (by decide : 3 ≤ 64), Ring.At3_one' _ _ _ _ t.val hK (by decide : 3 ≤ 64)]
    rw [oXV_free c _ t.val (by omega), oXV_succ c _ t.val (by omega), oYV_free c _ t.val (by omega), oYV_free c _ (t.val + 1) (by omega), oFreeK_free c _ t.val (by omega), oFreeK_succ c _ t.val (by omega)]
    rw [homesV_0 c _ t.val hK, scrU_zero c _ hK, scrD_zero c _ hK, scrU_pos c _ (Nat.succ_ne_zero t.val), scrD_pos c _ (Nat.succ_ne_zero t.val)]
    rw [show eRestX (F := Ideal) c (Ring.sl 3 t.val) = eRestX c 0 by rw [hK]; rfl, show eRestX (F := Ideal) c (Ring.sl 3 (t.val + 1)) = eRestX c 1 by rw [hK]; rfl, show eRestX (F := Ideal) c (Ring.sl 3 (t.val + 1 + 1)) = eRestX c 2 by rw [hK]; rfl]
    have run := (runV_A c (grid0.coords t) (ms0_0 t) (hs0_0 t) (ms0_1 t) (hs0_1 t) (ms0_2 t) (hs0_2 t) (ms0_3 t) (hs0_3 t) scM0_2 (Memref.isWhole_whole _) scM0_3 (Memref.isWhole_whole _) scM0_4 (Memref.isWhole_whole _) scM0_5 (Memref.isWhole_whole _) scM0_6 (Memref.isWhole_whole _) ((hcond_1 _).mpr (by omega)) (fun h => absurd ((hcond_2 _).mp h) (by omega)) ((hcond_3 _).mpr (by omega)) (fun h => absurd ((hcond_4 _).mp h) (by omega)) (fun h => absurd ((hcond_7 _).mp h) (by omega)) (iblk m c 0 t) (iblk m c 1 t) (iblk m c 2 t) (iblk m c 3 t) (V m c main_v3))
    rw [← SB_at m c t] at run
    simp only [hv] at run
    iintro ⟨⟨HS2, HS3, HS4, HS5, HS6, ⟨-, HE0, HE1, HE2⟩, ⟨HF2, HX, HY, HH⟩, ⟨HR0, HR1, HR2⟩, ⟨HQ0, HQ1, HQ2⟩⟩, ⟨%W, -, HW⟩, ⟨%d0, H0⟩, ⟨%d1, H1⟩, ⟨%d2, H2⟩, ⟨%d3, H3⟩⟩
    iapply (run W _)
    isplitl [H0]; · iexact H0
    isplitl [H1]; · iexact H1
    isplitl [H2]; · iexact H2
    isplitl [H3]; · iexact H3
    isplitl [HS2]; · iexact HS2
    isplitl [HS3]; · iexact HS3
    isplitl [HS4]; · iexact HS4
    isplitl [HS5]; · iexact HS5
    isplitl [HS6]; · iexact HS6
    isplitl [HE0]; · iexact HE0
    isplitl [HE1]; · iexact HE1
    isplitl [HE2]; · iexact HE2
    isplitl [HX]; · iexact HX
    isplitl [HR0]; · iexact HR0
    isplitl [HR1]; · iexact HR1
    isplitl [HR2]; · iexact HR2
    isplitl [HQ0]; · iexact HQ0
    isplitl [HW]; · iexact HW
    iintro ⟨H0, H1, H2, H3, HS2, HS3, HS4, HS5, HS6, HE1, HE2, HE0, HX, HR0, HR1, HR2, HQ0, ⟨%W', HW'⟩⟩
    isplitl [HS2 HS3 HS4 HS5 HS6 HE1 HE2 HE0 HX HY HF2 HH HR0 HR1 HR2 HQ0 HQ1 HQ2]
    · isplitl [HS2]; · iexact HS2
      isplitl [HS3]; · iexact HS3
      isplitl [HS4]; · iexact HS4
      isplitl [HS5]; · iexact HS5
      isplitl [HS6]; · iexact HS6
      isplitl [HE1 HE2 HE0]
      · iapply (Ring.with_homes (Idealize.SL.BI.Entails.refl _))
        isplitl [HE1]; · iexact HE1
        isplitl [HE2]; · iexact HE2
        iexact HE0
      isplitl [HX HY HF2 HH]
      · isplitl [HX]; · iexact HX
        isplitl [HY]; · iexact HY
        isplitl [HF2]; · iexact HF2
        iexact HH
      isplitl [HR0 HR1 HR2]
      · isplitl [HR1]; · iexact HR1
        isplitl [HR2]; · iexact HR2
        iexact HR0
      · isplitl [HQ1]; · iexact HQ1
        isplitl [HQ2]; · iexact HQ2
        iexact HQ0
    isplitl [HW']
    · iexists W'; isplitr; · ipureintro; exact fun _ _ => Or.inl trivial
      iexact HW'
    isplitl [H0]; · iexact H0
    isplitl [H1]; · iexact H1
    isplitl [H2]; · iexact H2
    iexact H3
  by_cases hB : t.val < 3
  · rw [if_neg (show ¬t.val = 0 by omega), if_neg (show ¬t.val + 1 = 0 by omega)]
    rw [Ring.At3_here _ _ _ _ t.val (by omega), Ring.At3_next _ _ _ _ t.val (by omega), Ring.slotAt3_next0 _ _ _ t.val (by omega), Ring.slotAt3_next1 _ _ _ t.val (by omega)]
    rw [oXV_free c _ t.val (by omega), oXV_succ c _ t.val (by omega), oYV_succ c _ t.val (by omega) (by omega), oFreeK_used c _ t.val (by omega), oFreeK_succ c _ t.val (by omega), scrU_pos c _ (show t.val ≠ 0 by omega), scrD_pos c _ (show t.val ≠ 0 by omega), scrU_pos c _ (Nat.succ_ne_zero t.val), scrD_pos c _ (Nat.succ_ne_zero t.val)]
    rw [homesV_out c _ t.val hN (by omega), homesV_small c _ t.val hN (by omega) (by omega)]
    have run := (runV_B c (grid0.coords t) (ms0_0 t) (hs0_0 t) (ms0_1 t) (hs0_1 t) (ms0_2 t) (hs0_2 t) (ms0_3 t) (hs0_3 t) scM0_2 (Memref.isWhole_whole _) scM0_3 (Memref.isWhole_whole _) scM0_4 (Memref.isWhole_whole _) scM0_5 (Memref.isWhole_whole _) scM0_6 (Memref.isWhole_whole _) (fun h => absurd ((hcond_1 _).mp h) (by omega)) ((hcond_2 _).mpr (by omega)) ((hcond_3 _).mpr (by omega)) (fun h => absurd ((hcond_4 _).mp h) (by omega)) (fun h => absurd ((hcond_7 _).mp h) (by omega)) (iblk m c 0 t) (iblk m c 1 t) (iblk m c 2 t) (iblk m c 3 t) (V m c main_v3) (SB m c (Ring.bk 64 (t.val - 1))) (SB m c (Ring.bk 64 (t.val - 2))) (SB m c (Ring.bk 64 (t.val - 3))))
    rw [← SB_at m c t] at run
    simp only [hv] at run
    iintro ⟨⟨HS2, HS3, HS4, HS5, HS6, ⟨-, HE0, HE1, HE2⟩, ⟨HF2, HX, HY, ⟨HP1, HH⟩⟩, ⟨HR0, HR1, HR2⟩, ⟨HQ0, HQ1, HQ2⟩⟩, ⟨%W, -, HW⟩, ⟨%d0, H0⟩, ⟨%d1, H1⟩, ⟨%d2, H2⟩, ⟨%d3, H3⟩⟩
    iapply (run W _)
    isplitl [H0]; · iexact H0
    isplitl [H1]; · iexact H1
    isplitl [H2]; · iexact H2
    isplitl [H3]; · iexact H3
    isplitl [HS2]; · iexact HS2
    isplitl [HS3]; · iexact HS3
    isplitl [HS4]; · iexact HS4
    isplitl [HS5]; · iexact HS5
    isplitl [HS6]; · iexact HS6
    isplitl [HE0]; · iexact HE0
    isplitl [HE2]; · iexact HE2
    isplitl [HP1]; · iexact HP1
    isplitl [HF2]; · iexact HF2
    isplitl [HX]; · iexact HX
    isplitl [HR0]; · iexact HR0
    isplitl [HQ0]; · iexact HQ0
    isplitl [HW]; · iexact HW
    iintro ⟨H0, H1, H2, H3, HS2, HS3, HS4, HS5, HS6, HE2, HE0, HF2, HX, HR0, HQ0, ⟨%W', HW'⟩⟩
    isplitl [HS2 HS3 HS4 HS5 HS6 HE1 HE2 HE0 HX HY HF2 HH HR0 HR1 HR2 HQ0 HQ1 HQ2]
    · isplitl [HS2]; · iexact HS2
      isplitl [HS3]; · iexact HS3
      isplitl [HS4]; · iexact HS4
      isplitl [HS5]; · iexact HS5
      isplitl [HS6]; · iexact HS6
      isplitl [HE1 HE2 HE0]
      · iapply (Ring.with_homes (Idealize.SL.BI.Entails.refl _))
        isplitl [HE1]; · iexact HE1
        isplitl [HE2]; · iexact HE2
        iexact HE0
      isplitl [HX HY HF2 HH]
      · isplitl [HX]; · iexact HX
        isplitl [HY]; · iexact HY
        isplitl [HF2]; · iexact HF2
        iexact HH
      isplitl [HR0 HR1 HR2]
      · isplitl [HR1]; · iexact HR1
        isplitl [HR2]; · iexact HR2
        iexact HR0
      · isplitl [HQ1]; · iexact HQ1
        isplitl [HQ2]; · iexact HQ2
        iexact HQ0
    isplitl [HW']
    · iexists W'; isplitr; · ipureintro; exact fun _ _ => Or.inl trivial
      iexact HW'
    isplitl [H0]; · iexact H0
    isplitl [H1]; · iexact H1
    isplitl [H2]; · iexact H2
    iexact H3
  by_cases hC : t.val < 62
  · rw [if_neg (show ¬t.val = 0 by omega), if_neg (show ¬t.val + 1 = 0 by omega)]
    rw [Ring.At3_here _ _ _ _ t.val (by omega), Ring.At3_next _ _ _ _ t.val (by omega), Ring.slotAt3_next0 _ _ _ t.val (by omega), Ring.slotAt3_next1 _ _ _ t.val (by omega)]
    rw [oXV_flight c _ t.val (by omega), oXV_succ c _ t.val (by omega), oYV_succ c _ t.val (by omega) (by omega), oFreeK_used c _ t.val (by omega), oFreeK_succ c _ t.val (by omega), scrU_pos c _ (show t.val ≠ 0 by omega), scrD_pos c _ (show t.val ≠ 0 by omega), scrU_pos c _ (Nat.succ_ne_zero t.val), scrD_pos c _ (Nat.succ_ne_zero t.val)]
    rw [homesV_out c _ t.val hN (by omega), homesV_big c _ t.val (by omega) (by omega)]
    have run := (runV_C c (grid0.coords t) (ms0_0 t) (hs0_0 t) (ms0_1 t) (hs0_1 t) (ms0_2 t) (hs0_2 t) (ms0_3 t) (hs0_3 t) scM0_2 (Memref.isWhole_whole _) scM0_3 (Memref.isWhole_whole _) scM0_4 (Memref.isWhole_whole _) scM0_5 (Memref.isWhole_whole _) scM0_6 (Memref.isWhole_whole _) (fun h => absurd ((hcond_1 _).mp h) (by omega)) ((hcond_2 _).mpr (by omega)) ((hcond_3 _).mpr (by omega)) ((hcond_4 _).mpr (by omega)) (fun h => absurd ((hcond_7 _).mp h) (by omega)) (iblk m c 0 t) (iblk m c 1 t) (iblk m c 2 t) (iblk m c 3 t) (V m c main_v3) (SB m c (Ring.bk 64 (t.val - 1))) (SB m c (Ring.bk 64 (t.val - 2))) (SB m c (Ring.bk 64 (t.val - 3))))
    rw [← SB_at m c t] at run
    simp only [hv] at run
    iintro ⟨⟨HS2, HS3, HS4, HS5, HS6, ⟨-, HE0, HE1, HE2⟩, ⟨HF2, HX, HY, ⟨HP1, HH⟩⟩, ⟨HR0, HR1, HR2⟩, ⟨HQ0, HQ1, HQ2⟩⟩, ⟨%W, -, HW⟩, ⟨%d0, H0⟩, ⟨%d1, H1⟩, ⟨%d2, H2⟩, ⟨%d3, H3⟩⟩
    iapply (run W _)
    isplitl [H0]; · iexact H0
    isplitl [H1]; · iexact H1
    isplitl [H2]; · iexact H2
    isplitl [H3]; · iexact H3
    isplitl [HS2]; · iexact HS2
    isplitl [HS3]; · iexact HS3
    isplitl [HS4]; · iexact HS4
    isplitl [HS5]; · iexact HS5
    isplitl [HS6]; · iexact HS6
    isplitl [HE0]; · iexact HE0
    isplitl [HE2]; · iexact HE2
    isplitl [HP1]; · iexact HP1
    isplitl [HF2]; · iexact HF2
    isplitl [HX]; · iexact HX
    isplitl [HR0]; · iexact HR0
    isplitl [HQ0]; · iexact HQ0
    isplitl [HW]; · iexact HW
    iintro ⟨H0, H1, H2, H3, HS2, HS3, HS4, HS5, HS6, HE2, HE0, HP3, HF2, HX, HR0, HQ0, ⟨%W', HW'⟩⟩
    isplitl [HS2 HS3 HS4 HS5 HS6 HE1 HE2 HE0 HX HY HF2 HP3 HH HR0 HR1 HR2 HQ0 HQ1 HQ2]
    · isplitl [HS2]; · iexact HS2
      isplitl [HS3]; · iexact HS3
      isplitl [HS4]; · iexact HS4
      isplitl [HS5]; · iexact HS5
      isplitl [HS6]; · iexact HS6
      isplitl [HE1 HE2 HE0]
      · iapply (Ring.with_homes (Idealize.SL.BI.Entails.refl _))
        isplitl [HE1]; · iexact HE1
        isplitl [HE2]; · iexact HE2
        iexact HE0
      isplitl [HX HY HF2 HP3 HH]
      · isplitl [HX]; · iexact HX
        isplitl [HY]; · iexact HY
        isplitl [HF2]; · iexact HF2
        isplitl [HP3]; · iexact HP3
        iexact HH
      isplitl [HR0 HR1 HR2]
      · isplitl [HR1]; · iexact HR1
        isplitl [HR2]; · iexact HR2
        iexact HR0
      · isplitl [HQ1]; · iexact HQ1
        isplitl [HQ2]; · iexact HQ2
        iexact HQ0
    isplitl [HW']
    · iexists W'; isplitr; · ipureintro; exact fun _ _ => Or.inl trivial
      iexact HW'
    isplitl [H0]; · iexact H0
    isplitl [H1]; · iexact H1
    isplitl [H2]; · iexact H2
    iexact H3
  by_cases hD : t.val < 63
  · rw [if_neg (show ¬t.val = 0 by omega), if_neg (show ¬t.val + 1 = 0 by omega)]
    rw [Ring.At3_here_tail _ _ _ _ t.val hN, Ring.At3_next_tail _ _ _ _ t.val (by omega) hN, Ring.slotAt3_tail_role _ _ _ t.val]
    rw [oXV_flight c _ t.val (by omega), oXV_succ c _ t.val (by omega), oYV_succ c _ t.val (by omega) (by omega), oFreeK_used c _ t.val (by omega), oFreeK_succ c _ t.val (by omega), scrU_pos c _ (show t.val ≠ 0 by omega), scrD_pos c _ (show t.val ≠ 0 by omega), scrU_pos c _ (Nat.succ_ne_zero t.val), scrD_pos c _ (Nat.succ_ne_zero t.val)]
    rw [homesV_out c _ t.val hN (by omega), homesV_big c _ t.val (by omega) (by omega)]
    have run := (runV_D c (grid0.coords t) (ms0_0 t) (hs0_0 t) (ms0_1 t) (hs0_1 t) (ms0_2 t) (hs0_2 t) (ms0_3 t) (hs0_3 t) scM0_2 (Memref.isWhole_whole _) scM0_3 (Memref.isWhole_whole _) scM0_4 (Memref.isWhole_whole _) scM0_5 (Memref.isWhole_whole _) scM0_6 (Memref.isWhole_whole _) (fun h => absurd ((hcond_1 _).mp h) (by omega)) ((hcond_2 _).mpr (by omega)) (fun h => absurd ((hcond_3 _).mp h) (by omega)) ((hcond_4 _).mpr (by omega)) (fun h => absurd ((hcond_7 _).mp h) (by omega)) (iblk m c 0 t) (iblk m c 1 t) (iblk m c 2 t) (iblk m c 3 t) (V m c main_v3) (SB m c (Ring.bk 64 (t.val - 1))) (SB m c (Ring.bk 64 (t.val - 2))) (SB m c (Ring.bk 64 (t.val - 3))))
    rw [← SB_at m c t] at run
    simp only [hv] at run
    iintro ⟨⟨HS2, HS3, HS4, HS5, HS6, ⟨-, HE0, HE1, HE2⟩, ⟨HF2, HX, HY, ⟨HP1, HH⟩⟩, ⟨HR0, HR1, HR2⟩, ⟨HQ0, HQ1, HQ2⟩⟩, ⟨%W, -, HW⟩, ⟨%d0, H0⟩, ⟨%d1, H1⟩, ⟨%d2, H2⟩, ⟨%d3, H3⟩⟩
    iapply (run W _)
    isplitl [H0]; · iexact H0
    isplitl [H1]; · iexact H1
    isplitl [H2]; · iexact H2
    isplitl [H3]; · iexact H3
    isplitl [HS2]; · iexact HS2
    isplitl [HS3]; · iexact HS3
    isplitl [HS4]; · iexact HS4
    isplitl [HS5]; · iexact HS5
    isplitl [HS6]; · iexact HS6
    isplitl [HE0]; · iexact HE0
    isplitl [HP1]; · iexact HP1
    isplitl [HF2]; · iexact HF2
    isplitl [HX]; · iexact HX
    isplitl [HR0]; · iexact HR0
    isplitl [HQ0]; · iexact HQ0
    isplitl [HW]; · iexact HW
    iintro ⟨H0, H1, H2, H3, HS2, HS3, HS4, HS5, HS6, HE0, HP3, HF2, HX, HR0, HQ0, ⟨%W', HW'⟩⟩
    isplitl [HS2 HS3 HS4 HS5 HS6 HE1 HE2 HE0 HX HY HF2 HP3 HH HR0 HR1 HR2 HQ0 HQ1 HQ2]
    · isplitl [HS2]; · iexact HS2
      isplitl [HS3]; · iexact HS3
      isplitl [HS4]; · iexact HS4
      isplitl [HS5]; · iexact HS5
      isplitl [HS6]; · iexact HS6
      isplitl [HE1 HE2 HE0]
      · iapply (Ring.with_homes (Idealize.SL.BI.Entails.refl _))
        isplitl [HE1]; · iexact HE1
        isplitl [HE2]; · iexact HE2
        iexact HE0
      isplitl [HX HY HF2 HP3 HH]
      · isplitl [HX]; · iexact HX
        isplitl [HY]; · iexact HY
        isplitl [HF2]; · iexact HF2
        isplitl [HP3]; · iexact HP3
        iexact HH
      isplitl [HR0 HR1 HR2]
      · isplitl [HR1]; · iexact HR1
        isplitl [HR2]; · iexact HR2
        iexact HR0
      · isplitl [HQ1]; · iexact HQ1
        isplitl [HQ2]; · iexact HQ2
        iexact HQ0
    isplitl [HW']
    · iexists W'; isplitr; · ipureintro; exact fun _ _ => Or.inl trivial
      iexact HW'
    isplitl [H0]; · iexact H0
    isplitl [H1]; · iexact H1
    isplitl [H2]; · iexact H2
    iexact H3
  · rw [if_neg (show ¬t.val = 0 by omega), if_neg (show ¬t.val + 1 = 0 by omega)]
    rw [Ring.At3_here_tail _ _ _ _ t.val hN, Ring.At3_next_tail _ _ _ _ t.val (by omega) hN, Ring.slotAt3_tail_role _ _ _ t.val]
    have hK : t.val = 63 := by omega
    rw [oXV_flight c _ t.val (by omega), oYV_flight c _ t.val (by omega), oXV_free c _ (t.val + 1) (by omega), oYV_free c _ (t.val + 1) (by omega), oFreeK_used c _ t.val (by omega), oFreeK_free c _ (t.val + 1) (by omega), scrU_pos c _ (show t.val ≠ 0 by omega), scrD_pos c _ (show t.val ≠ 0 by omega), scrU_pos c _ (Nat.succ_ne_zero t.val), scrD_pos c _ (Nat.succ_ne_zero t.val)]
    rw [show Ring.sl 3 (t.val + 1 + 2) = Ring.sl 3 t.val from sl3_3 _]
    rw [homesV_63 c _ t.val hK, homesV_64 c _ t.val hK]
    have run := (runV_E c (grid0.coords t) (ms0_0 t) (hs0_0 t) (ms0_1 t) (hs0_1 t) (ms0_2 t) (hs0_2 t) (ms0_3 t) (hs0_3 t) scM0_2 (Memref.isWhole_whole _) scM0_3 (Memref.isWhole_whole _) scM0_4 (Memref.isWhole_whole _) scM0_5 (Memref.isWhole_whole _) scM0_6 (Memref.isWhole_whole _) (fun h => absurd ((hcond_1 _).mp h) (by omega)) ((hcond_2 _).mpr (by omega)) (fun h => absurd ((hcond_3 _).mp h) (by omega)) ((hcond_4 _).mpr (by omega)) ((hcond_7 _).mpr (by omega)) (iblk m c 0 t) (iblk m c 1 t) (iblk m c 2 t) (iblk m c 3 t) (V m c main_v3) (SB m c (Ring.bk 64 (t.val - 1))) (SB m c (Ring.bk 64 (t.val - 2))) (SB m c (Ring.bk 64 (t.val - 3))))
    rw [← SB_at m c t] at run
    simp only [hv] at run
    iintro ⟨⟨HS2, HS3, HS4, HS5, HS6, ⟨-, HE0, HE1, HE2⟩, ⟨HF2, HX, HY, ⟨HP1, HP0, HH⟩⟩, ⟨HR0, HR1, HR2⟩, ⟨HQ0, HQ1, HQ2⟩⟩, ⟨%W, -, HW⟩, ⟨%d0, H0⟩, ⟨%d1, H1⟩, ⟨%d2, H2⟩, ⟨%d3, H3⟩⟩
    iapply (run W _)
    isplitl [H0]; · iexact H0
    isplitl [H1]; · iexact H1
    isplitl [H2]; · iexact H2
    isplitl [H3]; · iexact H3
    isplitl [HS2]; · iexact HS2
    isplitl [HS3]; · iexact HS3
    isplitl [HS4]; · iexact HS4
    isplitl [HS5]; · iexact HS5
    isplitl [HS6]; · iexact HS6
    isplitl [HE0]; · iexact HE0
    isplitl [HP1]; · iexact HP1
    isplitl [HF2]; · iexact HF2
    isplitl [HX]; · iexact HX
    isplitl [HY]; · iexact HY
    isplitl [HP0]; · iexact HP0
    isplitl [HR0]; · iexact HR0
    isplitl [HQ0]; · iexact HQ0
    isplitl [HW]; · iexact HW
    iintro ⟨H0, H1, H2, H3, HS2, HS3, HS4, HS5, HS6, HE0, HP3, HP2, HP1, HP0, HX, HY, HF2, HR0, HQ0, ⟨%W', HW'⟩⟩
    isplitl [HS2 HS3 HS4 HS5 HS6 HE1 HE2 HE0 HX HY HF2 HP3 HP2 HP1 HP0 HH HR0 HR1 HR2 HQ0 HQ1 HQ2]
    · isplitl [HS2]; · iexact HS2
      isplitl [HS3]; · iexact HS3
      isplitl [HS4]; · iexact HS4
      isplitl [HS5]; · iexact HS5
      isplitl [HS6]; · iexact HS6
      isplitl [HE1 HE2 HE0]
      · iapply (Ring.with_homes (Idealize.SL.BI.Entails.refl _))
        isplitl [HE1]; · iexact HE1
        isplitl [HE2]; · iexact HE2
        iexact HE0
      isplitl [HX HY HF2 HP3 HP2 HP1 HP0 HH]
      · isplitl [HX]; · iexact HX
        isplitl [HY]; · iexact HY
        isplitl [HF2]; · iexact HF2
        isplitl [HP3]; · iexact HP3
        isplitl [HP2]; · iexact HP2
        isplitl [HP1]; · iexact HP1
        isplitl [HP0]; · iexact HP0
        iexact HH
      isplitl [HR0 HR1 HR2]
      · isplitl [HR1]; · iexact HR1
        isplitl [HR2]; · iexact HR2
        iexact HR0
      · isplitl [HQ1]; · iexact HQ1
        isplitl [HQ2]; · iexact HQ2
        iexact HQ0
    isplitl [HW']
    · iexists W'; isplitr; · ipureintro; exact fun _ _ => Or.inl trivial
      iexact HW'
    isplitl [H0]; · iexact H0
    isplitl [H1]; · iexact H1
    isplitl [H2]; · iexact H2
    iexact H3
/-- The body table's row at point `t`'s slots is the body as `bodyAt0` spells it. -/
theorem defs₀_rowV (t : Fin cfg0.N) :
    defs₀ (F := Ideal) .tc cfg0.body (cfg0.bodyArgs t (cfg0.slots t)) = bodyAt0 t := by
  unfold defs₀; rw [Defs.onTc_tc]

/-- The library's body obligation, at every point: the body's triple restated. -/
theorem body_obligationV (c : Dev nD) : BodyObligation (datsV m 0 c) (defs₀ (F := Ideal)) Variants.none () Set.univ := fun t => by
  rw [bigSep_W0, bigSep_W0, defs₀_rowV]
  exact triple_restated (sound_bodyV m c t) rfl .rfl fun _ => .rfl

/-- What the launch hands the region is the invariant before the first point; -/
theorem hinV (c : Dev nD) : Pipeline.ΦDRV osem0 spec0 H0 R0 (V m) (V m) c ⊢ (datsV m 0 c).Φ 0 := by
  rw [PhiDRV0_eq, show (datsV m 0 c).Φ 0 = PhiV m c 0 from rfl]
  unfold PhiV eBesideV oBesideV
  rw [show Ring.sl 3 (0 + 2) = 2 from rfl, show Ring.sl 3 0 = 0 from rfl, show Ring.sl 3 (0 + 1) = 1 from rfl]
  iintro ⟨⟨HE, HO, HS2, HS3, HS4, HS5, HS6⟩, ⟨Hq0, Hq1, Hq2, Hq3, Hq4, Hq5⟩, Hh0, Ho1⟩
  ihave HE' := (e_in (F := Ideal) c) $$ HE
  icases HE' with ⟨⟨HB0, HR0⟩, ⟨HB1, HR1⟩, HB2, HR2⟩
  ihave HO' := (o_in (F := Ideal) c) $$ HO
  icases HO' with ⟨⟨HT0, HQ0⟩, ⟨HT1, HQ1⟩, HT2, HQ2⟩
  ihave HP := (pV_in c (V m c main_v4)) $$ Ho1
  rw [scrU_zero c _ rfl, scrD_zero c _ rfl]
  isplitl [HS2]; · iexact HS2
  isplitl [HS3]; · iexact HS3
  isplitl [HS4]; · iexact HS4
  isplitl [HS5]; · iexact HS5
  isplitl [HS6]; · iexact HS6
  isplitl [HB0 HB1 HB2 Hq0 Hq1 Hq2 Hh0]
  · iapply (e_ring_in (F := Ideal) m c)
    isplitl [HB0 HB1 HB2]
    · isplitl [HB0]; · iexact HB0
      isplitl [HB1]; · iexact HB1
      iexact HB2
    isplitl [Hq0 Hq1 Hq2]
    · isplitl [Hq0]; · iexact Hq0
      isplitl [Hq1]; · iexact Hq1
      iexact Hq2
    iexact Hh0
  isplitl [HT0 HT1 HT2 Hq3 Hq4 Hq5 HP]
  · iapply (o_ringV_in c (SB m c))
    isplitl [HT0 HT1 HT2]
    · isplitl [HT0]; · iexact HT0
      isplitl [HT1]; · iexact HT1
      iexact HT2
    isplitl [Hq3 Hq4 Hq5]
    · isplitl [Hq3]; · iexact Hq3
      isplitl [Hq4]; · iexact Hq4
      iexact Hq5
    iexact HP
  isplitl [HR0 HR1 HR2]
  · isplitl [HR0]; · iexact HR0
    isplitl [HR1]; · iexact HR1
    iexact HR2
  · isplitl [HQ0]; · iexact HQ0
    isplitl [HQ1]; · iexact HQ1
    iexact HQ2
/-- and the invariant after the last point hands it back. -/
theorem houtV (c : Dev nD) : (datsV m 0 c).Φ (Fin.last cfg0.N) ⊢ Pipeline.ΦDRV osem0 spec0 H0 R0 (V m) (GV m) c := by
  rw [PhiDRV0_eq, show (datsV m 0 c).Φ (Fin.last cfg0.N) = PhiV m c grid0.N from rfl]
  rw [show grid0.N = 64 by rw [N_0]]
  unfold PhiV eBesideV oBesideV
  rw [show Ring.sl 3 (64 + 2) = 0 from rfl, show Ring.sl 3 64 = 1 from rfl, show Ring.sl 3 (64 + 1) = 2 from rfl]
  iintro ⟨HS2, HS3, HS4, HS5, HS6, HER, HOR, ⟨HR1, HR2, HR0⟩, ⟨HQ1, HQ2, HQ0⟩⟩
  ihave HX0 := (e_ring_out (F := Ideal) m c) $$ HER
  icases HX0 with ⟨⟨HB0, HB1, HB2⟩, ⟨Hq0, Hq1, Hq2⟩, Hh0⟩
  ihave HX1 := (o_ringV_out c (SB m c)) $$ HOR
  icases HX1 with ⟨⟨HT0, HT1, HT2⟩, ⟨Hq3, Hq4, Hq5⟩, HP⟩
  isplitl [HB0 HB1 HB2 HR0 HR1 HR2 HT0 HT1 HT2 HQ0 HQ1 HQ2 HS2 HS3 HS4 HS5 HS6]
  · isplitl [HB0 HB1 HB2 HR0 HR1 HR2]
    · iapply (e_out (F := Ideal) c)
      isplitl [HB0 HR0]
      · isplitl [HB0]; · iexact HB0
        iexact HR0
      isplitl [HB1 HR1]
      · isplitl [HB1]; · iexact HB1
        iexact HR1
      isplitl [HB2]; · iexact HB2
      iexact HR2
    isplitl [HT0 HT1 HT2 HQ0 HQ1 HQ2]
    · iapply (o_out (F := Ideal) c)
      isplitl [HT0 HQ0]
      · isplitl [HT0]; · iexact HT0
        iexact HQ0
      isplitl [HT1 HQ1]
      · isplitl [HT1]; · iexact HT1
        iexact HQ1
      isplitl [HT2]; · iexact HT2
      iexact HQ2
    isplitl [HS2]; · iexact HS2
    isplitl [HS3]; · iexact HS3
    isplitl [HS4]; · iapply (scrU_out c 64); iexact HS4
    isplitl [HS5]; · iexact HS5
    iapply (scrD_out c 64); iexact HS6
  isplitl [Hq0 Hq1 Hq2 Hq3 Hq4 Hq5]
  · isplitl [Hq0]; · iexact Hq0
    isplitl [Hq1]; · iexact Hq1
    isplitl [Hq2]; · iexact Hq2
    isplitl [Hq3]; · iexact Hq3
    isplitl [Hq4]; · iexact Hq4
    iexact Hq5
  isplitl [Hh0]
  · iexact Hh0
  iapply (pV_out c (SB m c))
  iexact HP

/-! ## The run -/

set_option backward.isDefEq.respectTransparency.types false in
set_option maxHeartbeats 800000 in
/-- The launch, with what every buffer the region bypasses ends at. -/
theorem run_value : θ_run defs (onTc (τ := τ) (main (F := Ideal))) (s₀ m ρ) (fun r => (∀ c : Dev nD,
      (∀ w, r.2.mem ((spec0 w).arr.view.loc (c.tc : Thread nD τ)) = (datsV m 0 c).arrAt w cfg0.N)
      ∧ ∀ b ∈ Pipeline.restRefs sig spec0, r.2.mem ((c.tc : Thread nD τ).loc b)
        = StableHlo.after [hostOps1 (F := Ideal)].flatten (Pipeline.withArrays spec0 c (Pipeline.withR (V0 m c) R0 c (GV m c)) fun w => (datsV m 0 c).arrAt w cfg0.N) (Proc.devRef .tc b))
      ∧ r.2.sem = fun _ => 0) :=
  Pipeline.θ_run_frame_dmaR_aroundV cfgs (datsV m) (0 : Fin 1) launch0 osem0 defs₀ Variants.none ownSemFacts0 H0 R0 H0_sub R0_sub m ρ main
    (hbody := fun c => (body_obligationV m c).loose) (hshare := fun c => (datsV m 0 c).share_full fun _ => rfl)
    (howed := fun _ _ => rfl) (V₀ := V0 m) (opss := [hostOps1]) (hsub := sfx_sub) (hfresh := sfx_fresh) (hkeep := sfx_keeps) (G := GV m)
    (hmain := hmain m Variants.none) (hA := A_eqV m) (hin := hinV m) (hout := houtV m) (Q' := _) (hQ' := fun _ h => h)

end Cert.Proof.KernelIdeal

end
-- ==== Proof.KV.Spec.lean ====
/- The gradient as one sum over the feature index, and the facts about the selected rows it needs. -/
module

public import proofs.«01_k».proof.Proof.KV.Chunk
public import Mathlib.Algebra.BigOperators.Fin

@[expose] public section

noncomputable section

namespace Cert.Proof.KernelIdeal

open Idealize.ShloMosaic

/-- The gradient of the embedding of feature `i` at batch row `(b, s)`, lane `d`: the sum over the other features of the pair's
    scaled upstream gradient times the other feature's scaled embedding, plus the dense gradient for feature 0. -/
def spec (z ds : ℕ → ℕ → ℕ → EReal) (e : ℕ → ℕ → ℕ → ℕ → EReal) (es dd : ℕ → ℕ → ℕ → EReal) (b s i d : ℕ) : EReal :=
  (∑ j : Fin 27, (if i = j.val then 0 else z b s (tri (max i j.val) + min i j.val) * ds b s (max i j.val - 1)) * (e b s j.val d * es b s j.val))
    + if i = 0 then dd b s d else 0

/-- A sum over 32 places whose last five terms vanish is the sum over the first 27. -/
theorem sum27 (f : ℕ → EReal) (h : ∀ j, 27 ≤ j ∧ j < 32 → f j = 0) : ∑ j : Fin 32, f j.val = ∑ j : Fin 27, f j.val := by
  rw [Fin.sum_univ_eq_sum_range f 32, Fin.sum_univ_eq_sum_range f 27]
  symm
  refine Finset.sum_subset (fun x hx => by simp only [Finset.mem_range] at *; omega) (fun x hx hn => h x ?_)
  simp only [Finset.mem_range] at *
  omega

/-- Pair numbers stay below 351. -/
theorem tri_lt {i j : ℕ} (h : i ≠ j) (hi : i < 27) (hj : j < 27) : tri (max i j) + min i j < 351 := by
  have key : ∀ a < 27, ∀ b < a, tri a + b < 351 := by unfold tri; decide
  rcases Nat.lt_or_gt_of_ne h with g | g
  · rw [max_eq_right g.le, min_eq_left g.le]; exact key j hj i g
  · rw [max_eq_left g.le, min_eq_right g.le]; exact key i hi j g

/-- A row past the last feature carries zero. -/
theorem Ug_out {Z S E : ℕ → ℕ → EReal} {i j l : ℕ} (h : 27 ≤ j ∧ j < 32) : Ug Z S E (36 * i + j) l = 0 := by
  unfold Ug
  rw [if_neg]
  unfold realRow
  have : (36 * i + j) % 36 = j := by omega
  simp only [this]
  simp; omega

/-- A feature's row against itself carries zero. -/
theorem Ug_diag {Z S E : ℕ → ℕ → EReal} {i j l : ℕ} (h : i = j) (hj : j < 36) : Ug Z S E (36 * i + j) l = 0 := by
  unfold Ug
  rw [if_neg]
  unfold realRow
  have h1 : (36 * i + j) % 36 = j := by omega
  have h2 : (36 * i + j) / 36 = i := by omega
  simp only [h1, h2]
  simp; omega

end Cert.Proof.KernelIdeal

end
-- ==== Proof.KV.Host.lean ====
/- What the kernel's program leaves in its result, as a sum over the feature index read off the five arguments. -/
module

public import proofs.«01_k».proof.Proof.KV.Frame
public import proofs.«01_k».proof.Proof.KV.Spec
public import Idealize.ShloMosaic.Lib.Pipeline.Value
public import Idealize.ShloMosaic.Lib.Pointwise.Reshape
public import Idealize.ShloMosaic.Lib.StableHlo.Run

@[expose] public section

set_option maxRecDepth 16384

noncomputable section

namespace Cert.Proof.KernelIdeal

open Cert.KernelIdeal Cert.KernelIdeal.Gen
open Idealize.ShloMosaic Idealize.ShloMosaic.TcCoe Idealize.ShloMosaic.StableHlo
open Idealize.SL Idealize.SL.Sem

variable (m : (ℓ : Loc nD τ sig) → Buf (Elt Ideal) ℓ)

/-- The codes of the upstream gradient as the region finds them: the argument with its last two axes exchanged. -/
theorem V_v0 (c : Dev nD) : V m c main_v0 = transpose S2x351x16384 [0, 2, 1] (m ((c.tc : Thread nD τ).loc main_arg0)) transposes_S2x16384x351_S2x351x16384_0_2_1 := by
  show V0 m c (Proc.devRef .tc main_v0) = _
  simp only [V0, hostOps0, TRef.unary, TRef.toBuf, TRef.ofBuf, cast_eq, List.flatten_cons, List.flatten_nil, List.append_nil, List.cons_append, List.nil_append]
  after_results <;> rfl
/-- The scales of the upstream gradient as the region finds them: the last axis moved to the front. -/
theorem V_v1 (c : Dev nD) : V m c main_v1 = transpose S26x2x16384 [2, 0, 1] (m ((c.tc : Thread nD τ).loc main_arg1)) transposes_S2x16384x26_S26x2x16384_2_0_1 := by
  show V0 m c (Proc.devRef .tc main_v1) = _
  simp only [V0, hostOps0, TRef.unary, TRef.toBuf, TRef.ofBuf, cast_eq, List.flatten_cons, List.flatten_nil, List.append_nil, List.cons_append, List.nil_append]
  after_results <;> rfl
/-- The embeddings' scales as the region finds them: the last axis moved to the front. -/
theorem V_v2 (c : Dev nD) : V m c main_v2 = transpose S27x2x16384 [2, 0, 1] (m ((c.tc : Thread nD τ).loc main_arg3)) transposes_S2x16384x27_S27x2x16384_2_0_1 := by
  show V0 m c (Proc.devRef .tc main_v2) = _
  simp only [V0, hostOps0, TRef.unary, TRef.toBuf, TRef.ofBuf, cast_eq, List.flatten_cons, List.flatten_nil, List.append_nil, List.cons_append, List.nil_append]
  after_results <;> rfl
/-- The embeddings' codes as the region finds them: the two middle axes exchanged. -/
theorem V_v3 (c : Dev nD) : V m c main_v3 = transpose S2x27x16384x128 [0, 2, 1, 3] (m ((c.tc : Thread nD τ).loc main_arg2)) transposes_S2x16384x27x128_S2x27x16384x128_0_2_1_3 := by
  show V0 m c (Proc.devRef .tc main_v3) = _
  simp only [V0, hostOps0, TRef.unary, TRef.toBuf, TRef.ofBuf, cast_eq, List.flatten_cons, List.flatten_nil, List.append_nil, List.cons_append, List.nil_append]
  after_results <;> rfl

/-- The operations after the region, read at the result: a regrouping of rows, then the two middle axes exchanged. -/
theorem tailV (W : Valuation τ sig (Elt Ideal)) :
    StableHlo.after [hostOps1 (F := Ideal)].flatten W (Proc.devRef .tc main_v6)
      = transpose S2x16384x27x128 [0, 2, 1, 3] (shapeCast S2x27x16384x128 (W (Proc.devRef .tc main_v4)) rfl) transposes_S2x27x16384x128_S2x16384x27x128_0_2_1_3 := by
  simp only [hostOps1, TRef.unary, TRef.toBuf, TRef.ofBuf, cast_eq, List.flatten_cons, List.flatten_nil, List.append_nil, List.cons_append, List.nil_append]
  after_results_simp <;> rfl

theorem tr0 : ∀ i : grid0.Coords, cc0_transform_0 i = ![0, 0, (i 0).val] := by decide +kernel
theorem tr1 : ∀ i : grid0.Coords, cc0_transform_1 i = ![0, 0, (i 0).val] := by decide +kernel
theorem tr2 : ∀ i : grid0.Coords, cc0_transform_2 i = ![0, 0, (i 0).val] := by decide +kernel
theorem tr3 : ∀ i : grid0.Coords, cc0_transform_3 i = ![0, (i 0).val, 0] := by decide +kernel

/-- A block of the codes, read off the argument. -/
theorem blk0 (c : Dev nD) (t : Fin cfg0.N) (b p l : ℕ) (hb : b < 2) (hp : p < 351) (hl : l < 256) :
    rd3 (n0 := 2) (n1 := 351) (n2 := 256) (iblk m c 0 t) b p l
      = rd3 (n0 := 2) (n1 := 16384) (n2 := 351) (m ((c.tc : Thread nD τ).loc main_arg0)) b (256 * t.val + l) p := by
  have ht : t.val < 64 := lt_of_lt_of_eq t.isLt (show cfg0.N = 64 from N_0)
  have hs : 256 * t.val + l < 16384 := by omega
  rw [rd3, dif_pos ⟨hb, hp, hl⟩, rd3, dif_pos ⟨hb, hs, hp⟩]
  show V m c main_v0 _ = _
  rw [V_v0]
  refine transpose_apply _ _ _ _ _ (fun a => ?_)
  fin_cases a
  · show b = cc0_transform_0 (grid0.coords t) 0 * 2 + 1 * b
    rw [tr0]; show b = 0 * 2 + 1 * b; omega
  · show p = cc0_transform_0 (grid0.coords t) 1 * 351 + 1 * p
    rw [tr0]; show p = 0 * 351 + 1 * p; omega
  · show 256 * t.val + l = cc0_transform_0 (grid0.coords t) 2 * 256 + 1 * l
    rw [tr0]; show _ = (grid0.coords t 0).val * 256 + 1 * l; rw [coord_val]; omega
/-- A block of the scales, read off the argument. -/
theorem blk1 (c : Dev nD) (t : Fin cfg0.N) (b p l : ℕ) (hb : b < 2) (hp : p < 26) (hl : l < 256) :
    rd3 (n0 := 26) (n1 := 2) (n2 := 256) (iblk m c 1 t) p b l
      = rd3 (n0 := 2) (n1 := 16384) (n2 := 26) (m ((c.tc : Thread nD τ).loc main_arg1)) b (256 * t.val + l) p := by
  have ht : t.val < 64 := lt_of_lt_of_eq t.isLt (show cfg0.N = 64 from N_0)
  have hs : 256 * t.val + l < 16384 := by omega
  rw [rd3, dif_pos ⟨hp, hb, hl⟩, rd3, dif_pos ⟨hb, hs, hp⟩]
  show V m c main_v1 _ = _
  rw [V_v1]
  refine transpose_apply _ _ _ _ _ (fun a => ?_)
  fin_cases a
  · show p = cc0_transform_1 (grid0.coords t) 0 * 26 + 1 * p
    rw [tr1]; show p = 0 * 26 + 1 * p; omega
  · show b = cc0_transform_1 (grid0.coords t) 1 * 2 + 1 * b
    rw [tr1]; show b = 0 * 2 + 1 * b; omega
  · show 256 * t.val + l = cc0_transform_1 (grid0.coords t) 2 * 256 + 1 * l
    rw [tr1]; show _ = (grid0.coords t 0).val * 256 + 1 * l; rw [coord_val]; omega
/-- A block of the embeddings' scales, read off the argument. -/
theorem blk2 (c : Dev nD) (t : Fin cfg0.N) (b p l : ℕ) (hb : b < 2) (hp : p < 27) (hl : l < 256) :
    rd3 (n0 := 27) (n1 := 2) (n2 := 256) (iblk m c 2 t) p b l
      = rd3 (n0 := 2) (n1 := 16384) (n2 := 27) (m ((c.tc : Thread nD τ).loc main_arg3)) b (256 * t.val + l) p := by
  have ht : t.val < 64 := lt_of_lt_of_eq t.isLt (show cfg0.N = 64 from N_0)
  have hs : 256 * t.val + l < 16384 := by omega
  rw [rd3, dif_pos ⟨hp, hb, hl⟩, rd3, dif_pos ⟨hb, hs, hp⟩]
  show V m c main_v2 _ = _
  rw [V_v2]
  refine transpose_apply _ _ _ _ _ (fun a => ?_)
  fin_cases a
  · show p = cc0_transform_2 (grid0.coords t) 0 * 27 + 1 * p
    rw [tr2]; show p = 0 * 27 + 1 * p; omega
  · show b = cc0_transform_2 (grid0.coords t) 1 * 2 + 1 * b
    rw [tr2]; show b = 0 * 2 + 1 * b; omega
  · show 256 * t.val + l = cc0_transform_2 (grid0.coords t) 2 * 256 + 1 * l
    rw [tr2]; show _ = (grid0.coords t 0).val * 256 + 1 * l; rw [coord_val]; omega
/-- A block of the dense gradient, read off the argument. -/
theorem blk3 (c : Dev nD) (t : Fin cfg0.N) (b l d : ℕ) (hb : b < 2) (hl : l < 256) (hd : d < 128) :
    rd3 (n0 := 2) (n1 := 256) (n2 := 128) (iblk m c 3 t) b l d
      = rd3 (n0 := 2) (n1 := 16384) (n2 := 128) (m ((c.tc : Thread nD τ).loc main_arg4)) b (256 * t.val + l) d := by
  have ht : t.val < 64 := lt_of_lt_of_eq t.isLt (show cfg0.N = 64 from N_0)
  have hs : 256 * t.val + l < 16384 := by omega
  rw [rd3, dif_pos ⟨hb, hl, hd⟩, rd3, dif_pos ⟨hb, hs, hd⟩]
  show V m c main_arg4 _ = _
  rw [V_main_arg4]
  refine congrArg _ (funext fun a => Fin.ext ?_)
  fin_cases a
  · show cc0_transform_3 (grid0.coords t) 0 * 2 + 1 * b = b
    rw [tr3]; show 0 * 2 + 1 * b = b; omega
  · show cc0_transform_3 (grid0.coords t) 1 * 256 + 1 * l = 256 * t.val + l
    rw [tr3]; show (grid0.coords t 0).val * 256 + 1 * l = _; rw [coord_val]; omega
  · show cc0_transform_3 (grid0.coords t) 2 * 128 + 1 * d = d
    rw [tr3]; show 0 * 128 + 1 * d = d; omega
/-- A block of the embeddings' codes, read off the argument. -/
theorem blkE (c : Dev nD) (t : Fin 64) (b j l d : ℕ) (hb : b < 2) (hj : j < 27) (hl : l < 256) (hd : d < 128) :
    rd4 (n0 := 2) (n1 := 27) (n2 := 256) (n3 := 128) ((eSrc t).view.read (Elt Ideal) (V m c main_v3)) b j l d
      = rd4 (n0 := 2) (n1 := 16384) (n2 := 27) (n3 := 128) (m ((c.tc : Thread nD τ).loc main_arg2)) b (256 * t.val + l) j d := by
  have ht := t.isLt
  have hs : 256 * t.val + l < 16384 := by omega
  rw [rd4, dif_pos ⟨hb, hj, hl, hd⟩, rd4, dif_pos ⟨hb, hs, hj, hd⟩]
  show V m c main_v3 _ = _
  rw [V_v3]
  refine transpose_apply _ _ _ _ _ (fun a => ?_)
  fin_cases a
  · show b = 0 + 1 * b; omega
  · show j = 0 + 1 * j; omega
  · show 256 * t.val + l = 256 * t.val + 1 * l; omega
  · show d = 0 + 1 * d; omega

/-- The kernel's result as a sum over the feature index of the arguments. -/
def kOut (c : Dev nD) : Buf (Elt Ideal) ((c.tc : Thread nD τ).loc main_v6) := fun y : S2x16384x27x128.Idx =>
  spec (rd3 (n0 := 2) (n1 := 16384) (n2 := 351) (m ((c.tc : Thread nD τ).loc main_arg0)))
    (rd3 (n0 := 2) (n1 := 16384) (n2 := 26) (m ((c.tc : Thread nD τ).loc main_arg1)))
    (rd4 (n0 := 2) (n1 := 16384) (n2 := 27) (n3 := 128) (m ((c.tc : Thread nD τ).loc main_arg2)))
    (rd3 (n0 := 2) (n1 := 16384) (n2 := 27) (m ((c.tc : Thread nD τ).loc main_arg3)))
    (rd3 (n0 := 2) (n1 := 16384) (n2 := 128) (m ((c.tc : Thread nD τ).loc main_arg4)))
    (y 0).val (y 1).val (y 2).val (y 3).val

/-- One entry of a block's output is the sum at the matching row of the arguments. -/
theorem Oq_spec (c : Dev nD) (t : Fin 64) (h : t.val < cfg0.N) (q l i d : ℕ) (hq : q < 4) (hl : l < 128) (hi : i < 27) (hd : d < 128) :
    Oq (iblk m c 0 ⟨t.val, h⟩) (iblk m c 1 ⟨t.val, h⟩) (iblk m c 2 ⟨t.val, h⟩) (iblk m c 3 ⟨t.val, h⟩)
        ((eSrc t).view.read (Elt Ideal) (V m c main_v3)) q i l d
      = spec (rd3 (n0 := 2) (n1 := 16384) (n2 := 351) (m ((c.tc : Thread nD τ).loc main_arg0)))
    (rd3 (n0 := 2) (n1 := 16384) (n2 := 26) (m ((c.tc : Thread nD τ).loc main_arg1)))
    (rd4 (n0 := 2) (n1 := 16384) (n2 := 27) (n3 := 128) (m ((c.tc : Thread nD τ).loc main_arg2)))
    (rd3 (n0 := 2) (n1 := 16384) (n2 := 27) (m ((c.tc : Thread nD τ).loc main_arg3)))
    (rd3 (n0 := 2) (n1 := 16384) (n2 := 128) (m ((c.tc : Thread nD τ).loc main_arg4)))
    (q / 2) (256 * t.val + (128 * (q % 2) + l)) i d := by
  have hb : q / 2 < 2 := by omega
  have hr : 128 * (q % 2) + l < 256 := by omega
  unfold Oq Ov Xv spec
  congr 1
  · rw [sum27 (fun j => Pq _ _ _ q (36 * i + j) l * Eq' _ q j l d) (fun j hj => by
      show Ug _ _ _ _ _ * _ = _
      rw [Ug_out (by omega) , zero_mul])]
    refine Finset.sum_congr rfl fun j _ => ?_
    have hj := j.isLt
    show Ug _ _ _ _ _ * Eq' _ q j.val l d = _
    by_cases hij : i = j.val
    · rw [if_pos hij, zero_mul, Ug_diag hij (by omega), zero_mul]
    · rw [if_neg hij, Ug_real (by omega) (by omega) (by omega)]
      rw [show (36 * i + j.val) / 36 = i by omega, show (36 * i + j.val) % 36 = j.val by omega]
      unfold Uv
      rw [if_neg hij]
      unfold Zq Sq Eq'
      rw [blk0 m c ⟨t.val, h⟩ _ _ _ hb (tri_lt hij (by omega) (by omega)) hr, blk1 m c ⟨t.val, h⟩ _ _ _ hb (by omega) hr,
        blk2 m c ⟨t.val, h⟩ _ _ _ hb (by omega) hr, blkE m c t _ _ _ _ hb (by omega) hr hd]
      show _ * _ * _ * _ = _ * (_ * _)
      rw [mul_assoc, mul_comm (rd4 _ _ _ _ _)]
  · by_cases hi0 : i = 0
    · rw [if_pos hi0, if_pos hi0]
      exact blk3 m c ⟨t.val, h⟩ _ _ _ hb hr hd
    · rw [if_neg hi0, if_neg hi0]

/-- The regrouped and transposed result array, read at an index, is the sum. -/
theorem host_out (c : Dev nD) (h) :
    transpose S2x16384x27x128 [0, 2, 1, 3] (shapeCast (s := S2x27x2048x8x128) S2x27x16384x128 (GO c (SB m c) : S2x27x2048x8x128.Idx → Elt Ideal .bf16) h) transposes_S2x27x16384x128_S2x16384x27x128_0_2_1_3
      = kOut m c := by
  funext y
  have h0 : (y 0).val < 2 := (y 0).isLt
  have h1 : (y 1).val < 16384 := (y 1).isLt
  have h2 : (y 2).val < 27 := (y 2).isLt
  have h3 : (y 3).val < 128 := (y 3).isLt
  rw [transpose_apply [0, 2, 1, 3] _ _ y (ix4 (⟨(y 0).val, h0⟩ : Fin 2) (⟨(y 2).val, h2⟩ : Fin 27) (⟨(y 1).val, h1⟩ : Fin 16384) (⟨(y 3).val, h3⟩ : Fin 128)) (fun a => by
    fin_cases a
    · show (y 0).val = (y 0).val; rfl
    · show (y 1).val = (y 1).val; rfl
    · show (y 2).val = (y 2).val; rfl
    · show (y 3).val = (y 3).val; rfl)]
  rw [shapeCast_apply _ _ _ (ix5 (⟨(y 0).val, h0⟩ : Fin 2) (⟨(y 2).val, h2⟩ : Fin 27) (⟨(y 1).val / 8, by omega⟩ : Fin 2048) (⟨(y 1).val % 8, by omega⟩ : Fin 8) (⟨(y 3).val, h3⟩ : Fin 128)) (by
    rw [rowMajor_val5 _ _ _ _ _ rfl rfl rfl rfl, rowMajor_val4 _ _ _ _ rfl rfl rfl]
    show (y 0).val * 56623104 + (y 2).val * 2097152 + (y 1).val / 8 * 1024 + (y 1).val % 8 * 128 + (y 3).val
      = (y 0).val * 56623104 + (y 2).val * 2097152 + (y 1).val * 128 + (y 3).val
    omega)]
  show SB m c _ _ = _
  unfold SB OB
  refine (Oq_spec m c ⟨(y 1).val / 8 / 32, by omega⟩ _ _ _ _ _ ?_ ?_ h2 h3).trans ?_
  · show 2 * (y 0).val + (y 1).val / 8 % 32 / 16 < 4; omega
  · show 8 * ((y 1).val / 8 % 32 % 16) + (y 1).val % 8 < 128; omega
  · show spec _ _ _ _ _ ((2 * (y 0).val + (y 1).val / 8 % 32 / 16) / 2)
      (256 * ((y 1).val / 8 / 32) + (128 * ((2 * (y 0).val + (y 1).val / 8 % 32 / 16) % 2) + (8 * ((y 1).val / 8 % 32 % 16) + (y 1).val % 8))) (y 2).val (y 3).val
      = spec _ _ _ _ _ (y 0).val (y 1).val (y 2).val (y 3).val
    rw [show (2 * (y 0).val + (y 1).val / 8 % 32 / 16) / 2 = (y 0).val by omega,
      show 256 * ((y 1).val / 8 / 32) + (128 * ((2 * (y 0).val + (y 1).val / 8 % 32 / 16) % 2) + (8 * ((y 1).val / 8 % 32 % 16) + (y 1).val % 8)) = (y 1).val by omega]

/-- The kernel's program terminates with the sum in its result. -/
theorem run_out (ρ : Dev nD → PrngReg) :
    θ_run defs (onTc (τ := τ) (main (F := Ideal))) ⟨m, fun _ => 0, ρ⟩ fun r => ∀ c : Dev nD,
      r.2.mem ((c.tc : Thread nD τ).loc main_v6) = kOut m c :=
  (θ_run defs _ _).mono (fun _ h c => ((h.1 c).2 main_v6 (Pipeline.mem_restRefs_of main_v6 (by decide) (by decide))).trans (by
    rw [tailV, Pipeline.withArrays_of_ne spec0 c _ _ main_v4 (by decide), Pipeline.withR_of_mem _ _ _ _ main_v4 (by decide), GV_v4]
    exact host_out m c _)) (run_value m ρ)

/-- The operations after the region leave an argument that the region does not stage. -/
theorem tail_arg (W : Valuation τ sig (Elt Ideal)) :
    StableHlo.after [hostOps1 (F := Ideal)].flatten W (Proc.devRef .tc main_arg0) = W (Proc.devRef .tc main_arg0)
    ∧ StableHlo.after [hostOps1 (F := Ideal)].flatten W (Proc.devRef .tc main_arg1) = W (Proc.devRef .tc main_arg1)
    ∧ StableHlo.after [hostOps1 (F := Ideal)].flatten W (Proc.devRef .tc main_arg2) = W (Proc.devRef .tc main_arg2)
    ∧ StableHlo.after [hostOps1 (F := Ideal)].flatten W (Proc.devRef .tc main_arg3) = W (Proc.devRef .tc main_arg3) := by
  simp only [hostOps1, TRef.unary, TRef.toBuf, TRef.ofBuf, cast_eq, List.flatten_cons, List.flatten_nil, List.append_nil, List.cons_append, List.nil_append]
  refine ⟨?_, ?_, ?_, ?_⟩
  all_goals (after_results_simp <;> rfl)

/-- A buffer outside the region's arrays and results is read at the region's exit as at its entry. -/
theorem exit_keep (c : Dev nD) (A) (b : Ref sig .tc) (h1 : ∀ w, Pipeline.arrRef spec0 w ≠ b) (h2 : b ∉ R0) :
    Pipeline.withArrays spec0 c (Pipeline.withR (V0 m c) R0 c (GV m c)) A (Proc.devRef .tc b) = V m c b :=
  (Pipeline.withArrays_of_ne spec0 c _ _ b h1).trans (Pipeline.withR_of_not_mem _ _ _ _ b h2)

/-- The frame: every execution ends, the arguments unchanged and every counter at zero. -/
theorem frame (ρ : Dev nD → PrngReg) : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
    ⟨(((h.1 c).2 main_arg0 (Pipeline.mem_restRefs_of main_arg0 (by decide) (by decide))).trans ((tail_arg _).1.trans (exit_keep m c _ main_arg0 (by decide) (by decide)))).trans (V_main_arg0 m c),
      (((h.1 c).2 main_arg1 (Pipeline.mem_restRefs_of main_arg1 (by decide) (by decide))).trans ((tail_arg _).2.1.trans (exit_keep m c _ main_arg1 (by decide) (by decide)))).trans (V_main_arg1 m c),
      (((h.1 c).2 main_arg2 (Pipeline.mem_restRefs_of main_arg2 (by decide) (by decide))).trans ((tail_arg _).2.2.1.trans (exit_keep m c _ main_arg2 (by decide) (by decide)))).trans (V_main_arg2 m c),
      (((h.1 c).2 main_arg3 (Pipeline.mem_restRefs_of main_arg3 (by decide) (by decide))).trans ((tail_arg _).2.2.2.trans (exit_keep m c _ main_arg3 (by decide) (by decide)))).trans (V_main_arg3 m c),
      ((h.1 c).1 3).trans (((datsV m 0 c).arrAt_in 3 rfl _).trans ((A_eqV m c 3).trans (V_main_arg4 m c)))⟩, h.2⟩) (run_value m ρ)

/-- The frame without the counters: the arguments end unchanged. -/
theorem unchanged (ρ : Dev nD → PrngReg) : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h => h.1) (frame m ρ)

end Cert.Proof.KernelIdeal

end
-- ==== Proof.RV.Gather.lean ====
/- The reference's two gathers and its three index tables, read at a pair of features. -/
module

public import proofs.«01_k».proof.Proof.Gen.ReferenceIdeal.Read
public import Idealize.ShloMosaic.Lib.ValueIdxCore
public import Idealize.ShloMosaic.Lib.Pointwise.Index

@[expose] public section

set_option maxRecDepth 16384

noncomputable section

namespace Cert.Proof.ReferenceIdeal

open Cert.ReferenceIdeal Cert.ReferenceIdeal.Gen
open Idealize.ShloMosaic Idealize.ShloMosaic.TcCoe Idealize.SL.Sem

/-- The pair table: the number of the pair of the row's and the column's feature, 0 on the diagonal. -/
def tabP : IVec S27x27 32 := select (cmpi .ne (maxsi (iotaInDim S27x27 32 0) (iotaInDim S27x27 32 1)) (minsi (iotaInDim S27x27 32 0) (iotaInDim S27x27 32 1))) (addi (Host.shrui (muli (maxsi (iotaInDim S27x27 32 0) (iotaInDim S27x27 32 1)) (subi (maxsi (iotaInDim S27x27 32 0) (iotaInDim S27x27 32 1)) (broadcastInDim S27x27 ![] bcast_S_S27x27 (constantI S_ 32 1#32)))) (broadcastInDim S27x27 ![] bcast_S_S27x27 (constantI S_ 32 1#32))) (minsi (iotaInDim S27x27 32 0) (iotaInDim S27x27 32 1))) (broadcastInDim S27x27 ![] bcast_S_S27x27 (id (constantI S_ 32 0#32)))
/-- The row table: the larger of the two features less one, 0 on the diagonal. -/
def tabR : IVec S27x27 32 := select (cmpi .ne (maxsi (iotaInDim S27x27 32 0) (iotaInDim S27x27 32 1)) (minsi (iotaInDim S27x27 32 0) (iotaInDim S27x27 32 1))) (subi (maxsi (iotaInDim S27x27 32 0) (iotaInDim S27x27 32 1)) (broadcastInDim S27x27 ![] bcast_S_S27x27 (constantI S_ 32 1#32))) (broadcastInDim S27x27 ![] bcast_S_S27x27 (id (constantI S_ 32 0#32)))
/-- The mask table: whether the two features differ. -/
def tabM : IVec S27x27 1 := cmpi .ne (maxsi (iotaInDim S27x27 32 0) (iotaInDim S27x27 32 1)) (minsi (iotaInDim S27x27 32 0) (iotaInDim S27x27 32 1))

/-- The mask is set exactly off the diagonal. -/
theorem mask_at : ∀ i j : Fin 27, tabM (ix2 i j) = if i = j then 0#1 else 1#1 := by decide +kernel
/-- The pair index the first gather reads: the pair's number. -/
theorem pair_at : ∀ i j : Fin 27, i ≠ j →
    min (Read.val_main_v20 (F := Ideal) tabP (ix2 i j)).toInt.toNat 350 = max i.val j.val * (max i.val j.val - 1) / 2 + min i.val j.val := by decide +kernel
/-- The row index the second gather reads: the larger feature less one. -/
theorem row_at : ∀ i j : Fin 27, i ≠ j →
    min (Read.val_main_v27 (F := Ideal) tabR (ix2 i j)).toInt.toNat 25 = max i.val j.val - 1 := by decide +kernel

/-- The start index of the pair `(i, j)`. -/
theorem siIdx0 (y : S2x16384x27x27.Idx) (k) :
    gather_S2x16384x351_S27x27x1_S2x16384x27x27_01_2_n_n_2_2_2163841.siIdx y k = ix3 (y 2) (y 3) (0 : Fin 1) := by
  funext b; refine Fin.ext ?_
  have hk : k.val = 0 := by have := k.isLt; change k.val < 1 at this; omega
  match b with
  | ⟨0, _⟩ => rfl
  | ⟨1, _⟩ => rfl
  | ⟨2, _⟩ => exact hk
theorem siIdx1 (y : S2x16384x27x27.Idx) (k) :
    gather_S2x16384x26_S27x27x1_S2x16384x27x27_01_2_n_n_2_2_2163841.siIdx y k = ix3 (y 2) (y 3) (0 : Fin 1) := by
  funext b; refine Fin.ext ?_
  have hk : k.val = 0 := by have := k.isLt; change k.val < 1 at this; omega
  match b with
  | ⟨0, _⟩ => rfl
  | ⟨1, _⟩ => rfl
  | ⟨2, _⟩ => exact hk

theorem start0_off (y : S2x16384x27x27.Idx) (idx : IVec S27x27x1 32) (a : Fin S2x16384x351.rank) (h : a.val ≠ 2) : gather_S2x16384x351_S27x27x1_S2x16384x27x27_01_2_n_n_2_2_2163841.start y idx a = 0 :=
  dif_neg fun hm => h (congrArg Fin.val (List.mem_singleton.mp hm))
theorem start0_on (y : S2x16384x27x27.Idx) (idx : IVec S27x27x1 32) (h : 2 < S2x16384x351.rank) :
    gather_S2x16384x351_S27x27x1_S2x16384x27x27_01_2_n_n_2_2_2163841.start y idx ⟨2, h⟩ = min (idx (ix3 (y 2) (y 3) (0 : Fin 1))).toInt.toNat 350 :=
  (dif_pos (List.mem_singleton.mpr rfl)).trans (by rw [siIdx0]; rfl)
/-- The first gather: the codes of row `(b, s)` at the pair's number. -/
theorem gather0 (x : S2x16384x351.Idx → EReal) (idx : IVec S27x27x1 32) (b : Fin 2) (s : Fin 16384) (i j : Fin 27) :
    Host.gather gather_S2x16384x351_S27x27x1_S2x16384x27x27_01_2_n_n_2_2_2163841 x idx (ix4 b s i j)
      = x (ix3 b s (⟨min (idx (ix3 i j (0 : Fin 1))).toInt.toNat 350, by omega⟩ : Fin 351)) := by
  unfold Host.gather
  congr 1
  funext a
  refine Fin.ext ?_
  show gather_S2x16384x351_S27x27x1_S2x16384x27x27_01_2_n_n_2_2_2163841.start _ idx a + GatherDims.batchCoord _ _ a + GatherDims.offCoord _ _ a = _
  rw [GatherDims.batchCoord_eq_zero _ _ _ List.not_mem_nil]
  match a with
  | ⟨0, _⟩ =>
    rw [start0_off _ _ _ (by decide : (0 : ℕ) ≠ 2)]
    show 0 + 0 + b.val = b.val
    omega
  | ⟨1, _⟩ =>
    rw [start0_off _ _ _ (by decide : (1 : ℕ) ≠ 2)]
    show 0 + 0 + s.val = s.val
    omega
  | ⟨2, _⟩ =>
    rw [GatherDims.offCoord_eq_zero _ _ _ (fun h => ((GatherDims.mem_sKept _ _).mp h).1 (List.mem_singleton.mpr rfl)), start0_on]
    rfl
theorem start1_off (y : S2x16384x27x27.Idx) (idx : IVec S27x27x1 32) (a : Fin S2x16384x26.rank) (h : a.val ≠ 2) : gather_S2x16384x26_S27x27x1_S2x16384x27x27_01_2_n_n_2_2_2163841.start y idx a = 0 :=
  dif_neg fun hm => h (congrArg Fin.val (List.mem_singleton.mp hm))
theorem start1_on (y : S2x16384x27x27.Idx) (idx : IVec S27x27x1 32) (h : 2 < S2x16384x26.rank) :
    gather_S2x16384x26_S27x27x1_S2x16384x27x27_01_2_n_n_2_2_2163841.start y idx ⟨2, h⟩ = min (idx (ix3 (y 2) (y 3) (0 : Fin 1))).toInt.toNat 25 :=
  (dif_pos (List.mem_singleton.mpr rfl)).trans (by rw [siIdx1]; rfl)
/-- The second gather: the scales of row `(b, s)` at the larger feature less one. -/
theorem gather1 (x : S2x16384x26.Idx → EReal) (idx : IVec S27x27x1 32) (b : Fin 2) (s : Fin 16384) (i j : Fin 27) :
    Host.gather gather_S2x16384x26_S27x27x1_S2x16384x27x27_01_2_n_n_2_2_2163841 x idx (ix4 b s i j)
      = x (ix3 b s (⟨min (idx (ix3 i j (0 : Fin 1))).toInt.toNat 25, by omega⟩ : Fin 26)) := by
  unfold Host.gather
  congr 1
  funext a
  refine Fin.ext ?_
  show gather_S2x16384x26_S27x27x1_S2x16384x27x27_01_2_n_n_2_2_2163841.start _ idx a + GatherDims.batchCoord _ _ a + GatherDims.offCoord _ _ a = _
  rw [GatherDims.batchCoord_eq_zero _ _ _ List.not_mem_nil]
  match a with
  | ⟨0, _⟩ =>
    rw [start1_off _ _ _ (by decide : (0 : ℕ) ≠ 2)]
    show 0 + 0 + b.val = b.val
    omega
  | ⟨1, _⟩ =>
    rw [start1_off _ _ _ (by decide : (1 : ℕ) ≠ 2)]
    show 0 + 0 + s.val = s.val
    omega
  | ⟨2, _⟩ =>
    rw [GatherDims.offCoord_eq_zero _ _ _ (fun h => ((GatherDims.mem_sKept _ _).mp h).1 (List.mem_singleton.mpr rfl)), start1_on]
    rfl

end Cert.Proof.ReferenceIdeal

end
-- ==== Proof.RV.Region.lean ====
/- What the reference's region leaves: its two results hold the codes unchanged, widened, which at exact values is the identity. -/
module

public import proofs.«01_k».proof.Proof.Gen.ReferenceIdeal.Run
public import Idealize.ShloMosaic.Lib.Pipeline.Value
public import Idealize.ShloMosaic.Lib.VecWindow
public import Idealize.ShloMosaic.PureOps.Ideal.Laws

@[expose] public section

set_option maxRecDepth 16384

noncomputable section

namespace Cert.Proof.ReferenceIdeal

open Cert.ReferenceIdeal Cert.ReferenceIdeal.Gen
open Cert.ReferenceIdeal.Gen Idealize.ShloMosaic Idealize.ShloMosaic.TcCoe Idealize.SL.Sem

variable (m : (ℓ : Loc nD τ sig) → Buf (Elt Ideal) ℓ)

/-- The widened gradient codes are the argument. -/
theorem reg0 (c : Dev nD) : (Value.reg_main_v15_0 m c : S2x16384x351.Idx → EReal) = m ((c.tc : Thread nD τ).loc main_arg0) := by
  unfold Value.reg_main_v15_0
  have hemb : ∀ (t : Fin cfg0.N) (y : S2x16384x351.Idx), ((cfg0.win 2).blk t).view.emb y = y := fun t y => by
    refine funext fun a => Fin.ext ?_
    fin_cases a
    · show 0 * 2 + 1 * (y 0).val = (y 0).val; omega
    · show 0 * 16384 + 1 * (y 1).val = (y 1).val; omega
    · show 0 * 351 + 1 * (y 2).val = (y 2).val; omega
  have hemb0 : ∀ (t : Fin cfg0.N) (y : S2x16384x351.Idx), ((cfg0.win 0).blk t).view.emb y = y := fun t y => by
    refine funext fun a => Fin.ext ?_
    fin_cases a
    · show 0 * 2 + 1 * (y 0).val = (y 0).val; omega
    · show 0 * 16384 + 1 * (y 1).val = (y 1).val; omega
    · show 0 * 351 + 1 * (y 2).val = (y 2).val; omega
  have hr : ∀ y : S2x16384x351.Idx, r0_0.emb y = y := fun y => by
    refine funext fun a => Fin.ext ?_
    fin_cases a
    · show 0 + 1 * (y 0).val = (y 0).val; omega
    · show 0 + 1 * (y 1).val = (y 1).val; omega
    · show 0 + 1 * (y 2).val = (y 2).val; omega
  refine Pipeline.Dat.arrAt_eq_of_cover (dats m 0 c) 2 (m ((c.tc : Thread nD τ).loc main_arg0) : S2x16384x351.Idx → EReal) (fun t _ => ?_) (fun i => ?_)
  · refine funext fun (y : S2x16384x351.Idx) => ?_
    show (dats m 0 c).after 2 t y = (m ((c.tc : Thread nD τ).loc main_arg0) : S2x16384x351.Idx → EReal) (((cfg0.win 2).blk t).view.emb y)
    rw [after0_2, hemb]
    refine (congrArg (out0_2 (iblk m c 0 t) (iblk m c 1 t)) (hr y).symm).trans ?_
    unfold out0_2
    refine (View.canon_cons_emb r0_0 _ [] y).trans ?_
    show V m c main_arg0 (((cfg0.win 0).blk t).view.emb (r0_0.emb y)) = _
    rw [hr, hemb0, V_main_arg0]
  · refine ⟨⟨0, lt_of_lt_of_eq Nat.one_pos (show 1 = cfg0.N from N_0.symm)⟩, flush0_2 _, ?_⟩
    have := ((cfg0.win 2).blk ⟨0, lt_of_lt_of_eq Nat.one_pos (show 1 = cfg0.N from N_0.symm)⟩).view.emb_mem_set i
    rwa [hemb] at this

/-- The widened embedding codes are the argument. -/
theorem reg1 (c : Dev nD) : (Value.reg_main_v15_1 m c : S2x16384x27x128.Idx → EReal) = m ((c.tc : Thread nD τ).loc main_arg2) := by
  unfold Value.reg_main_v15_1
  have hemb : ∀ (t : Fin cfg0.N) (y : S2x16384x27x128.Idx), ((cfg0.win 3).blk t).view.emb y = y := fun t y => by
    refine funext fun a => Fin.ext ?_
    fin_cases a
    · show 0 * 2 + 1 * (y 0).val = (y 0).val; omega
    · show 0 * 16384 + 1 * (y 1).val = (y 1).val; omega
    · show 0 * 27 + 1 * (y 2).val = (y 2).val; omega
    · show 0 * 128 + 1 * (y 3).val = (y 3).val; omega
  have hemb0 : ∀ (t : Fin cfg0.N) (y : S2x16384x27x128.Idx), ((cfg0.win 1).blk t).view.emb y = y := fun t y => by
    refine funext fun a => Fin.ext ?_
    fin_cases a
    · show 0 * 2 + 1 * (y 0).val = (y 0).val; omega
    · show 0 * 16384 + 1 * (y 1).val = (y 1).val; omega
    · show 0 * 27 + 1 * (y 2).val = (y 2).val; omega
    · show 0 * 128 + 1 * (y 3).val = (y 3).val; omega
  have hr : ∀ y : S2x16384x27x128.Idx, r0_1.emb y = y := fun y => by
    refine funext fun a => Fin.ext ?_
    fin_cases a
    · show 0 + 1 * (y 0).val = (y 0).val; omega
    · show 0 + 1 * (y 1).val = (y 1).val; omega
    · show 0 + 1 * (y 2).val = (y 2).val; omega
    · show 0 + 1 * (y 3).val = (y 3).val; omega
  refine Pipeline.Dat.arrAt_eq_of_cover (dats m 0 c) 3 (m ((c.tc : Thread nD τ).loc main_arg2) : S2x16384x27x128.Idx → EReal) (fun t _ => ?_) (fun i => ?_)
  · refine funext fun (y : S2x16384x27x128.Idx) => ?_
    show (dats m 0 c).after 3 t y = (m ((c.tc : Thread nD τ).loc main_arg2) : S2x16384x27x128.Idx → EReal) (((cfg0.win 3).blk t).view.emb y)
    rw [after0_3, hemb]
    refine (congrArg (out0_3 (iblk m c 0 t) (iblk m c 1 t)) (hr y).symm).trans ?_
    unfold out0_3
    refine (View.canon_cons_emb r0_1 _ [] y).trans ?_
    show V m c main_arg2 (((cfg0.win 1).blk t).view.emb (r0_1.emb y)) = _
    rw [hr, hemb0, V_main_arg2]
  · refine ⟨⟨0, lt_of_lt_of_eq Nat.one_pos (show 1 = cfg0.N from N_0.symm)⟩, flush0_3 _, ?_⟩
    have := ((cfg0.win 3).blk ⟨0, lt_of_lt_of_eq Nat.one_pos (show 1 = cfg0.N from N_0.symm)⟩).view.emb_mem_set i
    rwa [hemb] at this

end Cert.Proof.ReferenceIdeal

end
-- ==== Proof.RV.Value.lean ====
/- The reference's result as a sum over the feature index of the arguments. -/
module

public import proofs.«01_k».proof.Proof.RV.Gather
public import proofs.«01_k».proof.Proof.RV.Region
public import proofs.«01_k».proof.Proof.KV.Spec

@[expose] public section

set_option maxRecDepth 16384

noncomputable section

namespace Cert.Proof.ReferenceIdeal

open Cert.ReferenceIdeal Cert.ReferenceIdeal.Gen Cert.ReferenceIdeal.Read
open Idealize.ShloMosaic Idealize.ShloMosaic.TcCoe Idealize.SL.Sem
open Cert.Proof.KernelIdeal (spec rd3 rd4 tri)

/-- One term of the sum: the pair's scaled upstream gradient times the other feature's scaled embedding. -/
theorem term_at (x1 : S2x16384x26.Idx → EReal) (x3 : S2x16384x27.Idx → EReal) (r0 : S2x16384x351.Idx → EReal) (r1 : S2x16384x27x128.Idx → EReal)
    (e0 e1 : IVec S27x27 32) (e2 : IVec S27x27 1) (b : Fin 2) (s : Fin 16384) (i : Fin 27) (d : Fin 128) (k : Fin 27) :
    val_main_v43 (F := Ideal) x1 x3 r0 r1 e0 e1 e2 (idx_main_v44 (ix4 b s i d) k)
      = Scalar.select (e2 (ix2 i k))
          (r0 (ix3 b s (⟨min (val_main_v20 (F := Ideal) e0 (ix2 i k)).toInt.toNat 350, by omega⟩ : Fin 351))
            * x1 (ix3 b s (⟨min (val_main_v27 (F := Ideal) e1 (ix2 i k)).toInt.toNat 25, by omega⟩ : Fin 26))) 0
        * (r1 (ix4 b s k d) * x3 (ix3 b s k)) := by
  have hy : idx_main_v38 (idx_main_v41 (idx_main_v44 (ix4 b s i d) k)) = ix4 b s i k := by
    funext a; fin_cases a <;> rfl
  have hz : idx_main_v40 (idx_main_v42 (idx_main_v44 (ix4 b s i d) k)) = ix4 b s k d := by
    funext a; fin_cases a <;> rfl
  have hw : idx_main_v33 (idx_main_v35 (ix4 b s k d)) = ix3 b s k := by
    funext a; fin_cases a <;> rfl
  have hm : idx_main_call2_v0 (ix4 b s i k) = ix2 i k := by
    funext a; fin_cases a <;> rfl
  have h21 : idx_main_v21 (ix3 i k (0 : Fin 1)) = ix2 i k := by
    funext a; fin_cases a <;> rfl
  have h28 : idx_main_v28 (ix3 i k (0 : Fin 1)) = ix2 i k := by
    funext a; fin_cases a <;> rfl
  have h22 : val_main_v22 (F := Ideal) r0 e0 (ix4 b s i k) = r0 (ix3 b s (⟨min (val_main_v20 (F := Ideal) e0 (ix2 i k)).toInt.toNat 350, by omega⟩ : Fin 351)) := by
    refine (gather0 r0 (val_main_v21 (F := Ideal) e0) b s i k).trans (congrArg r0 (congrArg (ix3 b s) (Fin.ext ?_)))
    show min (val_main_v21 (F := Ideal) e0 (ix3 i k (0 : Fin 1))).toInt.toNat 350 = _
    rw [val_main_v21_apply, h21]
  have h29 : val_main_v29 (F := Ideal) x1 e1 (ix4 b s i k) = x1 (ix3 b s (⟨min (val_main_v27 (F := Ideal) e1 (ix2 i k)).toInt.toNat 25, by omega⟩ : Fin 26)) := by
    refine (gather1 x1 (val_main_v28 (F := Ideal) e1) b s i k).trans (congrArg x1 (congrArg (ix3 b s) (Fin.ext ?_)))
    show min (val_main_v28 (F := Ideal) e1 (ix3 i k (0 : Fin 1))).toInt.toNat 25 = _
    rw [val_main_v28_apply, h28]
  rw [val_main_v43_apply, val_main_v41_apply, val_main_v38_apply, hy, val_main_v37_apply, val_main_v32_apply, val_main_call2_v0_apply, hm,
    val_main_v31_apply, h22, val_main_v30_apply, h29, val_main_call2_v1_apply, val_main_cst_apply,
    val_main_v42_apply, val_main_v40_apply, hz, val_main_v39_apply, val_main_v36_apply, val_main_v35_apply, val_main_v34_apply, val_main_v33_apply, hw]
  show Scalar.select _ _ (Ideal.ofBits .bf16 0x0000#16) * _ = _
  rw [show Ideal.ofBits .bf16 0x0000#16 = 0 by simp [Ideal.ofBits, Ideal.ieee]]
  rfl

/-- The dense part: the dense gradient on feature 0, zero elsewhere. -/
theorem dense_at (x4 : S2x16384x128.Idx → EReal) (b : Fin 2) (s : Fin 16384) (i : Fin 27) (d : Fin 128) :
    val_main_v50 (F := Ideal) x4 (ix4 b s i d) = if i.val = 0 then x4 (ix3 b s d) else 0 := by
  have hz : idx_main_v49 (idx_main_call3_v1 (ix4 b s i d)) = ix3 b s d := by
    funext a; fin_cases a <;> rfl
  have hc : ∀ i : Fin 27, IntOp.cmpi .eq (BitVec.ofNat 32 i.val) 0#32 = if i.val = 0 then 1#1 else 0#1 := by decide +kernel
  rw [val_main_v50_apply, val_main_v47_apply, val_main_v45_apply, val_main_v46_apply, val_main_c_9_apply,
    val_main_call3_v1_apply, val_main_v49_apply, hz, val_main_v48_apply, val_main_call3_v2_apply, val_main_call3_v0_apply, val_main_cst_10_apply]
  show Scalar.select (IntOp.cmpi .eq (BitVec.ofNat 32 i.val) 0#32) (x4 (ix3 b s d)) (Ideal.ofBits .f32 0x00000000#32) = _
  rw [hc, Ideal.ofBits_zero_f32]
  by_cases h : i.val = 0
  · rw [if_pos h, if_pos h]; rfl
  · rw [if_neg h, if_neg h]; rfl

variable (m : (ℓ : Loc nD τ sig) → Buf (Elt Ideal) ℓ)

/-- The reference's result as a sum over the feature index of the arguments. -/
def rOut (c : Dev nD) : Buf (Elt Ideal) ((c.tc : Thread nD τ).loc main_v52) := fun y : S2x16384x27x128.Idx =>
  spec (rd3 (n0 := 2) (n1 := 16384) (n2 := 351) (m ((c.tc : Thread nD τ).loc main_arg0)))
    (rd3 (n0 := 2) (n1 := 16384) (n2 := 26) (m ((c.tc : Thread nD τ).loc main_arg1)))
    (rd4 (n0 := 2) (n1 := 16384) (n2 := 27) (n3 := 128) (m ((c.tc : Thread nD τ).loc main_arg2)))
    (rd3 (n0 := 2) (n1 := 16384) (n2 := 27) (m ((c.tc : Thread nD τ).loc main_arg3)))
    (rd3 (n0 := 2) (n1 := 16384) (n2 := 128) (m ((c.tc : Thread nD τ).loc main_arg4)))
    (y 0).val (y 1).val (y 2).val (y 3).val

/-- The run's result, with the tables and the region's results named. -/
theorem res_eq (c : Dev nD) : Value.res_main_v52 m c
    = val_main_v52 (F := Ideal) (m ((c.tc : Thread nD τ).loc main_arg1)) (m ((c.tc : Thread nD τ).loc main_arg3)) (m ((c.tc : Thread nD τ).loc main_arg4))
        (Value.reg_main_v15_0 m c) (Value.reg_main_v15_1 m c) tabP tabR tabM := rfl

theorem val_out (x0 : S2x16384x351.Idx → EReal) (x1 : S2x16384x26.Idx → EReal) (x2 : S2x16384x27x128.Idx → EReal) (x3 : S2x16384x27.Idx → EReal)
    (x4 : S2x16384x128.Idx → EReal) (b : Fin 2) (s : Fin 16384) (i : Fin 27) (d : Fin 128) :
    val_main_v52 (F := Ideal) x1 x3 x4 x0 x2 tabP tabR tabM (ix4 b s i d)
      = spec (rd3 (n0 := 2) (n1 := 16384) (n2 := 351) x0) (rd3 (n0 := 2) (n1 := 16384) (n2 := 26) x1) (rd4 (n0 := 2) (n1 := 16384) (n2 := 27) (n3 := 128) x2)
          (rd3 (n0 := 2) (n1 := 16384) (n2 := 27) x3) (rd3 (n0 := 2) (n1 := 16384) (n2 := 128) x4) b.val s.val i.val d.val := by
  rw [val_main_v52_apply, val_main_v51_apply, val_main_v44_apply, dense_at, val_main_cst_8_apply]
  show (Ideal.ofBits .f32 0x00000000#32 + ∑ k : Fin 27, val_main_v43 (F := Ideal) x1 x3 x0 x2 tabP tabR tabM (idx_main_v44 (ix4 b s i d) k)) + _ = _
  rw [Ideal.ofBits_zero_f32, zero_add]
  unfold spec
  congr 1
  · refine Finset.sum_congr rfl fun k _ => ?_
    rw [term_at, mask_at]
    refine congrArg₂ (· * ·) ?_ (congrArg₂ (· * ·) (Cert.Proof.KernelIdeal.rd4_eq x2 (ix4 b s k d)) (Cert.Proof.KernelIdeal.rd3_eq x3 (ix3 b s k)))
    by_cases h : i = k
    · rw [if_pos h, if_pos (congrArg Fin.val h)]; rfl
    · rw [if_neg h, if_neg (fun e => h (Fin.ext e))]
      refine congrArg₂ (· * ·) ((Cert.Proof.KernelIdeal.rd3_eq x0 _).trans ?_) ((Cert.Proof.KernelIdeal.rd3_eq x1 _).trans ?_)
      · exact congrArg (rd3 x0 b.val s.val) (pair_at i k h)
      · exact congrArg (rd3 x1 b.val s.val) (row_at i k h)
  · by_cases h : i.val = 0
    · rw [if_pos h, if_pos h]; exact Cert.Proof.KernelIdeal.rd3_eq x4 (ix3 b s d)
    · rw [if_neg h, if_neg h]

theorem ref_out (c : Dev nD) : Value.res_main_v52 m c = rOut m c := by
  rw [res_eq, reg0, reg1]
  refine funext fun (y : S2x16384x27x128.Idx) => ?_
  have hy : y = ix4 (n0 := 2) (n1 := 16384) (n2 := 27) (n3 := 128) (y 0) (y 1) (y 2) (y 3) := by funext a; fin_cases a <;> rfl
  refine (congrArg _ hy).trans ?_
  exact val_out _ _ _ _ _ (y 0) (y 1) (y 2) (y 3)

end Cert.Proof.ReferenceIdeal

end
-- ==== Proof.K.Geo.lean ====
module

public import proofs.«01_k».proof.Proof.Gen.Kernel.Loops
public import proofs.«01_k».proof.Proof.Gen.Kernel.Launch
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Ring.WriteBehind
public import Idealize.ShloMosaic.Lib.Tactic
public import Idealize.ShloMosaic.Lib.WordCmp

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

theorem rem3 : ∀ i : grid0.Coords, (Scalar.remsi (BitVec.ofNat 32 (i 0).val) 3#32).toNat = (i 0).val % 3 := by decide +kernel
theorem kdiv : ∀ k : Fin k0_t1_loop.trips, (Scalar.divsi (Scalar.subi (Scf.iv 0#32 1#32 k) 1#32) 2#32).toNat = (k.val - 1) / 2 := by decide +kernel
theorem ktile : ∀ (k : Fin k0_t1_loop.trips) (l : Fin k0_t3_loop.trips), 1 ≤ k.val → (Scalar.indexCast (Scalar.addi (Scalar.muli (Scalar.remsi (Scalar.subi (Scf.iv 0#32 1#32 k) 1#32) 2#32) 16#32) (Scf.iv 0#32 1#32 l)) : Index).toNat = 16 * ((k.val - 1) % 2) + l.val := by decide +kernel
theorem cond6_pos : ∀ k : Fin k0_t1_loop.trips, k0_cond6 k = 1#1 → 1 ≤ k.val := by decide +kernel
theorem cond5_lt : ∀ k : Fin k0_t1_loop.trips, k0_cond5 k = 1#1 → k.val < 4 := by decide +kernel
theorem off283_eq (i : grid0.Coords) (k : Fin k0_t1_loop.trips) : k0_off283 i k = ![(i 0).val % 3, (k.val - 1) / 2, 0, 0, 0] := by
  show ![(Scalar.remsi (BitVec.ofNat 32 (i 0).val) 3#32).toNat, (Scalar.divsi (Scalar.subi (Scf.iv 0#32 1#32 k) 1#32) 2#32).toNat, 0, 0, 0] = _
  rw [rem3, kdiv]
instance (i : grid0.Coords) (k : Fin k0_t1_loop.trips) : ClosedOff (k0_off283 i k) := ⟨_, off283_eq i k⟩
theorem off291_eq (i : grid0.Coords) (k : Fin k0_t1_loop.trips) (l : Fin k0_t3_loop.trips) (h : 1 ≤ k.val) : k0_off291 i k l = ![(i 0).val % 3, (k.val - 1) / 2, 0, 16 * ((k.val - 1) % 2) + l.val, 0, 0] := by
  show ![(Scalar.remsi (BitVec.ofNat 32 (i 0).val) 3#32).toNat, (Scalar.divsi (Scalar.subi (Scf.iv 0#32 1#32 k) 1#32) 2#32).toNat, 0, (Scalar.indexCast (Scalar.addi (Scalar.muli (Scalar.remsi (Scalar.subi (Scf.iv 0#32 1#32 k) 1#32) 2#32) 16#32) (Scf.iv 0#32 1#32 l)) : Index).toNat, 0, 0] = _
  rw [rem3, kdiv, ktile _ _ h]
instance (i : grid0.Coords) (k : Fin k0_t1_loop.trips) (l : Fin k0_t3_loop.trips) [h : Fact (1 ≤ k.val)] : ClosedOff (k0_off291 i k l) := ⟨_, off291_eq i k l h.out⟩
theorem off292_eq (i : grid0.Coords) (k : Fin k0_t1_loop.trips) (l : Fin k0_t3_loop.trips) (h : 1 ≤ k.val) : k0_off292 i k l = ![(i 0).val % 3, (k.val - 1) / 2, 8, 16 * ((k.val - 1) % 2) + l.val, 0, 0] := by
  show ![(Scalar.remsi (BitVec.ofNat 32 (i 0).val) 3#32).toNat, (Scalar.divsi (Scalar.subi (Scf.iv 0#32 1#32 k) 1#32) 2#32).toNat, 8, (Scalar.indexCast (Scalar.addi (Scalar.muli (Scalar.remsi (Scalar.subi (Scf.iv 0#32 1#32 k) 1#32) 2#32) 16#32) (Scf.iv 0#32 1#32 l)) : Index).toNat, 0, 0] = _
  rw [rem3, kdiv, ktile _ _ h]
instance (i : grid0.Coords) (k : Fin k0_t1_loop.trips) (l : Fin k0_t3_loop.trips) [h : Fact (1 ≤ k.val)] : ClosedOff (k0_off292 i k l) := ⟨_, off292_eq i k l h.out⟩
theorem off293_eq (i : grid0.Coords) (k : Fin k0_t1_loop.trips) (l : Fin k0_t3_loop.trips) (h : 1 ≤ k.val) : k0_off293 i k l = ![(i 0).val % 3, (k.val - 1) / 2, 16, 16 * ((k.val - 1) % 2) + l.val, 0, 0] := by
  show ![(Scalar.remsi (BitVec.ofNat 32 (i 0).val) 3#32).toNat, (Scalar.divsi (Scalar.subi (Scf.iv 0#32 1#32 k) 1#32) 2#32).toNat, 16, (Scalar.indexCast (Scalar.addi (Scalar.muli (Scalar.remsi (Scalar.subi (Scf.iv 0#32 1#32 k) 1#32) 2#32) 16#32) (Scf.iv 0#32 1#32 l)) : Index).toNat, 0, 0] = _
  rw [rem3, kdiv, ktile _ _ h]
instance (i : grid0.Coords) (k : Fin k0_t1_loop.trips) (l : Fin k0_t3_loop.trips) [h : Fact (1 ≤ k.val)] : ClosedOff (k0_off293 i k l) := ⟨_, off293_eq i k l h.out⟩
theorem off294_eq (i : grid0.Coords) (k : Fin k0_t1_loop.trips) (l : Fin k0_t3_loop.trips) (h : 1 ≤ k.val) : k0_off294 i k l = ![(i 0).val % 3, (k.val - 1) / 2, 24, 16 * ((k.val - 1) % 2) + l.val, 0, 0] := by
  show ![(Scalar.remsi (BitVec.ofNat 32 (i 0).val) 3#32).toNat, (Scalar.divsi (Scalar.subi (Scf.iv 0#32 1#32 k) 1#32) 2#32).toNat, 24, (Scalar.indexCast (Scalar.addi (Scalar.muli (Scalar.remsi (Scalar.subi (Scf.iv 0#32 1#32 k) 1#32) 2#32) 16#32) (Scf.iv 0#32 1#32 l)) : Index).toNat, 0, 0] = _
  rw [rem3, kdiv, ktile _ _ h]
instance (i : grid0.Coords) (k : Fin k0_t1_loop.trips) (l : Fin k0_t3_loop.trips) [h : Fact (1 ≤ k.val)] : ClosedOff (k0_off294 i k l) := ⟨_, off294_eq i k l h.out⟩
theorem off295_eq (i : grid0.Coords) (k : Fin k0_t1_loop.trips) (l : Fin k0_t3_loop.trips) (h : 1 ≤ k.val) : k0_off295 i k l = ![(i 0).val % 3, (k.val - 1) / 2, 0, 16 * ((k.val - 1) % 2) + l.val, 2, 0] := by
  show ![(Scalar.remsi (BitVec.ofNat 32 (i 0).val) 3#32).toNat, (Scalar.divsi (Scalar.subi (Scf.iv 0#32 1#32 k) 1#32) 2#32).toNat, 0, (Scalar.indexCast (Scalar.addi (Scalar.muli (Scalar.remsi (Scalar.subi (Scf.iv 0#32 1#32 k) 1#32) 2#32) 16#32) (Scf.iv 0#32 1#32 l)) : Index).toNat, 2, 0] = _
  rw [rem3, kdiv, ktile _ _ h]
instance (i : grid0.Coords) (k : Fin k0_t1_loop.trips) (l : Fin k0_t3_loop.trips) [h : Fact (1 ≤ k.val)] : ClosedOff (k0_off295 i k l) := ⟨_, off295_eq i k l h.out⟩
theorem off296_eq (i : grid0.Coords) (k : Fin k0_t1_loop.trips) (l : Fin k0_t3_loop.trips) (h : 1 ≤ k.val) : k0_off296 i k l = ![(i 0).val % 3, (k.val - 1) / 2, 8, 16 * ((k.val - 1) % 2) + l.val, 2, 0] := by
  show ![(Scalar.remsi (BitVec.ofNat 32 (i 0).val) 3#32).toNat, (Scalar.divsi (Scalar.subi (Scf.iv 0#32 1#32 k) 1#32) 2#32).toNat, 8, (Scalar.indexCast (Scalar.addi (Scalar.muli (Scalar.remsi (Scalar.subi (Scf.iv 0#32 1#32 k) 1#32) 2#32) 16#32) (Scf.iv 0#32 1#32 l)) : Index).toNat, 2, 0] = _
  rw [rem3, kdiv, ktile _ _ h]
instance (i : grid0.Coords) (k : Fin k0_t1_loop.trips) (l : Fin k0_t3_loop.trips) [h : Fact (1 ≤ k.val)] : ClosedOff (k0_off296 i k l) := ⟨_, off296_eq i k l h.out⟩
theorem off297_eq (i : grid0.Coords) (k : Fin k0_t1_loop.trips) (l : Fin k0_t3_loop.trips) (h : 1 ≤ k.val) : k0_off297 i k l = ![(i 0).val % 3, (k.val - 1) / 2, 16, 16 * ((k.val - 1) % 2) + l.val, 2, 0] := by
  show ![(Scalar.remsi (BitVec.ofNat 32 (i 0).val) 3#32).toNat, (Scalar.divsi (Scalar.subi (Scf.iv 0#32 1#32 k) 1#32) 2#32).toNat, 16, (Scalar.indexCast (Scalar.addi (Scalar.muli (Scalar.remsi (Scalar.subi (Scf.iv 0#32 1#32 k) 1#32) 2#32) 16#32) (Scf.iv 0#32 1#32 l)) : Index).toNat, 2, 0] = _
  rw [rem3, kdiv, ktile _ _ h]
instance (i : grid0.Coords) (k : Fin k0_t1_loop.trips) (l : Fin k0_t3_loop.trips) [h : Fact (1 ≤ k.val)] : ClosedOff (k0_off297 i k l) := ⟨_, off297_eq i k l h.out⟩
theorem off298_eq (i : grid0.Coords) (k : Fin k0_t1_loop.trips) (l : Fin k0_t3_loop.trips) (h : 1 ≤ k.val) : k0_off298 i k l = ![(i 0).val % 3, (k.val - 1) / 2, 24, 16 * ((k.val - 1) % 2) + l.val, 2, 0] := by
  show ![(Scalar.remsi (BitVec.ofNat 32 (i 0).val) 3#32).toNat, (Scalar.divsi (Scalar.subi (Scf.iv 0#32 1#32 k) 1#32) 2#32).toNat, 24, (Scalar.indexCast (Scalar.addi (Scalar.muli (Scalar.remsi (Scalar.subi (Scf.iv 0#32 1#32 k) 1#32) 2#32) 16#32) (Scf.iv 0#32 1#32 l)) : Index).toNat, 2, 0] = _
  rw [rem3, kdiv, ktile _ _ h]
instance (i : grid0.Coords) (k : Fin k0_t1_loop.trips) (l : Fin k0_t3_loop.trips) [h : Fact (1 ≤ k.val)] : ClosedOff (k0_off298 i k l) := ⟨_, off298_eq i k l h.out⟩
theorem off299_eq (i : grid0.Coords) (k : Fin k0_t1_loop.trips) (l : Fin k0_t3_loop.trips) (h : 1 ≤ k.val) : k0_off299 i k l = ![(i 0).val % 3, (k.val - 1) / 2, 0, 16 * ((k.val - 1) % 2) + l.val, 4, 0] := by
  show ![(Scalar.remsi (BitVec.ofNat 32 (i 0).val) 3#32).toNat, (Scalar.divsi (Scalar.subi (Scf.iv 0#32 1#32 k) 1#32) 2#32).toNat, 0, (Scalar.indexCast (Scalar.addi (Scalar.muli (Scalar.remsi (Scalar.subi (Scf.iv 0#32 1#32 k) 1#32) 2#32) 16#32) (Scf.iv 0#32 1#32 l)) : Index).toNat, 4, 0] = _
  rw [rem3, kdiv, ktile _ _ h]
instance (i : grid0.Coords) (k : Fin k0_t1_loop.trips) (l : Fin k0_t3_loop.trips) [h : Fact (1 ≤ k.val)] : ClosedOff (k0_off299 i k l) := ⟨_, off299_eq i k l h.out⟩
theorem off300_eq (i : grid0.Coords) (k : Fin k0_t1_loop.trips) (l : Fin k0_t3_loop.trips) (h : 1 ≤ k.val) : k0_off300 i k l = ![(i 0).val % 3, (k.val - 1) / 2, 8, 16 * ((k.val - 1) % 2) + l.val, 4, 0] := by
  show ![(Scalar.remsi (BitVec.ofNat 32 (i 0).val) 3#32).toNat, (Scalar.divsi (Scalar.subi (Scf.iv 0#32 1#32 k) 1#32) 2#32).toNat, 8, (Scalar.indexCast (Scalar.addi (Scalar.muli (Scalar.remsi (Scalar.subi (Scf.iv 0#32 1#32 k) 1#32) 2#32) 16#32) (Scf.iv 0#32 1#32 l)) : Index).toNat, 4, 0] = _
  rw [rem3, kdiv, ktile _ _ h]
instance (i : grid0.Coords) (k : Fin k0_t1_loop.trips) (l : Fin k0_t3_loop.trips) [h : Fact (1 ≤ k.val)] : ClosedOff (k0_off300 i k l) := ⟨_, off300_eq i k l h.out⟩
theorem off301_eq (i : grid0.Coords) (k : Fin k0_t1_loop.trips) (l : Fin k0_t3_loop.trips) (h : 1 ≤ k.val) : k0_off301 i k l = ![(i 0).val % 3, (k.val - 1) / 2, 16, 16 * ((k.val - 1) % 2) + l.val, 4, 0] := by
  show ![(Scalar.remsi (BitVec.ofNat 32 (i 0).val) 3#32).toNat, (Scalar.divsi (Scalar.subi (Scf.iv 0#32 1#32 k) 1#32) 2#32).toNat, 16, (Scalar.indexCast (Scalar.addi (Scalar.muli (Scalar.remsi (Scalar.subi (Scf.iv 0#32 1#32 k) 1#32) 2#32) 16#32) (Scf.iv 0#32 1#32 l)) : Index).toNat, 4, 0] = _
  rw [rem3, kdiv, ktile _ _ h]
instance (i : grid0.Coords) (k : Fin k0_t1_loop.trips) (l : Fin k0_t3_loop.trips) [h : Fact (1 ≤ k.val)] : ClosedOff (k0_off301 i k l) := ⟨_, off301_eq i k l h.out⟩
theorem off302_eq (i : grid0.Coords) (k : Fin k0_t1_loop.trips) (l : Fin k0_t3_loop.trips) (h : 1 ≤ k.val) : k0_off302 i k l = ![(i 0).val % 3, (k.val - 1) / 2, 24, 16 * ((k.val - 1) % 2) + l.val, 4, 0] := by
  show ![(Scalar.remsi (BitVec.ofNat 32 (i 0).val) 3#32).toNat, (Scalar.divsi (Scalar.subi (Scf.iv 0#32 1#32 k) 1#32) 2#32).toNat, 24, (Scalar.indexCast (Scalar.addi (Scalar.muli (Scalar.remsi (Scalar.subi (Scf.iv 0#32 1#32 k) 1#32) 2#32) 16#32) (Scf.iv 0#32 1#32 l)) : Index).toNat, 4, 0] = _
  rw [rem3, kdiv, ktile _ _ h]
instance (i : grid0.Coords) (k : Fin k0_t1_loop.trips) (l : Fin k0_t3_loop.trips) [h : Fact (1 ≤ k.val)] : ClosedOff (k0_off302 i k l) := ⟨_, off302_eq i k l h.out⟩
theorem off303_eq (i : grid0.Coords) (k : Fin k0_t1_loop.trips) (l : Fin k0_t3_loop.trips) (h : 1 ≤ k.val) : k0_off303 i k l = ![(i 0).val % 3, (k.val - 1) / 2, 0, 16 * ((k.val - 1) % 2) + l.val, 6, 0] := by
  show ![(Scalar.remsi (BitVec.ofNat 32 (i 0).val) 3#32).toNat, (Scalar.divsi (Scalar.subi (Scf.iv 0#32 1#32 k) 1#32) 2#32).toNat, 0, (Scalar.indexCast (Scalar.addi (Scalar.muli (Scalar.remsi (Scalar.subi (Scf.iv 0#32 1#32 k) 1#32) 2#32) 16#32) (Scf.iv 0#32 1#32 l)) : Index).toNat, 6, 0] = _
  rw [rem3, kdiv, ktile _ _ h]
instance (i : grid0.Coords) (k : Fin k0_t1_loop.trips) (l : Fin k0_t3_loop.trips) [h : Fact (1 ≤ k.val)] : ClosedOff (k0_off303 i k l) := ⟨_, off303_eq i k l h.out⟩
theorem off304_eq (i : grid0.Coords) (k : Fin k0_t1_loop.trips) (l : Fin k0_t3_loop.trips) (h : 1 ≤ k.val) : k0_off304 i k l = ![(i 0).val % 3, (k.val - 1) / 2, 8, 16 * ((k.val - 1) % 2) + l.val, 6, 0] := by
  show ![(Scalar.remsi (BitVec.ofNat 32 (i 0).val) 3#32).toNat, (Scalar.divsi (Scalar.subi (Scf.iv 0#32 1#32 k) 1#32) 2#32).toNat, 8, (Scalar.indexCast (Scalar.addi (Scalar.muli (Scalar.remsi (Scalar.subi (Scf.iv 0#32 1#32 k) 1#32) 2#32) 16#32) (Scf.iv 0#32 1#32 l)) : Index).toNat, 6, 0] = _
  rw [rem3, kdiv, ktile _ _ h]
instance (i : grid0.Coords) (k : Fin k0_t1_loop.trips) (l : Fin k0_t3_loop.trips) [h : Fact (1 ≤ k.val)] : ClosedOff (k0_off304 i k l) := ⟨_, off304_eq i k l h.out⟩
theorem off305_eq (i : grid0.Coords) (k : Fin k0_t1_loop.trips) (l : Fin k0_t3_loop.trips) (h : 1 ≤ k.val) : k0_off305 i k l = ![(i 0).val % 3, (k.val - 1) / 2, 16, 16 * ((k.val - 1) % 2) + l.val, 6, 0] := by
  show ![(Scalar.remsi (BitVec.ofNat 32 (i 0).val) 3#32).toNat, (Scalar.divsi (Scalar.subi (Scf.iv 0#32 1#32 k) 1#32) 2#32).toNat, 16, (Scalar.indexCast (Scalar.addi (Scalar.muli (Scalar.remsi (Scalar.subi (Scf.iv 0#32 1#32 k) 1#32) 2#32) 16#32) (Scf.iv 0#32 1#32 l)) : Index).toNat, 6, 0] = _
  rw [rem3, kdiv, ktile _ _ h]
instance (i : grid0.Coords) (k : Fin k0_t1_loop.trips) (l : Fin k0_t3_loop.trips) [h : Fact (1 ≤ k.val)] : ClosedOff (k0_off305 i k l) := ⟨_, off305_eq i k l h.out⟩
theorem off306_eq (i : grid0.Coords) (k : Fin k0_t1_loop.trips) (l : Fin k0_t3_loop.trips) (h : 1 ≤ k.val) : k0_off306 i k l = ![(i 0).val % 3, (k.val - 1) / 2, 24, 16 * ((k.val - 1) % 2) + l.val, 6, 0] := by
  show ![(Scalar.remsi (BitVec.ofNat 32 (i 0).val) 3#32).toNat, (Scalar.divsi (Scalar.subi (Scf.iv 0#32 1#32 k) 1#32) 2#32).toNat, 24, (Scalar.indexCast (Scalar.addi (Scalar.muli (Scalar.remsi (Scalar.subi (Scf.iv 0#32 1#32 k) 1#32) 2#32) 16#32) (Scf.iv 0#32 1#32 l)) : Index).toNat, 6, 0] = _
  rw [rem3, kdiv, ktile _ _ h]
instance (i : grid0.Coords) (k : Fin k0_t1_loop.trips) (l : Fin k0_t3_loop.trips) [h : Fact (1 ≤ k.val)] : ClosedOff (k0_off306 i k l) := ⟨_, off306_eq i k l h.out⟩

/-- Slot `s` of the ring the embedding blocks are copied into, padding included. -/
abbrev eR (s : ℕ) : Rect S3x2x32x288x128 :=
  Rect.unit (s := S3x2x32x288x128) ![s % 3, 0, 0, 0, 0] ![1, 2, 32, 288, 128] (fun a => by have := Nat.mod_lt s (show 0 < 3 by decide); fin_cases a <;> simp <;> omega)
/-- Slot `s` of the ring the results are copied out of, padding included. -/
abbrev oR (s : ℕ) : Rect S3x2x27x33x8x128 :=
  Rect.unit (s := S3x2x27x33x8x128) ![s % 3, 0, 0, 0, 0, 0] ![1, 2, 27, 33, 8, 128] (fun a => by have := Nat.mod_lt s (show 0 < 3 by decide); fin_cases a <;> simp <;> omega)

/-- Every element of a batch's planes of a slot is the slot's. -/
theorem e_sub (arg7 : Memref sig .tc .vmem S3x2x32x288x128 .fp8e4m3) (i : grid0.Coords) (k : Fin k0_t1_loop.trips)
    (h : k0_cond6 k = 1#1) (M : Finset S32x288x128.Idx) :
    ((arg7.slice (Rect.unit (s := S3x2x32x288x128) (k0_off283 i k) S1x1x32x288x128.size (k0_off283_inb i k h)) (fun _ => rfl)).squeeze S32x288x128 squeezes_S1x1x32x288x128_S32x288x128).view.setOn M
      ⊆ arg7.view.setOn (eR (i 0).val).set := by
  have hk := k.isLt
  refine (View.setOn_subset_set _ M).trans ?_
  refine (View.set_reshape_subset (arg7.view.slice _) _ (Finset.Subset.refl _)).trans ?_
  rw [View.set_slice]
  refine Finset.map_subset_map.mpr (Rect.set_subset_of_span _ _ (fun _ => rfl) ?_)
  have hk5 : k.val < 5 := k.isLt
  generalize k0_off283_inb i k h = hb
  revert hb
  rw [off283_eq i k]
  intro hb a
  fin_cases a <;> simp [eR, Rect.unit] <;> omega

theorem o_sub (arg8 : Memref sig .tc .vmem S3x2x27x33x8x128 .bf16) (i : grid0.Coords) (off size : Fin 6 → ℕ) (inb) (b i0 tile q : ℕ)
    (e : off = ![(i 0).val % 3, b, i0, tile, q, 0]) (hs : size 0 = 1) (M : Finset _) :
    (arg8.access (Rect.unit (s := S3x2x27x33x8x128) off size inb)).setOn M ⊆ arg8.view.setOn (oR (i 0).val).set := by
  refine (View.setOn_subset_set _ M).trans ?_
  show (arg8.view.slice _).set ⊆ _
  rw [View.set_slice]
  refine Finset.map_subset_map.mpr (Rect.set_subset_of_span _ _ (fun _ => rfl) ?_)
  subst e
  intro a
  have := inb a
  fin_cases a <;> simp [oR, Rect.unit, hs] at this ⊢ <;> omega

end Cert.Proof.Kernel

end
-- ==== Proof.K.T3.lean ====
module

public import proofs.«01_k».proof.Proof.K.Geo
public import proofs.«01_k».proof.Proof.Gen.Kernel.Loops
public import proofs.«01_k».proof.Proof.Gen.Kernel.Launch
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Ring.WriteBehind
public import Idealize.ShloMosaic.Lib.Tactic
public import Idealize.ShloMosaic.Lib.WordCmp

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

set_option warn.classDefReducibility false in
set_option sl_exec.squeezeSlice true in
@[sl_loop] noncomputable def loopInv_k0_t3 (c : Dev nD) (i : grid0.Coords) (arg1 : Memref sig .tc .vmem S2x351x256 .fp8e5m2) (harg1 : arg1.IsWhole) (arg2 : Memref sig .tc .vmem S26x2x256 .f32) (harg2 : arg2.IsWhole) (arg3 : Memref sig .tc .vmem S27x2x256 .f32) (harg3 : arg3.IsWhole) (arg4 : Memref sig .tc .vmem S2x256x128 .bf16) (harg4 : arg4.IsWhole) (arg5 : Memref sig .tc .hbm S2x27x16384x128 .fp8e4m3) (harg5 : arg5.IsWhole) (arg6 : Memref sig .tc .hbm S2x27x2048x8x128 .bf16) (harg6 : arg6.IsWhole) (arg7 : Memref sig .tc .vmem S3x2x32x288x128 .fp8e4m3) (harg7 : arg7.IsWhole) (arg8 : Memref sig .tc .vmem S3x2x27x33x8x128 .bf16) (harg8 : arg8.IsWhole) (arg9 : Memref sig .tc .vmem S2x352x128 .f32) (harg9 : arg9.IsWhole) (arg10 : Memref sig .tc .vmem S2x2x32x128 .f32) (harg10 : arg10.IsWhole) (arg11 : Memref sig .tc .vmem S2x1008x128 .f32) (harg11 : arg11.IsWhole) (arg12 : Memref sig .tc .vmem S2x2560x128 .i32) (harg12 : arg12.IsWhole) (arg13 : Memref sig .tc .vmem S2x1152x128 .f32) (harg13 : arg13.IsWhole) (arg14 : DmaSems sig S3) (arg15 : DmaSems sig S3) (k0_t1 : Fin k0_t1_loop.trips) (k0_h6 : k0_cond6 k0_t1 = 1#1) (v63 : BitVec 32) (v64 : BitVec 32) :
    LoopInvTy_k0_t3 (F := F) Unit ℕ (Pipeline.UD sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 arg15 k0_t1 k0_h6 v63 v64 where
  inv := fun _ _ => iprop((∃ f, arg7.view.loc (c : Thread nD τ) ↦[arg7.view.setOn (eR (i 0).val).set]{fullShare} f)
    ∗ (∃ f, arg8.view.loc (c : Thread nD τ) ↦[arg8.view.setOn (oR (i 0).val).set]{fullShare} f)
    ∗ (∃ f, arg12.view.loc (c : Thread nD τ) ↦[arg12.view.set]{fullShare} f) ∗ (∃ f, arg13.view.loc (c : Thread nD τ) ↦[arg13.view.set]{fullShare} f))
  step := fun k0_t3 acc => by
    have hk1 : 1 ≤ k0_t1.val := cond6_pos k0_t1 k0_h6
    haveI : Fact (1 ≤ k0_t1.val) := ⟨hk1⟩
    have hk5 : k0_t1.val < 5 := k0_t1.isLt
    have hl16 : k0_t3.val < 16 := k0_t3.isLt
    have hE := e_sub arg7 i k0_t1 k0_h6
    unfold k0_t3_body
    iintro ⟨⟨%fe, HE⟩, ⟨%fo, HO⟩, ⟨%fl, HL⟩, ⟨%fd, HD⟩⟩
    sl_exec
    sl_step
    isplitl [HE]; · iexists _; iexact HE
    isplitl [HO]; · iexists _; iexact HO
    isplitl [HL]; · iexists _; iexact HL
    iexists _; iexact HD

end Cert.Proof.Kernel

end
-- ==== Proof.K.T2.lean ====
module

public import proofs.«01_k».proof.Proof.K.Geo
public import proofs.«01_k».proof.Proof.Gen.Kernel.Loops
public import proofs.«01_k».proof.Proof.Gen.Kernel.Launch
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Ring.WriteBehind
public import Idealize.ShloMosaic.Lib.Tactic
public import Idealize.ShloMosaic.Lib.WordCmp

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

set_option warn.classDefReducibility false in
@[sl_loop] noncomputable def loopInv_k0_t2 (c : Dev nD) (i : grid0.Coords) (arg1 : Memref sig .tc .vmem S2x351x256 .fp8e5m2) (harg1 : arg1.IsWhole) (arg2 : Memref sig .tc .vmem S26x2x256 .f32) (harg2 : arg2.IsWhole) (arg3 : Memref sig .tc .vmem S27x2x256 .f32) (harg3 : arg3.IsWhole) (arg4 : Memref sig .tc .vmem S2x256x128 .bf16) (harg4 : arg4.IsWhole) (arg5 : Memref sig .tc .hbm S2x27x16384x128 .fp8e4m3) (harg5 : arg5.IsWhole) (arg6 : Memref sig .tc .hbm S2x27x2048x8x128 .bf16) (harg6 : arg6.IsWhole) (arg7 : Memref sig .tc .vmem S3x2x32x288x128 .fp8e4m3) (harg7 : arg7.IsWhole) (arg8 : Memref sig .tc .vmem S3x2x27x33x8x128 .bf16) (harg8 : arg8.IsWhole) (arg9 : Memref sig .tc .vmem S2x352x128 .f32) (harg9 : arg9.IsWhole) (arg10 : Memref sig .tc .vmem S2x2x32x128 .f32) (harg10 : arg10.IsWhole) (arg11 : Memref sig .tc .vmem S2x1008x128 .f32) (harg11 : arg11.IsWhole) (arg12 : Memref sig .tc .vmem S2x2560x128 .i32) (harg12 : arg12.IsWhole) (arg13 : Memref sig .tc .vmem S2x1152x128 .f32) (harg13 : arg13.IsWhole) (arg14 : DmaSems sig S3) (arg15 : DmaSems sig S3) (v16 : IVec S8x128 1) (v40 : IVec S8x128 32) (k0_t1 : Fin k0_t1_loop.trips) (k0_h5 : k0_cond5 k0_t1 = 1#1) (v61 : BitVec 32) (v63 : BitVec 32) (v65 : BitVec 32) (v1381 : FVec F S8x128 .f32) (v1386 : FVec F S8x128 .f32) (v1439 : FVec F S8x128 .f32) :
    LoopInvTy_k0_t2 (F := F) Unit ℕ (Pipeline.UD sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 arg15 v16 v40 k0_t1 k0_h5 v61 v63 v65 v1381 v1386 v1439 where
  inv := fun _ _ => iprop((∃ f, arg11.view.loc (c : Thread nD τ) ↦[arg11.view.set]{fullShare} f) ∗ (∃ f, arg12.view.loc (c : Thread nD τ) ↦[arg12.view.set]{fullShare} f))
  step := fun k0_t2 acc => by
    unfold k0_t2_body
    iintro ⟨⟨%fu, HU⟩, ⟨%fl, HL⟩⟩
    sl_exec
    sl_step
    isplitl [HU]; · iexists _; iexact HU
    iexists _; iexact HL

end Cert.Proof.Kernel

end
-- ==== Proof.K.Mem.lean ====
module

public import proofs.«01_k».proof.Proof.K.Geo
public import proofs.«01_k».proof.Proof.Gen.Kernel.Loops
public import proofs.«01_k».proof.Proof.Gen.Kernel.Launch
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Ring.WriteBehind
public import Idealize.ShloMosaic.Lib.Tactic
public import Idealize.ShloMosaic.Lib.WordCmp

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

theorem inb_eBox (s : Fin 3) : ∀ a, (![s.val, 0, 0, 0, 0] : Fin 5 → Nat) a + S1x2x27x256x128.size a ≤ S3x2x32x288x128.size a := by
  have := s.isLt; intro a; fin_cases a <;> simp <;> omega
theorem inb_eSlot (s : Fin 3) : ∀ a, (![s.val, 0, 0, 0, 0] : Fin 5 → Nat) a + (![1, 2, 32, 288, 128] : Fin 5 → Nat) a ≤ S3x2x32x288x128.size a := by
  have := s.isLt; intro a; fin_cases a <;> simp <;> omega
theorem inb_ePad (s : Fin 3) : ∀ a, (![s.val, 0, 27, 0, 0] : Fin 5 → Nat) a + (![1, 2, 5, 288, 128] : Fin 5 → Nat) a ≤ S3x2x32x288x128.size a := by
  have := s.isLt; intro a; fin_cases a <;> simp <;> omega
theorem inb_oTile (s : Fin 3) : ∀ a, (![s.val, 0, 0, 0, 0, 0] : Fin 6 → Nat) a + S1x2x27x32x8x128.size a ≤ S3x2x27x33x8x128.size a := by
  have := s.isLt; intro a; fin_cases a <;> simp <;> omega
theorem inb_oSlot (s : Fin 3) : ∀ a, (![s.val, 0, 0, 0, 0, 0] : Fin 6 → Nat) a + (![1, 2, 27, 33, 8, 128] : Fin 6 → Nat) a ≤ S3x2x27x33x8x128.size a := by
  have := s.isLt; intro a; fin_cases a <;> simp <;> omega

/-- Slot `s` of the ring the embeddings are copied into, padding included. -/
abbrev eSlot (s : Fin 3) : Rect S3x2x32x288x128 := Rect.unit (s := S3x2x32x288x128) ![s.val, 0, 0, 0, 0] ![1, 2, 32, 288, 128] (inb_eSlot s)
/-- The padding planes of slot `s`, which no copy fills. -/
abbrev ePad (s : Fin 3) : Rect S3x2x32x288x128 := Rect.unit (s := S3x2x32x288x128) ![s.val, 0, 27, 0, 0] ![1, 2, 5, 288, 128] (inb_ePad s)
/-- Slot `s` of the ring the results are copied out of, padding included. -/
abbrev oSlot (s : Fin 3) : Rect S3x2x27x33x8x128 := Rect.unit (s := S3x2x27x33x8x128) ![s.val, 0, 0, 0, 0, 0] ![1, 2, 27, 33, 8, 128] (inb_oSlot s)

/-- The box of slot `s` that one copy of embeddings fills, spelt as the copies spell their destination. -/
def eBox (arg7 : Memref sig .tc .vmem S3x2x32x288x128 .fp8e4m3) (s : Fin 3) : Memref sig .tc .vmem S2x27x256x128 .fp8e4m3 :=
  (arg7.slice (Rect.unit (s := S3x2x32x288x128) ![s.val, 0, 0, 0, 0] S1x2x27x256x128.size (inb_eBox s)) (fun _ => rfl)).squeeze S2x27x256x128 squeezes_S1x2x27x256x128_S2x27x256x128
/-- The tile of slot `s` that one copy of results carries out, spelt as the copies spell their source. -/
def oTile (arg8 : Memref sig .tc .vmem S3x2x27x33x8x128 .bf16) (s : Fin 3) : Memref sig .tc .vmem S2x27x32x8x128 .bf16 :=
  (arg8.slice (Rect.unit (s := S3x2x27x33x8x128) ![s.val, 0, 0, 0, 0, 0] S1x2x27x32x8x128.size (inb_oTile s)) (fun _ => rfl)).squeeze S2x27x32x8x128 squeezes_S1x2x27x32x8x128_S2x27x32x8x128

section Split
variable (arg7 : Memref sig .tc .vmem S3x2x32x288x128 .fp8e4m3) (arg8 : Memref sig .tc .vmem S3x2x27x33x8x128 .bf16) (c : Dev nD) (s : Fin 3)

theorem eBox_set : (eBox arg7 s).view.set = arg7.view.setOn (Rect.unit (s := S3x2x32x288x128) ![s.val, 0, 0, 0, 0] S1x2x27x256x128.size (inb_eBox s)).set := by
  simp only [eBox, Memref.view_squeeze, View.set_reshape]; exact View.set_slice _ _
theorem oTile_set : (oTile arg8 s).view.set = arg8.view.setOn (Rect.unit (s := S3x2x27x33x8x128) ![s.val, 0, 0, 0, 0, 0] S1x2x27x32x8x128.size (inb_oTile s)).set := by
  simp only [oTile, Memref.view_squeeze, View.set_reshape]; exact View.set_slice _ _

theorem eBox_sub : (eBox arg7 s).view.set ⊆ arg7.view.setOn (eSlot s).set := by
  rw [eBox_set]
  refine Finset.map_subset_map.mpr fun x hx => ?_
  have h := Rect.mem_set_unit.mp hx
  refine Rect.mem_set_unit.mpr fun a => ?_
  have := h a
  fin_cases a <;> simp at this ⊢ <;> omega
theorem oTile_sub : (oTile arg8 s).view.set ⊆ arg8.view.setOn (oSlot s).set := by
  rw [oTile_set]
  refine Finset.map_subset_map.mpr fun x hx => ?_
  have h := Rect.mem_set_unit.mp hx
  refine Rect.mem_set_unit.mpr fun a => ?_
  have := h a
  fin_cases a <;> simp at this ⊢ <;> omega
theorem ePad_sub : arg7.view.setOn (ePad s).set ⊆ arg7.view.setOn (eSlot s).set \ (eBox arg7 s).view.set := by
  rw [eBox_set]
  unfold View.setOn
  rw [← Finset.map_sdiff]
  refine Finset.map_subset_map.mpr fun x hx => ?_
  have h := Rect.mem_set_unit.mp hx
  refine Finset.mem_sdiff.mpr ⟨Rect.mem_set_unit.mpr fun a => ?_, fun hn => ?_⟩
  · have := h a
    fin_cases a <;> simp at this ⊢ <;> omega
  · have h1 := h 2
    have h2 := Rect.mem_set_unit.mp hn 2
    simp at h1 h2
    omega

/-- What slot `s` holds beside the box a copy fills. -/
def eRestP (g : Buf (Elt F) (arg7.view.loc (c : Thread nD τ))) : sProp 𝕄 :=
  arg7.view.loc (c : Thread nD τ) ↦[arg7.view.setOn (eSlot s).set \ (eBox arg7 s).view.set]{fullShare} g
/-- What is left of that beside the padding planes. -/
def eRemP (g : Buf (Elt F) (arg7.view.loc (c : Thread nD τ))) : sProp 𝕄 :=
  arg7.view.loc (c : Thread nD τ) ↦[(arg7.view.setOn (eSlot s).set \ (eBox arg7 s).view.set) \ arg7.view.setOn (ePad s).set]{fullShare} g
/-- What a slot of the results holds beside the tile a copy carries out. -/
def oRestP (g : Buf (Elt F) (arg8.view.loc (c : Thread nD τ))) : sProp 𝕄 :=
  arg8.view.loc (c : Thread nD τ) ↦[arg8.view.setOn (oSlot s).set \ (oTile arg8 s).view.set]{fullShare} g

theorem e_join (f : Buf (Elt F) ((eBox arg7 s).view.loc (c : Thread nD τ))) (g : Buf (Elt F) (arg7.view.loc (c : Thread nD τ))) :
    iprop(((eBox arg7 s).view.loc (c : Thread nD τ) ↦[(eBox arg7 s).view.set]{fullShare} f) ∗ eRestP arg7 c s g)
      ⊢ (arg7.view.loc (c : Thread nD τ) ↦[arg7.view.setOn (eSlot s).set]{fullShare} ((eBox arg7 s).view.set.piecewise (f : Buf (Elt F) (arg7.view.loc (c : Thread nD τ))) g) : sProp 𝕄) :=
  pointsTo_join_subset (eBox_sub arg7 s)
theorem e_cut (f : Buf (Elt F) (arg7.view.loc (c : Thread nD τ))) :
    (arg7.view.loc (c : Thread nD τ) ↦[arg7.view.setOn (eSlot s).set]{fullShare} f : sProp 𝕄)
      ⊢ iprop(((eBox arg7 s).view.loc (c : Thread nD τ) ↦[(eBox arg7 s).view.set]{fullShare} f) ∗ eRestP arg7 c s f) :=
  (pointsTo_split_subset (eBox_sub arg7 s)).1
theorem e_pad (g : Buf (Elt F) (arg7.view.loc (c : Thread nD τ))) :
    eRestP arg7 c s g ⊢ (iprop((arg7.view.loc (c : Thread nD τ) ↦[arg7.view.setOn (ePad s).set]{fullShare} g) ∗ eRemP arg7 c s g) : sProp 𝕄) :=
  (pointsTo_split_subset (ePad_sub arg7 s)).1
theorem e_unpad (f g : Buf (Elt F) (arg7.view.loc (c : Thread nD τ))) :
    iprop((arg7.view.loc (c : Thread nD τ) ↦[arg7.view.setOn (ePad s).set]{fullShare} f) ∗ eRemP arg7 c s g) ⊢ (iprop(∃ h, eRestP arg7 c s h) : sProp 𝕄) := by
  refine (pointsTo_join_subset (ePad_sub arg7 s)).trans ?_
  iintro H
  iexists _
  unfold eRestP
  iexact H
theorem o_join (f : Buf (Elt F) ((oTile arg8 s).view.loc (c : Thread nD τ))) (g : Buf (Elt F) (arg8.view.loc (c : Thread nD τ))) :
    iprop(((oTile arg8 s).view.loc (c : Thread nD τ) ↦[(oTile arg8 s).view.set]{fullShare} f) ∗ oRestP arg8 c s g)
      ⊢ (arg8.view.loc (c : Thread nD τ) ↦[arg8.view.setOn (oSlot s).set]{fullShare} ((oTile arg8 s).view.set.piecewise (f : Buf (Elt F) (arg8.view.loc (c : Thread nD τ))) g) : sProp 𝕄) :=
  pointsTo_join_subset (oTile_sub arg8 s)
theorem o_cut (f : Buf (Elt F) (arg8.view.loc (c : Thread nD τ))) :
    (arg8.view.loc (c : Thread nD τ) ↦[arg8.view.setOn (oSlot s).set]{fullShare} f : sProp 𝕄)
      ⊢ iprop(((oTile arg8 s).view.loc (c : Thread nD τ) ↦[(oTile arg8 s).view.set]{fullShare} f) ∗ oRestP arg8 c s f) :=
  (pointsTo_split_subset (oTile_sub arg8 s)).1
end Split

theorem eR_sl (n : ℕ) : eSlot (Ring.sl 3 n) = eR n := rfl
theorem oR_sl (n : ℕ) : oSlot (Ring.sl 3 n) = oR n := rfl

section JoinAt
variable (arg7 : Memref sig .tc .vmem S3x2x32x288x128 .fp8e4m3) (arg8 : Memref sig .tc .vmem S3x2x27x33x8x128 .bf16) (c : Dev nD) (n : ℕ)
/-- A slot whole, at contents that are the box's on the box. -/
theorem e_joinAt (f : Buf (Elt F) ((eBox arg7 (Ring.sl 3 n)).view.loc (c : Thread nD τ))) (g : Buf (Elt F) (arg7.view.loc (c : Thread nD τ))) :
    iprop(((eBox arg7 (Ring.sl 3 n)).view.loc (c : Thread nD τ) ↦[(eBox arg7 (Ring.sl 3 n)).view.set]{fullShare} f) ∗ eRestP arg7 c (Ring.sl 3 n) g)
      ⊢ (iprop(∃ h : Buf (Elt F) (arg7.view.loc (c : Thread nD τ)), ⌜∀ x ∈ (eBox arg7 (Ring.sl 3 n)).view.set, h x = (f : Buf (Elt F) (arg7.view.loc (c : Thread nD τ))) x⌝
          ∗ arg7.view.loc (c : Thread nD τ) ↦[arg7.view.setOn (eR n).set]{fullShare} h) : sProp 𝕄) := by
  refine (e_join arg7 c (Ring.sl 3 n) f g).trans ?_
  iintro H
  iexists _
  isplitr; swap; · iexact H
  ipureintro
  intro x hx
  exact Finset.piecewise_eq_of_mem _ _ _ hx
theorem o_joinAt (f : Buf (Elt F) ((oTile arg8 (Ring.sl 3 n)).view.loc (c : Thread nD τ))) (g : Buf (Elt F) (arg8.view.loc (c : Thread nD τ))) :
    iprop(((oTile arg8 (Ring.sl 3 n)).view.loc (c : Thread nD τ) ↦[(oTile arg8 (Ring.sl 3 n)).view.set]{fullShare} f) ∗ oRestP arg8 c (Ring.sl 3 n) g)
      ⊢ (iprop(∃ h : Buf (Elt F) (arg8.view.loc (c : Thread nD τ)), ⌜∀ x ∈ (oTile arg8 (Ring.sl 3 n)).view.set, h x = (f : Buf (Elt F) (arg8.view.loc (c : Thread nD τ))) x⌝
          ∗ arg8.view.loc (c : Thread nD τ) ↦[arg8.view.setOn (oR n).set]{fullShare} h) : sProp 𝕄) := by
  refine (o_join arg8 c (Ring.sl 3 n) f g).trans ?_
  iintro H
  iexists _
  isplitr; swap; · iexact H
  ipureintro
  intro x hx
  exact Finset.piecewise_eq_of_mem _ _ _ hx
/-- and the slot cut again. -/
theorem e_cutAt (f : Buf (Elt F) (arg7.view.loc (c : Thread nD τ))) :
    (arg7.view.loc (c : Thread nD τ) ↦[arg7.view.setOn (eR n).set]{fullShare} f : sProp 𝕄)
      ⊢ iprop(((eBox arg7 (Ring.sl 3 n)).view.loc (c : Thread nD τ) ↦[(eBox arg7 (Ring.sl 3 n)).view.set]{fullShare} f) ∗ eRestP arg7 c (Ring.sl 3 n) f) :=
  e_cut arg7 c (Ring.sl 3 n) f
theorem o_cutAt (f : Buf (Elt F) (arg8.view.loc (c : Thread nD τ))) :
    (arg8.view.loc (c : Thread nD τ) ↦[arg8.view.setOn (oR n).set]{fullShare} f : sProp 𝕄)
      ⊢ iprop(((oTile arg8 (Ring.sl 3 n)).view.loc (c : Thread nD τ) ↦[(oTile arg8 (Ring.sl 3 n)).view.set]{fullShare} f) ∗ oRestP arg8 c (Ring.sl 3 n) f) :=
  o_cut arg8 c (Ring.sl 3 n) f
end JoinAt

end Cert.Proof.Kernel

end
-- ==== Proof.K.T1.lean ====
module

public import proofs.«01_k».proof.Proof.K.T3
public import proofs.«01_k».proof.Proof.K.T2
public import proofs.«01_k».proof.Proof.K.Mem
public import proofs.«01_k».proof.Proof.Gen.Kernel.Loops
public import proofs.«01_k».proof.Proof.Gen.Kernel.Launch
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Ring.WriteBehind
public import Idealize.ShloMosaic.Lib.Tactic
public import Idealize.ShloMosaic.Lib.WordCmp

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

set_option warn.classDefReducibility false in
/-- One grid point's chunks keep the inputs as they are, and the two slots and the scratch at some contents. -/
@[sl_loop] noncomputable def loopInv_k0_t1 (c : Dev nD) (i : grid0.Coords) (arg1 : Memref sig .tc .vmem S2x351x256 .fp8e5m2) (harg1 : arg1.IsWhole) (arg2 : Memref sig .tc .vmem S26x2x256 .f32) (harg2 : arg2.IsWhole) (arg3 : Memref sig .tc .vmem S27x2x256 .f32) (harg3 : arg3.IsWhole) (arg4 : Memref sig .tc .vmem S2x256x128 .bf16) (harg4 : arg4.IsWhole) (arg5 : Memref sig .tc .hbm S2x27x16384x128 .fp8e4m3) (harg5 : arg5.IsWhole) (arg6 : Memref sig .tc .hbm S2x27x2048x8x128 .bf16) (harg6 : arg6.IsWhole) (arg7 : Memref sig .tc .vmem S3x2x32x288x128 .fp8e4m3) (harg7 : arg7.IsWhole) (arg8 : Memref sig .tc .vmem S3x2x27x33x8x128 .bf16) (harg8 : arg8.IsWhole) (arg9 : Memref sig .tc .vmem S2x352x128 .f32) (harg9 : arg9.IsWhole) (arg10 : Memref sig .tc .vmem S2x2x32x128 .f32) (harg10 : arg10.IsWhole) (arg11 : Memref sig .tc .vmem S2x1008x128 .f32) (harg11 : arg11.IsWhole) (arg12 : Memref sig .tc .vmem S2x2560x128 .i32) (harg12 : arg12.IsWhole) (arg13 : Memref sig .tc .vmem S2x1152x128 .f32) (harg13 : arg13.IsWhole) (arg14 : DmaSems sig S3) (arg15 : DmaSems sig S3)  (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (v16 : IVec S8x128 1) (v18 : IVec S8x128 32) (v37 : IVec S8x128 1) (v39 : IVec S8x128 32) :
    LoopInvTy_k0_t1 (F := F) Unit ℕ (Pipeline.UD sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 arg15 v16 v18 v37 v39 where
  inv := fun _ _ => iprop((∃ f, (eBox arg7 (Ring.sl 3 (i 0).val)).view.loc (c : Thread nD τ) ↦[(eBox arg7 (Ring.sl 3 (i 0).val)).view.set]{fullShare} f)
    ∗ (∃ g, eRestP arg7 c (Ring.sl 3 (i 0).val) g)
    ∗ (∃ f, (oTile arg8 (Ring.sl 3 (i 0).val)).view.loc (c : Thread nD τ) ↦[(oTile arg8 (Ring.sl 3 (i 0).val)).view.set]{fullShare} f)
    ∗ (∃ g, oRestP arg8 c (Ring.sl 3 (i 0).val) g)
    ∗ (arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4)
    ∗ (∃ f, arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} f) ∗ (∃ f, arg13.view.loc (c : Thread nD τ) ↦[arg13.view.set]{fullShare} f))
  step := fun k0_t1 acc => by
    unfold k0_t1_body
    iintro ⟨⟨%fe, HEb⟩, ⟨%ge, HEr⟩, ⟨%fo, HOb⟩, ⟨%go, HOr⟩, H1, H2, H3, H4, ⟨%f9, H9⟩, ⟨%f10, H10⟩, ⟨%f11, H11⟩, ⟨%f12, H12⟩, ⟨%f13, H13⟩⟩
    ihave HE0 := (e_joinAt arg7 c (i 0).val fe ge) $$ [HEb HEr]
    · isplitl [HEb]; · iexact HEb
      iexact HEr
    icases HE0 with ⟨%fe', %hfe, HE⟩
    ihave HO0 := (o_joinAt arg8 c (i 0).val fo go) $$ [HOb HOr]
    · isplitl [HOb]; · iexact HOb
      iexact HOr
    icases HO0 with ⟨%fo', %hfo, HO⟩
    by_cases h5 : k0_cond5 k0_t1 = 1#1 <;> by_cases h6 : k0_cond6 k0_t1 = 1#1 <;>
    · sl_exec (disch := first | sl_exact h5 | sl_exact h6)
      sl_step
      ihave HE1 := (e_cutAt arg7 c (i 0).val _) $$ HE
      icases HE1 with ⟨HEb, HEr⟩
      ihave HO1 := (o_cutAt arg8 c (i 0).val _) $$ HO
      icases HO1 with ⟨HOb, HOr⟩
      isplitl [HEb]; · iexists _; iexact HEb
      isplitl [HEr]; · iexists _; iexact HEr
      isplitl [HOb]; · iexists _; iexact HOb
      isplitl [HOr]; · iexists _; iexact HOr
      isplitl [H1]; · iexact H1
      isplitl [H2]; · iexact H2
      isplitl [H3]; · iexact H3
      isplitl [H4]; · iexact H4
      isplitl [H9]; · iexists _; iexact H9
      isplitl [H10]; · iexists _; iexact H10
      isplitl [H11]; · iexists _; iexact H11
      isplitl [H12]; · iexists _; iexact H12
      iexists _; iexact H13

end Cert.Proof.Kernel

end
-- ==== Proof.K.Kit.lean ====
module

public import proofs.«01_k».proof.Proof.K.T1

public import proofs.«01_k».proof.Proof.Gen.Kernel.Loops
public import proofs.«01_k».proof.Proof.Gen.Kernel.Launch
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Ring.WriteBehind
public import Idealize.ShloMosaic.Lib.Tactic
public import Idealize.ShloMosaic.Lib.WordCmp

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The buffers the lines after the region WRITE, as references: results computed from contents the run does not name
    (an operand the body wrote by its own DMA, or a forgotten output), so nothing is stated of them either. -/
def T0 : Finset (Ref sig .tc) := {main_v5, main_v6}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (Pipeline.UD sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (dats : (p : Fin _) → (c : Dev nD) → Dat τ (Elt F) Unit ℕ (Pipeline.UD sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (dats : (p : Fin _) → (c : Dev nD) → Dat τ (Elt F) Unit ℕ (Pipeline.UD sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`: it ends as launched. -/
theorem W_main_arg3 (dats : (p : Fin _) → (c : Dev nD) → Dat τ (Elt F) Unit ℕ (Pipeline.UD sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The operands left in HBM the body WRITES by its own transfers, as references (results accumulated in place; the
    run's post says nothing of them: Lib/Pipeline/Frame.lean `FramePostR`). -/
def R0 : Finset (Ref sig .tc) := {main_v4}

/-! ## The frame claim's post from the frame run's -/

/-- THE FRAME from a frame run: for any proof data whose arrays are the region-entry contents (`hA`), a run to
    Lib/Pipeline/Frame.lean's `FramePostR` read at the argument arrays — a staged input by the library's
    `Dat.arrAt_in`, an array no window stages (none is in `(R0 ∪ T0)`) by the post's second clause, each then by `V_…` — is the frame
    claim's post (`Cert.frame_Kernel`, Defs.lean, at any `F`). -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePostR cfgs dats 0 (R0 ∪ T0) (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      ((h c).1 3).trans (((dats 0 c).arrAt_in 3 rfl _).trans ((hA c 3).trans (V_main_arg4 m c)))⟩) h

/-- When the body's branch 1 is taken. -/
theorem hcond_1 : ∀ i : grid0.Coords, k0_cond1 i = 1#1 ↔ (i 0).val = 0 := by decide +kernel
/-- When the body's branch 2 is taken. -/
theorem hcond_2 : ∀ i : grid0.Coords, k0_cond2 i = 1#1 ↔ 1 ≤ (i 0).val := by decide +kernel
/-- When the body's branch 3 is taken. -/
theorem hcond_3 : ∀ i : grid0.Coords, k0_cond3 i = 1#1 ↔ (i 0).val < 62 := by decide +kernel
/-- When the body's branch 4 is taken. -/
theorem hcond_4 : ∀ i : grid0.Coords, k0_cond4 i = 1#1 ↔ 3 ≤ (i 0).val := by decide +kernel
/-- When the body's branch 7 is taken. -/
theorem hcond_7 : ∀ i : grid0.Coords, k0_cond7 i = 1#1 ↔ (i 0).val = 63 := by decide +kernel

theorem coord_val (t : Fin cfg0.N) : (grid0.coords t 0).val = t.val := by
  have ht : t.val < 64 := Nat.lt_of_lt_of_eq t.isLt N_0
  have e0 : (grid0.coords t 0).val = t.val / 1 % 64 := Pipeline.Grid.coords_val t 0 (by decide) rfl
  omega

/-- Each window's current staging memref at point `t`, spelled as the pipeline passes it (`bodyAt0`), and its wholeness. -/
abbrev ms0_0 (t : Fin cfg0.N) : Memref sig .tc .vmem S2x351x256 .fp8e5m2 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S26x2x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S27x2x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x256x128 .bf16 := win0_3.stage (cfg0.slots t 3)
abbrev hs0_3 (t : Fin cfg0.N) : (ms0_3 t).IsWhole := hstage0_3 ((cfg0.slots t 3).cast nbuf0_3)
/-- The scratch operands: whole scoped buffers of the kernel's own, passed beside the windows. -/
abbrev scM0_0 : Memref sig .tc .vmem S3x2x32x288x128 .fp8e4m3 := Memref.whole cc0_scratch0
abbrev scM0_1 : Memref sig .tc .vmem S3x2x27x33x8x128 .bf16 := Memref.whole cc0_scratch1
abbrev scM0_2 : Memref sig .tc .vmem S2x352x128 .f32 := Memref.whole cc0_scratch2
abbrev scM0_3 : Memref sig .tc .vmem S2x2x32x128 .f32 := Memref.whole cc0_scratch3
abbrev scM0_4 : Memref sig .tc .vmem S2x1008x128 .f32 := Memref.whole cc0_scratch4
abbrev scM0_5 : Memref sig .tc .vmem S2x2560x128 .i32 := Memref.whole cc0_scratch5
abbrev scM0_6 : Memref sig .tc .vmem S2x1152x128 .f32 := Memref.whole cc0_scratch6
/-- The operands left in HBM that the body copies into scratch itself, whole. -/
abbrev hbM0_0 : Memref sig .tc .hbm S2x27x16384x128 .fp8e4m3 := Memref.whole main_v3
abbrev hbM0_1 : Memref sig .tc .hbm S2x27x2048x8x128 .bf16 := Memref.whole main_v4
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 6 → SemLoc sig := fun j => (![SemLoc.dma 8, SemLoc.dma 9, SemLoc.dma 10, SemLoc.dma 11, SemLoc.dma 12, SemLoc.dma 13] : Fin 6 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0) := by
  rw [Pipeline.ownSems0_eq_of_list c osem0 [0, 1, 2, 3, 4, 5] (by decide) (by decide)]; rfl
/-- The HBM operands the body copies from and leaves unchanged, as references: unscoped, no window's array (`Pipeline.restRefs`). -/
def H0 : Finset (Ref sig .tc) := {main_v3}
theorem H0_sub : H0 ⊆ Pipeline.restRefs sig spec0 := by decide
/-- The ones it writes (`R0`, stated with the kit) are unscoped, no window's array, and none of `H0`. -/
theorem R0_sub : R0 ⊆ Pipeline.restRefs sig spec0 \ H0 := by decide
/-- The read operands' points-tos at the launch contents, listed. -/
theorem hbmPts0_eq (c : Dev nD) :
    (bigSep H0 (fun b => ((c : Thread nD τ).loc b) ↦{fullShare} V m c b) : sProp 𝕄) = iprop(hbPt0 c hbM0_0 (V m c main_v3)) := by
  rw [BI.bigSep_eq_bigSepL_of_eq [main_v3] (by decide) (by decide)]; rfl
/-- The written operands' points-tos at some contents each (`Pipeline.owned`), listed. -/
theorem ownedPts0_eq (c : Dev nD) :
    (Pipeline.owned R0 c : sProp 𝕄) = iprop((∃ f, hbPt0 c hbM0_1 f)) := by
  unfold Pipeline.owned; rw [BI.bigSep_eq_bigSepL_of_eq [main_v4] (by decide) (by decide)]; rfl

/-- The invariant of a body with transfers of its own that write some HBM operands, `Pipeline.ΦDR`, conjunct by conjunct:
    the scratch operands owned at some contents, the generator register at some state, the own cells at zero, the HBM
    operands read at their launch contents, the HBM operands written at some contents — what the body obligation hands
    the run and takes back. -/
theorem PhiDR0_eq (c : Dev nD) :
    (Pipeline.ΦDR osem0 spec0 H0 R0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r) ∗ iprop(semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0) ∗ iprop(hbPt0 c hbM0_0 (V m c main_v3)) ∗ iprop((∃ f, hbPt0 c hbM0_1 f))) := by
  rw [Pipeline.ΦDR_eq, scopedRest0_eq, ownSems00_eq, hbmPts0_eq, ownedPts0_eq]; simp only [scM0_0, scM0_1, scM0_2, scM0_3, scM0_4, scM0_5, scM0_6, owns_whole]; try rfl

end Cert.Proof.Kernel

end
-- ==== Proof.K.Rings.lean ====
module

public import proofs.«01_k».proof.Proof.K.Kit
public import proofs.«01_k».proof.Proof.Gen.Kernel.Loops
public import proofs.«01_k».proof.Proof.Gen.Kernel.Launch
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Ring.WriteBehind
public import Idealize.ShloMosaic.Lib.Tactic
public import Idealize.ShloMosaic.Lib.WordCmp

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

variable (m : (ℓ : Loc nD τ sig) → Buf (Elt F) ℓ) (ρ : Dev nD → PrngReg)

instance : NeZero grid0.N := ⟨by rw [N_0]; decide⟩
theorem inb_eSrc (b : Fin 64) : ∀ a, (![0, 0, 256 * b.val, 0] : Fin 4 → Nat) a + S2x27x256x128.size a ≤ S2x27x16384x128.size a := by
  have := b.isLt; intro a; fin_cases a <;> simp <;> omega
theorem inb_cell (s : Fin 3) : ∀ a, (![s.val] : Fin 1 → Nat) a + S1.size a ≤ S3.size a := by
  have := s.isLt; intro a; fin_cases a <;> simp <;> omega
theorem inb_oPiece (b : Fin 64) : ∀ a, (![0, 0, 32 * b.val, 0, 0] : Fin 5 → Nat) a + S2x27x32x8x128.size a ≤ S2x27x2048x8x128.size a := by
  have := b.isLt; intro a; fin_cases a <;> simp <;> omega
/-- Block `b` of the embeddings, spelt as the copies spell their source. -/
def eSrc (b : Fin 64) : Memref sig .tc .hbm S2x27x256x128 .fp8e4m3 :=
  hbM0_0.slice (Rect.unit (s := S2x27x16384x128) ![0, 0, 256 * b.val, 0] S2x27x256x128.size (inb_eSrc b)) (fun _ => rfl)
/-- Block `b` of the result, spelt as the copies spell their destination. -/
def oPiece (b : Fin 64) : Memref sig .tc .hbm S2x27x32x8x128 .bf16 :=
  hbM0_1.slice (Rect.unit (s := S2x27x2048x8x128) ![0, 0, 32 * b.val, 0, 0] S2x27x32x8x128.size (inb_oPiece b)) (fun _ => rfl)
/-- The cells the copies of the two rings are counted on. -/
def eCell (s : Fin 3) : DmaSems sig S_ := (cc0_scratch7.slice (Rect.unit (s := S3) ![s.val] S1.size (inb_cell s))).squeeze S_ squeezes_S1_S_
def oCell (s : Fin 3) : DmaSems sig S_ := (cc0_scratch8.slice (Rect.unit (s := S3) ![s.val] S1.size (inb_cell s))).squeeze S_ squeezes_S1_S_
abbrev eCellR (s : Fin 3) : SemLoc sig := SemLoc.dma (eCell s).sem
abbrev oCellR (s : Fin 3) : SemLoc sig := SemLoc.dma (oCell s).sem
theorem eCellR_0 : eCellR 0 = SemLoc.dma 8 := by decide
theorem eCellR_1 : eCellR 1 = SemLoc.dma 9 := by decide
theorem eCellR_2 : eCellR 2 = SemLoc.dma 10 := by decide
theorem oCellR_0 : oCellR 0 = SemLoc.dma 11 := by decide
theorem oCellR_1 : oCellR 1 = SemLoc.dma 12 := by decide
theorem oCellR_2 : oCellR 2 = SemLoc.dma 13 := by decide

/-! ## The families the two rings are stated over -/

section Families
variable (c : Dev nD) (W : HbBuf0 (F := F) c hbM0_0)
/-- The embeddings are lent by share, one share to each slot. -/
abbrev eShare (s : Fin 3) : PosShare TreeShare := if s.val = 0 then fullShare.left else if s.val = 1 then fullShare.right.left else fullShare.right.right
abbrev eSlotP (s : Fin 3) (f : HbBuf0 (F := F) c (eBox scM0_0 s)) : sProp 𝕄 := (eBox scM0_0 s).view.loc (c : Thread nD τ) ↦[(eBox scM0_0 s).view.set]{fullShare} f
abbrev eCellP (s : Fin 3) : sProp 𝕄 := semVal ((c : Thread nD τ), eCellR s) 0
abbrev eSrcP (s : Fin 3) (b : Fin 64) : sProp 𝕄 := (eSrc b).view.loc (c : Thread nD τ) ↦[(eSrc b).view.set]{eShare s} W
def eOtherP (s : Fin 3) (b : Fin 64) : sProp 𝕄 := ((c : Thread nD τ).loc main_v3) ↦[Finset.univ \ (eSrc b).view.set]{eShare s} W
abbrev eWholeP (s : Fin 3) : sProp 𝕄 := ((c : Thread nD τ).loc main_v3) ↦[Finset.univ]{eShare s} W
/-- A slot's contents once block `b` landed in it. -/
abbrev eLanded (s : Fin 3) (b : Fin 64) (f : HbBuf0 (F := F) c (eBox scM0_0 s)) : HbBuf0 (F := F) c (eBox scM0_0 s) :=
  (eBox scM0_0 s).view.writes (Elt F) f [⟨Rect.whole S2x27x256x128, ReadAs.same.apply ((eSrc b).view.read (Elt F) W)⟩]
abbrev eSlotW (s : Fin 3) (f : HbBuf0 (F := F) c (eBox scM0_0 s)) : sProp 𝕄 := iprop(eSlotP c s f ∗ eWholeP c W s)
/-- Block `b` on its way into slot `s`. -/
abbrev eFlight (s : Fin 3) (b : Fin 64) (f : HbBuf0 (F := F) c (eBox scM0_0 s)) : sProp 𝕄 :=
  iprop(Transfers.Flight countersEmb (c : Thread nD τ) (eCellR s) default ((eBox scM0_0 s).view.amount (eCellR s))
    iprop(eSlotP c s (eLanded c W s b f) ∗ eSrcP c W s b) ∗ eOtherP c W s b)
abbrev noHome (b : Fin 64) : sProp 𝕄 := iprop(emp)
/-- The ring of embeddings before grid point `k`. -/
def eRingAt (k : ℕ) : sProp 𝕄 :=
  if k = 0 then Ring.At₀ (eCellP c) (eSlotW c W) noHome else Ring.At 2 (eCellP c) (eSlotW c W) noHome (eFlight c W) k

abbrev oTileP (s : Fin 3) (f : HbBuf0 (F := F) c (oTile scM0_1 s)) : sProp 𝕄 := (oTile scM0_1 s).view.loc (c : Thread nD τ) ↦[(oTile scM0_1 s).view.set]{fullShare} f
abbrev oCellP (s : Fin 3) : sProp 𝕄 := semVal ((c : Thread nD τ), oCellR s) 0
abbrev oPieceP (b : Fin 64) (f : HbBuf0 (F := F) c (oPiece b)) : sProp 𝕄 := (oPiece b).view.loc (c : Thread nD τ) ↦[(oPiece b).view.set]{fullShare} f
/-- A slot of the results at anything, no copy out of it under way. -/
def oFree (s : Fin 3) : sProp 𝕄 := iprop(oCellP c s ∗ ∃ f, oTileP c s f)
/-- Slot `s` on its way to block `b` of the result. -/
def oFlight (s : Fin 3) (b : Fin 64) : sProp 𝕄 :=
  iprop(∃ f e, Transfers.Flight countersEmb (c : Thread nD τ) (oCellR s) default ((oPiece b).view.amount (oCellR s)) iprop(oPieceP c b f ∗ oTileP c s e))
/-- Block `b` of the result, no copy to it under way. -/
def oHome (b : Fin 64) : sProp 𝕄 := iprop(∃ f, oPieceP c b f)
end Families

/-! ## The body's operands are those of the rings -/

section Canon
theorem coff_1 : ∀ i : grid0.Coords, k0_cond1 i = 1#1 → k0_off1 0#32 = (![(Ring.sl 3 (i 0).val).val] : Fin 1 → Nat) := by decide +kernel
@[sl_canon] theorem canon_1 (i : grid0.Coords) (h : k0_cond1 i = 1#1) :
    (cc0_scratch7.slice (Rect.unit (s := S3) (k0_off1 0#32) S1.size (k0_off1_inb i h 0))).squeeze S_ squeezes_S1_S_ = eCell (Ring.sl 3 (i 0).val) :=
  congrArg (fun M : DmaSems sig S1 => M.squeeze S_ squeezes_S1_S_) (SemArray.slice_unit_congr _ (coff_1 i h) _ _)
@[sl_canon] theorem canon_1' (i : grid0.Coords) (h : k0_cond1 i = 1#1) :
    (cc0_scratch7.slice (Rect.unit (s := S3) (k0_off1 0#32) ![1] (k0_off1_inb i h 0))).squeeze S_ squeezes_S1_S_ = eCell (Ring.sl 3 (i 0).val) :=
  canon_1 i h
theorem coff_2 : ∀ i : grid0.Coords, k0_cond1 i = 1#1 → k0_off2 0#32 = ![(Ring.sl 3 (i 0).val).val, 0, 0, 0, 0] := by decide +kernel
@[sl_canon] theorem canon_2 (i : grid0.Coords) (h : k0_cond1 i = 1#1) :
    (scM0_0.slice (Rect.unit (s := S3x2x32x288x128) (k0_off2 0#32) S1x2x27x256x128.size (k0_off2_inb i h 0)) (fun _ => rfl)).squeeze S2x27x256x128 squeezes_S1x2x27x256x128_S2x27x256x128 = eBox scM0_0 (Ring.sl 3 (i 0).val) :=
  congrArg (fun M : Memref sig .tc .vmem S1x2x27x256x128 .fp8e4m3 => M.squeeze S2x27x256x128 squeezes_S1x2x27x256x128_S2x27x256x128) (Memref.slice_unit_congr _ (coff_2 i h) _ _ (fun _ => rfl) (fun _ => rfl))
@[sl_canon] theorem canon_2' (i : grid0.Coords) (h : k0_cond1 i = 1#1) :
    (scM0_0.slice (Rect.unit (s := S3x2x32x288x128) (k0_off2 0#32) ![1, 2, 27, 256, 128] (k0_off2_inb i h 0)) (fun _ => rfl)).squeeze S2x27x256x128 squeezes_S1x2x27x256x128_S2x27x256x128 = eBox scM0_0 (Ring.sl 3 (i 0).val) :=
  canon_2 i h
theorem coff_3 : ∀ i : grid0.Coords, k0_cond1 i = 1#1 → k0_off1 1#32 = (![(Ring.sl 3 ((i 0).val + 1)).val] : Fin 1 → Nat) := by decide +kernel
@[sl_canon] theorem canon_3 (i : grid0.Coords) (h : k0_cond1 i = 1#1) :
    (cc0_scratch7.slice (Rect.unit (s := S3) (k0_off1 1#32) S1.size (k0_off1_inb i h 1))).squeeze S_ squeezes_S1_S_ = eCell (Ring.sl 3 ((i 0).val + 1)) :=
  congrArg (fun M : DmaSems sig S1 => M.squeeze S_ squeezes_S1_S_) (SemArray.slice_unit_congr _ (coff_3 i h) _ _)
@[sl_canon] theorem canon_3' (i : grid0.Coords) (h : k0_cond1 i = 1#1) :
    (cc0_scratch7.slice (Rect.unit (s := S3) (k0_off1 1#32) ![1] (k0_off1_inb i h 1))).squeeze S_ squeezes_S1_S_ = eCell (Ring.sl 3 ((i 0).val + 1)) :=
  canon_3 i h
theorem coff_4 : ∀ i : grid0.Coords, k0_cond1 i = 1#1 → k0_off2 1#32 = ![(Ring.sl 3 ((i 0).val + 1)).val, 0, 0, 0, 0] := by decide +kernel
@[sl_canon] theorem canon_4 (i : grid0.Coords) (h : k0_cond1 i = 1#1) :
    (scM0_0.slice (Rect.unit (s := S3x2x32x288x128) (k0_off2 1#32) S1x2x27x256x128.size (k0_off2_inb i h 1)) (fun _ => rfl)).squeeze S2x27x256x128 squeezes_S1x2x27x256x128_S2x27x256x128 = eBox scM0_0 (Ring.sl 3 ((i 0).val + 1)) :=
  congrArg (fun M : Memref sig .tc .vmem S1x2x27x256x128 .fp8e4m3 => M.squeeze S2x27x256x128 squeezes_S1x2x27x256x128_S2x27x256x128) (Memref.slice_unit_congr _ (coff_4 i h) _ _ (fun _ => rfl) (fun _ => rfl))
@[sl_canon] theorem canon_4' (i : grid0.Coords) (h : k0_cond1 i = 1#1) :
    (scM0_0.slice (Rect.unit (s := S3x2x32x288x128) (k0_off2 1#32) ![1, 2, 27, 256, 128] (k0_off2_inb i h 1)) (fun _ => rfl)).squeeze S2x27x256x128 squeezes_S1x2x27x256x128_S2x27x256x128 = eBox scM0_0 (Ring.sl 3 ((i 0).val + 1)) :=
  canon_4 i h
theorem coff_5 : ∀ i : grid0.Coords, k0_cond1 i = 1#1 → (![0, 0, 0, 0] : Fin 4 → Nat) = ![0, 0, 256 * (Ring.bk 64 (i 0).val).val, 0] := by decide +kernel
@[sl_canon] theorem canon_5 (i : grid0.Coords) (h : k0_cond1 i = 1#1) :
    hbM0_0.slice (Rect.unit (s := S2x27x16384x128) (![0, 0, 0, 0]) S2x27x256x128.size (inb_S2x27x16384x128_S2x27x256x128_0_0_0_0)) (fun _ => rfl) = eSrc (Ring.bk 64 (i 0).val) :=
  congrArg (fun M : Memref sig .tc .hbm S2x27x256x128 .fp8e4m3 => M) (Memref.slice_unit_congr _ (coff_5 i h) _ _ (fun _ => rfl) (fun _ => rfl))
@[sl_canon] theorem canon_5' (i : grid0.Coords) (h : k0_cond1 i = 1#1) :
    hbM0_0.slice (Rect.unit (s := S2x27x16384x128) (![0, 0, 0, 0]) ![2, 27, 256, 128] (inb_S2x27x16384x128_S2x27x256x128_0_0_0_0)) (fun _ => rfl) = eSrc (Ring.bk 64 (i 0).val) :=
  canon_5 i h
theorem coff_6 : ∀ i : grid0.Coords, k0_cond1 i = 1#1 → (![0, 0, 256, 0] : Fin 4 → Nat) = ![0, 0, 256 * (Ring.bk 64 ((i 0).val + 1)).val, 0] := by decide +kernel
@[sl_canon] theorem canon_6 (i : grid0.Coords) (h : k0_cond1 i = 1#1) :
    hbM0_0.slice (Rect.unit (s := S2x27x16384x128) (![0, 0, 256, 0]) S2x27x256x128.size (inb_S2x27x16384x128_S2x27x256x128_0_0_256_0)) (fun _ => rfl) = eSrc (Ring.bk 64 ((i 0).val + 1)) :=
  congrArg (fun M : Memref sig .tc .hbm S2x27x256x128 .fp8e4m3 => M) (Memref.slice_unit_congr _ (coff_6 i h) _ _ (fun _ => rfl) (fun _ => rfl))
@[sl_canon] theorem canon_6' (i : grid0.Coords) (h : k0_cond1 i = 1#1) :
    hbM0_0.slice (Rect.unit (s := S2x27x16384x128) (![0, 0, 256, 0]) ![2, 27, 256, 128] (inb_S2x27x16384x128_S2x27x256x128_0_0_256_0)) (fun _ => rfl) = eSrc (Ring.bk 64 ((i 0).val + 1)) :=
  canon_6 i h
theorem coff_7 : ∀ i : grid0.Coords, k0_cond2 i = 1#1 → k0_off3 i = (![(Ring.sl 3 ((i 0).val + 2)).val] : Fin 1 → Nat) := by decide +kernel
@[sl_canon] theorem canon_7 (i : grid0.Coords) (h : k0_cond2 i = 1#1) :
    (cc0_scratch8.slice (Rect.unit (s := S3) (k0_off3 i) S1.size (k0_off3_inb i h))).squeeze S_ squeezes_S1_S_ = oCell (Ring.sl 3 ((i 0).val + 2)) :=
  congrArg (fun M : DmaSems sig S1 => M.squeeze S_ squeezes_S1_S_) (SemArray.slice_unit_congr _ (coff_7 i h) _ _)
@[sl_canon] theorem canon_7' (i : grid0.Coords) (h : k0_cond2 i = 1#1) :
    (cc0_scratch8.slice (Rect.unit (s := S3) (k0_off3 i) ![1] (k0_off3_inb i h))).squeeze S_ squeezes_S1_S_ = oCell (Ring.sl 3 ((i 0).val + 2)) :=
  canon_7 i h
theorem coff_8 : ∀ i : grid0.Coords, k0_cond2 i = 1#1 → k0_off4 i = ![0, 0, 32 * (Ring.bk 64 ((i 0).val - 1)).val, 0, 0] := by decide +kernel
@[sl_canon] theorem canon_8 (i : grid0.Coords) (h : k0_cond2 i = 1#1) :
    hbM0_1.slice (Rect.unit (s := S2x27x2048x8x128) (k0_off4 i) S2x27x32x8x128.size (k0_off4_inb i h)) (fun _ => rfl) = oPiece (Ring.bk 64 ((i 0).val - 1)) :=
  congrArg (fun M : Memref sig .tc .hbm S2x27x32x8x128 .bf16 => M) (Memref.slice_unit_congr _ (coff_8 i h) _ _ (fun _ => rfl) (fun _ => rfl))
@[sl_canon] theorem canon_8' (i : grid0.Coords) (h : k0_cond2 i = 1#1) :
    hbM0_1.slice (Rect.unit (s := S2x27x2048x8x128) (k0_off4 i) ![2, 27, 32, 8, 128] (k0_off4_inb i h)) (fun _ => rfl) = oPiece (Ring.bk 64 ((i 0).val - 1)) :=
  canon_8 i h
theorem coff_9 : ∀ i : grid0.Coords, k0_cond2 i = 1#1 → k0_off5 i = ![(Ring.sl 3 ((i 0).val + 2)).val, 0, 0, 0, 0, 0] := by decide +kernel
@[sl_canon] theorem canon_9 (i : grid0.Coords) (h : k0_cond2 i = 1#1) :
    (scM0_1.slice (Rect.unit (s := S3x2x27x33x8x128) (k0_off5 i) S1x2x27x32x8x128.size (k0_off5_inb i h)) (fun _ => rfl)).squeeze S2x27x32x8x128 squeezes_S1x2x27x32x8x128_S2x27x32x8x128 = oTile scM0_1 (Ring.sl 3 ((i 0).val + 2)) :=
  congrArg (fun M : Memref sig .tc .vmem S1x2x27x32x8x128 .bf16 => M.squeeze S2x27x32x8x128 squeezes_S1x2x27x32x8x128_S2x27x32x8x128) (Memref.slice_unit_congr _ (coff_9 i h) _ _ (fun _ => rfl) (fun _ => rfl))
@[sl_canon] theorem canon_9' (i : grid0.Coords) (h : k0_cond2 i = 1#1) :
    (scM0_1.slice (Rect.unit (s := S3x2x27x33x8x128) (k0_off5 i) ![1, 2, 27, 32, 8, 128] (k0_off5_inb i h)) (fun _ => rfl)).squeeze S2x27x32x8x128 squeezes_S1x2x27x32x8x128_S2x27x32x8x128 = oTile scM0_1 (Ring.sl 3 ((i 0).val + 2)) :=
  canon_9 i h
theorem coff_10 : ∀ i : grid0.Coords, k0_cond3 i = 1#1 → k0_off6 i = (![(Ring.sl 3 ((i 0).val + 2)).val] : Fin 1 → Nat) := by decide +kernel
@[sl_canon] theorem canon_10 (i : grid0.Coords) (h : k0_cond3 i = 1#1) :
    (cc0_scratch7.slice (Rect.unit (s := S3) (k0_off6 i) S1.size (k0_off6_inb i h))).squeeze S_ squeezes_S1_S_ = eCell (Ring.sl 3 ((i 0).val + 2)) :=
  congrArg (fun M : DmaSems sig S1 => M.squeeze S_ squeezes_S1_S_) (SemArray.slice_unit_congr _ (coff_10 i h) _ _)
@[sl_canon] theorem canon_10' (i : grid0.Coords) (h : k0_cond3 i = 1#1) :
    (cc0_scratch7.slice (Rect.unit (s := S3) (k0_off6 i) ![1] (k0_off6_inb i h))).squeeze S_ squeezes_S1_S_ = eCell (Ring.sl 3 ((i 0).val + 2)) :=
  canon_10 i h
theorem coff_11 : ∀ i : grid0.Coords, k0_cond3 i = 1#1 → k0_off7 i = ![(Ring.sl 3 ((i 0).val + 2)).val, 0, 0, 0, 0] := by decide +kernel
@[sl_canon] theorem canon_11 (i : grid0.Coords) (h : k0_cond3 i = 1#1) :
    (scM0_0.slice (Rect.unit (s := S3x2x32x288x128) (k0_off7 i) S1x2x27x256x128.size (k0_off7_inb i h)) (fun _ => rfl)).squeeze S2x27x256x128 squeezes_S1x2x27x256x128_S2x27x256x128 = eBox scM0_0 (Ring.sl 3 ((i 0).val + 2)) :=
  congrArg (fun M : Memref sig .tc .vmem S1x2x27x256x128 .fp8e4m3 => M.squeeze S2x27x256x128 squeezes_S1x2x27x256x128_S2x27x256x128) (Memref.slice_unit_congr _ (coff_11 i h) _ _ (fun _ => rfl) (fun _ => rfl))
@[sl_canon] theorem canon_11' (i : grid0.Coords) (h : k0_cond3 i = 1#1) :
    (scM0_0.slice (Rect.unit (s := S3x2x32x288x128) (k0_off7 i) ![1, 2, 27, 256, 128] (k0_off7_inb i h)) (fun _ => rfl)).squeeze S2x27x256x128 squeezes_S1x2x27x256x128_S2x27x256x128 = eBox scM0_0 (Ring.sl 3 ((i 0).val + 2)) :=
  canon_11 i h
theorem coff_12 : ∀ i : grid0.Coords, k0_cond3 i = 1#1 → k0_off8 i = ![0, 0, 256 * (Ring.bk 64 ((i 0).val + 2)).val, 0] := by decide +kernel
@[sl_canon] theorem canon_12 (i : grid0.Coords) (h : k0_cond3 i = 1#1) :
    hbM0_0.slice (Rect.unit (s := S2x27x16384x128) (k0_off8 i) S2x27x256x128.size (k0_off8_inb i h)) (fun _ => rfl) = eSrc (Ring.bk 64 ((i 0).val + 2)) :=
  congrArg (fun M : Memref sig .tc .hbm S2x27x256x128 .fp8e4m3 => M) (Memref.slice_unit_congr _ (coff_12 i h) _ _ (fun _ => rfl) (fun _ => rfl))
@[sl_canon] theorem canon_12' (i : grid0.Coords) (h : k0_cond3 i = 1#1) :
    hbM0_0.slice (Rect.unit (s := S2x27x16384x128) (k0_off8 i) ![2, 27, 256, 128] (k0_off8_inb i h)) (fun _ => rfl) = eSrc (Ring.bk 64 ((i 0).val + 2)) :=
  canon_12 i h
theorem coff_13 : ∀ i : grid0.Coords, k0_off9 i = (![(Ring.sl 3 (i 0).val).val] : Fin 1 → Nat) := by decide +kernel
@[sl_canon] theorem canon_13 (i : grid0.Coords)  :
    (cc0_scratch7.slice (Rect.unit (s := S3) (k0_off9 i) S1.size (k0_off9_inb i))).squeeze S_ squeezes_S1_S_ = eCell (Ring.sl 3 (i 0).val) :=
  congrArg (fun M : DmaSems sig S1 => M.squeeze S_ squeezes_S1_S_) (SemArray.slice_unit_congr _ (coff_13 i) _ _)
@[sl_canon] theorem canon_13' (i : grid0.Coords)  :
    (cc0_scratch7.slice (Rect.unit (s := S3) (k0_off9 i) ![1] (k0_off9_inb i))).squeeze S_ squeezes_S1_S_ = eCell (Ring.sl 3 (i 0).val) :=
  canon_13 i
theorem coff_14 : ∀ i : grid0.Coords, k0_off10 i = ![(Ring.sl 3 (i 0).val).val, 0, 0, 0, 0] := by decide +kernel
@[sl_canon] theorem canon_14 (i : grid0.Coords)  :
    (scM0_0.slice (Rect.unit (s := S3x2x32x288x128) (k0_off10 i) S1x2x27x256x128.size (k0_off10_inb i)) (fun _ => rfl)).squeeze S2x27x256x128 squeezes_S1x2x27x256x128_S2x27x256x128 = eBox scM0_0 (Ring.sl 3 (i 0).val) :=
  congrArg (fun M : Memref sig .tc .vmem S1x2x27x256x128 .fp8e4m3 => M.squeeze S2x27x256x128 squeezes_S1x2x27x256x128_S2x27x256x128) (Memref.slice_unit_congr _ (coff_14 i) _ _ (fun _ => rfl) (fun _ => rfl))
@[sl_canon] theorem canon_14' (i : grid0.Coords)  :
    (scM0_0.slice (Rect.unit (s := S3x2x32x288x128) (k0_off10 i) ![1, 2, 27, 256, 128] (k0_off10_inb i)) (fun _ => rfl)).squeeze S2x27x256x128 squeezes_S1x2x27x256x128_S2x27x256x128 = eBox scM0_0 (Ring.sl 3 (i 0).val) :=
  canon_14 i
theorem coff_15 : ∀ i : grid0.Coords, k0_off11 i = ![0, 0, 256 * (Ring.bk 64 (i 0).val).val, 0] := by decide +kernel
@[sl_canon] theorem canon_15 (i : grid0.Coords)  :
    hbM0_0.slice (Rect.unit (s := S2x27x16384x128) (k0_off11 i) S2x27x256x128.size (k0_off11_inb i)) (fun _ => rfl) = eSrc (Ring.bk 64 (i 0).val) :=
  congrArg (fun M : Memref sig .tc .hbm S2x27x256x128 .fp8e4m3 => M) (Memref.slice_unit_congr _ (coff_15 i) _ _ (fun _ => rfl) (fun _ => rfl))
@[sl_canon] theorem canon_15' (i : grid0.Coords)  :
    hbM0_0.slice (Rect.unit (s := S2x27x16384x128) (k0_off11 i) ![2, 27, 256, 128] (k0_off11_inb i)) (fun _ => rfl) = eSrc (Ring.bk 64 (i 0).val) :=
  canon_15 i
theorem coff_16 : ∀ i : grid0.Coords, k0_cond4 i = 1#1 → k0_off12 i = (![(Ring.sl 3 (i 0).val).val] : Fin 1 → Nat) := by decide +kernel
@[sl_canon] theorem canon_16 (i : grid0.Coords) (h : k0_cond4 i = 1#1) :
    (cc0_scratch8.slice (Rect.unit (s := S3) (k0_off12 i) S1.size (k0_off12_inb i h))).squeeze S_ squeezes_S1_S_ = oCell (Ring.sl 3 (i 0).val) :=
  congrArg (fun M : DmaSems sig S1 => M.squeeze S_ squeezes_S1_S_) (SemArray.slice_unit_congr _ (coff_16 i h) _ _)
@[sl_canon] theorem canon_16' (i : grid0.Coords) (h : k0_cond4 i = 1#1) :
    (cc0_scratch8.slice (Rect.unit (s := S3) (k0_off12 i) ![1] (k0_off12_inb i h))).squeeze S_ squeezes_S1_S_ = oCell (Ring.sl 3 (i 0).val) :=
  canon_16 i h
theorem coff_17 : ∀ i : grid0.Coords, k0_cond4 i = 1#1 → k0_off13 i = ![0, 0, 32 * (Ring.bk 64 ((i 0).val - 3)).val, 0, 0] := by decide +kernel
@[sl_canon] theorem canon_17 (i : grid0.Coords) (h : k0_cond4 i = 1#1) :
    hbM0_1.slice (Rect.unit (s := S2x27x2048x8x128) (k0_off13 i) S2x27x32x8x128.size (k0_off13_inb i h)) (fun _ => rfl) = oPiece (Ring.bk 64 ((i 0).val - 3)) :=
  congrArg (fun M : Memref sig .tc .hbm S2x27x32x8x128 .bf16 => M) (Memref.slice_unit_congr _ (coff_17 i h) _ _ (fun _ => rfl) (fun _ => rfl))
@[sl_canon] theorem canon_17' (i : grid0.Coords) (h : k0_cond4 i = 1#1) :
    hbM0_1.slice (Rect.unit (s := S2x27x2048x8x128) (k0_off13 i) ![2, 27, 32, 8, 128] (k0_off13_inb i h)) (fun _ => rfl) = oPiece (Ring.bk 64 ((i 0).val - 3)) :=
  canon_17 i h
theorem coff_18 : ∀ i : grid0.Coords, k0_cond4 i = 1#1 → k0_off14 i = ![(Ring.sl 3 (i 0).val).val, 0, 0, 0, 0, 0] := by decide +kernel
@[sl_canon] theorem canon_18 (i : grid0.Coords) (h : k0_cond4 i = 1#1) :
    (scM0_1.slice (Rect.unit (s := S3x2x27x33x8x128) (k0_off14 i) S1x2x27x32x8x128.size (k0_off14_inb i h)) (fun _ => rfl)).squeeze S2x27x32x8x128 squeezes_S1x2x27x32x8x128_S2x27x32x8x128 = oTile scM0_1 (Ring.sl 3 (i 0).val) :=
  congrArg (fun M : Memref sig .tc .vmem S1x2x27x32x8x128 .bf16 => M.squeeze S2x27x32x8x128 squeezes_S1x2x27x32x8x128_S2x27x32x8x128) (Memref.slice_unit_congr _ (coff_18 i h) _ _ (fun _ => rfl) (fun _ => rfl))
@[sl_canon] theorem canon_18' (i : grid0.Coords) (h : k0_cond4 i = 1#1) :
    (scM0_1.slice (Rect.unit (s := S3x2x27x33x8x128) (k0_off14 i) ![1, 2, 27, 32, 8, 128] (k0_off14_inb i h)) (fun _ => rfl)).squeeze S2x27x32x8x128 squeezes_S1x2x27x32x8x128_S2x27x32x8x128 = oTile scM0_1 (Ring.sl 3 (i 0).val) :=
  canon_18 i h
theorem coff_19 : ∀ i : grid0.Coords, k0_cond7 i = 1#1 → k0_off307 i = (![(Ring.sl 3 (i 0).val).val] : Fin 1 → Nat) := by decide +kernel
@[sl_canon] theorem canon_19 (i : grid0.Coords) (h : k0_cond7 i = 1#1) :
    (cc0_scratch8.slice (Rect.unit (s := S3) (k0_off307 i) S1.size (k0_off307_inb i h))).squeeze S_ squeezes_S1_S_ = oCell (Ring.sl 3 (i 0).val) :=
  congrArg (fun M : DmaSems sig S1 => M.squeeze S_ squeezes_S1_S_) (SemArray.slice_unit_congr _ (coff_19 i h) _ _)
@[sl_canon] theorem canon_19' (i : grid0.Coords) (h : k0_cond7 i = 1#1) :
    (cc0_scratch8.slice (Rect.unit (s := S3) (k0_off307 i) ![1] (k0_off307_inb i h))).squeeze S_ squeezes_S1_S_ = oCell (Ring.sl 3 (i 0).val) :=
  canon_19 i h
theorem coff_20 : ∀ i : grid0.Coords, k0_cond7 i = 1#1 → k0_off308 i = ![0, 0, 32 * (Ring.bk 64 (i 0).val).val, 0, 0] := by decide +kernel
@[sl_canon] theorem canon_20 (i : grid0.Coords) (h : k0_cond7 i = 1#1) :
    hbM0_1.slice (Rect.unit (s := S2x27x2048x8x128) (k0_off308 i) S2x27x32x8x128.size (k0_off308_inb i h)) (fun _ => rfl) = oPiece (Ring.bk 64 (i 0).val) :=
  congrArg (fun M : Memref sig .tc .hbm S2x27x32x8x128 .bf16 => M) (Memref.slice_unit_congr _ (coff_20 i h) _ _ (fun _ => rfl) (fun _ => rfl))
@[sl_canon] theorem canon_20' (i : grid0.Coords) (h : k0_cond7 i = 1#1) :
    hbM0_1.slice (Rect.unit (s := S2x27x2048x8x128) (k0_off308 i) ![2, 27, 32, 8, 128] (k0_off308_inb i h)) (fun _ => rfl) = oPiece (Ring.bk 64 (i 0).val) :=
  canon_20 i h
theorem coff_21 : ∀ i : grid0.Coords, k0_cond7 i = 1#1 → k0_off309 i = ![(Ring.sl 3 (i 0).val).val, 0, 0, 0, 0, 0] := by decide +kernel
@[sl_canon] theorem canon_21 (i : grid0.Coords) (h : k0_cond7 i = 1#1) :
    (scM0_1.slice (Rect.unit (s := S3x2x27x33x8x128) (k0_off309 i) S1x2x27x32x8x128.size (k0_off309_inb i h)) (fun _ => rfl)).squeeze S2x27x32x8x128 squeezes_S1x2x27x32x8x128_S2x27x32x8x128 = oTile scM0_1 (Ring.sl 3 (i 0).val) :=
  congrArg (fun M : Memref sig .tc .vmem S1x2x27x32x8x128 .bf16 => M.squeeze S2x27x32x8x128 squeezes_S1x2x27x32x8x128_S2x27x32x8x128) (Memref.slice_unit_congr _ (coff_21 i h) _ _ (fun _ => rfl) (fun _ => rfl))
@[sl_canon] theorem canon_21' (i : grid0.Coords) (h : k0_cond7 i = 1#1) :
    (scM0_1.slice (Rect.unit (s := S3x2x27x33x8x128) (k0_off309 i) ![1, 2, 27, 32, 8, 128] (k0_off309_inb i h)) (fun _ => rfl)).squeeze S2x27x32x8x128 squeezes_S1x2x27x32x8x128_S2x27x32x8x128 = oTile scM0_1 (Ring.sl 3 (i 0).val) :=
  canon_21 i h
theorem coff_22 : ∀ i : grid0.Coords, k0_cond7 i = 1#1 → k0_off310 i 2#32 = (![(Ring.sl 3 ((i 0).val + 1)).val] : Fin 1 → Nat) := by decide +kernel
@[sl_canon] theorem canon_22 (i : grid0.Coords) (h : k0_cond7 i = 1#1) :
    (cc0_scratch8.slice (Rect.unit (s := S3) (k0_off310 i 2#32) S1.size (k0_off310_inb i h 2))).squeeze S_ squeezes_S1_S_ = oCell (Ring.sl 3 ((i 0).val + 1)) :=
  congrArg (fun M : DmaSems sig S1 => M.squeeze S_ squeezes_S1_S_) (SemArray.slice_unit_congr _ (coff_22 i h) _ _)
@[sl_canon] theorem canon_22' (i : grid0.Coords) (h : k0_cond7 i = 1#1) :
    (cc0_scratch8.slice (Rect.unit (s := S3) (k0_off310 i 2#32) ![1] (k0_off310_inb i h 2))).squeeze S_ squeezes_S1_S_ = oCell (Ring.sl 3 ((i 0).val + 1)) :=
  canon_22 i h
theorem coff_23 : ∀ i : grid0.Coords, k0_cond7 i = 1#1 → k0_off311 i 2#32 = ![0, 0, 32 * (Ring.bk 64 ((i 0).val - 2)).val, 0, 0] := by decide +kernel
@[sl_canon] theorem canon_23 (i : grid0.Coords) (h : k0_cond7 i = 1#1) :
    hbM0_1.slice (Rect.unit (s := S2x27x2048x8x128) (k0_off311 i 2#32) S2x27x32x8x128.size (k0_off311_inb i h 2)) (fun _ => rfl) = oPiece (Ring.bk 64 ((i 0).val - 2)) :=
  congrArg (fun M : Memref sig .tc .hbm S2x27x32x8x128 .bf16 => M) (Memref.slice_unit_congr _ (coff_23 i h) _ _ (fun _ => rfl) (fun _ => rfl))
@[sl_canon] theorem canon_23' (i : grid0.Coords) (h : k0_cond7 i = 1#1) :
    hbM0_1.slice (Rect.unit (s := S2x27x2048x8x128) (k0_off311 i 2#32) ![2, 27, 32, 8, 128] (k0_off311_inb i h 2)) (fun _ => rfl) = oPiece (Ring.bk 64 ((i 0).val - 2)) :=
  canon_23 i h
theorem coff_24 : ∀ i : grid0.Coords, k0_cond7 i = 1#1 → k0_off312 i 2#32 = ![(Ring.sl 3 ((i 0).val + 1)).val, 0, 0, 0, 0, 0] := by decide +kernel
@[sl_canon] theorem canon_24 (i : grid0.Coords) (h : k0_cond7 i = 1#1) :
    (scM0_1.slice (Rect.unit (s := S3x2x27x33x8x128) (k0_off312 i 2#32) S1x2x27x32x8x128.size (k0_off312_inb i h 2)) (fun _ => rfl)).squeeze S2x27x32x8x128 squeezes_S1x2x27x32x8x128_S2x27x32x8x128 = oTile scM0_1 (Ring.sl 3 ((i 0).val + 1)) :=
  congrArg (fun M : Memref sig .tc .vmem S1x2x27x32x8x128 .bf16 => M.squeeze S2x27x32x8x128 squeezes_S1x2x27x32x8x128_S2x27x32x8x128) (Memref.slice_unit_congr _ (coff_24 i h) _ _ (fun _ => rfl) (fun _ => rfl))
@[sl_canon] theorem canon_24' (i : grid0.Coords) (h : k0_cond7 i = 1#1) :
    (scM0_1.slice (Rect.unit (s := S3x2x27x33x8x128) (k0_off312 i 2#32) ![1, 2, 27, 32, 8, 128] (k0_off312_inb i h 2)) (fun _ => rfl)).squeeze S2x27x32x8x128 squeezes_S1x2x27x32x8x128_S2x27x32x8x128 = oTile scM0_1 (Ring.sl 3 ((i 0).val + 1)) :=
  canon_24 i h
theorem coff_25 : ∀ i : grid0.Coords, k0_cond7 i = 1#1 → k0_off310 i 1#32 = (![(Ring.sl 3 ((i 0).val + 2)).val] : Fin 1 → Nat) := by decide +kernel
@[sl_canon] theorem canon_25 (i : grid0.Coords) (h : k0_cond7 i = 1#1) :
    (cc0_scratch8.slice (Rect.unit (s := S3) (k0_off310 i 1#32) S1.size (k0_off310_inb i h 1))).squeeze S_ squeezes_S1_S_ = oCell (Ring.sl 3 ((i 0).val + 2)) :=
  congrArg (fun M : DmaSems sig S1 => M.squeeze S_ squeezes_S1_S_) (SemArray.slice_unit_congr _ (coff_25 i h) _ _)
@[sl_canon] theorem canon_25' (i : grid0.Coords) (h : k0_cond7 i = 1#1) :
    (cc0_scratch8.slice (Rect.unit (s := S3) (k0_off310 i 1#32) ![1] (k0_off310_inb i h 1))).squeeze S_ squeezes_S1_S_ = oCell (Ring.sl 3 ((i 0).val + 2)) :=
  canon_25 i h
theorem coff_26 : ∀ i : grid0.Coords, k0_cond7 i = 1#1 → k0_off311 i 1#32 = ![0, 0, 32 * (Ring.bk 64 ((i 0).val - 1)).val, 0, 0] := by decide +kernel
@[sl_canon] theorem canon_26 (i : grid0.Coords) (h : k0_cond7 i = 1#1) :
    hbM0_1.slice (Rect.unit (s := S2x27x2048x8x128) (k0_off311 i 1#32) S2x27x32x8x128.size (k0_off311_inb i h 1)) (fun _ => rfl) = oPiece (Ring.bk 64 ((i 0).val - 1)) :=
  congrArg (fun M : Memref sig .tc .hbm S2x27x32x8x128 .bf16 => M) (Memref.slice_unit_congr _ (coff_26 i h) _ _ (fun _ => rfl) (fun _ => rfl))
@[sl_canon] theorem canon_26' (i : grid0.Coords) (h : k0_cond7 i = 1#1) :
    hbM0_1.slice (Rect.unit (s := S2x27x2048x8x128) (k0_off311 i 1#32) ![2, 27, 32, 8, 128] (k0_off311_inb i h 1)) (fun _ => rfl) = oPiece (Ring.bk 64 ((i 0).val - 1)) :=
  canon_26 i h
theorem coff_27 : ∀ i : grid0.Coords, k0_cond7 i = 1#1 → k0_off312 i 1#32 = ![(Ring.sl 3 ((i 0).val + 2)).val, 0, 0, 0, 0, 0] := by decide +kernel
@[sl_canon] theorem canon_27 (i : grid0.Coords) (h : k0_cond7 i = 1#1) :
    (scM0_1.slice (Rect.unit (s := S3x2x27x33x8x128) (k0_off312 i 1#32) S1x2x27x32x8x128.size (k0_off312_inb i h 1)) (fun _ => rfl)).squeeze S2x27x32x8x128 squeezes_S1x2x27x32x8x128_S2x27x32x8x128 = oTile scM0_1 (Ring.sl 3 ((i 0).val + 2)) :=
  congrArg (fun M : Memref sig .tc .vmem S1x2x27x32x8x128 .bf16 => M.squeeze S2x27x32x8x128 squeezes_S1x2x27x32x8x128_S2x27x32x8x128) (Memref.slice_unit_congr _ (coff_27 i h) _ _ (fun _ => rfl) (fun _ => rfl))
@[sl_canon] theorem canon_27' (i : grid0.Coords) (h : k0_cond7 i = 1#1) :
    (scM0_1.slice (Rect.unit (s := S3x2x27x33x8x128) (k0_off312 i 1#32) ![1, 2, 27, 32, 8, 128] (k0_off312_inb i h 1)) (fun _ => rfl)).squeeze S2x27x32x8x128 squeezes_S1x2x27x32x8x128_S2x27x32x8x128 = oTile scM0_1 (Ring.sl 3 ((i 0).val + 2)) :=
  canon_27 i h
theorem coff_28 : ∀ i : grid0.Coords, k0_cond7 i = 1#1 → k0_off310 i 0#32 = (![(Ring.sl 3 (i 0).val).val] : Fin 1 → Nat) := by decide +kernel
@[sl_canon] theorem canon_28 (i : grid0.Coords) (h : k0_cond7 i = 1#1) :
    (cc0_scratch8.slice (Rect.unit (s := S3) (k0_off310 i 0#32) S1.size (k0_off310_inb i h 0))).squeeze S_ squeezes_S1_S_ = oCell (Ring.sl 3 (i 0).val) :=
  congrArg (fun M : DmaSems sig S1 => M.squeeze S_ squeezes_S1_S_) (SemArray.slice_unit_congr _ (coff_28 i h) _ _)
@[sl_canon] theorem canon_28' (i : grid0.Coords) (h : k0_cond7 i = 1#1) :
    (cc0_scratch8.slice (Rect.unit (s := S3) (k0_off310 i 0#32) ![1] (k0_off310_inb i h 0))).squeeze S_ squeezes_S1_S_ = oCell (Ring.sl 3 (i 0).val) :=
  canon_28 i h
theorem coff_29 : ∀ i : grid0.Coords, k0_cond7 i = 1#1 → k0_off311 i 0#32 = ![0, 0, 32 * (Ring.bk 64 (i 0).val).val, 0, 0] := by decide +kernel
@[sl_canon] theorem canon_29 (i : grid0.Coords) (h : k0_cond7 i = 1#1) :
    hbM0_1.slice (Rect.unit (s := S2x27x2048x8x128) (k0_off311 i 0#32) S2x27x32x8x128.size (k0_off311_inb i h 0)) (fun _ => rfl) = oPiece (Ring.bk 64 (i 0).val) :=
  congrArg (fun M : Memref sig .tc .hbm S2x27x32x8x128 .bf16 => M) (Memref.slice_unit_congr _ (coff_29 i h) _ _ (fun _ => rfl) (fun _ => rfl))
@[sl_canon] theorem canon_29' (i : grid0.Coords) (h : k0_cond7 i = 1#1) :
    hbM0_1.slice (Rect.unit (s := S2x27x2048x8x128) (k0_off311 i 0#32) ![2, 27, 32, 8, 128] (k0_off311_inb i h 0)) (fun _ => rfl) = oPiece (Ring.bk 64 (i 0).val) :=
  canon_29 i h
theorem coff_30 : ∀ i : grid0.Coords, k0_cond7 i = 1#1 → k0_off312 i 0#32 = ![(Ring.sl 3 (i 0).val).val, 0, 0, 0, 0, 0] := by decide +kernel
@[sl_canon] theorem canon_30 (i : grid0.Coords) (h : k0_cond7 i = 1#1) :
    (scM0_1.slice (Rect.unit (s := S3x2x27x33x8x128) (k0_off312 i 0#32) S1x2x27x32x8x128.size (k0_off312_inb i h 0)) (fun _ => rfl)).squeeze S2x27x32x8x128 squeezes_S1x2x27x32x8x128_S2x27x32x8x128 = oTile scM0_1 (Ring.sl 3 (i 0).val) :=
  congrArg (fun M : Memref sig .tc .vmem S1x2x27x32x8x128 .bf16 => M.squeeze S2x27x32x8x128 squeezes_S1x2x27x32x8x128_S2x27x32x8x128) (Memref.slice_unit_congr _ (coff_30 i h) _ _ (fun _ => rfl) (fun _ => rfl))
@[sl_canon] theorem canon_30' (i : grid0.Coords) (h : k0_cond7 i = 1#1) :
    (scM0_1.slice (Rect.unit (s := S3x2x27x33x8x128) (k0_off312 i 0#32) ![1, 2, 27, 32, 8, 128] (k0_off312_inb i h 0)) (fun _ => rfl)).squeeze S2x27x32x8x128 squeezes_S1x2x27x32x8x128_S2x27x32x8x128 = oTile scM0_1 (Ring.sl 3 (i 0).val) :=
  canon_30 i h
end Canon

end Cert.Proof.Kernel

end
-- ==== Proof.K.Rings2.lean ====
module

public import proofs.«01_k».proof.Proof.K.Rings
public import proofs.«01_k».proof.Proof.Gen.Kernel.Loops
public import proofs.«01_k».proof.Proof.Gen.Kernel.Launch
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Ring.WriteBehind
public import Idealize.ShloMosaic.Lib.Tactic
public import Idealize.ShloMosaic.Lib.WordCmp

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

variable (m : (ℓ : Loc nD τ sig) → Buf (Elt F) ℓ) (ρ : Dev nD → PrngReg)
section
variable (c : Dev nD) (W : HbBuf0 (F := F) c hbM0_0)
/-- A slot's share of the embeddings is block `b`'s elements and the others; -/
theorem e_src_split (s : Fin 3) (b : Fin 64) : eWholeP (F := F) c W s ⊣⊢ iprop(eSrcP c W s b ∗ eOtherP c W s b) := by
  unfold eOtherP; exact pointsTo_split_subset (Finset.subset_univ _)
/-- At the first grid point the slot in use is slot 0. -/
theorem e_rest0 {n : ℕ} (h : n = 0) (g : Buf (Elt F) (scM0_0.view.loc (c : Thread nD τ))) : eRestP scM0_0 c 0 g ⊣⊢ (eRestP scM0_0 c (Ring.sl 3 n) g : sProp 𝕄) := by
  subst h; exact .rfl
theorem e_rest0u {n : ℕ} (h : n = 0) (g : Buf (Elt F) (scM0_0.view.loc (c : Thread nD τ))) :
    (scM0_0.view.loc (c : Thread nD τ) ↦[scM0_0.view.setOn (eSlot (Ring.sl 3 n)).set \ (eBox scM0_0 (Ring.sl 3 n)).view.set]{fullShare} g : sProp 𝕄)
      ⊢ (scM0_0.view.loc (c : Thread nD τ) ↦[scM0_0.view.setOn (eSlot 0).set \ (eBox scM0_0 0).view.set]{fullShare} g : sProp 𝕄) := by
  subst h; exact .rfl
/-- the embeddings whole are the three shares. -/
theorem e_whole_split : (hbPt0 c hbM0_0 W : sProp 𝕄) ⊣⊢ iprop(eWholeP c W 0 ∗ eWholeP c W 1 ∗ eWholeP c W 2) := by
  refine ⟨?_, ?_⟩
  · iintro H
    ihave H' := (pointsTo_share (PosShare.mem_left_op_right fullShare)).1 $$ H
    icases H' with ⟨H0, H12⟩
    ihave H'' := (pointsTo_share (PosShare.mem_left_op_right fullShare.right)).1 $$ H12
    icases H'' with ⟨H1, H2⟩
    isplitl [H0]; · iexact H0
    isplitl [H1]; · iexact H1
    iexact H2
  · iintro ⟨H0, H1, H2⟩
    iapply (pointsTo_share (PosShare.mem_left_op_right fullShare)).2
    isplitl [H0]; · iexact H0
    iapply (pointsTo_share (PosShare.mem_left_op_right fullShare.right)).2
    isplitl [H1]; · iexact H1
    iexact H2
end

end Cert.Proof.Kernel

end
-- ==== Proof.K.InOut.lean ====
module

public import proofs.«01_k».proof.Proof.K.Rings2
public import proofs.«01_k».proof.Proof.Gen.Kernel.Loops
public import proofs.«01_k».proof.Proof.Gen.Kernel.Launch
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Ring.WriteBehind
public import Idealize.ShloMosaic.Lib.Tactic
public import Idealize.ShloMosaic.Lib.WordCmp

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

variable (m : (ℓ : Loc nD τ sig) → Buf (Elt F) ℓ) (ρ : Dev nD → PrngReg)

/-! ## The slots of the two staging buffers, disjoint and covering them -/

omit [BitOps F] in
theorem setOn_rect {b : Ref sig .tc} (r : Rect b.ty.shape) : (View.whole b : View sig .tc _ _ _).setOn r.set = r.set :=
  (View.set_slice _ r).symm.trans (View.set_slice_whole b r)
abbrev eSet (s : Fin 3) := scM0_0.view.setOn (eSlot s).set
abbrev oSet (s : Fin 3) := scM0_1.view.setOn (oSlot s).set
theorem eSet_eq (s : Fin 3) : eSet s = (eSlot s).set := setOn_rect (b := cc0_scratch0) _
theorem oSet_eq (s : Fin 3) : oSet s = (oSlot s).set := setOn_rect (b := cc0_scratch1) _
theorem eSet_disjoint (s s' : Fin 3) (h : s ≠ s') : Disjoint (eSet s) (eSet s') := by
  rw [eSet_eq, eSet_eq]
  exact Ring.lead_disjoint (s := S3x2x32x288x128) (0 : Fin 5) 1 (fun s : Fin 3 => (![s.val, 0, 0, 0, 0] : Fin 5 → Nat)) ![1, 2, 32, 288, 128] inb_eSlot (fun s => by simp) rfl s s' h
theorem oSet_disjoint (s s' : Fin 3) (h : s ≠ s') : Disjoint (oSet s) (oSet s') := by
  rw [oSet_eq, oSet_eq]
  exact Ring.lead_disjoint (s := S3x2x27x33x8x128) (0 : Fin 6) 1 (fun s : Fin 3 => (![s.val, 0, 0, 0, 0, 0] : Fin 6 → Nat)) ![1, 2, 27, 33, 8, 128] inb_oSlot (fun s => by simp) rfl s s' h
theorem eSet_cover : Finset.univ.biUnion eSet = Finset.univ := by
  rw [show eSet = fun s => (eSlot s).set from funext eSet_eq]
  exact Ring.lead_cover (s := S3x2x32x288x128) (0 : Fin 5) 1 (fun s : Fin 3 => (![s.val, 0, 0, 0, 0] : Fin 5 → Nat)) ![1, 2, 32, 288, 128] inb_eSlot (fun s => by simp)
    (fun s a ha => by fin_cases a <;> first | exact absurd rfl ha | rfl) rfl (fun a ha => by fin_cases a <;> first | exact absurd rfl ha | rfl) rfl
theorem oSet_cover : Finset.univ.biUnion oSet = Finset.univ := by
  rw [show oSet = fun s => (oSlot s).set from funext oSet_eq]
  exact Ring.lead_cover (s := S3x2x27x33x8x128) (0 : Fin 6) 1 (fun s : Fin 3 => (![s.val, 0, 0, 0, 0, 0] : Fin 6 → Nat)) ![1, 2, 27, 33, 8, 128] inb_oSlot (fun s => by simp)
    (fun s a ha => by fin_cases a <;> first | exact absurd rfl ha | rfl) rfl (fun a ha => by fin_cases a <;> first | exact absurd rfl ha | rfl) rfl

section
variable (c : Dev nD) (W : HbBuf0 (F := F) c hbM0_0)
abbrev eRestX (s : Fin 3) : sProp 𝕄 := iprop(∃ g, eRestP scM0_0 c s g)
abbrev oRestX (s : Fin 3) : sProp 𝕄 := iprop(∃ g, oRestP scM0_1 c s g)
abbrev eBoxX (s : Fin 3) : sProp 𝕄 := iprop(∃ f, eSlotP c s f)
abbrev oTileX (s : Fin 3) : sProp 𝕄 := iprop(∃ f, oTileP c s f)

theorem e_slot_cut (s : Fin 3) : iprop(∃ f, scM0_0.view.loc (c : Thread nD τ) ↦[eSet s]{fullShare} f) ⊢ (iprop(eBoxX c s ∗ eRestX c s) : sProp 𝕄) := by
  iintro ⟨%f, H⟩
  ihave H' := (e_cut scM0_0 c s f) $$ H
  icases H' with ⟨H1, H2⟩
  isplitl [H1]; · iexists f; iexact H1
  iexists f; iexact H2
theorem e_slot_join (s : Fin 3) : iprop(eBoxX c s ∗ eRestX c s) ⊢ (iprop(∃ f, scM0_0.view.loc (c : Thread nD τ) ↦[eSet s]{fullShare} f) : sProp 𝕄) := by
  iintro ⟨⟨%f, H1⟩, ⟨%g, H2⟩⟩
  ihave H := (e_join scM0_0 c s f g) $$ [H1 H2]
  · isplitl [H1]; · iexact H1
    iexact H2
  iexists _; iexact H
theorem o_slot_cut (s : Fin 3) : iprop(∃ f, scM0_1.view.loc (c : Thread nD τ) ↦[oSet s]{fullShare} f) ⊢ (iprop(oTileX c s ∗ oRestX c s) : sProp 𝕄) := by
  iintro ⟨%f, H⟩
  ihave H' := (o_cut scM0_1 c s f) $$ H
  icases H' with ⟨H1, H2⟩
  isplitl [H1]; · iexists f; iexact H1
  iexists f; iexact H2
theorem o_slot_join (s : Fin 3) : iprop(oTileX c s ∗ oRestX c s) ⊢ (iprop(∃ f, scM0_1.view.loc (c : Thread nD τ) ↦[oSet s]{fullShare} f) : sProp 𝕄) := by
  iintro ⟨⟨%f, H1⟩, ⟨%g, H2⟩⟩
  ihave H := (o_join scM0_1 c s f g) $$ [H1 H2]
  · isplitl [H1]; · iexact H1
    iexact H2
  iexists _; iexact H

/-- The embeddings' staging buffer at anything is its three boxes and what lies beside each; -/
theorem e_in : iprop(∃ d, owns (c : Thread nD τ) scM0_0 fullShare d) ⊢ (iprop((eBoxX c 0 ∗ eRestX c 0) ∗ (eBoxX c 1 ∗ eRestX c 1) ∗ eBoxX c 2 ∗ eRestX c 2) : sProp 𝕄) := by
  refine BI.Entails.trans ?_ (BI.sep_mono (e_slot_cut c 0) (BI.sep_mono (e_slot_cut c 1) (e_slot_cut c 2)))
  simp only [scM0_0, owns_whole]
  exact Ring.slots3_split (U := Pipeline.UD sig nD τ) (ℓ := (c : Thread nD τ).loc cc0_scratch0) (q := fullShare) eSet eSet_disjoint eSet_cover
    _ _ _ (fun _ => rfl) (fun _ => rfl) (fun _ => rfl)
theorem e_out : (iprop((eBoxX c 0 ∗ eRestX c 0) ∗ (eBoxX c 1 ∗ eRestX c 1) ∗ eBoxX c 2 ∗ eRestX c 2) : sProp 𝕄) ⊢ iprop(∃ d, owns (c : Thread nD τ) scM0_0 fullShare d) := by
  refine (BI.sep_mono (e_slot_join c 0) (BI.sep_mono (e_slot_join c 1) (e_slot_join c 2))).trans ?_
  simp only [scM0_0, owns_whole]
  exact Ring.slots3_join (U := Pipeline.UD sig nD τ) (ℓ := (c : Thread nD τ).loc cc0_scratch0) (q := fullShare) eSet eSet_disjoint eSet_cover
    _ _ _ (fun _ => rfl) (fun _ => rfl) (fun _ => rfl)
/-- and so is the results'. -/
theorem o_in : iprop(∃ d, owns (c : Thread nD τ) scM0_1 fullShare d) ⊢ (iprop((oTileX c 0 ∗ oRestX c 0) ∗ (oTileX c 1 ∗ oRestX c 1) ∗ oTileX c 2 ∗ oRestX c 2) : sProp 𝕄) := by
  refine BI.Entails.trans ?_ (BI.sep_mono (o_slot_cut c 0) (BI.sep_mono (o_slot_cut c 1) (o_slot_cut c 2)))
  simp only [scM0_1, owns_whole]
  exact Ring.slots3_split (U := Pipeline.UD sig nD τ) (ℓ := (c : Thread nD τ).loc cc0_scratch1) (q := fullShare) oSet oSet_disjoint oSet_cover
    _ _ _ (fun _ => rfl) (fun _ => rfl) (fun _ => rfl)
theorem o_out : (iprop((oTileX c 0 ∗ oRestX c 0) ∗ (oTileX c 1 ∗ oRestX c 1) ∗ oTileX c 2 ∗ oRestX c 2) : sProp 𝕄) ⊢ iprop(∃ d, owns (c : Thread nD τ) scM0_1 fullShare d) := by
  refine (BI.sep_mono (o_slot_join c 0) (BI.sep_mono (o_slot_join c 1) (o_slot_join c 2))).trans ?_
  simp only [scM0_1, owns_whole]
  exact Ring.slots3_join (U := Pipeline.UD sig nD τ) (ℓ := (c : Thread nD τ).loc cc0_scratch1) (q := fullShare) oSet oSet_disjoint oSet_cover
    _ _ _ (fun _ => rfl) (fun _ => rfl) (fun _ => rfl)
end

/-! ## The blocks of the result -/

abbrev oBlockSet (b : Fin 64) : Finset S2x27x2048x8x128.Idx := (Rect.unit (s := S2x27x2048x8x128) ![0, 0, 32 * b.val, 0, 0] S2x27x32x8x128.size (inb_oPiece b)).set
theorem oBlockSet_eq (b : Fin 64) : (oPiece b).view.set = oBlockSet b := by
  unfold oPiece; exact View.set_slice_whole _ _
theorem oBlockSet_disjoint (b b' : Fin 64) (h : b ≠ b') : Disjoint (oBlockSet b) (oBlockSet b') :=
  Ring.lead_disjoint (s := S2x27x2048x8x128) (2 : Fin 5) 32 (fun b : Fin 64 => (![0, 0, 32 * b.val, 0, 0] : Fin 5 → Nat)) S2x27x32x8x128.size inb_oPiece (fun s => by simp) rfl b b' h
section
variable (c : Dev nD)
theorem oPieceP_eq (b : Fin 64) (f) : oPieceP (F := F) c b f = (((c : Thread nD τ).loc main_v4) ↦[oBlockSet b]{fullShare} f : sProp 𝕄) := by
  unfold oPieceP; rw [oBlockSet_eq]; rfl
abbrev oSpare : sProp 𝕄 := iprop(∃ f : Buf (Elt F) ((c : Thread nD τ).loc main_v4), ((c : Thread nD τ).loc main_v4) ↦[Finset.univ \ Finset.univ.biUnion oBlockSet]{fullShare} f)
/-- The result whole is its blocks; -/
theorem p_in : iprop(∃ f, hbPt0 c hbM0_1 f) ⊢ (iprop(bigSep Finset.univ (oHome (F := F) c) ∗ oSpare c) : sProp 𝕄) := by
  unfold oHome
  exact Ring.pieces_split_spare (U := Pipeline.UD sig nD τ) (ℓ := (c : Thread nD τ).loc main_v4) (q := fullShare) oBlockSet oBlockSet_disjoint
    (fun b f => oPieceP c b f) (oPieceP_eq c)
theorem p_out : (iprop(bigSep Finset.univ (oHome (F := F) c) ∗ oSpare c) : sProp 𝕄) ⊢ iprop(∃ f, hbPt0 c hbM0_1 f) := by
  unfold oHome
  exact Ring.pieces_join_spare (U := Pipeline.UD sig nD τ) (ℓ := (c : Thread nD τ).loc main_v4) (q := fullShare) oBlockSet oBlockSet_disjoint
    (fun b f => oPieceP c b f) (oPieceP_eq c)
end

/-! ## The ring of results before a grid point -/

/-- The blocks no copy is under way to before grid point `k`: all but `k - 2` and `k - 3`. -/
def homeO (k : ℕ) : Finset (Fin 64) := Finset.univ.filter fun u => ¬(k < 64 ∧ (u.val + 2 = k ∨ u.val + 3 = k))
theorem homeO_0 : homeO 0 = Finset.univ := by decide +kernel
theorem homeO_1 : homeO 1 = Finset.univ := by decide +kernel
theorem homeO_64 : homeO 64 = insert (Ring.bk 64 60) (insert (Ring.bk 64 61) (insert (Ring.bk 64 62) (insert (Ring.bk 64 63) (((homeO 63).erase (Ring.bk 64 62)).erase (Ring.bk 64 63))))) := by decide +kernel
theorem homeO_64' : homeO 64 = Finset.univ := by decide +kernel
theorem homeO_mem : ∀ k : Fin 64, 1 ≤ k.val → Ring.bk 64 (k.val - 1) ∈ homeO k.val := by decide +kernel
theorem homeO_small : ∀ k : Fin 64, 1 ≤ k.val → k.val < 3 → homeO (k.val + 1) = (homeO k.val).erase (Ring.bk 64 (k.val - 1)) := by decide +kernel
theorem homeO_big : ∀ k : Fin 64, 3 ≤ k.val → k.val < 63 → homeO (k.val + 1) = insert (Ring.bk 64 (k.val - 3)) ((homeO k.val).erase (Ring.bk 64 (k.val - 1))) := by decide +kernel
theorem homeO_new : ∀ k : Fin 64, 3 ≤ k.val → k.val < 63 → Ring.bk 64 (k.val - 3) ∉ (homeO k.val).erase (Ring.bk 64 (k.val - 1)) := by decide +kernel

section
theorem homes_out (P : Fin 64 → sProp 𝕄) (k : ℕ) (hk : k < 64) (h : 1 ≤ k) :
    bigSep (homeO k) P = iprop(P (Ring.bk 64 (k - 1)) ∗ bigSep ((homeO k).erase (Ring.bk 64 (k - 1))) P) := by
  have hm := homeO_mem ⟨k, hk⟩ h
  conv_lhs => rw [← Finset.insert_erase hm]
  exact bigSep_insert (Finset.notMem_erase _ _)
theorem homes_small (P : Fin 64 → sProp 𝕄) (k : ℕ) (hk : k < 64) (h : 1 ≤ k) (h3 : k < 3) :
    bigSep (homeO (k + 1)) P = bigSep ((homeO k).erase (Ring.bk 64 (k - 1))) P := by
  rw [homeO_small ⟨k, hk⟩ h h3]
theorem homes_big (P : Fin 64 → sProp 𝕄) (k : ℕ) (hk : k < 63) (h : 3 ≤ k) :
    bigSep (homeO (k + 1)) P = iprop(P (Ring.bk 64 (k - 3)) ∗ bigSep ((homeO k).erase (Ring.bk 64 (k - 1))) P) := by
  rw [homeO_big ⟨k, by omega⟩ h hk]
  exact bigSep_insert (homeO_new ⟨k, by omega⟩ h hk)
theorem homes_63 (P : Fin 64 → sProp 𝕄) : bigSep (homeO 63) P = iprop(P (Ring.bk 64 (63 - 1)) ∗ P (Ring.bk 64 63) ∗ bigSep (((homeO 63).erase (Ring.bk 64 62)).erase (Ring.bk 64 63)) P) := by
  rw [homes_out P 63 (by decide) (by decide)]
  have hm : Ring.bk 64 63 ∈ (homeO 63).erase (Ring.bk 64 62) := by decide +kernel
  conv_lhs => rw [show (63 - 1 : ℕ) = 62 from rfl, ← Finset.insert_erase hm]
  rw [bigSep_insert (Finset.notMem_erase _ _)]
  rfl
theorem homes_64 (P : Fin 64 → sProp 𝕄) : bigSep (homeO 64) P = iprop(P (Ring.bk 64 (63 - 3)) ∗ P (Ring.bk 64 (63 - 2)) ∗ P (Ring.bk 64 (63 - 1)) ∗ P (Ring.bk 64 63) ∗ bigSep (((homeO 63).erase (Ring.bk 64 62)).erase (Ring.bk 64 63)) P) := by
  rw [homeO_64, bigSep_insert (by decide +kernel), bigSep_insert (by decide +kernel), bigSep_insert (by decide +kernel), bigSep_insert (by decide +kernel)]
  rfl
end

section
variable (c : Dev nD)
/-- Slot `k`: block `k - 3` on its way out of it, from the fourth grid point on. -/
def oX (k : ℕ) : sProp 𝕄 := if 3 ≤ k ∧ k < 64 then oFlight (F := F) c (Ring.sl 3 k) (Ring.bk 64 (k - 3)) else oFree c (Ring.sl 3 k)
/-- Slot `k + 1`: block `k - 2` on its way out of it, from the third grid point on. -/
def oY (k : ℕ) : sProp 𝕄 := if 2 ≤ k ∧ k < 64 then oFlight (F := F) c (Ring.sl 3 (k + 1)) (Ring.bk 64 (k - 2)) else oFree c (Ring.sl 3 (k + 1))
theorem oX_free (k : ℕ) (h : ¬(3 ≤ k ∧ k < 64)) : oX (F := F) c k = oFree c (Ring.sl 3 k) := if_neg h
theorem oX_flight (k : ℕ) (h : 3 ≤ k ∧ k < 64) : oX (F := F) c k = oFlight c (Ring.sl 3 k) (Ring.bk 64 (k - 3)) := if_pos h
theorem oY_free (k : ℕ) (h : ¬(2 ≤ k ∧ k < 64)) : oY (F := F) c k = oFree c (Ring.sl 3 (k + 1)) := if_neg h
theorem oY_flight (k : ℕ) (h : 2 ≤ k ∧ k < 64) : oY (F := F) c k = oFlight c (Ring.sl 3 (k + 1)) (Ring.bk 64 (k - 2)) := if_pos h
theorem oX_succ (k : ℕ) (h : k + 1 < 64) : oX (F := F) c (k + 1) = oY c k := by
  by_cases h2 : 2 ≤ k
  · rw [oX_flight c (k + 1) ⟨by omega, h⟩, oY_flight c k ⟨h2, by omega⟩, show k + 1 - 3 = k - 2 by omega]
  · rw [oX_free c (k + 1) (by omega), oY_free c k (by omega)]
theorem oY_succ (k : ℕ) (h : k + 1 < 64) (h1 : 1 ≤ k) : oY (F := F) c (k + 1) = oFlight c (Ring.sl 3 (k + 2)) (Ring.bk 64 (k - 1)) := by
  rw [oY_flight c (k + 1) ⟨by omega, h⟩, show k + 1 - 2 = k - 1 by omega]
/-- The ring of results before grid point `k`. -/
def oRing (k : ℕ) : sProp 𝕄 := iprop(oFree (F := F) c (Ring.sl 3 (k + 2)) ∗ oX c k ∗ oY c k ∗ bigSep (homeO k) (oHome c))
end
theorem sl3_3 (k : ℕ) : Ring.sl 3 (k + 1 + 2) = Ring.sl 3 k := by
  apply Fin.ext; simp [Ring.sl, Fin.ofNat]; omega

section
variable (c : Dev nD)
theorem eCellP_0 : eCellP (F := F) c 0 = semVal ((c : Thread nD τ), SemLoc.dma 8) 0 := congrArg (fun x => (semVal ((c : Thread nD τ), x) 0 : sProp 𝕄)) eCellR_0
theorem eCellP_1 : eCellP (F := F) c 1 = semVal ((c : Thread nD τ), SemLoc.dma 9) 0 := congrArg (fun x => (semVal ((c : Thread nD τ), x) 0 : sProp 𝕄)) eCellR_1
theorem eCellP_2 : eCellP (F := F) c 2 = semVal ((c : Thread nD τ), SemLoc.dma 10) 0 := congrArg (fun x => (semVal ((c : Thread nD τ), x) 0 : sProp 𝕄)) eCellR_2
theorem oCellP_0 : oCellP (F := F) c 0 = semVal ((c : Thread nD τ), SemLoc.dma 11) 0 := congrArg (fun x => (semVal ((c : Thread nD τ), x) 0 : sProp 𝕄)) oCellR_0
theorem oCellP_1 : oCellP (F := F) c 1 = semVal ((c : Thread nD τ), SemLoc.dma 12) 0 := congrArg (fun x => (semVal ((c : Thread nD τ), x) 0 : sProp 𝕄)) oCellR_1
theorem oCellP_2 : oCellP (F := F) c 2 = semVal ((c : Thread nD τ), SemLoc.dma 13) 0 := congrArg (fun x => (semVal ((c : Thread nD τ), x) 0 : sProp 𝕄)) oCellR_2

/-- Into the ring of embeddings, -/
theorem e_ring_in :
    iprop((eBoxX (F := F) c 0 ∗ eBoxX c 1 ∗ eBoxX c 2) ∗ (semVal ((c : Thread nD τ), SemLoc.dma 8) 0 ∗ semVal ((c : Thread nD τ), SemLoc.dma 9) 0 ∗ semVal ((c : Thread nD τ), SemLoc.dma 10) 0) ∗ hbPt0 c hbM0_0 (V m c main_v3))
      ⊢ eRingAt c (V m c main_v3) 0 := by
  unfold eRingAt; rw [if_pos rfl]; unfold Ring.At₀
  rw [Ring.bigSep_fin3]
  simp only [Ring.free, eCellP_0, eCellP_1, eCellP_2]
  iintro ⟨⟨⟨%d0, HS0⟩, ⟨%d1, HS1⟩, ⟨%d2, HS2⟩⟩, Hc, HW⟩
  iapply Ring.with_homes₀
  icases Hc with ⟨H0, H1, H2⟩
  ihave HW' := (e_whole_split (F := F) c (V m c main_v3)).1 $$ HW
  icases HW' with ⟨HW0, HW1, HW2⟩
  isplitl [H0 HS0 HW0]
  · isplitl [H0]; · iexact H0
    iexists d0; isplitl [HS0]; · iexact HS0
    iexact HW0
  isplitl [H1 HS1 HW1]
  · isplitl [H1]; · iexact H1
    iexists d1; isplitl [HS1]; · iexact HS1
    iexact HW1
  · isplitl [H2]; · iexact H2
    iexists d2; isplitl [HS2]; · iexact HS2
    iexact HW2
/-- and out of it after the last point. -/
theorem e_ring_out :
    eRingAt c (V m c main_v3) 64
      ⊢ iprop((eBoxX (F := F) c 0 ∗ eBoxX c 1 ∗ eBoxX c 2) ∗ (semVal ((c : Thread nD τ), SemLoc.dma 8) 0 ∗ semVal ((c : Thread nD τ), SemLoc.dma 9) 0 ∗ semVal ((c : Thread nD τ), SemLoc.dma 10) 0) ∗ hbPt0 c hbM0_0 (V m c main_v3)) := by
  unfold eRingAt; rw [if_neg (by decide)]
  iintro H
  ihave H' := (Ring.free3_of_At_last _ _ _ _) $$ H
  simp only [Ring.free, eCellP_0, eCellP_1, eCellP_2]
  icases H' with ⟨-, ⟨H0, ⟨%f0, HS0, HW0⟩⟩, ⟨H1, ⟨%f1, HS1, HW1⟩⟩, ⟨H2, ⟨%f2, HS2, HW2⟩⟩⟩
  isplitl [HS0 HS1 HS2]
  · isplitl [HS0]; · iexists f0; iexact HS0
    isplitl [HS1]; · iexists f1; iexact HS1
    iexists f2; iexact HS2
  isplitl [H0 H1 H2]
  · isplitl [H0]; · iexact H0
    isplitl [H1]; · iexact H1
    iexact H2
  · iapply (e_whole_split (F := F) c (V m c main_v3)).2; isplitl [HW0]; · iexact HW0
    isplitl [HW1]; · iexact HW1
    iexact HW2
/-- Into the ring of results, -/
theorem o_ring_in :
    iprop((oTileX (F := F) c 0 ∗ oTileX c 1 ∗ oTileX c 2) ∗ (semVal ((c : Thread nD τ), SemLoc.dma 11) 0 ∗ semVal ((c : Thread nD τ), SemLoc.dma 12) 0 ∗ semVal ((c : Thread nD τ), SemLoc.dma 13) 0) ∗ bigSep Finset.univ (oHome c))
      ⊢ oRing c 0 := by
  unfold oRing
  rw [oX_free c 0 (by decide), oY_free c 0 (by decide), homeO_0]
  rw [show Ring.sl 3 (0 + 2) = 2 from rfl, show Ring.sl 3 0 = 0 from rfl, show Ring.sl 3 (0 + 1) = 1 from rfl]
  simp only [oFree, oCellP_0, oCellP_1, oCellP_2]
  iintro ⟨⟨HS0, HS1, HS2⟩, ⟨H0, H1, H2⟩, HH⟩
  isplitl [H2 HS2]
  · isplitl [H2]; · iexact H2
    iexact HS2
  isplitl [H0 HS0]
  · isplitl [H0]; · iexact H0
    iexact HS0
  isplitl [H1 HS1]
  · isplitl [H1]; · iexact H1
    iexact HS1
  iexact HH
/-- and out of it. -/
theorem o_ring_out :
    oRing c 64 ⊢ iprop((oTileX (F := F) c 0 ∗ oTileX c 1 ∗ oTileX c 2) ∗ (semVal ((c : Thread nD τ), SemLoc.dma 11) 0 ∗ semVal ((c : Thread nD τ), SemLoc.dma 12) 0 ∗ semVal ((c : Thread nD τ), SemLoc.dma 13) 0) ∗ bigSep Finset.univ (oHome c)) := by
  unfold oRing
  rw [oX_free c 64 (by decide), oY_free c 64 (by decide), homeO_64']
  rw [show Ring.sl 3 (64 + 2) = 0 from rfl, show Ring.sl 3 64 = 1 from rfl, show Ring.sl 3 (64 + 1) = 2 from rfl]
  simp only [oFree, oCellP_0, oCellP_1, oCellP_2]
  iintro ⟨⟨H0, HS0⟩, ⟨H1, HS1⟩, ⟨H2, HS2⟩, HH⟩
  isplitl [HS0 HS1 HS2]
  · isplitl [HS0]; · iexact HS0
    isplitl [HS1]; · iexact HS1
    iexact HS2
  isplitl [H0 H1 H2]
  · isplitl [H0]; · iexact H0
    isplitl [H1]; · iexact H1
    iexact H2
  iexact HH
end

end Cert.Proof.Kernel

end
-- ==== Proof.K.RunA.lean ====
module

public import proofs.«01_k».proof.Proof.K.Rings2
public import proofs.«01_k».proof.Proof.Gen.Kernel.Loops
public import proofs.«01_k».proof.Proof.Gen.Kernel.Launch
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Ring.WriteBehind
public import Idealize.ShloMosaic.Lib.Tactic
public import Idealize.ShloMosaic.Lib.WordCmp

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

set_option maxHeartbeats 2000000 in
/-- The body in case A. -/
theorem run_A (c : Dev nD) (i : grid0.Coords) (arg1 : Memref sig .tc .vmem S2x351x256 .fp8e5m2) (harg1 : arg1.IsWhole) (arg2 : Memref sig .tc .vmem S26x2x256 .f32) (harg2 : arg2.IsWhole) (arg3 : Memref sig .tc .vmem S27x2x256 .f32) (harg3 : arg3.IsWhole) (arg4 : Memref sig .tc .vmem S2x256x128 .bf16) (harg4 : arg4.IsWhole) (arg9 : Memref sig .tc .vmem S2x352x128 .f32) (harg9 : arg9.IsWhole) (arg10 : Memref sig .tc .vmem S2x2x32x128 .f32) (harg10 : arg10.IsWhole) (arg11 : Memref sig .tc .vmem S2x1008x128 .f32) (harg11 : arg11.IsWhole) (arg12 : Memref sig .tc .vmem S2x2560x128 .i32) (harg12 : arg12.IsWhole) (arg13 : Memref sig .tc .vmem S2x1152x128 .f32) (harg13 : arg13.IsWhole) (hc1 : k0_cond1 i = 1#1) (hc2 : ¬k0_cond2 i = 1#1) (hc3 : k0_cond3 i = 1#1) (hc4 : ¬k0_cond4 i = 1#1) (hc7 : ¬k0_cond7 i = 1#1)
    (x0 : Vec F S2x351x256 .fp8e5m2) (x1 : Vec F S26x2x256 .f32) (x2 : Vec F S27x2x256 .f32) (x3 : Vec F S2x256x128 .bf16) (W : HbBuf0 (F := F) c hbM0_0)
    (Wt : Waits sig Unit) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ Ring.free (eCellP c) (eSlotW c W) (Ring.sl 3 (i 0).val) ∗ Ring.free (eCellP c) (eSlotW c W) (Ring.sl 3 ((i 0).val + 1)) ∗ Ring.free (eCellP c) (eSlotW c W) (Ring.sl 3 ((i 0).val + 2)) ∗ oFree c (Ring.sl 3 (i 0).val) ∗ (∃ g, eRestP scM0_0 c 0 g) ∗ (∃ g, eRestP scM0_0 c 1 g) ∗ (∃ g, eRestP scM0_0 c 2 g) ∗ (∃ g, oRestP scM0_1 c (Ring.sl 3 (i 0).val) g) ∗ owes (c : Thread nD τ) 0 Wt
        ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ Ring.inflight (eFlight c W) (Ring.sl 3 ((i 0).val + 1)) (Ring.bk 64 ((i 0).val + 1)) ∗ Ring.inflight (eFlight c W) (Ring.sl 3 ((i 0).val + 2)) (Ring.bk 64 ((i 0).val + 2)) ∗ Ring.free (eCellP c) (eSlotW c W) (Ring.sl 3 (i 0).val) ∗ oFree c (Ring.sl 3 (i 0).val) ∗ (∃ g, eRestP scM0_0 c 0 g) ∗ (∃ g, eRestP scM0_0 c 1 g) ∗ (∃ g, eRestP scM0_0 c 2 g) ∗ (∃ g, oRestP scM0_1 c (Ring.sl 3 (i 0).val) g) ∗ (∃ W', owes (c : Thread nD τ) 0 W')) -∗ K ⟨⟩))
      ⊢ wp frame (wpE (defs₀ (F := F)) Variants.none c none) Set.univ (cc0__body i arg1 harg1 arg2 harg2 arg3 harg3 arg4 harg4 (Memref.whole main_v3) (Memref.isWhole_whole _) (Memref.whole main_v4) (Memref.isWhole_whole _) scM0_0 (Memref.isWhole_whole _) scM0_1 (Memref.isWhole_whole _) arg9 harg9 arg10 harg10 arg11 harg11 arg12 harg12 arg13 harg13 cc0_scratch7 cc0_scratch8) K := by
  have hn : (i 0).val < 64 := (i 0).isLt
  simp only [cc0__body_eq_skeleton]; unfold cc0__body_skel
  simp only [k0_part69_eq_skeleton, k0_part68_eq_skeleton, k0_part1_eq_skeleton, k0_part2_eq_skeleton, k0_part3_eq_skeleton, k0_part4_eq_skeleton, k0_part5_eq_skeleton]
  unfold owns Ring.free Ring.inflight oFree oTileP oRestP
  iintro ⟨⟨%f0, %hf0, H0⟩, ⟨%f1, %hf1, H1⟩, ⟨%f2, %hf2, H2⟩, ⟨%f3, %hf3, H3⟩, ⟨%ds2, %fs2, -, HS2⟩, ⟨%ds3, %fs3, -, HS3⟩, ⟨%ds4, %fs4, -, HS4⟩, ⟨%ds5, %fs5, -, HS5⟩, ⟨%ds6, %fs6, -, HS6⟩, ⟨HEc0, ⟨%fe0, HE0, HEw0⟩⟩, ⟨HEc1, ⟨%fe1, HE1, HEw1⟩⟩, ⟨HEc2, ⟨%fe2, HE2, HEw2⟩⟩, ⟨HOc0, ⟨%fo0, HO0⟩⟩, ⟨%ge0, HR0⟩, ⟨%ge1, HR1⟩, ⟨%ge2, HR2⟩, ⟨%go, HRo⟩, HW, Hk⟩
  obtain rfl := harg1.eq_unread hf0; obtain rfl := harg2.eq_unread hf1; obtain rfl := harg3.eq_unread hf2; obtain rfl := harg4.eq_unread hf3
  have h0 : (i 0).val = 0 := (hcond_1 i).1 hc1
  ihave Hsp0 := (e_src_split c W (Ring.sl 3 (i 0).val) (Ring.bk 64 (i 0).val)).1 $$ HEw0
  icases Hsp0 with ⟨HEh0, HEr0⟩
  ihave Hsp1 := (e_src_split c W (Ring.sl 3 ((i 0).val + 1)) (Ring.bk 64 ((i 0).val + 1))).1 $$ HEw1
  icases Hsp1 with ⟨HEh1, HEr1⟩
  ihave Hsp2 := (e_src_split c W (Ring.sl 3 ((i 0).val + 2)) (Ring.bk 64 ((i 0).val + 2))).1 $$ HEw2
  icases Hsp2 with ⟨HEh2, HEr2⟩
  ihave Hq0 := (e_pad scM0_0 c 0 ge0) $$ HR0
  icases Hq0 with ⟨HQ0, HM0⟩
  ihave Hq1 := (e_pad scM0_0 c 1 ge1) $$ HR1
  icases Hq1 with ⟨HQ1, HM1⟩
  ihave Hq2 := (e_pad scM0_0 c 2 ge2) $$ HR2
  icases Hq2 with ⟨HQ2, HM2⟩
  sl_exec (disch := first | sl_exact hc1 | sl_exact hc2 | sl_exact hc3 | sl_exact hc4 | sl_exact hc7)
  ihave Hq0 := (e_unpad scM0_0 c 0 _ ge0) $$ [HQ0 HM0]
  · isplitl [HQ0]; · iexact HQ0
    iexact HM0
  icases Hq0 with ⟨%gf0, HR0⟩
  ihave Hq1 := (e_unpad scM0_0 c 1 _ ge1) $$ [HQ1 HM1]
  · isplitl [HQ1]; · iexact HQ1
    iexact HM1
  icases Hq1 with ⟨%gf1, HR1⟩
  ihave Hq2 := (e_unpad scM0_0 c 2 _ ge2) $$ [HQ2 HM2]
  · isplitl [HQ2]; · iexact HQ2
    iexact HM2
  icases Hq2 with ⟨%gf2, HR2⟩
  ihave HR := (e_rest0 c h0 gf0).1 $$ HR0
  unfold eRestP
  sl_exec (disch := first | sl_exact hc1 | sl_exact hc2 | sl_exact hc3 | sl_exact hc4 | sl_exact hc7)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [HS2]
  · iexists _, _; isplitr; swap; · iexact HS2
    ipureintro; rfl
  isplitl [HS3]
  · iexists _, _; isplitr; swap; · iexact HS3
    ipureintro; rfl
  isplitl [HS4]
  · iexists _, _; isplitr; swap; · iexact HS4
    ipureintro; rfl
  isplitl [HS5]
  · iexists _, _; isplitr; swap; · iexact HS5
    ipureintro; rfl
  isplitl [HS6]
  · iexists _, _; isplitr; swap; · iexact HS6
    ipureintro; rfl
  isplitl [HEc1 HEr1]
  · iexists _; isplitl [HEc1]; · iexact HEc1
    iexact HEr1
  isplitl [HEc2 HEr2]
  · iexists _; isplitl [HEc2]; · iexact HEc2
    iexact HEr2
  isplitl [HEc0 HE0 HEh0 HEr0]
  · isplitl [HEc0]; · iexact HEc0
    iexists _; isplitl [HE0]; · iexact HE0
    iapply (e_src_split c W (Ring.sl 3 (i 0).val) (Ring.bk 64 (i 0).val)).2; isplitl [HEh0]; · iexact HEh0
    iexact HEr0
  isplitl [HOc0 HO0]
  · isplitl [HOc0]; · iexact HOc0
    iexists _; iexact HO0
  isplitl [HR]
  · ihave HRb := (e_rest0u c h0 _) $$ HR
    iexists _; iexact HRb
  isplitl [HR1]; · iexists _; iexact HR1
  isplitl [HR2]; · iexists _; iexact HR2
  isplitl [HRo]; · iexists _; iexact HRo
  iexists _; iexact HW

end Cert.Proof.Kernel

end
-- ==== Proof.K.RunB.lean ====
module

public import proofs.«01_k».proof.Proof.K.Rings2
public import proofs.«01_k».proof.Proof.Gen.Kernel.Loops
public import proofs.«01_k».proof.Proof.Gen.Kernel.Launch
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Ring.WriteBehind
public import Idealize.ShloMosaic.Lib.Tactic
public import Idealize.ShloMosaic.Lib.WordCmp

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

set_option maxHeartbeats 2000000 in
/-- The body in case B. -/
theorem run_B (c : Dev nD) (i : grid0.Coords) (arg1 : Memref sig .tc .vmem S2x351x256 .fp8e5m2) (harg1 : arg1.IsWhole) (arg2 : Memref sig .tc .vmem S26x2x256 .f32) (harg2 : arg2.IsWhole) (arg3 : Memref sig .tc .vmem S27x2x256 .f32) (harg3 : arg3.IsWhole) (arg4 : Memref sig .tc .vmem S2x256x128 .bf16) (harg4 : arg4.IsWhole) (arg9 : Memref sig .tc .vmem S2x352x128 .f32) (harg9 : arg9.IsWhole) (arg10 : Memref sig .tc .vmem S2x2x32x128 .f32) (harg10 : arg10.IsWhole) (arg11 : Memref sig .tc .vmem S2x1008x128 .f32) (harg11 : arg11.IsWhole) (arg12 : Memref sig .tc .vmem S2x2560x128 .i32) (harg12 : arg12.IsWhole) (arg13 : Memref sig .tc .vmem S2x1152x128 .f32) (harg13 : arg13.IsWhole) (hc1 : ¬k0_cond1 i = 1#1) (hc2 : k0_cond2 i = 1#1) (hc3 : k0_cond3 i = 1#1) (hc4 : ¬k0_cond4 i = 1#1) (hc7 : ¬k0_cond7 i = 1#1)
    (x0 : Vec F S2x351x256 .fp8e5m2) (x1 : Vec F S26x2x256 .f32) (x2 : Vec F S27x2x256 .f32) (x3 : Vec F S2x256x128 .bf16) (W : HbBuf0 (F := F) c hbM0_0)
    (Wt : Waits sig Unit) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ Ring.inflight (eFlight c W) (Ring.sl 3 (i 0).val) (Ring.bk 64 (i 0).val) ∗ Ring.free (eCellP c) (eSlotW c W) (Ring.sl 3 ((i 0).val + 2)) ∗ oHome c (Ring.bk 64 ((i 0).val - 1)) ∗ oFree c (Ring.sl 3 ((i 0).val + 2)) ∗ oFree c (Ring.sl 3 (i 0).val) ∗ (∃ g, eRestP scM0_0 c (Ring.sl 3 (i 0).val) g) ∗ (∃ g, oRestP scM0_1 c (Ring.sl 3 (i 0).val) g) ∗ owes (c : Thread nD τ) 0 Wt
        ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ Ring.inflight (eFlight c W) (Ring.sl 3 ((i 0).val + 2)) (Ring.bk 64 ((i 0).val + 2)) ∗ Ring.free (eCellP c) (eSlotW c W) (Ring.sl 3 (i 0).val) ∗ oFlight c (Ring.sl 3 ((i 0).val + 2)) (Ring.bk 64 ((i 0).val - 1)) ∗ oFree c (Ring.sl 3 (i 0).val) ∗ (∃ g, eRestP scM0_0 c (Ring.sl 3 (i 0).val) g) ∗ (∃ g, oRestP scM0_1 c (Ring.sl 3 (i 0).val) g) ∗ (∃ W', owes (c : Thread nD τ) 0 W')) -∗ K ⟨⟩))
      ⊢ wp frame (wpE (defs₀ (F := F)) Variants.none c none) Set.univ (cc0__body i arg1 harg1 arg2 harg2 arg3 harg3 arg4 harg4 (Memref.whole main_v3) (Memref.isWhole_whole _) (Memref.whole main_v4) (Memref.isWhole_whole _) scM0_0 (Memref.isWhole_whole _) scM0_1 (Memref.isWhole_whole _) arg9 harg9 arg10 harg10 arg11 harg11 arg12 harg12 arg13 harg13 cc0_scratch7 cc0_scratch8) K := by
  have hn : (i 0).val < 64 := (i 0).isLt
  simp only [cc0__body_eq_skeleton]; unfold cc0__body_skel
  simp only [k0_part69_eq_skeleton, k0_part68_eq_skeleton, k0_part1_eq_skeleton, k0_part2_eq_skeleton, k0_part3_eq_skeleton, k0_part4_eq_skeleton, k0_part5_eq_skeleton]
  unfold owns Ring.free Ring.inflight oFree oFlight oHome oTileP oPieceP eRestP oRestP
  iintro ⟨⟨%f0, %hf0, H0⟩, ⟨%f1, %hf1, H1⟩, ⟨%f2, %hf2, H2⟩, ⟨%f3, %hf3, H3⟩, ⟨%ds2, %fs2, -, HS2⟩, ⟨%ds3, %fs3, -, HS3⟩, ⟨%ds4, %fs4, -, HS4⟩, ⟨%ds5, %fs5, -, HS5⟩, ⟨%ds6, %fs6, -, HS6⟩, ⟨%fe0, HE0, HEr0⟩, ⟨HEc2, ⟨%fe2, HE2, HEw2⟩⟩, ⟨%fp1, HP1⟩, ⟨HOc2, ⟨%fo2, HO2⟩⟩, ⟨HOc0, ⟨%fo0, HO0⟩⟩, ⟨%ge0, HR0⟩, ⟨%go, HRo⟩, HW, Hk⟩
  obtain rfl := harg1.eq_unread hf0; obtain rfl := harg2.eq_unread hf1; obtain rfl := harg3.eq_unread hf2; obtain rfl := harg4.eq_unread hf3
  ihave Hsp2 := (e_src_split c W (Ring.sl 3 ((i 0).val + 2)) (Ring.bk 64 ((i 0).val + 2))).1 $$ HEw2
  icases Hsp2 with ⟨HEh2, HEr2⟩
  sl_exec (disch := first | sl_exact hc1 | sl_exact hc2 | sl_exact hc3 | sl_exact hc4 | sl_exact hc7)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [HS2]
  · iexists _, _; isplitr; swap; · iexact HS2
    ipureintro; rfl
  isplitl [HS3]
  · iexists _, _; isplitr; swap; · iexact HS3
    ipureintro; rfl
  isplitl [HS4]
  · iexists _, _; isplitr; swap; · iexact HS4
    ipureintro; rfl
  isplitl [HS5]
  · iexists _, _; isplitr; swap; · iexact HS5
    ipureintro; rfl
  isplitl [HS6]
  · iexists _, _; isplitr; swap; · iexact HS6
    ipureintro; rfl
  isplitl [HEc2 HEr2]
  · iexists _; isplitl [HEc2]; · iexact HEc2
    iexact HEr2
  isplitl [HE0 HE0_dst HE0_src HEr0]
  · isplitl [HE0]; · iexact HE0
    iexists _; isplitl [HE0_dst]; · iexact HE0_dst
    iapply (e_src_split c W (Ring.sl 3 (i 0).val) (Ring.bk 64 (i 0).val)).2; isplitl [HE0_src]; · iexact HE0_src
    iexact HEr0
  isplitl [HOc2]; · iexists _, _; iexact HOc2
  isplitl [HOc0 HO0]
  · isplitl [HOc0]; · iexact HOc0
    iexists _; iexact HO0
  isplitl [HR0]; · iexists _; iexact HR0
  isplitl [HRo]; · iexists _; iexact HRo
  iexists _; iexact HW

end Cert.Proof.Kernel

end
-- ==== Proof.K.RunC.lean ====
module

public import proofs.«01_k».proof.Proof.K.Rings2
public import proofs.«01_k».proof.Proof.Gen.Kernel.Loops
public import proofs.«01_k».proof.Proof.Gen.Kernel.Launch
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Ring.WriteBehind
public import Idealize.ShloMosaic.Lib.Tactic
public import Idealize.ShloMosaic.Lib.WordCmp

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

set_option maxHeartbeats 2000000 in
/-- The body in case C. -/
theorem run_C (c : Dev nD) (i : grid0.Coords) (arg1 : Memref sig .tc .vmem S2x351x256 .fp8e5m2) (harg1 : arg1.IsWhole) (arg2 : Memref sig .tc .vmem S26x2x256 .f32) (harg2 : arg2.IsWhole) (arg3 : Memref sig .tc .vmem S27x2x256 .f32) (harg3 : arg3.IsWhole) (arg4 : Memref sig .tc .vmem S2x256x128 .bf16) (harg4 : arg4.IsWhole) (arg9 : Memref sig .tc .vmem S2x352x128 .f32) (harg9 : arg9.IsWhole) (arg10 : Memref sig .tc .vmem S2x2x32x128 .f32) (harg10 : arg10.IsWhole) (arg11 : Memref sig .tc .vmem S2x1008x128 .f32) (harg11 : arg11.IsWhole) (arg12 : Memref sig .tc .vmem S2x2560x128 .i32) (harg12 : arg12.IsWhole) (arg13 : Memref sig .tc .vmem S2x1152x128 .f32) (harg13 : arg13.IsWhole) (hc1 : ¬k0_cond1 i = 1#1) (hc2 : k0_cond2 i = 1#1) (hc3 : k0_cond3 i = 1#1) (hc4 : k0_cond4 i = 1#1) (hc7 : ¬k0_cond7 i = 1#1)
    (x0 : Vec F S2x351x256 .fp8e5m2) (x1 : Vec F S26x2x256 .f32) (x2 : Vec F S27x2x256 .f32) (x3 : Vec F S2x256x128 .bf16) (W : HbBuf0 (F := F) c hbM0_0)
    (Wt : Waits sig Unit) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ Ring.inflight (eFlight c W) (Ring.sl 3 (i 0).val) (Ring.bk 64 (i 0).val) ∗ Ring.free (eCellP c) (eSlotW c W) (Ring.sl 3 ((i 0).val + 2)) ∗ oHome c (Ring.bk 64 ((i 0).val - 1)) ∗ oFree c (Ring.sl 3 ((i 0).val + 2)) ∗ oFlight c (Ring.sl 3 (i 0).val) (Ring.bk 64 ((i 0).val - 3)) ∗ (∃ g, eRestP scM0_0 c (Ring.sl 3 (i 0).val) g) ∗ (∃ g, oRestP scM0_1 c (Ring.sl 3 (i 0).val) g) ∗ owes (c : Thread nD τ) 0 Wt
        ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ Ring.inflight (eFlight c W) (Ring.sl 3 ((i 0).val + 2)) (Ring.bk 64 ((i 0).val + 2)) ∗ Ring.free (eCellP c) (eSlotW c W) (Ring.sl 3 (i 0).val) ∗ oHome c (Ring.bk 64 ((i 0).val - 3)) ∗ oFlight c (Ring.sl 3 ((i 0).val + 2)) (Ring.bk 64 ((i 0).val - 1)) ∗ oFree c (Ring.sl 3 (i 0).val) ∗ (∃ g, eRestP scM0_0 c (Ring.sl 3 (i 0).val) g) ∗ (∃ g, oRestP scM0_1 c (Ring.sl 3 (i 0).val) g) ∗ (∃ W', owes (c : Thread nD τ) 0 W')) -∗ K ⟨⟩))
      ⊢ wp frame (wpE (defs₀ (F := F)) Variants.none c none) Set.univ (cc0__body i arg1 harg1 arg2 harg2 arg3 harg3 arg4 harg4 (Memref.whole main_v3) (Memref.isWhole_whole _) (Memref.whole main_v4) (Memref.isWhole_whole _) scM0_0 (Memref.isWhole_whole _) scM0_1 (Memref.isWhole_whole _) arg9 harg9 arg10 harg10 arg11 harg11 arg12 harg12 arg13 harg13 cc0_scratch7 cc0_scratch8) K := by
  have hn : (i 0).val < 64 := (i 0).isLt
  simp only [cc0__body_eq_skeleton]; unfold cc0__body_skel
  simp only [k0_part69_eq_skeleton, k0_part68_eq_skeleton, k0_part1_eq_skeleton, k0_part2_eq_skeleton, k0_part3_eq_skeleton, k0_part4_eq_skeleton, k0_part5_eq_skeleton]
  unfold owns Ring.free Ring.inflight oFree oFlight oHome oTileP oPieceP eRestP oRestP
  iintro ⟨⟨%f0, %hf0, H0⟩, ⟨%f1, %hf1, H1⟩, ⟨%f2, %hf2, H2⟩, ⟨%f3, %hf3, H3⟩, ⟨%ds2, %fs2, -, HS2⟩, ⟨%ds3, %fs3, -, HS3⟩, ⟨%ds4, %fs4, -, HS4⟩, ⟨%ds5, %fs5, -, HS5⟩, ⟨%ds6, %fs6, -, HS6⟩, ⟨%fe0, HE0, HEr0⟩, ⟨HEc2, ⟨%fe2, HE2, HEw2⟩⟩, ⟨%fp1, HP1⟩, ⟨HOc2, ⟨%fo2, HO2⟩⟩, ⟨%ff0, %fg0, HOf0⟩, ⟨%ge0, HR0⟩, ⟨%go, HRo⟩, HW, Hk⟩
  obtain rfl := harg1.eq_unread hf0; obtain rfl := harg2.eq_unread hf1; obtain rfl := harg3.eq_unread hf2; obtain rfl := harg4.eq_unread hf3
  ihave Hsp2 := (e_src_split c W (Ring.sl 3 ((i 0).val + 2)) (Ring.bk 64 ((i 0).val + 2))).1 $$ HEw2
  icases Hsp2 with ⟨HEh2, HEr2⟩
  sl_exec (disch := first | sl_exact hc1 | sl_exact hc2 | sl_exact hc3 | sl_exact hc4 | sl_exact hc7)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [HS2]
  · iexists _, _; isplitr; swap; · iexact HS2
    ipureintro; rfl
  isplitl [HS3]
  · iexists _, _; isplitr; swap; · iexact HS3
    ipureintro; rfl
  isplitl [HS4]
  · iexists _, _; isplitr; swap; · iexact HS4
    ipureintro; rfl
  isplitl [HS5]
  · iexists _, _; isplitr; swap; · iexact HS5
    ipureintro; rfl
  isplitl [HS6]
  · iexists _, _; isplitr; swap; · iexact HS6
    ipureintro; rfl
  isplitl [HEc2 HEr2]
  · iexists _; isplitl [HEc2]; · iexact HEc2
    iexact HEr2
  isplitl [HE0 HE0_dst HE0_src HEr0]
  · isplitl [HE0]; · iexact HE0
    iexists _; isplitl [HE0_dst]; · iexact HE0_dst
    iapply (e_src_split c W (Ring.sl 3 (i 0).val) (Ring.bk 64 (i 0).val)).2; isplitl [HE0_src]; · iexact HE0_src
    iexact HEr0
  isplitl [HOf0_dst]; · iexists _; iexact HOf0_dst
  isplitl [HOc2]; · iexists _, _; iexact HOc2
  isplitl [HOf0 HOf0_src]
  · isplitl [HOf0]; · iexact HOf0
    iexists _; iexact HOf0_src
  isplitl [HR0]; · iexists _; iexact HR0
  isplitl [HRo]; · iexists _; iexact HRo
  iexists _; iexact HW

end Cert.Proof.Kernel

end
-- ==== Proof.K.RunD.lean ====
module

public import proofs.«01_k».proof.Proof.K.Rings2
public import proofs.«01_k».proof.Proof.Gen.Kernel.Loops
public import proofs.«01_k».proof.Proof.Gen.Kernel.Launch
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Ring.WriteBehind
public import Idealize.ShloMosaic.Lib.Tactic
public import Idealize.ShloMosaic.Lib.WordCmp

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

set_option maxHeartbeats 2000000 in
/-- The body in case D. -/
theorem run_D (c : Dev nD) (i : grid0.Coords) (arg1 : Memref sig .tc .vmem S2x351x256 .fp8e5m2) (harg1 : arg1.IsWhole) (arg2 : Memref sig .tc .vmem S26x2x256 .f32) (harg2 : arg2.IsWhole) (arg3 : Memref sig .tc .vmem S27x2x256 .f32) (harg3 : arg3.IsWhole) (arg4 : Memref sig .tc .vmem S2x256x128 .bf16) (harg4 : arg4.IsWhole) (arg9 : Memref sig .tc .vmem S2x352x128 .f32) (harg9 : arg9.IsWhole) (arg10 : Memref sig .tc .vmem S2x2x32x128 .f32) (harg10 : arg10.IsWhole) (arg11 : Memref sig .tc .vmem S2x1008x128 .f32) (harg11 : arg11.IsWhole) (arg12 : Memref sig .tc .vmem S2x2560x128 .i32) (harg12 : arg12.IsWhole) (arg13 : Memref sig .tc .vmem S2x1152x128 .f32) (harg13 : arg13.IsWhole) (hc1 : ¬k0_cond1 i = 1#1) (hc2 : k0_cond2 i = 1#1) (hc3 : ¬k0_cond3 i = 1#1) (hc4 : k0_cond4 i = 1#1) (hc7 : ¬k0_cond7 i = 1#1)
    (x0 : Vec F S2x351x256 .fp8e5m2) (x1 : Vec F S26x2x256 .f32) (x2 : Vec F S27x2x256 .f32) (x3 : Vec F S2x256x128 .bf16) (W : HbBuf0 (F := F) c hbM0_0)
    (Wt : Waits sig Unit) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ Ring.inflight (eFlight c W) (Ring.sl 3 (i 0).val) (Ring.bk 64 (i 0).val) ∗ oHome c (Ring.bk 64 ((i 0).val - 1)) ∗ oFree c (Ring.sl 3 ((i 0).val + 2)) ∗ oFlight c (Ring.sl 3 (i 0).val) (Ring.bk 64 ((i 0).val - 3)) ∗ (∃ g, eRestP scM0_0 c (Ring.sl 3 (i 0).val) g) ∗ (∃ g, oRestP scM0_1 c (Ring.sl 3 (i 0).val) g) ∗ owes (c : Thread nD τ) 0 Wt
        ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ Ring.free (eCellP c) (eSlotW c W) (Ring.sl 3 (i 0).val) ∗ oHome c (Ring.bk 64 ((i 0).val - 3)) ∗ oFlight c (Ring.sl 3 ((i 0).val + 2)) (Ring.bk 64 ((i 0).val - 1)) ∗ oFree c (Ring.sl 3 (i 0).val) ∗ (∃ g, eRestP scM0_0 c (Ring.sl 3 (i 0).val) g) ∗ (∃ g, oRestP scM0_1 c (Ring.sl 3 (i 0).val) g) ∗ (∃ W', owes (c : Thread nD τ) 0 W')) -∗ K ⟨⟩))
      ⊢ wp frame (wpE (defs₀ (F := F)) Variants.none c none) Set.univ (cc0__body i arg1 harg1 arg2 harg2 arg3 harg3 arg4 harg4 (Memref.whole main_v3) (Memref.isWhole_whole _) (Memref.whole main_v4) (Memref.isWhole_whole _) scM0_0 (Memref.isWhole_whole _) scM0_1 (Memref.isWhole_whole _) arg9 harg9 arg10 harg10 arg11 harg11 arg12 harg12 arg13 harg13 cc0_scratch7 cc0_scratch8) K := by
  have hn : (i 0).val < 64 := (i 0).isLt
  simp only [cc0__body_eq_skeleton]; unfold cc0__body_skel
  simp only [k0_part69_eq_skeleton, k0_part68_eq_skeleton, k0_part1_eq_skeleton, k0_part2_eq_skeleton, k0_part3_eq_skeleton, k0_part4_eq_skeleton, k0_part5_eq_skeleton]
  unfold owns Ring.free Ring.inflight oFree oFlight oHome oTileP oPieceP eRestP oRestP
  iintro ⟨⟨%f0, %hf0, H0⟩, ⟨%f1, %hf1, H1⟩, ⟨%f2, %hf2, H2⟩, ⟨%f3, %hf3, H3⟩, ⟨%ds2, %fs2, -, HS2⟩, ⟨%ds3, %fs3, -, HS3⟩, ⟨%ds4, %fs4, -, HS4⟩, ⟨%ds5, %fs5, -, HS5⟩, ⟨%ds6, %fs6, -, HS6⟩, ⟨%fe0, HE0, HEr0⟩, ⟨%fp1, HP1⟩, ⟨HOc2, ⟨%fo2, HO2⟩⟩, ⟨%ff0, %fg0, HOf0⟩, ⟨%ge0, HR0⟩, ⟨%go, HRo⟩, HW, Hk⟩
  obtain rfl := harg1.eq_unread hf0; obtain rfl := harg2.eq_unread hf1; obtain rfl := harg3.eq_unread hf2; obtain rfl := harg4.eq_unread hf3
  sl_exec (disch := first | sl_exact hc1 | sl_exact hc2 | sl_exact hc3 | sl_exact hc4 | sl_exact hc7)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [HS2]
  · iexists _, _; isplitr; swap; · iexact HS2
    ipureintro; rfl
  isplitl [HS3]
  · iexists _, _; isplitr; swap; · iexact HS3
    ipureintro; rfl
  isplitl [HS4]
  · iexists _, _; isplitr; swap; · iexact HS4
    ipureintro; rfl
  isplitl [HS5]
  · iexists _, _; isplitr; swap; · iexact HS5
    ipureintro; rfl
  isplitl [HS6]
  · iexists _, _; isplitr; swap; · iexact HS6
    ipureintro; rfl
  isplitl [HE0 HE0_dst HE0_src HEr0]
  · isplitl [HE0]; · iexact HE0
    iexists _; isplitl [HE0_dst]; · iexact HE0_dst
    iapply (e_src_split c W (Ring.sl 3 (i 0).val) (Ring.bk 64 (i 0).val)).2; isplitl [HE0_src]; · iexact HE0_src
    iexact HEr0
  isplitl [HOf0_dst]; · iexists _; iexact HOf0_dst
  isplitl [HOc2]; · iexists _, _; iexact HOc2
  isplitl [HOf0 HOf0_src]
  · isplitl [HOf0]; · iexact HOf0
    iexists _; iexact HOf0_src
  isplitl [HR0]; · iexists _; iexact HR0
  isplitl [HRo]; · iexists _; iexact HRo
  iexists _; iexact HW

end Cert.Proof.Kernel

end
-- ==== Proof.K.RunE.lean ====
module

public import proofs.«01_k».proof.Proof.K.Rings2
public import proofs.«01_k».proof.Proof.Gen.Kernel.Loops
public import proofs.«01_k».proof.Proof.Gen.Kernel.Launch
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Ring.WriteBehind
public import Idealize.ShloMosaic.Lib.Tactic
public import Idealize.ShloMosaic.Lib.WordCmp

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

set_option maxHeartbeats 2000000 in
/-- The body in case E. -/
theorem run_E (c : Dev nD) (i : grid0.Coords) (arg1 : Memref sig .tc .vmem S2x351x256 .fp8e5m2) (harg1 : arg1.IsWhole) (arg2 : Memref sig .tc .vmem S26x2x256 .f32) (harg2 : arg2.IsWhole) (arg3 : Memref sig .tc .vmem S27x2x256 .f32) (harg3 : arg3.IsWhole) (arg4 : Memref sig .tc .vmem S2x256x128 .bf16) (harg4 : arg4.IsWhole) (arg9 : Memref sig .tc .vmem S2x352x128 .f32) (harg9 : arg9.IsWhole) (arg10 : Memref sig .tc .vmem S2x2x32x128 .f32) (harg10 : arg10.IsWhole) (arg11 : Memref sig .tc .vmem S2x1008x128 .f32) (harg11 : arg11.IsWhole) (arg12 : Memref sig .tc .vmem S2x2560x128 .i32) (harg12 : arg12.IsWhole) (arg13 : Memref sig .tc .vmem S2x1152x128 .f32) (harg13 : arg13.IsWhole) (hc1 : ¬k0_cond1 i = 1#1) (hc2 : k0_cond2 i = 1#1) (hc3 : ¬k0_cond3 i = 1#1) (hc4 : k0_cond4 i = 1#1) (hc7 : k0_cond7 i = 1#1)
    (x0 : Vec F S2x351x256 .fp8e5m2) (x1 : Vec F S26x2x256 .f32) (x2 : Vec F S27x2x256 .f32) (x3 : Vec F S2x256x128 .bf16) (W : HbBuf0 (F := F) c hbM0_0)
    (Wt : Waits sig Unit) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ Ring.inflight (eFlight c W) (Ring.sl 3 (i 0).val) (Ring.bk 64 (i 0).val) ∗ oHome c (Ring.bk 64 ((i 0).val - 1)) ∗ oFree c (Ring.sl 3 ((i 0).val + 2)) ∗ oFlight c (Ring.sl 3 (i 0).val) (Ring.bk 64 ((i 0).val - 3)) ∗ oFlight c (Ring.sl 3 ((i 0).val + 1)) (Ring.bk 64 ((i 0).val - 2)) ∗ oHome c (Ring.bk 64 (i 0).val) ∗ (∃ g, eRestP scM0_0 c (Ring.sl 3 (i 0).val) g) ∗ (∃ g, oRestP scM0_1 c (Ring.sl 3 (i 0).val) g) ∗ owes (c : Thread nD τ) 0 Wt
        ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ Ring.free (eCellP c) (eSlotW c W) (Ring.sl 3 (i 0).val) ∗ oHome c (Ring.bk 64 ((i 0).val - 3)) ∗ oHome c (Ring.bk 64 ((i 0).val - 2)) ∗ oHome c (Ring.bk 64 ((i 0).val - 1)) ∗ oHome c (Ring.bk 64 (i 0).val) ∗ oFree c (Ring.sl 3 (i 0).val) ∗ oFree c (Ring.sl 3 ((i 0).val + 1)) ∗ oFree c (Ring.sl 3 ((i 0).val + 2)) ∗ (∃ g, eRestP scM0_0 c (Ring.sl 3 (i 0).val) g) ∗ (∃ g, oRestP scM0_1 c (Ring.sl 3 (i 0).val) g) ∗ (∃ W', owes (c : Thread nD τ) 0 W')) -∗ K ⟨⟩))
      ⊢ wp frame (wpE (defs₀ (F := F)) Variants.none c none) Set.univ (cc0__body i arg1 harg1 arg2 harg2 arg3 harg3 arg4 harg4 (Memref.whole main_v3) (Memref.isWhole_whole _) (Memref.whole main_v4) (Memref.isWhole_whole _) scM0_0 (Memref.isWhole_whole _) scM0_1 (Memref.isWhole_whole _) arg9 harg9 arg10 harg10 arg11 harg11 arg12 harg12 arg13 harg13 cc0_scratch7 cc0_scratch8) K := by
  have hn : (i 0).val < 64 := (i 0).isLt
  simp only [cc0__body_eq_skeleton]; unfold cc0__body_skel
  simp only [k0_part69_eq_skeleton, k0_part68_eq_skeleton, k0_part1_eq_skeleton, k0_part2_eq_skeleton, k0_part3_eq_skeleton, k0_part4_eq_skeleton, k0_part5_eq_skeleton]
  unfold owns Ring.free Ring.inflight oFree oFlight oHome oTileP oPieceP eRestP oRestP
  iintro ⟨⟨%f0, %hf0, H0⟩, ⟨%f1, %hf1, H1⟩, ⟨%f2, %hf2, H2⟩, ⟨%f3, %hf3, H3⟩, ⟨%ds2, %fs2, -, HS2⟩, ⟨%ds3, %fs3, -, HS3⟩, ⟨%ds4, %fs4, -, HS4⟩, ⟨%ds5, %fs5, -, HS5⟩, ⟨%ds6, %fs6, -, HS6⟩, ⟨%fe0, HE0, HEr0⟩, ⟨%fp1, HP1⟩, ⟨HOc2, ⟨%fo2, HO2⟩⟩, ⟨%ff0, %fg0, HOf0⟩, ⟨%ff1, %fg1, HOf1⟩, ⟨%fp0, HP0⟩, ⟨%ge0, HR0⟩, ⟨%go, HRo⟩, HW, Hk⟩
  obtain rfl := harg1.eq_unread hf0; obtain rfl := harg2.eq_unread hf1; obtain rfl := harg3.eq_unread hf2; obtain rfl := harg4.eq_unread hf3
  sl_exec (disch := first | sl_exact hc1 | sl_exact hc2 | sl_exact hc3 | sl_exact hc4 | sl_exact hc7)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [HS2]
  · iexists _, _; isplitr; swap; · iexact HS2
    ipureintro; rfl
  isplitl [HS3]
  · iexists _, _; isplitr; swap; · iexact HS3
    ipureintro; rfl
  isplitl [HS4]
  · iexists _, _; isplitr; swap; · iexact HS4
    ipureintro; rfl
  isplitl [HS5]
  · iexists _, _; isplitr; swap; · iexact HS5
    ipureintro; rfl
  isplitl [HS6]
  · iexists _, _; isplitr; swap; · iexact HS6
    ipureintro; rfl
  isplitl [HE0 HE0_dst HE0_src HEr0]
  · isplitl [HE0]; · iexact HE0
    iexists _; isplitl [HE0_dst]; · iexact HE0_dst
    iapply (e_src_split c W (Ring.sl 3 (i 0).val) (Ring.bk 64 (i 0).val)).2; isplitl [HE0_src]; · iexact HE0_src
    iexact HEr0
  isplitl [HOf0_dst]; · iexists _; iexact HOf0_dst
  isplitl [HOf1_dst]; · iexists _; iexact HOf1_dst
  isplitl [HP1]; · iexists _; iexact HP1
  isplitl [HP0]; · iexists _; iexact HP0
  isplitl [HOf0 HOf0_src]
  · isplitl [HOf0]; · iexact HOf0
    iexists _; iexact HOf0_src
  isplitl [HOf1 HOf1_src]
  · isplitl [HOf1]; · iexact HOf1
    iexists _; iexact HOf1_src
  isplitl [HOc2 HO2]
  · isplitl [HOc2]; · iexact HOc2
    iexists _; iexact HO2
  isplitl [HR0]; · iexists _; iexact HR0
  isplitl [HRo]; · iexists _; iexact HRo
  iexists _; iexact HW

end Cert.Proof.Kernel

end
-- ==== Proof.K.Frame.lean ====
module

public import proofs.«01_k».proof.Proof.K.InOut
public import proofs.«01_k».proof.Proof.K.RunA
public import proofs.«01_k».proof.Proof.K.RunB
public import proofs.«01_k».proof.Proof.K.RunC
public import proofs.«01_k».proof.Proof.K.RunD
public import proofs.«01_k».proof.Proof.K.RunE
public import proofs.«01_k».proof.Proof.Gen.Kernel.Loops
public import proofs.«01_k».proof.Proof.Gen.Kernel.Launch
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Ring.WriteBehind
public import Idealize.ShloMosaic.Lib.Tactic
public import Idealize.ShloMosaic.Lib.WordCmp
public import Idealize.ShloMosaic.Lib.Claim

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

variable (m : (ℓ : Loc nD τ sig) → Buf (Elt F) ℓ) (ρ : Dev nD → PrngReg)
/-! ## The pipeline's proof data -/

/-- What lies beside the boxes of the two staging buffers, slot by slot from slot `k` on. -/
def eBeside (c : Dev nD) (k : ℕ) : sProp 𝕄 := iprop(eRestX (F := F) c (Ring.sl 3 k) ∗ eRestX c (Ring.sl 3 (k + 1)) ∗ eRestX c (Ring.sl 3 (k + 2)))
def oBeside (c : Dev nD) (k : ℕ) : sProp 𝕄 := iprop(oRestX (F := F) c (Ring.sl 3 k) ∗ oRestX c (Ring.sl 3 (k + 1)) ∗ oRestX c (Ring.sl 3 (k + 2)))

/-- The region invariant before point `k`: the scratch the run takes whole at anything, the generator register at some state, the two rings
    before point `k`, and what lies beside them. -/
def PhiR (c : Dev nD) (k : ℕ) : sProp 𝕄 := iprop((∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ r, prngReg c r)
  ∗ eRingAt c (V m c main_v3) k ∗ oRing c k ∗ eBeside c k ∗ oBeside c k ∗ oSpare c)

/-- The proof data of the one pipeline on core `c`: each input window at its block, the invariant `PhiR`, nothing owed, full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
  Φ t := PhiR m c t.val
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiR_castSucc (c : Dev nD) (t : Fin cfg0.N) : (dats m 0 c).Φ t.castSucc = PhiR m c t.val := by
  dsimp only [dats]; simp only [Fin.coe_castSucc]
/-- The invariant at a point's end (the proof data at `t.succ`), restated at `t.val + 1`. -/
theorem PhiR_succ (c : Dev nD) (t : Fin cfg0.N) : (dats m 0 c).Φ t.succ = PhiR m c (t.val + 1) := by
  dsimp only [dats]; simp only [Fin.val_succ]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 4000000 in
/-- The body at any point keeps the invariant: by the case the point is in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [after0_0, after0_1, after0_2, after0_3]
  rw [PhiR_castSucc m c t, PhiR_succ m c t]
  unfold Dat.owesAt Pipeline.owesWithin
  rw [show (dats m 0 c).owed t.castSucc = 0 from rfl, show (dats m 0 c).owed t.succ = 0 from rfl]
  unfold PhiR eRingAt oRing eBeside oBeside
  have hN : t.val < 64 := lt_of_lt_of_eq t.isLt (show cfg0.N = 64 from N_0)
  have hv := coord_val t
  rw [show Ring.sl 3 (t.val + 1 + 2) = Ring.sl 3 t.val from sl3_3 _]
  by_cases hA : t.val = 0
  · have hK : t.val = 0 := by omega
    rw [if_pos hK, if_neg (show ¬t.val + 1 = 0 by omega)]
    rw [Ring.At₀_eq3' _ _ _ t.val hK (by decide : 3 ≤ 64), Ring.At3_one' _ _ _ _ t.val hK (by decide : 3 ≤ 64)]
    rw [oX_free c t.val (by omega), oX_succ c t.val (by omega), oY_free c t.val (by omega), oY_free c (t.val + 1) (by omega)]
    rw [show homeO (t.val + 1) = homeO t.val by rw [hK, homeO_0, homeO_1]]
    rw [show eRestX (F := F) c (Ring.sl 3 t.val) = eRestX c 0 by rw [hK]; rfl, show eRestX (F := F) c (Ring.sl 3 (t.val + 1)) = eRestX c 1 by rw [hK]; rfl, show eRestX (F := F) c (Ring.sl 3 (t.val + 1 + 1)) = eRestX c 2 by rw [hK]; rfl]
    have run := (run_A (F := F) c (grid0.coords t) (ms0_0 t) (hs0_0 t) (ms0_1 t) (hs0_1 t) (ms0_2 t) (hs0_2 t) (ms0_3 t) (hs0_3 t) scM0_2 (Memref.isWhole_whole _) scM0_3 (Memref.isWhole_whole _) scM0_4 (Memref.isWhole_whole _) scM0_5 (Memref.isWhole_whole _) scM0_6 (Memref.isWhole_whole _) ((hcond_1 _).mpr (by omega)) (fun h => absurd ((hcond_2 _).mp h) (by omega)) ((hcond_3 _).mpr (by omega)) (fun h => absurd ((hcond_4 _).mp h) (by omega)) (fun h => absurd ((hcond_7 _).mp h) (by omega)) (iblk m c 0 t) (iblk m c 1 t) (iblk m c 2 t) (iblk m c 3 t) (V m c main_v3))
    simp only [hv] at run
    iintro ⟨⟨HS2, HS3, HS4, HS5, HS6, Hg, ⟨-, HE0, HE1, HE2⟩, ⟨HF2, HX, HY, HH⟩, ⟨HR0, HR1, HR2⟩, ⟨HQ0, HQ1, HQ2⟩, HSp⟩, ⟨%W, -, HW⟩, ⟨%d0, H0⟩, ⟨%d1, H1⟩, ⟨%d2, H2⟩, ⟨%d3, H3⟩⟩
    iapply (run W _)
    isplitl [H0]; · iexact H0
    isplitl [H1]; · iexact H1
    isplitl [H2]; · iexact H2
    isplitl [H3]; · iexact H3
    isplitl [HS2]; · iexact HS2
    isplitl [HS3]; · iexact HS3
    isplitl [HS4]; · iexact HS4
    isplitl [HS5]; · iexact HS5
    isplitl [HS6]; · iexact HS6
    isplitl [HE0]; · iexact HE0
    isplitl [HE1]; · iexact HE1
    isplitl [HE2]; · iexact HE2
    isplitl [HX]; · iexact HX
    isplitl [HR0]; · iexact HR0
    isplitl [HR1]; · iexact HR1
    isplitl [HR2]; · iexact HR2
    isplitl [HQ0]; · iexact HQ0
    isplitl [HW]; · iexact HW
    iintro ⟨H0, H1, H2, H3, HS2, HS3, HS4, HS5, HS6, HE1, HE2, HE0, HX, HR0, HR1, HR2, HQ0, ⟨%W', HW'⟩⟩
    isplitl [HS2 HS3 HS4 HS5 HS6 Hg HE1 HE2 HE0 HX HY HF2 HH HR0 HR1 HR2 HQ0 HQ1 HQ2 HSp]
    · isplitl [HS2]; · iexact HS2
      isplitl [HS3]; · iexact HS3
      isplitl [HS4]; · iexact HS4
      isplitl [HS5]; · iexact HS5
      isplitl [HS6]; · iexact HS6
      isplitl [Hg]; · iexact Hg
      isplitl [HE1 HE2 HE0]
      · iapply (Ring.with_homes (Idealize.SL.BI.Entails.refl _))
        isplitl [HE1]; · iexact HE1
        isplitl [HE2]; · iexact HE2
        iexact HE0
      isplitl [HX HY HF2 HH]
      · isplitl [HX]; · iexact HX
        isplitl [HY]; · iexact HY
        isplitl [HF2]; · iexact HF2
        iexact HH
      isplitl [HR0 HR1 HR2]
      · isplitl [HR1]; · iexact HR1
        isplitl [HR2]; · iexact HR2
        iexact HR0
      isplitl [HQ0 HQ1 HQ2]
      · isplitl [HQ1]; · iexact HQ1
        isplitl [HQ2]; · iexact HQ2
        iexact HQ0
      iexact HSp
    isplitl [HW']
    · iexists W'; isplitr; · ipureintro; exact fun _ _ => Or.inl trivial
      iexact HW'
    isplitl [H0]; · iexact H0
    isplitl [H1]; · iexact H1
    isplitl [H2]; · iexact H2
    iexact H3
  by_cases hB : t.val < 3
  · rw [if_neg (show ¬t.val = 0 by omega), if_neg (show ¬t.val + 1 = 0 by omega)]
    rw [Ring.At3_here _ _ _ _ t.val (by omega), Ring.At3_next _ _ _ _ t.val (by omega), Ring.slotAt3_next0 _ _ _ t.val (by omega), Ring.slotAt3_next1 _ _ _ t.val (by omega)]
    rw [oX_free c t.val (by omega), oX_succ c t.val (by omega), oY_succ c t.val (by omega) (by omega)]
    rw [homes_out _ t.val hN (by omega), homes_small _ t.val hN (by omega) (by omega)]
    have run := (run_B (F := F) c (grid0.coords t) (ms0_0 t) (hs0_0 t) (ms0_1 t) (hs0_1 t) (ms0_2 t) (hs0_2 t) (ms0_3 t) (hs0_3 t) scM0_2 (Memref.isWhole_whole _) scM0_3 (Memref.isWhole_whole _) scM0_4 (Memref.isWhole_whole _) scM0_5 (Memref.isWhole_whole _) scM0_6 (Memref.isWhole_whole _) (fun h => absurd ((hcond_1 _).mp h) (by omega)) ((hcond_2 _).mpr (by omega)) ((hcond_3 _).mpr (by omega)) (fun h => absurd ((hcond_4 _).mp h) (by omega)) (fun h => absurd ((hcond_7 _).mp h) (by omega)) (iblk m c 0 t) (iblk m c 1 t) (iblk m c 2 t) (iblk m c 3 t) (V m c main_v3))
    simp only [hv] at run
    iintro ⟨⟨HS2, HS3, HS4, HS5, HS6, Hg, ⟨-, HE0, HE1, HE2⟩, ⟨HF2, HX, HY, ⟨HP1, HH⟩⟩, ⟨HR0, HR1, HR2⟩, ⟨HQ0, HQ1, HQ2⟩, HSp⟩, ⟨%W, -, HW⟩, ⟨%d0, H0⟩, ⟨%d1, H1⟩, ⟨%d2, H2⟩, ⟨%d3, H3⟩⟩
    iapply (run W _)
    isplitl [H0]; · iexact H0
    isplitl [H1]; · iexact H1
    isplitl [H2]; · iexact H2
    isplitl [H3]; · iexact H3
    isplitl [HS2]; · iexact HS2
    isplitl [HS3]; · iexact HS3
    isplitl [HS4]; · iexact HS4
    isplitl [HS5]; · iexact HS5
    isplitl [HS6]; · iexact HS6
    isplitl [HE0]; · iexact HE0
    isplitl [HE2]; · iexact HE2
    isplitl [HP1]; · iexact HP1
    isplitl [HF2]; · iexact HF2
    isplitl [HX]; · iexact HX
    isplitl [HR0]; · iexact HR0
    isplitl [HQ0]; · iexact HQ0
    isplitl [HW]; · iexact HW
    iintro ⟨H0, H1, H2, H3, HS2, HS3, HS4, HS5, HS6, HE2, HE0, HF2, HX, HR0, HQ0, ⟨%W', HW'⟩⟩
    isplitl [HS2 HS3 HS4 HS5 HS6 Hg HE1 HE2 HE0 HX HY HF2 HH HR0 HR1 HR2 HQ0 HQ1 HQ2 HSp]
    · isplitl [HS2]; · iexact HS2
      isplitl [HS3]; · iexact HS3
      isplitl [HS4]; · iexact HS4
      isplitl [HS5]; · iexact HS5
      isplitl [HS6]; · iexact HS6
      isplitl [Hg]; · iexact Hg
      isplitl [HE1 HE2 HE0]
      · iapply (Ring.with_homes (Idealize.SL.BI.Entails.refl _))
        isplitl [HE1]; · iexact HE1
        isplitl [HE2]; · iexact HE2
        iexact HE0
      isplitl [HX HY HF2 HH]
      · isplitl [HX]; · iexact HX
        isplitl [HY]; · iexact HY
        isplitl [HF2]; · iexact HF2
        iexact HH
      isplitl [HR0 HR1 HR2]
      · isplitl [HR1]; · iexact HR1
        isplitl [HR2]; · iexact HR2
        iexact HR0
      isplitl [HQ0 HQ1 HQ2]
      · isplitl [HQ1]; · iexact HQ1
        isplitl [HQ2]; · iexact HQ2
        iexact HQ0
      iexact HSp
    isplitl [HW']
    · iexists W'; isplitr; · ipureintro; exact fun _ _ => Or.inl trivial
      iexact HW'
    isplitl [H0]; · iexact H0
    isplitl [H1]; · iexact H1
    isplitl [H2]; · iexact H2
    iexact H3
  by_cases hC : t.val < 62
  · rw [if_neg (show ¬t.val = 0 by omega), if_neg (show ¬t.val + 1 = 0 by omega)]
    rw [Ring.At3_here _ _ _ _ t.val (by omega), Ring.At3_next _ _ _ _ t.val (by omega), Ring.slotAt3_next0 _ _ _ t.val (by omega), Ring.slotAt3_next1 _ _ _ t.val (by omega)]
    rw [oX_flight c t.val (by omega), oX_succ c t.val (by omega), oY_succ c t.val (by omega) (by omega)]
    rw [homes_out _ t.val hN (by omega), homes_big _ t.val (by omega) (by omega)]
    have run := (run_C (F := F) c (grid0.coords t) (ms0_0 t) (hs0_0 t) (ms0_1 t) (hs0_1 t) (ms0_2 t) (hs0_2 t) (ms0_3 t) (hs0_3 t) scM0_2 (Memref.isWhole_whole _) scM0_3 (Memref.isWhole_whole _) scM0_4 (Memref.isWhole_whole _) scM0_5 (Memref.isWhole_whole _) scM0_6 (Memref.isWhole_whole _) (fun h => absurd ((hcond_1 _).mp h) (by omega)) ((hcond_2 _).mpr (by omega)) ((hcond_3 _).mpr (by omega)) ((hcond_4 _).mpr (by omega)) (fun h => absurd ((hcond_7 _).mp h) (by omega)) (iblk m c 0 t) (iblk m c 1 t) (iblk m c 2 t) (iblk m c 3 t) (V m c main_v3))
    simp only [hv] at run
    iintro ⟨⟨HS2, HS3, HS4, HS5, HS6, Hg, ⟨-, HE0, HE1, HE2⟩, ⟨HF2, HX, HY, ⟨HP1, HH⟩⟩, ⟨HR0, HR1, HR2⟩, ⟨HQ0, HQ1, HQ2⟩, HSp⟩, ⟨%W, -, HW⟩, ⟨%d0, H0⟩, ⟨%d1, H1⟩, ⟨%d2, H2⟩, ⟨%d3, H3⟩⟩
    iapply (run W _)
    isplitl [H0]; · iexact H0
    isplitl [H1]; · iexact H1
    isplitl [H2]; · iexact H2
    isplitl [H3]; · iexact H3
    isplitl [HS2]; · iexact HS2
    isplitl [HS3]; · iexact HS3
    isplitl [HS4]; · iexact HS4
    isplitl [HS5]; · iexact HS5
    isplitl [HS6]; · iexact HS6
    isplitl [HE0]; · iexact HE0
    isplitl [HE2]; · iexact HE2
    isplitl [HP1]; · iexact HP1
    isplitl [HF2]; · iexact HF2
    isplitl [HX]; · iexact HX
    isplitl [HR0]; · iexact HR0
    isplitl [HQ0]; · iexact HQ0
    isplitl [HW]; · iexact HW
    iintro ⟨H0, H1, H2, H3, HS2, HS3, HS4, HS5, HS6, HE2, HE0, HP3, HF2, HX, HR0, HQ0, ⟨%W', HW'⟩⟩
    isplitl [HS2 HS3 HS4 HS5 HS6 Hg HE1 HE2 HE0 HX HY HF2 HP3 HH HR0 HR1 HR2 HQ0 HQ1 HQ2 HSp]
    · isplitl [HS2]; · iexact HS2
      isplitl [HS3]; · iexact HS3
      isplitl [HS4]; · iexact HS4
      isplitl [HS5]; · iexact HS5
      isplitl [HS6]; · iexact HS6
      isplitl [Hg]; · iexact Hg
      isplitl [HE1 HE2 HE0]
      · iapply (Ring.with_homes (Idealize.SL.BI.Entails.refl _))
        isplitl [HE1]; · iexact HE1
        isplitl [HE2]; · iexact HE2
        iexact HE0
      isplitl [HX HY HF2 HP3 HH]
      · isplitl [HX]; · iexact HX
        isplitl [HY]; · iexact HY
        isplitl [HF2]; · iexact HF2
        isplitl [HP3]; · iexact HP3
        iexact HH
      isplitl [HR0 HR1 HR2]
      · isplitl [HR1]; · iexact HR1
        isplitl [HR2]; · iexact HR2
        iexact HR0
      isplitl [HQ0 HQ1 HQ2]
      · isplitl [HQ1]; · iexact HQ1
        isplitl [HQ2]; · iexact HQ2
        iexact HQ0
      iexact HSp
    isplitl [HW']
    · iexists W'; isplitr; · ipureintro; exact fun _ _ => Or.inl trivial
      iexact HW'
    isplitl [H0]; · iexact H0
    isplitl [H1]; · iexact H1
    isplitl [H2]; · iexact H2
    iexact H3
  by_cases hD : t.val < 63
  · rw [if_neg (show ¬t.val = 0 by omega), if_neg (show ¬t.val + 1 = 0 by omega)]
    rw [Ring.At3_here_tail _ _ _ _ t.val hN, Ring.At3_next_tail _ _ _ _ t.val (by omega) hN, Ring.slotAt3_tail_role _ _ _ t.val]
    rw [oX_flight c t.val (by omega), oX_succ c t.val (by omega), oY_succ c t.val (by omega) (by omega)]
    rw [homes_out _ t.val hN (by omega), homes_big _ t.val (by omega) (by omega)]
    have run := (run_D (F := F) c (grid0.coords t) (ms0_0 t) (hs0_0 t) (ms0_1 t) (hs0_1 t) (ms0_2 t) (hs0_2 t) (ms0_3 t) (hs0_3 t) scM0_2 (Memref.isWhole_whole _) scM0_3 (Memref.isWhole_whole _) scM0_4 (Memref.isWhole_whole _) scM0_5 (Memref.isWhole_whole _) scM0_6 (Memref.isWhole_whole _) (fun h => absurd ((hcond_1 _).mp h) (by omega)) ((hcond_2 _).mpr (by omega)) (fun h => absurd ((hcond_3 _).mp h) (by omega)) ((hcond_4 _).mpr (by omega)) (fun h => absurd ((hcond_7 _).mp h) (by omega)) (iblk m c 0 t) (iblk m c 1 t) (iblk m c 2 t) (iblk m c 3 t) (V m c main_v3))
    simp only [hv] at run
    iintro ⟨⟨HS2, HS3, HS4, HS5, HS6, Hg, ⟨-, HE0, HE1, HE2⟩, ⟨HF2, HX, HY, ⟨HP1, HH⟩⟩, ⟨HR0, HR1, HR2⟩, ⟨HQ0, HQ1, HQ2⟩, HSp⟩, ⟨%W, -, HW⟩, ⟨%d0, H0⟩, ⟨%d1, H1⟩, ⟨%d2, H2⟩, ⟨%d3, H3⟩⟩
    iapply (run W _)
    isplitl [H0]; · iexact H0
    isplitl [H1]; · iexact H1
    isplitl [H2]; · iexact H2
    isplitl [H3]; · iexact H3
    isplitl [HS2]; · iexact HS2
    isplitl [HS3]; · iexact HS3
    isplitl [HS4]; · iexact HS4
    isplitl [HS5]; · iexact HS5
    isplitl [HS6]; · iexact HS6
    isplitl [HE0]; · iexact HE0
    isplitl [HP1]; · iexact HP1
    isplitl [HF2]; · iexact HF2
    isplitl [HX]; · iexact HX
    isplitl [HR0]; · iexact HR0
    isplitl [HQ0]; · iexact HQ0
    isplitl [HW]; · iexact HW
    iintro ⟨H0, H1, H2, H3, HS2, HS3, HS4, HS5, HS6, HE0, HP3, HF2, HX, HR0, HQ0, ⟨%W', HW'⟩⟩
    isplitl [HS2 HS3 HS4 HS5 HS6 Hg HE1 HE2 HE0 HX HY HF2 HP3 HH HR0 HR1 HR2 HQ0 HQ1 HQ2 HSp]
    · isplitl [HS2]; · iexact HS2
      isplitl [HS3]; · iexact HS3
      isplitl [HS4]; · iexact HS4
      isplitl [HS5]; · iexact HS5
      isplitl [HS6]; · iexact HS6
      isplitl [Hg]; · iexact Hg
      isplitl [HE1 HE2 HE0]
      · iapply (Ring.with_homes (Idealize.SL.BI.Entails.refl _))
        isplitl [HE1]; · iexact HE1
        isplitl [HE2]; · iexact HE2
        iexact HE0
      isplitl [HX HY HF2 HP3 HH]
      · isplitl [HX]; · iexact HX
        isplitl [HY]; · iexact HY
        isplitl [HF2]; · iexact HF2
        isplitl [HP3]; · iexact HP3
        iexact HH
      isplitl [HR0 HR1 HR2]
      · isplitl [HR1]; · iexact HR1
        isplitl [HR2]; · iexact HR2
        iexact HR0
      isplitl [HQ0 HQ1 HQ2]
      · isplitl [HQ1]; · iexact HQ1
        isplitl [HQ2]; · iexact HQ2
        iexact HQ0
      iexact HSp
    isplitl [HW']
    · iexists W'; isplitr; · ipureintro; exact fun _ _ => Or.inl trivial
      iexact HW'
    isplitl [H0]; · iexact H0
    isplitl [H1]; · iexact H1
    isplitl [H2]; · iexact H2
    iexact H3
  · rw [if_neg (show ¬t.val = 0 by omega), if_neg (show ¬t.val + 1 = 0 by omega)]
    rw [Ring.At3_here_tail _ _ _ _ t.val hN, Ring.At3_next_tail _ _ _ _ t.val (by omega) hN, Ring.slotAt3_tail_role _ _ _ t.val]
    have hK : t.val = 63 := by omega
    rw [oX_flight c t.val (by omega), oY_flight c t.val (by omega), oX_free c (t.val + 1) (by omega), oY_free c (t.val + 1) (by omega)]
    rw [show (bigSep (homeO t.val) (oHome (F := F) c) : sProp 𝕄) = iprop(oHome c (Ring.bk 64 (t.val - 1)) ∗ oHome c (Ring.bk 64 t.val) ∗ bigSep (((homeO 63).erase (Ring.bk 64 62)).erase (Ring.bk 64 63)) (oHome c)) by rw [hK]; exact homes_63 _]
    rw [show (bigSep (homeO (t.val + 1)) (oHome (F := F) c) : sProp 𝕄) = iprop(oHome c (Ring.bk 64 (t.val - 3)) ∗ oHome c (Ring.bk 64 (t.val - 2)) ∗ oHome c (Ring.bk 64 (t.val - 1)) ∗ oHome c (Ring.bk 64 t.val) ∗ bigSep (((homeO 63).erase (Ring.bk 64 62)).erase (Ring.bk 64 63)) (oHome c)) by rw [hK]; exact homes_64 _]
    have run := (run_E (F := F) c (grid0.coords t) (ms0_0 t) (hs0_0 t) (ms0_1 t) (hs0_1 t) (ms0_2 t) (hs0_2 t) (ms0_3 t) (hs0_3 t) scM0_2 (Memref.isWhole_whole _) scM0_3 (Memref.isWhole_whole _) scM0_4 (Memref.isWhole_whole _) scM0_5 (Memref.isWhole_whole _) scM0_6 (Memref.isWhole_whole _) (fun h => absurd ((hcond_1 _).mp h) (by omega)) ((hcond_2 _).mpr (by omega)) (fun h => absurd ((hcond_3 _).mp h) (by omega)) ((hcond_4 _).mpr (by omega)) ((hcond_7 _).mpr (by omega)) (iblk m c 0 t) (iblk m c 1 t) (iblk m c 2 t) (iblk m c 3 t) (V m c main_v3))
    simp only [hv] at run
    iintro ⟨⟨HS2, HS3, HS4, HS5, HS6, Hg, ⟨-, HE0, HE1, HE2⟩, ⟨HF2, HX, HY, ⟨HP1, HP0, HH⟩⟩, ⟨HR0, HR1, HR2⟩, ⟨HQ0, HQ1, HQ2⟩, HSp⟩, ⟨%W, -, HW⟩, ⟨%d0, H0⟩, ⟨%d1, H1⟩, ⟨%d2, H2⟩, ⟨%d3, H3⟩⟩
    iapply (run W _)
    isplitl [H0]; · iexact H0
    isplitl [H1]; · iexact H1
    isplitl [H2]; · iexact H2
    isplitl [H3]; · iexact H3
    isplitl [HS2]; · iexact HS2
    isplitl [HS3]; · iexact HS3
    isplitl [HS4]; · iexact HS4
    isplitl [HS5]; · iexact HS5
    isplitl [HS6]; · iexact HS6
    isplitl [HE0]; · iexact HE0
    isplitl [HP1]; · iexact HP1
    isplitl [HF2]; · iexact HF2
    isplitl [HX]; · iexact HX
    isplitl [HY]; · iexact HY
    isplitl [HP0]; · iexact HP0
    isplitl [HR0]; · iexact HR0
    isplitl [HQ0]; · iexact HQ0
    isplitl [HW]; · iexact HW
    iintro ⟨H0, H1, H2, H3, HS2, HS3, HS4, HS5, HS6, HE0, HP3, HP2, HP1, HP0, HX, HY, HF2, HR0, HQ0, ⟨%W', HW'⟩⟩
    isplitl [HS2 HS3 HS4 HS5 HS6 Hg HE1 HE2 HE0 HX HY HF2 HP3 HP2 HP1 HP0 HH HR0 HR1 HR2 HQ0 HQ1 HQ2 HSp]
    · isplitl [HS2]; · iexact HS2
      isplitl [HS3]; · iexact HS3
      isplitl [HS4]; · iexact HS4
      isplitl [HS5]; · iexact HS5
      isplitl [HS6]; · iexact HS6
      isplitl [Hg]; · iexact Hg
      isplitl [HE1 HE2 HE0]
      · iapply (Ring.with_homes (Idealize.SL.BI.Entails.refl _))
        isplitl [HE1]; · iexact HE1
        isplitl [HE2]; · iexact HE2
        iexact HE0
      isplitl [HX HY HF2 HP3 HP2 HP1 HP0 HH]
      · isplitl [HX]; · iexact HX
        isplitl [HY]; · iexact HY
        isplitl [HF2]; · iexact HF2
        isplitl [HP3]; · iexact HP3
        isplitl [HP2]; · iexact HP2
        isplitl [HP1]; · iexact HP1
        isplitl [HP0]; · iexact HP0
        iexact HH
      isplitl [HR0 HR1 HR2]
      · isplitl [HR1]; · iexact HR1
        isplitl [HR2]; · iexact HR2
        iexact HR0
      isplitl [HQ0 HQ1 HQ2]
      · isplitl [HQ1]; · iexact HQ1
        isplitl [HQ2]; · iexact HQ2
        iexact HQ0
      iexact HSp
    isplitl [HW']
    · iexists W'; isplitr; · ipureintro; exact fun _ _ => Or.inl trivial
      iexact HW'
    isplitl [H0]; · iexact H0
    isplitl [H1]; · iexact H1
    isplitl [H2]; · iexact H2
    iexact H3
/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point; -/
theorem hin (c : Dev nD) : Pipeline.ΦDR osem0 spec0 H0 R0 (V m) c ⊢ (dats m 0 c).Φ 0 := by
  rw [PhiDR0_eq, show (dats m 0 c).Φ 0 = PhiR m c 0 from rfl]
  unfold PhiR eBeside oBeside
  rw [show Ring.sl 3 (0 + 2) = 2 from rfl, show Ring.sl 3 0 = 0 from rfl, show Ring.sl 3 (0 + 1) = 1 from rfl]
  iintro ⟨⟨HE, HO, HS2, HS3, HS4, HS5, HS6⟩, Hg, ⟨Hq0, Hq1, Hq2, Hq3, Hq4, Hq5⟩, Hh0, Ho1⟩
  ihave HE' := (e_in (F := F) c) $$ HE
  icases HE' with ⟨⟨HB0, HR0⟩, ⟨HB1, HR1⟩, HB2, HR2⟩
  ihave HO' := (o_in (F := F) c) $$ HO
  icases HO' with ⟨⟨HT0, HQ0⟩, ⟨HT1, HQ1⟩, HT2, HQ2⟩
  ihave HP := (p_in (F := F) c) $$ Ho1
  icases HP with ⟨HP, HSp⟩
  isplitl [HS2]; · iexact HS2
  isplitl [HS3]; · iexact HS3
  isplitl [HS4]; · iexact HS4
  isplitl [HS5]; · iexact HS5
  isplitl [HS6]; · iexact HS6
  isplitl [Hg]; · iexact Hg
  isplitl [HB0 HB1 HB2 Hq0 Hq1 Hq2 Hh0]
  · iapply (e_ring_in (F := F) m c)
    isplitl [HB0 HB1 HB2]
    · isplitl [HB0]; · iexact HB0
      isplitl [HB1]; · iexact HB1
      iexact HB2
    isplitl [Hq0 Hq1 Hq2]
    · isplitl [Hq0]; · iexact Hq0
      isplitl [Hq1]; · iexact Hq1
      iexact Hq2
    iexact Hh0
  isplitl [HT0 HT1 HT2 Hq3 Hq4 Hq5 HP]
  · iapply (o_ring_in (F := F) c)
    isplitl [HT0 HT1 HT2]
    · isplitl [HT0]; · iexact HT0
      isplitl [HT1]; · iexact HT1
      iexact HT2
    isplitl [Hq3 Hq4 Hq5]
    · isplitl [Hq3]; · iexact Hq3
      isplitl [Hq4]; · iexact Hq4
      iexact Hq5
    iexact HP
  isplitl [HR0 HR1 HR2]
  · isplitl [HR0]; · iexact HR0
    isplitl [HR1]; · iexact HR1
    iexact HR2
  isplitl [HQ0 HQ1 HQ2]
  · isplitl [HQ0]; · iexact HQ0
    isplitl [HQ1]; · iexact HQ1
    iexact HQ2
  iexact HSp
/-- and the invariant after the last point hands it back. -/
theorem hout (c : Dev nD) : (dats m 0 c).Φ (Fin.last cfg0.N) ⊢ Pipeline.ΦDR osem0 spec0 H0 R0 (V m) c := by
  rw [PhiDR0_eq, show (dats m 0 c).Φ (Fin.last cfg0.N) = PhiR m c grid0.N from rfl]
  rw [show grid0.N = 64 by rw [N_0]]
  unfold PhiR eBeside oBeside
  rw [show Ring.sl 3 (64 + 2) = 0 from rfl, show Ring.sl 3 64 = 1 from rfl, show Ring.sl 3 (64 + 1) = 2 from rfl]
  iintro ⟨HS2, HS3, HS4, HS5, HS6, Hg, HER, HOR, ⟨HR1, HR2, HR0⟩, ⟨HQ1, HQ2, HQ0⟩, HSp⟩
  ihave HX0 := (e_ring_out (F := F) m c) $$ HER
  icases HX0 with ⟨⟨HB0, HB1, HB2⟩, ⟨Hq0, Hq1, Hq2⟩, Hh0⟩
  ihave HX1 := (o_ring_out (F := F) c) $$ HOR
  icases HX1 with ⟨⟨HT0, HT1, HT2⟩, ⟨Hq3, Hq4, Hq5⟩, HP⟩
  isplitl [HB0 HB1 HB2 HR0 HR1 HR2 HT0 HT1 HT2 HQ0 HQ1 HQ2 HS2 HS3 HS4 HS5 HS6]
  · isplitl [HB0 HB1 HB2 HR0 HR1 HR2]
    · iapply (e_out (F := F) c)
      isplitl [HB0 HR0]
      · isplitl [HB0]; · iexact HB0
        iexact HR0
      isplitl [HB1 HR1]
      · isplitl [HB1]; · iexact HB1
        iexact HR1
      isplitl [HB2]; · iexact HB2
      iexact HR2
    isplitl [HT0 HT1 HT2 HQ0 HQ1 HQ2]
    · iapply (o_out (F := F) c)
      isplitl [HT0 HQ0]
      · isplitl [HT0]; · iexact HT0
        iexact HQ0
      isplitl [HT1 HQ1]
      · isplitl [HT1]; · iexact HT1
        iexact HQ1
      isplitl [HT2]; · iexact HT2
      iexact HQ2
    isplitl [HS2]; · iexact HS2
    isplitl [HS3]; · iexact HS3
    isplitl [HS4]; · iexact HS4
    isplitl [HS5]; · iexact HS5
    iexact HS6
  isplitl [Hg]
  · iexact Hg
  isplitl [Hq0 Hq1 Hq2 Hq3 Hq4 Hq5]
  · isplitl [Hq0]; · iexact Hq0
    isplitl [Hq1]; · iexact Hq1
    isplitl [Hq2]; · iexact Hq2
    isplitl [Hq3]; · iexact Hq3
    isplitl [Hq4]; · iexact Hq4
    iexact Hq5
  isplitl [Hh0]
  · iexact Hh0
  iapply (p_out (F := F) c)
  isplitl [HP]; · iexact HP
  iexact HSp

/-! ## The run and the frame -/

-- `θ_run_frame_dmaR_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePostR cfgs (dats m) 0 (R0 ∪ T0) (V m)) r ∧ r.2.sem = fun _ => 0) :=
  Pipeline.θ_run_frame_dmaR_around (Q' := _) cfgs (dats m) (0 : Fin 1) launch0 osem0 defs₀ Variants.none ownSemFacts0 H0 R0 T0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hin := hin m) (hout := hout m)

/-- Every weakly fair execution ends, the arrays of the pipeline as the proof data says. -/
theorem run_main : θ_run defs (onTc (τ := τ) (main (F := F))) (s₀ m ρ) (Pipeline.FramePostR cfgs (dats m) 0 (R0 ∪ T0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: every execution ends, the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Proof.Kernel

end
-- ==== Proof.lean ====
module

public import proofs.«01_k».proof.Proof.KV.Host
public import proofs.«01_k».proof.Proof.RV.Value
public import proofs.«01_k».proof.Defs
public import proofs.«01_k».proof.Proof.K.Frame
public import Idealize.ShloMosaic.Lib.Bf16Pair
public import Idealize.ShloMosaic.Lib.Bf16PairInverse

@[expose] public section

noncomputable section

namespace Cert.Proof

open Idealize.ShloMosaic

/-- Every rewrite of the ideal pass is its rule's, at the shapes it was used at. -/
theorem preserves : Cert.preserves_Kernel_KernelIdeal :=
  ⟨IdealRules.bf16_pair.bufferStatement _ _ (by decide), IdealRules.bf16_pair.statement _ _ (by decide), IdealRules.bf16_pair.selectZeroStatement _,
    IdealRules.bf16_pair.packStatement _, IdealRules.bf16_pair.statement _ _ (by decide), IdealRules.bf16_pair.statement _ _ (by decide),
    IdealRules.bf16_pair.statement _ _ (by decide), IdealRules.bf16_pair.packStatement _, IdealRules.bf16_pair.statement _ _ (by decide),
    IdealRules.bf16_pair.statement _ _ (by decide)⟩

/-- At exact values the kernel and the reference leave the same sum of the arguments. -/
theorem algebraic : Cert.algebraic_KernelIdeal_ReferenceIdeal (hKernelIdeal := Cert.KernelIdeal.Gen.facts) (hReferenceIdeal := Cert.ReferenceIdeal.Gen.facts) :=
  fun m g m' g' _ ha => ⟨fun c => KernelIdeal.kOut m c,
    (θ_run _ _ _).mono (fun _ h c => ⟨h.1 c, h.2 c⟩) (θ_run_and (KernelIdeal.run_out m g) (KernelIdeal.unchanged m g)),
    (θ_run _ _ _).mono (fun _ h c => ⟨(h c).1.trans ((ReferenceIdeal.ref_out m' c).trans (by
      obtain ⟨h0, h1, h2, h3, h4⟩ := ha c
      unfold ReferenceIdeal.rOut KernelIdeal.kOut
      rw [h0, h1, h2, h3, h4])), (h c).2⟩) (Cert.ReferenceIdeal.Value.run m' g')⟩

theorem claim : Cert.Claim :=
  ⟨Cert.Kernel.Gen.facts, Cert.KernelIdeal.Gen.facts, Cert.ReferenceIdeal.Gen.facts, fun m ρ _ => Kernel.frame m ρ, fun m ρ _ => KernelIdeal.frame m ρ,
    fun m ρ _ => Cert.ReferenceIdeal.Gen.frame m ρ, preserves, algebraic⟩

end Cert.Proof

end
